-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x7168 : Shape := ⟨3, ![96, 1, 7168]⟩
abbrev S7168x1152 : Shape := ⟨2, ![7168, 1152]⟩
abbrev S1152 : Shape := ⟨1, ![1152]⟩
abbrev S9216 : Shape := ⟨1, ![9216]⟩
abbrev S96x7168 : Shape := ⟨2, ![96, 7168]⟩
abbrev S9x128 : Shape := ⟨2, ![9, 128]⟩
abbrev S9x8x128 : Shape := ⟨3, ![9, 8, 128]⟩
abbrev S96x9216 : Shape := ⟨2, ![96, 9216]⟩
abbrev S4x96x1792 : Shape := ⟨3, ![4, 96, 1792]⟩
abbrev S3x4x1792x384 : Shape := ⟨4, ![3, 4, 1792, 384]⟩
abbrev S96x128 : Shape := ⟨2, ![96, 128]⟩
abbrev S9x96x1024 : Shape := ⟨3, ![9, 96, 1024]⟩
abbrev S4 : Shape := ⟨1, ![4]⟩
abbrev S3x4 : Shape := ⟨2, ![3, 4]⟩
abbrev S2 : Shape := ⟨1, ![2]⟩
abbrev S9 : Shape := ⟨1, ![9]⟩
abbrev S1 : Shape := ⟨1, ![1]⟩
abbrev S_ : Shape := ⟨0, ![]⟩
abbrev S1x96x1792 : Shape := ⟨3, ![1, 96, 1792]⟩
abbrev S96x1792 : Shape := ⟨2, ![96, 1792]⟩
abbrev S1x1 : Shape := ⟨2, ![1, 1]⟩
abbrev S1x1x1792x384 : Shape := ⟨4, ![1, 1, 1792, 384]⟩
abbrev S1792x384 : Shape := ⟨2, ![1792, 384]⟩
abbrev S1x8x128 : Shape := ⟨3, ![1, 8, 128]⟩
abbrev S8x128 : Shape := ⟨2, ![8, 128]⟩
abbrev S8x128x1 : Shape := ⟨3, ![8, 128, 1]⟩
abbrev S1x1x256x128 : Shape := ⟨4, ![1, 1, 256, 128]⟩
abbrev S256x128 : Shape := ⟨2, ![256, 128]⟩
abbrev S128x128 : Shape := ⟨2, ![128, 128]⟩
abbrev S64x128 : Shape := ⟨2, ![64, 128]⟩
abbrev S256x256 : Shape := ⟨2, ![256, 256]⟩
abbrev S96x256 : Shape := ⟨2, ![96, 256]⟩
abbrev S1x96x128 : Shape := ⟨3, ![1, 96, 128]⟩
abbrev S96 : Shape := ⟨1, ![96]⟩
abbrev S96x1 : Shape := ⟨2, ![96, 1]⟩
abbrev S96x1024 : Shape := ⟨2, ![96, 1024]⟩
abbrev S1x96x1024 : Shape := ⟨3, ![1, 96, 1024]⟩
abbrev S1x96x256 : Shape := ⟨3, ![1, 96, 256]⟩
abbrev S1x128 : Shape := ⟨2, ![1, 128]⟩
abbrev S32x128 : Shape := ⟨2, ![32, 128]⟩
abbrev S1x32x128 : Shape := ⟨3, ![1, 32, 128]⟩
abbrev S1x1x128 : Shape := ⟨3, ![1, 1, 128]⟩
abbrev S32x128x1 : Shape := ⟨3, ![32, 128, 1]⟩
abbrev S96x128x1 : Shape := ⟨3, ![96, 128, 1]⟩
abbrev S96x1x9216 : Shape := ⟨3, ![96, 1, 9216]⟩

abbrev nBuf : Space → Nat
  | .hbm => 9
  | .vmem => 7
  | .smem => 0
  | _ => 0

abbrev bufTy : (tb : Table) → Fin (tcTables nBuf tb) → BufTy
  | .hbm, ⟨0, _⟩ => ⟨S96x1x7168, .bf16⟩
  | .hbm, ⟨1, _⟩ => ⟨S7168x1152, .i32⟩
  | .hbm, ⟨2, _⟩ => ⟨S1152, .i32⟩
  | .hbm, ⟨3, _⟩ => ⟨S9216, .f32⟩
  | .hbm, ⟨4, _⟩ => ⟨S96x7168, .bf16⟩
  | .hbm, ⟨5, _⟩ => ⟨S9x128, .i32⟩
  | .hbm, ⟨6, _⟩ => ⟨S9x8x128, .f32⟩
  | .hbm, ⟨7, _⟩ => ⟨S96x9216, .bf16⟩
  | .hbm, ⟨8, _⟩ => ⟨S96x1x9216, .bf16⟩
  | .local _ .vmem, ⟨0, _⟩ => ⟨S4x96x1792, .bf16⟩
  | .local _ .vmem, ⟨1, _⟩ => ⟨S3x4x1792x384, .i32⟩
  | .local _ .vmem, ⟨2, _⟩ => ⟨S9x128, .i32⟩
  | .local _ .vmem, ⟨3, _⟩ => ⟨S9x8x128, .f32⟩
  | .local _ .vmem, ⟨4, _⟩ => ⟨S96x128, .f32⟩
  | .local _ .vmem, ⟨5, _⟩ => ⟨S9x96x1024, .f32⟩
  | .local _ .vmem, ⟨6, _⟩ => ⟨S9x96x1024, .bf16⟩
  | _, _ => ⟨S96x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none

def k0_mult1 : BitVec 32 :=
  let c0_i32_550_r0 : BitVec 32 := 0#32
  c0_i32_550_r0
@[reducible] def k0_t1_loop : Scf.Loop 32 :=
  let c0_i32_563_r0 : BitVec 32 := 0#32
  let c36_i32_r0 : BitVec 32 := 36#32
  let v1096_r0 : BitVec 32 := Scalar.addi c0_i32_563_r0 c36_i32_r0
  let c1_i32_564_r0 : BitVec 32 := 1#32
  ⟨c0_i32_563_r0, v1096_r0, c1_i32_564_r0⟩
def k0_cond1 (k0_t1 : Fin k0_t1_loop.trips) : BitVec 1 :=
  let c0_i32_563_r0 : BitVec 32 := 0#32
  let c1_i32_564_r0 : BitVec 32 := 1#32
  let arg16_r0 : BitVec 32 := Scf.iv c0_i32_563_r0 c1_i32_564_r0 k0_t1
  let c1_i32_849_r0 : BitVec 32 := 1#32
  let v1709_r0 : BitVec 32 := Scalar.addi arg16_r0 c1_i32_849_r0
  let c36_i32_850_r0 : BitVec 32 := 36#32
  let v1710_r0 : BitVec 1 := Scalar.cmpi .slt v1709_r0 c36_i32_850_r0
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c3_i32_821_r0 : BitVec 32 := 3#32
  let c0_i32_822_r0 : BitVec 32 := 0#32
  let v1651_r0 : BitVec 1 := Scalar.cmpi .eq c3_i32_821_r0 c0_i32_822_r0
  let c1_i32_823_r0 : BitVec 32 := 1#32
  let v1652_r0 : BitVec 32 := Scalar.select v1651_r0 c1_i32_823_r0 c3_i32_821_r0
  let v1653_r0 : BitVec 32 := Scalar.remsi v1649_r0 v1652_r0
  let c0_i32_825_r0 : BitVec 32 := 0#32
  let v1655_r0 : BitVec 1 := Scalar.cmpi .slt v1653_r0 c0_i32_825_r0
  let c0_i32_826_r0 : BitVec 32 := 0#32
  let v1656_r0 : BitVec 1 := Scalar.cmpi .slt v1652_r0 c0_i32_826_r0
  let v1657_r0 : BitVec 1 := Scalar.xori v1655_r0 v1656_r0
  let c0_i32_824_r0 : BitVec 32 := 0#32
  let v1654_r0 : BitVec 1 := Scalar.cmpi .ne v1653_r0 c0_i32_824_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let c0_i32_828_r0 : BitVec 32 := 0#32
  let v1662_r0 : BitVec 1 := Scalar.cmpi .sgt v1649_r0 c0_i32_828_r0
  let v1663_r0 : BitVec 32 := Scalar.extui v1662_r0
  let c0_i32_829_r0 : BitVec 32 := 0#32
  let v1664_r0 : BitVec 1 := Scalar.cmpi .slt v1649_r0 c0_i32_829_r0
  let v1665_r0 : BitVec 32 := Scalar.extui v1664_r0
  let v1666_r0 : BitVec 32 := Scalar.subi v1663_r0 v1665_r0
  let c4_i32_827_r0 : BitVec 32 := 4#32
  let c0_i32_830_r0 : BitVec 32 := 0#32
  let v1667_r0 : BitVec 1 := Scalar.cmpi .sgt c4_i32_827_r0 c0_i32_830_r0
  let v1668_r0 : BitVec 32 := Scalar.extui v1667_r0
  let c0_i32_831_r0 : BitVec 32 := 0#32
  let v1669_r0 : BitVec 1 := Scalar.cmpi .slt c4_i32_827_r0 c0_i32_831_r0
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 c4_i32_827_r0
  let c0_i32_832_r0 : BitVec 32 := 0#32
  let v1674_r0 : BitVec 1 := Scalar.cmpi .ne v1673_r0 c0_i32_832_r0
  let v1675_r0 : BitVec 1 := Scalar.andi v1672_r0 v1674_r0
  let v1661_r0 : BitVec 32 := Scalar.divsi v1649_r0 c4_i32_827_r0
  let c1_i32_833_r0 : BitVec 32 := 1#32
  let v1676_r0 : BitVec 32 := Scalar.subi v1661_r0 c1_i32_833_r0
  let v1677_r0 : BitVec 32 := Scalar.select v1675_r0 v1676_r0 v1661_r0
  let v1678_r0 : BitVec 32 := Scalar.select v1650_r0 v1660_r0 v1677_r0
  let c3_i32_851_r0 : BitVec 32 := 3#32
  let c0_i32_852_r0 : BitVec 32 := 0#32
  let v1711_r0 : BitVec 1 := Scalar.cmpi .eq c3_i32_851_r0 c0_i32_852_r0
  let c1_i32_853_r0 : BitVec 32 := 1#32
  let v1712_r0 : BitVec 32 := Scalar.select v1711_r0 c1_i32_853_r0 c3_i32_851_r0
  let v1713_r0 : BitVec 32 := Scalar.remsi v1678_r0 v1712_r0
  let c0_i32_855_r0 : BitVec 32 := 0#32
  let v1715_r0 : BitVec 1 := Scalar.cmpi .slt v1713_r0 c0_i32_855_r0
  let c0_i32_856_r0 : BitVec 32 := 0#32
  let v1716_r0 : BitVec 1 := Scalar.cmpi .slt v1712_r0 c0_i32_856_r0
  let v1717_r0 : BitVec 1 := Scalar.xori v1715_r0 v1716_r0
  let c0_i32_854_r0 : BitVec 32 := 0#32
  let v1714_r0 : BitVec 1 := Scalar.cmpi .ne v1713_r0 c0_i32_854_r0
  let v1718_r0 : BitVec 1 := Scalar.andi v1717_r0 v1714_r0
  let v1719_r0 : BitVec 32 := Scalar.addi v1713_r0 v1712_r0
  let v1720_r0 : BitVec 32 := Scalar.select v1718_r0 v1719_r0 v1713_r0
  let c0_i32_857_r0 : BitVec 32 := 0#32
  let v1721_r0 : BitVec 1 := Scalar.cmpi .eq v1720_r0 c0_i32_857_r0
  let v1722_r0 : BitVec 1 := Scalar.andi v1710_r0 v1721_r0
  let v1723_r0 : BitVec 32 := Scalar.extui v1722_r0
  let c0_i32_858_r0 : BitVec 32 := 0#32
  let v1724_r0 : BitVec 1 := Scalar.cmpi .ne v1723_r0 c0_i32_858_r0
  v1724_r0

def k0_off1 (k0_t1 : Fin k0_t1_loop.trips) : Fin 2 → Nat :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c3_i32_821_r0 : BitVec 32 := 3#32
  let c0_i32_822_r0 : BitVec 32 := 0#32
  let v1651_r0 : BitVec 1 := Scalar.cmpi .eq c3_i32_821_r0 c0_i32_822_r0
  let c1_i32_823_r0 : BitVec 32 := 1#32
  let v1652_r0 : BitVec 32 := Scalar.select v1651_r0 c1_i32_823_r0 c3_i32_821_r0
  let v1653_r0 : BitVec 32 := Scalar.remsi v1649_r0 v1652_r0
  let c0_i32_825_r0 : BitVec 32 := 0#32
  let v1655_r0 : BitVec 1 := Scalar.cmpi .slt v1653_r0 c0_i32_825_r0
  let c0_i32_826_r0 : BitVec 32 := 0#32
  let v1656_r0 : BitVec 1 := Scalar.cmpi .slt v1652_r0 c0_i32_826_r0
  let v1657_r0 : BitVec 1 := Scalar.xori v1655_r0 v1656_r0
  let c0_i32_824_r0 : BitVec 32 := 0#32
  let v1654_r0 : BitVec 1 := Scalar.cmpi .ne v1653_r0 c0_i32_824_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let c0_i32_828_r0 : BitVec 32 := 0#32
  let v1662_r0 : BitVec 1 := Scalar.cmpi .sgt v1649_r0 c0_i32_828_r0
  let v1663_r0 : BitVec 32 := Scalar.extui v1662_r0
  let c0_i32_829_r0 : BitVec 32 := 0#32
  let v1664_r0 : BitVec 1 := Scalar.cmpi .slt v1649_r0 c0_i32_829_r0
  let v1665_r0 : BitVec 32 := Scalar.extui v1664_r0
  let v1666_r0 : BitVec 32 := Scalar.subi v1663_r0 v1665_r0
  let c4_i32_827_r0 : BitVec 32 := 4#32
  let c0_i32_830_r0 : BitVec 32 := 0#32
  let v1667_r0 : BitVec 1 := Scalar.cmpi .sgt c4_i32_827_r0 c0_i32_830_r0
  let v1668_r0 : BitVec 32 := Scalar.extui v1667_r0
  let c0_i32_831_r0 : BitVec 32 := 0#32
  let v1669_r0 : BitVec 1 := Scalar.cmpi .slt c4_i32_827_r0 c0_i32_831_r0
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 c4_i32_827_r0
  let c0_i32_832_r0 : BitVec 32 := 0#32
  let v1674_r0 : BitVec 1 := Scalar.cmpi .ne v1673_r0 c0_i32_832_r0
  let v1675_r0 : BitVec 1 := Scalar.andi v1672_r0 v1674_r0
  let v1661_r0 : BitVec 32 := Scalar.divsi v1649_r0 c4_i32_827_r0
  let c1_i32_833_r0 : BitVec 32 := 1#32
  let v1676_r0 : BitVec 32 := Scalar.subi v1661_r0 c1_i32_833_r0
  let v1677_r0 : BitVec 32 := Scalar.select v1675_r0 v1676_r0 v1661_r0
  let v1678_r0 : BitVec 32 := Scalar.select v1650_r0 v1660_r0 v1677_r0
  let c0_i32_1367_r0 : BitVec 32 := 0#32
  let v3255_r0 : BitVec 1 := Scalar.cmpi .sgt v1678_r0 c0_i32_1367_r0
  let v3256_r0 : BitVec 32 := Scalar.extui v3255_r0
  let c0_i32_1368_r0 : BitVec 32 := 0#32
  let v3257_r0 : BitVec 1 := Scalar.cmpi .slt v1678_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1678_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1678_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  ![v3270_r0.toNat, v1706_r0.toNat]
def k0_off2 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c3_i32_821_r0 : BitVec 32 := 3#32
  let c0_i32_822_r0 : BitVec 32 := 0#32
  let v1651_r0 : BitVec 1 := Scalar.cmpi .eq c3_i32_821_r0 c0_i32_822_r0
  let c1_i32_823_r0 : BitVec 32 := 1#32
  let v1652_r0 : BitVec 32 := Scalar.select v1651_r0 c1_i32_823_r0 c3_i32_821_r0
  let v1653_r0 : BitVec 32 := Scalar.remsi v1649_r0 v1652_r0
  let c0_i32_825_r0 : BitVec 32 := 0#32
  let v1655_r0 : BitVec 1 := Scalar.cmpi .slt v1653_r0 c0_i32_825_r0
  let c0_i32_826_r0 : BitVec 32 := 0#32
  let v1656_r0 : BitVec 1 := Scalar.cmpi .slt v1652_r0 c0_i32_826_r0
  let v1657_r0 : BitVec 1 := Scalar.xori v1655_r0 v1656_r0
  let c0_i32_824_r0 : BitVec 32 := 0#32
  let v1654_r0 : BitVec 1 := Scalar.cmpi .ne v1653_r0 c0_i32_824_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let c0_i32_828_r0 : BitVec 32 := 0#32
  let v1662_r0 : BitVec 1 := Scalar.cmpi .sgt v1649_r0 c0_i32_828_r0
  let v1663_r0 : BitVec 32 := Scalar.extui v1662_r0
  let c0_i32_829_r0 : BitVec 32 := 0#32
  let v1664_r0 : BitVec 1 := Scalar.cmpi .slt v1649_r0 c0_i32_829_r0
  let v1665_r0 : BitVec 32 := Scalar.extui v1664_r0
  let v1666_r0 : BitVec 32 := Scalar.subi v1663_r0 v1665_r0
  let c4_i32_827_r0 : BitVec 32 := 4#32
  let c0_i32_830_r0 : BitVec 32 := 0#32
  let v1667_r0 : BitVec 1 := Scalar.cmpi .sgt c4_i32_827_r0 c0_i32_830_r0
  let v1668_r0 : BitVec 32 := Scalar.extui v1667_r0
  let c0_i32_831_r0 : BitVec 32 := 0#32
  let v1669_r0 : BitVec 1 := Scalar.cmpi .slt c4_i32_827_r0 c0_i32_831_r0
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 c4_i32_827_r0
  let c0_i32_832_r0 : BitVec 32 := 0#32
  let v1674_r0 : BitVec 1 := Scalar.cmpi .ne v1673_r0 c0_i32_832_r0
  let v1675_r0 : BitVec 1 := Scalar.andi v1672_r0 v1674_r0
  let v1661_r0 : BitVec 32 := Scalar.divsi v1649_r0 c4_i32_827_r0
  let c1_i32_833_r0 : BitVec 32 := 1#32
  let v1676_r0 : BitVec 32 := Scalar.subi v1661_r0 c1_i32_833_r0
  let v1677_r0 : BitVec 32 := Scalar.select v1675_r0 v1676_r0 v1661_r0
  let v1678_r0 : BitVec 32 := Scalar.select v1650_r0 v1660_r0 v1677_r0
  let c0_i32_1367_r0 : BitVec 32 := 0#32
  let v3255_r0 : BitVec 1 := Scalar.cmpi .sgt v1678_r0 c0_i32_1367_r0
  let v3256_r0 : BitVec 32 := Scalar.extui v3255_r0
  let c0_i32_1368_r0 : BitVec 32 := 0#32
  let v3257_r0 : BitVec 1 := Scalar.cmpi .slt v1678_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1678_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1678_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  let c0_i32_1376_r0 : BitVec 32 := 0#32
  let c0_i32_1377_r0 : BitVec 32 := 0#32
  ![v3270_r0.toNat, v1706_r0.toNat, 0, 0]
def k0_off3 (k0_t1 : Fin k0_t1_loop.trips) : Fin 2 → Nat :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  let c1792_i32_1373_r0 : BitVec 32 := 1792#32
  let v3271_r0 : BitVec 32 := Scalar.muli v1706_r0 c1792_i32_1373_r0
  let c3_i32_821_r0 : BitVec 32 := 3#32
  let c0_i32_822_r0 : BitVec 32 := 0#32
  let v1651_r0 : BitVec 1 := Scalar.cmpi .eq c3_i32_821_r0 c0_i32_822_r0
  let c1_i32_823_r0 : BitVec 32 := 1#32
  let v1652_r0 : BitVec 32 := Scalar.select v1651_r0 c1_i32_823_r0 c3_i32_821_r0
  let v1653_r0 : BitVec 32 := Scalar.remsi v1649_r0 v1652_r0
  let c0_i32_825_r0 : BitVec 32 := 0#32
  let v1655_r0 : BitVec 1 := Scalar.cmpi .slt v1653_r0 c0_i32_825_r0
  let c0_i32_826_r0 : BitVec 32 := 0#32
  let v1656_r0 : BitVec 1 := Scalar.cmpi .slt v1652_r0 c0_i32_826_r0
  let v1657_r0 : BitVec 1 := Scalar.xori v1655_r0 v1656_r0
  let c0_i32_824_r0 : BitVec 32 := 0#32
  let v1654_r0 : BitVec 1 := Scalar.cmpi .ne v1653_r0 c0_i32_824_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let c0_i32_828_r0 : BitVec 32 := 0#32
  let v1662_r0 : BitVec 1 := Scalar.cmpi .sgt v1649_r0 c0_i32_828_r0
  let v1663_r0 : BitVec 32 := Scalar.extui v1662_r0
  let c0_i32_829_r0 : BitVec 32 := 0#32
  let v1664_r0 : BitVec 1 := Scalar.cmpi .slt v1649_r0 c0_i32_829_r0
  let v1665_r0 : BitVec 32 := Scalar.extui v1664_r0
  let v1666_r0 : BitVec 32 := Scalar.subi v1663_r0 v1665_r0
  let c4_i32_827_r0 : BitVec 32 := 4#32
  let c0_i32_830_r0 : BitVec 32 := 0#32
  let v1667_r0 : BitVec 1 := Scalar.cmpi .sgt c4_i32_827_r0 c0_i32_830_r0
  let v1668_r0 : BitVec 32 := Scalar.extui v1667_r0
  let c0_i32_831_r0 : BitVec 32 := 0#32
  let v1669_r0 : BitVec 1 := Scalar.cmpi .slt c4_i32_827_r0 c0_i32_831_r0
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 c4_i32_827_r0
  let c0_i32_832_r0 : BitVec 32 := 0#32
  let v1674_r0 : BitVec 1 := Scalar.cmpi .ne v1673_r0 c0_i32_832_r0
  let v1675_r0 : BitVec 1 := Scalar.andi v1672_r0 v1674_r0
  let v1661_r0 : BitVec 32 := Scalar.divsi v1649_r0 c4_i32_827_r0
  let c1_i32_833_r0 : BitVec 32 := 1#32
  let v1676_r0 : BitVec 32 := Scalar.subi v1661_r0 c1_i32_833_r0
  let v1677_r0 : BitVec 32 := Scalar.select v1675_r0 v1676_r0 v1661_r0
  let v1678_r0 : BitVec 32 := Scalar.select v1650_r0 v1660_r0 v1677_r0
  let c0_i32_1367_r0 : BitVec 32 := 0#32
  let v3255_r0 : BitVec 1 := Scalar.cmpi .sgt v1678_r0 c0_i32_1367_r0
  let v3256_r0 : BitVec 32 := Scalar.extui v3255_r0
  let c0_i32_1368_r0 : BitVec 32 := 0#32
  let v3257_r0 : BitVec 1 := Scalar.cmpi .slt v1678_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1678_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1678_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c3_i32_1374_r0 : BitVec 32 := 3#32
  let v3272_r0 : BitVec 32 := Scalar.muli v3270_r0 c3_i32_1374_r0
  let c128_i32_1375_r0 : BitVec 32 := 128#32
  let v3273_r0 : BitVec 32 := Scalar.muli v3272_r0 c128_i32_1375_r0
  ![v3271_r0.toNat, v3273_r0.toNat]
def k0_cond2 (k0_t1 : Fin k0_t1_loop.trips) : BitVec 1 :=
  let c0_i32_563_r0 : BitVec 32 := 0#32
  let c1_i32_564_r0 : BitVec 32 := 1#32
  let arg16_r0 : BitVec 32 := Scf.iv c0_i32_563_r0 c1_i32_564_r0 k0_t1
  let c12_i32_859_r0 : BitVec 32 := 12#32
  let v1725_r0 : BitVec 1 := Scalar.cmpi .slt arg16_r0 c12_i32_859_r0
  let c3_i32_860_r0 : BitVec 32 := 3#32
  let c0_i32_861_r0 : BitVec 32 := 0#32
  let v1726_r0 : BitVec 1 := Scalar.cmpi .eq c3_i32_860_r0 c0_i32_861_r0
  let c1_i32_862_r0 : BitVec 32 := 1#32
  let v1727_r0 : BitVec 32 := Scalar.select v1726_r0 c1_i32_862_r0 c3_i32_860_r0
  let v1728_r0 : BitVec 32 := Scalar.remsi arg16_r0 v1727_r0
  let c0_i32_864_r0 : BitVec 32 := 0#32
  let v1730_r0 : BitVec 1 := Scalar.cmpi .slt v1728_r0 c0_i32_864_r0
  let c0_i32_865_r0 : BitVec 32 := 0#32
  let v1731_r0 : BitVec 1 := Scalar.cmpi .slt v1727_r0 c0_i32_865_r0
  let v1732_r0 : BitVec 1 := Scalar.xori v1730_r0 v1731_r0
  let c0_i32_863_r0 : BitVec 32 := 0#32
  let v1729_r0 : BitVec 1 := Scalar.cmpi .ne v1728_r0 c0_i32_863_r0
  let v1733_r0 : BitVec 1 := Scalar.andi v1732_r0 v1729_r0
  let v1734_r0 : BitVec 32 := Scalar.addi v1728_r0 v1727_r0
  let v1735_r0 : BitVec 32 := Scalar.select v1733_r0 v1734_r0 v1728_r0
  let c0_i32_866_r0 : BitVec 32 := 0#32
  let v1736_r0 : BitVec 1 := Scalar.cmpi .eq v1735_r0 c0_i32_866_r0
  let v1737_r0 : BitVec 1 := Scalar.andi v1725_r0 v1736_r0
  let v1738_r0 : BitVec 32 := Scalar.extui v1737_r0
  let c0_i32_867_r0 : BitVec 32 := 0#32
  let v1739_r0 : BitVec 1 := Scalar.cmpi .ne v1738_r0 c0_i32_867_r0
  v1739_r0

def k0_off4 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3255_r0 : Index := Scalar.indexCast v1588_r0
  let c0_1367_r0 : Index := 0#32
  let c0_1368_r0 : Index := 0#32
  ![v3255_r0.toNat, 0, 0]
def k0_off5 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3260_r0 : Index := Scalar.indexCast v1588_r0
  let c0_1369_r0 : Index := 0#32
  let c128_1370_r0 : Index := 128#32
  ![v3260_r0.toNat, 0, 128]
def k0_off6 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3265_r0 : Index := Scalar.indexCast v1588_r0
  let c0_1371_r0 : Index := 0#32
  let c256_1372_r0 : Index := 256#32
  ![v3265_r0.toNat, 0, 256]
def k0_off7 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3270_r0 : Index := Scalar.indexCast v1588_r0
  let c0_1373_r0 : Index := 0#32
  let c384_1374_r0 : Index := 384#32
  ![v3270_r0.toNat, 0, 384]
def k0_off8 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3275_r0 : Index := Scalar.indexCast v1588_r0
  let c0_1375_r0 : Index := 0#32
  let c512_1376_r0 : Index := 512#32
  ![v3275_r0.toNat, 0, 512]
def k0_off9 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3280_r0 : Index := Scalar.indexCast v1588_r0
  let c0_1377_r0 : Index := 0#32
  let c640_1378_r0 : Index := 640#32
  ![v3280_r0.toNat, 0, 640]
def k0_off10 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3285_r0 : Index := Scalar.indexCast v1588_r0
  let c0_1379_r0 : Index := 0#32
  let c768_1380_r0 : Index := 768#32
  ![v3285_r0.toNat, 0, 768]
def k0_off11 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3290_r0 : Index := Scalar.indexCast v1588_r0
  let c0_1381_r0 : Index := 0#32
  let c896_1382_r0 : Index := 896#32
  ![v3290_r0.toNat, 0, 896]
def k0_off12 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3295_r0 : Index := Scalar.indexCast v1588_r0
  let c0_1383_r0 : Index := 0#32
  let c1024_1384_r0 : Index := 1024#32
  ![v3295_r0.toNat, 0, 1024]
def k0_off13 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3300_r0 : Index := Scalar.indexCast v1588_r0
  let c0_1385_r0 : Index := 0#32
  let c1152_r0 : Index := 1152#32
  ![v3300_r0.toNat, 0, 1152]
def k0_off14 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3305_r0 : Index := Scalar.indexCast v1588_r0
  let c0_1386_r0 : Index := 0#32
  let c1280_1387_r0 : Index := 1280#32
  ![v3305_r0.toNat, 0, 1280]
def k0_off15 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3310_r0 : Index := Scalar.indexCast v1588_r0
  let c0_1388_r0 : Index := 0#32
  let c1408_r0 : Index := 1408#32
  ![v3310_r0.toNat, 0, 1408]
def k0_off16 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3315_r0 : Index := Scalar.indexCast v1588_r0
  let c0_1389_r0 : Index := 0#32
  let c1536_1390_r0 : Index := 1536#32
  ![v3315_r0.toNat, 0, 1536]
def k0_off17 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v3320_r0 : Index := Scalar.indexCast v1588_r0
  let c0_1391_r0 : Index := 0#32
  let c1664_r0 : Index := 1664#32
  ![v3320_r0.toNat, 0, 1664]
def k0_cond3 (k0_t1 : Fin k0_t1_loop.trips) : BitVec 1 :=
  let c0_i32_563_r0 : BitVec 32 := 0#32
  let c1_i32_564_r0 : BitVec 32 := 1#32
  let arg16_r0 : BitVec 32 := Scf.iv c0_i32_563_r0 c1_i32_564_r0 k0_t1
  let c1_i32_868_r0 : BitVec 32 := 1#32
  let v1740_r0 : BitVec 32 := Scalar.addi arg16_r0 c1_i32_868_r0
  let c12_i32_869_r0 : BitVec 32 := 12#32
  let v1741_r0 : BitVec 1 := Scalar.cmpi .slt v1740_r0 c12_i32_869_r0
  let c3_i32_870_r0 : BitVec 32 := 3#32
  let c0_i32_871_r0 : BitVec 32 := 0#32
  let v1742_r0 : BitVec 1 := Scalar.cmpi .eq c3_i32_870_r0 c0_i32_871_r0
  let c1_i32_872_r0 : BitVec 32 := 1#32
  let v1743_r0 : BitVec 32 := Scalar.select v1742_r0 c1_i32_872_r0 c3_i32_870_r0
  let v1744_r0 : BitVec 32 := Scalar.remsi arg16_r0 v1743_r0
  let c0_i32_874_r0 : BitVec 32 := 0#32
  let v1746_r0 : BitVec 1 := Scalar.cmpi .slt v1744_r0 c0_i32_874_r0
  let c0_i32_875_r0 : BitVec 32 := 0#32
  let v1747_r0 : BitVec 1 := Scalar.cmpi .slt v1743_r0 c0_i32_875_r0
  let v1748_r0 : BitVec 1 := Scalar.xori v1746_r0 v1747_r0
  let c0_i32_873_r0 : BitVec 32 := 0#32
  let v1745_r0 : BitVec 1 := Scalar.cmpi .ne v1744_r0 c0_i32_873_r0
  let v1749_r0 : BitVec 1 := Scalar.andi v1748_r0 v1745_r0
  let v1750_r0 : BitVec 32 := Scalar.addi v1744_r0 v1743_r0
  let v1751_r0 : BitVec 32 := Scalar.select v1749_r0 v1750_r0 v1744_r0
  let c2_i32_876_r0 : BitVec 32 := 2#32
  let v1752_r0 : BitVec 1 := Scalar.cmpi .eq v1751_r0 c2_i32_876_r0
  let v1753_r0 : BitVec 1 := Scalar.andi v1741_r0 v1752_r0
  let v1754_r0 : BitVec 32 := Scalar.extui v1753_r0
  let c0_i32_877_r0 : BitVec 32 := 0#32
  let v1755_r0 : BitVec 1 := Scalar.cmpi .ne v1754_r0 c0_i32_877_r0
  v1755_r0

def k0_off18 (k0_t1 : Fin k0_t1_loop.trips) : Fin 1 → Nat :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  ![v1706_r0.toNat]
def k0_off19 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  let c0_i32_1367_r0 : BitVec 32 := 0#32
  let c0_i32_1368_r0 : BitVec 32 := 0#32
  ![v1706_r0.toNat, 0, 0]
def k0_off20 (k0_t1 : Fin k0_t1_loop.trips) : Fin 2 → Nat :=
  let c0_i32_1369_r0 : BitVec 32 := 0#32
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  let c1792_i32_1366_r0 : BitVec 32 := 1792#32
  let v3254_r0 : BitVec 32 := Scalar.muli v1706_r0 c1792_i32_1366_r0
  ![0, v3254_r0.toNat]
def k0_cond4 (k0_t1 : Fin k0_t1_loop.trips) : BitVec 1 :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_878_r0 : BitVec 32 := 0#32
  let v1756_r0 : BitVec 1 := Scalar.cmpi .sgt v1708_r0 c0_i32_878_r0
  let c3_i32_879_r0 : BitVec 32 := 3#32
  let c0_i32_880_r0 : BitVec 32 := 0#32
  let v1757_r0 : BitVec 1 := Scalar.cmpi .eq c3_i32_879_r0 c0_i32_880_r0
  let c1_i32_881_r0 : BitVec 32 := 1#32
  let v1758_r0 : BitVec 32 := Scalar.select v1757_r0 c1_i32_881_r0 c3_i32_879_r0
  let v1759_r0 : BitVec 32 := Scalar.remsi v1708_r0 v1758_r0
  let c0_i32_883_r0 : BitVec 32 := 0#32
  let v1761_r0 : BitVec 1 := Scalar.cmpi .slt v1759_r0 c0_i32_883_r0
  let c0_i32_884_r0 : BitVec 32 := 0#32
  let v1762_r0 : BitVec 1 := Scalar.cmpi .slt v1758_r0 c0_i32_884_r0
  let v1763_r0 : BitVec 1 := Scalar.xori v1761_r0 v1762_r0
  let c0_i32_882_r0 : BitVec 32 := 0#32
  let v1760_r0 : BitVec 1 := Scalar.cmpi .ne v1759_r0 c0_i32_882_r0
  let v1764_r0 : BitVec 1 := Scalar.andi v1763_r0 v1760_r0
  let v1765_r0 : BitVec 32 := Scalar.addi v1759_r0 v1758_r0
  let v1766_r0 : BitVec 32 := Scalar.select v1764_r0 v1765_r0 v1759_r0
  let c0_i32_885_r0 : BitVec 32 := 0#32
  let v1767_r0 : BitVec 1 := Scalar.cmpi .eq v1766_r0 c0_i32_885_r0
  let v1768_r0 : BitVec 1 := Scalar.andi v1756_r0 v1767_r0
  let v1769_r0 : BitVec 32 := Scalar.extui v1768_r0
  let c0_i32_886_r0 : BitVec 32 := 0#32
  let v1770_r0 : BitVec 1 := Scalar.cmpi .ne v1769_r0 c0_i32_886_r0
  v1770_r0

def k0_mult2 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1367_r0 : BitVec 32 := 0#32
  let v3255_r0 : BitVec 1 := Scalar.cmpi .sgt v1708_r0 c0_i32_1367_r0
  let v3256_r0 : BitVec 32 := Scalar.extui v3255_r0
  let c0_i32_1368_r0 : BitVec 32 := 0#32
  let v3257_r0 : BitVec 1 := Scalar.cmpi .slt v1708_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1708_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1708_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c1_i32_1373_r0 : BitVec 32 := 1#32
  let v3271_r0 : BitVec 32 := Scalar.subi v3270_r0 c1_i32_1373_r0
  let c1024_i32_1374_r0 : BitVec 32 := 1024#32
  let v3272_r0 : BitVec 32 := Scalar.muli v3271_r0 c1024_i32_1374_r0
  v3272_r0
def k0_off21 (k0_t1 : Fin k0_t1_loop.trips) : Fin 1 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1367_r0 : BitVec 32 := 0#32
  let v3255_r0 : BitVec 1 := Scalar.cmpi .sgt v1708_r0 c0_i32_1367_r0
  let v3256_r0 : BitVec 32 := Scalar.extui v3255_r0
  let c0_i32_1368_r0 : BitVec 32 := 0#32
  let v3257_r0 : BitVec 1 := Scalar.cmpi .slt v1708_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1708_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1708_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c1_i32_1373_r0 : BitVec 32 := 1#32
  let v3271_r0 : BitVec 32 := Scalar.subi v3270_r0 c1_i32_1373_r0
  ![v3271_r0.toNat]
def k0_off22 (k0_t1 : Fin k0_t1_loop.trips) : Fin 2 → Nat :=
  let c0_i32_1375_r0 : BitVec 32 := 0#32
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1367_r0 : BitVec 32 := 0#32
  let v3255_r0 : BitVec 1 := Scalar.cmpi .sgt v1708_r0 c0_i32_1367_r0
  let v3256_r0 : BitVec 32 := Scalar.extui v3255_r0
  let c0_i32_1368_r0 : BitVec 32 := 0#32
  let v3257_r0 : BitVec 1 := Scalar.cmpi .slt v1708_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1708_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1708_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c1_i32_1373_r0 : BitVec 32 := 1#32
  let v3271_r0 : BitVec 32 := Scalar.subi v3270_r0 c1_i32_1373_r0
  let c1024_i32_1374_r0 : BitVec 32 := 1024#32
  let v3272_r0 : BitVec 32 := Scalar.muli v3271_r0 c1024_i32_1374_r0
  let v3273_r0 : BitVec 32 := v3272_r0
  ![0, v3273_r0.toNat]
def k0_off23 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1367_r0 : BitVec 32 := 0#32
  let v3255_r0 : BitVec 1 := Scalar.cmpi .sgt v1708_r0 c0_i32_1367_r0
  let v3256_r0 : BitVec 32 := Scalar.extui v3255_r0
  let c0_i32_1368_r0 : BitVec 32 := 0#32
  let v3257_r0 : BitVec 1 := Scalar.cmpi .slt v1708_r0 c0_i32_1368_r0
  let v3258_r0 : BitVec 32 := Scalar.extui v3257_r0
  let v3259_r0 : BitVec 32 := Scalar.subi v3256_r0 v3258_r0
  let c3_i32_1366_r0 : BitVec 32 := 3#32
  let c0_i32_1369_r0 : BitVec 32 := 0#32
  let v3260_r0 : BitVec 1 := Scalar.cmpi .sgt c3_i32_1366_r0 c0_i32_1369_r0
  let v3261_r0 : BitVec 32 := Scalar.extui v3260_r0
  let c0_i32_1370_r0 : BitVec 32 := 0#32
  let v3262_r0 : BitVec 1 := Scalar.cmpi .slt c3_i32_1366_r0 c0_i32_1370_r0
  let v3263_r0 : BitVec 32 := Scalar.extui v3262_r0
  let v3264_r0 : BitVec 32 := Scalar.subi v3261_r0 v3263_r0
  let v3265_r0 : BitVec 1 := Scalar.cmpi .ne v3259_r0 v3264_r0
  let v3266_r0 : BitVec 32 := Scalar.remsi v1708_r0 c3_i32_1366_r0
  let c0_i32_1371_r0 : BitVec 32 := 0#32
  let v3267_r0 : BitVec 1 := Scalar.cmpi .ne v3266_r0 c0_i32_1371_r0
  let v3268_r0 : BitVec 1 := Scalar.andi v3265_r0 v3267_r0
  let v3254_r0 : BitVec 32 := Scalar.divsi v1708_r0 c3_i32_1366_r0
  let c1_i32_1372_r0 : BitVec 32 := 1#32
  let v3269_r0 : BitVec 32 := Scalar.subi v3254_r0 c1_i32_1372_r0
  let v3270_r0 : BitVec 32 := Scalar.select v3268_r0 v3269_r0 v3254_r0
  let c1_i32_1373_r0 : BitVec 32 := 1#32
  let v3271_r0 : BitVec 32 := Scalar.subi v3270_r0 c1_i32_1373_r0
  let c0_i32_1376_r0 : BitVec 32 := 0#32
  let c0_i32_1377_r0 : BitVec 32 := 0#32
  ![v3271_r0.toNat, 0, 0]
def k0_off24 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1771_r0 : Index := Scalar.indexCast v1588_r0
  let c0_887_r0 : Index := 0#32
  let c0_888_r0 : Index := 0#32
  ![v1771_r0.toNat, 0, 0]
def k0_mult3 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_889_r0 : BitVec 32 := 3#32
  let c0_i32_890_r0 : BitVec 32 := 0#32
  let v1774_r0 : BitVec 1 := Scalar.cmpi .eq c3_i32_889_r0 c0_i32_890_r0
  let c1_i32_891_r0 : BitVec 32 := 1#32
  let v1775_r0 : BitVec 32 := Scalar.select v1774_r0 c1_i32_891_r0 c3_i32_889_r0
  let v1776_r0 : BitVec 32 := Scalar.remsi v1560_r0 v1775_r0
  let c0_i32_893_r0 : BitVec 32 := 0#32
  let v1778_r0 : BitVec 1 := Scalar.cmpi .slt v1776_r0 c0_i32_893_r0
  let c0_i32_894_r0 : BitVec 32 := 0#32
  let v1779_r0 : BitVec 1 := Scalar.cmpi .slt v1775_r0 c0_i32_894_r0
  let v1780_r0 : BitVec 1 := Scalar.xori v1778_r0 v1779_r0
  let c0_i32_892_r0 : BitVec 32 := 0#32
  let v1777_r0 : BitVec 1 := Scalar.cmpi .ne v1776_r0 c0_i32_892_r0
  let v1781_r0 : BitVec 1 := Scalar.andi v1780_r0 v1777_r0
  let v1782_r0 : BitVec 32 := Scalar.addi v1776_r0 v1775_r0
  let v1783_r0 : BitVec 32 := Scalar.select v1781_r0 v1782_r0 v1776_r0
  let c128_i32_895_r0 : BitVec 32 := 128#32
  let v1784_r0 : BitVec 32 := Scalar.muli v1783_r0 c128_i32_895_r0
  v1784_r0
def k0_off25 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_897_r0 : BitVec 32 := 0#32
  let v1787_r0 : BitVec 1 := Scalar.cmpi .sgt v1560_r0 c0_i32_897_r0
  let v1788_r0 : BitVec 32 := Scalar.extui v1787_r0
  let c0_i32_898_r0 : BitVec 32 := 0#32
  let v1789_r0 : BitVec 1 := Scalar.cmpi .slt v1560_r0 c0_i32_898_r0
  let v1790_r0 : BitVec 32 := Scalar.extui v1789_r0
  let v1791_r0 : BitVec 32 := Scalar.subi v1788_r0 v1790_r0
  let c3_i32_896_r0 : BitVec 32 := 3#32
  let c0_i32_899_r0 : BitVec 32 := 0#32
  let v1792_r0 : BitVec 1 := Scalar.cmpi .sgt c3_i32_896_r0 c0_i32_899_r0
  let v1793_r0 : BitVec 32 := Scalar.extui v1792_r0
  let c0_i32_900_r0 : BitVec 32 := 0#32
  let v1794_r0 : BitVec 1 := Scalar.cmpi .slt c3_i32_896_r0 c0_i32_900_r0
  let v1795_r0 : BitVec 32 := Scalar.extui v1794_r0
  let v1796_r0 : BitVec 32 := Scalar.subi v1793_r0 v1795_r0
  let v1797_r0 : BitVec 1 := Scalar.cmpi .ne v1791_r0 v1796_r0
  let v1798_r0 : BitVec 32 := Scalar.remsi v1560_r0 c3_i32_896_r0
  let c0_i32_901_r0 : BitVec 32 := 0#32
  let v1799_r0 : BitVec 1 := Scalar.cmpi .ne v1798_r0 c0_i32_901_r0
  let v1800_r0 : BitVec 1 := Scalar.andi v1797_r0 v1799_r0
  let v1786_r0 : BitVec 32 := Scalar.divsi v1560_r0 c3_i32_896_r0
  let c1_i32_902_r0 : BitVec 32 := 1#32
  let v1801_r0 : BitVec 32 := Scalar.subi v1786_r0 c1_i32_902_r0
  let v1802_r0 : BitVec 32 := Scalar.select v1800_r0 v1801_r0 v1786_r0
  let v1803_r0 : Index := Scalar.indexCast v1802_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1804_r0 : Index := Scalar.indexCast v1588_r0
  let c256_903_r0 : Index := 256#32
  let c3_i32_889_r0 : BitVec 32 := 3#32
  let c0_i32_890_r0 : BitVec 32 := 0#32
  let v1774_r0 : BitVec 1 := Scalar.cmpi .eq c3_i32_889_r0 c0_i32_890_r0
  let c1_i32_891_r0 : BitVec 32 := 1#32
  let v1775_r0 : BitVec 32 := Scalar.select v1774_r0 c1_i32_891_r0 c3_i32_889_r0
  let v1776_r0 : BitVec 32 := Scalar.remsi v1560_r0 v1775_r0
  let c0_i32_893_r0 : BitVec 32 := 0#32
  let v1778_r0 : BitVec 1 := Scalar.cmpi .slt v1776_r0 c0_i32_893_r0
  let c0_i32_894_r0 : BitVec 32 := 0#32
  let v1779_r0 : BitVec 1 := Scalar.cmpi .slt v1775_r0 c0_i32_894_r0
  let v1780_r0 : BitVec 1 := Scalar.xori v1778_r0 v1779_r0
  let c0_i32_892_r0 : BitVec 32 := 0#32
  let v1777_r0 : BitVec 1 := Scalar.cmpi .ne v1776_r0 c0_i32_892_r0
  let v1781_r0 : BitVec 1 := Scalar.andi v1780_r0 v1777_r0
  let v1782_r0 : BitVec 32 := Scalar.addi v1776_r0 v1775_r0
  let v1783_r0 : BitVec 32 := Scalar.select v1781_r0 v1782_r0 v1776_r0
  let c128_i32_895_r0 : BitVec 32 := 128#32
  let v1784_r0 : BitVec 32 := Scalar.muli v1783_r0 c128_i32_895_r0
  let v1785_r0 : BitVec 32 := v1784_r0
  let v1805_r0 : Index := Scalar.indexCast v1785_r0
  ![v1803_r0.toNat, v1804_r0.toNat, 256, v1805_r0.toNat]
def k0_off26 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1845_r0 : Index := Scalar.indexCast v1588_r0
  let c0_911_r0 : Index := 0#32
  let c256_912_r0 : Index := 256#32
  ![v1845_r0.toNat, 0, 256]
def k0_mult4 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_913_r0 : BitVec 32 := 3#32
  let c0_i32_914_r0 : BitVec 32 := 0#32
  let v1848_r0 : BitVec 1 := Scalar.cmpi .eq c3_i32_913_r0 c0_i32_914_r0
  let c1_i32_915_r0 : BitVec 32 := 1#32
  let v1849_r0 : BitVec 32 := Scalar.select v1848_r0 c1_i32_915_r0 c3_i32_913_r0
  let v1850_r0 : BitVec 32 := Scalar.remsi v1560_r0 v1849_r0
  let c0_i32_917_r0 : BitVec 32 := 0#32
  let v1852_r0 : BitVec 1 := Scalar.cmpi .slt v1850_r0 c0_i32_917_r0
  let c0_i32_918_r0 : BitVec 32 := 0#32
  let v1853_r0 : BitVec 1 := Scalar.cmpi .slt v1849_r0 c0_i32_918_r0
  let v1854_r0 : BitVec 1 := Scalar.xori v1852_r0 v1853_r0
  let c0_i32_916_r0 : BitVec 32 := 0#32
  let v1851_r0 : BitVec 1 := Scalar.cmpi .ne v1850_r0 c0_i32_916_r0
  let v1855_r0 : BitVec 1 := Scalar.andi v1854_r0 v1851_r0
  let v1856_r0 : BitVec 32 := Scalar.addi v1850_r0 v1849_r0
  let v1857_r0 : BitVec 32 := Scalar.select v1855_r0 v1856_r0 v1850_r0
  let c128_i32_919_r0 : BitVec 32 := 128#32
  let v1858_r0 : BitVec 32 := Scalar.muli v1857_r0 c128_i32_919_r0
  v1858_r0
def k0_off27 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_921_r0 : BitVec 32 := 0#32
  let v1861_r0 : BitVec 1 := Scalar.cmpi .sgt v1560_r0 c0_i32_921_r0
  let v1862_r0 : BitVec 32 := Scalar.extui v1861_r0
  let c0_i32_922_r0 : BitVec 32 := 0#32
  let v1863_r0 : BitVec 1 := Scalar.cmpi .slt v1560_r0 c0_i32_922_r0
  let v1864_r0 : BitVec 32 := Scalar.extui v1863_r0
  let v1865_r0 : BitVec 32 := Scalar.subi v1862_r0 v1864_r0
  let c3_i32_920_r0 : BitVec 32 := 3#32
  let c0_i32_923_r0 : BitVec 32 := 0#32
  let v1866_r0 : BitVec 1 := Scalar.cmpi .sgt c3_i32_920_r0 c0_i32_923_r0
  let v1867_r0 : BitVec 32 := Scalar.extui v1866_r0
  let c0_i32_924_r0 : BitVec 32 := 0#32
  let v1868_r0 : BitVec 1 := Scalar.cmpi .slt c3_i32_920_r0 c0_i32_924_r0
  let v1869_r0 : BitVec 32 := Scalar.extui v1868_r0
  let v1870_r0 : BitVec 32 := Scalar.subi v1867_r0 v1869_r0
  let v1871_r0 : BitVec 1 := Scalar.cmpi .ne v1865_r0 v1870_r0
  let v1872_r0 : BitVec 32 := Scalar.remsi v1560_r0 c3_i32_920_r0
  let c0_i32_925_r0 : BitVec 32 := 0#32
  let v1873_r0 : BitVec 1 := Scalar.cmpi .ne v1872_r0 c0_i32_925_r0
  let v1874_r0 : BitVec 1 := Scalar.andi v1871_r0 v1873_r0
  let v1860_r0 : BitVec 32 := Scalar.divsi v1560_r0 c3_i32_920_r0
  let c1_i32_926_r0 : BitVec 32 := 1#32
  let v1875_r0 : BitVec 32 := Scalar.subi v1860_r0 c1_i32_926_r0
  let v1876_r0 : BitVec 32 := Scalar.select v1874_r0 v1875_r0 v1860_r0
  let v1877_r0 : Index := Scalar.indexCast v1876_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1878_r0 : Index := Scalar.indexCast v1588_r0
  let c512_927_r0 : Index := 512#32
  let c3_i32_913_r0 : BitVec 32 := 3#32
  let c0_i32_914_r0 : BitVec 32 := 0#32
  let v1848_r0 : BitVec 1 := Scalar.cmpi .eq c3_i32_913_r0 c0_i32_914_r0
  let c1_i32_915_r0 : BitVec 32 := 1#32
  let v1849_r0 : BitVec 32 := Scalar.select v1848_r0 c1_i32_915_r0 c3_i32_913_r0
  let v1850_r0 : BitVec 32 := Scalar.remsi v1560_r0 v1849_r0
  let c0_i32_917_r0 : BitVec 32 := 0#32
  let v1852_r0 : BitVec 1 := Scalar.cmpi .slt v1850_r0 c0_i32_917_r0
  let c0_i32_918_r0 : BitVec 32 := 0#32
  let v1853_r0 : BitVec 1 := Scalar.cmpi .slt v1849_r0 c0_i32_918_r0
  let v1854_r0 : BitVec 1 := Scalar.xori v1852_r0 v1853_r0
  let c0_i32_916_r0 : BitVec 32 := 0#32
  let v1851_r0 : BitVec 1 := Scalar.cmpi .ne v1850_r0 c0_i32_916_r0
  let v1855_r0 : BitVec 1 := Scalar.andi v1854_r0 v1851_r0
  let v1856_r0 : BitVec 32 := Scalar.addi v1850_r0 v1849_r0
  let v1857_r0 : BitVec 32 := Scalar.select v1855_r0 v1856_r0 v1850_r0
  let c128_i32_919_r0 : BitVec 32 := 128#32
  let v1858_r0 : BitVec 32 := Scalar.muli v1857_r0 c128_i32_919_r0
  let v1859_r0 : BitVec 32 := v1858_r0
  let v1879_r0 : Index := Scalar.indexCast v1859_r0
  ![v1877_r0.toNat, v1878_r0.toNat, 512, v1879_r0.toNat]
def k0_off28 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1919_r0 : Index := Scalar.indexCast v1588_r0
  let c0_935_r0 : Index := 0#32
  let c512_936_r0 : Index := 512#32
  ![v1919_r0.toNat, 0, 512]
def k0_mult5 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_937_r0 : BitVec 32 := 3#32
  let c0_i32_938_r0 : BitVec 32 := 0#32
  let v1922_r0 : BitVec 1 := Scalar.cmpi .eq c3_i32_937_r0 c0_i32_938_r0
  let c1_i32_939_r0 : BitVec 32 := 1#32
  let v1923_r0 : BitVec 32 := Scalar.select v1922_r0 c1_i32_939_r0 c3_i32_937_r0
  let v1924_r0 : BitVec 32 := Scalar.remsi v1560_r0 v1923_r0
  let c0_i32_941_r0 : BitVec 32 := 0#32
  let v1926_r0 : BitVec 1 := Scalar.cmpi .slt v1924_r0 c0_i32_941_r0
  let c0_i32_942_r0 : BitVec 32 := 0#32
  let v1927_r0 : BitVec 1 := Scalar.cmpi .slt v1923_r0 c0_i32_942_r0
  let v1928_r0 : BitVec 1 := Scalar.xori v1926_r0 v1927_r0
  let c0_i32_940_r0 : BitVec 32 := 0#32
  let v1925_r0 : BitVec 1 := Scalar.cmpi .ne v1924_r0 c0_i32_940_r0
  let v1929_r0 : BitVec 1 := Scalar.andi v1928_r0 v1925_r0
  let v1930_r0 : BitVec 32 := Scalar.addi v1924_r0 v1923_r0
  let v1931_r0 : BitVec 32 := Scalar.select v1929_r0 v1930_r0 v1924_r0
  let c128_i32_943_r0 : BitVec 32 := 128#32
  let v1932_r0 : BitVec 32 := Scalar.muli v1931_r0 c128_i32_943_r0
  v1932_r0
def k0_off29 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_945_r0 : BitVec 32 := 0#32
  let v1935_r0 : BitVec 1 := Scalar.cmpi .sgt v1560_r0 c0_i32_945_r0
  let v1936_r0 : BitVec 32 := Scalar.extui v1935_r0
  let c0_i32_946_r0 : BitVec 32 := 0#32
  let v1937_r0 : BitVec 1 := Scalar.cmpi .slt v1560_r0 c0_i32_946_r0
  let v1938_r0 : BitVec 32 := Scalar.extui v1937_r0
  let v1939_r0 : BitVec 32 := Scalar.subi v1936_r0 v1938_r0
  let c3_i32_944_r0 : BitVec 32 := 3#32
  let c0_i32_947_r0 : BitVec 32 := 0#32
  let v1940_r0 : BitVec 1 := Scalar.cmpi .sgt c3_i32_944_r0 c0_i32_947_r0
  let v1941_r0 : BitVec 32 := Scalar.extui v1940_r0
  let c0_i32_948_r0 : BitVec 32 := 0#32
  let v1942_r0 : BitVec 1 := Scalar.cmpi .slt c3_i32_944_r0 c0_i32_948_r0
  let v1943_r0 : BitVec 32 := Scalar.extui v1942_r0
  let v1944_r0 : BitVec 32 := Scalar.subi v1941_r0 v1943_r0
  let v1945_r0 : BitVec 1 := Scalar.cmpi .ne v1939_r0 v1944_r0
  let v1946_r0 : BitVec 32 := Scalar.remsi v1560_r0 c3_i32_944_r0
  let c0_i32_949_r0 : BitVec 32 := 0#32
  let v1947_r0 : BitVec 1 := Scalar.cmpi .ne v1946_r0 c0_i32_949_r0
  let v1948_r0 : BitVec 1 := Scalar.andi v1945_r0 v1947_r0
  let v1934_r0 : BitVec 32 := Scalar.divsi v1560_r0 c3_i32_944_r0
  let c1_i32_950_r0 : BitVec 32 := 1#32
  let v1949_r0 : BitVec 32 := Scalar.subi v1934_r0 c1_i32_950_r0
  let v1950_r0 : BitVec 32 := Scalar.select v1948_r0 v1949_r0 v1934_r0
  let v1951_r0 : Index := Scalar.indexCast v1950_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1952_r0 : Index := Scalar.indexCast v1588_r0
  let c768_951_r0 : Index := 768#32
  let c3_i32_937_r0 : BitVec 32 := 3#32
  let c0_i32_938_r0 : BitVec 32 := 0#32
  let v1922_r0 : BitVec 1 := Scalar.cmpi .eq c3_i32_937_r0 c0_i32_938_r0
  let c1_i32_939_r0 : BitVec 32 := 1#32
  let v1923_r0 : BitVec 32 := Scalar.select v1922_r0 c1_i32_939_r0 c3_i32_937_r0
  let v1924_r0 : BitVec 32 := Scalar.remsi v1560_r0 v1923_r0
  let c0_i32_941_r0 : BitVec 32 := 0#32
  let v1926_r0 : BitVec 1 := Scalar.cmpi .slt v1924_r0 c0_i32_941_r0
  let c0_i32_942_r0 : BitVec 32 := 0#32
  let v1927_r0 : BitVec 1 := Scalar.cmpi .slt v1923_r0 c0_i32_942_r0
  let v1928_r0 : BitVec 1 := Scalar.xori v1926_r0 v1927_r0
  let c0_i32_940_r0 : BitVec 32 := 0#32
  let v1925_r0 : BitVec 1 := Scalar.cmpi .ne v1924_r0 c0_i32_940_r0
  let v1929_r0 : BitVec 1 := Scalar.andi v1928_r0 v1925_r0
  let v1930_r0 : BitVec 32 := Scalar.addi v1924_r0 v1923_r0
  let v1931_r0 : BitVec 32 := Scalar.select v1929_r0 v1930_r0 v1924_r0
  let c128_i32_943_r0 : BitVec 32 := 128#32
  let v1932_r0 : BitVec 32 := Scalar.muli v1931_r0 c128_i32_943_r0
  let v1933_r0 : BitVec 32 := v1932_r0
  let v1953_r0 : Index := Scalar.indexCast v1933_r0
  ![v1951_r0.toNat, v1952_r0.toNat, 768, v1953_r0.toNat]
def k0_off30 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c1_i32_790_r0 : BitVec 32 := 1#32
  let v1589_r0 : BitVec 32 := Scalar.subi arg16_r0 c1_i32_790_r0
  let c0_i32_791_r0 : BitVec 32 := 0#32
  let v1590_r0 : BitVec 32 := Scalar.maxsi v1589_r0 c0_i32_791_r0
  let c12_i32_792_r0 : BitVec 32 := 12#32
  let v1591_r0 : BitVec 1 := Scalar.cmpi .slt v1590_r0 c12_i32_792_r0
  let c3_i32_793_r0 : BitVec 32 := 3#32
  let c0_i32_794_r0 : BitVec 32 := 0#32
  let v1592_r0 : BitVec 1 := Scalar.cmpi .eq c3_i32_793_r0 c0_i32_794_r0
  let c1_i32_795_r0 : BitVec 32 := 1#32
  let v1593_r0 : BitVec 32 := Scalar.select v1592_r0 c1_i32_795_r0 c3_i32_793_r0
  let v1594_r0 : BitVec 32 := Scalar.remsi v1590_r0 v1593_r0
  let c0_i32_797_r0 : BitVec 32 := 0#32
  let v1596_r0 : BitVec 1 := Scalar.cmpi .slt v1594_r0 c0_i32_797_r0
  let c0_i32_798_r0 : BitVec 32 := 0#32
  let v1597_r0 : BitVec 1 := Scalar.cmpi .slt v1593_r0 c0_i32_798_r0
  let v1598_r0 : BitVec 1 := Scalar.xori v1596_r0 v1597_r0
  let c0_i32_796_r0 : BitVec 32 := 0#32
  let v1595_r0 : BitVec 1 := Scalar.cmpi .ne v1594_r0 c0_i32_796_r0
  let v1599_r0 : BitVec 1 := Scalar.andi v1598_r0 v1595_r0
  let v1600_r0 : BitVec 32 := Scalar.addi v1594_r0 v1593_r0
  let v1601_r0 : BitVec 32 := Scalar.select v1599_r0 v1600_r0 v1594_r0
  let c0_i32_800_r0 : BitVec 32 := 0#32
  let v1603_r0 : BitVec 1 := Scalar.cmpi .sgt v1590_r0 c0_i32_800_r0
  let v1604_r0 : BitVec 32 := Scalar.extui v1603_r0
  let c0_i32_801_r0 : BitVec 32 := 0#32
  let v1605_r0 : BitVec 1 := Scalar.cmpi .slt v1590_r0 c0_i32_801_r0
  let v1606_r0 : BitVec 32 := Scalar.extui v1605_r0
  let v1607_r0 : BitVec 32 := Scalar.subi v1604_r0 v1606_r0
  let c4_i32_799_r0 : BitVec 32 := 4#32
  let c0_i32_802_r0 : BitVec 32 := 0#32
  let v1608_r0 : BitVec 1 := Scalar.cmpi .sgt c4_i32_799_r0 c0_i32_802_r0
  let v1609_r0 : BitVec 32 := Scalar.extui v1608_r0
  let c0_i32_803_r0 : BitVec 32 := 0#32
  let v1610_r0 : BitVec 1 := Scalar.cmpi .slt c4_i32_799_r0 c0_i32_803_r0
  let v1611_r0 : BitVec 32 := Scalar.extui v1610_r0
  let v1612_r0 : BitVec 32 := Scalar.subi v1609_r0 v1611_r0
  let v1613_r0 : BitVec 1 := Scalar.cmpi .ne v1607_r0 v1612_r0
  let v1614_r0 : BitVec 32 := Scalar.remsi v1590_r0 c4_i32_799_r0
  let c0_i32_804_r0 : BitVec 32 := 0#32
  let v1615_r0 : BitVec 1 := Scalar.cmpi .ne v1614_r0 c0_i32_804_r0
  let v1616_r0 : BitVec 1 := Scalar.andi v1613_r0 v1615_r0
  let v1602_r0 : BitVec 32 := Scalar.divsi v1590_r0 c4_i32_799_r0
  let c1_i32_805_r0 : BitVec 32 := 1#32
  let v1617_r0 : BitVec 32 := Scalar.subi v1602_r0 c1_i32_805_r0
  let v1618_r0 : BitVec 32 := Scalar.select v1616_r0 v1617_r0 v1602_r0
  let v1619_r0 : BitVec 32 := Scalar.select v1591_r0 v1601_r0 v1618_r0
  let v1994_r0 : Index := Scalar.indexCast v1619_r0
  let c0_960_r0 : Index := 0#32
  let c512_961_r0 : Index := 512#32
  ![v1994_r0.toNat, 0, 512]
def k0_off31 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c1_i32_790_r0 : BitVec 32 := 1#32
  let v1589_r0 : BitVec 32 := Scalar.subi arg16_r0 c1_i32_790_r0
  let c0_i32_791_r0 : BitVec 32 := 0#32
  let v1590_r0 : BitVec 32 := Scalar.maxsi v1589_r0 c0_i32_791_r0
  let c12_i32_792_r0 : BitVec 32 := 12#32
  let v1591_r0 : BitVec 1 := Scalar.cmpi .slt v1590_r0 c12_i32_792_r0
  let c3_i32_793_r0 : BitVec 32 := 3#32
  let c0_i32_794_r0 : BitVec 32 := 0#32
  let v1592_r0 : BitVec 1 := Scalar.cmpi .eq c3_i32_793_r0 c0_i32_794_r0
  let c1_i32_795_r0 : BitVec 32 := 1#32
  let v1593_r0 : BitVec 32 := Scalar.select v1592_r0 c1_i32_795_r0 c3_i32_793_r0
  let v1594_r0 : BitVec 32 := Scalar.remsi v1590_r0 v1593_r0
  let c0_i32_797_r0 : BitVec 32 := 0#32
  let v1596_r0 : BitVec 1 := Scalar.cmpi .slt v1594_r0 c0_i32_797_r0
  let c0_i32_798_r0 : BitVec 32 := 0#32
  let v1597_r0 : BitVec 1 := Scalar.cmpi .slt v1593_r0 c0_i32_798_r0
  let v1598_r0 : BitVec 1 := Scalar.xori v1596_r0 v1597_r0
  let c0_i32_796_r0 : BitVec 32 := 0#32
  let v1595_r0 : BitVec 1 := Scalar.cmpi .ne v1594_r0 c0_i32_796_r0
  let v1599_r0 : BitVec 1 := Scalar.andi v1598_r0 v1595_r0
  let v1600_r0 : BitVec 32 := Scalar.addi v1594_r0 v1593_r0
  let v1601_r0 : BitVec 32 := Scalar.select v1599_r0 v1600_r0 v1594_r0
  let c0_i32_800_r0 : BitVec 32 := 0#32
  let v1603_r0 : BitVec 1 := Scalar.cmpi .sgt v1590_r0 c0_i32_800_r0
  let v1604_r0 : BitVec 32 := Scalar.extui v1603_r0
  let c0_i32_801_r0 : BitVec 32 := 0#32
  let v1605_r0 : BitVec 1 := Scalar.cmpi .slt v1590_r0 c0_i32_801_r0
  let v1606_r0 : BitVec 32 := Scalar.extui v1605_r0
  let v1607_r0 : BitVec 32 := Scalar.subi v1604_r0 v1606_r0
  let c4_i32_799_r0 : BitVec 32 := 4#32
  let c0_i32_802_r0 : BitVec 32 := 0#32
  let v1608_r0 : BitVec 1 := Scalar.cmpi .sgt c4_i32_799_r0 c0_i32_802_r0
  let v1609_r0 : BitVec 32 := Scalar.extui v1608_r0
  let c0_i32_803_r0 : BitVec 32 := 0#32
  let v1610_r0 : BitVec 1 := Scalar.cmpi .slt c4_i32_799_r0 c0_i32_803_r0
  let v1611_r0 : BitVec 32 := Scalar.extui v1610_r0
  let v1612_r0 : BitVec 32 := Scalar.subi v1609_r0 v1611_r0
  let v1613_r0 : BitVec 1 := Scalar.cmpi .ne v1607_r0 v1612_r0
  let v1614_r0 : BitVec 32 := Scalar.remsi v1590_r0 c4_i32_799_r0
  let c0_i32_804_r0 : BitVec 32 := 0#32
  let v1615_r0 : BitVec 1 := Scalar.cmpi .ne v1614_r0 c0_i32_804_r0
  let v1616_r0 : BitVec 1 := Scalar.andi v1613_r0 v1615_r0
  let v1602_r0 : BitVec 32 := Scalar.divsi v1590_r0 c4_i32_799_r0
  let c1_i32_805_r0 : BitVec 32 := 1#32
  let v1617_r0 : BitVec 32 := Scalar.subi v1602_r0 c1_i32_805_r0
  let v1618_r0 : BitVec 32 := Scalar.select v1616_r0 v1617_r0 v1602_r0
  let v1619_r0 : BitVec 32 := Scalar.select v1591_r0 v1601_r0 v1618_r0
  let v2005_r0 : Index := Scalar.indexCast v1619_r0
  let c0_965_r0 : Index := 0#32
  let c768_966_r0 : Index := 768#32
  ![v2005_r0.toNat, 0, 768]
def k0_off32 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2016_r0 : Index := Scalar.indexCast v1588_r0
  let c0_970_r0 : Index := 0#32
  let c768_971_r0 : Index := 768#32
  ![v2016_r0.toNat, 0, 768]
def k0_mult6 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_972_r0 : BitVec 32 := 3#32
  let c0_i32_973_r0 : BitVec 32 := 0#32
  let v2019_r0 : BitVec 1 := Scalar.cmpi .eq c3_i32_972_r0 c0_i32_973_r0
  let c1_i32_974_r0 : BitVec 32 := 1#32
  let v2020_r0 : BitVec 32 := Scalar.select v2019_r0 c1_i32_974_r0 c3_i32_972_r0
  let v2021_r0 : BitVec 32 := Scalar.remsi v1560_r0 v2020_r0
  let c0_i32_976_r0 : BitVec 32 := 0#32
  let v2023_r0 : BitVec 1 := Scalar.cmpi .slt v2021_r0 c0_i32_976_r0
  let c0_i32_977_r0 : BitVec 32 := 0#32
  let v2024_r0 : BitVec 1 := Scalar.cmpi .slt v2020_r0 c0_i32_977_r0
  let v2025_r0 : BitVec 1 := Scalar.xori v2023_r0 v2024_r0
  let c0_i32_975_r0 : BitVec 32 := 0#32
  let v2022_r0 : BitVec 1 := Scalar.cmpi .ne v2021_r0 c0_i32_975_r0
  let v2026_r0 : BitVec 1 := Scalar.andi v2025_r0 v2022_r0
  let v2027_r0 : BitVec 32 := Scalar.addi v2021_r0 v2020_r0
  let v2028_r0 : BitVec 32 := Scalar.select v2026_r0 v2027_r0 v2021_r0
  let c128_i32_978_r0 : BitVec 32 := 128#32
  let v2029_r0 : BitVec 32 := Scalar.muli v2028_r0 c128_i32_978_r0
  v2029_r0
def k0_off33 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_980_r0 : BitVec 32 := 0#32
  let v2032_r0 : BitVec 1 := Scalar.cmpi .sgt v1560_r0 c0_i32_980_r0
  let v2033_r0 : BitVec 32 := Scalar.extui v2032_r0
  let c0_i32_981_r0 : BitVec 32 := 0#32
  let v2034_r0 : BitVec 1 := Scalar.cmpi .slt v1560_r0 c0_i32_981_r0
  let v2035_r0 : BitVec 32 := Scalar.extui v2034_r0
  let v2036_r0 : BitVec 32 := Scalar.subi v2033_r0 v2035_r0
  let c3_i32_979_r0 : BitVec 32 := 3#32
  let c0_i32_982_r0 : BitVec 32 := 0#32
  let v2037_r0 : BitVec 1 := Scalar.cmpi .sgt c3_i32_979_r0 c0_i32_982_r0
  let v2038_r0 : BitVec 32 := Scalar.extui v2037_r0
  let c0_i32_983_r0 : BitVec 32 := 0#32
  let v2039_r0 : BitVec 1 := Scalar.cmpi .slt c3_i32_979_r0 c0_i32_983_r0
  let v2040_r0 : BitVec 32 := Scalar.extui v2039_r0
  let v2041_r0 : BitVec 32 := Scalar.subi v2038_r0 v2040_r0
  let v2042_r0 : BitVec 1 := Scalar.cmpi .ne v2036_r0 v2041_r0
  let v2043_r0 : BitVec 32 := Scalar.remsi v1560_r0 c3_i32_979_r0
  let c0_i32_984_r0 : BitVec 32 := 0#32
  let v2044_r0 : BitVec 1 := Scalar.cmpi .ne v2043_r0 c0_i32_984_r0
  let v2045_r0 : BitVec 1 := Scalar.andi v2042_r0 v2044_r0
  let v2031_r0 : BitVec 32 := Scalar.divsi v1560_r0 c3_i32_979_r0
  let c1_i32_985_r0 : BitVec 32 := 1#32
  let v2046_r0 : BitVec 32 := Scalar.subi v2031_r0 c1_i32_985_r0
  let v2047_r0 : BitVec 32 := Scalar.select v2045_r0 v2046_r0 v2031_r0
  let v2048_r0 : Index := Scalar.indexCast v2047_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2049_r0 : Index := Scalar.indexCast v1588_r0
  let c1024_r0 : Index := 1024#32
  let c3_i32_972_r0 : BitVec 32 := 3#32
  let c0_i32_973_r0 : BitVec 32 := 0#32
  let v2019_r0 : BitVec 1 := Scalar.cmpi .eq c3_i32_972_r0 c0_i32_973_r0
  let c1_i32_974_r0 : BitVec 32 := 1#32
  let v2020_r0 : BitVec 32 := Scalar.select v2019_r0 c1_i32_974_r0 c3_i32_972_r0
  let v2021_r0 : BitVec 32 := Scalar.remsi v1560_r0 v2020_r0
  let c0_i32_976_r0 : BitVec 32 := 0#32
  let v2023_r0 : BitVec 1 := Scalar.cmpi .slt v2021_r0 c0_i32_976_r0
  let c0_i32_977_r0 : BitVec 32 := 0#32
  let v2024_r0 : BitVec 1 := Scalar.cmpi .slt v2020_r0 c0_i32_977_r0
  let v2025_r0 : BitVec 1 := Scalar.xori v2023_r0 v2024_r0
  let c0_i32_975_r0 : BitVec 32 := 0#32
  let v2022_r0 : BitVec 1 := Scalar.cmpi .ne v2021_r0 c0_i32_975_r0
  let v2026_r0 : BitVec 1 := Scalar.andi v2025_r0 v2022_r0
  let v2027_r0 : BitVec 32 := Scalar.addi v2021_r0 v2020_r0
  let v2028_r0 : BitVec 32 := Scalar.select v2026_r0 v2027_r0 v2021_r0
  let c128_i32_978_r0 : BitVec 32 := 128#32
  let v2029_r0 : BitVec 32 := Scalar.muli v2028_r0 c128_i32_978_r0
  let v2030_r0 : BitVec 32 := v2029_r0
  let v2050_r0 : Index := Scalar.indexCast v2030_r0
  ![v2048_r0.toNat, v2049_r0.toNat, 1024, v2050_r0.toNat]
def k0_off34 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2090_r0 : Index := Scalar.indexCast v1588_r0
  let c0_993_r0 : Index := 0#32
  let c1024_994_r0 : Index := 1024#32
  ![v2090_r0.toNat, 0, 1024]
def k0_mult7 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_995_r0 : BitVec 32 := 3#32
  let c0_i32_996_r0 : BitVec 32 := 0#32
  let v2093_r0 : BitVec 1 := Scalar.cmpi .eq c3_i32_995_r0 c0_i32_996_r0
  let c1_i32_997_r0 : BitVec 32 := 1#32
  let v2094_r0 : BitVec 32 := Scalar.select v2093_r0 c1_i32_997_r0 c3_i32_995_r0
  let v2095_r0 : BitVec 32 := Scalar.remsi v1560_r0 v2094_r0
  let c0_i32_999_r0 : BitVec 32 := 0#32
  let v2097_r0 : BitVec 1 := Scalar.cmpi .slt v2095_r0 c0_i32_999_r0
  let c0_i32_1000_r0 : BitVec 32 := 0#32
  let v2098_r0 : BitVec 1 := Scalar.cmpi .slt v2094_r0 c0_i32_1000_r0
  let v2099_r0 : BitVec 1 := Scalar.xori v2097_r0 v2098_r0
  let c0_i32_998_r0 : BitVec 32 := 0#32
  let v2096_r0 : BitVec 1 := Scalar.cmpi .ne v2095_r0 c0_i32_998_r0
  let v2100_r0 : BitVec 1 := Scalar.andi v2099_r0 v2096_r0
  let v2101_r0 : BitVec 32 := Scalar.addi v2095_r0 v2094_r0
  let v2102_r0 : BitVec 32 := Scalar.select v2100_r0 v2101_r0 v2095_r0
  let c128_i32_1001_r0 : BitVec 32 := 128#32
  let v2103_r0 : BitVec 32 := Scalar.muli v2102_r0 c128_i32_1001_r0
  v2103_r0
def k0_off35 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_1003_r0 : BitVec 32 := 0#32
  let v2106_r0 : BitVec 1 := Scalar.cmpi .sgt v1560_r0 c0_i32_1003_r0
  let v2107_r0 : BitVec 32 := Scalar.extui v2106_r0
  let c0_i32_1004_r0 : BitVec 32 := 0#32
  let v2108_r0 : BitVec 1 := Scalar.cmpi .slt v1560_r0 c0_i32_1004_r0
  let v2109_r0 : BitVec 32 := Scalar.extui v2108_r0
  let v2110_r0 : BitVec 32 := Scalar.subi v2107_r0 v2109_r0
  let c3_i32_1002_r0 : BitVec 32 := 3#32
  let c0_i32_1005_r0 : BitVec 32 := 0#32
  let v2111_r0 : BitVec 1 := Scalar.cmpi .sgt c3_i32_1002_r0 c0_i32_1005_r0
  let v2112_r0 : BitVec 32 := Scalar.extui v2111_r0
  let c0_i32_1006_r0 : BitVec 32 := 0#32
  let v2113_r0 : BitVec 1 := Scalar.cmpi .slt c3_i32_1002_r0 c0_i32_1006_r0
  let v2114_r0 : BitVec 32 := Scalar.extui v2113_r0
  let v2115_r0 : BitVec 32 := Scalar.subi v2112_r0 v2114_r0
  let v2116_r0 : BitVec 1 := Scalar.cmpi .ne v2110_r0 v2115_r0
  let v2117_r0 : BitVec 32 := Scalar.remsi v1560_r0 c3_i32_1002_r0
  let c0_i32_1007_r0 : BitVec 32 := 0#32
  let v2118_r0 : BitVec 1 := Scalar.cmpi .ne v2117_r0 c0_i32_1007_r0
  let v2119_r0 : BitVec 1 := Scalar.andi v2116_r0 v2118_r0
  let v2105_r0 : BitVec 32 := Scalar.divsi v1560_r0 c3_i32_1002_r0
  let c1_i32_1008_r0 : BitVec 32 := 1#32
  let v2120_r0 : BitVec 32 := Scalar.subi v2105_r0 c1_i32_1008_r0
  let v2121_r0 : BitVec 32 := Scalar.select v2119_r0 v2120_r0 v2105_r0
  let v2122_r0 : Index := Scalar.indexCast v2121_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2123_r0 : Index := Scalar.indexCast v1588_r0
  let c1280_r0 : Index := 1280#32
  let c3_i32_995_r0 : BitVec 32 := 3#32
  let c0_i32_996_r0 : BitVec 32 := 0#32
  let v2093_r0 : BitVec 1 := Scalar.cmpi .eq c3_i32_995_r0 c0_i32_996_r0
  let c1_i32_997_r0 : BitVec 32 := 1#32
  let v2094_r0 : BitVec 32 := Scalar.select v2093_r0 c1_i32_997_r0 c3_i32_995_r0
  let v2095_r0 : BitVec 32 := Scalar.remsi v1560_r0 v2094_r0
  let c0_i32_999_r0 : BitVec 32 := 0#32
  let v2097_r0 : BitVec 1 := Scalar.cmpi .slt v2095_r0 c0_i32_999_r0
  let c0_i32_1000_r0 : BitVec 32 := 0#32
  let v2098_r0 : BitVec 1 := Scalar.cmpi .slt v2094_r0 c0_i32_1000_r0
  let v2099_r0 : BitVec 1 := Scalar.xori v2097_r0 v2098_r0
  let c0_i32_998_r0 : BitVec 32 := 0#32
  let v2096_r0 : BitVec 1 := Scalar.cmpi .ne v2095_r0 c0_i32_998_r0
  let v2100_r0 : BitVec 1 := Scalar.andi v2099_r0 v2096_r0
  let v2101_r0 : BitVec 32 := Scalar.addi v2095_r0 v2094_r0
  let v2102_r0 : BitVec 32 := Scalar.select v2100_r0 v2101_r0 v2095_r0
  let c128_i32_1001_r0 : BitVec 32 := 128#32
  let v2103_r0 : BitVec 32 := Scalar.muli v2102_r0 c128_i32_1001_r0
  let v2104_r0 : BitVec 32 := v2103_r0
  let v2124_r0 : Index := Scalar.indexCast v2104_r0
  ![v2122_r0.toNat, v2123_r0.toNat, 1280, v2124_r0.toNat]
def k0_mult8 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  v2191_r0
def k0_off36 (k0_t1 : Fin k0_t1_loop.trips) : Fin 2 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2193_r0 : Index := Scalar.indexCast v2180_r0
  let c0_1030_r0 : Index := 0#32
  ![v2193_r0.toNat, 0]
def k0_off37 (k0_t1 : Fin k0_t1_loop.trips) : Fin 2 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2195_r0 : Index := Scalar.indexCast v2192_r0
  let c0_1031_r0 : Index := 0#32
  ![v2195_r0.toNat, 0]
def k0_off38 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2202_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2203_r0 : Index := Scalar.indexCast v2192_r0
  let c0_1034_r0 : Index := 0#32
  ![v2202_r0.toNat, v2203_r0.toNat, 0]
def k0_off39 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2209_r0 : Index := Scalar.indexCast v2180_r0
  let c0_1035_r0 : Index := 0#32
  let c0_1036_r0 : Index := 0#32
  ![v2209_r0.toNat, 0, 0]
def k0_off40 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2221_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2222_r0 : Index := Scalar.indexCast v2192_r0
  let c512_1039_r0 : Index := 512#32
  ![v2221_r0.toNat, v2222_r0.toNat, 512]
def k0_off41 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2228_r0 : Index := Scalar.indexCast v2180_r0
  let c1_1040_r0 : Index := 1#32
  let c0_1041_r0 : Index := 0#32
  ![v2228_r0.toNat, 1, 0]
def k0_off42 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2240_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2241_r0 : Index := Scalar.indexCast v2192_r0
  let c128_1044_r0 : Index := 128#32
  ![v2240_r0.toNat, v2241_r0.toNat, 128]
def k0_off43 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2247_r0 : Index := Scalar.indexCast v2180_r0
  let c2_1045_r0 : Index := 2#32
  let c0_1046_r0 : Index := 0#32
  ![v2247_r0.toNat, 2, 0]
def k0_off44 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2259_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2260_r0 : Index := Scalar.indexCast v2192_r0
  let c640_1049_r0 : Index := 640#32
  ![v2259_r0.toNat, v2260_r0.toNat, 640]
def k0_off45 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2266_r0 : Index := Scalar.indexCast v2180_r0
  let c3_1050_r0 : Index := 3#32
  let c0_1051_r0 : Index := 0#32
  ![v2266_r0.toNat, 3, 0]
def k0_off46 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2278_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2279_r0 : Index := Scalar.indexCast v2192_r0
  let c256_1054_r0 : Index := 256#32
  ![v2278_r0.toNat, v2279_r0.toNat, 256]
def k0_off47 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2285_r0 : Index := Scalar.indexCast v2180_r0
  let c4_1055_r0 : Index := 4#32
  let c0_1056_r0 : Index := 0#32
  ![v2285_r0.toNat, 4, 0]
def k0_off48 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2297_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2298_r0 : Index := Scalar.indexCast v2192_r0
  let c768_1059_r0 : Index := 768#32
  ![v2297_r0.toNat, v2298_r0.toNat, 768]
def k0_off49 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2304_r0 : Index := Scalar.indexCast v2180_r0
  let c5_1060_r0 : Index := 5#32
  let c0_1061_r0 : Index := 0#32
  ![v2304_r0.toNat, 5, 0]
def k0_off50 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2316_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2317_r0 : Index := Scalar.indexCast v2192_r0
  let c384_1064_r0 : Index := 384#32
  ![v2316_r0.toNat, v2317_r0.toNat, 384]
def k0_off51 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2323_r0 : Index := Scalar.indexCast v2180_r0
  let c6_1065_r0 : Index := 6#32
  let c0_1066_r0 : Index := 0#32
  ![v2323_r0.toNat, 6, 0]
def k0_off52 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2335_r0 : Index := Scalar.indexCast v2180_r0
  let c3_i32_1023_r0 : BitVec 32 := 3#32
  let c0_i32_1024_r0 : BitVec 32 := 0#32
  let v2181_r0 : BitVec 1 := Scalar.cmpi .eq c3_i32_1023_r0 c0_i32_1024_r0
  let c1_i32_1025_r0 : BitVec 32 := 1#32
  let v2182_r0 : BitVec 32 := Scalar.select v2181_r0 c1_i32_1025_r0 c3_i32_1023_r0
  let v2183_r0 : BitVec 32 := Scalar.remsi v1708_r0 v2182_r0
  let c0_i32_1027_r0 : BitVec 32 := 0#32
  let v2185_r0 : BitVec 1 := Scalar.cmpi .slt v2183_r0 c0_i32_1027_r0
  let c0_i32_1028_r0 : BitVec 32 := 0#32
  let v2186_r0 : BitVec 1 := Scalar.cmpi .slt v2182_r0 c0_i32_1028_r0
  let v2187_r0 : BitVec 1 := Scalar.xori v2185_r0 v2186_r0
  let c0_i32_1026_r0 : BitVec 32 := 0#32
  let v2184_r0 : BitVec 1 := Scalar.cmpi .ne v2183_r0 c0_i32_1026_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let c32_i32_1029_r0 : BitVec 32 := 32#32
  let v2191_r0 : BitVec 32 := Scalar.muli v2190_r0 c32_i32_1029_r0
  let v2192_r0 : BitVec 32 := v2191_r0
  let v2336_r0 : Index := Scalar.indexCast v2192_r0
  let c896_1069_r0 : Index := 896#32
  ![v2335_r0.toNat, v2336_r0.toNat, 896]
def k0_off53 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_847_r0 : BitVec 32 := 12#32
  let v1707_r0 : BitVec 32 := Scalar.subi arg16_r0 c12_i32_847_r0
  let c0_i32_848_r0 : BitVec 32 := 0#32
  let v1708_r0 : BitVec 32 := Scalar.maxsi v1707_r0 c0_i32_848_r0
  let c0_i32_1017_r0 : BitVec 32 := 0#32
  let v2165_r0 : BitVec 1 := Scalar.cmpi .sgt v1708_r0 c0_i32_1017_r0
  let v2166_r0 : BitVec 32 := Scalar.extui v2165_r0
  let c0_i32_1018_r0 : BitVec 32 := 0#32
  let v2167_r0 : BitVec 1 := Scalar.cmpi .slt v1708_r0 c0_i32_1018_r0
  let v2168_r0 : BitVec 32 := Scalar.extui v2167_r0
  let v2169_r0 : BitVec 32 := Scalar.subi v2166_r0 v2168_r0
  let c3_i32_1016_r0 : BitVec 32 := 3#32
  let c0_i32_1019_r0 : BitVec 32 := 0#32
  let v2170_r0 : BitVec 1 := Scalar.cmpi .sgt c3_i32_1016_r0 c0_i32_1019_r0
  let v2171_r0 : BitVec 32 := Scalar.extui v2170_r0
  let c0_i32_1020_r0 : BitVec 32 := 0#32
  let v2172_r0 : BitVec 1 := Scalar.cmpi .slt c3_i32_1016_r0 c0_i32_1020_r0
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 c3_i32_1016_r0
  let c0_i32_1021_r0 : BitVec 32 := 0#32
  let v2177_r0 : BitVec 1 := Scalar.cmpi .ne v2176_r0 c0_i32_1021_r0
  let v2178_r0 : BitVec 1 := Scalar.andi v2175_r0 v2177_r0
  let v2164_r0 : BitVec 32 := Scalar.divsi v1708_r0 c3_i32_1016_r0
  let c1_i32_1022_r0 : BitVec 32 := 1#32
  let v2179_r0 : BitVec 32 := Scalar.subi v2164_r0 c1_i32_1022_r0
  let v2180_r0 : BitVec 32 := Scalar.select v2178_r0 v2179_r0 v2164_r0
  let v2342_r0 : Index := Scalar.indexCast v2180_r0
  let c7_1070_r0 : Index := 7#32
  let c0_1071_r0 : Index := 0#32
  ![v2342_r0.toNat, 7, 0]
def k0_off54 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2565_r0 : Index := Scalar.indexCast v1588_r0
  let c0_1140_r0 : Index := 0#32
  let c1280_1141_r0 : Index := 1280#32
  ![v2565_r0.toNat, 0, 1280]
def k0_mult9 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1142_r0 : BitVec 32 := 3#32
  let c0_i32_1143_r0 : BitVec 32 := 0#32
  let v2568_r0 : BitVec 1 := Scalar.cmpi .eq c3_i32_1142_r0 c0_i32_1143_r0
  let c1_i32_1144_r0 : BitVec 32 := 1#32
  let v2569_r0 : BitVec 32 := Scalar.select v2568_r0 c1_i32_1144_r0 c3_i32_1142_r0
  let v2570_r0 : BitVec 32 := Scalar.remsi v1560_r0 v2569_r0
  let c0_i32_1146_r0 : BitVec 32 := 0#32
  let v2572_r0 : BitVec 1 := Scalar.cmpi .slt v2570_r0 c0_i32_1146_r0
  let c0_i32_1147_r0 : BitVec 32 := 0#32
  let v2573_r0 : BitVec 1 := Scalar.cmpi .slt v2569_r0 c0_i32_1147_r0
  let v2574_r0 : BitVec 1 := Scalar.xori v2572_r0 v2573_r0
  let c0_i32_1145_r0 : BitVec 32 := 0#32
  let v2571_r0 : BitVec 1 := Scalar.cmpi .ne v2570_r0 c0_i32_1145_r0
  let v2575_r0 : BitVec 1 := Scalar.andi v2574_r0 v2571_r0
  let v2576_r0 : BitVec 32 := Scalar.addi v2570_r0 v2569_r0
  let v2577_r0 : BitVec 32 := Scalar.select v2575_r0 v2576_r0 v2570_r0
  let c128_i32_1148_r0 : BitVec 32 := 128#32
  let v2578_r0 : BitVec 32 := Scalar.muli v2577_r0 c128_i32_1148_r0
  v2578_r0
def k0_off55 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_1150_r0 : BitVec 32 := 0#32
  let v2581_r0 : BitVec 1 := Scalar.cmpi .sgt v1560_r0 c0_i32_1150_r0
  let v2582_r0 : BitVec 32 := Scalar.extui v2581_r0
  let c0_i32_1151_r0 : BitVec 32 := 0#32
  let v2583_r0 : BitVec 1 := Scalar.cmpi .slt v1560_r0 c0_i32_1151_r0
  let v2584_r0 : BitVec 32 := Scalar.extui v2583_r0
  let v2585_r0 : BitVec 32 := Scalar.subi v2582_r0 v2584_r0
  let c3_i32_1149_r0 : BitVec 32 := 3#32
  let c0_i32_1152_r0 : BitVec 32 := 0#32
  let v2586_r0 : BitVec 1 := Scalar.cmpi .sgt c3_i32_1149_r0 c0_i32_1152_r0
  let v2587_r0 : BitVec 32 := Scalar.extui v2586_r0
  let c0_i32_1153_r0 : BitVec 32 := 0#32
  let v2588_r0 : BitVec 1 := Scalar.cmpi .slt c3_i32_1149_r0 c0_i32_1153_r0
  let v2589_r0 : BitVec 32 := Scalar.extui v2588_r0
  let v2590_r0 : BitVec 32 := Scalar.subi v2587_r0 v2589_r0
  let v2591_r0 : BitVec 1 := Scalar.cmpi .ne v2585_r0 v2590_r0
  let v2592_r0 : BitVec 32 := Scalar.remsi v1560_r0 c3_i32_1149_r0
  let c0_i32_1154_r0 : BitVec 32 := 0#32
  let v2593_r0 : BitVec 1 := Scalar.cmpi .ne v2592_r0 c0_i32_1154_r0
  let v2594_r0 : BitVec 1 := Scalar.andi v2591_r0 v2593_r0
  let v2580_r0 : BitVec 32 := Scalar.divsi v1560_r0 c3_i32_1149_r0
  let c1_i32_1155_r0 : BitVec 32 := 1#32
  let v2595_r0 : BitVec 32 := Scalar.subi v2580_r0 c1_i32_1155_r0
  let v2596_r0 : BitVec 32 := Scalar.select v2594_r0 v2595_r0 v2580_r0
  let v2597_r0 : Index := Scalar.indexCast v2596_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2598_r0 : Index := Scalar.indexCast v1588_r0
  let c1536_r0 : Index := 1536#32
  let c3_i32_1142_r0 : BitVec 32 := 3#32
  let c0_i32_1143_r0 : BitVec 32 := 0#32
  let v2568_r0 : BitVec 1 := Scalar.cmpi .eq c3_i32_1142_r0 c0_i32_1143_r0
  let c1_i32_1144_r0 : BitVec 32 := 1#32
  let v2569_r0 : BitVec 32 := Scalar.select v2568_r0 c1_i32_1144_r0 c3_i32_1142_r0
  let v2570_r0 : BitVec 32 := Scalar.remsi v1560_r0 v2569_r0
  let c0_i32_1146_r0 : BitVec 32 := 0#32
  let v2572_r0 : BitVec 1 := Scalar.cmpi .slt v2570_r0 c0_i32_1146_r0
  let c0_i32_1147_r0 : BitVec 32 := 0#32
  let v2573_r0 : BitVec 1 := Scalar.cmpi .slt v2569_r0 c0_i32_1147_r0
  let v2574_r0 : BitVec 1 := Scalar.xori v2572_r0 v2573_r0
  let c0_i32_1145_r0 : BitVec 32 := 0#32
  let v2571_r0 : BitVec 1 := Scalar.cmpi .ne v2570_r0 c0_i32_1145_r0
  let v2575_r0 : BitVec 1 := Scalar.andi v2574_r0 v2571_r0
  let v2576_r0 : BitVec 32 := Scalar.addi v2570_r0 v2569_r0
  let v2577_r0 : BitVec 32 := Scalar.select v2575_r0 v2576_r0 v2570_r0
  let c128_i32_1148_r0 : BitVec 32 := 128#32
  let v2578_r0 : BitVec 32 := Scalar.muli v2577_r0 c128_i32_1148_r0
  let v2579_r0 : BitVec 32 := v2578_r0
  let v2599_r0 : Index := Scalar.indexCast v2579_r0
  ![v2597_r0.toNat, v2598_r0.toNat, 1536, v2599_r0.toNat]
def k0_off56 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2639_r0 : Index := Scalar.indexCast v1588_r0
  let c0_1163_r0 : Index := 0#32
  let c1536_1164_r0 : Index := 1536#32
  ![v2639_r0.toNat, 0, 1536]
def k0_mult10 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1165_r0 : BitVec 32 := 3#32
  let c0_i32_1166_r0 : BitVec 32 := 0#32
  let v2642_r0 : BitVec 1 := Scalar.cmpi .eq c3_i32_1165_r0 c0_i32_1166_r0
  let c1_i32_1167_r0 : BitVec 32 := 1#32
  let v2643_r0 : BitVec 32 := Scalar.select v2642_r0 c1_i32_1167_r0 c3_i32_1165_r0
  let v2644_r0 : BitVec 32 := Scalar.remsi v1560_r0 v2643_r0
  let c0_i32_1169_r0 : BitVec 32 := 0#32
  let v2646_r0 : BitVec 1 := Scalar.cmpi .slt v2644_r0 c0_i32_1169_r0
  let c0_i32_1170_r0 : BitVec 32 := 0#32
  let v2647_r0 : BitVec 1 := Scalar.cmpi .slt v2643_r0 c0_i32_1170_r0
  let v2648_r0 : BitVec 1 := Scalar.xori v2646_r0 v2647_r0
  let c0_i32_1168_r0 : BitVec 32 := 0#32
  let v2645_r0 : BitVec 1 := Scalar.cmpi .ne v2644_r0 c0_i32_1168_r0
  let v2649_r0 : BitVec 1 := Scalar.andi v2648_r0 v2645_r0
  let v2650_r0 : BitVec 32 := Scalar.addi v2644_r0 v2643_r0
  let v2651_r0 : BitVec 32 := Scalar.select v2649_r0 v2650_r0 v2644_r0
  let c128_i32_1171_r0 : BitVec 32 := 128#32
  let v2652_r0 : BitVec 32 := Scalar.muli v2651_r0 c128_i32_1171_r0
  v2652_r0
def k0_off57 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c0_i32_1173_r0 : BitVec 32 := 0#32
  let v2655_r0 : BitVec 1 := Scalar.cmpi .sgt v1560_r0 c0_i32_1173_r0
  let v2656_r0 : BitVec 32 := Scalar.extui v2655_r0
  let c0_i32_1174_r0 : BitVec 32 := 0#32
  let v2657_r0 : BitVec 1 := Scalar.cmpi .slt v1560_r0 c0_i32_1174_r0
  let v2658_r0 : BitVec 32 := Scalar.extui v2657_r0
  let v2659_r0 : BitVec 32 := Scalar.subi v2656_r0 v2658_r0
  let c3_i32_1172_r0 : BitVec 32 := 3#32
  let c0_i32_1175_r0 : BitVec 32 := 0#32
  let v2660_r0 : BitVec 1 := Scalar.cmpi .sgt c3_i32_1172_r0 c0_i32_1175_r0
  let v2661_r0 : BitVec 32 := Scalar.extui v2660_r0
  let c0_i32_1176_r0 : BitVec 32 := 0#32
  let v2662_r0 : BitVec 1 := Scalar.cmpi .slt c3_i32_1172_r0 c0_i32_1176_r0
  let v2663_r0 : BitVec 32 := Scalar.extui v2662_r0
  let v2664_r0 : BitVec 32 := Scalar.subi v2661_r0 v2663_r0
  let v2665_r0 : BitVec 1 := Scalar.cmpi .ne v2659_r0 v2664_r0
  let v2666_r0 : BitVec 32 := Scalar.remsi v1560_r0 c3_i32_1172_r0
  let c0_i32_1177_r0 : BitVec 32 := 0#32
  let v2667_r0 : BitVec 1 := Scalar.cmpi .ne v2666_r0 c0_i32_1177_r0
  let v2668_r0 : BitVec 1 := Scalar.andi v2665_r0 v2667_r0
  let v2654_r0 : BitVec 32 := Scalar.divsi v1560_r0 c3_i32_1172_r0
  let c1_i32_1178_r0 : BitVec 32 := 1#32
  let v2669_r0 : BitVec 32 := Scalar.subi v2654_r0 c1_i32_1178_r0
  let v2670_r0 : BitVec 32 := Scalar.select v2668_r0 v2669_r0 v2654_r0
  let v2671_r0 : Index := Scalar.indexCast v2670_r0
  let c0_i32_778_r0 : BitVec 32 := 0#32
  let v1562_r0 : BitVec 1 := Scalar.cmpi .sgt arg16_r0 c0_i32_778_r0
  let v1563_r0 : BitVec 32 := Scalar.extui v1562_r0
  let c0_i32_779_r0 : BitVec 32 := 0#32
  let v1564_r0 : BitVec 1 := Scalar.cmpi .slt arg16_r0 c0_i32_779_r0
  let v1565_r0 : BitVec 32 := Scalar.extui v1564_r0
  let v1566_r0 : BitVec 32 := Scalar.subi v1563_r0 v1565_r0
  let c3_i32_777_r0 : BitVec 32 := 3#32
  let c0_i32_780_r0 : BitVec 32 := 0#32
  let v1567_r0 : BitVec 1 := Scalar.cmpi .sgt c3_i32_777_r0 c0_i32_780_r0
  let v1568_r0 : BitVec 32 := Scalar.extui v1567_r0
  let c0_i32_781_r0 : BitVec 32 := 0#32
  let v1569_r0 : BitVec 1 := Scalar.cmpi .slt c3_i32_777_r0 c0_i32_781_r0
  let v1570_r0 : BitVec 32 := Scalar.extui v1569_r0
  let v1571_r0 : BitVec 32 := Scalar.subi v1568_r0 v1570_r0
  let v1572_r0 : BitVec 1 := Scalar.cmpi .ne v1566_r0 v1571_r0
  let v1573_r0 : BitVec 32 := Scalar.remsi arg16_r0 c3_i32_777_r0
  let c0_i32_782_r0 : BitVec 32 := 0#32
  let v1574_r0 : BitVec 1 := Scalar.cmpi .ne v1573_r0 c0_i32_782_r0
  let v1575_r0 : BitVec 1 := Scalar.andi v1572_r0 v1574_r0
  let v1561_r0 : BitVec 32 := Scalar.divsi arg16_r0 c3_i32_777_r0
  let c1_i32_783_r0 : BitVec 32 := 1#32
  let v1576_r0 : BitVec 32 := Scalar.subi v1561_r0 c1_i32_783_r0
  let v1577_r0 : BitVec 32 := Scalar.select v1575_r0 v1576_r0 v1561_r0
  let c4_i32_784_r0 : BitVec 32 := 4#32
  let c0_i32_785_r0 : BitVec 32 := 0#32
  let v1578_r0 : BitVec 1 := Scalar.cmpi .eq c4_i32_784_r0 c0_i32_785_r0
  let c1_i32_786_r0 : BitVec 32 := 1#32
  let v1579_r0 : BitVec 32 := Scalar.select v1578_r0 c1_i32_786_r0 c4_i32_784_r0
  let v1580_r0 : BitVec 32 := Scalar.remsi arg16_r0 v1579_r0
  let c0_i32_788_r0 : BitVec 32 := 0#32
  let v1582_r0 : BitVec 1 := Scalar.cmpi .slt v1580_r0 c0_i32_788_r0
  let c0_i32_789_r0 : BitVec 32 := 0#32
  let v1583_r0 : BitVec 1 := Scalar.cmpi .slt v1579_r0 c0_i32_789_r0
  let v1584_r0 : BitVec 1 := Scalar.xori v1582_r0 v1583_r0
  let c0_i32_787_r0 : BitVec 32 := 0#32
  let v1581_r0 : BitVec 1 := Scalar.cmpi .ne v1580_r0 c0_i32_787_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v2672_r0 : Index := Scalar.indexCast v1588_r0
  let c0_1179_r0 : Index := 0#32
  let c3_i32_1165_r0 : BitVec 32 := 3#32
  let c0_i32_1166_r0 : BitVec 32 := 0#32
  let v2642_r0 : BitVec 1 := Scalar.cmpi .eq c3_i32_1165_r0 c0_i32_1166_r0
  let c1_i32_1167_r0 : BitVec 32 := 1#32
  let v2643_r0 : BitVec 32 := Scalar.select v2642_r0 c1_i32_1167_r0 c3_i32_1165_r0
  let v2644_r0 : BitVec 32 := Scalar.remsi v1560_r0 v2643_r0
  let c0_i32_1169_r0 : BitVec 32 := 0#32
  let v2646_r0 : BitVec 1 := Scalar.cmpi .slt v2644_r0 c0_i32_1169_r0
  let c0_i32_1170_r0 : BitVec 32 := 0#32
  let v2647_r0 : BitVec 1 := Scalar.cmpi .slt v2643_r0 c0_i32_1170_r0
  let v2648_r0 : BitVec 1 := Scalar.xori v2646_r0 v2647_r0
  let c0_i32_1168_r0 : BitVec 32 := 0#32
  let v2645_r0 : BitVec 1 := Scalar.cmpi .ne v2644_r0 c0_i32_1168_r0
  let v2649_r0 : BitVec 1 := Scalar.andi v2648_r0 v2645_r0
  let v2650_r0 : BitVec 32 := Scalar.addi v2644_r0 v2643_r0
  let v2651_r0 : BitVec 32 := Scalar.select v2649_r0 v2650_r0 v2644_r0
  let c128_i32_1171_r0 : BitVec 32 := 128#32
  let v2652_r0 : BitVec 32 := Scalar.muli v2651_r0 c128_i32_1171_r0
  let v2653_r0 : BitVec 32 := v2652_r0
  let v2673_r0 : Index := Scalar.indexCast v2653_r0
  ![v2671_r0.toNat, v2672_r0.toNat, 0, v2673_r0.toNat]
def k0_mult11 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1189_r0 : BitVec 32 := 3#32
  let c0_i32_1190_r0 : BitVec 32 := 0#32
  let v2716_r0 : BitVec 1 := Scalar.cmpi .eq c3_i32_1189_r0 c0_i32_1190_r0
  let c1_i32_1191_r0 : BitVec 32 := 1#32
  let v2717_r0 : BitVec 32 := Scalar.select v2716_r0 c1_i32_1191_r0 c3_i32_1189_r0
  let v2718_r0 : BitVec 32 := Scalar.remsi v1560_r0 v2717_r0
  let c0_i32_1193_r0 : BitVec 32 := 0#32
  let v2720_r0 : BitVec 1 := Scalar.cmpi .slt v2718_r0 c0_i32_1193_r0
  let c0_i32_1194_r0 : BitVec 32 := 0#32
  let v2721_r0 : BitVec 1 := Scalar.cmpi .slt v2717_r0 c0_i32_1194_r0
  let v2722_r0 : BitVec 1 := Scalar.xori v2720_r0 v2721_r0
  let c0_i32_1192_r0 : BitVec 32 := 0#32
  let v2719_r0 : BitVec 1 := Scalar.cmpi .ne v2718_r0 c0_i32_1192_r0
  let v2723_r0 : BitVec 1 := Scalar.andi v2722_r0 v2719_r0
  let v2724_r0 : BitVec 32 := Scalar.addi v2718_r0 v2717_r0
  let v2725_r0 : BitVec 32 := Scalar.select v2723_r0 v2724_r0 v2718_r0
  let c128_i32_1195_r0 : BitVec 32 := 128#32
  let v2726_r0 : BitVec 32 := Scalar.muli v2725_r0 c128_i32_1195_r0
  v2726_r0
def k0_mult12 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1213_r0 : BitVec 32 := 3#32
  let c0_i32_1214_r0 : BitVec 32 := 0#32
  let v2790_r0 : BitVec 1 := Scalar.cmpi .eq c3_i32_1213_r0 c0_i32_1214_r0
  let c1_i32_1215_r0 : BitVec 32 := 1#32
  let v2791_r0 : BitVec 32 := Scalar.select v2790_r0 c1_i32_1215_r0 c3_i32_1213_r0
  let v2792_r0 : BitVec 32 := Scalar.remsi v1560_r0 v2791_r0
  let c0_i32_1217_r0 : BitVec 32 := 0#32
  let v2794_r0 : BitVec 1 := Scalar.cmpi .slt v2792_r0 c0_i32_1217_r0
  let c0_i32_1218_r0 : BitVec 32 := 0#32
  let v2795_r0 : BitVec 1 := Scalar.cmpi .slt v2791_r0 c0_i32_1218_r0
  let v2796_r0 : BitVec 1 := Scalar.xori v2794_r0 v2795_r0
  let c0_i32_1216_r0 : BitVec 32 := 0#32
  let v2793_r0 : BitVec 1 := Scalar.cmpi .ne v2792_r0 c0_i32_1216_r0
  let v2797_r0 : BitVec 1 := Scalar.andi v2796_r0 v2793_r0
  let v2798_r0 : BitVec 32 := Scalar.addi v2792_r0 v2791_r0
  let v2799_r0 : BitVec 32 := Scalar.select v2797_r0 v2798_r0 v2792_r0
  let c128_i32_1219_r0 : BitVec 32 := 128#32
  let v2800_r0 : BitVec 32 := Scalar.muli v2799_r0 c128_i32_1219_r0
  v2800_r0
def k0_mult13 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1237_r0 : BitVec 32 := 3#32
  let c0_i32_1238_r0 : BitVec 32 := 0#32
  let v2864_r0 : BitVec 1 := Scalar.cmpi .eq c3_i32_1237_r0 c0_i32_1238_r0
  let c1_i32_1239_r0 : BitVec 32 := 1#32
  let v2865_r0 : BitVec 32 := Scalar.select v2864_r0 c1_i32_1239_r0 c3_i32_1237_r0
  let v2866_r0 : BitVec 32 := Scalar.remsi v1560_r0 v2865_r0
  let c0_i32_1241_r0 : BitVec 32 := 0#32
  let v2868_r0 : BitVec 1 := Scalar.cmpi .slt v2866_r0 c0_i32_1241_r0
  let c0_i32_1242_r0 : BitVec 32 := 0#32
  let v2869_r0 : BitVec 1 := Scalar.cmpi .slt v2865_r0 c0_i32_1242_r0
  let v2870_r0 : BitVec 1 := Scalar.xori v2868_r0 v2869_r0
  let c0_i32_1240_r0 : BitVec 32 := 0#32
  let v2867_r0 : BitVec 1 := Scalar.cmpi .ne v2866_r0 c0_i32_1240_r0
  let v2871_r0 : BitVec 1 := Scalar.andi v2870_r0 v2867_r0
  let v2872_r0 : BitVec 32 := Scalar.addi v2866_r0 v2865_r0
  let v2873_r0 : BitVec 32 := Scalar.select v2871_r0 v2872_r0 v2866_r0
  let c128_i32_1243_r0 : BitVec 32 := 128#32
  let v2874_r0 : BitVec 32 := Scalar.muli v2873_r0 c128_i32_1243_r0
  v2874_r0
def k0_mult14 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1261_r0 : BitVec 32 := 3#32
  let c0_i32_1262_r0 : BitVec 32 := 0#32
  let v2938_r0 : BitVec 1 := Scalar.cmpi .eq c3_i32_1261_r0 c0_i32_1262_r0
  let c1_i32_1263_r0 : BitVec 32 := 1#32
  let v2939_r0 : BitVec 32 := Scalar.select v2938_r0 c1_i32_1263_r0 c3_i32_1261_r0
  let v2940_r0 : BitVec 32 := Scalar.remsi v1560_r0 v2939_r0
  let c0_i32_1265_r0 : BitVec 32 := 0#32
  let v2942_r0 : BitVec 1 := Scalar.cmpi .slt v2940_r0 c0_i32_1265_r0
  let c0_i32_1266_r0 : BitVec 32 := 0#32
  let v2943_r0 : BitVec 1 := Scalar.cmpi .slt v2939_r0 c0_i32_1266_r0
  let v2944_r0 : BitVec 1 := Scalar.xori v2942_r0 v2943_r0
  let c0_i32_1264_r0 : BitVec 32 := 0#32
  let v2941_r0 : BitVec 1 := Scalar.cmpi .ne v2940_r0 c0_i32_1264_r0
  let v2945_r0 : BitVec 1 := Scalar.andi v2944_r0 v2941_r0
  let v2946_r0 : BitVec 32 := Scalar.addi v2940_r0 v2939_r0
  let v2947_r0 : BitVec 32 := Scalar.select v2945_r0 v2946_r0 v2940_r0
  let c128_i32_1267_r0 : BitVec 32 := 128#32
  let v2948_r0 : BitVec 32 := Scalar.muli v2947_r0 c128_i32_1267_r0
  v2948_r0
def k0_mult15 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1285_r0 : BitVec 32 := 3#32
  let c0_i32_1286_r0 : BitVec 32 := 0#32
  let v3012_r0 : BitVec 1 := Scalar.cmpi .eq c3_i32_1285_r0 c0_i32_1286_r0
  let c1_i32_1287_r0 : BitVec 32 := 1#32
  let v3013_r0 : BitVec 32 := Scalar.select v3012_r0 c1_i32_1287_r0 c3_i32_1285_r0
  let v3014_r0 : BitVec 32 := Scalar.remsi v1560_r0 v3013_r0
  let c0_i32_1289_r0 : BitVec 32 := 0#32
  let v3016_r0 : BitVec 1 := Scalar.cmpi .slt v3014_r0 c0_i32_1289_r0
  let c0_i32_1290_r0 : BitVec 32 := 0#32
  let v3017_r0 : BitVec 1 := Scalar.cmpi .slt v3013_r0 c0_i32_1290_r0
  let v3018_r0 : BitVec 1 := Scalar.xori v3016_r0 v3017_r0
  let c0_i32_1288_r0 : BitVec 32 := 0#32
  let v3015_r0 : BitVec 1 := Scalar.cmpi .ne v3014_r0 c0_i32_1288_r0
  let v3019_r0 : BitVec 1 := Scalar.andi v3018_r0 v3015_r0
  let v3020_r0 : BitVec 32 := Scalar.addi v3014_r0 v3013_r0
  let v3021_r0 : BitVec 32 := Scalar.select v3019_r0 v3020_r0 v3014_r0
  let c128_i32_1291_r0 : BitVec 32 := 128#32
  let v3022_r0 : BitVec 32 := Scalar.muli v3021_r0 c128_i32_1291_r0
  v3022_r0
def k0_off58 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let v3084_r0 : Index := Scalar.indexCast v1560_r0
  let c0_1308_r0 : Index := 0#32
  let c0_1309_r0 : Index := 0#32
  ![v3084_r0.toNat, 0, 0]
def k0_off59 (k0_t1 : Fin k0_t1_loop.trips) : Fin 3 → Nat :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let v3095_r0 : Index := Scalar.indexCast v1560_r0
  let c0_1313_r0 : Index := 0#32
  let c256_1314_r0 : Index := 256#32
  ![v3095_r0.toNat, 0, 256]
def k0_mult16 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c12_i32_763_r0 : BitVec 32 := 12#32
  let v1532_r0 : BitVec 1 := Scalar.cmpi .slt arg16_r0 c12_i32_763_r0
  let c3_i32_764_r0 : BitVec 32 := 3#32
  let c0_i32_765_r0 : BitVec 32 := 0#32
  let v1533_r0 : BitVec 1 := Scalar.cmpi .eq c3_i32_764_r0 c0_i32_765_r0
  let c1_i32_766_r0 : BitVec 32 := 1#32
  let v1534_r0 : BitVec 32 := Scalar.select v1533_r0 c1_i32_766_r0 c3_i32_764_r0
  let v1535_r0 : BitVec 32 := Scalar.remsi arg16_r0 v1534_r0
  let c0_i32_768_r0 : BitVec 32 := 0#32
  let v1537_r0 : BitVec 1 := Scalar.cmpi .slt v1535_r0 c0_i32_768_r0
  let c0_i32_769_r0 : BitVec 32 := 0#32
  let v1538_r0 : BitVec 1 := Scalar.cmpi .slt v1534_r0 c0_i32_769_r0
  let v1539_r0 : BitVec 1 := Scalar.xori v1537_r0 v1538_r0
  let c0_i32_767_r0 : BitVec 32 := 0#32
  let v1536_r0 : BitVec 1 := Scalar.cmpi .ne v1535_r0 c0_i32_767_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let c0_i32_771_r0 : BitVec 32 := 0#32
  let v1544_r0 : BitVec 1 := Scalar.cmpi .sgt arg16_r0 c0_i32_771_r0
  let v1545_r0 : BitVec 32 := Scalar.extui v1544_r0
  let c0_i32_772_r0 : BitVec 32 := 0#32
  let v1546_r0 : BitVec 1 := Scalar.cmpi .slt arg16_r0 c0_i32_772_r0
  let v1547_r0 : BitVec 32 := Scalar.extui v1546_r0
  let v1548_r0 : BitVec 32 := Scalar.subi v1545_r0 v1547_r0
  let c4_i32_770_r0 : BitVec 32 := 4#32
  let c0_i32_773_r0 : BitVec 32 := 0#32
  let v1549_r0 : BitVec 1 := Scalar.cmpi .sgt c4_i32_770_r0 c0_i32_773_r0
  let v1550_r0 : BitVec 32 := Scalar.extui v1549_r0
  let c0_i32_774_r0 : BitVec 32 := 0#32
  let v1551_r0 : BitVec 1 := Scalar.cmpi .slt c4_i32_770_r0 c0_i32_774_r0
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 c4_i32_770_r0
  let c0_i32_775_r0 : BitVec 32 := 0#32
  let v1556_r0 : BitVec 1 := Scalar.cmpi .ne v1555_r0 c0_i32_775_r0
  let v1557_r0 : BitVec 1 := Scalar.andi v1554_r0 v1556_r0
  let v1543_r0 : BitVec 32 := Scalar.divsi arg16_r0 c4_i32_770_r0
  let c1_i32_776_r0 : BitVec 32 := 1#32
  let v1558_r0 : BitVec 32 := Scalar.subi v1543_r0 c1_i32_776_r0
  let v1559_r0 : BitVec 32 := Scalar.select v1557_r0 v1558_r0 v1543_r0
  let v1560_r0 : BitVec 32 := Scalar.select v1532_r0 v1542_r0 v1559_r0
  let c3_i32_1320_r0 : BitVec 32 := 3#32
  let c0_i32_1321_r0 : BitVec 32 := 0#32
  let v3109_r0 : BitVec 1 := Scalar.cmpi .eq c3_i32_1320_r0 c0_i32_1321_r0
  let c1_i32_1322_r0 : BitVec 32 := 1#32
  let v3110_r0 : BitVec 32 := Scalar.select v3109_r0 c1_i32_1322_r0 c3_i32_1320_r0
  let v3111_r0 : BitVec 32 := Scalar.remsi v1560_r0 v3110_r0
  let c0_i32_1324_r0 : BitVec 32 := 0#32
  let v3113_r0 : BitVec 1 := Scalar.cmpi .slt v3111_r0 c0_i32_1324_r0
  let c0_i32_1325_r0 : BitVec 32 := 0#32
  let v3114_r0 : BitVec 1 := Scalar.cmpi .slt v3110_r0 c0_i32_1325_r0
  let v3115_r0 : BitVec 1 := Scalar.xori v3113_r0 v3114_r0
  let c0_i32_1323_r0 : BitVec 32 := 0#32
  let v3112_r0 : BitVec 1 := Scalar.cmpi .ne v3111_r0 c0_i32_1323_r0
  let v3116_r0 : BitVec 1 := Scalar.andi v3115_r0 v3112_r0
  let v3117_r0 : BitVec 32 := Scalar.addi v3111_r0 v3110_r0
  let v3118_r0 : BitVec 32 := Scalar.select v3116_r0 v3117_r0 v3111_r0
  let c128_i32_1326_r0 : BitVec 32 := 128#32
  let v3119_r0 : BitVec 32 := Scalar.muli v3118_r0 c128_i32_1326_r0
  v3119_r0
def k0_mult17 (k0_t1 : Fin k0_t1_loop.trips) : BitVec 32 :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c3_i32_821_r0 : BitVec 32 := 3#32
  let c0_i32_822_r0 : BitVec 32 := 0#32
  let v1651_r0 : BitVec 1 := Scalar.cmpi .eq c3_i32_821_r0 c0_i32_822_r0
  let c1_i32_823_r0 : BitVec 32 := 1#32
  let v1652_r0 : BitVec 32 := Scalar.select v1651_r0 c1_i32_823_r0 c3_i32_821_r0
  let v1653_r0 : BitVec 32 := Scalar.remsi v1649_r0 v1652_r0
  let c0_i32_825_r0 : BitVec 32 := 0#32
  let v1655_r0 : BitVec 1 := Scalar.cmpi .slt v1653_r0 c0_i32_825_r0
  let c0_i32_826_r0 : BitVec 32 := 0#32
  let v1656_r0 : BitVec 1 := Scalar.cmpi .slt v1652_r0 c0_i32_826_r0
  let v1657_r0 : BitVec 1 := Scalar.xori v1655_r0 v1656_r0
  let c0_i32_824_r0 : BitVec 32 := 0#32
  let v1654_r0 : BitVec 1 := Scalar.cmpi .ne v1653_r0 c0_i32_824_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let c0_i32_828_r0 : BitVec 32 := 0#32
  let v1662_r0 : BitVec 1 := Scalar.cmpi .sgt v1649_r0 c0_i32_828_r0
  let v1663_r0 : BitVec 32 := Scalar.extui v1662_r0
  let c0_i32_829_r0 : BitVec 32 := 0#32
  let v1664_r0 : BitVec 1 := Scalar.cmpi .slt v1649_r0 c0_i32_829_r0
  let v1665_r0 : BitVec 32 := Scalar.extui v1664_r0
  let v1666_r0 : BitVec 32 := Scalar.subi v1663_r0 v1665_r0
  let c4_i32_827_r0 : BitVec 32 := 4#32
  let c0_i32_830_r0 : BitVec 32 := 0#32
  let v1667_r0 : BitVec 1 := Scalar.cmpi .sgt c4_i32_827_r0 c0_i32_830_r0
  let v1668_r0 : BitVec 32 := Scalar.extui v1667_r0
  let c0_i32_831_r0 : BitVec 32 := 0#32
  let v1669_r0 : BitVec 1 := Scalar.cmpi .slt c4_i32_827_r0 c0_i32_831_r0
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 c4_i32_827_r0
  let c0_i32_832_r0 : BitVec 32 := 0#32
  let v1674_r0 : BitVec 1 := Scalar.cmpi .ne v1673_r0 c0_i32_832_r0
  let v1675_r0 : BitVec 1 := Scalar.andi v1672_r0 v1674_r0
  let v1661_r0 : BitVec 32 := Scalar.divsi v1649_r0 c4_i32_827_r0
  let c1_i32_833_r0 : BitVec 32 := 1#32
  let v1676_r0 : BitVec 32 := Scalar.subi v1661_r0 c1_i32_833_r0
  let v1677_r0 : BitVec 32 := Scalar.select v1675_r0 v1676_r0 v1661_r0
  let v1678_r0 : BitVec 32 := Scalar.select v1650_r0 v1660_r0 v1677_r0
  let c3_i32_1344_r0 : BitVec 32 := 3#32
  let c0_i32_1345_r0 : BitVec 32 := 0#32
  let v3183_r0 : BitVec 1 := Scalar.cmpi .eq c3_i32_1344_r0 c0_i32_1345_r0
  let c1_i32_1346_r0 : BitVec 32 := 1#32
  let v3184_r0 : BitVec 32 := Scalar.select v3183_r0 c1_i32_1346_r0 c3_i32_1344_r0
  let v3185_r0 : BitVec 32 := Scalar.remsi v1678_r0 v3184_r0
  let c0_i32_1348_r0 : BitVec 32 := 0#32
  let v3187_r0 : BitVec 1 := Scalar.cmpi .slt v3185_r0 c0_i32_1348_r0
  let c0_i32_1349_r0 : BitVec 32 := 0#32
  let v3188_r0 : BitVec 1 := Scalar.cmpi .slt v3184_r0 c0_i32_1349_r0
  let v3189_r0 : BitVec 1 := Scalar.xori v3187_r0 v3188_r0
  let c0_i32_1347_r0 : BitVec 32 := 0#32
  let v3186_r0 : BitVec 1 := Scalar.cmpi .ne v3185_r0 c0_i32_1347_r0
  let v3190_r0 : BitVec 1 := Scalar.andi v3189_r0 v3186_r0
  let v3191_r0 : BitVec 32 := Scalar.addi v3185_r0 v3184_r0
  let v3192_r0 : BitVec 32 := Scalar.select v3190_r0 v3191_r0 v3185_r0
  let c128_i32_1350_r0 : BitVec 32 := 128#32
  let v3193_r0 : BitVec 32 := Scalar.muli v3192_r0 c128_i32_1350_r0
  v3193_r0
def k0_off60 (k0_t1 : Fin k0_t1_loop.trips) : Fin 4 → Nat :=
  let c0_i32_563_r0 : BitVec 32 := 0#32
  let c1_i32_564_r0 : BitVec 32 := 1#32
  let arg16_r0 : BitVec 32 := Scf.iv c0_i32_563_r0 c1_i32_564_r0 k0_t1
  let c1_i32_819_r0 : BitVec 32 := 1#32
  let v1648_r0 : BitVec 32 := Scalar.addi arg16_r0 c1_i32_819_r0
  let c35_i32_r0 : BitVec 32 := 35#32
  let v1649_r0 : BitVec 32 := Scalar.minsi v1648_r0 c35_i32_r0
  let c12_i32_820_r0 : BitVec 32 := 12#32
  let v1650_r0 : BitVec 1 := Scalar.cmpi .slt v1649_r0 c12_i32_820_r0
  let c3_i32_821_r0 : BitVec 32 := 3#32
  let c0_i32_822_r0 : BitVec 32 := 0#32
  let v1651_r0 : BitVec 1 := Scalar.cmpi .eq c3_i32_821_r0 c0_i32_822_r0
  let c1_i32_823_r0 : BitVec 32 := 1#32
  let v1652_r0 : BitVec 32 := Scalar.select v1651_r0 c1_i32_823_r0 c3_i32_821_r0
  let v1653_r0 : BitVec 32 := Scalar.remsi v1649_r0 v1652_r0
  let c0_i32_825_r0 : BitVec 32 := 0#32
  let v1655_r0 : BitVec 1 := Scalar.cmpi .slt v1653_r0 c0_i32_825_r0
  let c0_i32_826_r0 : BitVec 32 := 0#32
  let v1656_r0 : BitVec 1 := Scalar.cmpi .slt v1652_r0 c0_i32_826_r0
  let v1657_r0 : BitVec 1 := Scalar.xori v1655_r0 v1656_r0
  let c0_i32_824_r0 : BitVec 32 := 0#32
  let v1654_r0 : BitVec 1 := Scalar.cmpi .ne v1653_r0 c0_i32_824_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let c0_i32_828_r0 : BitVec 32 := 0#32
  let v1662_r0 : BitVec 1 := Scalar.cmpi .sgt v1649_r0 c0_i32_828_r0
  let v1663_r0 : BitVec 32 := Scalar.extui v1662_r0
  let c0_i32_829_r0 : BitVec 32 := 0#32
  let v1664_r0 : BitVec 1 := Scalar.cmpi .slt v1649_r0 c0_i32_829_r0
  let v1665_r0 : BitVec 32 := Scalar.extui v1664_r0
  let v1666_r0 : BitVec 32 := Scalar.subi v1663_r0 v1665_r0
  let c4_i32_827_r0 : BitVec 32 := 4#32
  let c0_i32_830_r0 : BitVec 32 := 0#32
  let v1667_r0 : BitVec 1 := Scalar.cmpi .sgt c4_i32_827_r0 c0_i32_830_r0
  let v1668_r0 : BitVec 32 := Scalar.extui v1667_r0
  let c0_i32_831_r0 : BitVec 32 := 0#32
  let v1669_r0 : BitVec 1 := Scalar.cmpi .slt c4_i32_827_r0 c0_i32_831_r0
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 c4_i32_827_r0
  let c0_i32_832_r0 : BitVec 32 := 0#32
  let v1674_r0 : BitVec 1 := Scalar.cmpi .ne v1673_r0 c0_i32_832_r0
  let v1675_r0 : BitVec 1 := Scalar.andi v1672_r0 v1674_r0
  let v1661_r0 : BitVec 32 := Scalar.divsi v1649_r0 c4_i32_827_r0
  let c1_i32_833_r0 : BitVec 32 := 1#32
  let v1676_r0 : BitVec 32 := Scalar.subi v1661_r0 c1_i32_833_r0
  let v1677_r0 : BitVec 32 := Scalar.select v1675_r0 v1676_r0 v1661_r0
  let v1678_r0 : BitVec 32 := Scalar.select v1650_r0 v1660_r0 v1677_r0
  let c0_i32_1352_r0 : BitVec 32 := 0#32
  let v3196_r0 : BitVec 1 := Scalar.cmpi .sgt v1678_r0 c0_i32_1352_r0
  let v3197_r0 : BitVec 32 := Scalar.extui v3196_r0
  let c0_i32_1353_r0 : BitVec 32 := 0#32
  let v3198_r0 : BitVec 1 := Scalar.cmpi .slt v1678_r0 c0_i32_1353_r0
  let v3199_r0 : BitVec 32 := Scalar.extui v3198_r0
  let v3200_r0 : BitVec 32 := Scalar.subi v3197_r0 v3199_r0
  let c3_i32_1351_r0 : BitVec 32 := 3#32
  let c0_i32_1354_r0 : BitVec 32 := 0#32
  let v3201_r0 : BitVec 1 := Scalar.cmpi .sgt c3_i32_1351_r0 c0_i32_1354_r0
  let v3202_r0 : BitVec 32 := Scalar.extui v3201_r0
  let c0_i32_1355_r0 : BitVec 32 := 0#32
  let v3203_r0 : BitVec 1 := Scalar.cmpi .slt c3_i32_1351_r0 c0_i32_1355_r0
  let v3204_r0 : BitVec 32 := Scalar.extui v3203_r0
  let v3205_r0 : BitVec 32 := Scalar.subi v3202_r0 v3204_r0
  let v3206_r0 : BitVec 1 := Scalar.cmpi .ne v3200_r0 v3205_r0
  let v3207_r0 : BitVec 32 := Scalar.remsi v1678_r0 c3_i32_1351_r0
  let c0_i32_1356_r0 : BitVec 32 := 0#32
  let v3208_r0 : BitVec 1 := Scalar.cmpi .ne v3207_r0 c0_i32_1356_r0
  let v3209_r0 : BitVec 1 := Scalar.andi v3206_r0 v3208_r0
  let v3195_r0 : BitVec 32 := Scalar.divsi v1678_r0 c3_i32_1351_r0
  let c1_i32_1357_r0 : BitVec 32 := 1#32
  let v3210_r0 : BitVec 32 := Scalar.subi v3195_r0 c1_i32_1357_r0
  let v3211_r0 : BitVec 32 := Scalar.select v3209_r0 v3210_r0 v3195_r0
  let v3212_r0 : Index := Scalar.indexCast v3211_r0
  let c0_i32_835_r0 : BitVec 32 := 0#32
  let v1680_r0 : BitVec 1 := Scalar.cmpi .sgt v1649_r0 c0_i32_835_r0
  let v1681_r0 : BitVec 32 := Scalar.extui v1680_r0
  let c0_i32_836_r0 : BitVec 32 := 0#32
  let v1682_r0 : BitVec 1 := Scalar.cmpi .slt v1649_r0 c0_i32_836_r0
  let v1683_r0 : BitVec 32 := Scalar.extui v1682_r0
  let v1684_r0 : BitVec 32 := Scalar.subi v1681_r0 v1683_r0
  let c3_i32_834_r0 : BitVec 32 := 3#32
  let c0_i32_837_r0 : BitVec 32 := 0#32
  let v1685_r0 : BitVec 1 := Scalar.cmpi .sgt c3_i32_834_r0 c0_i32_837_r0
  let v1686_r0 : BitVec 32 := Scalar.extui v1685_r0
  let c0_i32_838_r0 : BitVec 32 := 0#32
  let v1687_r0 : BitVec 1 := Scalar.cmpi .slt c3_i32_834_r0 c0_i32_838_r0
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 c3_i32_834_r0
  let c0_i32_839_r0 : BitVec 32 := 0#32
  let v1692_r0 : BitVec 1 := Scalar.cmpi .ne v1691_r0 c0_i32_839_r0
  let v1693_r0 : BitVec 1 := Scalar.andi v1690_r0 v1692_r0
  let v1679_r0 : BitVec 32 := Scalar.divsi v1649_r0 c3_i32_834_r0
  let c1_i32_840_r0 : BitVec 32 := 1#32
  let v1694_r0 : BitVec 32 := Scalar.subi v1679_r0 c1_i32_840_r0
  let v1695_r0 : BitVec 32 := Scalar.select v1693_r0 v1694_r0 v1679_r0
  let c4_i32_841_r0 : BitVec 32 := 4#32
  let c0_i32_842_r0 : BitVec 32 := 0#32
  let v1696_r0 : BitVec 1 := Scalar.cmpi .eq c4_i32_841_r0 c0_i32_842_r0
  let c1_i32_843_r0 : BitVec 32 := 1#32
  let v1697_r0 : BitVec 32 := Scalar.select v1696_r0 c1_i32_843_r0 c4_i32_841_r0
  let v1698_r0 : BitVec 32 := Scalar.remsi v1649_r0 v1697_r0
  let c0_i32_845_r0 : BitVec 32 := 0#32
  let v1700_r0 : BitVec 1 := Scalar.cmpi .slt v1698_r0 c0_i32_845_r0
  let c0_i32_846_r0 : BitVec 32 := 0#32
  let v1701_r0 : BitVec 1 := Scalar.cmpi .slt v1697_r0 c0_i32_846_r0
  let v1702_r0 : BitVec 1 := Scalar.xori v1700_r0 v1701_r0
  let c0_i32_844_r0 : BitVec 32 := 0#32
  let v1699_r0 : BitVec 1 := Scalar.cmpi .ne v1698_r0 c0_i32_844_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  let v3213_r0 : Index := Scalar.indexCast v1706_r0
  let c0_1358_r0 : Index := 0#32
  let c3_i32_1344_r0 : BitVec 32 := 3#32
  let c0_i32_1345_r0 : BitVec 32 := 0#32
  let v3183_r0 : BitVec 1 := Scalar.cmpi .eq c3_i32_1344_r0 c0_i32_1345_r0
  let c1_i32_1346_r0 : BitVec 32 := 1#32
  let v3184_r0 : BitVec 32 := Scalar.select v3183_r0 c1_i32_1346_r0 c3_i32_1344_r0
  let v3185_r0 : BitVec 32 := Scalar.remsi v1678_r0 v3184_r0
  let c0_i32_1348_r0 : BitVec 32 := 0#32
  let v3187_r0 : BitVec 1 := Scalar.cmpi .slt v3185_r0 c0_i32_1348_r0
  let c0_i32_1349_r0 : BitVec 32 := 0#32
  let v3188_r0 : BitVec 1 := Scalar.cmpi .slt v3184_r0 c0_i32_1349_r0
  let v3189_r0 : BitVec 1 := Scalar.xori v3187_r0 v3188_r0
  let c0_i32_1347_r0 : BitVec 32 := 0#32
  let v3186_r0 : BitVec 1 := Scalar.cmpi .ne v3185_r0 c0_i32_1347_r0
  let v3190_r0 : BitVec 1 := Scalar.andi v3189_r0 v3186_r0
  let v3191_r0 : BitVec 32 := Scalar.addi v3185_r0 v3184_r0
  let v3192_r0 : BitVec 32 := Scalar.select v3190_r0 v3191_r0 v3185_r0
  let c128_i32_1350_r0 : BitVec 32 := 128#32
  let v3193_r0 : BitVec 32 := Scalar.muli v3192_r0 c128_i32_1350_r0
  let v3194_r0 : BitVec 32 := v3193_r0
  let v3214_r0 : Index := Scalar.indexCast v3194_r0
  ![v3212_r0.toNat, v3213_r0.toNat, 0, v3214_r0.toNat]
def k0_mult18 : BitVec 32 :=
  let c7168_i32_r0 : BitVec 32 := 7168#32
  c7168_i32_r0
def k0_mult19 : BitVec 32 :=
  let c0_i32_585_r0 : BitVec 32 := 0#32
  c0_i32_585_r0
def k0_mult20 : BitVec 32 :=
  let c8192_i32_r0 : BitVec 32 := 8192#32
  c8192_i32_r0
def k0_mult21 : BitVec 32 :=
  let c0_i32_716_r0 : BitVec 32 := 0#32
  c0_i32_716_r0
def k0_mult22 : BitVec 32 :=
  let c1024_i32_r0 : BitVec 32 := 1024#32
  c1024_i32_r0
def k0_mult23 : BitVec 32 :=
  let c2048_i32_r0 : BitVec 32 := 2048#32
  c2048_i32_r0
def k0_mult24 : BitVec 32 :=
  let c3072_i32_r0 : BitVec 32 := 3072#32
  c3072_i32_r0
def k0_mult25 : BitVec 32 :=
  let c4096_i32_r0 : BitVec 32 := 4096#32
  c4096_i32_r0
def k0_mult26 : BitVec 32 :=
  let c5120_i32_r0 : BitVec 32 := 5120#32
  c5120_i32_r0
def k0_mult27 : BitVec 32 :=
  let c6144_i32_r0 : BitVec 32 := 6144#32
  c6144_i32_r0
def k0_mult28 : BitVec 32 :=
  let c7168_i32_751_r0 : BitVec 32 := 7168#32
  c7168_i32_751_r0
def k0_mult29 : BitVec 32 :=
  let c8192_i32_757_r0 : BitVec 32 := 8192#32
  c8192_i32_757_r0
-- ==== ReferenceIdeal.lean ====
abbrev S96x1x7168 : Shape := ⟨3, ![96, 1, 7168]⟩
abbrev S7168x1152 : Shape := ⟨2, ![7168, 1152]⟩
abbrev S1152 : Shape := ⟨1, ![1152]⟩
abbrev S9216 : Shape := ⟨1, ![9216]⟩
abbrev S8 : Shape := ⟨1, ![8]⟩
abbrev S_ : Shape := ⟨0, ![]⟩
abbrev S96x1 : Shape := ⟨2, ![96, 1]⟩
abbrev S96x1x1 : Shape := ⟨3, ![96, 1, 1]⟩
abbrev S96x1x1x1 : Shape := ⟨4, ![96, 1, 1, 1]⟩
abbrev S7168x1x1152 : Shape := ⟨3, ![7168, 1, 1152]⟩
abbrev S1x8x1 : Shape := ⟨3, ![1, 8, 1]⟩
abbrev S7168x8x1152 : Shape := ⟨3, ![7168, 8, 1152]⟩
abbrev S1x1152 : Shape := ⟨2, ![1, 1152]⟩
abbrev S8x1 : Shape := ⟨2, ![8, 1]⟩
abbrev S8x1152 : Shape := ⟨2, ![8, 1152]⟩
abbrev S1152x8 : Shape := ⟨2, ![1152, 8]⟩
abbrev S96x1x8x1152 : Shape := ⟨4, ![96, 1, 8, 1152]⟩
abbrev S1x1x8x1152 : Shape := ⟨4, ![1, 1, 8, 1152]⟩
abbrev S96x1x1152x8 : Shape := ⟨4, ![96, 1, 1152, 8]⟩
abbrev S96x1x9216 : Shape := ⟨3, ![96, 1, 9216]⟩

abbrev nBuf : Space → Nat
  | .hbm => 42
  | .vmem => 0
  | .smem => 0
  | _ => 0

abbrev bufTy : (tb : Table) → Fin (tcTables nBuf tb) → BufTy
  | .hbm, ⟨0, _⟩ => ⟨S96x1x7168, .bf16⟩
  | .hbm, ⟨1, _⟩ => ⟨S7168x1152, .i32⟩
  | .hbm, ⟨2, _⟩ => ⟨S1152, .i32⟩
  | .hbm, ⟨3, _⟩ => ⟨S9216, .f32⟩
  | .hbm, ⟨4, _⟩ => ⟨S8, .i32⟩
  | .hbm, ⟨5, _⟩ => ⟨S96x1x7168, .f32⟩
  | .hbm, ⟨6, _⟩ => ⟨S_, .f32⟩
  | .hbm, ⟨7, _⟩ => ⟨S96x1, .f32⟩
  | .hbm, ⟨8, _⟩ => ⟨S96x1x1, .f32⟩
  | .hbm, ⟨9, _⟩ => ⟨S96x1x1x1, .f32⟩
  | .hbm, ⟨10, _⟩ => ⟨S7168x1x1152, .i32⟩
  | .hbm, ⟨11, _⟩ => ⟨S1x8x1, .i32⟩
  | .hbm, ⟨12, _⟩ => ⟨S7168x8x1152, .i32⟩
  | .hbm, ⟨13, _⟩ => ⟨S7168x8x1152, .i32⟩
  | .hbm, ⟨14, _⟩ => ⟨S7168x8x1152, .i32⟩
  | .hbm, ⟨15, _⟩ => ⟨S_, .i32⟩
  | .hbm, ⟨16, _⟩ => ⟨S7168x8x1152, .i32⟩
  | .hbm, ⟨17, _⟩ => ⟨S7168x8x1152, .i32⟩
  | .hbm, ⟨18, _⟩ => ⟨S7168x8x1152, .bf16⟩
  | .hbm, ⟨19, _⟩ => ⟨S1x1152, .i32⟩
  | .hbm, ⟨20, _⟩ => ⟨S8x1, .i32⟩
  | .hbm, ⟨21, _⟩ => ⟨S8x1152, .i32⟩
  | .hbm, ⟨22, _⟩ => ⟨S8x1152, .i32⟩
  | .hbm, ⟨23, _⟩ => ⟨S8x1152, .i32⟩
  | .hbm, ⟨24, _⟩ => ⟨S_, .i32⟩
  | .hbm, ⟨25, _⟩ => ⟨S8x1152, .i32⟩
  | .hbm, ⟨26, _⟩ => ⟨S8x1152, .i32⟩
  | .hbm, ⟨27, _⟩ => ⟨S8x1152, .f32⟩
  | .hbm, ⟨28, _⟩ => ⟨S1152x8, .f32⟩
  | .hbm, ⟨29, _⟩ => ⟨S8x1152, .f32⟩
  | .hbm, ⟨30, _⟩ => ⟨S96x1x8x1152, .f32⟩
  | .hbm, ⟨31, _⟩ => ⟨S1x1x8x1152, .f32⟩
  | .hbm, ⟨32, _⟩ => ⟨S96x1x8x1152, .f32⟩
  | .hbm, ⟨33, _⟩ => ⟨S96x1x8x1152, .f32⟩
  | .hbm, ⟨34, _⟩ => ⟨S96x1x8x1152, .f32⟩
  | .hbm, ⟨35, _⟩ => ⟨S96x1x8x1152, .f32⟩
  | .hbm, ⟨36, _⟩ => ⟨S1x1x8x1152, .f32⟩
  | .hbm, ⟨37, _⟩ => ⟨S96x1x8x1152, .f32⟩
  | .hbm, ⟨38, _⟩ => ⟨S96x1x8x1152, .f32⟩
  | .hbm, ⟨39, _⟩ => ⟨S96x1x1152x8, .f32⟩
  | .hbm, ⟨40, _⟩ => ⟨S96x1x9216, .f32⟩
  | .hbm, ⟨41, _⟩ => ⟨S96x1x9216, .bf16⟩
  | _, _ => ⟨S96x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.Schedule.lean ====
/- The order in which the kernel's 36 trips visit the pairs (block of columns, slice of the contraction): the first
   twelve go over the first slab's three blocks slice by slice, the others block by block. -/
module

public import Mathlib.Data.Fin.VecNotation

@[expose] public section

namespace Cert.Schedule

/-- The block of columns trip `c` works on. -/
def bi (c : Nat) : Nat := if c < 12 then c % 3 else c / 4
/-- The slice of the contraction trip `c` works on. -/
def ki (c : Nat) : Nat := if c < 12 then c / 3 else c % 4
/-- The trip after `c`, the last one's being itself. -/
def cn (c : Nat) : Nat := min (c + 1) 35
/-- The trip's number among those that finish a block's rows. -/
def ec (c : Nat) : Nat := c - 12

end Cert.Schedule
-- ==== Proof.Kernel.Offsets.lean ====
/- What the counted loop's chains over the trip come to: which block of columns and which slice of the contraction a
   trip works on, where its loads and stores lie, and when its conditionals hold. -/
module

public import proofs.«01_k».proof.Proof.Gen.Kernel
public import proofs.«01_k».proof.Proof.Schedule

@[expose] public section

set_option Elab.async false

namespace Cert.Kernel.Hand

open Cert.Kernel Cert.Schedule Idealize.ShloMosaic Idealize.SL.Sem

theorem off1 (t : Fin k0_t1_loop.trips) : k0_off1 t = ![bi (cn t.val) / 3, ki (cn t.val)] := by
  revert t; decide +kernel
theorem off2 (t : Fin k0_t1_loop.trips) : k0_off2 t = ![bi (cn t.val) / 3, ki (cn t.val), 0, 0] := by
  revert t; decide +kernel
theorem off3 (t : Fin k0_t1_loop.trips) : k0_off3 t = ![ki (cn t.val) * 1792, bi (cn t.val) / 3 * 384] := by
  revert t; decide +kernel
theorem off4 (t : Fin k0_t1_loop.trips) : k0_off4 t = ![ki t.val, 0, 0] := by
  revert t; decide +kernel
theorem off5 (t : Fin k0_t1_loop.trips) : k0_off5 t = ![ki t.val, 0, 128] := by
  revert t; decide +kernel
theorem off6 (t : Fin k0_t1_loop.trips) : k0_off6 t = ![ki t.val, 0, 256] := by
  revert t; decide +kernel
theorem off7 (t : Fin k0_t1_loop.trips) : k0_off7 t = ![ki t.val, 0, 384] := by
  revert t; decide +kernel
theorem off8 (t : Fin k0_t1_loop.trips) : k0_off8 t = ![ki t.val, 0, 512] := by
  revert t; decide +kernel
theorem off9 (t : Fin k0_t1_loop.trips) : k0_off9 t = ![ki t.val, 0, 640] := by
  revert t; decide +kernel
theorem off10 (t : Fin k0_t1_loop.trips) : k0_off10 t = ![ki t.val, 0, 768] := by
  revert t; decide +kernel
theorem off11 (t : Fin k0_t1_loop.trips) : k0_off11 t = ![ki t.val, 0, 896] := by
  revert t; decide +kernel
theorem off12 (t : Fin k0_t1_loop.trips) : k0_off12 t = ![ki t.val, 0, 1024] := by
  revert t; decide +kernel
theorem off13 (t : Fin k0_t1_loop.trips) : k0_off13 t = ![ki t.val, 0, 1152] := by
  revert t; decide +kernel
theorem off14 (t : Fin k0_t1_loop.trips) : k0_off14 t = ![ki t.val, 0, 1280] := by
  revert t; decide +kernel
theorem off15 (t : Fin k0_t1_loop.trips) : k0_off15 t = ![ki t.val, 0, 1408] := by
  revert t; decide +kernel
theorem off16 (t : Fin k0_t1_loop.trips) : k0_off16 t = ![ki t.val, 0, 1536] := by
  revert t; decide +kernel
theorem off17 (t : Fin k0_t1_loop.trips) : k0_off17 t = ![ki t.val, 0, 1664] := by
  revert t; decide +kernel
theorem off18 (t : Fin k0_t1_loop.trips) : k0_off18 t = ![ki (cn t.val)] := by
  revert t; decide +kernel
theorem off19 (t : Fin k0_t1_loop.trips) : k0_off19 t = ![ki (cn t.val), 0, 0] := by
  revert t; decide +kernel
theorem off20 (t : Fin k0_t1_loop.trips) : k0_off20 t = ![0, ki (cn t.val) * 1792] := by
  revert t; decide +kernel
theorem off21 (t : Fin k0_t1_loop.trips) (h : k0_cond4 t = 1#1) : k0_off21 t = ![ec t.val / 3 - 1] := by
  revert t; decide +kernel
theorem off22 (t : Fin k0_t1_loop.trips) (h : k0_cond4 t = 1#1) : k0_off22 t = ![0, (ec t.val / 3 - 1) * 1024] := by
  revert t; decide +kernel
theorem off23 (t : Fin k0_t1_loop.trips) (h : k0_cond4 t = 1#1) : k0_off23 t = ![ec t.val / 3 - 1, 0, 0] := by
  revert t; decide +kernel
theorem off24 (t : Fin k0_t1_loop.trips) : k0_off24 t = ![ki t.val, 0, 0] := by
  revert t; decide +kernel
theorem off25 (t : Fin k0_t1_loop.trips) : k0_off25 t = ![bi t.val / 3, ki t.val, 256, bi t.val % 3 * 128] := by
  revert t; decide +kernel
theorem off26 (t : Fin k0_t1_loop.trips) : k0_off26 t = ![ki t.val, 0, 256] := by
  revert t; decide +kernel
theorem off27 (t : Fin k0_t1_loop.trips) : k0_off27 t = ![bi t.val / 3, ki t.val, 512, bi t.val % 3 * 128] := by
  revert t; decide +kernel
theorem off28 (t : Fin k0_t1_loop.trips) : k0_off28 t = ![ki t.val, 0, 512] := by
  revert t; decide +kernel
theorem off29 (t : Fin k0_t1_loop.trips) : k0_off29 t = ![bi t.val / 3, ki t.val, 768, bi t.val % 3 * 128] := by
  revert t; decide +kernel
theorem off30 (t : Fin k0_t1_loop.trips) : k0_off30 t = ![bi (t.val - 1), 0, 512] := by
  revert t; decide +kernel
theorem off31 (t : Fin k0_t1_loop.trips) : k0_off31 t = ![bi (t.val - 1), 0, 768] := by
  revert t; decide +kernel
theorem off32 (t : Fin k0_t1_loop.trips) : k0_off32 t = ![ki t.val, 0, 768] := by
  revert t; decide +kernel
theorem off33 (t : Fin k0_t1_loop.trips) : k0_off33 t = ![bi t.val / 3, ki t.val, 1024, bi t.val % 3 * 128] := by
  revert t; decide +kernel
theorem off34 (t : Fin k0_t1_loop.trips) : k0_off34 t = ![ki t.val, 0, 1024] := by
  revert t; decide +kernel
theorem off35 (t : Fin k0_t1_loop.trips) : k0_off35 t = ![bi t.val / 3, ki t.val, 1280, bi t.val % 3 * 128] := by
  revert t; decide +kernel
theorem off36 (t : Fin k0_t1_loop.trips) : k0_off36 t = ![ec t.val / 3, 0] := by
  revert t; decide +kernel
theorem off37 (t : Fin k0_t1_loop.trips) : k0_off37 t = ![ec t.val % 3 * 32, 0] := by
  revert t; decide +kernel
theorem off38 (t : Fin k0_t1_loop.trips) : k0_off38 t = ![ec t.val / 3, ec t.val % 3 * 32, 0] := by
  revert t; decide +kernel
theorem off39 (t : Fin k0_t1_loop.trips) : k0_off39 t = ![ec t.val / 3, 0, 0] := by
  revert t; decide +kernel
theorem off40 (t : Fin k0_t1_loop.trips) : k0_off40 t = ![ec t.val / 3, ec t.val % 3 * 32, 512] := by
  revert t; decide +kernel
theorem off41 (t : Fin k0_t1_loop.trips) : k0_off41 t = ![ec t.val / 3, 1, 0] := by
  revert t; decide +kernel
theorem off42 (t : Fin k0_t1_loop.trips) : k0_off42 t = ![ec t.val / 3, ec t.val % 3 * 32, 128] := by
  revert t; decide +kernel
theorem off43 (t : Fin k0_t1_loop.trips) : k0_off43 t = ![ec t.val / 3, 2, 0] := by
  revert t; decide +kernel
theorem off44 (t : Fin k0_t1_loop.trips) : k0_off44 t = ![ec t.val / 3, ec t.val % 3 * 32, 640] := by
  revert t; decide +kernel
theorem off45 (t : Fin k0_t1_loop.trips) : k0_off45 t = ![ec t.val / 3, 3, 0] := by
  revert t; decide +kernel
theorem off46 (t : Fin k0_t1_loop.trips) : k0_off46 t = ![ec t.val / 3, ec t.val % 3 * 32, 256] := by
  revert t; decide +kernel
theorem off47 (t : Fin k0_t1_loop.trips) : k0_off47 t = ![ec t.val / 3, 4, 0] := by
  revert t; decide +kernel
theorem off48 (t : Fin k0_t1_loop.trips) : k0_off48 t = ![ec t.val / 3, ec t.val % 3 * 32, 768] := by
  revert t; decide +kernel
theorem off49 (t : Fin k0_t1_loop.trips) : k0_off49 t = ![ec t.val / 3, 5, 0] := by
  revert t; decide +kernel
theorem off50 (t : Fin k0_t1_loop.trips) : k0_off50 t = ![ec t.val / 3, ec t.val % 3 * 32, 384] := by
  revert t; decide +kernel
theorem off51 (t : Fin k0_t1_loop.trips) : k0_off51 t = ![ec t.val / 3, 6, 0] := by
  revert t; decide +kernel
theorem off52 (t : Fin k0_t1_loop.trips) : k0_off52 t = ![ec t.val / 3, ec t.val % 3 * 32, 896] := by
  revert t; decide +kernel
theorem off53 (t : Fin k0_t1_loop.trips) : k0_off53 t = ![ec t.val / 3, 7, 0] := by
  revert t; decide +kernel
theorem off54 (t : Fin k0_t1_loop.trips) : k0_off54 t = ![ki t.val, 0, 1280] := by
  revert t; decide +kernel
theorem off55 (t : Fin k0_t1_loop.trips) : k0_off55 t = ![bi t.val / 3, ki t.val, 1536, bi t.val % 3 * 128] := by
  revert t; decide +kernel
theorem off56 (t : Fin k0_t1_loop.trips) : k0_off56 t = ![ki t.val, 0, 1536] := by
  revert t; decide +kernel
theorem off57 (t : Fin k0_t1_loop.trips) : k0_off57 t = ![bi t.val / 3, ki t.val, 0, bi t.val % 3 * 128] := by
  revert t; decide +kernel
theorem off58 (t : Fin k0_t1_loop.trips) : k0_off58 t = ![bi t.val, 0, 0] := by
  revert t; decide +kernel
theorem off59 (t : Fin k0_t1_loop.trips) : k0_off59 t = ![bi t.val, 0, 256] := by
  revert t; decide +kernel
theorem off60 (t : Fin k0_t1_loop.trips) : k0_off60 t = ![bi (cn t.val) / 3, ki (cn t.val), 0, bi (cn t.val) % 3 * 128] := by
  revert t; decide +kernel
theorem cond1 (t : Fin k0_t1_loop.trips) : k0_cond1 t = 1#1 ↔ t.val + 1 < 36 ∧ bi (cn t.val) % 3 = 0 := by
  revert t; decide +kernel
theorem cond2 (t : Fin k0_t1_loop.trips) : k0_cond2 t = 1#1 ↔ t.val < 12 ∧ t.val % 3 = 0 := by
  revert t; decide +kernel
theorem cond3 (t : Fin k0_t1_loop.trips) : k0_cond3 t = 1#1 ↔ t.val + 1 < 12 ∧ t.val % 3 = 2 := by
  revert t; decide +kernel
theorem cond4 (t : Fin k0_t1_loop.trips) : k0_cond4 t = 1#1 ↔ 0 < ec t.val ∧ ec t.val % 3 = 0 := by
  revert t; decide +kernel

end Cert.Kernel.Hand
-- ==== Proof.Kernel.Base.lean ====
module

public import proofs.«01_k».proof.Proof.Gen.Kernel.Loops
public import proofs.«01_k».proof.Proof.Gen.Kernel.Launch
public import proofs.«01_k».proof.Proof.Kernel.Offsets
public import Idealize.ShloMosaic.Lib.Pipeline.FrameBody
public import Idealize.ShloMosaic.Lib.Mxu.Lemmas
public import Idealize.ShloMosaic.Lib.Tactic

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev M0 : Memref sig .tc .hbm S96x7168 .bf16 := Memref.whole main_v0
abbrev M1 : Memref sig .tc .hbm S7168x1152 .i32 := Memref.whole main_arg1
abbrev M2 : Memref sig .tc .hbm S9x128 .i32 := Memref.whole main_v1
abbrev M3 : Memref sig .tc .hbm S9x8x128 .f32 := Memref.whole main_v2
abbrev M4 : Memref sig .tc .hbm S96x9216 .bf16 := Memref.whole main_v3
abbrev M5 : Memref sig .tc .vmem S4x96x1792 .bf16 := Memref.whole cc0_scratch0
abbrev M6 : Memref sig .tc .vmem S3x4x1792x384 .i32 := Memref.whole cc0_scratch1
abbrev M7 : Memref sig .tc .vmem S9x128 .i32 := Memref.whole cc0_scratch2
abbrev M8 : Memref sig .tc .vmem S9x8x128 .f32 := Memref.whole cc0_scratch3
abbrev M9 : Memref sig .tc .vmem S96x128 .f32 := Memref.whole cc0_scratch4
abbrev M10 : Memref sig .tc .vmem S9x96x1024 .f32 := Memref.whole cc0_scratch5
abbrev M11 : Memref sig .tc .vmem S9x96x1024 .bf16 := Memref.whole cc0_scratch6

/-- The contents of a buffer, and the indices of its elements, at a device. -/
abbrev Bf (F : FTy → Type) (c : Dev nD) {sp : Space} {S : Shape} {e : EltTy} (M : Memref sig .tc sp S e) : Type := Buf (Elt F) (M.view.loc (c : Thread nD τ))
abbrev Ix (c : Dev nD) {sp : Space} {S : Shape} {e : EltTy} (M : Memref sig .tc sp S e) : Type := Idx (M.view.loc (c : Thread nD τ))

/-- What the region of the loop reads and never changes: the landed elements of the two operand
    buffers, their contents, and the contents of the two small operand buffers. -/
structure Env (F : FTy → Type) (c : Dev nD) where
  S5 : Finset (Ix c M5)
  S6 : Finset (Ix c M6)
  S11 : Finset (Ix c M11)
  f5 : Bf F c M5
  f6 : Bf F c M6
  f7 : Bf F c M7
  f8 : Bf F c M8

/-- The VMEM buffers of the kernel at given contents, beside anything else. -/
def Own (c : Dev nD) (R : sProp (MT nD τ sig Unit (Elt F) ℕ (Pipeline.UD sig nD τ) ℕ)) (V : Env F c) (f9 : Bf F c M9) (f10 : Bf F c M10) (f11 : Bf F c M11) :
    sProp (MT nD τ sig Unit (Elt F) ℕ (Pipeline.UD sig nD τ) ℕ) :=
  iprop((M5.view.loc (c : Thread nD τ) ↦[V.S5]{fullShare} V.f5) ∗ (M6.view.loc (c : Thread nD τ) ↦[V.S6]{fullShare} V.f6)
    ∗ (M7.view.loc (c : Thread nD τ) ↦{fullShare} V.f7) ∗ (M8.view.loc (c : Thread nD τ) ↦{fullShare} V.f8)
    ∗ (M9.view.loc (c : Thread nD τ) ↦{fullShare} f9) ∗ (M10.view.loc (c : Thread nD τ) ↦{fullShare} f10)
    ∗ (M11.view.loc (c : Thread nD τ) ↦[V.S11]{fullShare} f11) ∗ R)

section
variable {𝒱 : Variants} {c : Dev nD} {bd : Option 𝒱.V} {R P : sProp (MT nD τ sig Unit (Elt F) ℕ (Pipeline.UD sig nD τ) ℕ)} {V : Env F c}
  {f9 : Bf F c M9} {f10 : Bf F c M10} {f11 : Bf F c M11}

theorem run_bind {α β : Type} {p : Prog (TpuEff nD τ sig (Elt F) Λ₀ .tc) α} {k : α → Prog (TpuEff nD τ sig (Elt F) Λ₀ .tc) β} {Q : β → sProp 𝕄}
    (h : P ⊢ wp frame (wpE (defs₀ (F := F)) 𝒱 (c : Thread nD τ) bd) Set.univ p (fun a => wp frame (wpE (defs₀ (F := F)) 𝒱 (c : Thread nD τ) bd) Set.univ (k a) Q)) :
    P ⊢ wp frame (wpE (defs₀ (F := F)) 𝒱 (c : Thread nD τ) bd) Set.univ (p >>= k) Q := by
  rwa [wp_bind]

theorem run_pure {α : Type} {a : α} {Q : α → sProp 𝕄} (h : P ⊢ Q a) :
    P ⊢ wp frame (wpE (defs₀ (F := F)) 𝒱 (c : Thread nD τ) bd) Set.univ (pure a) Q := by
  rw [wp_pure]; exact h.trans BI.fupd_intro

theorem run_push {s : Mxu F} {q r : Fin 2} {φ : FTy} {v : FVec F (Mxu.STile 256) φ} {Q : Mxu F → sProp 𝕄}
    (hp : s.PushOk q r false) (h : P ⊢ Q (s.pushed q r false v)) :
    P ⊢ wp frame (wpE (defs₀ (F := F)) 𝒱 (c : Thread nD τ) bd) Set.univ (s.pushRhs q r false v) Q := by
  refine BIBase.Entails.trans ?_ (wp_assume 𝒱 (c : Thread nD τ) bd Set.univ hp)
  rw [wp_ret]; exact h.trans BI.fupd_intro

/-- Every tile staged in a register was pushed as it lies. -/
def AllF (s : Mxu F) : Prop := ∀ q r, ∀ t ∈ s.reg q r, t.transposed = false

theorem AllF.ok {s : Mxu F} (h : AllF s) (q r : Fin 2) : s.PushOk q r false := h q r

theorem AllF.pushed {s : Mxu F} (h : AllF s) (q r : Fin 2) {φ : FTy} (v : FVec F (Mxu.STile 256) φ) : AllF (s.pushed q r false v) := by
  intro q' r' t ht
  by_cases hq : q' = q ∧ r' = r
  · obtain ⟨rfl, rfl⟩ := hq
    cases hr : s.reg q' r' with
    | none => rw [Mxu.reg_pushed_of_none _ _ _ _ _ hr] at ht; simp at ht; rw [← ht]
    | some u => rw [Mxu.pushed_of_some _ _ _ _ _ hr] at ht; exact h q' r' t ht
  · rw [Mxu.reg_pushed_ne _ _ _ _ _ _ _ hq] at ht; exact h q' r' t ht

theorem AllF.acc {s : Mxu F} (h : AllF s) (q r : Fin 2) (A : Nat) {M : Nat} {φ : FTy} (lhs : FVec F (Mxu.STile M) φ) (hf : Mxu.Fits A M) :
    AllF (s.accLhs q r A lhs hf) := by
  intro q' r' t ht
  by_cases hq : q' = q ∧ r' = r
  · obtain ⟨rfl, rfl⟩ := hq; rw [Mxu.reg_accLhs] at ht; simp at ht
  · rw [Mxu.reg_accLhs_ne _ _ _ _ _ _ _ _ hq] at ht; exact h q' r' t ht

theorem AllF.pop {s : Mxu F} (h : AllF s) (q : Fin 2) (A M : Nat) (hf : Mxu.Fits A M) : AllF (s.pop q A M hf) := by
  intro q' r' t ht
  rw [Mxu.reg_pop] at ht; exact h q' r' t ht

theorem run_exit {s : Mxu F} {Q : PUnit → sProp 𝕄}
    (hp : s.Drained) (h : P ⊢ Q ⟨⟩) :
    P ⊢ wp frame (wpE (defs₀ (F := F)) 𝒱 (c : Thread nD τ) bd) Set.univ (s.exit) Q := by
  refine BIBase.Entails.trans ?_ (wp_assume 𝒱 (c : Thread nD τ) bd Set.univ hp)
  rw [wp_ret]; exact h.trans BI.fupd_intro

/-- A load, of a buffer a context holds beside the rest of it. -/
theorem run_ld {cs : CoreSpace} {s : Shape} {e : EltTy} {m : Memref sig .tc cs s e} {r : Rect s} {hl : m.view.LoadsAt r.toLoadRect} {Q : (r.shape.Idx → Elt F e) → sProp 𝕄}
    {S : Finset (Idx (m.view.loc (c : Thread nD τ)))} {q : PosShare TreeShare} {f : Buf (Elt F) (m.view.loc (c : Thread nD τ))} {R' : sProp 𝕄}
    (hP : P ⊢ iprop((m.view.loc (c : Thread nD τ) ↦[S]{q} f) ∗ R')) (hP' : iprop((m.view.loc (c : Thread nD τ) ↦[S]{q} f) ∗ R') ⊢ P)
    (hS : (m.access r).set ⊆ S) (h : P ⊢ Q ((m.access r).read (Elt F) f)) :
    P ⊢ wp frame (wpE (defs₀ (F := F)) 𝒱 (c : Thread nD τ) bd) Set.univ (Prog.lift (.load m r.toLoadRect hl)) Q := by
  refine hP.trans ?_
  iintro ⟨H5, H⟩
  iapply (wp_load_rect 𝒱 (c : Thread nD τ) bd Set.univ (m := m) (r := r) (S := S) (f := f) (q := q) hS) $$ H5
  iintro H5
  rw [wp_ret]
  imodintro
  iapply (hP'.trans h)
  isplitl [H5]
  · iexact H5
  iexact H

/-- A store into a buffer a context holds beside the rest of it. -/
theorem run_st {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {Q : PUnit → sProp 𝕄}
    {S : Finset (Idx (m.view.loc (c : Thread nD τ)))} {f : Buf (Elt F) (m.view.loc (c : Thread nD τ))} {R' P' : sProp 𝕄}
    (hP : P ⊢ iprop((m.view.loc (c : Thread nD τ) ↦[S]{fullShare} f) ∗ R'))
    (hP' : iprop((m.view.loc (c : Thread nD τ) ↦[S]{fullShare} ((m.access r).write (Elt F) f w Finset.univ)) ∗ R') ⊢ P')
    (hS : (m.access r).set ⊆ S) (h : P' ⊢ Q ⟨⟩) :
    P ⊢ wp frame (wpE (defs₀ (F := F)) 𝒱 (c : Thread nD τ) bd) Set.univ (Prog.lift (.store m r w Finset.univ hx hm)) Q := by
  refine hP.trans ?_
  iintro ⟨H5, H⟩
  iapply (wp_store 𝒱 (c : Thread nD τ) bd Set.univ (m := m) (r := r) (w := w) (Mk := Finset.univ) (hx := hx) (hm := hm) (S := S) (f := f) hS) $$ H5
  iintro H5
  rw [wp_ret]
  imodintro
  iapply (hP'.trans h)
  isplitl [H5]
  · iexact H5
  iexact H

theorem own_split5 : Own c R V f9 f10 f11 ⊢ iprop((M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M9.view.loc (c : Thread nD τ) ↦{fullShare} f9) ∗ (M10.view.loc (c : Thread nD τ) ↦{fullShare} f10) ∗ (M11.view.loc (c : Thread nD τ) ↦[V.S11]{fullShare} f11) ∗ R) := by
  unfold Own
  iintro ⟨H5, H6, H7, H8, H9, H10, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_join5 : iprop((M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M9.view.loc (c : Thread nD τ) ↦{fullShare} f9) ∗ (M10.view.loc (c : Thread nD τ) ↦{fullShare} f10) ∗ (M11.view.loc (c : Thread nD τ) ↦[V.S11]{fullShare} f11) ∗ R) ⊢ Own c R V f9 f10 f11 := by
  unfold Own
  iintro ⟨H5, H6, H7, H8, H9, H10, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_split6 : Own c R V f9 f10 f11 ⊢ iprop((M6.view.loc (c : Thread nD τ) ↦[V.S6]{fullShare} V.f6) ∗ (M5.view.loc (c : Thread nD τ) ↦[V.S5]{fullShare} V.f5) ∗ (M7.view.loc (c : Thread nD τ) ↦{fullShare} V.f7) ∗ (M8.view.loc (c : Thread nD τ) ↦{fullShare} V.f8) ∗ (M9.view.loc (c : Thread nD τ) ↦{fullShare} f9) ∗ (M10.view.loc (c : Thread nD τ) ↦{fullShare} f10) ∗ (M11.view.loc (c : Thread nD τ) ↦[V.S11]{fullShare} f11) ∗ R) := by
  unfold Own
  iintro ⟨H5, H6, H7, H8, H9, H10, H11, HR⟩
  isplitl [H6]
  · iexact H6
  isplitl [H5]
  · iexact H5
  isplitl [H7]
  · iexact H7
  isplitl [H8]
  · iexact H8
  isplitl [H9]
  · iexact H9
  isplitl [H10]
  · iexact H10
  isplitl [H11]
  · iexact H11
  iexact HR

theorem own_join6 : iprop((M6.view.loc (c : Thread nD τ) ↦[V.S6]{fullShare} V.f6) ∗ (M5.view.loc (c : Thread nD τ) ↦[V.S5]{fullShare} V.f5) ∗ (M7.view.loc (c : Thread nD τ) ↦{fullShare} V.f7) ∗ (M8.view.loc (c : Thread nD τ) ↦{fullShare} V.f8) ∗ (M9.view.loc (c : Thread nD τ) ↦{fullShare} f9) ∗ (M10.view.loc (c : Thread nD τ) ↦{fullShare} f10) ∗ (M11.view.loc (c : Thread nD τ) ↦[V.S11]{fullShare} f11) ∗ R) ⊢ Own c R V f9 f10 f11 := by
  unfold Own
  iintro ⟨H6, H5, H7, H8, H9, H10, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_split7 : Own c R V f9 f10 f11 ⊢ iprop((M7.view.loc (c : Thread nD τ) ↦{fullShare} V.f7) ∗ (M5.view.loc (c : Thread nD τ) ↦[V.S5]{fullShare} V.f5) ∗ (M6.view.loc (c : Thread nD τ) ↦[V.S6]{fullShare} V.f6) ∗ (M8.view.loc (c : Thread nD τ) ↦{fullShare} V.f8) ∗ (M9.view.loc (c : Thread nD τ) ↦{fullShare} f9) ∗ (M10.view.loc (c : Thread nD τ) ↦{fullShare} f10) ∗ (M11.view.loc (c : Thread nD τ) ↦[V.S11]{fullShare} f11) ∗ R) := by
  unfold Own
  iintro ⟨H5, H6, H7, H8, H9, H10, H11, HR⟩
  isplitl [H7]
  · iexact H7
  isplitl [H5]
  · iexact H5
  isplitl [H6]
  · iexact H6
  isplitl [H8]
  · iexact H8
  isplitl [H9]
  · iexact H9
  isplitl [H10]
  · iexact H10
  isplitl [H11]
  · iexact H11
  iexact HR

theorem own_join7 : iprop((M7.view.loc (c : Thread nD τ) ↦{fullShare} V.f7) ∗ (M5.view.loc (c : Thread nD τ) ↦[V.S5]{fullShare} V.f5) ∗ (M6.view.loc (c : Thread nD τ) ↦[V.S6]{fullShare} V.f6) ∗ (M8.view.loc (c : Thread nD τ) ↦{fullShare} V.f8) ∗ (M9.view.loc (c : Thread nD τ) ↦{fullShare} f9) ∗ (M10.view.loc (c : Thread nD τ) ↦{fullShare} f10) ∗ (M11.view.loc (c : Thread nD τ) ↦[V.S11]{fullShare} f11) ∗ R) ⊢ Own c R V f9 f10 f11 := by
  unfold Own
  iintro ⟨H7, H5, H6, H8, H9, H10, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_split8 : Own c R V f9 f10 f11 ⊢ iprop((M8.view.loc (c : Thread nD τ) ↦{fullShare} V.f8) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M9.view.loc (c : Thread nD τ) ↦{fullShare} f9) ∗ (M10.view.loc (c : Thread nD τ) ↦{fullShare} f10) ∗ (M11.view.loc (c : Thread nD τ) ↦[V.S11]{fullShare} f11) ∗ R) := by
  unfold Own
  iintro ⟨H5, H6, H7, H8, H9, H10, H11, HR⟩
  isplitl [H8]
  · iexact H8
  isplitl [H5]
  · iexact H5
  isplitl [H6]
  · iexact H6
  isplitl [H7]
  · iexact H7
  isplitl [H9]
  · iexact H9
  isplitl [H10]
  · iexact H10
  isplitl [H11]
  · iexact H11
  iexact HR

theorem own_join8 : iprop((M8.view.loc (c : Thread nD τ) ↦{fullShare} V.f8) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M9.view.loc (c : Thread nD τ) ↦{fullShare} f9) ∗ (M10.view.loc (c : Thread nD τ) ↦{fullShare} f10) ∗ (M11.view.loc (c : Thread nD τ) ↦[V.S11]{fullShare} f11) ∗ R) ⊢ Own c R V f9 f10 f11 := by
  unfold Own
  iintro ⟨H8, H5, H6, H7, H9, H10, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_split9 : Own c R V f9 f10 f11 ⊢ iprop((M9.view.loc (c : Thread nD τ) ↦{fullShare} f9) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M10.view.loc (c : Thread nD τ) ↦{fullShare} f10) ∗ (M11.view.loc (c : Thread nD τ) ↦[V.S11]{fullShare} f11) ∗ R) := by
  unfold Own
  iintro ⟨H5, H6, H7, H8, H9, H10, H11, HR⟩
  isplitl [H9]
  · iexact H9
  isplitl [H5]
  · iexact H5
  isplitl [H6]
  · iexact H6
  isplitl [H7]
  · iexact H7
  isplitl [H8]
  · iexact H8
  isplitl [H10]
  · iexact H10
  isplitl [H11]
  · iexact H11
  iexact HR

theorem own_join9 : iprop((M9.view.loc (c : Thread nD τ) ↦{fullShare} f9) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M10.view.loc (c : Thread nD τ) ↦{fullShare} f10) ∗ (M11.view.loc (c : Thread nD τ) ↦[V.S11]{fullShare} f11) ∗ R) ⊢ Own c R V f9 f10 f11 := by
  unfold Own
  iintro ⟨H9, H5, H6, H7, H8, H10, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_split10 : Own c R V f9 f10 f11 ⊢ iprop((M10.view.loc (c : Thread nD τ) ↦{fullShare} f10) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M9.view.loc (c : Thread nD τ) ↦{fullShare} f9) ∗ (M11.view.loc (c : Thread nD τ) ↦[V.S11]{fullShare} f11) ∗ R) := by
  unfold Own
  iintro ⟨H5, H6, H7, H8, H9, H10, H11, HR⟩
  isplitl [H10]
  · iexact H10
  isplitl [H5]
  · iexact H5
  isplitl [H6]
  · iexact H6
  isplitl [H7]
  · iexact H7
  isplitl [H8]
  · iexact H8
  isplitl [H9]
  · iexact H9
  isplitl [H11]
  · iexact H11
  iexact HR

theorem own_join10 : iprop((M10.view.loc (c : Thread nD τ) ↦{fullShare} f10) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M9.view.loc (c : Thread nD τ) ↦{fullShare} f9) ∗ (M11.view.loc (c : Thread nD τ) ↦[V.S11]{fullShare} f11) ∗ R) ⊢ Own c R V f9 f10 f11 := by
  unfold Own
  iintro ⟨H10, H5, H6, H7, H8, H9, H11, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem own_split11 : Own c R V f9 f10 f11 ⊢ iprop((M11.view.loc (c : Thread nD τ) ↦[V.S11]{fullShare} f11) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M9.view.loc (c : Thread nD τ) ↦{fullShare} f9) ∗ (M10.view.loc (c : Thread nD τ) ↦{fullShare} f10) ∗ R) := by
  unfold Own
  iintro ⟨H5, H6, H7, H8, H9, H10, H11, HR⟩
  isplitl [H11]
  · iexact H11
  isplitl [H5]
  · iexact H5
  isplitl [H6]
  · iexact H6
  isplitl [H7]
  · iexact H7
  isplitl [H8]
  · iexact H8
  isplitl [H9]
  · iexact H9
  isplitl [H10]
  · iexact H10
  iexact HR

theorem own_join11 : iprop((M11.view.loc (c : Thread nD τ) ↦[V.S11]{fullShare} f11) ∗ (M5.view.loc (c : Thread nD τ) ↦[V.S5]{fullShare} V.f5) ∗ (M6.view.loc (c : Thread nD τ) ↦[V.S6]{fullShare} V.f6) ∗ (M7.view.loc (c : Thread nD τ) ↦{fullShare} V.f7) ∗ (M8.view.loc (c : Thread nD τ) ↦{fullShare} V.f8) ∗ (M9.view.loc (c : Thread nD τ) ↦{fullShare} f9) ∗ (M10.view.loc (c : Thread nD τ) ↦{fullShare} f10) ∗ R) ⊢ Own c R V f9 f10 f11 := by
  unfold Own
  iintro ⟨H11, H5, H6, H7, H8, H9, H10, HR⟩
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact HR

theorem run_ld5 {r : Rect S4x96x1792} {hl : (M5.view.LoadsAt r.toLoadRect)} {Q : (r.shape.Idx → Elt F .bf16) → sProp 𝕄}
    (hS : (M5.access r).set ⊆ V.S5)
    (h : Own c R V f9 f10 f11 ⊢ Q ((M5.access r).read (Elt F) V.f5)) :
    Own c R V f9 f10 f11 ⊢ wp frame (wpE (defs₀ (F := F)) 𝒱 (c : Thread nD τ) bd) Set.univ (Prog.lift (.load M5 r.toLoadRect hl)) Q :=
  run_ld own_split5 own_join5 hS h

theorem run_ld6 {r : Rect S3x4x1792x384} {hl : (M6.view.LoadsAt r.toLoadRect)} {Q : (r.shape.Idx → Elt F .i32) → sProp 𝕄}
    (hS : (M6.access r).set ⊆ V.S6)
    (h : Own c R V f9 f10 f11 ⊢ Q ((M6.access r).read (Elt F) V.f6)) :
    Own c R V f9 f10 f11 ⊢ wp frame (wpE (defs₀ (F := F)) 𝒱 (c : Thread nD τ) bd) Set.univ (Prog.lift (.load M6 r.toLoadRect hl)) Q :=
  run_ld own_split6 own_join6 hS h

theorem run_ld7 {r : Rect S9x128} {hl : (M7.view.LoadsAt r.toLoadRect)} {Q : (r.shape.Idx → Elt F .i32) → sProp 𝕄}
    (h : Own c R V f9 f10 f11 ⊢ Q ((M7.access r).read (Elt F) V.f7)) :
    Own c R V f9 f10 f11 ⊢ wp frame (wpE (defs₀ (F := F)) 𝒱 (c : Thread nD τ) bd) Set.univ (Prog.lift (.load M7 r.toLoadRect hl)) Q :=
  run_ld own_split7 own_join7 (Finset.subset_univ _) h

theorem run_ld8 {r : Rect S9x8x128} {hl : (M8.view.LoadsAt r.toLoadRect)} {Q : (r.shape.Idx → Elt F .f32) → sProp 𝕄}
    (h : Own c R V f9 f10 f11 ⊢ Q ((M8.access r).read (Elt F) V.f8)) :
    Own c R V f9 f10 f11 ⊢ wp frame (wpE (defs₀ (F := F)) 𝒱 (c : Thread nD τ) bd) Set.univ (Prog.lift (.load M8 r.toLoadRect hl)) Q :=
  run_ld own_split8 own_join8 (Finset.subset_univ _) h

theorem run_ld9 {r : Rect S96x128} {hl : (M9.view.LoadsAt r.toLoadRect)} {Q : (r.shape.Idx → Elt F .f32) → sProp 𝕄}
    (h : Own c R V f9 f10 f11 ⊢ Q ((M9.access r).read (Elt F) f9)) :
    Own c R V f9 f10 f11 ⊢ wp frame (wpE (defs₀ (F := F)) 𝒱 (c : Thread nD τ) bd) Set.univ (Prog.lift (.load M9 r.toLoadRect hl)) Q :=
  run_ld own_split9 own_join9 (Finset.subset_univ _) h

theorem run_ld10 {r : Rect S9x96x1024} {hl : (M10.view.LoadsAt r.toLoadRect)} {Q : (r.shape.Idx → Elt F .f32) → sProp 𝕄}
    (h : Own c R V f9 f10 f11 ⊢ Q ((M10.access r).read (Elt F) f10)) :
    Own c R V f9 f10 f11 ⊢ wp frame (wpE (defs₀ (F := F)) 𝒱 (c : Thread nD τ) bd) Set.univ (Prog.lift (.load M10 r.toLoadRect hl)) Q :=
  run_ld own_split10 own_join10 (Finset.subset_univ _) h

theorem run_ld11 {r : Rect S9x96x1024} {hl : (M11.view.LoadsAt r.toLoadRect)} {Q : (r.shape.Idx → Elt F .bf16) → sProp 𝕄}
    (hS : (M11.access r).set ⊆ V.S11)
    (h : Own c R V f9 f10 f11 ⊢ Q ((M11.access r).read (Elt F) f11)) :
    Own c R V f9 f10 f11 ⊢ wp frame (wpE (defs₀ (F := F)) 𝒱 (c : Thread nD τ) bd) Set.univ (Prog.lift (.load M11 r.toLoadRect hl)) Q :=
  run_ld own_split11 own_join11 hS h

theorem run_st9 {r : Rect S96x128} {w : r.shape.Idx → Elt F .f32} {hx : (M9.access r).Stores Finset.univ} {hm : Finset.univ = Finset.univ ∨ ∀ a, r.stride a = 1} {Q : PUnit → sProp 𝕄}
    (h : Own c R V ((M9.access r).write (Elt F) f9 w Finset.univ) f10 f11 ⊢ Q ⟨⟩) :
    Own c R V f9 f10 f11 ⊢ wp frame (wpE (defs₀ (F := F)) 𝒱 (c : Thread nD τ) bd) Set.univ (Prog.lift (.store M9 r w Finset.univ hx hm)) Q :=
  run_st own_split9 own_join9 (Finset.subset_univ _) h

theorem run_st10 {r : Rect S9x96x1024} {w : r.shape.Idx → Elt F .f32} {hx : (M10.access r).Stores Finset.univ} {hm : Finset.univ = Finset.univ ∨ ∀ a, r.stride a = 1} {Q : PUnit → sProp 𝕄}
    (h : Own c R V f9 ((M10.access r).write (Elt F) f10 w Finset.univ) f11 ⊢ Q ⟨⟩) :
    Own c R V f9 f10 f11 ⊢ wp frame (wpE (defs₀ (F := F)) 𝒱 (c : Thread nD τ) bd) Set.univ (Prog.lift (.store M10 r w Finset.univ hx hm)) Q :=
  run_st own_split10 own_join10 (Finset.subset_univ _) h

theorem run_st11 {r : Rect S9x96x1024} {w : r.shape.Idx → Elt F .bf16} {hx : (M11.access r).Stores Finset.univ} {hm : Finset.univ = Finset.univ ∨ ∀ a, r.stride a = 1} {Q : PUnit → sProp 𝕄}
    (hS : (M11.access r).set ⊆ V.S11)
    (h : Own c R V f9 f10 ((M11.access r).write (Elt F) f11 w Finset.univ) ⊢ Q ⟨⟩) :
    Own c R V f9 f10 f11 ⊢ wp frame (wpE (defs₀ (F := F)) 𝒱 (c : Thread nD τ) bd) Set.univ (Prog.lift (.store M11 r w Finset.univ hx hm)) Q :=
  run_st own_split11 own_join11 hS h

end

end Cert.Kernel.Hand
-- ==== Proof.Kernel.Pieces.lean ====
module

public import proofs.«01_k».proof.Proof.Kernel.Base

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Places: where an element of an operand's landing buffer comes from -/

/-- The element of the token matrix that lands at `i` of the token buffer. -/
def q5 (i : S4x96x1792.Idx) : S96x7168.Idx := fun
  | ⟨0, _⟩ => ⟨(i 1).val, (i 1).isLt⟩
  | ⟨1, _⟩ => ⟨(i 0).val * 1792 + (i 2).val, by have h0 : (i 0).val < 4 := (i 0).isLt; have h2 : (i 2).val < 1792 := (i 2).isLt; show _ < 7168; omega⟩
/-- The word of the packed weights that lands at `i` of the weight buffer. -/
def q6 (i : S3x4x1792x384.Idx) : S7168x1152.Idx := fun
  | ⟨0, _⟩ => ⟨(i 1).val * 1792 + (i 2).val, by have h0 : (i 1).val < 4 := (i 1).isLt; have h2 : (i 2).val < 1792 := (i 2).isLt; show _ < 7168; omega⟩
  | ⟨1, _⟩ => ⟨(i 0).val * 384 + (i 3).val, by have h0 : (i 0).val < 3 := (i 0).isLt; have h2 : (i 3).val < 384 := (i 3).isLt; show _ < 1152; omega⟩
/-- The element of the staged result that lands at `i` of the result. -/
def q11 (i : S96x9216.Idx) : S9x96x1024.Idx := fun
  | ⟨0, _⟩ => ⟨(i 1).val / 1024, by have h0 : (i 1).val < 9216 := (i 1).isLt; show _ < 9; omega⟩
  | ⟨1, _⟩ => ⟨(i 0).val, (i 0).isLt⟩
  | ⟨2, _⟩ => ⟨(i 1).val % 1024, by show _ < 1024; omega⟩

section
variable {𝒱 : Variants} {c : Dev nD} {bd : Option 𝒱.V} {P R' : sProp (MT nD τ sig Unit (Elt F) ℕ (Pipeline.UD sig nD τ) ℕ)}

abbrev EC : UEmb Counters 𝕄 := countersEmb (U := Pipeline.UD sig nD τ)

/-- What the buffers hold once every piece has landed. -/
def F5 (f0 : Bf F c M0) : Bf F c M5 := fun i => f0 (q5 i)
def F6 (f1 : Bf F c M1) : Bf F c M6 := fun i => f1 (q6 i)
def F4 (g : Bf F c M11) : Bf F c M4 := fun i => g (q11 i)

/-! ## The pieces -/

variable (c) in
def pc5 (p : ℕ) : Finset (Ix c M5) := Finset.univ.filter fun i : S4x96x1792.Idx => (i 0).val = p
variable (c) in
def pc0 (p : ℕ) : Finset (Ix c M0) := Finset.univ.filter fun i : S96x7168.Idx => (i 1).val / 1792 = p
variable (c) in
def pc6 (p : ℕ) : Finset (Ix c M6) := Finset.univ.filter fun i : S3x4x1792x384.Idx => (i 0).val * 4 + (i 1).val = p
variable (c) in
def pc1 (p : ℕ) : Finset (Ix c M1) := Finset.univ.filter fun i : S7168x1152.Idx => (i 1).val / 384 * 4 + (i 0).val / 1792 = p
variable (c) in
def pc11 (p : ℕ) : Finset (Ix c M11) := Finset.univ.filter fun i : S9x96x1024.Idx => (i 0).val = p
variable (c) in
def pc4 (p : ℕ) : Finset (Ix c M4) := Finset.univ.filter fun i : S96x9216.Idx => (i 1).val / 1024 = p

theorem set5 (p : ℕ) {o : Fin 3 → ℕ} (ho : o = ![p, 0, 0]) {h : ∀ a, o a + S1x96x1792.size a ≤ S4x96x1792.size a} {sq : S1x96x1792.Squeezes S96x1792} :
    (((M5.slice (Rect.unit (s := S4x96x1792) o S1x96x1792.size h) (fun _ => rfl)).squeeze S96x1792 sq).view.set : Finset (Ix c M5)) = pc5 c p := by
  subst ho
  refine (View.set_reshape _ _).trans ?_
  refine (View.set_slice_whole _ _).trans ?_
  ext i
  refine Rect.mem_set_unit.trans (Iff.trans ?_ (Finset.mem_filter.trans (and_iff_right (Finset.mem_univ i))).symm)
  change S4x96x1792.Idx at i
  have b0 : (i 0).val < 4 := (i 0).isLt; have b1 : (i 1).val < 96 := (i 1).isLt; have b2 : (i 2).val < 1792 := (i 2).isLt
  constructor
  · intro hh
    have h0 := hh 0; have h1 := hh 1; have h2 := hh 2
    change p ≤ (i 0).val ∧ (i 0).val < p + 1 at h0; change 0 ≤ (i 1).val ∧ (i 1).val < 0 + 96 at h1; change 0 ≤ (i 2).val ∧ (i 2).val < 0 + 1792 at h2
    omega
  · intro hh a
    fin_cases a
    · change p ≤ (i 0).val ∧ (i 0).val < p + 1; omega
    · change 0 ≤ (i 1).val ∧ (i 1).val < 0 + 96; omega
    · change 0 ≤ (i 2).val ∧ (i 2).val < 0 + 1792; omega

theorem set6 (p : ℕ) {o : Fin 4 → ℕ} (ho : o = ![p / 4, p % 4, 0, 0]) {h : ∀ a, o a + S1x1x1792x384.size a ≤ S3x4x1792x384.size a} {sq : S1x1x1792x384.Squeezes S1792x384} :
    (((M6.slice (Rect.unit (s := S3x4x1792x384) o S1x1x1792x384.size h) (fun _ => rfl)).squeeze S1792x384 sq).view.set : Finset (Ix c M6)) = pc6 c p := by
  subst ho
  refine (View.set_reshape _ _).trans ?_
  refine (View.set_slice_whole _ _).trans ?_
  ext i
  refine Rect.mem_set_unit.trans (Iff.trans ?_ (Finset.mem_filter.trans (and_iff_right (Finset.mem_univ i))).symm)
  change S3x4x1792x384.Idx at i
  have b0 : (i 0).val < 3 := (i 0).isLt; have b1 : (i 1).val < 4 := (i 1).isLt; have b2 : (i 2).val < 1792 := (i 2).isLt; have b3 : (i 3).val < 384 := (i 3).isLt
  constructor
  · intro hh
    have h0 := hh 0; have h1 := hh 1; have h2 := hh 2; have h3 := hh 3
    change p / 4 ≤ (i 0).val ∧ (i 0).val < p / 4 + 1 at h0; change p % 4 ≤ (i 1).val ∧ (i 1).val < p % 4 + 1 at h1; change 0 ≤ (i 2).val ∧ (i 2).val < 0 + 1792 at h2; change 0 ≤ (i 3).val ∧ (i 3).val < 0 + 384 at h3
    omega
  · intro hh a
    fin_cases a
    · change p / 4 ≤ (i 0).val ∧ (i 0).val < p / 4 + 1; omega
    · change p % 4 ≤ (i 1).val ∧ (i 1).val < p % 4 + 1; omega
    · change 0 ≤ (i 2).val ∧ (i 2).val < 0 + 1792; omega
    · change 0 ≤ (i 3).val ∧ (i 3).val < 0 + 384; omega

theorem set11 (p : ℕ) {o : Fin 3 → ℕ} (ho : o = ![p, 0, 0]) {h : ∀ a, o a + S1x96x1024.size a ≤ S9x96x1024.size a} {sq : S1x96x1024.Squeezes S96x1024} :
    (((M11.slice (Rect.unit (s := S9x96x1024) o S1x96x1024.size h) (fun _ => rfl)).squeeze S96x1024 sq).view.set : Finset (Ix c M11)) = pc11 c p := by
  subst ho
  refine (View.set_reshape _ _).trans ?_
  refine (View.set_slice_whole _ _).trans ?_
  ext i
  refine Rect.mem_set_unit.trans (Iff.trans ?_ (Finset.mem_filter.trans (and_iff_right (Finset.mem_univ i))).symm)
  change S9x96x1024.Idx at i
  have b0 : (i 0).val < 9 := (i 0).isLt; have b1 : (i 1).val < 96 := (i 1).isLt; have b2 : (i 2).val < 1024 := (i 2).isLt
  constructor
  · intro hh
    have h0 := hh 0; have h1 := hh 1; have h2 := hh 2
    change p ≤ (i 0).val ∧ (i 0).val < p + 1 at h0; change 0 ≤ (i 1).val ∧ (i 1).val < 0 + 96 at h1; change 0 ≤ (i 2).val ∧ (i 2).val < 0 + 1024 at h2
    omega
  · intro hh a
    fin_cases a
    · change p ≤ (i 0).val ∧ (i 0).val < p + 1; omega
    · change 0 ≤ (i 1).val ∧ (i 1).val < 0 + 96; omega
    · change 0 ≤ (i 2).val ∧ (i 2).val < 0 + 1024; omega

theorem set0 (p : ℕ) {o : Fin 2 → ℕ} (ho : o = ![0, p * 1792]) {h : ∀ a, o a + S96x1792.size a ≤ S96x7168.size a} :
    ((M0.slice (Rect.unit (s := S96x7168) o S96x1792.size h) (fun _ => rfl)).view.set : Finset (Ix c M0)) = pc0 c p := by
  subst ho
  refine (View.set_slice_whole _ _).trans ?_
  ext i
  refine Rect.mem_set_unit.trans (Iff.trans ?_ (Finset.mem_filter.trans (and_iff_right (Finset.mem_univ i))).symm)
  change S96x7168.Idx at i
  have b0 : (i 0).val < 96 := (i 0).isLt; have b1 : (i 1).val < 7168 := (i 1).isLt
  constructor
  · intro hh
    have h0 := hh 0; have h1 := hh 1
    change 0 ≤ (i 0).val ∧ (i 0).val < 0 + 96 at h0; change p * 1792 ≤ (i 1).val ∧ (i 1).val < p * 1792 + 1792 at h1
    omega
  · intro hh a
    fin_cases a
    · change 0 ≤ (i 0).val ∧ (i 0).val < 0 + 96; omega
    · change p * 1792 ≤ (i 1).val ∧ (i 1).val < p * 1792 + 1792; omega

theorem set1 (p : ℕ) {o : Fin 2 → ℕ} (ho : o = ![p % 4 * 1792, p / 4 * 384]) {h : ∀ a, o a + S1792x384.size a ≤ S7168x1152.size a} :
    ((M1.slice (Rect.unit (s := S7168x1152) o S1792x384.size h) (fun _ => rfl)).view.set : Finset (Ix c M1)) = pc1 c p := by
  subst ho
  refine (View.set_slice_whole _ _).trans ?_
  ext i
  refine Rect.mem_set_unit.trans (Iff.trans ?_ (Finset.mem_filter.trans (and_iff_right (Finset.mem_univ i))).symm)
  change S7168x1152.Idx at i
  have b0 : (i 0).val < 7168 := (i 0).isLt; have b1 : (i 1).val < 1152 := (i 1).isLt
  constructor
  · intro hh
    have h0 := hh 0; have h1 := hh 1
    change p % 4 * 1792 ≤ (i 0).val ∧ (i 0).val < p % 4 * 1792 + 1792 at h0; change p / 4 * 384 ≤ (i 1).val ∧ (i 1).val < p / 4 * 384 + 384 at h1
    omega
  · intro hh a
    fin_cases a
    · change p % 4 * 1792 ≤ (i 0).val ∧ (i 0).val < p % 4 * 1792 + 1792; omega
    · change p / 4 * 384 ≤ (i 1).val ∧ (i 1).val < p / 4 * 384 + 384; omega

theorem set4 (p : ℕ) {o : Fin 2 → ℕ} (ho : o = ![0, p * 1024]) {h : ∀ a, o a + S96x1024.size a ≤ S96x9216.size a} :
    ((M4.slice (Rect.unit (s := S96x9216) o S96x1024.size h) (fun _ => rfl)).view.set : Finset (Ix c M4)) = pc4 c p := by
  subst ho
  refine (View.set_slice_whole _ _).trans ?_
  ext i
  refine Rect.mem_set_unit.trans (Iff.trans ?_ (Finset.mem_filter.trans (and_iff_right (Finset.mem_univ i))).symm)
  change S96x9216.Idx at i
  have b0 : (i 0).val < 96 := (i 0).isLt; have b1 : (i 1).val < 9216 := (i 1).isLt
  constructor
  · intro hh
    have h0 := hh 0; have h1 := hh 1
    change 0 ≤ (i 0).val ∧ (i 0).val < 0 + 96 at h0; change p * 1024 ≤ (i 1).val ∧ (i 1).val < p * 1024 + 1024 at h1
    omega
  · intro hh a
    fin_cases a
    · change 0 ≤ (i 0).val ∧ (i 0).val < 0 + 96; omega
    · change p * 1024 ≤ (i 1).val ∧ (i 1).val < p * 1024 + 1024; omega

/-! ## The semaphores -/

def xsem (p : ℕ) : DmaSem sig := (cc0_scratch7 : DmaSems sig S4).ix fun | ⟨0, _⟩ => ⟨p % 4, Nat.mod_lt _ (by decide)⟩
def qsem (p : ℕ) : DmaSem sig := (cc0_scratch8 : DmaSems sig S3x4).ix fun
  | ⟨0, _⟩ => ⟨p / 4 % 3, Nat.mod_lt _ (by decide)⟩
  | ⟨1, _⟩ => ⟨p % 4, Nat.mod_lt _ (by decide)⟩
def ssem (p : ℕ) : DmaSem sig := (cc0_scratch9 : DmaSems sig S2).ix fun | ⟨0, _⟩ => ⟨p % 2, Nat.mod_lt _ (by decide)⟩
def ysem (p : ℕ) : DmaSem sig := (cc0_scratch10 : DmaSems sig S9).ix fun | ⟨0, _⟩ => ⟨p % 9, Nat.mod_lt _ (by decide)⟩

theorem xsem_eq {p : ℕ} (hp : p < 4) {o : Fin 1 → ℕ} (ho : o = ![p]) {h : ∀ a, o a + S1.size a ≤ S4.size a} {sq : S1.Squeezes S_} :
    (((cc0_scratch7 : DmaSems sig S4).slice (Rect.unit (s := S4) o S1.size h)).squeeze S_ sq).sem = xsem p := by
  subst ho
  change (cc0_scratch7 : DmaSems sig S4).ix _ = (cc0_scratch7 : DmaSems sig S4).ix _
  refine congrArg (cc0_scratch7 : DmaSems sig S4).ix (funext fun a => Fin.ext ?_)
  fin_cases a
  have e : (Shape.reshapeEquiv sq.numel_eq (fun i => i.elim0) (0 : Fin 1)).val = 0 := Nat.lt_one_iff.mp (Shape.reshapeEquiv sq.numel_eq (fun i => i.elim0) (0 : Fin 1)).isLt
  change p + 1 * (Shape.reshapeEquiv sq.numel_eq (fun i => i.elim0) (0 : Fin 1)).val = p % 4
  rw [e, Nat.mod_eq_of_lt hp]; omega

theorem ssem_eq {p : ℕ} (hp : p < 2) {o : Fin 1 → ℕ} (ho : o = ![p]) {h : ∀ a, o a + S1.size a ≤ S2.size a} {sq : S1.Squeezes S_} :
    (((cc0_scratch9 : DmaSems sig S2).slice (Rect.unit (s := S2) o S1.size h)).squeeze S_ sq).sem = ssem p := by
  subst ho
  change (cc0_scratch9 : DmaSems sig S2).ix _ = (cc0_scratch9 : DmaSems sig S2).ix _
  refine congrArg (cc0_scratch9 : DmaSems sig S2).ix (funext fun a => Fin.ext ?_)
  fin_cases a
  have e : (Shape.reshapeEquiv sq.numel_eq (fun i => i.elim0) (0 : Fin 1)).val = 0 := Nat.lt_one_iff.mp (Shape.reshapeEquiv sq.numel_eq (fun i => i.elim0) (0 : Fin 1)).isLt
  change p + 1 * (Shape.reshapeEquiv sq.numel_eq (fun i => i.elim0) (0 : Fin 1)).val = p % 2
  rw [e, Nat.mod_eq_of_lt hp]; omega

theorem ysem_eq {p : ℕ} (hp : p < 9) {o : Fin 1 → ℕ} (ho : o = ![p]) {h : ∀ a, o a + S1.size a ≤ S9.size a} {sq : S1.Squeezes S_} :
    (((cc0_scratch10 : DmaSems sig S9).slice (Rect.unit (s := S9) o S1.size h)).squeeze S_ sq).sem = ysem p := by
  subst ho
  change (cc0_scratch10 : DmaSems sig S9).ix _ = (cc0_scratch10 : DmaSems sig S9).ix _
  refine congrArg (cc0_scratch10 : DmaSems sig S9).ix (funext fun a => Fin.ext ?_)
  fin_cases a
  have e : (Shape.reshapeEquiv sq.numel_eq (fun i => i.elim0) (0 : Fin 1)).val = 0 := Nat.lt_one_iff.mp (Shape.reshapeEquiv sq.numel_eq (fun i => i.elim0) (0 : Fin 1)).isLt
  change p + 1 * (Shape.reshapeEquiv sq.numel_eq (fun i => i.elim0) (0 : Fin 1)).val = p % 9
  rw [e, Nat.mod_eq_of_lt hp]; omega

theorem qsem_eq {p : ℕ} (hp : p < 12) {o : Fin 2 → ℕ} (ho : o = ![p / 4, p % 4]) {h : ∀ a, o a + S1x1.size a ≤ S3x4.size a} {sq : S1x1.Squeezes S_} :
    (((cc0_scratch8 : DmaSems sig S3x4).slice (Rect.unit (s := S3x4) o S1x1.size h)).squeeze S_ sq).sem = qsem p := by
  subst ho
  refine congrArg (cc0_scratch8 : DmaSems sig S3x4).ix (funext fun a => Fin.ext ?_)
  fin_cases a
  · have e : (Shape.reshapeEquiv sq.numel_eq (fun i => i.elim0) (0 : Fin 2)).val = 0 := Nat.lt_one_iff.mp (Shape.reshapeEquiv sq.numel_eq (fun i => i.elim0) (0 : Fin 2)).isLt
    change p / 4 + 1 * (Shape.reshapeEquiv sq.numel_eq (fun i => i.elim0) (0 : Fin 2)).val = p / 4 % 3
    rw [e]; omega
  · have e : (Shape.reshapeEquiv sq.numel_eq (fun i => i.elim0) (1 : Fin 2)).val = 0 := Nat.lt_one_iff.mp (Shape.reshapeEquiv sq.numel_eq (fun i => i.elim0) (1 : Fin 2)).isLt
    change p % 4 + 1 * (Shape.reshapeEquiv sq.numel_eq (fun i => i.elim0) (1 : Fin 2)).val = p % 4
    rw [e]; omega

/-! ## What lands -/

theorem land5 (p : ℕ) {o5 : Fin 3 → ℕ} (ho5 : o5 = ![p, 0, 0]) {o0 : Fin 2 → ℕ} (ho0 : o0 = ![0, p * 1792])
    {h5 : ∀ a, o5 a + S1x96x1792.size a ≤ S4x96x1792.size a} {sq : S1x96x1792.Squeezes S96x1792} {h0 : ∀ a, o0 a + S96x1792.size a ≤ S96x7168.size a}
    (f0 : Bf F c M0) (g : Bf F c M5) (i : Ix c M5) (hi : i ∈ pc5 c p) :
    (((M5.slice (Rect.unit (s := S4x96x1792) o5 S1x96x1792.size h5) (fun _ => rfl)).squeeze S96x1792 sq).view.write (Elt F) g
      (ReadAs.same.apply ((M0.slice (Rect.unit (s := S96x7168) o0 S96x1792.size h0) (fun _ => rfl)).view.read (Elt F) f0)) Finset.univ) i = F5 f0 i := by
  rw [← set5 (c := c) p ho5 (h := h5) (sq := sq)] at hi
  obtain ⟨j, -, rfl⟩ := Finset.mem_map.mp hi
  refine (View.write_emb_of_mem _ _ (Finset.mem_univ j)).trans ?_
  subst ho5 ho0
  change f0 _ = f0 _
  refine congrArg f0 (funext fun a => Fin.ext ?_)
  have e : (Shape.reshapeEquiv sq.numel_eq j) = (Fin.cons ⟨0, Nat.one_pos⟩ j : S1x96x1792.Idx) := Shape.reshapeEquiv_cons_one (d := ![96, 1792]) sq.numel_eq j
  have e0 : (Shape.reshapeEquiv sq.numel_eq j 0).val = 0 := by rw [e]; rfl
  have e1 : (Shape.reshapeEquiv sq.numel_eq j 1).val = (j 0).val := by rw [e]; rfl
  have e2 : (Shape.reshapeEquiv sq.numel_eq j 2).val = (j 1).val := by rw [e]; rfl
  fin_cases a
  · change 0 + 1 * (j 0).val = 0 + 1 * (Shape.reshapeEquiv sq.numel_eq j 1).val
    rw [e1]
  · change p * 1792 + 1 * (j 1).val = (p + 1 * (Shape.reshapeEquiv sq.numel_eq j 0).val) * 1792 + (0 + 1 * (Shape.reshapeEquiv sq.numel_eq j 2).val)
    rw [e0, e2]; omega

theorem land6 (p : ℕ) {o6 : Fin 4 → ℕ} (ho6 : o6 = ![p / 4, p % 4, 0, 0]) {o1 : Fin 2 → ℕ} (ho1 : o1 = ![p % 4 * 1792, p / 4 * 384])
    {h6 : ∀ a, o6 a + S1x1x1792x384.size a ≤ S3x4x1792x384.size a} {sq : S1x1x1792x384.Squeezes S1792x384} {h1 : ∀ a, o1 a + S1792x384.size a ≤ S7168x1152.size a}
    (f1 : Bf F c M1) (g : Bf F c M6) (i : Ix c M6) (hi : i ∈ pc6 c p) :
    (((M6.slice (Rect.unit (s := S3x4x1792x384) o6 S1x1x1792x384.size h6) (fun _ => rfl)).squeeze S1792x384 sq).view.write (Elt F) g
      (ReadAs.same.apply ((M1.slice (Rect.unit (s := S7168x1152) o1 S1792x384.size h1) (fun _ => rfl)).view.read (Elt F) f1)) Finset.univ) i = F6 f1 i := by
  rw [← set6 (c := c) p ho6 (h := h6) (sq := sq)] at hi
  obtain ⟨j, -, rfl⟩ := Finset.mem_map.mp hi
  refine (View.write_emb_of_mem _ _ (Finset.mem_univ j)).trans ?_
  subst ho6 ho1
  change f1 _ = f1 _
  refine congrArg f1 (funext fun a => Fin.ext ?_)
  have n1 : (⟨3, ![1, 1792, 384]⟩ : Shape).numel = (⟨4, ![1, 1, 1792, 384]⟩ : Shape).numel := by decide
  have n2 : (⟨2, ![1792, 384]⟩ : Shape).numel = (⟨3, ![1, 1792, 384]⟩ : Shape).numel := by decide
  have e : (Shape.reshapeEquiv sq.numel_eq j) = (Fin.cons ⟨0, Nat.one_pos⟩ (Fin.cons ⟨0, Nat.one_pos⟩ j : (⟨3, ![1, 1792, 384]⟩ : Shape).Idx) : S1x1x1792x384.Idx) := by
    refine (Shape.reshapeEquiv_reshapeEquiv n1 n2 j).symm.trans ?_
    exact (congrArg _ (Shape.reshapeEquiv_cons_one (d := ![1792, 384]) n2 j)).trans (Shape.reshapeEquiv_cons_one (d := ![1, 1792, 384]) n1 _)
  have e0 : (Shape.reshapeEquiv sq.numel_eq j 0).val = 0 := by rw [e]; rfl
  have e1 : (Shape.reshapeEquiv sq.numel_eq j 1).val = 0 := by rw [e]; rfl
  have e2 : (Shape.reshapeEquiv sq.numel_eq j 2).val = (j 0).val := by rw [e]; rfl
  have e3 : (Shape.reshapeEquiv sq.numel_eq j 3).val = (j 1).val := by rw [e]; rfl
  fin_cases a
  · change p % 4 * 1792 + 1 * (j 0).val = (p % 4 + 1 * (Shape.reshapeEquiv sq.numel_eq j 1).val) * 1792 + (0 + 1 * (Shape.reshapeEquiv sq.numel_eq j 2).val)
    rw [e1, e2]; omega
  · change p / 4 * 384 + 1 * (j 1).val = (p / 4 + 1 * (Shape.reshapeEquiv sq.numel_eq j 0).val) * 384 + (0 + 1 * (Shape.reshapeEquiv sq.numel_eq j 3).val)
    rw [e0, e3]; omega

theorem land4 (p : ℕ) {o11 : Fin 3 → ℕ} (ho11 : o11 = ![p, 0, 0]) {o4 : Fin 2 → ℕ} (ho4 : o4 = ![0, p * 1024])
    {h11 : ∀ a, o11 a + S1x96x1024.size a ≤ S9x96x1024.size a} {sq : S1x96x1024.Squeezes S96x1024} {h4 : ∀ a, o4 a + S96x1024.size a ≤ S96x9216.size a}
    (f11 g' : Bf F c M11) (hg : ∀ i ∈ pc11 c p, f11 i = g' i) (g : Bf F c M4) (i : Ix c M4) (hi : i ∈ pc4 c p) :
    ((M4.slice (Rect.unit (s := S96x9216) o4 S96x1024.size h4) (fun _ => rfl)).view.write (Elt F) g
      (ReadAs.same.apply (((M11.slice (Rect.unit (s := S9x96x1024) o11 S1x96x1024.size h11) (fun _ => rfl)).squeeze S96x1024 sq).view.read (Elt F) f11)) Finset.univ) i = F4 g' i := by
  rw [← set4 (c := c) p ho4 (h := h4)] at hi
  obtain ⟨j, -, rfl⟩ := Finset.mem_map.mp hi
  refine (View.write_emb_of_mem _ _ (Finset.mem_univ j)).trans ?_
  change f11 (((M11.slice (Rect.unit (s := S9x96x1024) o11 S1x96x1024.size h11) (fun _ => rfl)).squeeze S96x1024 sq).view.emb j) = g' _
  refine (hg _ ?_).trans ?_
  · rw [← set11 (c := c) p ho11 (h := h11) (sq := sq)]
    exact View.emb_mem_set _ _
  subst ho11 ho4
  refine congrArg g' (funext fun a => Fin.ext ?_)
  have e : (Shape.reshapeEquiv sq.numel_eq j) = (Fin.cons ⟨0, Nat.one_pos⟩ j : S1x96x1024.Idx) := Shape.reshapeEquiv_cons_one (d := ![96, 1024]) sq.numel_eq j
  have e0 : (Shape.reshapeEquiv sq.numel_eq j 0).val = 0 := by rw [e]; rfl
  have e1 : (Shape.reshapeEquiv sq.numel_eq j 1).val = (j 0).val := by rw [e]; rfl
  have e2 : (Shape.reshapeEquiv sq.numel_eq j 2).val = (j 1).val := by rw [e]; rfl
  have b1 : (j 1).val < 1024 := (j 1).isLt
  fin_cases a
  · change p + 1 * (Shape.reshapeEquiv sq.numel_eq j 0).val = (p * 1024 + 1 * (j 1).val) / 1024
    rw [e0]; omega
  · change 0 + 1 * (Shape.reshapeEquiv sq.numel_eq j 1).val = 0 + 1 * (j 0).val
    rw [e1]
  · change 0 + 1 * (Shape.reshapeEquiv sq.numel_eq j 2).val = (p * 1024 + 1 * (j 1).val) % 1024
    rw [e2]; omega

/-! ## A transfer's amount; starting and waiting -/

abbrev N5 : ℕ := (M5.slice (Rect.unit (s := S4x96x1792) ![0, 0, 0] S1x96x1792.size inb_S4x96x1792_S1x96x1792_0_0_0) (fun _ => rfl)).squeeze S96x1792 squeezes_S1x96x1792_S96x1792 |>.view.dmaCredit
abbrev N6 : ℕ := (M6.slice (Rect.unit (s := S3x4x1792x384) ![0, 0, 0, 0] S1x1x1792x384.size inb_S3x4x1792x384_S1x1x1792x384_0_0_0_0) (fun _ => rfl)).squeeze S1792x384 squeezes_S1x1x1792x384_S1792x384 |>.view.dmaCredit
abbrev N4 : ℕ := (M4.slice (Rect.unit (s := S96x9216) ![0, 0] S96x1024.size inb_S96x9216_S96x1024_0_0) (fun _ => rfl)).view.dmaCredit
abbrev N7 : ℕ := M7.view.dmaCredit
abbrev N8 : ℕ := M8.view.dmaCredit

variable (c) in
/-- A slab of the tokens before its transfer is started, under way, and landed. -/
def inix (f0 : Bf F c M0) (g5 : Bf F c M5) (p : ℕ) : sProp 𝕄 :=
  iprop((M0.view.loc (c : Thread nD τ) ↦[pc0 c p]{fullShare} f0) ∗ (M5.view.loc (c : Thread nD τ) ↦[pc5 c p]{fullShare} g5) ∗ semVal ((c : Thread nD τ), SemLoc.dma (xsem p)) 0)
variable (c) in
def flx (f0 : Bf F c M0) (p : ℕ) : sProp 𝕄 :=
  Transfers.Flight (EC (F := F)) (c : Thread nD τ) (SemLoc.dma (xsem p)) () N5
    iprop((M5.view.loc (c : Thread nD τ) ↦[pc5 c p]{fullShare} F5 f0) ∗ (M0.view.loc (c : Thread nD τ) ↦[pc0 c p]{fullShare} f0))
variable (c) in
def dnx (f0 : Bf F c M0) (p : ℕ) : sProp 𝕄 :=
  iprop((M0.view.loc (c : Thread nD τ) ↦[pc0 c p]{fullShare} f0) ∗ semVal ((c : Thread nD τ), SemLoc.dma (xsem p)) 0)
variable (c) in
def iniq (f1 : Bf F c M1) (g6 : Bf F c M6) (p : ℕ) : sProp 𝕄 :=
  iprop((M1.view.loc (c : Thread nD τ) ↦[pc1 c p]{fullShare} f1) ∗ (M6.view.loc (c : Thread nD τ) ↦[pc6 c p]{fullShare} g6) ∗ semVal ((c : Thread nD τ), SemLoc.dma (qsem p)) 0)
variable (c) in
def flq (f1 : Bf F c M1) (p : ℕ) : sProp 𝕄 :=
  Transfers.Flight (EC (F := F)) (c : Thread nD τ) (SemLoc.dma (qsem p)) () N6
    iprop((M6.view.loc (c : Thread nD τ) ↦[pc6 c p]{fullShare} F6 f1) ∗ (M1.view.loc (c : Thread nD τ) ↦[pc1 c p]{fullShare} f1))
variable (c) in
def dnq (f1 : Bf F c M1) (p : ℕ) : sProp 𝕄 :=
  iprop((M1.view.loc (c : Thread nD τ) ↦[pc1 c p]{fullShare} f1) ∗ semVal ((c : Thread nD τ), SemLoc.dma (qsem p)) 0)
variable (c) in
def iniy (f4 : Bf F c M4) (p : ℕ) : sProp 𝕄 :=
  iprop((M4.view.loc (c : Thread nD τ) ↦[pc4 c p]{fullShare} f4) ∗ semVal ((c : Thread nD τ), SemLoc.dma (ysem p)) 0)
variable (c) in
def fly (g : Bf F c M11) (p : ℕ) : sProp 𝕄 :=
  Transfers.Flight (EC (F := F)) (c : Thread nD τ) (SemLoc.dma (ysem p)) () N4
    iprop((M4.view.loc (c : Thread nD τ) ↦[pc4 c p]{fullShare} F4 g) ∗ (M11.view.loc (c : Thread nD τ) ↦[pc11 c p]{fullShare} g))
variable (c) in
def dny (g : Bf F c M11) (p : ℕ) : sProp 𝕄 :=
  iprop((M4.view.loc (c : Thread nD τ) ↦[pc4 c p]{fullShare} F4 g) ∗ (M11.view.loc (c : Thread nD τ) ↦[pc11 c p]{fullShare} g) ∗ semVal ((c : Thread nD τ), SemLoc.dma (ysem p)) 0)

variable (c) in
/-- What the core's waits have recorded. -/
def wts : sProp 𝕄 := iprop(∃ W : Waits sig Unit, owes (c : Thread nD τ) 0 W)

theorem run_startx {f0 : Bf F c M0} {g5 : Bf F c M5} (p : ℕ) (hp : p < 4) {os : Fin 1 → ℕ} (hos : os = ![p]) {o5 : Fin 3 → ℕ} (ho5 : o5 = ![p, 0, 0]) {o0 : Fin 2 → ℕ} (ho0 : o0 = ![0, p * 1792])
    {hs : ∀ a, os a + S1.size a ≤ S4.size a} {sqs : S1.Squeezes S_}
    {h5 : ∀ a, o5 a + S1x96x1792.size a ≤ S4x96x1792.size a} {sq : S1x96x1792.Squeezes S96x1792} {h0 : ∀ a, o0 a + S96x1792.size a ≤ S96x7168.size a}
    {w1 w2 w3} {Q : PUnit → sProp 𝕄}
    (hP : P ⊢ iprop(inix c f0 g5 p ∗ R')) (h : iprop(flx c f0 p ∗ R') ⊢ Q ⟨⟩) :
    P ⊢ wp frame (wpE (defs₀ (F := F)) 𝒱 (c : Thread nD τ) bd) Set.univ (Prog.lift (.enqueueDma (M0.slice (Rect.unit (s := S96x7168) o0 S96x1792.size h0) (fun _ => rfl))
      (.here ((M5.slice (Rect.unit (s := S4x96x1792) o5 S1x96x1792.size h5) (fun _ => rfl)).squeeze S96x1792 sq))
      (.dma (((cc0_scratch7 : DmaSems sig S4).slice (Rect.unit (s := S4) os S1.size hs)).squeeze S_ sqs).sem) w1 w2 w3)) Q := by
  refine hP.trans ?_
  unfold inix
  iintro ⟨⟨H0, H5, Hv⟩, HR⟩
  iapply (Transfers.wp_dmaLocal (EC (F := F)) 𝒱 (c : Thread nD τ) bd () N5 (src := M0.slice (Rect.unit (s := S96x7168) o0 S96x1792.size h0) (fun _ => rfl)) (dst := (M5.slice (Rect.unit (s := S4x96x1792) o5 S1x96x1792.size h5) (fun _ => rfl)).squeeze S96x1792 sq) (sm := .dma (((cc0_scratch7 : DmaSems sig S4).slice (Rect.unit (s := S4) os S1.size hs)).squeeze S_ sqs).sem) (via := ReadAs.same) (hsrc := w1) (hdst := w2) (hsem := w3) (Sd := pc5 c p) (fd := g5) (q := fullShare) (fs := f0) rfl (View.amount_pos _ (SemLoc.dma (xsem p)) (by decide))
    (set5 (c := c) p ho5 (h := h5) (sq := sq)).subset) $$ [H0 H5 Hv]
  · rw [set0 (c := c) p ho0 (h := h0), xsem_eq hp hos]
    iframe
  rw [pointsTo_congr (land5 (c := c) p ho5 ho0 f0 g5), set0 (c := c) p ho0 (h := h0), xsem_eq hp hos]
  iintro HF
  rw [wp_ret]
  imodintro
  iapply h
  isplitl [HF]
  · unfold flx; iexact HF
  iexact HR

theorem run_startq {f1 : Bf F c M1} {g6 : Bf F c M6} (p : ℕ) (hp : p < 12) {os : Fin 2 → ℕ} (hos : os = ![p / 4, p % 4]) {o6 : Fin 4 → ℕ} (ho6 : o6 = ![p / 4, p % 4, 0, 0]) {o1 : Fin 2 → ℕ} (ho1 : o1 = ![p % 4 * 1792, p / 4 * 384])
    {hs : ∀ a, os a + S1x1.size a ≤ S3x4.size a} {sqs : S1x1.Squeezes S_}
    {h6 : ∀ a, o6 a + S1x1x1792x384.size a ≤ S3x4x1792x384.size a} {sq : S1x1x1792x384.Squeezes S1792x384} {h1 : ∀ a, o1 a + S1792x384.size a ≤ S7168x1152.size a}
    {w1 w2 w3} {Q : PUnit → sProp 𝕄}
    (hP : P ⊢ iprop(iniq c f1 g6 p ∗ R')) (h : iprop(flq c f1 p ∗ R') ⊢ Q ⟨⟩) :
    P ⊢ wp frame (wpE (defs₀ (F := F)) 𝒱 (c : Thread nD τ) bd) Set.univ (Prog.lift (.enqueueDma (M1.slice (Rect.unit (s := S7168x1152) o1 S1792x384.size h1) (fun _ => rfl))
      (.here ((M6.slice (Rect.unit (s := S3x4x1792x384) o6 S1x1x1792x384.size h6) (fun _ => rfl)).squeeze S1792x384 sq))
      (.dma (((cc0_scratch8 : DmaSems sig S3x4).slice (Rect.unit (s := S3x4) os S1x1.size hs)).squeeze S_ sqs).sem) w1 w2 w3)) Q := by
  refine hP.trans ?_
  unfold iniq
  iintro ⟨⟨H0, H5, Hv⟩, HR⟩
  iapply (Transfers.wp_dmaLocal (EC (F := F)) 𝒱 (c : Thread nD τ) bd () N6 (src := M1.slice (Rect.unit (s := S7168x1152) o1 S1792x384.size h1) (fun _ => rfl)) (dst := (M6.slice (Rect.unit (s := S3x4x1792x384) o6 S1x1x1792x384.size h6) (fun _ => rfl)).squeeze S1792x384 sq) (sm := .dma (((cc0_scratch8 : DmaSems sig S3x4).slice (Rect.unit (s := S3x4) os S1x1.size hs)).squeeze S_ sqs).sem) (via := ReadAs.same) (hsrc := w1) (hdst := w2) (hsem := w3) (Sd := pc6 c p) (fd := g6) (q := fullShare) (fs := f1) rfl (View.amount_pos _ (SemLoc.dma (qsem p)) (by decide))
    (set6 (c := c) p ho6 (h := h6) (sq := sq)).subset) $$ [H0 H5 Hv]
  · rw [set1 (c := c) p ho1 (h := h1), qsem_eq hp hos]
    iframe
  rw [pointsTo_congr (land6 (c := c) p ho6 ho1 f1 g6), set1 (c := c) p ho1 (h := h1), qsem_eq hp hos]
  iintro HF
  rw [wp_ret]
  imodintro
  iapply h
  isplitl [HF]
  · unfold flq; iexact HF
  iexact HR

theorem run_starty {f4 : Bf F c M4} {f11 g : Bf F c M11} (p : ℕ) (hp : p < 9) (hg : ∀ i ∈ pc11 c p, f11 i = g i) {os : Fin 1 → ℕ} (hos : os = ![p]) {o11 : Fin 3 → ℕ} (ho11 : o11 = ![p, 0, 0]) {o4 : Fin 2 → ℕ} (ho4 : o4 = ![0, p * 1024])
    {hs : ∀ a, os a + S1.size a ≤ S9.size a} {sqs : S1.Squeezes S_}
    {h11 : ∀ a, o11 a + S1x96x1024.size a ≤ S9x96x1024.size a} {sq : S1x96x1024.Squeezes S96x1024} {h4 : ∀ a, o4 a + S96x1024.size a ≤ S96x9216.size a}
    {w1 w2 w3} {Q : PUnit → sProp 𝕄}
    (hP : P ⊢ iprop((M11.view.loc (c : Thread nD τ) ↦[pc11 c p]{fullShare} f11) ∗ iniy c f4 p ∗ R')) (h : iprop(fly c g p ∗ R') ⊢ Q ⟨⟩) :
    P ⊢ wp frame (wpE (defs₀ (F := F)) 𝒱 (c : Thread nD τ) bd) Set.univ (Prog.lift (.enqueueDma ((M11.slice (Rect.unit (s := S9x96x1024) o11 S1x96x1024.size h11) (fun _ => rfl)).squeeze S96x1024 sq)
      (.here (M4.slice (Rect.unit (s := S96x9216) o4 S96x1024.size h4) (fun _ => rfl)))
      (.dma (((cc0_scratch10 : DmaSems sig S9).slice (Rect.unit (s := S9) os S1.size hs)).squeeze S_ sqs).sem) w1 w2 w3)) Q := by
  refine hP.trans ?_
  unfold iniy
  iintro ⟨H0, ⟨H5, Hv⟩, HR⟩
  iapply (Transfers.wp_dmaLocal (EC (F := F)) 𝒱 (c : Thread nD τ) bd () N4 (src := (M11.slice (Rect.unit (s := S9x96x1024) o11 S1x96x1024.size h11) (fun _ => rfl)).squeeze S96x1024 sq) (dst := M4.slice (Rect.unit (s := S96x9216) o4 S96x1024.size h4) (fun _ => rfl)) (sm := .dma (((cc0_scratch10 : DmaSems sig S9).slice (Rect.unit (s := S9) os S1.size hs)).squeeze S_ sqs).sem) (via := ReadAs.same) (hsrc := w1) (hdst := w2) (hsem := w3) (Sd := pc4 c p) (fd := f4) (q := fullShare) (fs := f11) rfl (View.amount_pos _ (SemLoc.dma (ysem p)) (by decide))
    (set4 (c := c) p ho4 (h := h4)).subset) $$ [H0 H5 Hv]
  · rw [set11 (c := c) p ho11 (h := h11) (sq := sq), ysem_eq hp hos]
    iframe
  rw [pointsTo_congr (land4 (c := c) p ho11 ho4 f11 g hg f4), set11 (c := c) p ho11 (h := h11) (sq := sq), pointsTo_congr hg, ysem_eq hp hos]
  iintro HF
  rw [wp_ret]
  imodintro
  iapply h
  isplitl [HF]
  · unfold fly; iexact HF
  iexact HR

theorem run_waitx {f0 : Bf F c M0} (p : ℕ) (hp : p < 4) {os : Fin 1 → ℕ} (hos : os = ![p]) {o5 : Fin 3 → ℕ} {o0 : Fin 2 → ℕ}
    {hs : ∀ a, os a + S1.size a ≤ S4.size a} {sqs : S1.Squeezes S_}
    {h5 : ∀ a, o5 a + S1x96x1792.size a ≤ S4x96x1792.size a} {sq : S1x96x1792.Squeezes S96x1792} {h0 : ∀ a, o0 a + S96x1792.size a ≤ S96x7168.size a}
    {w1 w2} {Q : PUnit → sProp 𝕄}
    (hP : P ⊢ iprop(flx c f0 p ∗ wts c ∗ R')) (h : iprop((M5.view.loc (c : Thread nD τ) ↦[pc5 c p]{fullShare} F5 f0) ∗ dnx c f0 p ∗ wts c ∗ R') ⊢ Q ⟨⟩) :
    P ⊢ wp frame (wpE (defs₀ (F := F)) 𝒱 (c : Thread nD τ) bd) Set.univ (Prog.lift (.waitDma2 (((cc0_scratch7 : DmaSems sig S4).slice (Rect.unit (s := S4) os S1.size hs)).squeeze S_ sqs).sem
      (M0.slice (Rect.unit (s := S96x7168) o0 S96x1792.size h0) (fun _ => rfl))
      ((M5.slice (Rect.unit (s := S4x96x1792) o5 S1x96x1792.size h5) (fun _ => rfl)).squeeze S96x1792 sq) w1 w2)) Q := by
  rw [xsem_eq hp hos]
  refine hP.trans ?_
  unfold flx wts
  iintro ⟨HF, ⟨%W, HW⟩, HR⟩
  iapply (Transfers.wp_waitLocal (EC (F := F)) 𝒱 (c : Thread nD τ) bd () (N := N5) (srcw := M0.slice (Rect.unit (s := S96x7168) o0 S96x1792.size h0) (fun _ => rfl)) (dstw := (M5.slice (Rect.unit (s := S4x96x1792) o5 S1x96x1792.size h5) (fun _ => rfl)).squeeze S96x1792 sq) (sem := xsem p) (hsrc := w1) (hdst := w2) rfl) $$ [HF HW]
  · isplitl [HF]
    · iexact HF
    iexact HW
  iintro ⟨⟨H5, H0⟩, Hv, HW⟩
  rw [wp_ret]
  imodintro
  iapply h
  unfold dnx wts
  isplitl [H5]
  · iexact H5
  isplitl [H0 Hv]
  · isplitl [H0]
    · iexact H0
    iexact Hv
  isplitl [HW]
  · iexists _; iexact HW
  iexact HR

theorem run_waitq {f1 : Bf F c M1} (p : ℕ) (hp : p < 12) {os : Fin 2 → ℕ} (hos : os = ![p / 4, p % 4]) {o6 : Fin 4 → ℕ} {o1 : Fin 2 → ℕ}
    {hs : ∀ a, os a + S1x1.size a ≤ S3x4.size a} {sqs : S1x1.Squeezes S_}
    {h6 : ∀ a, o6 a + S1x1x1792x384.size a ≤ S3x4x1792x384.size a} {sq : S1x1x1792x384.Squeezes S1792x384} {h1 : ∀ a, o1 a + S1792x384.size a ≤ S7168x1152.size a}
    {w1 w2} {Q : PUnit → sProp 𝕄}
    (hP : P ⊢ iprop(flq c f1 p ∗ wts c ∗ R')) (h : iprop((M6.view.loc (c : Thread nD τ) ↦[pc6 c p]{fullShare} F6 f1) ∗ dnq c f1 p ∗ wts c ∗ R') ⊢ Q ⟨⟩) :
    P ⊢ wp frame (wpE (defs₀ (F := F)) 𝒱 (c : Thread nD τ) bd) Set.univ (Prog.lift (.waitDma2 (((cc0_scratch8 : DmaSems sig S3x4).slice (Rect.unit (s := S3x4) os S1x1.size hs)).squeeze S_ sqs).sem
      (M1.slice (Rect.unit (s := S7168x1152) o1 S1792x384.size h1) (fun _ => rfl))
      ((M6.slice (Rect.unit (s := S3x4x1792x384) o6 S1x1x1792x384.size h6) (fun _ => rfl)).squeeze S1792x384 sq) w1 w2)) Q := by
  rw [qsem_eq hp hos]
  refine hP.trans ?_
  unfold flq wts
  iintro ⟨HF, ⟨%W, HW⟩, HR⟩
  iapply (Transfers.wp_waitLocal (EC (F := F)) 𝒱 (c : Thread nD τ) bd () (N := N6) (srcw := M1.slice (Rect.unit (s := S7168x1152) o1 S1792x384.size h1) (fun _ => rfl)) (dstw := (M6.slice (Rect.unit (s := S3x4x1792x384) o6 S1x1x1792x384.size h6) (fun _ => rfl)).squeeze S1792x384 sq) (sem := qsem p) (hsrc := w1) (hdst := w2) rfl) $$ [HF HW]
  · isplitl [HF]
    · iexact HF
    iexact HW
  iintro ⟨⟨H5, H0⟩, Hv, HW⟩
  rw [wp_ret]
  imodintro
  iapply h
  unfold dnq wts
  isplitl [H5]
  · iexact H5
  isplitl [H0 Hv]
  · isplitl [H0]
    · iexact H0
    iexact Hv
  isplitl [HW]
  · iexists _; iexact HW
  iexact HR

theorem run_waity {g : Bf F c M11} (p : ℕ) (hp : p < 9) {os : Fin 1 → ℕ} (hos : os = ![p]) {o11 : Fin 3 → ℕ} {o4 : Fin 2 → ℕ}
    {hs : ∀ a, os a + S1.size a ≤ S9.size a} {sqs : S1.Squeezes S_}
    {h11 : ∀ a, o11 a + S1x96x1024.size a ≤ S9x96x1024.size a} {sq : S1x96x1024.Squeezes S96x1024} {h4 : ∀ a, o4 a + S96x1024.size a ≤ S96x9216.size a}
    {w1 w2} {Q : PUnit → sProp 𝕄}
    (hP : P ⊢ iprop(fly c g p ∗ wts c ∗ R')) (h : iprop(dny c g p ∗ wts c ∗ R') ⊢ Q ⟨⟩) :
    P ⊢ wp frame (wpE (defs₀ (F := F)) 𝒱 (c : Thread nD τ) bd) Set.univ (Prog.lift (.waitDma2 (((cc0_scratch10 : DmaSems sig S9).slice (Rect.unit (s := S9) os S1.size hs)).squeeze S_ sqs).sem
      ((M11.slice (Rect.unit (s := S9x96x1024) o11 S1x96x1024.size h11) (fun _ => rfl)).squeeze S96x1024 sq)
      (M4.slice (Rect.unit (s := S96x9216) o4 S96x1024.size h4) (fun _ => rfl)) w1 w2)) Q := by
  rw [ysem_eq hp hos]
  refine hP.trans ?_
  unfold fly wts
  iintro ⟨HF, ⟨%W, HW⟩, HR⟩
  iapply (Transfers.wp_waitLocal (EC (F := F)) 𝒱 (c : Thread nD τ) bd () (N := N4) (srcw := (M11.slice (Rect.unit (s := S9x96x1024) o11 S1x96x1024.size h11) (fun _ => rfl)).squeeze S96x1024 sq) (dstw := M4.slice (Rect.unit (s := S96x9216) o4 S96x1024.size h4) (fun _ => rfl)) (sem := ysem p) (hsrc := w1) (hdst := w2) rfl) $$ [HF HW]
  · isplitl [HF]
    · iexact HF
    iexact HW
  iintro ⟨⟨H5, H0⟩, Hv, HW⟩
  rw [wp_ret]
  imodintro
  iapply h
  unfold dny wts
  isplitl [H5 H0 Hv]
  · isplitl [H5]
    · iexact H5
    isplitl [H0]
    · iexact H0
    iexact Hv
  isplitl [HW]
  · iexists _; iexact HW
  iexact HR

/-! ## The two small operands, copied whole -/

variable (c) in
def fl7 (f : Bf F c M2) (f' : Bf F c M7) : sProp 𝕄 :=
  Transfers.Flight (EC (F := F)) (c : Thread nD τ) (SemLoc.dma (ssem 0)) () N7
    iprop((M7.view.loc (c : Thread nD τ) ↦{fullShare} f') ∗ (M2.view.loc (c : Thread nD τ) ↦{fullShare} f))

/-- The small operand as it lands. -/
def L7 (f : Bf F c M2) : Bf F c M7 := f

theorem run_start7 {f : Bf F c M2} {g : Bf F c M7} {os : Fin 1 → ℕ} (hos : os = ![0])
    {hs : ∀ a, os a + S1.size a ≤ S2.size a} {sqs : S1.Squeezes S_} {w1 w2 w3} {Q : PUnit → sProp 𝕄}
    (hP : P ⊢ iprop((M2.view.loc (c : Thread nD τ) ↦{fullShare} f) ∗ (M7.view.loc (c : Thread nD τ) ↦{fullShare} g) ∗ semVal ((c : Thread nD τ), SemLoc.dma (ssem 0)) 0 ∗ R'))
    (h : iprop(fl7 c f (L7 f) ∗ R') ⊢ Q ⟨⟩) :
    P ⊢ wp frame (wpE (defs₀ (F := F)) 𝒱 (c : Thread nD τ) bd) Set.univ (Prog.lift (.enqueueDma M2 (.here M7)
      (.dma (((cc0_scratch9 : DmaSems sig S2).slice (Rect.unit (s := S2) os S1.size hs)).squeeze S_ sqs).sem) w1 w2 w3)) Q := by
  refine hP.trans ?_
  iintro ⟨H0, H5, Hv, HR⟩
  iapply (Transfers.wp_dmaLocal (EC (F := F)) 𝒱 (c : Thread nD τ) bd () N7 (src := M2) (dst := M7) (sm := .dma (((cc0_scratch9 : DmaSems sig S2).slice (Rect.unit (s := S2) os S1.size hs)).squeeze S_ sqs).sem) (via := ReadAs.same) (hsrc := w1) (hdst := w2) (hsem := w3) (Sd := Finset.univ) (fd := g) (q := fullShare) (fs := f) rfl (View.amount_pos _ (SemLoc.dma (ssem 0)) (by decide))
    (Finset.subset_univ _)) $$ [H0 H5 Hv]
  · rw [ssem_eq (by decide) hos, View.set_whole]
    iframe
  have e : (M7.view.write (Elt F) g (ReadAs.same.apply (M2.view.read (Elt F) f)) Finset.univ : Bf F c M7) = L7 f := by
    funext i
    exact View.write_emb_of_mem (v := M7.view) g _ (Finset.mem_univ i)
  rw [e, ssem_eq (by decide) hos, View.set_whole]
  iintro HF
  rw [wp_ret]
  imodintro
  iapply h
  isplitl [HF]
  · unfold fl7; iexact HF
  iexact HR

theorem run_wait7 {f : Bf F c M2} {g : Bf F c M7} {os : Fin 1 → ℕ} (hos : os = ![0])
    {hs : ∀ a, os a + S1.size a ≤ S2.size a} {sqs : S1.Squeezes S_} {w1 w2} {Q : PUnit → sProp 𝕄}
    (hP : P ⊢ iprop(fl7 c f g ∗ wts c ∗ R'))
    (h : iprop((M7.view.loc (c : Thread nD τ) ↦{fullShare} g) ∗ (M2.view.loc (c : Thread nD τ) ↦{fullShare} f) ∗ semVal ((c : Thread nD τ), SemLoc.dma (ssem 0)) 0 ∗ wts c ∗ R') ⊢ Q ⟨⟩) :
    P ⊢ wp frame (wpE (defs₀ (F := F)) 𝒱 (c : Thread nD τ) bd) Set.univ (Prog.lift (.waitDma2
      (((cc0_scratch9 : DmaSems sig S2).slice (Rect.unit (s := S2) os S1.size hs)).squeeze S_ sqs).sem M2 M7 w1 w2)) Q := by
  rw [ssem_eq (by decide) hos]
  refine hP.trans ?_
  unfold fl7 wts
  iintro ⟨HF, ⟨%W, HW⟩, HR⟩
  iapply (Transfers.wp_waitLocal (EC (F := F)) 𝒱 (c : Thread nD τ) bd () (N := N7) (srcw := M2) (dstw := M7) (sem := ssem 0) (hsrc := w1) (hdst := w2) rfl) $$ [HF HW]
  · isplitl [HF]
    · iexact HF
    iexact HW
  iintro ⟨⟨H5, H0⟩, Hv, HW⟩
  rw [wp_ret]
  imodintro
  iapply h
  unfold wts
  isplitl [H5]
  · iexact H5
  isplitl [H0]
  · iexact H0
  isplitl [Hv]
  · iexact Hv
  isplitl [HW]
  · iexists _; iexact HW
  iexact HR

variable (c) in
def fl8 (f : Bf F c M3) (f' : Bf F c M8) : sProp 𝕄 :=
  Transfers.Flight (EC (F := F)) (c : Thread nD τ) (SemLoc.dma (ssem 1)) () N8
    iprop((M8.view.loc (c : Thread nD τ) ↦{fullShare} f') ∗ (M3.view.loc (c : Thread nD τ) ↦{fullShare} f))

/-- The small operand as it lands. -/
def L8 (f : Bf F c M3) : Bf F c M8 := f

theorem run_start8 {f : Bf F c M3} {g : Bf F c M8} {os : Fin 1 → ℕ} (hos : os = ![1])
    {hs : ∀ a, os a + S1.size a ≤ S2.size a} {sqs : S1.Squeezes S_} {w1 w2 w3} {Q : PUnit → sProp 𝕄}
    (hP : P ⊢ iprop((M3.view.loc (c : Thread nD τ) ↦{fullShare} f) ∗ (M8.view.loc (c : Thread nD τ) ↦{fullShare} g) ∗ semVal ((c : Thread nD τ), SemLoc.dma (ssem 1)) 0 ∗ R'))
    (h : iprop(fl8 c f (L8 f) ∗ R') ⊢ Q ⟨⟩) :
    P ⊢ wp frame (wpE (defs₀ (F := F)) 𝒱 (c : Thread nD τ) bd) Set.univ (Prog.lift (.enqueueDma M3 (.here M8)
      (.dma (((cc0_scratch9 : DmaSems sig S2).slice (Rect.unit (s := S2) os S1.size hs)).squeeze S_ sqs).sem) w1 w2 w3)) Q := by
  refine hP.trans ?_
  iintro ⟨H0, H5, Hv, HR⟩
  iapply (Transfers.wp_dmaLocal (EC (F := F)) 𝒱 (c : Thread nD τ) bd () N8 (src := M3) (dst := M8) (sm := .dma (((cc0_scratch9 : DmaSems sig S2).slice (Rect.unit (s := S2) os S1.size hs)).squeeze S_ sqs).sem) (via := ReadAs.same) (hsrc := w1) (hdst := w2) (hsem := w3) (Sd := Finset.univ) (fd := g) (q := fullShare) (fs := f) rfl (View.amount_pos _ (SemLoc.dma (ssem 1)) (by decide))
    (Finset.subset_univ _)) $$ [H0 H5 Hv]
  · rw [ssem_eq (by decide) hos, View.set_whole]
    iframe
  have e : (M8.view.write (Elt F) g (ReadAs.same.apply (M3.view.read (Elt F) f)) Finset.univ : Bf F c M8) = L8 f := by
    funext i
    exact View.write_emb_of_mem (v := M8.view) g _ (Finset.mem_univ i)
  rw [e, ssem_eq (by decide) hos, View.set_whole]
  iintro HF
  rw [wp_ret]
  imodintro
  iapply h
  isplitl [HF]
  · unfold fl8; iexact HF
  iexact HR

theorem run_wait8 {f : Bf F c M3} {g : Bf F c M8} {os : Fin 1 → ℕ} (hos : os = ![1])
    {hs : ∀ a, os a + S1.size a ≤ S2.size a} {sqs : S1.Squeezes S_} {w1 w2} {Q : PUnit → sProp 𝕄}
    (hP : P ⊢ iprop(fl8 c f g ∗ wts c ∗ R'))
    (h : iprop((M8.view.loc (c : Thread nD τ) ↦{fullShare} g) ∗ (M3.view.loc (c : Thread nD τ) ↦{fullShare} f) ∗ semVal ((c : Thread nD τ), SemLoc.dma (ssem 1)) 0 ∗ wts c ∗ R') ⊢ Q ⟨⟩) :
    P ⊢ wp frame (wpE (defs₀ (F := F)) 𝒱 (c : Thread nD τ) bd) Set.univ (Prog.lift (.waitDma2
      (((cc0_scratch9 : DmaSems sig S2).slice (Rect.unit (s := S2) os S1.size hs)).squeeze S_ sqs).sem M3 M8 w1 w2)) Q := by
  rw [ssem_eq (by decide) hos]
  refine hP.trans ?_
  unfold fl8 wts
  iintro ⟨HF, ⟨%W, HW⟩, HR⟩
  iapply (Transfers.wp_waitLocal (EC (F := F)) 𝒱 (c : Thread nD τ) bd () (N := N8) (srcw := M3) (dstw := M8) (sem := ssem 1) (hsrc := w1) (hdst := w2) rfl) $$ [HF HW]
  · isplitl [HF]
    · iexact HF
    iexact HW
  iintro ⟨⟨H5, H0⟩, Hv, HW⟩
  rw [wp_ret]
  imodintro
  iapply h
  unfold wts
  isplitl [H5]
  · iexact H5
  isplitl [H0]
  · iexact H0
  isplitl [Hv]
  · iexact Hv
  isplitl [HW]
  · iexists _; iexact HW
  iexact HR

end

end Cert.Kernel.Hand
-- ==== Proof.Kernel.Queue.lean ====
module

public import proofs.«01_k».proof.Proof.Kernel.Pieces

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V}

theorem eqv {P Q : sProp 𝕄} (h : P ⊣⊢ Q) : P = Q := BI.equiv_iff.mp ⟨h.1, h.2⟩

def QP (n : ℕ) (a b : ℕ → sProp 𝕄) (K : ℕ) : sProp 𝕄 := bigSep (Finset.range n) fun p => if p < K then b p else a p
def QR (n : ℕ) (a b : ℕ → sProp 𝕄) (K : ℕ) : sProp 𝕄 := bigSep ((Finset.range n).erase K) fun p => if p < K then b p else a p

theorem qp_take {n : ℕ} {a b : ℕ → sProp 𝕄} {K : ℕ} (hK : K < n) : QP n a b K = iprop(a K ∗ QR n a b K) := by
  unfold QP QR
  rw [BI.bigSep_erase (Finset.mem_range.mpr hK), if_neg (lt_irrefl K)]; rfl

theorem qp_put {n : ℕ} {a b : ℕ → sProp 𝕄} {K : ℕ} (hK : K < n) : QP n a b (K + 1) = iprop(b K ∗ QR n a b K) := by
  unfold QP QR
  rw [BI.bigSep_erase (Finset.mem_range.mpr hK), if_pos (Nat.lt_succ_self K)]
  congr 1
  refine bigSep_congr fun p hp => ?_
  have h := Finset.ne_of_mem_erase hp
  by_cases hl : p < K
  · rw [if_pos hl, if_pos (by omega)]
  · rw [if_neg hl, if_neg (by omega)]

theorem qp_all {n : ℕ} {a b : ℕ → sProp 𝕄} : QP n a b n = bigSep (Finset.range n) b :=
  bigSep_congr fun p hp => if_pos (Finset.mem_range.mp hp)

theorem qp_none {n : ℕ} {a b : ℕ → sProp 𝕄} : QP n a b 0 = bigSep (Finset.range n) a :=
  bigSep_congr fun p hp => if_neg (Nat.not_lt_zero p)

theorem qp_turn {n : ℕ} {a b b' : ℕ → sProp 𝕄} : QP n a b n = QP n b b' 0 := qp_all.trans qp_none.symm

variable (c) in
def D5 (K : ℕ) : Finset (Ix c M5) := Finset.univ.filter fun i : S4x96x1792.Idx => (i 0).val < K
variable (c) in
def D6 (K : ℕ) : Finset (Ix c M6) := Finset.univ.filter fun i : S3x4x1792x384.Idx => (i 0).val * 4 + (i 1).val < K
variable (c) in
def D11 (K : ℕ) : Finset (Ix c M11) := Finset.univ.filter fun i : S9x96x1024.Idx => K ≤ (i 0).val

theorem D5_succ (K : ℕ) : D5 c (K + 1) = D5 c K ∪ pc5 c K := by
  ext i; simp only [D5, pc5, Finset.mem_union, Finset.mem_filter, Finset.mem_univ, true_and]; omega
theorem D6_succ (K : ℕ) : D6 c (K + 1) = D6 c K ∪ pc6 c K := by
  ext i; simp only [D6, pc6, Finset.mem_union, Finset.mem_filter, Finset.mem_univ, true_and]; omega
theorem D11_succ (K : ℕ) : D11 c K = pc11 c K ∪ D11 c (K + 1) := by
  ext i; simp only [D11, pc11, Finset.mem_union, Finset.mem_filter, Finset.mem_univ, true_and]; omega
theorem D5_disj (K : ℕ) : Disjoint (D5 c K) (pc5 c K) := by
  rw [Finset.disjoint_left]; intro i; simp only [D5, pc5, Finset.mem_filter, Finset.mem_univ, true_and]; omega
theorem D6_disj (K : ℕ) : Disjoint (D6 c K) (pc6 c K) := by
  rw [Finset.disjoint_left]; intro i; simp only [D6, pc6, Finset.mem_filter, Finset.mem_univ, true_and]; omega
theorem D11_disj (K : ℕ) : Disjoint (pc11 c K) (D11 c (K + 1)) := by
  rw [Finset.disjoint_left]; intro i; simp only [D11, pc11, Finset.mem_filter, Finset.mem_univ, true_and]; omega

/-- The arrays of the call, and what the staged result of each block is known to satisfy when its
    copy starts. -/
structure Par (F : FTy → Type) (c : Dev nD) where
  f0 : Bf F c M0
  f1 : Bf F c M1
  f4 : Bf F c M4
  f7 : Bf F c M7
  f8 : Bf F c M8
  good : ℕ → Bf F c M11 → Prop

/-- A block of the result on its way back, and landed: its contents are what they were when the copy started. -/
def gly (A : Par F c) (p : ℕ) : sProp 𝕄 := iprop(∃ g : Bf F c M11, fly c g p ∗ ⌜A.good p g⌝)
def gny (A : Par F c) (p : ℕ) : sProp 𝕄 := iprop(∃ g : Bf F c M11, dny c g p ∗ ⌜A.good p g⌝)

/-- The copies of the call once every operand copy is started, `lx`, `lq` operand copies landed and
    `ly` result copies started, beside anything else. -/
def Rr (A : Par F c) (Z : sProp 𝕄) (lx lq ly : ℕ) : sProp 𝕄 :=
  iprop(QP 4 (flx c A.f0) (dnx c A.f0) lx ∗ QP 12 (flq c A.f1) (dnq c A.f1) lq ∗ QP 9 (iniy c A.f4) (gly A) ly ∗ wts c ∗ Z)

def Vv (A : Par F c) (lx lq ly : ℕ) : Env F c := ⟨D5 c lx, D6 c lq, D11 c ly, F5 A.f0, F6 A.f1, A.f7, A.f8⟩

abbrev OwnT (A : Par F c) (Z : sProp 𝕄) (lx lq ly : ℕ) (f9 : Bf F c M9) (f10 : Bf F c M10) (f11 : Bf F c M11) : sProp 𝕄 :=
  Own c (Rr A Z lx lq ly) (Vv A lx lq ly) f9 f10 f11

variable {A : Par F c} {Z : sProp (MT nD τ sig Unit (Elt F) ℕ (Pipeline.UD sig nD τ) ℕ)} {lx lq ly : ℕ} {f9 : Bf F c M9} {f10 : Bf F c M10} {f11 : Bf F c M11}

theorem runT_waitx (hp : lx < 4) {os : Fin 1 → ℕ} (hos : os = ![lx]) {o5 : Fin 3 → ℕ} {o0 : Fin 2 → ℕ}
    {hs : ∀ a, os a + S1.size a ≤ S4.size a} {sqs : S1.Squeezes S_}
    {h5 : ∀ a, o5 a + S1x96x1792.size a ≤ S4x96x1792.size a} {sq : S1x96x1792.Squeezes S96x1792} {h0 : ∀ a, o0 a + S96x1792.size a ≤ S96x7168.size a}
    {w1 w2} {Q : PUnit → sProp 𝕄} (h : OwnT A Z (lx + 1) lq ly f9 f10 f11 ⊢ Q ⟨⟩) :
    OwnT A Z lx lq ly f9 f10 f11 ⊢ wp frame (wpE (defs₀ (F := F)) 𝒱 (c : Thread nD τ) bd) Set.univ (Prog.lift (.waitDma2 (((cc0_scratch7 : DmaSems sig S4).slice (Rect.unit (s := S4) os S1.size hs)).squeeze S_ sqs).sem
      (M0.slice (Rect.unit (s := S96x7168) o0 S96x1792.size h0) (fun _ => rfl))
      ((M5.slice (Rect.unit (s := S4x96x1792) o5 S1x96x1792.size h5) (fun _ => rfl)).squeeze S96x1792 sq) w1 w2)) Q := by
  refine run_waitx (f0 := A.f0) lx hp hos (R' := iprop((M5.view.loc (c : Thread nD τ) ↦[D5 c lx]{fullShare} F5 A.f0) ∗ (M6.view.loc (c : Thread nD τ) ↦[D6 c lq]{fullShare} F6 A.f1)
    ∗ (M7.view.loc (c : Thread nD τ) ↦{fullShare} A.f7) ∗ (M8.view.loc (c : Thread nD τ) ↦{fullShare} A.f8)
    ∗ (M9.view.loc (c : Thread nD τ) ↦{fullShare} f9) ∗ (M10.view.loc (c : Thread nD τ) ↦{fullShare} f10)
    ∗ (M11.view.loc (c : Thread nD τ) ↦[D11 c ly]{fullShare} f11) ∗ QR 4 (flx c A.f0) (dnx c A.f0) lx ∗ QP 12 (flq c A.f1) (dnq c A.f1) lq ∗ QP 9 (iniy c A.f4) (gly A) ly ∗ Z)) (P := OwnT A Z lx lq ly f9 f10 f11) ?_ (BIBase.Entails.trans ?_ h)
  · unfold OwnT Own Rr Vv
    dsimp only
    rw [qp_take hp]
    iintro ⟨H5, H6, H7, H8, H9, H10, H11, ⟨Ha, Hx⟩, Hq, Hy, Hw, HZ⟩
    iframe
  · unfold OwnT Own Rr Vv
    dsimp only
    rw [qp_put hp, D5_succ, eqv (pointsTo_union (D5_disj (c := c) lx))]
    iintro ⟨Hn, Hd, Hw, H5, H6, H7, H8, H9, H10, H11, Hx, Hq, Hy, HZ⟩
    iframe

theorem runT_waitq (hp : lq < 12) {os : Fin 2 → ℕ} (hos : os = ![lq / 4, lq % 4]) {o6 : Fin 4 → ℕ} {o1 : Fin 2 → ℕ}
    {hs : ∀ a, os a + S1x1.size a ≤ S3x4.size a} {sqs : S1x1.Squeezes S_}
    {h6 : ∀ a, o6 a + S1x1x1792x384.size a ≤ S3x4x1792x384.size a} {sq : S1x1x1792x384.Squeezes S1792x384} {h1 : ∀ a, o1 a + S1792x384.size a ≤ S7168x1152.size a}
    {w1 w2} {Q : PUnit → sProp 𝕄} (h : OwnT A Z lx (lq + 1) ly f9 f10 f11 ⊢ Q ⟨⟩) :
    OwnT A Z lx lq ly f9 f10 f11 ⊢ wp frame (wpE (defs₀ (F := F)) 𝒱 (c : Thread nD τ) bd) Set.univ (Prog.lift (.waitDma2 (((cc0_scratch8 : DmaSems sig S3x4).slice (Rect.unit (s := S3x4) os S1x1.size hs)).squeeze S_ sqs).sem
      (M1.slice (Rect.unit (s := S7168x1152) o1 S1792x384.size h1) (fun _ => rfl))
      ((M6.slice (Rect.unit (s := S3x4x1792x384) o6 S1x1x1792x384.size h6) (fun _ => rfl)).squeeze S1792x384 sq) w1 w2)) Q := by
  refine run_waitq (f1 := A.f1) lq hp hos (R' := iprop((M5.view.loc (c : Thread nD τ) ↦[D5 c lx]{fullShare} F5 A.f0) ∗ (M6.view.loc (c : Thread nD τ) ↦[D6 c lq]{fullShare} F6 A.f1)
    ∗ (M7.view.loc (c : Thread nD τ) ↦{fullShare} A.f7) ∗ (M8.view.loc (c : Thread nD τ) ↦{fullShare} A.f8)
    ∗ (M9.view.loc (c : Thread nD τ) ↦{fullShare} f9) ∗ (M10.view.loc (c : Thread nD τ) ↦{fullShare} f10)
    ∗ (M11.view.loc (c : Thread nD τ) ↦[D11 c ly]{fullShare} f11) ∗ QP 4 (flx c A.f0) (dnx c A.f0) lx ∗ QR 12 (flq c A.f1) (dnq c A.f1) lq ∗ QP 9 (iniy c A.f4) (gly A) ly ∗ Z)) (P := OwnT A Z lx lq ly f9 f10 f11) ?_ (BIBase.Entails.trans ?_ h)
  · unfold OwnT Own Rr Vv
    dsimp only
    rw [qp_take hp]
    iintro ⟨H5, H6, H7, H8, H9, H10, H11, Hx, ⟨Ha, Hq⟩, Hy, Hw, HZ⟩
    iframe
  · unfold OwnT Own Rr Vv
    dsimp only
    rw [qp_put hp, D6_succ, eqv (pointsTo_union (D6_disj (c := c) lq))]
    iintro ⟨Hn, Hd, Hw, H5, H6, H7, H8, H9, H10, H11, Hx, Hq, Hy, HZ⟩
    iframe

theorem runT_starty (hp : ly < 9) (hg : A.good ly f11) {os : Fin 1 → ℕ} (hos : os = ![ly]) {o11 : Fin 3 → ℕ} (ho11 : o11 = ![ly, 0, 0]) {o4 : Fin 2 → ℕ} (ho4 : o4 = ![0, ly * 1024])
    {hs : ∀ a, os a + S1.size a ≤ S9.size a} {sqs : S1.Squeezes S_}
    {h11 : ∀ a, o11 a + S1x96x1024.size a ≤ S9x96x1024.size a} {sq : S1x96x1024.Squeezes S96x1024} {h4 : ∀ a, o4 a + S96x1024.size a ≤ S96x9216.size a}
    {w1 w2 w3} {Q : PUnit → sProp 𝕄} (h : OwnT A Z lx lq (ly + 1) f9 f10 f11 ⊢ Q ⟨⟩) :
    OwnT A Z lx lq ly f9 f10 f11 ⊢ wp frame (wpE (defs₀ (F := F)) 𝒱 (c : Thread nD τ) bd) Set.univ (Prog.lift (.enqueueDma ((M11.slice (Rect.unit (s := S9x96x1024) o11 S1x96x1024.size h11) (fun _ => rfl)).squeeze S96x1024 sq)
      (.here (M4.slice (Rect.unit (s := S96x9216) o4 S96x1024.size h4) (fun _ => rfl)))
      (.dma (((cc0_scratch10 : DmaSems sig S9).slice (Rect.unit (s := S9) os S1.size hs)).squeeze S_ sqs).sem) w1 w2 w3)) Q := by
  refine run_starty (f4 := A.f4) (f11 := f11) (g := f11) ly hp (fun _ _ => rfl) hos ho11 ho4 (R' := iprop((M5.view.loc (c : Thread nD τ) ↦[D5 c lx]{fullShare} F5 A.f0) ∗ (M6.view.loc (c : Thread nD τ) ↦[D6 c lq]{fullShare} F6 A.f1)
    ∗ (M7.view.loc (c : Thread nD τ) ↦{fullShare} A.f7) ∗ (M8.view.loc (c : Thread nD τ) ↦{fullShare} A.f8)
    ∗ (M9.view.loc (c : Thread nD τ) ↦{fullShare} f9) ∗ (M10.view.loc (c : Thread nD τ) ↦{fullShare} f10)
    ∗ (M11.view.loc (c : Thread nD τ) ↦[D11 c (ly + 1)]{fullShare} f11) ∗ QP 4 (flx c A.f0) (dnx c A.f0) lx ∗ QP 12 (flq c A.f1) (dnq c A.f1) lq ∗ QR 9 (iniy c A.f4) (gly A) ly ∗ wts c ∗ Z)) (P := OwnT A Z lx lq ly f9 f10 f11) ?_ (BIBase.Entails.trans ?_ h)
  · unfold OwnT Own Rr Vv
    dsimp only
    rw [qp_take hp, D11_succ, eqv (pointsTo_union (D11_disj (c := c) ly))]
    iintro ⟨H5, H6, H7, H8, H9, H10, ⟨Hp, H11⟩, Hx, Hq, ⟨Ha, Hy⟩, Hw, HZ⟩
    iframe
  · unfold OwnT Own Rr Vv
    dsimp only
    rw [qp_put hp]
    iintro ⟨Hn, H5, H6, H7, H8, H9, H10, H11, Hx, Hq, Hy, Hw, HZ⟩
    iframe
    unfold gly
    iexists f11
    isplitl [Hn]
    · iexact Hn
    ipureintro
    exact hg

/-- The operand copies landed before a trip, and the result copies started. -/
def nx (t : ℕ) : ℕ := 1 + min 3 (t / 3)
def nq (t : ℕ) : ℕ := if t < 12 then 1 + t / 3 else if t < 24 then min (t - 7) 8 else min (t - 15) 12
def ny (t : ℕ) : ℕ := (t - 13) / 3

theorem sched_x : ∀ t : Fin k0_t1_loop.trips, if (t.val + 1 < 12 ∧ t.val % 3 = 2) then ki (cn t.val) = nx t.val ∧ nx t.val < 4 ∧ nx (t.val + 1) = nx t.val + 1 else nx (t.val + 1) = nx t.val := by decide
theorem sched_q : ∀ t : Fin k0_t1_loop.trips, if (t.val + 1 < 36 ∧ bi (cn t.val) % 3 = 0) then bi (cn t.val) / 3 = nq t.val / 4 ∧ ki (cn t.val) = nq t.val % 4 ∧ nq t.val < 12 ∧ nq (t.val + 1) = nq t.val + 1 else nq (t.val + 1) = nq t.val := by decide
theorem sched_y : ∀ t : Fin k0_t1_loop.trips, if (0 < ec t.val ∧ ec t.val % 3 = 0) then ec t.val / 3 - 1 = ny t.val ∧ ny t.val < 9 ∧ ny (t.val + 1) = ny t.val + 1 else ny (t.val + 1) = ny t.val := by decide
theorem sched_in : ∀ t : Fin k0_t1_loop.trips, ki t.val < nx t.val ∧ bi t.val / 3 * 4 + ki t.val < nq t.val ∧ bi (cn t.val) / 3 * 4 + ki (cn t.val) < nq (t.val + 1) ∧ ny (t.val + 1) ≤ ec t.val / 3 := by decide

end

end Cert.Kernel.Hand
-- ==== Proof.Kernel.PartsA.lean ====
module

public import proofs.«01_k».proof.Proof.Kernel.Queue

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part1 (k0_t1 : Fin k0_t1_loop.trips) (v1588_r0 : BitVec 32) (k0_h2 : k0_cond2 k0_t1 = 1#1)
    (h4 : (M5.access (Rect.unit (s := S4x96x1792) (k0_off4 k0_t1) S1x96x128.size (k0_off4_inb k0_t1 k0_h2))).set ⊆ V.S5)
    (h5 : (M5.access (Rect.unit (s := S4x96x1792) (k0_off5 k0_t1) S1x96x128.size (k0_off5_inb k0_t1 k0_h2))).set ⊆ V.S5)
    (h6 : (M5.access (Rect.unit (s := S4x96x1792) (k0_off6 k0_t1) S1x96x128.size (k0_off6_inb k0_t1 k0_h2))).set ⊆ V.S5)
    (h7 : (M5.access (Rect.unit (s := S4x96x1792) (k0_off7 k0_t1) S1x96x128.size (k0_off7_inb k0_t1 k0_h2))).set ⊆ V.S5)
    (h8 : (M5.access (Rect.unit (s := S4x96x1792) (k0_off8 k0_t1) S1x96x128.size (k0_off8_inb k0_t1 k0_h2))).set ⊆ V.S5)
    (h9 : (M5.access (Rect.unit (s := S4x96x1792) (k0_off9 k0_t1) S1x96x128.size (k0_off9_inb k0_t1 k0_h2))).set ⊆ V.S5)
    (h10 : (M5.access (Rect.unit (s := S4x96x1792) (k0_off10 k0_t1) S1x96x128.size (k0_off10_inb k0_t1 k0_h2))).set ⊆ V.S5)
    (h11 : (M5.access (Rect.unit (s := S4x96x1792) (k0_off11 k0_t1) S1x96x128.size (k0_off11_inb k0_t1 k0_h2))).set ⊆ V.S5)
    {Q : (FVec F S96x128 .f32) → sProp 𝕄}
    (h : let v3256_r0 : Vec F S1x96x128 .bf16 := (M5.access (Rect.unit (s := S4x96x1792) (k0_off4 k0_t1) S1x96x128.size (k0_off4_inb k0_t1 k0_h2))).read (Elt F) V.f5;
      let v3261_r0 : Vec F S1x96x128 .bf16 := (M5.access (Rect.unit (s := S4x96x1792) (k0_off5 k0_t1) S1x96x128.size (k0_off5_inb k0_t1 k0_h2))).read (Elt F) V.f5;
      let v3266_r0 : Vec F S1x96x128 .bf16 := (M5.access (Rect.unit (s := S4x96x1792) (k0_off6 k0_t1) S1x96x128.size (k0_off6_inb k0_t1 k0_h2))).read (Elt F) V.f5;
      let v3271_r0 : Vec F S1x96x128 .bf16 := (M5.access (Rect.unit (s := S4x96x1792) (k0_off7 k0_t1) S1x96x128.size (k0_off7_inb k0_t1 k0_h2))).read (Elt F) V.f5;
      let v3276_r0 : Vec F S1x96x128 .bf16 := (M5.access (Rect.unit (s := S4x96x1792) (k0_off8 k0_t1) S1x96x128.size (k0_off8_inb k0_t1 k0_h2))).read (Elt F) V.f5;
      let v3281_r0 : Vec F S1x96x128 .bf16 := (M5.access (Rect.unit (s := S4x96x1792) (k0_off9 k0_t1) S1x96x128.size (k0_off9_inb k0_t1 k0_h2))).read (Elt F) V.f5;
      let v3286_r0 : Vec F S1x96x128 .bf16 := (M5.access (Rect.unit (s := S4x96x1792) (k0_off10 k0_t1) S1x96x128.size (k0_off10_inb k0_t1 k0_h2))).read (Elt F) V.f5;
      let v3291_r0 : Vec F S1x96x128 .bf16 := (M5.access (Rect.unit (s := S4x96x1792) (k0_off11 k0_t1) S1x96x128.size (k0_off11_inb k0_t1 k0_h2))).read (Elt F) V.f5;
      Own c R V f9 f10 f11 ⊢ Q (k0_pay1 v3256_r0 v3261_r0 v3266_r0 v3271_r0 v3276_r0 v3281_r0 v3286_r0 v3291_r0)) :
    Own c R V f9 f10 f11 ⊢ wp frame (wpE (defs₀ (F := F)) 𝒱 (c : Thread nD τ) bd) Set.univ (k0_part1 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1588_r0 k0_h2) Q := by
  rw [k0_part1_eq_skeleton]; unfold k0_part1_skel
  refine run_bind (run_ld5 h4 ?_)
  refine run_bind (run_ld5 h5 ?_)
  refine run_bind (run_ld5 h6 ?_)
  refine run_bind (run_ld5 h7 ?_)
  refine run_bind (run_ld5 h8 ?_)
  refine run_bind (run_ld5 h9 ?_)
  refine run_bind (run_ld5 h10 ?_)
  refine run_bind (run_ld5 h11 ?_)
  refine run_pure ?_
  exact h

theorem run_part2 (k0_t1 : Fin k0_t1_loop.trips) (arg16_r0 : BitVec 32) (v1588_r0 : BitVec 32) (k0_h2 : k0_cond2 k0_t1 = 1#1) (v3294_r0 : FVec F S96x128 .f32)
    (h12 : (M5.access (Rect.unit (s := S4x96x1792) (k0_off12 k0_t1) S1x96x128.size (k0_off12_inb k0_t1 k0_h2))).set ⊆ V.S5)
    (h13 : (M5.access (Rect.unit (s := S4x96x1792) (k0_off13 k0_t1) S1x96x128.size (k0_off13_inb k0_t1 k0_h2))).set ⊆ V.S5)
    (h14 : (M5.access (Rect.unit (s := S4x96x1792) (k0_off14 k0_t1) S1x96x128.size (k0_off14_inb k0_t1 k0_h2))).set ⊆ V.S5)
    (h15 : (M5.access (Rect.unit (s := S4x96x1792) (k0_off15 k0_t1) S1x96x128.size (k0_off15_inb k0_t1 k0_h2))).set ⊆ V.S5)
    (h16 : (M5.access (Rect.unit (s := S4x96x1792) (k0_off16 k0_t1) S1x96x128.size (k0_off16_inb k0_t1 k0_h2))).set ⊆ V.S5)
    (h17 : (M5.access (Rect.unit (s := S4x96x1792) (k0_off17 k0_t1) S1x96x128.size (k0_off17_inb k0_t1 k0_h2))).set ⊆ V.S5)
    {Q : (PUnit) → sProp 𝕄}
    (h : let v3296_r0 : Vec F S1x96x128 .bf16 := (M5.access (Rect.unit (s := S4x96x1792) (k0_off12 k0_t1) S1x96x128.size (k0_off12_inb k0_t1 k0_h2))).read (Elt F) V.f5;
      let v3301_r0 : Vec F S1x96x128 .bf16 := (M5.access (Rect.unit (s := S4x96x1792) (k0_off13 k0_t1) S1x96x128.size (k0_off13_inb k0_t1 k0_h2))).read (Elt F) V.f5;
      let v3306_r0 : Vec F S1x96x128 .bf16 := (M5.access (Rect.unit (s := S4x96x1792) (k0_off14 k0_t1) S1x96x128.size (k0_off14_inb k0_t1 k0_h2))).read (Elt F) V.f5;
      let v3311_r0 : Vec F S1x96x128 .bf16 := (M5.access (Rect.unit (s := S4x96x1792) (k0_off15 k0_t1) S1x96x128.size (k0_off15_inb k0_t1 k0_h2))).read (Elt F) V.f5;
      let v3316_r0 : Vec F S1x96x128 .bf16 := (M5.access (Rect.unit (s := S4x96x1792) (k0_off16 k0_t1) S1x96x128.size (k0_off16_inb k0_t1 k0_h2))).read (Elt F) V.f5;
      let v3321_r0 : Vec F S1x96x128 .bf16 := (M5.access (Rect.unit (s := S4x96x1792) (k0_off17 k0_t1) S1x96x128.size (k0_off17_inb k0_t1 k0_h2))).read (Elt F) V.f5;
      let v3330_r0 : Vec F S96x128 .f32 := (M9.access (Rect.unit (s := S96x128) ![0, 0] S96x128.size inb_S96x128_S96x128_0_0)).read (Elt F) f9;
      let v3334_r0 : Vec F S96x128 .f32 := (M9.access (Rect.unit (s := S96x128) ![0, 0] S96x128.size inb_S96x128_S96x128_0_0)).read (Elt F) f9;
      let g9_1 : Bf F c M9 := (M9.access (Rect.unit (s := S96x128) ![0, 0] S96x128.size inb_S96x128_S96x128_0_0)).write (Elt F) f9 (k0_pay2 arg16_r0 v3294_r0 v3296_r0 v3301_r0 v3306_r0 v3311_r0 v3316_r0 v3321_r0 v3330_r0) Finset.univ;
      Own c R V g9_1 f10 f11 ⊢ Q ⟨⟩) :
    Own c R V f9 f10 f11 ⊢ wp frame (wpE (defs₀ (F := F)) 𝒱 (c : Thread nD τ) bd) Set.univ (k0_part2 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 arg16_r0 v1588_r0 k0_h2 v3294_r0) Q := by
  rw [k0_part2_eq_skeleton]; unfold k0_part2_skel
  refine run_bind (run_ld5 h12 ?_)
  refine run_bind (run_ld5 h13 ?_)
  refine run_bind (run_ld5 h14 ?_)
  refine run_bind (run_ld5 h15 ?_)
  refine run_bind (run_ld5 h16 ?_)
  refine run_bind (run_ld5 h17 ?_)
  refine run_bind (run_ld9 ?_)
  refine run_bind (run_ld9 ?_)
  refine run_bind (run_st9 ?_)
  refine run_pure ?_
  exact h

theorem run_part3 (c0_i32_563_r0 : BitVec 32) (c1_i32_564_r0 : BitVec 32) (k0_t1 : Fin k0_t1_loop.trips)
    {Q : (Σ' (arg16_r0 : BitVec 32) (v1532_r0 : BitVec 1) (v1560_r0 : BitVec 32) (c3_i32_777_r0 : BitVec 32) (v1561_r0 : BitVec 32) (v1566_r0 : BitVec 32), BitVec 32) → sProp 𝕄}
    (h : let arg16_r0 : BitVec 32 := Scf.iv c0_i32_563_r0 c1_i32_564_r0 k0_t1;
      let v1532_r0 : BitVec 1 := Scalar.cmpi .slt arg16_r0 12#32;
      let v1533_r0 : BitVec 1 := Scalar.cmpi .eq 3#32 0#32;
      let v1534_r0 : BitVec 32 := Scalar.select v1533_r0 1#32 3#32;
      let v1535_r0 : BitVec 32 := Scalar.remsi arg16_r0 v1534_r0;
      let v1536_r0 : BitVec 1 := Scalar.cmpi .ne v1535_r0 0#32;
      let v1537_r0 : BitVec 1 := Scalar.cmpi .slt v1535_r0 0#32;
      let v1538_r0 : BitVec 1 := Scalar.cmpi .slt v1534_r0 0#32;
      let v1539_r0 : BitVec 1 := Scalar.xori v1537_r0 v1538_r0;
      let v1540_r0 : BitVec 1 := Scalar.andi v1539_r0 v1536_r0;
      let v1541_r0 : BitVec 32 := Scalar.addi v1535_r0 v1534_r0;
      let v1542_r0 : BitVec 32 := Scalar.select v1540_r0 v1541_r0 v1535_r0;
      let v1543_r0 : BitVec 32 := Scalar.divsi arg16_r0 4#32;
      let v1544_r0 : BitVec 1 := Scalar.cmpi .sgt arg16_r0 0#32;
      let v1545_r0 : BitVec 32 := Scalar.extui v1544_r0;
      let v1546_r0 : BitVec 1 := Scalar.cmpi .slt arg16_r0 0#32;
      let v1547_r0 : BitVec 32 := Scalar.extui v1546_r0;
      let v1548_r0 : BitVec 32 := Scalar.subi v1545_r0 v1547_r0;
      let v1549_r0 : BitVec 1 := Scalar.cmpi .sgt 4#32 0#32;
      let v1550_r0 : BitVec 32 := Scalar.extui v1549_r0;
      let v1551_r0 : BitVec 1 := Scalar.cmpi .slt 4#32 0#32;
      let v1552_r0 : BitVec 32 := Scalar.extui v1551_r0;
      let v1553_r0 : BitVec 32 := Scalar.subi v1550_r0 v1552_r0;
      let v1554_r0 : BitVec 1 := Scalar.cmpi .ne v1548_r0 v1553_r0;
      let v1555_r0 : BitVec 32 := Scalar.remsi arg16_r0 4#32;
      let v1556_r0 : BitVec 1 := Scalar.cmpi .ne v1555_r0 0#32;
      let v1557_r0 : BitVec 1 := Scalar.andi v1554_r0 v1556_r0;
      let v1558_r0 : BitVec 32 := Scalar.subi v1543_r0 1#32;
      let v1559_r0 : BitVec 32 := Scalar.select v1557_r0 v1558_r0 v1543_r0;
      let v1560_r0 : BitVec 32 := Scalar.select v1532_r0 v1542_r0 v1559_r0;
      let v1561_r0 : BitVec 32 := Scalar.divsi arg16_r0 3#32;
      let v1562_r0 : BitVec 1 := Scalar.cmpi .sgt arg16_r0 0#32;
      let v1563_r0 : BitVec 32 := Scalar.extui v1562_r0;
      let v1564_r0 : BitVec 1 := Scalar.cmpi .slt arg16_r0 0#32;
      let v1565_r0 : BitVec 32 := Scalar.extui v1564_r0;
      let v1566_r0 : BitVec 32 := Scalar.subi v1563_r0 v1565_r0;
      let v1567_r0 : BitVec 1 := Scalar.cmpi .sgt 3#32 0#32;
      let v1568_r0 : BitVec 32 := Scalar.extui v1567_r0;
      let v1569_r0 : BitVec 1 := Scalar.cmpi .slt 3#32 0#32;
      let v1570_r0 : BitVec 32 := Scalar.extui v1569_r0;
      let v1571_r0 : BitVec 32 := Scalar.subi v1568_r0 v1570_r0;
      Own c R V f9 f10 f11 ⊢ Q ⟨arg16_r0, v1532_r0, v1560_r0, 3#32, v1561_r0, v1566_r0, v1571_r0⟩) :
    Own c R V f9 f10 f11 ⊢ wp frame (wpE (defs₀ (F := F)) 𝒱 (c : Thread nD τ) bd) Set.univ (k0_part3 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 c0_i32_563_r0 c1_i32_564_r0 k0_t1) Q := by
  rw [k0_part3_eq_skeleton]; unfold k0_part3_skel
  refine run_pure ?_
  exact h

theorem run_part4 (arg16_r0 : BitVec 32) (v1532_r0 : BitVec 1) (c3_i32_777_r0 : BitVec 32) (v1561_r0 : BitVec 32) (v1566_r0 : BitVec 32) (v1571_r0 : BitVec 32)
    {Q : (Σ' (v1588_r0 : BitVec 32) (v1590_r0 : BitVec 32) (v1591_r0 : BitVec 1) (v1601_r0 : BitVec 32) (c4_i32_799_r0 : BitVec 32) (v1602_r0 : BitVec 32) (v1607_r0 : BitVec 32) (v1609_r0 : BitVec 32), BitVec 32) → sProp 𝕄}
    (h : let v1572_r0 : BitVec 1 := Scalar.cmpi .ne v1566_r0 v1571_r0;
      let v1573_r0 : BitVec 32 := Scalar.remsi arg16_r0 c3_i32_777_r0;
      let v1574_r0 : BitVec 1 := Scalar.cmpi .ne v1573_r0 0#32;
      let v1575_r0 : BitVec 1 := Scalar.andi v1572_r0 v1574_r0;
      let v1576_r0 : BitVec 32 := Scalar.subi v1561_r0 1#32;
      let v1577_r0 : BitVec 32 := Scalar.select v1575_r0 v1576_r0 v1561_r0;
      let v1578_r0 : BitVec 1 := Scalar.cmpi .eq 4#32 0#32;
      let v1579_r0 : BitVec 32 := Scalar.select v1578_r0 1#32 4#32;
      let v1580_r0 : BitVec 32 := Scalar.remsi arg16_r0 v1579_r0;
      let v1581_r0 : BitVec 1 := Scalar.cmpi .ne v1580_r0 0#32;
      let v1582_r0 : BitVec 1 := Scalar.cmpi .slt v1580_r0 0#32;
      let v1583_r0 : BitVec 1 := Scalar.cmpi .slt v1579_r0 0#32;
      let v1584_r0 : BitVec 1 := Scalar.xori v1582_r0 v1583_r0;
      let v1585_r0 : BitVec 1 := Scalar.andi v1584_r0 v1581_r0;
      let v1586_r0 : BitVec 32 := Scalar.addi v1580_r0 v1579_r0;
      let v1587_r0 : BitVec 32 := Scalar.select v1585_r0 v1586_r0 v1580_r0;
      let v1588_r0 : BitVec 32 := Scalar.select v1532_r0 v1577_r0 v1587_r0;
      let v1589_r0 : BitVec 32 := Scalar.subi arg16_r0 1#32;
      let v1590_r0 : BitVec 32 := Scalar.maxsi v1589_r0 0#32;
      let v1591_r0 : BitVec 1 := Scalar.cmpi .slt v1590_r0 12#32;
      let v1592_r0 : BitVec 1 := Scalar.cmpi .eq 3#32 0#32;
      let v1593_r0 : BitVec 32 := Scalar.select v1592_r0 1#32 3#32;
      let v1594_r0 : BitVec 32 := Scalar.remsi v1590_r0 v1593_r0;
      let v1595_r0 : BitVec 1 := Scalar.cmpi .ne v1594_r0 0#32;
      let v1596_r0 : BitVec 1 := Scalar.cmpi .slt v1594_r0 0#32;
      let v1597_r0 : BitVec 1 := Scalar.cmpi .slt v1593_r0 0#32;
      let v1598_r0 : BitVec 1 := Scalar.xori v1596_r0 v1597_r0;
      let v1599_r0 : BitVec 1 := Scalar.andi v1598_r0 v1595_r0;
      let v1600_r0 : BitVec 32 := Scalar.addi v1594_r0 v1593_r0;
      let v1601_r0 : BitVec 32 := Scalar.select v1599_r0 v1600_r0 v1594_r0;
      let v1602_r0 : BitVec 32 := Scalar.divsi v1590_r0 4#32;
      let v1603_r0 : BitVec 1 := Scalar.cmpi .sgt v1590_r0 0#32;
      let v1604_r0 : BitVec 32 := Scalar.extui v1603_r0;
      let v1605_r0 : BitVec 1 := Scalar.cmpi .slt v1590_r0 0#32;
      let v1606_r0 : BitVec 32 := Scalar.extui v1605_r0;
      let v1607_r0 : BitVec 32 := Scalar.subi v1604_r0 v1606_r0;
      let v1608_r0 : BitVec 1 := Scalar.cmpi .sgt 4#32 0#32;
      let v1609_r0 : BitVec 32 := Scalar.extui v1608_r0;
      Own c R V f9 f10 f11 ⊢ Q ⟨v1588_r0, v1590_r0, v1591_r0, v1601_r0, 4#32, v1602_r0, v1607_r0, v1609_r0, 0#32⟩) :
    Own c R V f9 f10 f11 ⊢ wp frame (wpE (defs₀ (F := F)) 𝒱 (c : Thread nD τ) bd) Set.univ (k0_part4 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 arg16_r0 v1532_r0 c3_i32_777_r0 v1561_r0 v1566_r0 v1571_r0) Q := by
  rw [k0_part4_eq_skeleton]; unfold k0_part4_skel
  refine run_pure ?_
  exact h

theorem run_part5 (arg16_r0 : BitVec 32) (v1590_r0 : BitVec 32) (v1591_r0 : BitVec 1) (v1601_r0 : BitVec 32) (c4_i32_799_r0 : BitVec 32) (v1602_r0 : BitVec 32) (v1607_r0 : BitVec 32) (v1609_r0 : BitVec 32) (c0_i32_803_r0 : BitVec 32)
    {Q : (Σ' (v1619_r0 : BitVec 32) (v1647_r0 : BitVec 32) (v1649_r0 : BitVec 32) (v1650_r0 : BitVec 1), BitVec 32) → sProp 𝕄}
    (h : let v1610_r0 : BitVec 1 := Scalar.cmpi .slt c4_i32_799_r0 c0_i32_803_r0;
      let v1611_r0 : BitVec 32 := Scalar.extui v1610_r0;
      let v1612_r0 : BitVec 32 := Scalar.subi v1609_r0 v1611_r0;
      let v1613_r0 : BitVec 1 := Scalar.cmpi .ne v1607_r0 v1612_r0;
      let v1614_r0 : BitVec 32 := Scalar.remsi v1590_r0 c4_i32_799_r0;
      let v1615_r0 : BitVec 1 := Scalar.cmpi .ne v1614_r0 0#32;
      let v1616_r0 : BitVec 1 := Scalar.andi v1613_r0 v1615_r0;
      let v1617_r0 : BitVec 32 := Scalar.subi v1602_r0 1#32;
      let v1618_r0 : BitVec 32 := Scalar.select v1616_r0 v1617_r0 v1602_r0;
      let v1619_r0 : BitVec 32 := Scalar.select v1591_r0 v1601_r0 v1618_r0;
      let v1620_r0 : BitVec 32 := Scalar.divsi v1590_r0 3#32;
      let v1621_r0 : BitVec 1 := Scalar.cmpi .sgt v1590_r0 0#32;
      let v1622_r0 : BitVec 32 := Scalar.extui v1621_r0;
      let v1623_r0 : BitVec 1 := Scalar.cmpi .slt v1590_r0 0#32;
      let v1624_r0 : BitVec 32 := Scalar.extui v1623_r0;
      let v1625_r0 : BitVec 32 := Scalar.subi v1622_r0 v1624_r0;
      let v1626_r0 : BitVec 1 := Scalar.cmpi .sgt 3#32 0#32;
      let v1627_r0 : BitVec 32 := Scalar.extui v1626_r0;
      let v1628_r0 : BitVec 1 := Scalar.cmpi .slt 3#32 0#32;
      let v1629_r0 : BitVec 32 := Scalar.extui v1628_r0;
      let v1630_r0 : BitVec 32 := Scalar.subi v1627_r0 v1629_r0;
      let v1631_r0 : BitVec 1 := Scalar.cmpi .ne v1625_r0 v1630_r0;
      let v1632_r0 : BitVec 32 := Scalar.remsi v1590_r0 3#32;
      let v1633_r0 : BitVec 1 := Scalar.cmpi .ne v1632_r0 0#32;
      let v1634_r0 : BitVec 1 := Scalar.andi v1631_r0 v1633_r0;
      let v1635_r0 : BitVec 32 := Scalar.subi v1620_r0 1#32;
      let v1636_r0 : BitVec 32 := Scalar.select v1634_r0 v1635_r0 v1620_r0;
      let v1637_r0 : BitVec 1 := Scalar.cmpi .eq 4#32 0#32;
      let v1638_r0 : BitVec 32 := Scalar.select v1637_r0 1#32 4#32;
      let v1639_r0 : BitVec 32 := Scalar.remsi v1590_r0 v1638_r0;
      let v1640_r0 : BitVec 1 := Scalar.cmpi .ne v1639_r0 0#32;
      let v1641_r0 : BitVec 1 := Scalar.cmpi .slt v1639_r0 0#32;
      let v1642_r0 : BitVec 1 := Scalar.cmpi .slt v1638_r0 0#32;
      let v1643_r0 : BitVec 1 := Scalar.xori v1641_r0 v1642_r0;
      let v1644_r0 : BitVec 1 := Scalar.andi v1643_r0 v1640_r0;
      let v1645_r0 : BitVec 32 := Scalar.addi v1639_r0 v1638_r0;
      let v1646_r0 : BitVec 32 := Scalar.select v1644_r0 v1645_r0 v1639_r0;
      let v1647_r0 : BitVec 32 := Scalar.select v1591_r0 v1636_r0 v1646_r0;
      let v1648_r0 : BitVec 32 := Scalar.addi arg16_r0 1#32;
      let v1649_r0 : BitVec 32 := Scalar.minsi v1648_r0 35#32;
      let v1650_r0 : BitVec 1 := Scalar.cmpi .slt v1649_r0 12#32;
      Own c R V f9 f10 f11 ⊢ Q ⟨v1619_r0, v1647_r0, v1649_r0, v1650_r0, 3#32⟩) :
    Own c R V f9 f10 f11 ⊢ wp frame (wpE (defs₀ (F := F)) 𝒱 (c : Thread nD τ) bd) Set.univ (k0_part5 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 arg16_r0 v1590_r0 v1591_r0 v1601_r0 c4_i32_799_r0 v1602_r0 v1607_r0 v1609_r0 c0_i32_803_r0) Q := by
  rw [k0_part5_eq_skeleton]; unfold k0_part5_skel
  refine run_pure ?_
  exact h

theorem run_part6 (v1649_r0 : BitVec 32) (v1650_r0 : BitVec 1) (c3_i32_821_r0 : BitVec 32)
    {Q : (Σ' (v1678_r0 : BitVec 32) (v1679_r0 : BitVec 32) (v1690_r0 : BitVec 1), BitVec 1) → sProp 𝕄}
    (h : let v1651_r0 : BitVec 1 := Scalar.cmpi .eq c3_i32_821_r0 0#32;
      let v1652_r0 : BitVec 32 := Scalar.select v1651_r0 1#32 c3_i32_821_r0;
      let v1653_r0 : BitVec 32 := Scalar.remsi v1649_r0 v1652_r0;
      let v1654_r0 : BitVec 1 := Scalar.cmpi .ne v1653_r0 0#32;
      let v1655_r0 : BitVec 1 := Scalar.cmpi .slt v1653_r0 0#32;
      let v1656_r0 : BitVec 1 := Scalar.cmpi .slt v1652_r0 0#32;
      let v1657_r0 : BitVec 1 := Scalar.xori v1655_r0 v1656_r0;
      let v1658_r0 : BitVec 1 := Scalar.andi v1657_r0 v1654_r0;
      let v1659_r0 : BitVec 32 := Scalar.addi v1653_r0 v1652_r0;
      let v1660_r0 : BitVec 32 := Scalar.select v1658_r0 v1659_r0 v1653_r0;
      let v1661_r0 : BitVec 32 := Scalar.divsi v1649_r0 4#32;
      let v1662_r0 : BitVec 1 := Scalar.cmpi .sgt v1649_r0 0#32;
      let v1663_r0 : BitVec 32 := Scalar.extui v1662_r0;
      let v1664_r0 : BitVec 1 := Scalar.cmpi .slt v1649_r0 0#32;
      let v1665_r0 : BitVec 32 := Scalar.extui v1664_r0;
      let v1666_r0 : BitVec 32 := Scalar.subi v1663_r0 v1665_r0;
      let v1667_r0 : BitVec 1 := Scalar.cmpi .sgt 4#32 0#32;
      let v1668_r0 : BitVec 32 := Scalar.extui v1667_r0;
      let v1669_r0 : BitVec 1 := Scalar.cmpi .slt 4#32 0#32;
      let v1670_r0 : BitVec 32 := Scalar.extui v1669_r0;
      let v1671_r0 : BitVec 32 := Scalar.subi v1668_r0 v1670_r0;
      let v1672_r0 : BitVec 1 := Scalar.cmpi .ne v1666_r0 v1671_r0;
      let v1673_r0 : BitVec 32 := Scalar.remsi v1649_r0 4#32;
      let v1674_r0 : BitVec 1 := Scalar.cmpi .ne v1673_r0 0#32;
      let v1675_r0 : BitVec 1 := Scalar.andi v1672_r0 v1674_r0;
      let v1676_r0 : BitVec 32 := Scalar.subi v1661_r0 1#32;
      let v1677_r0 : BitVec 32 := Scalar.select v1675_r0 v1676_r0 v1661_r0;
      let v1678_r0 : BitVec 32 := Scalar.select v1650_r0 v1660_r0 v1677_r0;
      let v1679_r0 : BitVec 32 := Scalar.divsi v1649_r0 3#32;
      let v1680_r0 : BitVec 1 := Scalar.cmpi .sgt v1649_r0 0#32;
      let v1681_r0 : BitVec 32 := Scalar.extui v1680_r0;
      let v1682_r0 : BitVec 1 := Scalar.cmpi .slt v1649_r0 0#32;
      let v1683_r0 : BitVec 32 := Scalar.extui v1682_r0;
      let v1684_r0 : BitVec 32 := Scalar.subi v1681_r0 v1683_r0;
      let v1685_r0 : BitVec 1 := Scalar.cmpi .sgt 3#32 0#32;
      let v1686_r0 : BitVec 32 := Scalar.extui v1685_r0;
      let v1687_r0 : BitVec 1 := Scalar.cmpi .slt 3#32 0#32;
      let v1688_r0 : BitVec 32 := Scalar.extui v1687_r0;
      let v1689_r0 : BitVec 32 := Scalar.subi v1686_r0 v1688_r0;
      let v1690_r0 : BitVec 1 := Scalar.cmpi .ne v1684_r0 v1689_r0;
      let v1691_r0 : BitVec 32 := Scalar.remsi v1649_r0 3#32;
      let v1692_r0 : BitVec 1 := Scalar.cmpi .ne v1691_r0 0#32;
      Own c R V f9 f10 f11 ⊢ Q ⟨v1678_r0, v1679_r0, v1690_r0, v1692_r0⟩) :
    Own c R V f9 f10 f11 ⊢ wp frame (wpE (defs₀ (F := F)) 𝒱 (c : Thread nD τ) bd) Set.univ (k0_part6 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1649_r0 v1650_r0 c3_i32_821_r0) Q := by
  rw [k0_part6_eq_skeleton]; unfold k0_part6_skel
  refine run_pure ?_
  exact h

end

section
variable {𝒱 : Variants} {c : Dev nD} {bd : Option 𝒱.V} {A : Par F c} {Z : sProp (MT nD τ sig Unit (Elt F) ℕ (Pipeline.UD sig nD τ) ℕ)} {lx lq ly : ℕ}
  {f9 : Bf F c M9} {f10 : Bf F c M10} {f11 : Bf F c M11}

/-- A box one element thick along the leading axis lies among the landed elements. -/
theorem in5 {o sz : Fin 3 → ℕ} {h : ∀ a, o a + sz a ≤ S4x96x1792.size a} {p K : ℕ} (ho : o 0 = p) (hs : sz 0 = 1) (hp : p < K) :
    ((M5.access (Rect.unit (s := S4x96x1792) o sz h)).set : Finset (Ix c M5)) ⊆ D5 c K := by
  refine ((View.set_slice_whole _ _).trans_le ?_)
  intro i hi
  have h0 := Rect.mem_set_unit.mp hi 0
  refine Finset.mem_filter.mpr ⟨Finset.mem_univ i, ?_⟩
  change S4x96x1792.Idx at i
  change o 0 ≤ (i 0).val ∧ (i 0).val < o 0 + sz 0 at h0
  rw [ho, hs] at h0
  change (i 0).val < K
  omega

theorem in6 {o sz : Fin 4 → ℕ} {h : ∀ a, o a + sz a ≤ S3x4x1792x384.size a} {p q K : ℕ} (ho : o 0 = p) (ho' : o 1 = q) (hs : sz 0 = 1) (hs' : sz 1 = 1) (hp : p * 4 + q < K) :
    ((M6.access (Rect.unit (s := S3x4x1792x384) o sz h)).set : Finset (Ix c M6)) ⊆ D6 c K := by
  refine ((View.set_slice_whole _ _).trans_le ?_)
  intro i hi
  have h0 := Rect.mem_set_unit.mp hi 0
  have h1 := Rect.mem_set_unit.mp hi 1
  refine Finset.mem_filter.mpr ⟨Finset.mem_univ i, ?_⟩
  change S3x4x1792x384.Idx at i
  change o 0 ≤ (i 0).val ∧ (i 0).val < o 0 + sz 0 at h0
  change o 1 ≤ (i 1).val ∧ (i 1).val < o 1 + sz 1 at h1
  rw [ho, hs] at h0
  rw [ho', hs'] at h1
  change (i 0).val * 4 + (i 1).val < K
  omega

theorem in11 {o sz : Fin 3 → ℕ} {h : ∀ a, o a + sz a ≤ S9x96x1024.size a} {p K : ℕ} (ho : o 0 = p) (hp : K ≤ p) :
    ((M11.access (Rect.unit (s := S9x96x1024) o sz h)).set : Finset (Ix c M11)) ⊆ D11 c K := by
  refine ((View.set_slice_whole _ _).trans_le ?_)
  intro i hi
  have h0 := Rect.mem_set_unit.mp hi 0
  refine Finset.mem_filter.mpr ⟨Finset.mem_univ i, ?_⟩
  change S9x96x1024.Idx at i
  change o 0 ≤ (i 0).val ∧ (i 0).val < o 0 + sz 0 at h0
  rw [ho] at h0
  change K ≤ (i 0).val
  omega

theorem run_part7 (k0_t1 : Fin k0_t1_loop.trips) (arg16_r0 : BitVec 32) (v1649_r0 : BitVec 32) (v1650_r0 : BitVec 1) (v1678_r0 : BitVec 32) (v1679_r0 : BitVec 32) (v1690_r0 : BitVec 1) (v1692_r0 : BitVec 1) {lq' : ℕ}
    (hq : if (k0_t1.val + 1 < 36 ∧ bi (cn k0_t1.val) % 3 = 0) then bi (cn k0_t1.val) / 3 = lq / 4 ∧ ki (cn k0_t1.val) = lq % 4 ∧ lq < 12 ∧ lq' = lq + 1 else lq' = lq)
    {Q : (Σ' (v1706_r0 : BitVec 32) (v1708_r0 : BitVec 32) (v1725_r0 : BitVec 1) (v1727_r0 : BitVec 32), BitVec 32) → sProp 𝕄} (h : let v1693_r0 : BitVec 1 := Scalar.andi v1690_r0 v1692_r0;
      let v1694_r0 : BitVec 32 := Scalar.subi v1679_r0 1#32;
      let v1695_r0 : BitVec 32 := Scalar.select v1693_r0 v1694_r0 v1679_r0;
      let v1696_r0 : BitVec 1 := Scalar.cmpi .eq 4#32 0#32;
      let v1697_r0 : BitVec 32 := Scalar.select v1696_r0 1#32 4#32;
      let v1698_r0 : BitVec 32 := Scalar.remsi v1649_r0 v1697_r0;
      let v1699_r0 : BitVec 1 := Scalar.cmpi .ne v1698_r0 0#32;
      let v1700_r0 : BitVec 1 := Scalar.cmpi .slt v1698_r0 0#32;
      let v1701_r0 : BitVec 1 := Scalar.cmpi .slt v1697_r0 0#32;
      let v1702_r0 : BitVec 1 := Scalar.xori v1700_r0 v1701_r0;
      let v1703_r0 : BitVec 1 := Scalar.andi v1702_r0 v1699_r0;
      let v1704_r0 : BitVec 32 := Scalar.addi v1698_r0 v1697_r0;
      let v1705_r0 : BitVec 32 := Scalar.select v1703_r0 v1704_r0 v1698_r0;
      let v1706_r0 : BitVec 32 := Scalar.select v1650_r0 v1695_r0 v1705_r0;
      let v1707_r0 : BitVec 32 := Scalar.subi arg16_r0 12#32;
      let v1708_r0 : BitVec 32 := Scalar.maxsi v1707_r0 0#32;
      let v1725_r0 : BitVec 1 := Scalar.cmpi .slt arg16_r0 12#32;
      let v1726_r0 : BitVec 1 := Scalar.cmpi .eq 3#32 0#32;
      let v1727_r0 : BitVec 32 := Scalar.select v1726_r0 1#32 3#32;
      let v1728_r0 : BitVec 32 := Scalar.remsi arg16_r0 v1727_r0;
      OwnT A Z lx lq' ly f9 f10 f11 ⊢ Q ⟨v1706_r0, v1708_r0, v1725_r0, v1727_r0, v1728_r0⟩) :
    OwnT A Z lx lq ly f9 f10 f11 ⊢ wp frame (wpE (defs₀ (F := F)) 𝒱 (c : Thread nD τ) bd) Set.univ (k0_part7 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 arg16_r0 v1649_r0 v1650_r0 v1678_r0 v1679_r0 v1690_r0 v1692_r0) Q := by
  rw [k0_part7_eq_skeleton]; unfold k0_part7_skel
  dsimp only
  by_cases hc : k0_cond1 k0_t1 = 1#1
  · rw [if_pos ((cond1 _).mp hc)] at hq
    obtain ⟨h1, h2, h3, rfl⟩ := hq
    rw [dif_pos hc]
    refine run_bind (runT_waitq h3 (by rw [off1, h1, h2]) ?_)
    refine run_pure ?_
    exact h
  · rw [if_neg (fun hh => hc ((cond1 _).mpr hh))] at hq
    subst hq
    rw [dif_neg hc]
    refine run_pure ?_
    exact h

/-- The row sums after the trip: one operand block further where the trip adds one. -/
def xsF (k0_t1 : Fin k0_t1_loop.trips) (arg16_r0 v1588_r0 : BitVec 32) (f5 : Bf F c M5) (f9 : Bf F c M9) : Bf F c M9 :=
  if k0_h2 : k0_cond2 k0_t1 = 1#1 then
    let v3256_r0 : Vec F S1x96x128 .bf16 := (M5.access (Rect.unit (s := S4x96x1792) (k0_off4 k0_t1) S1x96x128.size (k0_off4_inb k0_t1 k0_h2))).read (Elt F) f5
    let v3261_r0 : Vec F S1x96x128 .bf16 := (M5.access (Rect.unit (s := S4x96x1792) (k0_off5 k0_t1) S1x96x128.size (k0_off5_inb k0_t1 k0_h2))).read (Elt F) f5
    let v3266_r0 : Vec F S1x96x128 .bf16 := (M5.access (Rect.unit (s := S4x96x1792) (k0_off6 k0_t1) S1x96x128.size (k0_off6_inb k0_t1 k0_h2))).read (Elt F) f5
    let v3271_r0 : Vec F S1x96x128 .bf16 := (M5.access (Rect.unit (s := S4x96x1792) (k0_off7 k0_t1) S1x96x128.size (k0_off7_inb k0_t1 k0_h2))).read (Elt F) f5
    let v3276_r0 : Vec F S1x96x128 .bf16 := (M5.access (Rect.unit (s := S4x96x1792) (k0_off8 k0_t1) S1x96x128.size (k0_off8_inb k0_t1 k0_h2))).read (Elt F) f5
    let v3281_r0 : Vec F S1x96x128 .bf16 := (M5.access (Rect.unit (s := S4x96x1792) (k0_off9 k0_t1) S1x96x128.size (k0_off9_inb k0_t1 k0_h2))).read (Elt F) f5
    let v3286_r0 : Vec F S1x96x128 .bf16 := (M5.access (Rect.unit (s := S4x96x1792) (k0_off10 k0_t1) S1x96x128.size (k0_off10_inb k0_t1 k0_h2))).read (Elt F) f5
    let v3291_r0 : Vec F S1x96x128 .bf16 := (M5.access (Rect.unit (s := S4x96x1792) (k0_off11 k0_t1) S1x96x128.size (k0_off11_inb k0_t1 k0_h2))).read (Elt F) f5
    let v3294_r0 : FVec F S96x128 .f32 := (k0_pay1 v3256_r0 v3261_r0 v3266_r0 v3271_r0 v3276_r0 v3281_r0 v3286_r0 v3291_r0)
    let v3296_r0 : Vec F S1x96x128 .bf16 := (M5.access (Rect.unit (s := S4x96x1792) (k0_off12 k0_t1) S1x96x128.size (k0_off12_inb k0_t1 k0_h2))).read (Elt F) f5
    let v3301_r0 : Vec F S1x96x128 .bf16 := (M5.access (Rect.unit (s := S4x96x1792) (k0_off13 k0_t1) S1x96x128.size (k0_off13_inb k0_t1 k0_h2))).read (Elt F) f5
    let v3306_r0 : Vec F S1x96x128 .bf16 := (M5.access (Rect.unit (s := S4x96x1792) (k0_off14 k0_t1) S1x96x128.size (k0_off14_inb k0_t1 k0_h2))).read (Elt F) f5
    let v3311_r0 : Vec F S1x96x128 .bf16 := (M5.access (Rect.unit (s := S4x96x1792) (k0_off15 k0_t1) S1x96x128.size (k0_off15_inb k0_t1 k0_h2))).read (Elt F) f5
    let v3316_r0 : Vec F S1x96x128 .bf16 := (M5.access (Rect.unit (s := S4x96x1792) (k0_off16 k0_t1) S1x96x128.size (k0_off16_inb k0_t1 k0_h2))).read (Elt F) f5
    let v3321_r0 : Vec F S1x96x128 .bf16 := (M5.access (Rect.unit (s := S4x96x1792) (k0_off17 k0_t1) S1x96x128.size (k0_off17_inb k0_t1 k0_h2))).read (Elt F) f5
    let v3330_r0 : Vec F S96x128 .f32 := (M9.access (Rect.unit (s := S96x128) ![0, 0] S96x128.size inb_S96x128_S96x128_0_0)).read (Elt F) f9
    let v3334_r0 : Vec F S96x128 .f32 := (M9.access (Rect.unit (s := S96x128) ![0, 0] S96x128.size inb_S96x128_S96x128_0_0)).read (Elt F) f9
    let g9_1 : Bf F c M9 := (M9.access (Rect.unit (s := S96x128) ![0, 0] S96x128.size inb_S96x128_S96x128_0_0)).write (Elt F) f9 (k0_pay2 arg16_r0 v3294_r0 v3296_r0 v3301_r0 v3306_r0 v3311_r0 v3316_r0 v3321_r0 v3330_r0) Finset.univ
    g9_1
  else f9

theorem run_part8 (k0_t1 : Fin k0_t1_loop.trips) (arg16_r0 : BitVec 32) (v1588_r0 : BitVec 32) (v1706_r0 : BitVec 32) (v1708_r0 : BitVec 32) (v1725_r0 : BitVec 1) (v1727_r0 : BitVec 32) (v1728_r0 : BitVec 32) {lx' : ℕ} (hk : ki k0_t1.val < lx)
    (hx : if (k0_t1.val + 1 < 12 ∧ k0_t1.val % 3 = 2) then ki (cn k0_t1.val) = lx ∧ lx < 4 ∧ lx' = lx + 1 else lx' = lx)
    {Q : (Σ' (v1756_r0 : BitVec 1) (v1758_r0 : BitVec 32) (v1759_r0 : BitVec 32), BitVec 1) → sProp 𝕄} (h : let v1756_r0 : BitVec 1 := Scalar.cmpi .sgt v1708_r0 0#32;
      let v1757_r0 : BitVec 1 := Scalar.cmpi .eq 3#32 0#32;
      let v1758_r0 : BitVec 32 := Scalar.select v1757_r0 1#32 3#32;
      let v1759_r0 : BitVec 32 := Scalar.remsi v1708_r0 v1758_r0;
      let v1760_r0 : BitVec 1 := Scalar.cmpi .ne v1759_r0 0#32;
      let v1761_r0 : BitVec 1 := Scalar.cmpi .slt v1759_r0 0#32;
      let v1762_r0 : BitVec 1 := Scalar.cmpi .slt v1758_r0 0#32;
      let v1763_r0 : BitVec 1 := Scalar.xori v1761_r0 v1762_r0;
      let v1764_r0 : BitVec 1 := Scalar.andi v1763_r0 v1760_r0;
      OwnT A Z lx' lq ly (xsF k0_t1 arg16_r0 v1588_r0 (F5 A.f0) f9) f10 f11 ⊢ Q ⟨v1756_r0, v1758_r0, v1759_r0, v1764_r0⟩) :
    OwnT A Z lx lq ly f9 f10 f11 ⊢ wp frame (wpE (defs₀ (F := F)) 𝒱 (c : Thread nD τ) bd) Set.univ (k0_part8 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 arg16_r0 v1588_r0 v1706_r0 v1708_r0 v1725_r0 v1727_r0 v1728_r0) Q := by
  rw [k0_part8_eq_skeleton]; unfold k0_part8_skel
  dsimp only
  by_cases hc : k0_cond2 k0_t1 = 1#1
  · rw [dif_pos hc]
    unfold xsF at h
    rw [dif_pos hc] at h
    refine run_bind (run_part1 _ _ hc (in5 (by rw [off4]; rfl) rfl hk) (in5 (by rw [off5]; rfl) rfl hk) (in5 (by rw [off6]; rfl) rfl hk) (in5 (by rw [off7]; rfl) rfl hk) (in5 (by rw [off8]; rfl) rfl hk) (in5 (by rw [off9]; rfl) rfl hk) (in5 (by rw [off10]; rfl) rfl hk) (in5 (by rw [off11]; rfl) rfl hk) ?_)
    refine run_bind (run_part2 _ _ _ hc _ (in5 (by rw [off12]; rfl) rfl hk) (in5 (by rw [off13]; rfl) rfl hk) (in5 (by rw [off14]; rfl) rfl hk) (in5 (by rw [off15]; rfl) rfl hk) (in5 (by rw [off16]; rfl) rfl hk) (in5 (by rw [off17]; rfl) rfl hk) ?_)
    by_cases hd : k0_cond3 k0_t1 = 1#1
    · rw [if_pos ((cond3 _).mp hd)] at hx
      obtain ⟨h1, h2, rfl⟩ := hx
      rw [dif_pos hd]
      refine run_bind (runT_waitx h2 (by rw [off18, h1]) (run_pure ?_))
      exact h
    · rw [if_neg (fun hh => hd ((cond3 _).mpr hh))] at hx
      subst hx
      rw [dif_neg hd]
      refine run_pure ?_
      exact h
  · rw [dif_neg hc]
    unfold xsF at h
    rw [dif_neg hc] at h
    by_cases hd : k0_cond3 k0_t1 = 1#1
    · rw [if_pos ((cond3 _).mp hd)] at hx
      obtain ⟨h1, h2, rfl⟩ := hx
      rw [dif_pos hd]
      refine run_bind (runT_waitx h2 (by rw [off18, h1]) (run_pure ?_))
      exact h
    · rw [if_neg (fun hh => hd ((cond3 _).mpr hh))] at hx
      subst hx
      rw [dif_neg hd]
      refine run_pure ?_
      exact h

theorem run_part9 (k0_t1 : Fin k0_t1_loop.trips) (k0_mxu8 : Mxu F) (v1560_r0 : BitVec 32) (v1588_r0 : BitVec 32) (v1708_r0 : BitVec 32) (v1756_r0 : BitVec 1) (v1758_r0 : BitVec 32) (v1759_r0 : BitVec 32) (v1764_r0 : BitVec 1) {ly' : ℕ} (hk : ki k0_t1.val < lx)
    (hy : if (0 < ec k0_t1.val ∧ ec k0_t1.val % 3 = 0) then ec k0_t1.val / 3 - 1 = ly ∧ ly < 9 ∧ ly' = ly + 1 else ly' = ly)
    (hg : 0 < ec k0_t1.val ∧ ec k0_t1.val % 3 = 0 → A.good ly f11)
    {Q : (Σ' (k0_mxu11 : Mxu F), BitVec 32) → sProp 𝕄} (h : let v1772_r0 : Vec F S1x96x256 .bf16 := (M5.access (Rect.unit (s := S4x96x1792) (k0_off24 k0_t1) S1x96x256.size (k0_off24_inb k0_t1))).read (Elt F) (F5 A.f0);
      let k0_mxu10 : Mxu F := k0_mxu8.accLhs 0 0 0 (k0_pay3 v1772_r0) fits_0_96;
      let k0_mxu11 : Mxu F := k0_mxu10.accLhs 1 0 0 (k0_pay3 v1772_r0) fits_0_96;
      let v1774_r0 : BitVec 1 := Scalar.cmpi .eq 3#32 0#32;
      let v1775_r0 : BitVec 32 := Scalar.select v1774_r0 1#32 3#32;
      let v1776_r0 : BitVec 32 := Scalar.remsi v1560_r0 v1775_r0;
      let v1777_r0 : BitVec 1 := Scalar.cmpi .ne v1776_r0 0#32;
      let v1778_r0 : BitVec 1 := Scalar.cmpi .slt v1776_r0 0#32;
      let v1779_r0 : BitVec 1 := Scalar.cmpi .slt v1775_r0 0#32;
      let v1780_r0 : BitVec 1 := Scalar.xori v1778_r0 v1779_r0;
      let v1781_r0 : BitVec 1 := Scalar.andi v1780_r0 v1777_r0;
      let v1782_r0 : BitVec 32 := Scalar.addi v1776_r0 v1775_r0;
      let v1783_r0 : BitVec 32 := Scalar.select v1781_r0 v1782_r0 v1776_r0;
      let v1784_r0 : BitVec 32 := Scalar.muli v1783_r0 128#32;
      let v1785_r0 : BitVec 32 := v1784_r0;
      OwnT A Z lx lq ly' f9 f10 f11 ⊢ Q ⟨k0_mxu11, v1785_r0⟩) :
    OwnT A Z lx lq ly f9 f10 f11 ⊢ wp frame (wpE (defs₀ (F := F)) 𝒱 (c : Thread nD τ) bd) Set.univ (k0_part9 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 k0_mxu8 v1560_r0 v1588_r0 v1708_r0 v1756_r0 v1758_r0 v1759_r0 v1764_r0) Q := by
  rw [k0_part9_eq_skeleton]; unfold k0_part9_skel
  dsimp only
  by_cases hc : k0_cond4 k0_t1 = 1#1
  · rw [if_pos ((cond4 _).mp hc)] at hy
    obtain ⟨h1, h2, rfl⟩ := hy
    rw [dif_pos hc]
    refine run_bind (runT_starty h2 (hg ((cond4 _).mp hc)) (by rw [off21 _ hc, h1]) (by rw [off23 _ hc, h1]) (by rw [off22 _ hc, h1]) ?_)
    refine run_bind (run_ld5 (in5 (by rw [off24]; rfl) rfl hk) (run_pure ?_))
    exact h
  · rw [if_neg (fun hh => hc ((cond4 _).mpr hh))] at hy
    subst hy
    rw [dif_neg hc]
    refine run_bind (run_ld5 (in5 (by rw [off24]; rfl) rfl hk) (run_pure ?_))
    exact h

end

end Cert.Kernel.Hand
-- ==== Proof.Kernel.PrologueA.lean ====
module

public import proofs.«01_k».proof.Proof.Kernel.PartsA

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section

variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_st8 {r : Rect S9x8x128} {w : r.shape.Idx → Elt F .f32} {hx : (M8.access r).Stores Finset.univ} {hm : Finset.univ = Finset.univ ∨ ∀ a, r.stride a = 1} {Q : PUnit → sProp 𝕄}
    (h : Own c R {V with f8 := (M8.access r).write (Elt F) V.f8 w Finset.univ} f9 f10 f11 ⊢ Q ⟨⟩) :
    Own c R V f9 f10 f11 ⊢ wp frame (wpE (defs₀ (F := F)) 𝒱 (c : Thread nD τ) bd) Set.univ (Prog.lift (.store M8 r w Finset.univ hx hm)) Q :=
  run_st own_split8 (own_join8 (V := {V with f8 := (M8.access r).write (Elt F) V.f8 w Finset.univ})) (Finset.subset_univ _) h

/-! ## Before the loop: the operand copies are started -/

variable (c) in
/-- `K` token slabs and `L` weight blocks under way, the rest of them not yet started. -/
def PQ (f0 : Bf F c M0) (g5 : Bf F c M5) (f1 : Bf F c M1) (g6 : Bf F c M6) (K L : ℕ) (Y : sProp (MT nD τ sig Unit (Elt F) ℕ (Pipeline.UD sig nD τ) ℕ)) : sProp (MT nD τ sig Unit (Elt F) ℕ (Pipeline.UD sig nD τ) ℕ) :=
  iprop(QP 4 (inix c f0 g5) (flx c f0) K ∗ QP 12 (iniq c f1 g6) (flq c f1) L ∗ Y)

variable {f0 : Bf F c M0} {g5 : Bf F c M5} {f1 : Bf F c M1} {g6 : Bf F c M6} {Y Y' : sProp (MT nD τ sig Unit (Elt F) ℕ (Pipeline.UD sig nD τ) ℕ)}

theorem pq_x {L : ℕ} (p : ℕ) (hp : p < 4) {os : Fin 1 → ℕ} (hos : os = ![p]) {o5 : Fin 3 → ℕ} (ho5 : o5 = ![p, 0, 0]) {o0 : Fin 2 → ℕ} (ho0 : o0 = ![0, p * 1792])
    {hs : ∀ a, os a + S1.size a ≤ S4.size a} {sqs : S1.Squeezes S_}
    {h5 : ∀ a, o5 a + S1x96x1792.size a ≤ S4x96x1792.size a} {sq : S1x96x1792.Squeezes S96x1792} {h0 : ∀ a, o0 a + S96x1792.size a ≤ S96x7168.size a}
    {w1 w2 w3} {Q : PUnit → sProp 𝕄}
    (h : PQ c f0 g5 f1 g6 (p + 1) L Y ⊢ Q ⟨⟩) :
    PQ c f0 g5 f1 g6 p L Y ⊢ wp frame (wpE (defs₀ (F := F)) 𝒱 (c : Thread nD τ) bd) Set.univ (Prog.lift (.enqueueDma (M0.slice (Rect.unit (s := S96x7168) o0 S96x1792.size h0) (fun _ => rfl))
      (.here ((M5.slice (Rect.unit (s := S4x96x1792) o5 S1x96x1792.size h5) (fun _ => rfl)).squeeze S96x1792 sq))
      (.dma (((cc0_scratch7 : DmaSems sig S4).slice (Rect.unit (s := S4) os S1.size hs)).squeeze S_ sqs).sem) w1 w2 w3)) Q := by
  refine run_startx (f0 := f0) (g5 := g5) p hp hos ho5 ho0 (R' := iprop(QR 4 (inix c f0 g5) (flx c f0) p ∗ QP 12 (iniq c f1 g6) (flq c f1) L ∗ Y)) (P := PQ c f0 g5 f1 g6 p L Y) ?_ (BIBase.Entails.trans ?_ h)
  · unfold PQ
    rw [qp_take hp]
    iintro ⟨⟨Ha, Hx⟩, Hq, HY⟩
    iframe
  · unfold PQ
    rw [qp_put hp]
    iintro ⟨Ha, Hx, Hq, HY⟩
    iframe

theorem pq_q {K : ℕ} (p : ℕ) (hp : p < 12) {os : Fin 2 → ℕ} (hos : os = ![p / 4, p % 4]) {o6 : Fin 4 → ℕ} (ho6 : o6 = ![p / 4, p % 4, 0, 0]) {o1 : Fin 2 → ℕ} (ho1 : o1 = ![p % 4 * 1792, p / 4 * 384])
    {hs : ∀ a, os a + S1x1.size a ≤ S3x4.size a} {sqs : S1x1.Squeezes S_}
    {h6 : ∀ a, o6 a + S1x1x1792x384.size a ≤ S3x4x1792x384.size a} {sq : S1x1x1792x384.Squeezes S1792x384} {h1 : ∀ a, o1 a + S1792x384.size a ≤ S7168x1152.size a}
    {w1 w2 w3} {Q : PUnit → sProp 𝕄}
    (h : PQ c f0 g5 f1 g6 K (p + 1) Y ⊢ Q ⟨⟩) :
    PQ c f0 g5 f1 g6 K p Y ⊢ wp frame (wpE (defs₀ (F := F)) 𝒱 (c : Thread nD τ) bd) Set.univ (Prog.lift (.enqueueDma (M1.slice (Rect.unit (s := S7168x1152) o1 S1792x384.size h1) (fun _ => rfl))
      (.here ((M6.slice (Rect.unit (s := S3x4x1792x384) o6 S1x1x1792x384.size h6) (fun _ => rfl)).squeeze S1792x384 sq))
      (.dma (((cc0_scratch8 : DmaSems sig S3x4).slice (Rect.unit (s := S3x4) os S1x1.size hs)).squeeze S_ sqs).sem) w1 w2 w3)) Q := by
  refine run_startq (f1 := f1) (g6 := g6) p hp hos ho6 ho1 (R' := iprop(QP 4 (inix c f0 g5) (flx c f0) K ∗ QR 12 (iniq c f1 g6) (flq c f1) p ∗ Y)) (P := PQ c f0 g5 f1 g6 K p Y) ?_ (BIBase.Entails.trans ?_ h)
  · unfold PQ
    rw [qp_take hp]
    iintro ⟨Hx, ⟨Ha, Hq⟩, HY⟩
    iframe
  · unfold PQ
    rw [qp_put hp]
    iintro ⟨Ha, Hx, Hq, HY⟩
    iframe

variable (c) in
/-- The small operands before their copies start, under way. -/
def S7a (f2 : Bf F c M2) (g7 : Bf F c M7) : sProp (MT nD τ sig Unit (Elt F) ℕ (Pipeline.UD sig nD τ) ℕ) :=
  iprop((M2.view.loc (c : Thread nD τ) ↦{fullShare} f2) ∗ (M7.view.loc (c : Thread nD τ) ↦{fullShare} g7) ∗ semVal ((c : Thread nD τ), SemLoc.dma (ssem 0)) 0)
variable (c) in
def S8a (f3 : Bf F c M3) (g8 : Bf F c M8) : sProp (MT nD τ sig Unit (Elt F) ℕ (Pipeline.UD sig nD τ) ℕ) :=
  iprop((M3.view.loc (c : Thread nD τ) ↦{fullShare} f3) ∗ (M8.view.loc (c : Thread nD τ) ↦{fullShare} g8) ∗ semVal ((c : Thread nD τ), SemLoc.dma (ssem 1)) 0)
variable (c) in
/-- The small operands as they are from the landing of their copies on. -/
def Zs (f2 : Bf F c M2) (f3 : Bf F c M3) : sProp (MT nD τ sig Unit (Elt F) ℕ (Pipeline.UD sig nD τ) ℕ) :=
  iprop((M2.view.loc (c : Thread nD τ) ↦{fullShare} f2) ∗ semVal ((c : Thread nD τ), SemLoc.dma (ssem 0)) 0
    ∗ (M3.view.loc (c : Thread nD τ) ↦{fullShare} f3) ∗ semVal ((c : Thread nD τ), SemLoc.dma (ssem 1)) 0)

variable {f2 : Bf F c M2} {g7 : Bf F c M7} {f3 : Bf F c M3} {g8 : Bf F c M8}

theorem run_part43 {Q : Mxu F → sProp 𝕄}
    (h : PQ c f0 g5 f1 g6 2 1 iprop(fl7 c f2 (L7 f2) ∗ fl8 c f3 (L8 f3) ∗ Y) ⊢ Q Mxu.init) :
    PQ c f0 g5 f1 g6 0 0 iprop(S7a c f2 g7 ∗ S8a c f3 g8 ∗ Y) ⊢ wp frame (wpE (defs₀ (F := F)) 𝒱 (c : Thread nD τ) bd) Set.univ (k0_part43 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [k0_part43_eq_skeleton]; unfold k0_part43_skel
  try dsimp only
  refine run_bind (run_start7 (f := f2) (g := g7) (os := ![0]) rfl (R' := PQ c f0 g5 f1 g6 0 0 iprop(S8a c f3 g8 ∗ Y)) ?_ ?_)
  · unfold PQ S7a
    iintro ⟨Hx, Hq, ⟨H2, H7, Hs⟩, HY⟩
    iframe
  refine run_bind (run_start8 (f := f3) (g := g8) (os := ![1]) rfl (R' := PQ c f0 g5 f1 g6 0 0 iprop(fl7 c f2 (L7 f2) ∗ Y)) ?_ ?_)
  · unfold PQ S8a
    iintro ⟨Hf, Hx, Hq, ⟨H2, H7, Hs⟩, HY⟩
    iframe
  refine BIBase.Entails.trans (Q := PQ c f0 g5 f1 g6 0 0 iprop(fl7 c f2 (L7 f2) ∗ fl8 c f3 (L8 f3) ∗ Y)) ?_ ?_
  · unfold PQ
    iintro ⟨Hf, Hx, Hq, HY⟩
    iframe
  refine run_bind (pq_x 0 (by decide) (os := ![0]) rfl (o5 := ![0, 0, 0]) rfl (o0 := ![0, 0]) rfl ?_)
  refine run_bind (pq_q 0 (by decide) (os := ![0, 0]) rfl (o6 := ![0, 0, 0, 0]) rfl (o1 := ![0, 0]) rfl ?_)
  refine run_bind (pq_x 1 (by decide) (os := ![1]) rfl (o5 := ![1, 0, 0]) rfl (o0 := ![0, 1792]) rfl ?_)
  exact run_pure h

theorem run_part44 {Q : PUnit → sProp 𝕄} (h : PQ c f0 g5 f1 g6 4 4 Y ⊢ Q ⟨⟩) :
    PQ c f0 g5 f1 g6 2 1 Y ⊢ wp frame (wpE (defs₀ (F := F)) 𝒱 (c : Thread nD τ) bd) Set.univ (k0_part44 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [k0_part44_eq_skeleton]; unfold k0_part44_skel
  try dsimp only
  refine run_bind (pq_q 1 (by decide) (os := ![0, 1]) rfl (o6 := ![0, 1, 0, 0]) rfl (o1 := ![1792, 0]) rfl ?_)
  refine run_bind (pq_x 2 (by decide) (os := ![2]) rfl (o5 := ![2, 0, 0]) rfl (o0 := ![0, 3584]) rfl ?_)
  refine run_bind (pq_q 2 (by decide) (os := ![0, 2]) rfl (o6 := ![0, 2, 0, 0]) rfl (o1 := ![3584, 0]) rfl ?_)
  refine run_bind (pq_x 3 (by decide) (os := ![3]) rfl (o5 := ![3, 0, 0]) rfl (o0 := ![0, 5376]) rfl ?_)
  refine run_bind (pq_q 3 (by decide) (os := ![0, 3]) rfl (o6 := ![0, 3, 0, 0]) rfl (o1 := ![5376, 0]) rfl ?_)
  exact run_pure h

theorem run_part45 {Q : PUnit → sProp 𝕄} (h : PQ c f0 g5 f1 g6 4 8 Y ⊢ Q ⟨⟩) :
    PQ c f0 g5 f1 g6 4 4 Y ⊢ wp frame (wpE (defs₀ (F := F)) 𝒱 (c : Thread nD τ) bd) Set.univ (k0_part45 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [k0_part45_eq_skeleton]; unfold k0_part45_skel
  try dsimp only
  refine run_bind (pq_q 4 (by decide) (os := ![1, 0]) rfl (o6 := ![1, 0, 0, 0]) rfl (o1 := ![0, 384]) rfl ?_)
  refine run_bind (pq_q 5 (by decide) (os := ![1, 1]) rfl (o6 := ![1, 1, 0, 0]) rfl (o1 := ![1792, 384]) rfl ?_)
  refine run_bind (pq_q 6 (by decide) (os := ![1, 2]) rfl (o6 := ![1, 2, 0, 0]) rfl (o1 := ![3584, 384]) rfl ?_)
  refine run_bind (pq_q 7 (by decide) (os := ![1, 3]) rfl (o6 := ![1, 3, 0, 0]) rfl (o1 := ![5376, 384]) rfl ?_)
  exact run_pure h

variable {A : Par F c} {lx lq ly : ℕ}
theorem D5_zero : D5 c 0 = ∅ := by
  ext i; simp only [D5, Finset.mem_filter, Finset.mem_univ, true_and, Finset.notMem_empty, iff_false]; omega
theorem D6_zero : D6 c 0 = ∅ := by
  ext i; simp only [D6, Finset.mem_filter, Finset.mem_univ, true_and, Finset.notMem_empty, iff_false]; omega
theorem D11_zero : D11 c 0 = Finset.univ := by
  ext i; simp only [D11, Finset.mem_filter, Finset.mem_univ, true_and]; exact ⟨fun _ => trivial, fun _ => Nat.zero_le _⟩

theorem run_part46 {Q : (Σ' (v89 : FVec F S8x128 .f32) (v90 : IVec S8x128 32), IVec S8x128 32) → sProp 𝕄} (hA0 : A.f0 = f0) (hA1 : A.f1 = f1) (hA7 : A.f7 = L7 f2) (hA8 : A.f8 = L8 f3)
    (h : OwnT A (Zs c f2 f3) 0 0 0 f9 f10 f11 ⊢ Q ⟨k0_pay158 ((M8.access (Rect.unit (s := S9x8x128) ![0, 0, 0] S1x8x128.size inb_S9x8x128_S1x8x128_0_0_0)).read (Elt F) A.f8), iota .tc S8x128 32 [1] iota_S8x128_d1_w32, iota .tc S8x128 32 [0] iota_S8x128_d0_w32⟩) :
    PQ c f0 g5 f1 g6 4 8 iprop(fl7 c f2 (L7 f2) ∗ fl8 c f3 (L8 f3) ∗ wts c ∗ QP 9 (iniy c A.f4) (gly A) 0
      ∗ (M9.view.loc (c : Thread nD τ) ↦{fullShare} f9) ∗ (M10.view.loc (c : Thread nD τ) ↦{fullShare} f10) ∗ (M11.view.loc (c : Thread nD τ) ↦{fullShare} f11))
      ⊢ wp frame (wpE (defs₀ (F := F)) 𝒱 (c : Thread nD τ) bd) Set.univ (k0_part46 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [k0_part46_eq_skeleton]; unfold k0_part46_skel
  try dsimp only
  refine run_bind (pq_q 8 (by decide) (os := ![2, 0]) rfl (o6 := ![2, 0, 0, 0]) rfl (o1 := ![0, 768]) rfl ?_)
  refine run_bind (pq_q 9 (by decide) (os := ![2, 1]) rfl (o6 := ![2, 1, 0, 0]) rfl (o1 := ![1792, 768]) rfl ?_)
  refine run_bind (pq_q 10 (by decide) (os := ![2, 2]) rfl (o6 := ![2, 2, 0, 0]) rfl (o1 := ![3584, 768]) rfl ?_)
  refine run_bind (pq_q 11 (by decide) (os := ![2, 3]) rfl (o6 := ![2, 3, 0, 0]) rfl (o1 := ![5376, 768]) rfl ?_)
  refine run_bind (run_wait7 (f := f2) (g := L7 f2) (os := ![0]) rfl (R' := iprop(PQ c f0 g5 f1 g6 4 12 iprop(fl8 c f3 (L8 f3) ∗ QP 9 (iniy c A.f4) (gly A) 0
      ∗ (M9.view.loc (c : Thread nD τ) ↦{fullShare} f9) ∗ (M10.view.loc (c : Thread nD τ) ↦{fullShare} f10) ∗ (M11.view.loc (c : Thread nD τ) ↦{fullShare} f11)))) ?_ ?_)
  · unfold PQ
    iintro ⟨Hx, Hq, H7, H8, Hw, Hy, H9, H10, H11⟩
    iframe
  refine run_bind (run_wait8 (f := f3) (g := L8 f3) (os := ![1]) rfl (R' := iprop((M7.view.loc (c : Thread nD τ) ↦{fullShare} L7 f2) ∗ (M2.view.loc (c : Thread nD τ) ↦{fullShare} f2) ∗ semVal ((c : Thread nD τ), SemLoc.dma (ssem 0)) 0
      ∗ PQ c f0 g5 f1 g6 4 12 iprop(QP 9 (iniy c A.f4) (gly A) 0
      ∗ (M9.view.loc (c : Thread nD τ) ↦{fullShare} f9) ∗ (M10.view.loc (c : Thread nD τ) ↦{fullShare} f10) ∗ (M11.view.loc (c : Thread nD τ) ↦{fullShare} f11)))) ?_ ?_)
  · unfold PQ
    iintro ⟨H7, H2, Hs, Hw, Hx, Hq, H8, Hy, H9, H10, H11⟩
    iframe
  refine BIBase.Entails.trans (Q := OwnT A (Zs c f2 f3) 0 0 0 f9 f10 f11) ?_ ?_
  · unfold PQ OwnT Own Rr Vv Zs
    dsimp only
    rw [hA0, hA1, hA7, hA8, D5_zero, D6_zero, D11_zero, pointsTo_empty, pointsTo_empty, qp_turn (b' := dnx c f0), qp_turn (b' := dnq c f1)]
    iintro ⟨H8, H3, Ht, Hw, H7, H2, Hs, Hx, Hq, Hy, H9, H10, H11⟩
    iframe
  refine run_bind (run_ld8 ?_)
  exact run_pure h

end

end Cert.Kernel.Hand
-- ==== Proof.Kernel.PrologueB.lean ====
module

public import proofs.«01_k».proof.Proof.Kernel.PrologueA

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part47 (v90 : IVec S8x128 32)
    {Q : (Σ' (v134 : IVec S8x128 32), IVec S8x128 1) → sProp 𝕄}
    (h : Own c R V f9 f10 f11 ⊢ Q ⟨k0_pay159 v90, k0_pay160 v90⟩) :
    Own c R V f9 f10 f11 ⊢ wp frame (wpE (defs₀ (F := F)) 𝒱 (c : Thread nD τ) bd) Set.univ (k0_part47 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v90) Q := by
  rw [k0_part47_eq_skeleton]; unfold k0_part47_skel
  refine run_pure ?_
  exact h

theorem run_part48 (v89 : FVec F S8x128 .f32) (v90 : IVec S8x128 32) (v91 : IVec S8x128 32) (v134 : IVec S8x128 32) (v136 : IVec S8x128 1)
    {Q : (Σ' (v174 : FVec F S8x128 .f32), IVec S8x128 32) → sProp 𝕄}
    (h : Own c R V f9 f10 f11 ⊢ Q ⟨k0_pay161 v89 v90 v91 v134 v136, k0_pay162 v90⟩) :
    Own c R V f9 f10 f11 ⊢ wp frame (wpE (defs₀ (F := F)) 𝒱 (c : Thread nD τ) bd) Set.univ (k0_part48 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v89 v90 v91 v134 v136) Q := by
  rw [k0_part48_eq_skeleton]; unfold k0_part48_skel
  refine run_pure ?_
  exact h

theorem run_part49 (v91 : IVec S8x128 32) (v174 : FVec F S8x128 .f32) (v176 : IVec S8x128 32)
    {Q : (Σ' (v195 : FVec F S8x128 .f32) (v196 : IVec S8x128 32) (v197 : IVec S8x128 32) (v213 : IVec S8x128 32), IVec S8x128 32) → sProp 𝕄}
    (h : let v191 : Vec F S1x8x128 .f32 := (M8.access (Rect.unit (s := S9x8x128) ![0, 0, 0] S1x8x128.size inb_S9x8x128_S1x8x128_0_0_0)).read (Elt F) V.f8;
      let g8_49_1 : Bf F c M8 := (M8.access (Rect.unit (s := S9x8x128) ![0, 0, 0] S1x8x128.size inb_S9x8x128_S1x8x128_0_0_0)).write (Elt F) V.f8 (k0_pay163 v91 v174 v176) Finset.univ;
      let v194 : Vec F S1x8x128 .f32 := (M8.access (Rect.unit (s := S9x8x128) ![1, 0, 0] S1x8x128.size inb_S9x8x128_S1x8x128_1_0_0)).read (Elt F) g8_49_1;
      let v196 : IVec S8x128 32 := iota .tc S8x128 32 [1] iota_S8x128_d1_w32;
      let v197 : IVec S8x128 32 := iota .tc S8x128 32 [0] iota_S8x128_d0_w32;
      Own c R {V with f8 := g8_49_1} f9 f10 f11 ⊢ Q ⟨k0_pay164 v194, v196, v197, k0_pay165, k0_pay166⟩) :
    Own c R V f9 f10 f11 ⊢ wp frame (wpE (defs₀ (F := F)) 𝒱 (c : Thread nD τ) bd) Set.univ (k0_part49 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v91 v174 v176) Q := by
  rw [k0_part49_eq_skeleton]; unfold k0_part49_skel
  refine run_bind (run_ld8 ?_)
  refine run_bind (run_st8 ?_)
  refine run_bind (run_ld8 ?_)
  refine run_pure ?_
  exact h

theorem run_part50 (v195 : FVec F S8x128 .f32) (v196 : IVec S8x128 32) (v197 : IVec S8x128 32) (v213 : IVec S8x128 32) (v214 : IVec S8x128 32)
    {Q : (Σ' (v248 : FVec F S8x128 .f32) (v252 : IVec S8x128 1) (v256 : IVec S8x128 1) (v258 : FVec F S8x128 .f32), BitVec 32) → sProp 𝕄}
    (h : Own c R V f9 f10 f11 ⊢ Q ⟨k0_pay167 v195 v196 v213 v214, k0_pay168 v196, k0_pay169 v197, k0_pay170 v195 v196 v213 v214, 4#32⟩) :
    Own c R V f9 f10 f11 ⊢ wp frame (wpE (defs₀ (F := F)) 𝒱 (c : Thread nD τ) bd) Set.univ (k0_part50 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v195 v196 v197 v213 v214) Q := by
  rw [k0_part50_eq_skeleton]; unfold k0_part50_skel
  refine run_pure ?_
  exact h

theorem run_part51 (v196 : IVec S8x128 32) (v197 : IVec S8x128 32) (v248 : FVec F S8x128 .f32) (v252 : IVec S8x128 1) (v256 : IVec S8x128 1) (v258 : FVec F S8x128 .f32) (c4_i32_176 : BitVec 32)
    {Q : (FVec F S8x128 .f32) → sProp 𝕄}
    (h : Own c R V f9 f10 f11 ⊢ Q (k0_pay171 v196 v197 v248 v252 v256 v258 c4_i32_176)) :
    Own c R V f9 f10 f11 ⊢ wp frame (wpE (defs₀ (F := F)) 𝒱 (c : Thread nD τ) bd) Set.univ (k0_part51 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v196 v197 v248 v252 v256 v258 c4_i32_176) Q := by
  rw [k0_part51_eq_skeleton]; unfold k0_part51_skel
  refine run_pure ?_
  exact h

theorem run_part52 (v296 : FVec F S8x128 .f32)
    {Q : (Σ' (v301 : FVec F S8x128 .f32) (v302 : IVec S8x128 32) (v303 : IVec S8x128 32) (v321 : IVec S8x128 32) (v323 : IVec S8x128 32) (v337 : IVec S8x128 1), IVec S8x128 32) → sProp 𝕄}
    (h : let v297 : Vec F S1x8x128 .f32 := (M8.access (Rect.unit (s := S9x8x128) ![1, 0, 0] S1x8x128.size inb_S9x8x128_S1x8x128_1_0_0)).read (Elt F) V.f8;
      let g8_52_1 : Bf F c M8 := (M8.access (Rect.unit (s := S9x8x128) ![1, 0, 0] S1x8x128.size inb_S9x8x128_S1x8x128_1_0_0)).write (Elt F) V.f8 (k0_pay172 v296) Finset.univ;
      let v300 : Vec F S1x8x128 .f32 := (M8.access (Rect.unit (s := S9x8x128) ![2, 0, 0] S1x8x128.size inb_S9x8x128_S1x8x128_2_0_0)).read (Elt F) g8_52_1;
      let v302 : IVec S8x128 32 := iota .tc S8x128 32 [1] iota_S8x128_d1_w32;
      let v303 : IVec S8x128 32 := iota .tc S8x128 32 [0] iota_S8x128_d0_w32;
      Own c R {V with f8 := g8_52_1} f9 f10 f11 ⊢ Q ⟨k0_pay173 v300, v302, v303, k0_pay174, k0_pay175, k0_pay176, k0_pay177⟩) :
    Own c R V f9 f10 f11 ⊢ wp frame (wpE (defs₀ (F := F)) 𝒱 (c : Thread nD τ) bd) Set.univ (k0_part52 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v296) Q := by
  rw [k0_part52_eq_skeleton]; unfold k0_part52_skel
  refine run_bind (run_ld8 ?_)
  refine run_bind (run_st8 ?_)
  refine run_bind (run_ld8 ?_)
  refine run_pure ?_
  exact h

theorem run_part53 (v301 : FVec F S8x128 .f32) (v302 : IVec S8x128 32) (v303 : IVec S8x128 32) (v321 : IVec S8x128 32) (v323 : IVec S8x128 32) (v337 : IVec S8x128 1) (v339 : IVec S8x128 32)
    {Q : (Σ' (v370 : FVec F S8x128 .f32) (v374 : IVec S8x128 1) (v378 : IVec S8x128 1), FVec F S8x128 .f32) → sProp 𝕄}
    (h : Own c R V f9 f10 f11 ⊢ Q ⟨k0_pay178 v301 v302 v303 v321 v323 v337 v339, k0_pay179 v302, k0_pay180 v303, k0_pay181 v301 v302 v303 v321 v323 v337 v339⟩) :
    Own c R V f9 f10 f11 ⊢ wp frame (wpE (defs₀ (F := F)) 𝒱 (c : Thread nD τ) bd) Set.univ (k0_part53 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v301 v302 v303 v321 v323 v337 v339) Q := by
  rw [k0_part53_eq_skeleton]; unfold k0_part53_skel
  refine run_pure ?_
  exact h

theorem run_part54 (v302 : IVec S8x128 32) (v303 : IVec S8x128 32) (v370 : FVec F S8x128 .f32) (v374 : IVec S8x128 1) (v378 : IVec S8x128 1) (v380 : FVec F S8x128 .f32)
    {Q : (Σ' (v407 : FVec F S8x128 .f32) (v408 : IVec S8x128 32) (v409 : IVec S8x128 32) (v411 : BitVec 32) (v413 : IVec S8x128 32) (v415 : IVec S8x128 1), IVec S8x128 32) → sProp 𝕄}
    (h : let v403 : Vec F S1x8x128 .f32 := (M8.access (Rect.unit (s := S9x8x128) ![2, 0, 0] S1x8x128.size inb_S9x8x128_S1x8x128_2_0_0)).read (Elt F) V.f8;
      let g8_54_1 : Bf F c M8 := (M8.access (Rect.unit (s := S9x8x128) ![2, 0, 0] S1x8x128.size inb_S9x8x128_S1x8x128_2_0_0)).write (Elt F) V.f8 (k0_pay182 v302 v303 v370 v374 v378 v380) Finset.univ;
      let v406 : Vec F S1x8x128 .f32 := (M8.access (Rect.unit (s := S9x8x128) ![3, 0, 0] S1x8x128.size inb_S9x8x128_S1x8x128_3_0_0)).read (Elt F) g8_54_1;
      let v408 : IVec S8x128 32 := iota .tc S8x128 32 [1] iota_S8x128_d1_w32;
      let v409 : IVec S8x128 32 := iota .tc S8x128 32 [0] iota_S8x128_d0_w32;
      let v410 : BitVec 1 := Scalar.cmpi .eq 16#32 0#32;
      let v411 : BitVec 32 := Scalar.select v410 1#32 16#32;
      Own c R {V with f8 := g8_54_1} f9 f10 f11 ⊢ Q ⟨k0_pay183 v406, v408, v409, v411, k0_pay184, k0_pay185, k0_pay186⟩) :
    Own c R V f9 f10 f11 ⊢ wp frame (wpE (defs₀ (F := F)) 𝒱 (c : Thread nD τ) bd) Set.univ (k0_part54 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v302 v303 v370 v374 v378 v380) Q := by
  rw [k0_part54_eq_skeleton]; unfold k0_part54_skel
  refine run_bind (run_ld8 ?_)
  refine run_bind (run_st8 ?_)
  refine run_bind (run_ld8 ?_)
  refine run_pure ?_
  exact h

theorem run_part55 (v407 : FVec F S8x128 .f32) (v408 : IVec S8x128 32) (v411 : BitVec 32) (v413 : IVec S8x128 32) (v415 : IVec S8x128 1) (v416 : IVec S8x128 32)
    {Q : (Σ' (v460 : FVec F S8x128 .f32) (v462 : IVec S8x128 32), IVec S8x128 32) → sProp 𝕄}
    (h : Own c R V f9 f10 f11 ⊢ Q ⟨k0_pay187 v407 v408 v411 v413 v415 v416, k0_pay188 v408, k0_pay189⟩) :
    Own c R V f9 f10 f11 ⊢ wp frame (wpE (defs₀ (F := F)) 𝒱 (c : Thread nD τ) bd) Set.univ (k0_part55 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v407 v408 v411 v413 v415 v416) Q := by
  rw [k0_part55_eq_skeleton]; unfold k0_part55_skel
  refine run_pure ?_
  exact h

theorem run_part56 (v408 : IVec S8x128 32) (v409 : IVec S8x128 32) (v460 : FVec F S8x128 .f32) (v462 : IVec S8x128 32) (v463 : IVec S8x128 32)
    {Q : (Σ' (v492 : FVec F S8x128 .f32) (v496 : IVec S8x128 1) (v500 : IVec S8x128 1) (v501 : FVec F S8x128 .f32), BitVec 32) → sProp 𝕄}
    (h : Own c R V f9 f10 f11 ⊢ Q ⟨k0_pay190 v408 v409 v460 v462 v463, k0_pay191 v408, k0_pay192 v409, k0_pay193 v408 v409 v460 v462 v463, 16#32⟩) :
    Own c R V f9 f10 f11 ⊢ wp frame (wpE (defs₀ (F := F)) 𝒱 (c : Thread nD τ) bd) Set.univ (k0_part56 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v408 v409 v460 v462 v463) Q := by
  rw [k0_part56_eq_skeleton]; unfold k0_part56_skel
  refine run_pure ?_
  exact h

theorem run_part57 (v492 : FVec F S8x128 .f32) (v496 : IVec S8x128 1) (v500 : IVec S8x128 1) (v501 : FVec F S8x128 .f32) (c16_i32_289 : BitVec 32)
    {Q : (Σ' (v513 : FVec F S8x128 .f32) (v514 : IVec S8x128 32) (v515 : IVec S8x128 32) (v533 : IVec S8x128 32) (c16_i32_305 : BitVec 32) (v535 : IVec S8x128 32) (v538 : IVec S8x128 32), IVec S8x128 32) → sProp 𝕄}
    (h : let v509 : Vec F S1x8x128 .f32 := (M8.access (Rect.unit (s := S9x8x128) ![3, 0, 0] S1x8x128.size inb_S9x8x128_S1x8x128_3_0_0)).read (Elt F) V.f8;
      let g8_57_1 : Bf F c M8 := (M8.access (Rect.unit (s := S9x8x128) ![3, 0, 0] S1x8x128.size inb_S9x8x128_S1x8x128_3_0_0)).write (Elt F) V.f8 (k0_pay194 v492 v496 v500 v501 c16_i32_289) Finset.univ;
      let v512 : Vec F S1x8x128 .f32 := (M8.access (Rect.unit (s := S9x8x128) ![4, 0, 0] S1x8x128.size inb_S9x8x128_S1x8x128_4_0_0)).read (Elt F) g8_57_1;
      let v514 : IVec S8x128 32 := iota .tc S8x128 32 [1] iota_S8x128_d1_w32;
      let v515 : IVec S8x128 32 := iota .tc S8x128 32 [0] iota_S8x128_d0_w32;
      Own c R {V with f8 := g8_57_1} f9 f10 f11 ⊢ Q ⟨k0_pay195 v512, v514, v515, k0_pay196, 16#32, k0_pay197, k0_pay198, k0_pay199⟩) :
    Own c R V f9 f10 f11 ⊢ wp frame (wpE (defs₀ (F := F)) 𝒱 (c : Thread nD τ) bd) Set.univ (k0_part57 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v492 v496 v500 v501 c16_i32_289) Q := by
  rw [k0_part57_eq_skeleton]; unfold k0_part57_skel
  refine run_bind (run_ld8 ?_)
  refine run_bind (run_st8 ?_)
  refine run_bind (run_ld8 ?_)
  refine run_pure ?_
  exact h

theorem run_part58 (v513 : FVec F S8x128 .f32) (v514 : IVec S8x128 32) (v515 : IVec S8x128 32) (v533 : IVec S8x128 32) (c16_i32_305 : BitVec 32) (v535 : IVec S8x128 32) (v538 : IVec S8x128 32) (v541 : IVec S8x128 32)
    {Q : (Σ' (v582 : FVec F S8x128 .f32) (v584 : IVec S8x128 32), BitVec 32) → sProp 𝕄}
    (h : Own c R V f9 f10 f11 ⊢ Q ⟨k0_pay200 v513 v514 v515 v533 c16_i32_305 v535 v538 v541, k0_pay201 v514, 0#32⟩) :
    Own c R V f9 f10 f11 ⊢ wp frame (wpE (defs₀ (F := F)) 𝒱 (c : Thread nD τ) bd) Set.univ (k0_part58 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v513 v514 v515 v533 c16_i32_305 v535 v538 v541) Q := by
  rw [k0_part58_eq_skeleton]; unfold k0_part58_skel
  refine run_pure ?_
  exact h

end

end Cert.Kernel.Hand
-- ==== Proof.Kernel.PrologueC.lean ====
module

public import proofs.«01_k».proof.Proof.Kernel.PrologueA

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part59 (v514 : IVec S8x128 32) (v515 : IVec S8x128 32) (v582 : FVec F S8x128 .f32) (v584 : IVec S8x128 32) (c0_i32_324 : BitVec 32)
    {Q : (Σ' (v619 : FVec F S8x128 .f32) (v620 : IVec S8x128 32), IVec S8x128 32) → sProp 𝕄}
    (h : let v615 : Vec F S1x8x128 .f32 := (M8.access (Rect.unit (s := S9x8x128) ![4, 0, 0] S1x8x128.size inb_S9x8x128_S1x8x128_4_0_0)).read (Elt F) V.f8;
      let g8_59_1 : Bf F c M8 := (M8.access (Rect.unit (s := S9x8x128) ![4, 0, 0] S1x8x128.size inb_S9x8x128_S1x8x128_4_0_0)).write (Elt F) V.f8 (k0_pay202 v514 v515 v582 v584 c0_i32_324) Finset.univ;
      let v618 : Vec F S1x8x128 .f32 := (M8.access (Rect.unit (s := S9x8x128) ![5, 0, 0] S1x8x128.size inb_S9x8x128_S1x8x128_5_0_0)).read (Elt F) g8_59_1;
      let v620 : IVec S8x128 32 := iota .tc S8x128 32 [1] iota_S8x128_d1_w32;
      let v621 : IVec S8x128 32 := iota .tc S8x128 32 [0] iota_S8x128_d0_w32;
      Own c R {V with f8 := g8_59_1} f9 f10 f11 ⊢ Q ⟨k0_pay203 v618, v620, v621⟩) :
    Own c R V f9 f10 f11 ⊢ wp frame (wpE (defs₀ (F := F)) 𝒱 (c : Thread nD τ) bd) Set.univ (k0_part59 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v514 v515 v582 v584 c0_i32_324) Q := by
  rw [k0_part59_eq_skeleton]; unfold k0_part59_skel
  refine run_bind (run_ld8 ?_)
  refine run_bind (run_st8 ?_)
  refine run_bind (run_ld8 ?_)
  refine run_pure ?_
  exact h

theorem run_part60 (v620 : IVec S8x128 32)
    {Q : (Σ' (v664 : IVec S8x128 32), IVec S8x128 1) → sProp 𝕄}
    (h : Own c R V f9 f10 f11 ⊢ Q ⟨k0_pay204 v620, k0_pay205 v620⟩) :
    Own c R V f9 f10 f11 ⊢ wp frame (wpE (defs₀ (F := F)) 𝒱 (c : Thread nD τ) bd) Set.univ (k0_part60 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v620) Q := by
  rw [k0_part60_eq_skeleton]; unfold k0_part60_skel
  refine run_pure ?_
  exact h

theorem run_part61 (v619 : FVec F S8x128 .f32) (v620 : IVec S8x128 32) (v621 : IVec S8x128 32) (v664 : IVec S8x128 32) (v666 : IVec S8x128 1)
    {Q : (Σ' (v704 : FVec F S8x128 .f32), IVec S8x128 32) → sProp 𝕄}
    (h : Own c R V f9 f10 f11 ⊢ Q ⟨k0_pay206 v619 v620 v621 v664 v666, k0_pay207 v620⟩) :
    Own c R V f9 f10 f11 ⊢ wp frame (wpE (defs₀ (F := F)) 𝒱 (c : Thread nD τ) bd) Set.univ (k0_part61 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v619 v620 v621 v664 v666) Q := by
  rw [k0_part61_eq_skeleton]; unfold k0_part61_skel
  refine run_pure ?_
  exact h

theorem run_part62 (v621 : IVec S8x128 32) (v704 : FVec F S8x128 .f32) (v706 : IVec S8x128 32)
    {Q : (Σ' (v725 : FVec F S8x128 .f32) (v726 : IVec S8x128 32) (v727 : IVec S8x128 32) (v743 : IVec S8x128 32), IVec S8x128 32) → sProp 𝕄}
    (h : let v721 : Vec F S1x8x128 .f32 := (M8.access (Rect.unit (s := S9x8x128) ![5, 0, 0] S1x8x128.size inb_S9x8x128_S1x8x128_5_0_0)).read (Elt F) V.f8;
      let g8_62_1 : Bf F c M8 := (M8.access (Rect.unit (s := S9x8x128) ![5, 0, 0] S1x8x128.size inb_S9x8x128_S1x8x128_5_0_0)).write (Elt F) V.f8 (k0_pay208 v621 v704 v706) Finset.univ;
      let v724 : Vec F S1x8x128 .f32 := (M8.access (Rect.unit (s := S9x8x128) ![6, 0, 0] S1x8x128.size inb_S9x8x128_S1x8x128_6_0_0)).read (Elt F) g8_62_1;
      let v726 : IVec S8x128 32 := iota .tc S8x128 32 [1] iota_S8x128_d1_w32;
      let v727 : IVec S8x128 32 := iota .tc S8x128 32 [0] iota_S8x128_d0_w32;
      Own c R {V with f8 := g8_62_1} f9 f10 f11 ⊢ Q ⟨k0_pay209 v724, v726, v727, k0_pay210, k0_pay211⟩) :
    Own c R V f9 f10 f11 ⊢ wp frame (wpE (defs₀ (F := F)) 𝒱 (c : Thread nD τ) bd) Set.univ (k0_part62 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v621 v704 v706) Q := by
  rw [k0_part62_eq_skeleton]; unfold k0_part62_skel
  refine run_bind (run_ld8 ?_)
  refine run_bind (run_st8 ?_)
  refine run_bind (run_ld8 ?_)
  refine run_pure ?_
  exact h

theorem run_part63 (v725 : FVec F S8x128 .f32) (v726 : IVec S8x128 32) (v727 : IVec S8x128 32) (v743 : IVec S8x128 32) (v744 : IVec S8x128 32)
    {Q : (Σ' (v778 : FVec F S8x128 .f32) (v782 : IVec S8x128 1) (v786 : IVec S8x128 1) (v788 : FVec F S8x128 .f32), BitVec 32) → sProp 𝕄}
    (h : Own c R V f9 f10 f11 ⊢ Q ⟨k0_pay212 v725 v726 v743 v744, k0_pay213 v726, k0_pay214 v727, k0_pay215 v725 v726 v743 v744, 4#32⟩) :
    Own c R V f9 f10 f11 ⊢ wp frame (wpE (defs₀ (F := F)) 𝒱 (c : Thread nD τ) bd) Set.univ (k0_part63 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v725 v726 v727 v743 v744) Q := by
  rw [k0_part63_eq_skeleton]; unfold k0_part63_skel
  refine run_pure ?_
  exact h

theorem run_part64 (v726 : IVec S8x128 32) (v727 : IVec S8x128 32) (v778 : FVec F S8x128 .f32) (v782 : IVec S8x128 1) (v786 : IVec S8x128 1) (v788 : FVec F S8x128 .f32) (c4_i32_416 : BitVec 32)
    {Q : (FVec F S8x128 .f32) → sProp 𝕄}
    (h : Own c R V f9 f10 f11 ⊢ Q (k0_pay216 v726 v727 v778 v782 v786 v788 c4_i32_416)) :
    Own c R V f9 f10 f11 ⊢ wp frame (wpE (defs₀ (F := F)) 𝒱 (c : Thread nD τ) bd) Set.univ (k0_part64 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v726 v727 v778 v782 v786 v788 c4_i32_416) Q := by
  rw [k0_part64_eq_skeleton]; unfold k0_part64_skel
  refine run_pure ?_
  exact h

theorem run_part65 (v826 : FVec F S8x128 .f32)
    {Q : (Σ' (v831 : FVec F S8x128 .f32) (v832 : IVec S8x128 32) (v833 : IVec S8x128 32) (v851 : IVec S8x128 32) (v853 : IVec S8x128 32) (v867 : IVec S8x128 1), IVec S8x128 32) → sProp 𝕄}
    (h : let v827 : Vec F S1x8x128 .f32 := (M8.access (Rect.unit (s := S9x8x128) ![6, 0, 0] S1x8x128.size inb_S9x8x128_S1x8x128_6_0_0)).read (Elt F) V.f8;
      let g8_65_1 : Bf F c M8 := (M8.access (Rect.unit (s := S9x8x128) ![6, 0, 0] S1x8x128.size inb_S9x8x128_S1x8x128_6_0_0)).write (Elt F) V.f8 (k0_pay217 v826) Finset.univ;
      let v830 : Vec F S1x8x128 .f32 := (M8.access (Rect.unit (s := S9x8x128) ![7, 0, 0] S1x8x128.size inb_S9x8x128_S1x8x128_7_0_0)).read (Elt F) g8_65_1;
      let v832 : IVec S8x128 32 := iota .tc S8x128 32 [1] iota_S8x128_d1_w32;
      let v833 : IVec S8x128 32 := iota .tc S8x128 32 [0] iota_S8x128_d0_w32;
      Own c R {V with f8 := g8_65_1} f9 f10 f11 ⊢ Q ⟨k0_pay218 v830, v832, v833, k0_pay219, k0_pay220, k0_pay221, k0_pay222⟩) :
    Own c R V f9 f10 f11 ⊢ wp frame (wpE (defs₀ (F := F)) 𝒱 (c : Thread nD τ) bd) Set.univ (k0_part65 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v826) Q := by
  rw [k0_part65_eq_skeleton]; unfold k0_part65_skel
  refine run_bind (run_ld8 ?_)
  refine run_bind (run_st8 ?_)
  refine run_bind (run_ld8 ?_)
  refine run_pure ?_
  exact h

theorem run_part66 (v831 : FVec F S8x128 .f32) (v832 : IVec S8x128 32) (v833 : IVec S8x128 32) (v851 : IVec S8x128 32) (v853 : IVec S8x128 32) (v867 : IVec S8x128 1) (v869 : IVec S8x128 32)
    {Q : (Σ' (v900 : FVec F S8x128 .f32) (v904 : IVec S8x128 1) (v908 : IVec S8x128 1), FVec F S8x128 .f32) → sProp 𝕄}
    (h : Own c R V f9 f10 f11 ⊢ Q ⟨k0_pay223 v831 v832 v833 v851 v853 v867 v869, k0_pay224 v832, k0_pay225 v833, k0_pay226 v831 v832 v833 v851 v853 v867 v869⟩) :
    Own c R V f9 f10 f11 ⊢ wp frame (wpE (defs₀ (F := F)) 𝒱 (c : Thread nD τ) bd) Set.univ (k0_part66 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v831 v832 v833 v851 v853 v867 v869) Q := by
  rw [k0_part66_eq_skeleton]; unfold k0_part66_skel
  refine run_pure ?_
  exact h

theorem run_part67 (v832 : IVec S8x128 32) (v833 : IVec S8x128 32) (v900 : FVec F S8x128 .f32) (v904 : IVec S8x128 1) (v908 : IVec S8x128 1) (v910 : FVec F S8x128 .f32)
    {Q : (Σ' (v937 : FVec F S8x128 .f32) (v938 : IVec S8x128 32) (v939 : IVec S8x128 32) (v941 : BitVec 32) (v943 : IVec S8x128 32) (v945 : IVec S8x128 1), IVec S8x128 32) → sProp 𝕄}
    (h : let v933 : Vec F S1x8x128 .f32 := (M8.access (Rect.unit (s := S9x8x128) ![7, 0, 0] S1x8x128.size inb_S9x8x128_S1x8x128_7_0_0)).read (Elt F) V.f8;
      let g8_67_1 : Bf F c M8 := (M8.access (Rect.unit (s := S9x8x128) ![7, 0, 0] S1x8x128.size inb_S9x8x128_S1x8x128_7_0_0)).write (Elt F) V.f8 (k0_pay227 v832 v833 v900 v904 v908 v910) Finset.univ;
      let v936 : Vec F S1x8x128 .f32 := (M8.access (Rect.unit (s := S9x8x128) ![8, 0, 0] S1x8x128.size inb_S9x8x128_S1x8x128_8_0_0)).read (Elt F) g8_67_1;
      let v938 : IVec S8x128 32 := iota .tc S8x128 32 [1] iota_S8x128_d1_w32;
      let v939 : IVec S8x128 32 := iota .tc S8x128 32 [0] iota_S8x128_d0_w32;
      let v940 : BitVec 1 := Scalar.cmpi .eq 16#32 0#32;
      let v941 : BitVec 32 := Scalar.select v940 1#32 16#32;
      Own c R {V with f8 := g8_67_1} f9 f10 f11 ⊢ Q ⟨k0_pay228 v936, v938, v939, v941, k0_pay229, k0_pay230, k0_pay231⟩) :
    Own c R V f9 f10 f11 ⊢ wp frame (wpE (defs₀ (F := F)) 𝒱 (c : Thread nD τ) bd) Set.univ (k0_part67 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v832 v833 v900 v904 v908 v910) Q := by
  rw [k0_part67_eq_skeleton]; unfold k0_part67_skel
  refine run_bind (run_ld8 ?_)
  refine run_bind (run_st8 ?_)
  refine run_bind (run_ld8 ?_)
  refine run_pure ?_
  exact h

theorem run_part68 (v937 : FVec F S8x128 .f32) (v938 : IVec S8x128 32) (v941 : BitVec 32) (v943 : IVec S8x128 32) (v945 : IVec S8x128 1) (v946 : IVec S8x128 32)
    {Q : (Σ' (v990 : FVec F S8x128 .f32) (v992 : IVec S8x128 32), IVec S8x128 32) → sProp 𝕄}
    (h : Own c R V f9 f10 f11 ⊢ Q ⟨k0_pay232 v937 v938 v941 v943 v945 v946, k0_pay233 v938, k0_pay234⟩) :
    Own c R V f9 f10 f11 ⊢ wp frame (wpE (defs₀ (F := F)) 𝒱 (c : Thread nD τ) bd) Set.univ (k0_part68 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v937 v938 v941 v943 v945 v946) Q := by
  rw [k0_part68_eq_skeleton]; unfold k0_part68_skel
  refine run_pure ?_
  exact h

theorem run_part69 (v938 : IVec S8x128 32) (v939 : IVec S8x128 32) (v990 : FVec F S8x128 .f32) (v992 : IVec S8x128 32) (v993 : IVec S8x128 32)
    {Q : (Σ' (v1022 : FVec F S8x128 .f32) (v1026 : IVec S8x128 1) (v1030 : IVec S8x128 1) (v1031 : FVec F S8x128 .f32), BitVec 32) → sProp 𝕄}
    (h : Own c R V f9 f10 f11 ⊢ Q ⟨k0_pay235 v938 v939 v990 v992 v993, k0_pay236 v938, k0_pay237 v939, k0_pay238 v938 v939 v990 v992 v993, 16#32⟩) :
    Own c R V f9 f10 f11 ⊢ wp frame (wpE (defs₀ (F := F)) 𝒱 (c : Thread nD τ) bd) Set.univ (k0_part69 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v938 v939 v990 v992 v993) Q := by
  rw [k0_part69_eq_skeleton]; unfold k0_part69_skel
  refine run_pure ?_
  exact h

end

end Cert.Kernel.Hand
-- ==== Proof.Kernel.EpilogueA.lean ====
module

public import proofs.«01_k».proof.Proof.Kernel.PrologueA

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part73 (v1124_r0 : BitVec 32) (v1125_r0 : Vec F S1x128 .i32) (v1127_r0 : Vec F S96x128 .f32) (c0_i32_589_r0 : BitVec 32)
    {Q : (Σ' (v1144_r0 : FVec F S96x128 .f32) (v1161_r0 : FVec F S96x128 .f32) (v1169_r0 : FVec F S96x128 .f32), FVec F S96x128 .f32) → sProp 𝕄}
    (h : let v1134_r0 : Vec F S1x96x128 .f32 := (M10.access (Rect.unit (s := S9x96x1024) ![8, 0, 0] S1x96x128.size inb_S9x96x1024_S1x96x128_8_0_0)).read (Elt F) f10;
      let v1139_r0 : Vec F S1x1x128 .f32 := (M8.access (Rect.unit (s := S9x8x128) ![8, 0, 0] S1x1x128.size inb_S9x8x128_S1x1x128_8_0_0)).read (Elt F) V.f8;
      let v1151_r0 : Vec F S1x96x128 .f32 := (M10.access (Rect.unit (s := S9x96x1024) ![8, 0, 512] S1x96x128.size inb_S9x96x1024_S1x96x128_8_0_512)).read (Elt F) f10;
      let v1156_r0 : Vec F S1x1x128 .f32 := (M8.access (Rect.unit (s := S9x8x128) ![8, 1, 0] S1x1x128.size inb_S9x8x128_S1x1x128_8_1_0)).read (Elt F) V.f8;
      let v1168_r0 : Vec F S1x96x128 .f32 := (M10.access (Rect.unit (s := S9x96x1024) ![8, 0, 128] S1x96x128.size inb_S9x96x1024_S1x96x128_8_0_128)).read (Elt F) f10;
      Own c R V f9 f10 f11 ⊢ Q ⟨k0_pay258 v1125_r0 v1127_r0 c0_i32_589_r0 v1134_r0 v1139_r0, k0_pay259 v1125_r0 v1127_r0 v1151_r0 v1156_r0, k0_pay260 v1168_r0, k0_pay261 v1125_r0⟩) :
    Own c R V f9 f10 f11 ⊢ wp frame (wpE (defs₀ (F := F)) 𝒱 (c : Thread nD τ) bd) Set.univ (k0_part73 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1124_r0 v1125_r0 v1127_r0 c0_i32_589_r0) Q := by
  rw [k0_part73_eq_skeleton]; unfold k0_part73_skel
  refine run_bind (run_ld10 ?_)
  refine run_bind (run_ld8 ?_)
  refine run_bind (run_ld10 ?_)
  refine run_bind (run_ld8 ?_)
  refine run_bind (run_ld10 ?_)
  refine run_pure ?_
  exact h

theorem run_part74 (v1124_r0 : BitVec 32) (v1125_r0 : Vec F S1x128 .i32) (v1127_r0 : Vec F S96x128 .f32) (v1169_r0 : FVec F S96x128 .f32) (v1170_r0 : FVec F S96x128 .f32)
    {Q : (Σ' (v1178_r0 : FVec F S96x128 .f32) (v1195_r0 : FVec F S96x128 .f32) (v1212_r0 : FVec F S96x128 .f32), BitVec 32) → sProp 𝕄}
    (h : let v1173_r0 : Vec F S1x1x128 .f32 := (M8.access (Rect.unit (s := S9x8x128) ![8, 2, 0] S1x1x128.size inb_S9x8x128_S1x1x128_8_2_0)).read (Elt F) V.f8;
      let v1185_r0 : Vec F S1x96x128 .f32 := (M10.access (Rect.unit (s := S9x96x1024) ![8, 0, 640] S1x96x128.size inb_S9x96x1024_S1x96x128_8_0_640)).read (Elt F) f10;
      let v1190_r0 : Vec F S1x1x128 .f32 := (M8.access (Rect.unit (s := S9x8x128) ![8, 3, 0] S1x1x128.size inb_S9x8x128_S1x1x128_8_3_0)).read (Elt F) V.f8;
      let v1202_r0 : Vec F S1x96x128 .f32 := (M10.access (Rect.unit (s := S9x96x1024) ![8, 0, 256] S1x96x128.size inb_S9x96x1024_S1x96x128_8_0_256)).read (Elt F) f10;
      let v1207_r0 : Vec F S1x1x128 .f32 := (M8.access (Rect.unit (s := S9x8x128) ![8, 4, 0] S1x1x128.size inb_S9x8x128_S1x1x128_8_4_0)).read (Elt F) V.f8;
      Own c R V f9 f10 f11 ⊢ Q ⟨k0_pay262 v1127_r0 v1169_r0 v1170_r0 v1173_r0, k0_pay263 v1125_r0 v1127_r0 v1185_r0 v1190_r0, k0_pay264 v1125_r0 v1127_r0 v1202_r0 v1207_r0, 24#32⟩) :
    Own c R V f9 f10 f11 ⊢ wp frame (wpE (defs₀ (F := F)) 𝒱 (c : Thread nD τ) bd) Set.univ (k0_part74 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1124_r0 v1125_r0 v1127_r0 v1169_r0 v1170_r0) Q := by
  rw [k0_part74_eq_skeleton]; unfold k0_part74_skel
  refine run_bind (run_ld8 ?_)
  refine run_bind (run_ld10 ?_)
  refine run_bind (run_ld8 ?_)
  refine run_bind (run_ld10 ?_)
  refine run_bind (run_ld8 ?_)
  refine run_pure ?_
  exact h

theorem run_part75 (v1124_r0 : BitVec 32) (v1125_r0 : Vec F S1x128 .i32) (v1127_r0 : Vec F S96x128 .f32) (c24_i32_r0 : BitVec 32)
    {Q : (Σ' (v1229_r0 : FVec F S96x128 .f32) (v1246_r0 : FVec F S96x128 .f32) (v1254_r0 : FVec F S96x128 .f32), FVec F S96x128 .f32) → sProp 𝕄}
    (h : let v1219_r0 : Vec F S1x96x128 .f32 := (M10.access (Rect.unit (s := S9x96x1024) ![8, 0, 768] S1x96x128.size inb_S9x96x1024_S1x96x128_8_0_768)).read (Elt F) f10;
      let v1224_r0 : Vec F S1x1x128 .f32 := (M8.access (Rect.unit (s := S9x8x128) ![8, 5, 0] S1x1x128.size inb_S9x8x128_S1x1x128_8_5_0)).read (Elt F) V.f8;
      let v1236_r0 : Vec F S1x96x128 .f32 := (M10.access (Rect.unit (s := S9x96x1024) ![8, 0, 384] S1x96x128.size inb_S9x96x1024_S1x96x128_8_0_384)).read (Elt F) f10;
      let v1241_r0 : Vec F S1x1x128 .f32 := (M8.access (Rect.unit (s := S9x8x128) ![8, 6, 0] S1x1x128.size inb_S9x8x128_S1x1x128_8_6_0)).read (Elt F) V.f8;
      let v1253_r0 : Vec F S1x96x128 .f32 := (M10.access (Rect.unit (s := S9x96x1024) ![8, 0, 896] S1x96x128.size inb_S9x96x1024_S1x96x128_8_0_896)).read (Elt F) f10;
      Own c R V f9 f10 f11 ⊢ Q ⟨k0_pay265 v1125_r0 v1127_r0 c24_i32_r0 v1219_r0 v1224_r0, k0_pay266 v1125_r0 v1127_r0 v1236_r0 v1241_r0, k0_pay267 v1253_r0, k0_pay268 v1125_r0⟩) :
    Own c R V f9 f10 f11 ⊢ wp frame (wpE (defs₀ (F := F)) 𝒱 (c : Thread nD τ) bd) Set.univ (k0_part75 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1124_r0 v1125_r0 v1127_r0 c24_i32_r0) Q := by
  rw [k0_part75_eq_skeleton]; unfold k0_part75_skel
  refine run_bind (run_ld10 ?_)
  refine run_bind (run_ld8 ?_)
  refine run_bind (run_ld10 ?_)
  refine run_bind (run_ld8 ?_)
  refine run_bind (run_ld10 ?_)
  refine run_pure ?_
  exact h

theorem run_part76 (v1127_r0 : Vec F S96x128 .f32) (v1144_r0 : FVec F S96x128 .f32) (v1161_r0 : FVec F S96x128 .f32) (v1178_r0 : FVec F S96x128 .f32) (v1195_r0 : FVec F S96x128 .f32) (v1212_r0 : FVec F S96x128 .f32) (v1229_r0 : FVec F S96x128 .f32) (v1246_r0 : FVec F S96x128 .f32) (v1254_r0 : FVec F S96x128 .f32) (v1255_r0 : FVec F S96x128 .f32)
    {Q : (Σ' (v1264_r0 : IVec S96x128 32) (v1272_r0 : FVec F S96x128 .f32) (v1276_r0 : FVec F S96x128 .f32) (v1280_r0 : FVec F S96x128 .f32) (v1284_r0 : FVec F S96x128 .f32) (v1288_r0 : IVec S96x128 1) (v1290_r0 : FVec F S96x128 .f32) (v1292_r0 : FVec F S96x128 .f32) (v1294_r0 : FVec F S96x128 .f32), FVec F S96x128 .f32) → sProp 𝕄}
    (h : let v1258_r0 : Vec F S1x1x128 .f32 := (M8.access (Rect.unit (s := S9x8x128) ![8, 7, 0] S1x1x128.size inb_S9x8x128_S1x1x128_8_7_0)).read (Elt F) V.f8;
      let v1264_r0 : IVec S96x128 32 := iota .tc S96x128 32 [1] iota_S96x128_d1_w32;
      Own c R V f9 f10 f11 ⊢ Q ⟨v1264_r0, k0_pay272 v1144_r0 v1212_r0, k0_pay274 v1161_r0 v1229_r0, k0_pay276 v1178_r0 v1246_r0, k0_pay278 v1127_r0 v1195_r0 v1254_r0 v1255_r0 v1258_r0, k0_pay279, k0_pay280 v1144_r0 v1178_r0 v1212_r0 v1246_r0, k0_pay281 v1144_r0 v1178_r0 v1212_r0 v1246_r0, k0_pay282 v1127_r0 v1161_r0 v1195_r0 v1229_r0 v1254_r0 v1255_r0 v1258_r0, k0_pay283 v1127_r0 v1161_r0 v1195_r0 v1229_r0 v1254_r0 v1255_r0 v1258_r0⟩) :
    Own c R V f9 f10 f11 ⊢ wp frame (wpE (defs₀ (F := F)) 𝒱 (c : Thread nD τ) bd) Set.univ (k0_part76 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1127_r0 v1144_r0 v1161_r0 v1178_r0 v1195_r0 v1212_r0 v1229_r0 v1246_r0 v1254_r0 v1255_r0) Q := by
  rw [k0_part76_eq_skeleton]; unfold k0_part76_skel
  refine run_bind (run_ld8 ?_)
  refine run_pure ?_
  exact h

theorem run_part77 (v1264_r0 : IVec S96x128 32) (v1272_r0 : FVec F S96x128 .f32) (v1276_r0 : FVec F S96x128 .f32) (v1280_r0 : FVec F S96x128 .f32) (v1284_r0 : FVec F S96x128 .f32) (v1288_r0 : IVec S96x128 1) (v1290_r0 : FVec F S96x128 .f32) (v1292_r0 : FVec F S96x128 .f32) (v1294_r0 : FVec F S96x128 .f32) (v1296_r0 : FVec F S96x128 .f32)
    {Q : (Σ' (v1310_r0 : FVec F S96x128 .f32) (v1312_r0 : FVec F S96x128 .f32) (v1314_r0 : FVec F S96x128 .f32) (v1316_r0 : FVec F S96x128 .f32) (v1318_r0 : FVec F S96x128 .f32) (v1320_r0 : FVec F S96x128 .f32) (v1322_r0 : FVec F S96x128 .f32) (v1324_r0 : FVec F S96x128 .f32) (v1326_r0 : BitVec 32) (v1328_r0 : IVec S96x128 32) (v1330_r0 : IVec S96x128 1), IVec S96x128 1) → sProp 𝕄}
    (h : let v1325_r0 : BitVec 1 := Scalar.cmpi .eq 8#32 0#32;
      let v1326_r0 : BitVec 32 := Scalar.select v1325_r0 1#32 8#32;
      Own c R V f9 f10 f11 ⊢ Q ⟨k0_pay289 v1264_r0 v1290_r0 v1294_r0, k0_pay290 v1264_r0 v1290_r0 v1294_r0, k0_pay291 v1264_r0 v1292_r0 v1296_r0, k0_pay292 v1264_r0 v1292_r0 v1296_r0, k0_pay293 v1264_r0 v1272_r0 v1276_r0 v1280_r0 v1284_r0 v1288_r0, k0_pay294 v1264_r0 v1272_r0 v1276_r0 v1280_r0 v1284_r0 v1288_r0, k0_pay295 v1264_r0 v1272_r0 v1276_r0 v1280_r0 v1284_r0 v1288_r0, k0_pay296 v1264_r0 v1272_r0 v1276_r0 v1280_r0 v1284_r0 v1288_r0, v1326_r0, k0_pay297 v1264_r0, k0_pay298 v1264_r0, k0_pay299 v1264_r0⟩) :
    Own c R V f9 f10 f11 ⊢ wp frame (wpE (defs₀ (F := F)) 𝒱 (c : Thread nD τ) bd) Set.univ (k0_part77 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1264_r0 v1272_r0 v1276_r0 v1280_r0 v1284_r0 v1288_r0 v1290_r0 v1292_r0 v1294_r0 v1296_r0) Q := by
  rw [k0_part77_eq_skeleton]; unfold k0_part77_skel
  refine run_pure ?_
  exact h

theorem run_part78 (v1264_r0 : IVec S96x128 32) (v1310_r0 : FVec F S96x128 .f32) (v1312_r0 : FVec F S96x128 .f32) (v1326_r0 : BitVec 32) (v1328_r0 : IVec S96x128 32) (v1330_r0 : IVec S96x128 1) (v1336_r0 : IVec S96x128 1)
    {Q : (Σ' (v1367_r0 : IVec S96x128 32) (v1375_r0 : FVec F S96x128 .f32) (v1383_r0 : FVec F S96x128 .f32), BitVec 32) → sProp 𝕄}
    (h : Own c R V f9 f10 f11 ⊢ Q ⟨k0_pay300 v1264_r0 v1326_r0 v1328_r0 v1330_r0 v1336_r0, k0_pay301 v1264_r0 v1310_r0 v1326_r0 v1328_r0 v1330_r0 v1336_r0, k0_pay302 v1264_r0 v1312_r0 v1326_r0 v1328_r0 v1330_r0 v1336_r0, 0#32⟩) :
    Own c R V f9 f10 f11 ⊢ wp frame (wpE (defs₀ (F := F)) 𝒱 (c : Thread nD τ) bd) Set.univ (k0_part78 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1264_r0 v1310_r0 v1312_r0 v1326_r0 v1328_r0 v1330_r0 v1336_r0) Q := by
  rw [k0_part78_eq_skeleton]; unfold k0_part78_skel
  refine run_pure ?_
  exact h

theorem run_part79 (v1314_r0 : FVec F S96x128 .f32) (v1316_r0 : FVec F S96x128 .f32) (v1318_r0 : FVec F S96x128 .f32) (v1320_r0 : FVec F S96x128 .f32) (v1322_r0 : FVec F S96x128 .f32) (v1324_r0 : FVec F S96x128 .f32) (v1367_r0 : IVec S96x128 32) (v1375_r0 : FVec F S96x128 .f32) (c0_i32_683_r0 : BitVec 32)
    {Q : (Σ' (v1391_r0 : FVec F S96x128 .f32) (v1399_r0 : FVec F S96x128 .f32) (v1407_r0 : FVec F S96x128 .f32) (v1415_r0 : FVec F S96x128 .f32) (v1423_r0 : FVec F S96x128 .f32) (v1431_r0 : FVec F S96x128 .f32), FVec F S96x128 .bf16) → sProp 𝕄}
    (h : Own c R V f9 f10 f11 ⊢ Q ⟨k0_pay303 v1314_r0 v1367_r0 c0_i32_683_r0, k0_pay304 v1316_r0 v1367_r0, k0_pay305 v1318_r0 v1367_r0, k0_pay306 v1320_r0 v1367_r0, k0_pay307 v1322_r0 v1367_r0, k0_pay308 v1324_r0 v1367_r0, k0_pay309 v1375_r0⟩) :
    Own c R V f9 f10 f11 ⊢ wp frame (wpE (defs₀ (F := F)) 𝒱 (c : Thread nD τ) bd) Set.univ (k0_part79 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1314_r0 v1316_r0 v1318_r0 v1320_r0 v1322_r0 v1324_r0 v1367_r0 v1375_r0 c0_i32_683_r0) Q := by
  rw [k0_part79_eq_skeleton]; unfold k0_part79_skel
  refine run_pure ?_
  exact h

theorem run_part80 (v1124_r0 : BitVec 32) (v1383_r0 : FVec F S96x128 .f32) (v1391_r0 : FVec F S96x128 .f32) (v1399_r0 : FVec F S96x128 .f32) (v1407_r0 : FVec F S96x128 .f32) (v1415_r0 : FVec F S96x128 .f32) (v1423_r0 : FVec F S96x128 .f32) (v1431_r0 : FVec F S96x128 .f32) (v1432_r0 : FVec F S96x128 .bf16)
    (hx1 : (M11.access (Rect.unit (s := S9x96x1024) ![8, 0, 0] S1x96x128.size inb_S9x96x1024_S1x96x128_8_0_0)).set ⊆ V.S11)
    (hx2 : (M11.access (Rect.unit (s := S9x96x1024) ![8, 0, 0] S1x96x128.size inb_S9x96x1024_S1x96x128_8_0_0)).set ⊆ V.S11)
    (hx3 : (M11.access (Rect.unit (s := S9x96x1024) ![8, 0, 128] S1x96x128.size inb_S9x96x1024_S1x96x128_8_0_128)).set ⊆ V.S11)
    (hx4 : (M11.access (Rect.unit (s := S9x96x1024) ![8, 0, 128] S1x96x128.size inb_S9x96x1024_S1x96x128_8_0_128)).set ⊆ V.S11)
    (hx5 : (M11.access (Rect.unit (s := S9x96x1024) ![8, 0, 256] S1x96x128.size inb_S9x96x1024_S1x96x128_8_0_256)).set ⊆ V.S11)
    (hx6 : (M11.access (Rect.unit (s := S9x96x1024) ![8, 0, 256] S1x96x128.size inb_S9x96x1024_S1x96x128_8_0_256)).set ⊆ V.S11)
    (hx7 : (M11.access (Rect.unit (s := S9x96x1024) ![8, 0, 384] S1x96x128.size inb_S9x96x1024_S1x96x128_8_0_384)).set ⊆ V.S11)
    (hx8 : (M11.access (Rect.unit (s := S9x96x1024) ![8, 0, 384] S1x96x128.size inb_S9x96x1024_S1x96x128_8_0_384)).set ⊆ V.S11)
    (hx9 : (M11.access (Rect.unit (s := S9x96x1024) ![8, 0, 512] S1x96x128.size inb_S9x96x1024_S1x96x128_8_0_512)).set ⊆ V.S11)
    (hx10 : (M11.access (Rect.unit (s := S9x96x1024) ![8, 0, 512] S1x96x128.size inb_S9x96x1024_S1x96x128_8_0_512)).set ⊆ V.S11)
    (hx11 : (M11.access (Rect.unit (s := S9x96x1024) ![8, 0, 640] S1x96x128.size inb_S9x96x1024_S1x96x128_8_0_640)).set ⊆ V.S11)
    (hx12 : (M11.access (Rect.unit (s := S9x96x1024) ![8, 0, 640] S1x96x128.size inb_S9x96x1024_S1x96x128_8_0_640)).set ⊆ V.S11)
    (hx13 : (M11.access (Rect.unit (s := S9x96x1024) ![8, 0, 768] S1x96x128.size inb_S9x96x1024_S1x96x128_8_0_768)).set ⊆ V.S11)
    (hx14 : (M11.access (Rect.unit (s := S9x96x1024) ![8, 0, 768] S1x96x128.size inb_S9x96x1024_S1x96x128_8_0_768)).set ⊆ V.S11)
    (hx15 : (M11.access (Rect.unit (s := S9x96x1024) ![8, 0, 896] S1x96x128.size inb_S9x96x1024_S1x96x128_8_0_896)).set ⊆ V.S11)
    {Q : (Σ' (v1467_r0 : FVec F S96x128 .bf16), Vec F S1x96x128 .bf16) → sProp 𝕄}
    (h : let v1434_r0 : Vec F S1x96x128 .bf16 := (M11.access (Rect.unit (s := S9x96x1024) ![8, 0, 0] S1x96x128.size inb_S9x96x1024_S1x96x128_8_0_0)).read (Elt F) f11;
      let g11_80_1 : Bf F c M11 := (M11.access (Rect.unit (s := S9x96x1024) ![8, 0, 0] S1x96x128.size inb_S9x96x1024_S1x96x128_8_0_0)).write (Elt F) f11 (k0_pay310 v1432_r0) Finset.univ;
      let v1439_r0 : Vec F S1x96x128 .bf16 := (M11.access (Rect.unit (s := S9x96x1024) ![8, 0, 128] S1x96x128.size inb_S9x96x1024_S1x96x128_8_0_128)).read (Elt F) g11_80_1;
      let g11_80_2 : Bf F c M11 := (M11.access (Rect.unit (s := S9x96x1024) ![8, 0, 128] S1x96x128.size inb_S9x96x1024_S1x96x128_8_0_128)).write (Elt F) g11_80_1 (k0_pay311 v1383_r0) Finset.univ;
      let v1444_r0 : Vec F S1x96x128 .bf16 := (M11.access (Rect.unit (s := S9x96x1024) ![8, 0, 256] S1x96x128.size inb_S9x96x1024_S1x96x128_8_0_256)).read (Elt F) g11_80_2;
      let g11_80_3 : Bf F c M11 := (M11.access (Rect.unit (s := S9x96x1024) ![8, 0, 256] S1x96x128.size inb_S9x96x1024_S1x96x128_8_0_256)).write (Elt F) g11_80_2 (k0_pay312 v1391_r0) Finset.univ;
      let v1449_r0 : Vec F S1x96x128 .bf16 := (M11.access (Rect.unit (s := S9x96x1024) ![8, 0, 384] S1x96x128.size inb_S9x96x1024_S1x96x128_8_0_384)).read (Elt F) g11_80_3;
      let g11_80_4 : Bf F c M11 := (M11.access (Rect.unit (s := S9x96x1024) ![8, 0, 384] S1x96x128.size inb_S9x96x1024_S1x96x128_8_0_384)).write (Elt F) g11_80_3 (k0_pay313 v1399_r0) Finset.univ;
      let v1454_r0 : Vec F S1x96x128 .bf16 := (M11.access (Rect.unit (s := S9x96x1024) ![8, 0, 512] S1x96x128.size inb_S9x96x1024_S1x96x128_8_0_512)).read (Elt F) g11_80_4;
      let g11_80_5 : Bf F c M11 := (M11.access (Rect.unit (s := S9x96x1024) ![8, 0, 512] S1x96x128.size inb_S9x96x1024_S1x96x128_8_0_512)).write (Elt F) g11_80_4 (k0_pay314 v1407_r0) Finset.univ;
      let v1459_r0 : Vec F S1x96x128 .bf16 := (M11.access (Rect.unit (s := S9x96x1024) ![8, 0, 640] S1x96x128.size inb_S9x96x1024_S1x96x128_8_0_640)).read (Elt F) g11_80_5;
      let g11_80_6 : Bf F c M11 := (M11.access (Rect.unit (s := S9x96x1024) ![8, 0, 640] S1x96x128.size inb_S9x96x1024_S1x96x128_8_0_640)).write (Elt F) g11_80_5 (k0_pay315 v1415_r0) Finset.univ;
      let v1464_r0 : Vec F S1x96x128 .bf16 := (M11.access (Rect.unit (s := S9x96x1024) ![8, 0, 768] S1x96x128.size inb_S9x96x1024_S1x96x128_8_0_768)).read (Elt F) g11_80_6;
      let g11_80_7 : Bf F c M11 := (M11.access (Rect.unit (s := S9x96x1024) ![8, 0, 768] S1x96x128.size inb_S9x96x1024_S1x96x128_8_0_768)).write (Elt F) g11_80_6 (k0_pay316 v1423_r0) Finset.univ;
      let v1469_r0 : Vec F S1x96x128 .bf16 := (M11.access (Rect.unit (s := S9x96x1024) ![8, 0, 896] S1x96x128.size inb_S9x96x1024_S1x96x128_8_0_896)).read (Elt F) g11_80_7;
      Own c R V f9 f10 g11_80_7 ⊢ Q ⟨k0_pay317 v1431_r0, v1469_r0⟩) :
    Own c R V f9 f10 f11 ⊢ wp frame (wpE (defs₀ (F := F)) 𝒱 (c : Thread nD τ) bd) Set.univ (k0_part80 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1124_r0 v1383_r0 v1391_r0 v1399_r0 v1407_r0 v1415_r0 v1423_r0 v1431_r0 v1432_r0) Q := by
  rw [k0_part80_eq_skeleton]; unfold k0_part80_skel
  refine run_bind (run_ld11 hx1 ?_)
  refine run_bind (run_st11 hx2 ?_)
  refine run_bind (run_ld11 hx3 ?_)
  refine run_bind (run_st11 hx4 ?_)
  refine run_bind (run_ld11 hx5 ?_)
  refine run_bind (run_st11 hx6 ?_)
  refine run_bind (run_ld11 hx7 ?_)
  refine run_bind (run_st11 hx8 ?_)
  refine run_bind (run_ld11 hx9 ?_)
  refine run_bind (run_st11 hx10 ?_)
  refine run_bind (run_ld11 hx11 ?_)
  refine run_bind (run_st11 hx12 ?_)
  refine run_bind (run_ld11 hx13 ?_)
  refine run_bind (run_st11 hx14 ?_)
  refine run_bind (run_ld11 hx15 ?_)
  refine run_pure ?_
  exact h

end

end Cert.Kernel.Hand
-- ==== Proof.Kernel.EpilogueB.lean ====
module

public import proofs.«01_k».proof.Proof.Kernel.PrologueA

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {A : Par F c} {Z : sProp (MT nD τ sig Unit (Elt F) ℕ (Pipeline.UD sig nD τ) ℕ)}
  {f9 : Bf F c M9} {f10 : Bf F c M10} {f11 : Bf F c M11}

theorem run_part72 (k0_mxu9 : Mxu F) (hg : A.good 7 f11) {Q : (Σ' (k0_mxu75 : Mxu F) (v1124_r0 : BitVec 32) (v1125_r0 : Vec F S1x128 .i32) (v1127_r0 : Vec F S96x128 .f32), BitVec 32) → sProp 𝕄}
    (h : let v1103_r0 : Vec F S1x96x256 .f32 := (M10.access (Rect.unit (s := S9x96x1024) ![8, 0, 512] S1x96x256.size inb_S9x96x1024_S1x96x256_8_0_512)).read (Elt F) f10;
      let v1107_r0 : FVec F S96x256 .f32 := k0_mxu9.read 0 24 fits_24_96;
      let k0_mxu70 : Mxu F := k0_mxu9.pop 0 24 96 fits_24_96;
      let v1109_r0 : Vec F S1x96x256 .f32 := (M10.access (Rect.unit (s := S9x96x1024) ![8, 0, 512] S1x96x256.size inb_S9x96x1024_S1x96x256_8_0_512)).read (Elt F) f10;
      let g10_72_1 : Bf F c M10 := (M10.access (Rect.unit (s := S9x96x1024) ![8, 0, 512] S1x96x256.size inb_S9x96x1024_S1x96x256_8_0_512)).write (Elt F) f10 (k0_pay255 v1103_r0 v1107_r0) Finset.univ;
      let v1112_r0 : Vec F S1x96x256 .f32 := (M10.access (Rect.unit (s := S9x96x1024) ![8, 0, 768] S1x96x256.size inb_S9x96x1024_S1x96x256_8_0_768)).read (Elt F) g10_72_1;
      let v1116_r0 : FVec F S96x256 .f32 := k0_mxu70.read 1 24 fits_24_96;
      let k0_mxu71 : Mxu F := k0_mxu70.pop 1 24 96 fits_24_96;
      let v1118_r0 : Vec F S1x96x256 .f32 := (M10.access (Rect.unit (s := S9x96x1024) ![8, 0, 768] S1x96x256.size inb_S9x96x1024_S1x96x256_8_0_768)).read (Elt F) g10_72_1;
      let g10_72_2 : Bf F c M10 := (M10.access (Rect.unit (s := S9x96x1024) ![8, 0, 768] S1x96x256.size inb_S9x96x1024_S1x96x256_8_0_768)).write (Elt F) g10_72_1 (k0_pay256 v1112_r0 v1116_r0) Finset.univ;
      let k0_mxu72 : Mxu F := k0_mxu71.accLhs 0 0 0 (k0_pay257 (F := F)) fits_0_96;
      let k0_mxu73 : Mxu F := k0_mxu72.accLhs 1 0 0 (k0_pay257 (F := F)) fits_0_96;
      let v1122_r0 : FVec F S96x256 .f32 := k0_mxu73.read 0 0 fits_0_96;
      let k0_mxu74 : Mxu F := k0_mxu73.pop 0 0 96 fits_0_96;
      let v1123_r0 : FVec F S96x256 .f32 := k0_mxu74.read 1 0 fits_0_96;
      let k0_mxu75 : Mxu F := k0_mxu74.pop 1 0 96 fits_0_96;
      let v1125_r0 : Vec F S1x128 .i32 := (M7.access (Rect.unit (s := S9x128) ![8, 0] S1x128.size inb_S9x128_S1x128_8_0)).read (Elt F) A.f7;
      let v1127_r0 : Vec F S96x128 .f32 := (M9.access (Rect.unit (s := S96x128) ![0, 0] S96x128.size inb_S96x128_S96x128_0_0)).read (Elt F) f9;
      OwnT A Z 4 12 8 f9 g10_72_2 f11 ⊢ Q ⟨k0_mxu75, 0#32, v1125_r0, v1127_r0, 0#32⟩) :
    OwnT A Z 4 12 7 f9 f10 f11 ⊢ wp frame (wpE (defs₀ (F := F)) 𝒱 (c : Thread nD τ) bd) Set.univ (k0_part72 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_mxu9) Q := by
  rw [k0_part72_eq_skeleton]; unfold k0_part72_skel
  dsimp only at h ⊢
  refine run_bind (runT_starty (ly := 7) (by decide) hg (os := ![7]) rfl (o11 := ![7, 0, 0]) rfl (o4 := ![0, 7168]) rfl ?_)
  refine run_bind (run_ld10 ?_)
  refine run_bind (run_ld10 ?_)
  refine run_bind (run_st10 ?_)
  refine run_bind (run_ld10 ?_)
  refine run_bind (run_ld10 ?_)
  refine run_bind (run_st10 ?_)
  refine run_bind (run_ld7 ?_)
  refine run_bind (run_ld9 ?_)
  exact run_pure h

/-! ## The end: the copies of the result are awaited -/

/-- `K` blocks of the result landed, the rest on their way. -/
def PE (A : Par F c) (K : ℕ) (Y : sProp (MT nD τ sig Unit (Elt F) ℕ (Pipeline.UD sig nD τ) ℕ)) : sProp (MT nD τ sig Unit (Elt F) ℕ (Pipeline.UD sig nD τ) ℕ) := iprop(QP 9 (gly A) (gny A) K ∗ wts c ∗ Y)

theorem pe_y {Y : sProp (MT nD τ sig Unit (Elt F) ℕ (Pipeline.UD sig nD τ) ℕ)} (p : ℕ) (hp : p < 9) {os : Fin 1 → ℕ} (hos : os = ![p]) {o11 : Fin 3 → ℕ} {o4 : Fin 2 → ℕ}
    {hs : ∀ a, os a + S1.size a ≤ S9.size a} {sqs : S1.Squeezes S_}
    {h11 : ∀ a, o11 a + S1x96x1024.size a ≤ S9x96x1024.size a} {sq : S1x96x1024.Squeezes S96x1024} {h4 : ∀ a, o4 a + S96x1024.size a ≤ S96x9216.size a}
    {w1 w2} {Q : PUnit → sProp 𝕄} (h : PE A (p + 1) Y ⊢ Q ⟨⟩) :
    PE A p Y ⊢ wp frame (wpE (defs₀ (F := F)) 𝒱 (c : Thread nD τ) bd) Set.univ (Prog.lift (.waitDma2 (((cc0_scratch10 : DmaSems sig S9).slice (Rect.unit (s := S9) os S1.size hs)).squeeze S_ sqs).sem
      ((M11.slice (Rect.unit (s := S9x96x1024) o11 S1x96x1024.size h11) (fun _ => rfl)).squeeze S96x1024 sq)
      (M4.slice (Rect.unit (s := S96x9216) o4 S96x1024.size h4) (fun _ => rfl)) w1 w2)) Q := by
  unfold PE
  rw [qp_take hp]
  unfold gly
  iintro ⟨⟨⟨%g, Hf, %hg⟩, HQ⟩, Hw, HY⟩
  iapply (run_waity (g := g) p hp hos (P := iprop(fly c g p ∗ wts c ∗ QR 9 (gly A) (gny A) p ∗ Y)) (R' := iprop(QR 9 (gly A) (gny A) p ∗ Y)) .rfl ?_) $$ [Hf HQ Hw HY]
  · refine BIBase.Entails.trans ?_ h
    unfold PE
    rw [qp_put hp]
    iintro ⟨Hd, Hw, HQ, HY⟩
    iframe
    unfold gny
    iexists g
    isplitl [Hd]
    · iexact Hd
    ipureintro
    exact hg
  · unfold gly
    iframe

/-- What is held at the end beside the result and the copies' tally. -/
def Yend (A : Par F c) (Z : sProp (MT nD τ sig Unit (Elt F) ℕ (Pipeline.UD sig nD τ) ℕ)) (f9 : Bf F c M9) (f10 : Bf F c M10) (f11 : Bf F c M11) : sProp (MT nD τ sig Unit (Elt F) ℕ (Pipeline.UD sig nD τ) ℕ) :=
  iprop((M5.view.loc (c : Thread nD τ) ↦[D5 c 4]{fullShare} F5 A.f0) ∗ (M6.view.loc (c : Thread nD τ) ↦[D6 c 12]{fullShare} F6 A.f1)
    ∗ (M7.view.loc (c : Thread nD τ) ↦{fullShare} A.f7) ∗ (M8.view.loc (c : Thread nD τ) ↦{fullShare} A.f8)
    ∗ (M9.view.loc (c : Thread nD τ) ↦{fullShare} f9) ∗ (M10.view.loc (c : Thread nD τ) ↦{fullShare} f10)
    ∗ (M11.view.loc (c : Thread nD τ) ↦[D11 c 9]{fullShare} f11) ∗ QP 4 (flx c A.f0) (dnx c A.f0) 4 ∗ QP 12 (flq c A.f1) (dnq c A.f1) 12 ∗ Z)

theorem own_end : OwnT A Z 4 12 9 f9 f10 f11 ⊢ PE A 0 (Yend A Z f9 f10 f11) := by
  unfold OwnT Own Rr Vv PE Yend
  dsimp only
  rw [← qp_turn (n := 9) (a := iniy c A.f4) (b := gly A) (b' := gny A)]
  iintro ⟨H5, H6, H7, H8, H9, H10, H11, Hx, Hq, Hy, Hw, HZ⟩
  iframe

theorem run_part81 (v1467_r0 : FVec F S96x128 .bf16) (v1469_r0 : Vec F S1x96x128 .bf16) (hg : A.good 8 ((M11.access (Rect.unit (s := S9x96x1024) ![8, 0, 896] S1x96x128.size inb_S9x96x1024_S1x96x128_8_0_896)).write (Elt F) f11 (k0_pay318 v1467_r0) Finset.univ)) {Q : PUnit → sProp 𝕄}
    (h : PE A 3 (Yend A Z f9 f10 ((M11.access (Rect.unit (s := S9x96x1024) ![8, 0, 896] S1x96x128.size inb_S9x96x1024_S1x96x128_8_0_896)).write (Elt F) f11 (k0_pay318 v1467_r0) Finset.univ)) ⊢ Q ⟨⟩) :
    OwnT A Z 4 12 8 f9 f10 f11 ⊢ wp frame (wpE (defs₀ (F := F)) 𝒱 (c : Thread nD τ) bd) Set.univ (k0_part81 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1467_r0 v1469_r0) Q := by
  rw [k0_part81_eq_skeleton]; unfold k0_part81_skel
  try dsimp only
  refine run_bind (run_st11 (in11 (p := 8) (K := 8) rfl (le_refl _)) ?_)
  refine run_bind (runT_starty (ly := 8) (by decide) hg (os := ![8]) rfl (o11 := ![8, 0, 0]) rfl (o4 := ![0, 8192]) rfl ?_)
  refine own_end.trans ?_
  refine run_bind (pe_y 0 (by decide) (os := ![0]) rfl ?_)
  refine run_bind (pe_y 1 (by decide) (os := ![1]) rfl ?_)
  refine run_bind (pe_y 2 (by decide) (os := ![2]) rfl ?_)
  exact run_pure h

theorem run_part82 {Y : sProp (MT nD τ sig Unit (Elt F) ℕ (Pipeline.UD sig nD τ) ℕ)} {Q : PUnit → sProp 𝕄} (h : PE A 8 Y ⊢ Q ⟨⟩) :
    PE A 3 Y ⊢ wp frame (wpE (defs₀ (F := F)) 𝒱 (c : Thread nD τ) bd) Set.univ (k0_part82 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [k0_part82_eq_skeleton]; unfold k0_part82_skel
  try dsimp only
  refine run_bind (pe_y 3 (by decide) (os := ![3]) rfl ?_)
  refine run_bind (pe_y 4 (by decide) (os := ![4]) rfl ?_)
  refine run_bind (pe_y 5 (by decide) (os := ![5]) rfl ?_)
  refine run_bind (pe_y 6 (by decide) (os := ![6]) rfl ?_)
  refine run_bind (pe_y 7 (by decide) (os := ![7]) rfl ?_)
  exact run_pure h

end

end Cert.Kernel.Hand
-- ==== Proof.Kernel.PartsB.lean ====
module

public import proofs.«01_k».proof.Proof.Kernel.Base

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part10 (k0_t1 : Fin k0_t1_loop.trips) (v1588_r0 : BitVec 32) (k0_mxu11 : Mxu F) (v1785_r0 : BitVec 32) (hm : AllF k0_mxu11)
    (h25 : (M6.access (Rect.unit (s := S3x4x1792x384) (k0_off25 k0_t1) S1x1x256x128.size (k0_off25_inb k0_t1))).set ⊆ V.S6)
    (h26 : (M5.access (Rect.unit (s := S4x96x1792) (k0_off26 k0_t1) S1x96x256.size (k0_off26_inb k0_t1))).set ⊆ V.S5)
    {Q : (Σ' (k0_mxu15 : Mxu F) (c3_i32_913_r0 : BitVec 32), BitVec 32) → sProp 𝕄}
    (h : let v1806_r0 : Vec F S1x1x256x128 .i32 := (M6.access (Rect.unit (s := S3x4x1792x384) (k0_off25 k0_t1) S1x1x256x128.size (k0_off25_inb k0_t1))).read (Elt F) V.f6;
      let k0_mxu12 : Mxu F := k0_mxu11.pushed 0 1 false (k0_pay5 v1806_r0);
      let k0_mxu13 : Mxu F := k0_mxu12.pushed 1 1 false (k0_pay6 v1806_r0);
      let v1846_r0 : Vec F S1x96x256 .bf16 := (M5.access (Rect.unit (s := S4x96x1792) (k0_off26 k0_t1) S1x96x256.size (k0_off26_inb k0_t1))).read (Elt F) V.f5;
      let k0_mxu14 : Mxu F := k0_mxu13.accLhs 0 1 0 (k0_pay7 v1846_r0) fits_0_96;
      let k0_mxu15 : Mxu F := k0_mxu14.accLhs 1 1 0 (k0_pay7 v1846_r0) fits_0_96;
      Own c R V f9 f10 f11 ⊢ Q ⟨k0_mxu15, 3#32, 0#32⟩) :
    Own c R V f9 f10 f11 ⊢ wp frame (wpE (defs₀ (F := F)) 𝒱 (c : Thread nD τ) bd) Set.univ (k0_part10 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1588_r0 k0_mxu11 v1785_r0) Q := by
  rw [k0_part10_eq_skeleton]; unfold k0_part10_skel
  refine run_bind (run_ld6 h25 ?_)
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h26 ?_)
  refine run_pure ?_
  exact h

theorem run_part11 (k0_t1 : Fin k0_t1_loop.trips) (v1560_r0 : BitVec 32) (v1588_r0 : BitVec 32) (c3_i32_913_r0 : BitVec 32) (c0_i32_914_r0 : BitVec 32)
    (h27 : (M6.access (Rect.unit (s := S3x4x1792x384) (k0_off27 k0_t1) S1x1x256x128.size (k0_off27_inb k0_t1))).set ⊆ V.S6)
    {Q : (Σ' (v1884_r0 : IVec S256x128 16) (v1890_r0 : IVec S64x128 32), IVec S64x128 32) → sProp 𝕄}
    (h : let v1880_r0 : Vec F S1x1x256x128 .i32 := (M6.access (Rect.unit (s := S3x4x1792x384) (k0_off27 k0_t1) S1x1x256x128.size (k0_off27_inb k0_t1))).read (Elt F) V.f6;
      Own c R V f9 f10 f11 ⊢ Q ⟨k0_pay8 v1880_r0, k0_pay9 v1880_r0, k0_pay10⟩) :
    Own c R V f9 f10 f11 ⊢ wp frame (wpE (defs₀ (F := F)) 𝒱 (c : Thread nD τ) bd) Set.univ (k0_part11 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 c3_i32_913_r0 c0_i32_914_r0) Q := by
  rw [k0_part11_eq_skeleton]; unfold k0_part11_skel
  refine run_bind (run_ld6 h27 ?_)
  refine run_pure ?_
  exact h

theorem run_part12 (k0_t1 : Fin k0_t1_loop.trips) (v1560_r0 : BitVec 32) (v1588_r0 : BitVec 32) (k0_mxu15 : Mxu F) (v1884_r0 : IVec S256x128 16) (v1890_r0 : IVec S64x128 32) (v1891_r0 : IVec S64x128 32) (hm : AllF k0_mxu15)
    (h28 : (M5.access (Rect.unit (s := S4x96x1792) (k0_off28 k0_t1) S1x96x256.size (k0_off28_inb k0_t1))).set ⊆ V.S5)
    {Q : (Σ' (k0_mxu19 : Mxu F) (v1933_r0 : BitVec 32), BitVec 32) → sProp 𝕄}
    (h : let k0_mxu16 : Mxu F := k0_mxu15.pushed 0 0 false (k0_pay11 (F := F) v1890_r0 v1891_r0);
      let k0_mxu17 : Mxu F := k0_mxu16.pushed 1 0 false (k0_pay12 (F := F) v1884_r0);
      let v1920_r0 : Vec F S1x96x256 .bf16 := (M5.access (Rect.unit (s := S4x96x1792) (k0_off28 k0_t1) S1x96x256.size (k0_off28_inb k0_t1))).read (Elt F) V.f5;
      let k0_mxu18 : Mxu F := k0_mxu17.accLhs 0 0 0 (k0_pay13 v1920_r0) fits_0_96;
      let k0_mxu19 : Mxu F := k0_mxu18.accLhs 1 0 0 (k0_pay13 v1920_r0) fits_0_96;
      let v1922_r0 : BitVec 1 := Scalar.cmpi .eq 3#32 0#32;
      let v1923_r0 : BitVec 32 := Scalar.select v1922_r0 1#32 3#32;
      let v1924_r0 : BitVec 32 := Scalar.remsi v1560_r0 v1923_r0;
      let v1925_r0 : BitVec 1 := Scalar.cmpi .ne v1924_r0 0#32;
      let v1926_r0 : BitVec 1 := Scalar.cmpi .slt v1924_r0 0#32;
      let v1927_r0 : BitVec 1 := Scalar.cmpi .slt v1923_r0 0#32;
      let v1928_r0 : BitVec 1 := Scalar.xori v1926_r0 v1927_r0;
      let v1929_r0 : BitVec 1 := Scalar.andi v1928_r0 v1925_r0;
      let v1930_r0 : BitVec 32 := Scalar.addi v1924_r0 v1923_r0;
      let v1931_r0 : BitVec 32 := Scalar.select v1929_r0 v1930_r0 v1924_r0;
      let v1932_r0 : BitVec 32 := Scalar.muli v1931_r0 128#32;
      let v1933_r0 : BitVec 32 := v1932_r0;
      Own c R V f9 f10 f11 ⊢ Q ⟨k0_mxu19, v1933_r0, 3#32⟩) :
    Own c R V f9 f10 f11 ⊢ wp frame (wpE (defs₀ (F := F)) 𝒱 (c : Thread nD τ) bd) Set.univ (k0_part12 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu15 v1884_r0 v1890_r0 v1891_r0) Q := by
  rw [k0_part12_eq_skeleton]; unfold k0_part12_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h28 ?_)
  refine run_pure ?_
  exact h

theorem run_part13 (k0_t1 : Fin k0_t1_loop.trips) (v1560_r0 : BitVec 32) (v1588_r0 : BitVec 32) (v1933_r0 : BitVec 32) (c3_i32_944_r0 : BitVec 32)
    (h29 : (M6.access (Rect.unit (s := S3x4x1792x384) (k0_off29 k0_t1) S1x1x256x128.size (k0_off29_inb k0_t1))).set ⊆ V.S6)
    {Q : (Σ' (v1969_r0 : FVec F S256x128 .bf16) (v1974_r0 : FVec F S256x128 .bf16) (v1980_r0 : IVec S64x128 32), BitVec 32) → sProp 𝕄}
    (h : let v1954_r0 : Vec F S1x1x256x128 .i32 := (M6.access (Rect.unit (s := S3x4x1792x384) (k0_off29 k0_t1) S1x1x256x128.size (k0_off29_inb k0_t1))).read (Elt F) V.f6;
      Own c R V f9 f10 f11 ⊢ Q ⟨k0_pay16 v1954_r0, k0_pay17 v1954_r0, k0_pay18 v1954_r0, 0#32⟩) :
    Own c R V f9 f10 f11 ⊢ wp frame (wpE (defs₀ (F := F)) 𝒱 (c : Thread nD τ) bd) Set.univ (k0_part13 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 v1933_r0 c3_i32_944_r0) Q := by
  rw [k0_part13_eq_skeleton]; unfold k0_part13_skel
  refine run_bind (run_ld6 h29 ?_)
  refine run_pure ?_
  exact h

theorem run_part14 (k0_t1 : Fin k0_t1_loop.trips) (v1588_r0 : BitVec 32) (v1619_r0 : BitVec 32) (v1647_r0 : BitVec 32) (k0_mxu19 : Mxu F) (v1969_r0 : FVec F S256x128 .bf16) (v1974_r0 : FVec F S256x128 .bf16) (v1980_r0 : IVec S64x128 32) (c0_i32_957_r0 : BitVec 32) (hm : AllF k0_mxu19)
    (h32 : (M5.access (Rect.unit (s := S4x96x1792) (k0_off32 k0_t1) S1x96x256.size (k0_off32_inb k0_t1))).set ⊆ V.S5)
    {Q : (Mxu F) → sProp 𝕄}
    (h : let k0_mxu20 : Mxu F := k0_mxu19.pushed 0 1 false (k0_pay19 v1969_r0 v1974_r0);
      let k0_mxu21 : Mxu F := k0_mxu20.pushed 1 1 false (k0_pay20 (F := F) v1980_r0 c0_i32_957_r0);
      let v1995_r0 : Vec F S1x96x256 .f32 := (M10.access (Rect.unit (s := S9x96x1024) (k0_off30 k0_t1) S1x96x256.size (k0_off30_inb k0_t1))).read (Elt F) f10;
      let v1999_r0 : FVec F S96x256 .f32 := k0_mxu21.read 0 24 fits_24_96;
      let k0_mxu22 : Mxu F := k0_mxu21.pop 0 24 96 fits_24_96;
      let v2002_r0 : Vec F S1x96x256 .f32 := (M10.access (Rect.unit (s := S9x96x1024) (k0_off30 k0_t1) S1x96x256.size (k0_off30_inb k0_t1))).read (Elt F) f10;
      let g10_1 : Bf F c M10 := (M10.access (Rect.unit (s := S9x96x1024) (k0_off30 k0_t1) S1x96x256.size (k0_off30_inb k0_t1))).write (Elt F) f10 (k0_pay21 v1647_r0 v1995_r0 v1999_r0) Finset.univ;
      let v2006_r0 : Vec F S1x96x256 .f32 := (M10.access (Rect.unit (s := S9x96x1024) (k0_off31 k0_t1) S1x96x256.size (k0_off31_inb k0_t1))).read (Elt F) g10_1;
      let v2010_r0 : FVec F S96x256 .f32 := k0_mxu22.read 1 24 fits_24_96;
      let k0_mxu23 : Mxu F := k0_mxu22.pop 1 24 96 fits_24_96;
      let v2013_r0 : Vec F S1x96x256 .f32 := (M10.access (Rect.unit (s := S9x96x1024) (k0_off31 k0_t1) S1x96x256.size (k0_off31_inb k0_t1))).read (Elt F) g10_1;
      let g10_2 : Bf F c M10 := (M10.access (Rect.unit (s := S9x96x1024) (k0_off31 k0_t1) S1x96x256.size (k0_off31_inb k0_t1))).write (Elt F) g10_1 (k0_pay22 v1647_r0 v2006_r0 v2010_r0) Finset.univ;
      let v2017_r0 : Vec F S1x96x256 .bf16 := (M5.access (Rect.unit (s := S4x96x1792) (k0_off32 k0_t1) S1x96x256.size (k0_off32_inb k0_t1))).read (Elt F) V.f5;
      let k0_mxu24 : Mxu F := k0_mxu23.accLhs 0 1 0 (k0_pay23 v2017_r0) fits_0_96;
      let k0_mxu25 : Mxu F := k0_mxu24.accLhs 1 1 0 (k0_pay23 v2017_r0) fits_0_96;
      Own c R V f9 g10_2 f11 ⊢ Q k0_mxu25) :
    Own c R V f9 f10 f11 ⊢ wp frame (wpE (defs₀ (F := F)) 𝒱 (c : Thread nD τ) bd) Set.univ (k0_part14 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1588_r0 v1619_r0 v1647_r0 k0_mxu19 v1969_r0 v1974_r0 v1980_r0 c0_i32_957_r0) Q := by
  rw [k0_part14_eq_skeleton]; unfold k0_part14_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld10 ?_)
  refine run_bind (run_ld10 ?_)
  refine run_bind (run_st10 ?_)
  refine run_bind (run_ld10 ?_)
  refine run_bind (run_ld10 ?_)
  refine run_bind (run_st10 ?_)
  refine run_bind (run_ld5 h32 ?_)
  refine run_pure ?_
  exact h

theorem run_part15 (k0_t1 : Fin k0_t1_loop.trips) (v1560_r0 : BitVec 32) (v1588_r0 : BitVec 32)
    (h33 : (M6.access (Rect.unit (s := S3x4x1792x384) (k0_off33 k0_t1) S1x1x256x128.size (k0_off33_inb k0_t1))).set ⊆ V.S6)
    {Q : (Σ' (v2055_r0 : IVec S256x128 16), IVec S64x128 32) → sProp 𝕄}
    (h : let v2051_r0 : Vec F S1x1x256x128 .i32 := (M6.access (Rect.unit (s := S3x4x1792x384) (k0_off33 k0_t1) S1x1x256x128.size (k0_off33_inb k0_t1))).read (Elt F) V.f6;
      Own c R V f9 f10 f11 ⊢ Q ⟨k0_pay24 v2051_r0, k0_pay25 v2051_r0⟩) :
    Own c R V f9 f10 f11 ⊢ wp frame (wpE (defs₀ (F := F)) 𝒱 (c : Thread nD τ) bd) Set.univ (k0_part15 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0) Q := by
  rw [k0_part15_eq_skeleton]; unfold k0_part15_skel
  refine run_bind (run_ld6 h33 ?_)
  refine run_pure ?_
  exact h

theorem run_part16 (k0_t1 : Fin k0_t1_loop.trips) (v1560_r0 : BitVec 32) (v1588_r0 : BitVec 32) (k0_mxu25 : Mxu F) (v2055_r0 : IVec S256x128 16) (v2061_r0 : IVec S64x128 32) (hm : AllF k0_mxu25)
    (h34 : (M5.access (Rect.unit (s := S4x96x1792) (k0_off34 k0_t1) S1x96x256.size (k0_off34_inb k0_t1))).set ⊆ V.S5)
    {Q : (Σ' (k0_mxu29 : Mxu F), BitVec 32) → sProp 𝕄}
    (h : let k0_mxu26 : Mxu F := k0_mxu25.pushed 0 0 false (k0_pay26 (F := F) v2061_r0);
      let k0_mxu27 : Mxu F := k0_mxu26.pushed 1 0 false (k0_pay27 (F := F) v2055_r0);
      let v2091_r0 : Vec F S1x96x256 .bf16 := (M5.access (Rect.unit (s := S4x96x1792) (k0_off34 k0_t1) S1x96x256.size (k0_off34_inb k0_t1))).read (Elt F) V.f5;
      let k0_mxu28 : Mxu F := k0_mxu27.accLhs 0 0 0 (k0_pay28 v2091_r0) fits_0_96;
      let k0_mxu29 : Mxu F := k0_mxu28.accLhs 1 0 0 (k0_pay28 v2091_r0) fits_0_96;
      let v2093_r0 : BitVec 1 := Scalar.cmpi .eq 3#32 0#32;
      let v2094_r0 : BitVec 32 := Scalar.select v2093_r0 1#32 3#32;
      let v2095_r0 : BitVec 32 := Scalar.remsi v1560_r0 v2094_r0;
      let v2096_r0 : BitVec 1 := Scalar.cmpi .ne v2095_r0 0#32;
      let v2097_r0 : BitVec 1 := Scalar.cmpi .slt v2095_r0 0#32;
      let v2098_r0 : BitVec 1 := Scalar.cmpi .slt v2094_r0 0#32;
      let v2099_r0 : BitVec 1 := Scalar.xori v2097_r0 v2098_r0;
      let v2100_r0 : BitVec 1 := Scalar.andi v2099_r0 v2096_r0;
      let v2101_r0 : BitVec 32 := Scalar.addi v2095_r0 v2094_r0;
      let v2102_r0 : BitVec 32 := Scalar.select v2100_r0 v2101_r0 v2095_r0;
      let v2103_r0 : BitVec 32 := Scalar.muli v2102_r0 128#32;
      Own c R V f9 f10 f11 ⊢ Q ⟨k0_mxu29, v2103_r0⟩) :
    Own c R V f9 f10 f11 ⊢ wp frame (wpE (defs₀ (F := F)) 𝒱 (c : Thread nD τ) bd) Set.univ (k0_part16 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu25 v2055_r0 v2061_r0) Q := by
  rw [k0_part16_eq_skeleton]; unfold k0_part16_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h34 ?_)
  refine run_pure ?_
  exact h

theorem run_part17 (k0_t1 : Fin k0_t1_loop.trips) (v1560_r0 : BitVec 32) (v1588_r0 : BitVec 32) (v2103_r0 : BitVec 32)
    (h35 : (M6.access (Rect.unit (s := S3x4x1792x384) (k0_off35 k0_t1) S1x1x256x128.size (k0_off35_inb k0_t1))).set ⊆ V.S6)
    {Q : (Σ' (v2140_r0 : FVec F S256x128 .bf16) (v2145_r0 : FVec F S256x128 .bf16), IVec S256x128 8) → sProp 𝕄}
    (h : let v2125_r0 : Vec F S1x1x256x128 .i32 := (M6.access (Rect.unit (s := S3x4x1792x384) (k0_off35 k0_t1) S1x1x256x128.size (k0_off35_inb k0_t1))).read (Elt F) V.f6;
      Own c R V f9 f10 f11 ⊢ Q ⟨k0_pay31 v2125_r0, k0_pay32 v2125_r0, k0_pay33 v2125_r0⟩) :
    Own c R V f9 f10 f11 ⊢ wp frame (wpE (defs₀ (F := F)) 𝒱 (c : Thread nD τ) bd) Set.univ (k0_part17 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 v2103_r0) Q := by
  rw [k0_part17_eq_skeleton]; unfold k0_part17_skel
  refine run_bind (run_ld6 h35 ?_)
  refine run_pure ?_
  exact h

theorem run_part18 (v1708_r0 : BitVec 32) (k0_mxu29 : Mxu F) (v2140_r0 : FVec F S256x128 .bf16) (v2145_r0 : FVec F S256x128 .bf16) (v2150_r0 : IVec S256x128 8) (hm : AllF k0_mxu29)
    {Q : (Σ' (k0_mxu31 : Mxu F) (v2180_r0 : BitVec 32), BitVec 32) → sProp 𝕄}
    (h : let k0_mxu30 : Mxu F := k0_mxu29.pushed 0 1 false (k0_pay34 v2140_r0 v2145_r0);
      let k0_mxu31 : Mxu F := k0_mxu30.pushed 1 1 false (k0_pay35 (F := F) v2150_r0);
      let v2164_r0 : BitVec 32 := Scalar.divsi v1708_r0 3#32;
      let v2165_r0 : BitVec 1 := Scalar.cmpi .sgt v1708_r0 0#32;
      let v2166_r0 : BitVec 32 := Scalar.extui v2165_r0;
      let v2167_r0 : BitVec 1 := Scalar.cmpi .slt v1708_r0 0#32;
      let v2168_r0 : BitVec 32 := Scalar.extui v2167_r0;
      let v2169_r0 : BitVec 32 := Scalar.subi v2166_r0 v2168_r0;
      let v2170_r0 : BitVec 1 := Scalar.cmpi .sgt 3#32 0#32;
      let v2171_r0 : BitVec 32 := Scalar.extui v2170_r0;
      let v2172_r0 : BitVec 1 := Scalar.cmpi .slt 3#32 0#32;
      let v2173_r0 : BitVec 32 := Scalar.extui v2172_r0;
      let v2174_r0 : BitVec 32 := Scalar.subi v2171_r0 v2173_r0;
      let v2175_r0 : BitVec 1 := Scalar.cmpi .ne v2169_r0 v2174_r0;
      let v2176_r0 : BitVec 32 := Scalar.remsi v1708_r0 3#32;
      let v2177_r0 : BitVec 1 := Scalar.cmpi .ne v2176_r0 0#32;
      let v2178_r0 : BitVec 1 := Scalar.andi v2175_r0 v2177_r0;
      let v2179_r0 : BitVec 32 := Scalar.subi v2164_r0 1#32;
      let v2180_r0 : BitVec 32 := Scalar.select v2178_r0 v2179_r0 v2164_r0;
      let v2181_r0 : BitVec 1 := Scalar.cmpi .eq 3#32 0#32;
      let v2182_r0 : BitVec 32 := Scalar.select v2181_r0 1#32 3#32;
      let v2183_r0 : BitVec 32 := Scalar.remsi v1708_r0 v2182_r0;
      let v2184_r0 : BitVec 1 := Scalar.cmpi .ne v2183_r0 0#32;
      let v2185_r0 : BitVec 1 := Scalar.cmpi .slt v2183_r0 0#32;
      let v2186_r0 : BitVec 1 := Scalar.cmpi .slt v2182_r0 0#32;
      let v2187_r0 : BitVec 1 := Scalar.xori v2185_r0 v2186_r0;
      let v2188_r0 : BitVec 1 := Scalar.andi v2187_r0 v2184_r0;
      let v2189_r0 : BitVec 32 := Scalar.addi v2183_r0 v2182_r0;
      let v2190_r0 : BitVec 32 := Scalar.select v2188_r0 v2189_r0 v2183_r0;
      let v2191_r0 : BitVec 32 := Scalar.muli v2190_r0 32#32;
      let v2192_r0 : BitVec 32 := v2191_r0;
      Own c R V f9 f10 f11 ⊢ Q ⟨k0_mxu31, v2180_r0, v2192_r0⟩) :
    Own c R V f9 f10 f11 ⊢ wp frame (wpE (defs₀ (F := F)) 𝒱 (c : Thread nD τ) bd) Set.univ (k0_part18 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1708_r0 k0_mxu29 v2140_r0 v2145_r0 v2150_r0) Q := by
  rw [k0_part18_eq_skeleton]; unfold k0_part18_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_pure ?_
  exact h

end

end Cert.Kernel.Hand
-- ==== Proof.Kernel.PartsC.lean ====
module

public import proofs.«01_k».proof.Proof.Kernel.Base

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part19 (k0_t1 : Fin k0_t1_loop.trips) (v2180_r0 : BitVec 32) (v2192_r0 : BitVec 32)
    {Q : (Σ' (v2194_r0 : Vec F S1x128 .i32) (v2196_r0 : Vec F S32x128 .f32) (v2215_r0 : FVec F S32x128 .f32) (v2234_r0 : FVec F S32x128 .f32), IVec S1x128 32) → sProp 𝕄}
    (h : let v2194_r0 : Vec F S1x128 .i32 := (M7.access (Rect.unit (s := S9x128) (k0_off36 k0_t1) S1x128.size (k0_off36_inb k0_t1))).read (Elt F) V.f7;
      let v2196_r0 : Vec F S32x128 .f32 := (M9.access (Rect.unit (s := S96x128) (k0_off37 k0_t1) S32x128.size (k0_off37_inb k0_t1))).read (Elt F) f9;
      let v2204_r0 : Vec F S1x32x128 .f32 := (M10.access (Rect.unit (s := S9x96x1024) (k0_off38 k0_t1) S1x32x128.size (k0_off38_inb k0_t1))).read (Elt F) f10;
      let v2210_r0 : Vec F S1x1x128 .f32 := (M8.access (Rect.unit (s := S9x8x128) (k0_off39 k0_t1) S1x1x128.size (k0_off39_inb k0_t1))).read (Elt F) V.f8;
      let v2223_r0 : Vec F S1x32x128 .f32 := (M10.access (Rect.unit (s := S9x96x1024) (k0_off40 k0_t1) S1x32x128.size (k0_off40_inb k0_t1))).read (Elt F) f10;
      let v2229_r0 : Vec F S1x1x128 .f32 := (M8.access (Rect.unit (s := S9x8x128) (k0_off41 k0_t1) S1x1x128.size (k0_off41_inb k0_t1))).read (Elt F) V.f8;
      Own c R V f9 f10 f11 ⊢ Q ⟨v2194_r0, v2196_r0, k0_pay36 v2194_r0 v2196_r0 v2204_r0 v2210_r0, k0_pay37 v2194_r0 v2196_r0 v2223_r0 v2229_r0, k0_pay38 v2194_r0⟩) :
    Own c R V f9 f10 f11 ⊢ wp frame (wpE (defs₀ (F := F)) 𝒱 (c : Thread nD τ) bd) Set.univ (k0_part19 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v2180_r0 v2192_r0) Q := by
  rw [k0_part19_eq_skeleton]; unfold k0_part19_skel
  refine run_bind (run_ld7 ?_)
  refine run_bind (run_ld9 ?_)
  refine run_bind (run_ld10 ?_)
  refine run_bind (run_ld8 ?_)
  refine run_bind (run_ld10 ?_)
  refine run_bind (run_ld8 ?_)
  refine run_pure ?_
  exact h

theorem run_part20 (k0_t1 : Fin k0_t1_loop.trips) (v2180_r0 : BitVec 32) (v2192_r0 : BitVec 32) (v2194_r0 : Vec F S1x128 .i32) (v2196_r0 : Vec F S32x128 .f32) (v2238_r0 : IVec S1x128 32)
    {Q : (Σ' (v2253_r0 : FVec F S32x128 .f32) (v2272_r0 : FVec F S32x128 .f32), FVec F S32x128 .f32) → sProp 𝕄}
    (h : let v2242_r0 : Vec F S1x32x128 .f32 := (M10.access (Rect.unit (s := S9x96x1024) (k0_off42 k0_t1) S1x32x128.size (k0_off42_inb k0_t1))).read (Elt F) f10;
      let v2248_r0 : Vec F S1x1x128 .f32 := (M8.access (Rect.unit (s := S9x8x128) (k0_off43 k0_t1) S1x1x128.size (k0_off43_inb k0_t1))).read (Elt F) V.f8;
      let v2261_r0 : Vec F S1x32x128 .f32 := (M10.access (Rect.unit (s := S9x96x1024) (k0_off44 k0_t1) S1x32x128.size (k0_off44_inb k0_t1))).read (Elt F) f10;
      let v2267_r0 : Vec F S1x1x128 .f32 := (M8.access (Rect.unit (s := S9x8x128) (k0_off45 k0_t1) S1x1x128.size (k0_off45_inb k0_t1))).read (Elt F) V.f8;
      let v2280_r0 : Vec F S1x32x128 .f32 := (M10.access (Rect.unit (s := S9x96x1024) (k0_off46 k0_t1) S1x32x128.size (k0_off46_inb k0_t1))).read (Elt F) f10;
      Own c R V f9 f10 f11 ⊢ Q ⟨k0_pay39 v2196_r0 v2238_r0 v2242_r0 v2248_r0, k0_pay40 v2194_r0 v2196_r0 v2261_r0 v2267_r0, k0_pay41 v2194_r0 v2196_r0 v2280_r0⟩) :
    Own c R V f9 f10 f11 ⊢ wp frame (wpE (defs₀ (F := F)) 𝒱 (c : Thread nD τ) bd) Set.univ (k0_part20 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v2180_r0 v2192_r0 v2194_r0 v2196_r0 v2238_r0) Q := by
  rw [k0_part20_eq_skeleton]; unfold k0_part20_skel
  refine run_bind (run_ld10 ?_)
  refine run_bind (run_ld8 ?_)
  refine run_bind (run_ld10 ?_)
  refine run_bind (run_ld8 ?_)
  refine run_bind (run_ld10 ?_)
  refine run_pure ?_
  exact h

theorem run_part21 (k0_t1 : Fin k0_t1_loop.trips) (v2180_r0 : BitVec 32) (v2192_r0 : BitVec 32) (v2194_r0 : Vec F S1x128 .i32) (v2196_r0 : Vec F S32x128 .f32) (v2284_r0 : FVec F S32x128 .f32)
    {Q : (Σ' (v2291_r0 : FVec F S32x128 .f32) (v2310_r0 : FVec F S32x128 .f32) (v2329_r0 : FVec F S32x128 .f32), IVec S1x128 32) → sProp 𝕄}
    (h : let v2286_r0 : Vec F S1x1x128 .f32 := (M8.access (Rect.unit (s := S9x8x128) (k0_off47 k0_t1) S1x1x128.size (k0_off47_inb k0_t1))).read (Elt F) V.f8;
      let v2299_r0 : Vec F S1x32x128 .f32 := (M10.access (Rect.unit (s := S9x96x1024) (k0_off48 k0_t1) S1x32x128.size (k0_off48_inb k0_t1))).read (Elt F) f10;
      let v2305_r0 : Vec F S1x1x128 .f32 := (M8.access (Rect.unit (s := S9x8x128) (k0_off49 k0_t1) S1x1x128.size (k0_off49_inb k0_t1))).read (Elt F) V.f8;
      let v2318_r0 : Vec F S1x32x128 .f32 := (M10.access (Rect.unit (s := S9x96x1024) (k0_off50 k0_t1) S1x32x128.size (k0_off50_inb k0_t1))).read (Elt F) f10;
      let v2324_r0 : Vec F S1x1x128 .f32 := (M8.access (Rect.unit (s := S9x8x128) (k0_off51 k0_t1) S1x1x128.size (k0_off51_inb k0_t1))).read (Elt F) V.f8;
      Own c R V f9 f10 f11 ⊢ Q ⟨k0_pay42 v2284_r0 v2286_r0, k0_pay43 v2194_r0 v2196_r0 v2299_r0 v2305_r0, k0_pay44 v2194_r0 v2196_r0 v2318_r0 v2324_r0, k0_pay45 v2194_r0⟩) :
    Own c R V f9 f10 f11 ⊢ wp frame (wpE (defs₀ (F := F)) 𝒱 (c : Thread nD τ) bd) Set.univ (k0_part21 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v2180_r0 v2192_r0 v2194_r0 v2196_r0 v2284_r0) Q := by
  rw [k0_part21_eq_skeleton]; unfold k0_part21_skel
  refine run_bind (run_ld8 ?_)
  refine run_bind (run_ld10 ?_)
  refine run_bind (run_ld8 ?_)
  refine run_bind (run_ld10 ?_)
  refine run_bind (run_ld8 ?_)
  refine run_pure ?_
  exact h

theorem run_part22 (k0_t1 : Fin k0_t1_loop.trips) (v2180_r0 : BitVec 32) (v2192_r0 : BitVec 32) (v2196_r0 : Vec F S32x128 .f32) (v2215_r0 : FVec F S32x128 .f32) (v2234_r0 : FVec F S32x128 .f32) (v2253_r0 : FVec F S32x128 .f32) (v2272_r0 : FVec F S32x128 .f32) (v2291_r0 : FVec F S32x128 .f32) (v2310_r0 : FVec F S32x128 .f32) (v2329_r0 : FVec F S32x128 .f32) (v2333_r0 : IVec S1x128 32)
    {Q : (Σ' (v2349_r0 : IVec S32x128 32) (v2357_r0 : FVec F S32x128 .f32) (v2359_r0 : FVec F S32x128 .f32) (v2361_r0 : FVec F S32x128 .f32) (v2363_r0 : FVec F S32x128 .f32) (v2365_r0 : FVec F S32x128 .f32) (v2367_r0 : FVec F S32x128 .f32) (v2369_r0 : FVec F S32x128 .f32) (v2373_r0 : IVec S32x128 1) (v2375_r0 : FVec F S32x128 .f32), FVec F S32x128 .f32) → sProp 𝕄}
    (h : let v2337_r0 : Vec F S1x32x128 .f32 := (M10.access (Rect.unit (s := S9x96x1024) (k0_off52 k0_t1) S1x32x128.size (k0_off52_inb k0_t1))).read (Elt F) f10;
      let v2343_r0 : Vec F S1x1x128 .f32 := (M8.access (Rect.unit (s := S9x8x128) (k0_off53 k0_t1) S1x1x128.size (k0_off53_inb k0_t1))).read (Elt F) V.f8;
      let v2349_r0 : IVec S32x128 32 := iota .tc S32x128 32 [1] iota_S32x128_d1_w32;
      Own c R V f9 f10 f11 ⊢ Q ⟨v2349_r0, k0_pay49 v2215_r0 v2291_r0, k0_pay50 v2234_r0 v2310_r0, k0_pay51 v2234_r0 v2310_r0, k0_pay52 v2253_r0 v2329_r0, k0_pay53 v2253_r0 v2329_r0, k0_pay54 v2196_r0 v2272_r0 v2333_r0 v2337_r0 v2343_r0, k0_pay55 v2196_r0 v2272_r0 v2333_r0 v2337_r0 v2343_r0, k0_pay56, k0_pay57 v2215_r0 v2253_r0 v2291_r0 v2329_r0, k0_pay58 v2215_r0 v2291_r0⟩) :
    Own c R V f9 f10 f11 ⊢ wp frame (wpE (defs₀ (F := F)) 𝒱 (c : Thread nD τ) bd) Set.univ (k0_part22 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v2180_r0 v2192_r0 v2196_r0 v2215_r0 v2234_r0 v2253_r0 v2272_r0 v2291_r0 v2310_r0 v2329_r0 v2333_r0) Q := by
  rw [k0_part22_eq_skeleton]; unfold k0_part22_skel
  refine run_bind (run_ld10 ?_)
  refine run_bind (run_ld8 ?_)
  refine run_pure ?_
  exact h

theorem run_part23 (v2349_r0 : IVec S32x128 32) (v2357_r0 : FVec F S32x128 .f32) (v2359_r0 : FVec F S32x128 .f32) (v2361_r0 : FVec F S32x128 .f32) (v2363_r0 : FVec F S32x128 .f32) (v2365_r0 : FVec F S32x128 .f32) (v2367_r0 : FVec F S32x128 .f32) (v2369_r0 : FVec F S32x128 .f32) (v2373_r0 : IVec S32x128 1) (v2375_r0 : FVec F S32x128 .f32) (v2376_r0 : FVec F S32x128 .f32)
    {Q : (Σ' (v2395_r0 : FVec F S32x128 .f32) (v2397_r0 : FVec F S32x128 .f32) (v2399_r0 : FVec F S32x128 .f32) (v2401_r0 : FVec F S32x128 .f32) (v2403_r0 : FVec F S32x128 .f32) (v2405_r0 : FVec F S32x128 .f32) (v2407_r0 : FVec F S32x128 .f32) (v2409_r0 : FVec F S32x128 .f32) (v2411_r0 : BitVec 32) (v2413_r0 : IVec S32x128 32) (v2415_r0 : IVec S32x128 1), BitVec 32) → sProp 𝕄}
    (h : let v2410_r0 : BitVec 1 := Scalar.cmpi .eq 8#32 0#32;
      let v2411_r0 : BitVec 32 := Scalar.select v2410_r0 1#32 8#32;
      Own c R V f9 f10 f11 ⊢ Q ⟨k0_pay67 v2349_r0 v2359_r0 v2367_r0 v2373_r0 v2375_r0, k0_pay68 v2349_r0 v2359_r0 v2367_r0 v2373_r0 v2375_r0, k0_pay69 v2349_r0 v2359_r0 v2363_r0 v2367_r0 v2373_r0 v2376_r0, k0_pay70 v2349_r0 v2359_r0 v2363_r0 v2367_r0 v2373_r0 v2376_r0, k0_pay71 v2349_r0 v2357_r0 v2361_r0 v2365_r0 v2369_r0 v2373_r0, k0_pay72 v2349_r0 v2357_r0 v2361_r0 v2365_r0 v2369_r0 v2373_r0, k0_pay73 v2349_r0 v2357_r0 v2361_r0 v2365_r0 v2369_r0 v2373_r0, k0_pay74 v2349_r0 v2357_r0 v2361_r0 v2365_r0 v2369_r0 v2373_r0, v2411_r0, k0_pay75 v2349_r0, k0_pay76 v2349_r0, 0#32⟩) :
    Own c R V f9 f10 f11 ⊢ wp frame (wpE (defs₀ (F := F)) 𝒱 (c : Thread nD τ) bd) Set.univ (k0_part23 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v2349_r0 v2357_r0 v2359_r0 v2361_r0 v2363_r0 v2365_r0 v2367_r0 v2369_r0 v2373_r0 v2375_r0 v2376_r0) Q := by
  rw [k0_part23_eq_skeleton]; unfold k0_part23_skel
  refine run_pure ?_
  exact h

theorem run_part24 (v2349_r0 : IVec S32x128 32) (v2395_r0 : FVec F S32x128 .f32) (v2411_r0 : BitVec 32) (v2413_r0 : IVec S32x128 32) (v2415_r0 : IVec S32x128 1) (c0_i32_1106_r0 : BitVec 32)
    {Q : (Σ' (v2452_r0 : IVec S32x128 32) (v2460_r0 : FVec F S32x128 .f32) (v2462_r0 : IVec S32x128 1), BitVec 32) → sProp 𝕄}
    (h : Own c R V f9 f10 f11 ⊢ Q ⟨k0_pay77 v2349_r0 v2411_r0 v2413_r0 v2415_r0 c0_i32_1106_r0, k0_pay78 v2349_r0 v2395_r0 v2411_r0 v2413_r0 v2415_r0 c0_i32_1106_r0, k0_pay79 v2349_r0 v2411_r0 v2413_r0 v2415_r0 c0_i32_1106_r0, 128#32⟩) :
    Own c R V f9 f10 f11 ⊢ wp frame (wpE (defs₀ (F := F)) 𝒱 (c : Thread nD τ) bd) Set.univ (k0_part24 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v2349_r0 v2395_r0 v2411_r0 v2413_r0 v2415_r0 c0_i32_1106_r0) Q := by
  rw [k0_part24_eq_skeleton]; unfold k0_part24_skel
  refine run_pure ?_
  exact h

theorem run_part25 (v2397_r0 : FVec F S32x128 .f32) (v2399_r0 : FVec F S32x128 .f32) (v2401_r0 : FVec F S32x128 .f32) (v2403_r0 : FVec F S32x128 .f32) (v2405_r0 : FVec F S32x128 .f32) (v2407_r0 : FVec F S32x128 .f32) (v2452_r0 : IVec S32x128 32) (v2462_r0 : IVec S32x128 1) (c128_i32_1119_r0 : BitVec 32)
    {Q : (Σ' (v2468_r0 : FVec F S32x128 .f32) (v2476_r0 : FVec F S32x128 .f32) (v2484_r0 : FVec F S32x128 .f32) (v2492_r0 : FVec F S32x128 .f32) (v2500_r0 : FVec F S32x128 .f32) (v2508_r0 : FVec F S32x128 .f32) (v2510_r0 : IVec S32x128 1), BitVec 32) → sProp 𝕄}
    (h : Own c R V f9 f10 f11 ⊢ Q ⟨k0_pay80 v2397_r0 v2452_r0 v2462_r0 c128_i32_1119_r0, k0_pay81 v2399_r0 v2452_r0, k0_pay82 v2401_r0 v2452_r0, k0_pay83 v2403_r0 v2452_r0, k0_pay84 v2405_r0 v2452_r0, k0_pay85 v2407_r0 v2452_r0, k0_pay86 v2452_r0, 128#32⟩) :
    Own c R V f9 f10 f11 ⊢ wp frame (wpE (defs₀ (F := F)) 𝒱 (c : Thread nD τ) bd) Set.univ (k0_part25 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v2397_r0 v2399_r0 v2401_r0 v2403_r0 v2405_r0 v2407_r0 v2452_r0 v2462_r0 c128_i32_1119_r0) Q := by
  rw [k0_part25_eq_skeleton]; unfold k0_part25_skel
  refine run_pure ?_
  exact h

theorem run_part26 (k0_t1 : Fin k0_t1_loop.trips) (v2180_r0 : BitVec 32) (v2192_r0 : BitVec 32) (v2409_r0 : FVec F S32x128 .f32) (v2452_r0 : IVec S32x128 32) (v2460_r0 : FVec F S32x128 .f32) (v2468_r0 : FVec F S32x128 .f32) (v2476_r0 : FVec F S32x128 .f32) (v2484_r0 : FVec F S32x128 .f32) (v2492_r0 : FVec F S32x128 .f32) (v2500_r0 : FVec F S32x128 .f32) (v2508_r0 : FVec F S32x128 .f32) (v2510_r0 : IVec S32x128 1) (c128_i32_1131_r0 : BitVec 32)
    (h38 : (M11.access (Rect.unit (s := S9x96x1024) (k0_off38 k0_t1) S1x32x128.size (k0_off38_inb k0_t1))).set ⊆ V.S11)
    (h42 : (M11.access (Rect.unit (s := S9x96x1024) (k0_off42 k0_t1) S1x32x128.size (k0_off42_inb k0_t1))).set ⊆ V.S11)
    (h46 : (M11.access (Rect.unit (s := S9x96x1024) (k0_off46 k0_t1) S1x32x128.size (k0_off46_inb k0_t1))).set ⊆ V.S11)
    (h50 : (M11.access (Rect.unit (s := S9x96x1024) (k0_off50 k0_t1) S1x32x128.size (k0_off50_inb k0_t1))).set ⊆ V.S11)
    (h40 : (M11.access (Rect.unit (s := S9x96x1024) (k0_off40 k0_t1) S1x32x128.size (k0_off40_inb k0_t1))).set ⊆ V.S11)
    (h44 : (M11.access (Rect.unit (s := S9x96x1024) (k0_off44 k0_t1) S1x32x128.size (k0_off44_inb k0_t1))).set ⊆ V.S11)
    (h48 : (M11.access (Rect.unit (s := S9x96x1024) (k0_off48 k0_t1) S1x32x128.size (k0_off48_inb k0_t1))).set ⊆ V.S11)
    {Q : (Σ' (v2516_r0 : FVec F S32x128 .f32), FVec F S32x128 .bf16) → sProp 𝕄}
    (h : let v2520_r0 : Vec F S1x32x128 .bf16 := (M11.access (Rect.unit (s := S9x96x1024) (k0_off38 k0_t1) S1x32x128.size (k0_off38_inb k0_t1))).read (Elt F) f11;
      let g11_1 : Bf F c M11 := (M11.access (Rect.unit (s := S9x96x1024) (k0_off38 k0_t1) S1x32x128.size (k0_off38_inb k0_t1))).write (Elt F) f11 (k0_pay88 v2460_r0) Finset.univ;
      let v2526_r0 : Vec F S1x32x128 .bf16 := (M11.access (Rect.unit (s := S9x96x1024) (k0_off42 k0_t1) S1x32x128.size (k0_off42_inb k0_t1))).read (Elt F) g11_1;
      let g11_2 : Bf F c M11 := (M11.access (Rect.unit (s := S9x96x1024) (k0_off42 k0_t1) S1x32x128.size (k0_off42_inb k0_t1))).write (Elt F) g11_1 (k0_pay89 v2468_r0) Finset.univ;
      let v2532_r0 : Vec F S1x32x128 .bf16 := (M11.access (Rect.unit (s := S9x96x1024) (k0_off46 k0_t1) S1x32x128.size (k0_off46_inb k0_t1))).read (Elt F) g11_2;
      let g11_3 : Bf F c M11 := (M11.access (Rect.unit (s := S9x96x1024) (k0_off46 k0_t1) S1x32x128.size (k0_off46_inb k0_t1))).write (Elt F) g11_2 (k0_pay90 v2476_r0) Finset.univ;
      let v2538_r0 : Vec F S1x32x128 .bf16 := (M11.access (Rect.unit (s := S9x96x1024) (k0_off50 k0_t1) S1x32x128.size (k0_off50_inb k0_t1))).read (Elt F) g11_3;
      let g11_4 : Bf F c M11 := (M11.access (Rect.unit (s := S9x96x1024) (k0_off50 k0_t1) S1x32x128.size (k0_off50_inb k0_t1))).write (Elt F) g11_3 (k0_pay91 v2484_r0) Finset.univ;
      let v2544_r0 : Vec F S1x32x128 .bf16 := (M11.access (Rect.unit (s := S9x96x1024) (k0_off40 k0_t1) S1x32x128.size (k0_off40_inb k0_t1))).read (Elt F) g11_4;
      let g11_5 : Bf F c M11 := (M11.access (Rect.unit (s := S9x96x1024) (k0_off40 k0_t1) S1x32x128.size (k0_off40_inb k0_t1))).write (Elt F) g11_4 (k0_pay92 v2492_r0) Finset.univ;
      let v2550_r0 : Vec F S1x32x128 .bf16 := (M11.access (Rect.unit (s := S9x96x1024) (k0_off44 k0_t1) S1x32x128.size (k0_off44_inb k0_t1))).read (Elt F) g11_5;
      let g11_6 : Bf F c M11 := (M11.access (Rect.unit (s := S9x96x1024) (k0_off44 k0_t1) S1x32x128.size (k0_off44_inb k0_t1))).write (Elt F) g11_5 (k0_pay93 v2500_r0) Finset.univ;
      let v2556_r0 : Vec F S1x32x128 .bf16 := (M11.access (Rect.unit (s := S9x96x1024) (k0_off48 k0_t1) S1x32x128.size (k0_off48_inb k0_t1))).read (Elt F) g11_6;
      Own c R V f9 f10 g11_6 ⊢ Q ⟨k0_pay87 v2409_r0 v2452_r0 v2510_r0 c128_i32_1131_r0, k0_pay94 v2508_r0⟩) :
    Own c R V f9 f10 f11 ⊢ wp frame (wpE (defs₀ (F := F)) 𝒱 (c : Thread nD τ) bd) Set.univ (k0_part26 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v2180_r0 v2192_r0 v2409_r0 v2452_r0 v2460_r0 v2468_r0 v2476_r0 v2484_r0 v2492_r0 v2500_r0 v2508_r0 v2510_r0 c128_i32_1131_r0) Q := by
  rw [k0_part26_eq_skeleton]; unfold k0_part26_skel
  refine run_bind (run_ld11 h38 ?_)
  refine run_bind (run_st11 h38 ?_)
  refine run_bind (run_ld11 h42 ?_)
  refine run_bind (run_st11 h42 ?_)
  refine run_bind (run_ld11 h46 ?_)
  refine run_bind (run_st11 h46 ?_)
  refine run_bind (run_ld11 h50 ?_)
  refine run_bind (run_st11 h50 ?_)
  refine run_bind (run_ld11 h40 ?_)
  refine run_bind (run_st11 h40 ?_)
  refine run_bind (run_ld11 h44 ?_)
  refine run_bind (run_st11 h44 ?_)
  refine run_bind (run_ld11 h48 ?_)
  refine run_pure ?_
  exact h

theorem run_part27 (k0_t1 : Fin k0_t1_loop.trips) (v1560_r0 : BitVec 32) (v1588_r0 : BitVec 32) (k0_mxu31 : Mxu F) (v2180_r0 : BitVec 32) (v2192_r0 : BitVec 32) (v2516_r0 : FVec F S32x128 .f32) (v2553_r0 : FVec F S32x128 .bf16)
    (h48 : (M11.access (Rect.unit (s := S9x96x1024) (k0_off48 k0_t1) S1x32x128.size (k0_off48_inb k0_t1))).set ⊆ V.S11)
    (h52 : (M11.access (Rect.unit (s := S9x96x1024) (k0_off52 k0_t1) S1x32x128.size (k0_off52_inb k0_t1))).set ⊆ V.S11)
    (h54 : (M5.access (Rect.unit (s := S4x96x1792) (k0_off54 k0_t1) S1x96x256.size (k0_off54_inb k0_t1))).set ⊆ V.S5)
    {Q : (Σ' (k0_mxu33 : Mxu F) (v2579_r0 : BitVec 32), BitVec 32) → sProp 𝕄}
    (h : let g11_1 : Bf F c M11 := (M11.access (Rect.unit (s := S9x96x1024) (k0_off48 k0_t1) S1x32x128.size (k0_off48_inb k0_t1))).write (Elt F) f11 (k0_pay95 v2553_r0) Finset.univ;
      let v2562_r0 : Vec F S1x32x128 .bf16 := (M11.access (Rect.unit (s := S9x96x1024) (k0_off52 k0_t1) S1x32x128.size (k0_off52_inb k0_t1))).read (Elt F) g11_1;
      let g11_2 : Bf F c M11 := (M11.access (Rect.unit (s := S9x96x1024) (k0_off52 k0_t1) S1x32x128.size (k0_off52_inb k0_t1))).write (Elt F) g11_1 (k0_pay96 v2516_r0) Finset.univ;
      let v2566_r0 : Vec F S1x96x256 .bf16 := (M5.access (Rect.unit (s := S4x96x1792) (k0_off54 k0_t1) S1x96x256.size (k0_off54_inb k0_t1))).read (Elt F) V.f5;
      let k0_mxu32 : Mxu F := k0_mxu31.accLhs 0 1 0 (k0_pay97 v2566_r0) fits_0_96;
      let k0_mxu33 : Mxu F := k0_mxu32.accLhs 1 1 0 (k0_pay97 v2566_r0) fits_0_96;
      let v2568_r0 : BitVec 1 := Scalar.cmpi .eq 3#32 0#32;
      let v2569_r0 : BitVec 32 := Scalar.select v2568_r0 1#32 3#32;
      let v2570_r0 : BitVec 32 := Scalar.remsi v1560_r0 v2569_r0;
      let v2571_r0 : BitVec 1 := Scalar.cmpi .ne v2570_r0 0#32;
      let v2572_r0 : BitVec 1 := Scalar.cmpi .slt v2570_r0 0#32;
      let v2573_r0 : BitVec 1 := Scalar.cmpi .slt v2569_r0 0#32;
      let v2574_r0 : BitVec 1 := Scalar.xori v2572_r0 v2573_r0;
      let v2575_r0 : BitVec 1 := Scalar.andi v2574_r0 v2571_r0;
      let v2576_r0 : BitVec 32 := Scalar.addi v2570_r0 v2569_r0;
      let v2577_r0 : BitVec 32 := Scalar.select v2575_r0 v2576_r0 v2570_r0;
      let v2578_r0 : BitVec 32 := Scalar.muli v2577_r0 128#32;
      let v2579_r0 : BitVec 32 := v2578_r0;
      let v2580_r0 : BitVec 32 := Scalar.divsi v1560_r0 3#32;
      let v2581_r0 : BitVec 1 := Scalar.cmpi .sgt v1560_r0 0#32;
      let v2582_r0 : BitVec 32 := Scalar.extui v2581_r0;
      let v2583_r0 : BitVec 1 := Scalar.cmpi .slt v1560_r0 0#32;
      let v2584_r0 : BitVec 32 := Scalar.extui v2583_r0;
      let v2585_r0 : BitVec 32 := Scalar.subi v2582_r0 v2584_r0;
      let v2586_r0 : BitVec 1 := Scalar.cmpi .sgt 3#32 0#32;
      let v2587_r0 : BitVec 32 := Scalar.extui v2586_r0;
      let v2588_r0 : BitVec 1 := Scalar.cmpi .slt 3#32 0#32;
      let v2589_r0 : BitVec 32 := Scalar.extui v2588_r0;
      let v2590_r0 : BitVec 32 := Scalar.subi v2587_r0 v2589_r0;
      let v2591_r0 : BitVec 1 := Scalar.cmpi .ne v2585_r0 v2590_r0;
      let v2592_r0 : BitVec 32 := Scalar.remsi v1560_r0 3#32;
      let v2593_r0 : BitVec 1 := Scalar.cmpi .ne v2592_r0 0#32;
      let v2594_r0 : BitVec 1 := Scalar.andi v2591_r0 v2593_r0;
      let v2595_r0 : BitVec 32 := Scalar.subi v2580_r0 1#32;
      let v2596_r0 : BitVec 32 := Scalar.select v2594_r0 v2595_r0 v2580_r0;
      Own c R V f9 f10 g11_2 ⊢ Q ⟨k0_mxu33, v2579_r0, v2596_r0⟩) :
    Own c R V f9 f10 f11 ⊢ wp frame (wpE (defs₀ (F := F)) 𝒱 (c : Thread nD τ) bd) Set.univ (k0_part27 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu31 v2180_r0 v2192_r0 v2516_r0 v2553_r0) Q := by
  rw [k0_part27_eq_skeleton]; unfold k0_part27_skel
  refine run_bind (run_st11 h48 ?_)
  refine run_bind (run_ld11 h52 ?_)
  refine run_bind (run_st11 h52 ?_)
  refine run_bind (run_ld5 h54 ?_)
  refine run_pure ?_
  exact h

end

end Cert.Kernel.Hand
-- ==== Proof.Kernel.PartsD.lean ====
module

public import proofs.«01_k».proof.Proof.Kernel.Base

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part28 (k0_t1 : Fin k0_t1_loop.trips) (v1588_r0 : BitVec 32) (k0_mxu33 : Mxu F) (v2579_r0 : BitVec 32) (v2596_r0 : BitVec 32) (hm : AllF k0_mxu33)
    (h55 : (M6.access (Rect.unit (s := S3x4x1792x384) (k0_off55 k0_t1) S1x1x256x128.size (k0_off55_inb k0_t1))).set ⊆ V.S6)
    (h56 : (M5.access (Rect.unit (s := S4x96x1792) (k0_off56 k0_t1) S1x96x256.size (k0_off56_inb k0_t1))).set ⊆ V.S5)
    {Q : (Σ' (k0_mxu37 : Mxu F), BitVec 32) → sProp 𝕄}
    (h : let v2600_r0 : Vec F S1x1x256x128 .i32 := (M6.access (Rect.unit (s := S3x4x1792x384) (k0_off55 k0_t1) S1x1x256x128.size (k0_off55_inb k0_t1))).read (Elt F) V.f6;
      let k0_mxu34 : Mxu F := k0_mxu33.pushed 0 0 false (k0_pay99 v2600_r0);
      let k0_mxu35 : Mxu F := k0_mxu34.pushed 1 0 false (k0_pay100 v2600_r0);
      let v2640_r0 : Vec F S1x96x256 .bf16 := (M5.access (Rect.unit (s := S4x96x1792) (k0_off56 k0_t1) S1x96x256.size (k0_off56_inb k0_t1))).read (Elt F) V.f5;
      let k0_mxu36 : Mxu F := k0_mxu35.accLhs 0 0 0 (k0_pay101 v2640_r0) fits_0_96;
      let k0_mxu37 : Mxu F := k0_mxu36.accLhs 1 0 0 (k0_pay101 v2640_r0) fits_0_96;
      Own c R V f9 f10 f11 ⊢ Q ⟨k0_mxu37, 3#32⟩) :
    Own c R V f9 f10 f11 ⊢ wp frame (wpE (defs₀ (F := F)) 𝒱 (c : Thread nD τ) bd) Set.univ (k0_part28 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1588_r0 k0_mxu33 v2579_r0 v2596_r0) Q := by
  rw [k0_part28_eq_skeleton]; unfold k0_part28_skel
  refine run_bind (run_ld6 h55 ?_)
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h56 ?_)
  refine run_pure ?_
  exact h

theorem run_part29 (k0_t1 : Fin k0_t1_loop.trips) (v1560_r0 : BitVec 32) (v1588_r0 : BitVec 32) (c3_i32_1165_r0 : BitVec 32)
    (h57 : (M6.access (Rect.unit (s := S3x4x1792x384) (k0_off57 k0_t1) S1x1x256x128.size (k0_off57_inb k0_t1))).set ⊆ V.S6)
    {Q : (Σ' (v2678_r0 : IVec S256x128 16) (v2684_r0 : IVec S64x128 32), BitVec 32) → sProp 𝕄}
    (h : let v2674_r0 : Vec F S1x1x256x128 .i32 := (M6.access (Rect.unit (s := S3x4x1792x384) (k0_off57 k0_t1) S1x1x256x128.size (k0_off57_inb k0_t1))).read (Elt F) V.f6;
      Own c R V f9 f10 f11 ⊢ Q ⟨k0_pay102 v2674_r0, k0_pay103 v2674_r0, 0#32⟩) :
    Own c R V f9 f10 f11 ⊢ wp frame (wpE (defs₀ (F := F)) 𝒱 (c : Thread nD τ) bd) Set.univ (k0_part29 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 c3_i32_1165_r0) Q := by
  rw [k0_part29_eq_skeleton]; unfold k0_part29_skel
  refine run_bind (run_ld6 h57 ?_)
  refine run_pure ?_
  exact h

theorem run_part30 (k0_t1 : Fin k0_t1_loop.trips) (v1560_r0 : BitVec 32) (v1588_r0 : BitVec 32) (k0_mxu37 : Mxu F) (v2678_r0 : IVec S256x128 16) (v2684_r0 : IVec S64x128 32) (c0_i32_1182_r0 : BitVec 32) (hm : AllF k0_mxu37)
    (h24 : (M5.access (Rect.unit (s := S4x96x1792) (k0_off24 k0_t1) S1x96x256.size (k0_off24_inb k0_t1))).set ⊆ V.S5)
    {Q : (Σ' (k0_mxu41 : Mxu F), BitVec 32) → sProp 𝕄}
    (h : let k0_mxu38 : Mxu F := k0_mxu37.pushed 0 1 false (k0_pay104 (F := F) v2684_r0 c0_i32_1182_r0);
      let k0_mxu39 : Mxu F := k0_mxu38.pushed 1 1 false (k0_pay105 (F := F) v2678_r0);
      let v2714_r0 : Vec F S1x96x256 .bf16 := (M5.access (Rect.unit (s := S4x96x1792) (k0_off24 k0_t1) S1x96x256.size (k0_off24_inb k0_t1))).read (Elt F) V.f5;
      let k0_mxu40 : Mxu F := k0_mxu39.accLhs 0 1 24 (k0_pay106 v2714_r0) fits_24_96;
      let k0_mxu41 : Mxu F := k0_mxu40.accLhs 1 1 24 (k0_pay106 v2714_r0) fits_24_96;
      let v2716_r0 : BitVec 1 := Scalar.cmpi .eq 3#32 0#32;
      let v2717_r0 : BitVec 32 := Scalar.select v2716_r0 1#32 3#32;
      let v2718_r0 : BitVec 32 := Scalar.remsi v1560_r0 v2717_r0;
      let v2719_r0 : BitVec 1 := Scalar.cmpi .ne v2718_r0 0#32;
      let v2720_r0 : BitVec 1 := Scalar.cmpi .slt v2718_r0 0#32;
      let v2721_r0 : BitVec 1 := Scalar.cmpi .slt v2717_r0 0#32;
      let v2722_r0 : BitVec 1 := Scalar.xori v2720_r0 v2721_r0;
      let v2723_r0 : BitVec 1 := Scalar.andi v2722_r0 v2719_r0;
      let v2724_r0 : BitVec 32 := Scalar.addi v2718_r0 v2717_r0;
      let v2725_r0 : BitVec 32 := Scalar.select v2723_r0 v2724_r0 v2718_r0;
      let v2726_r0 : BitVec 32 := Scalar.muli v2725_r0 128#32;
      let v2727_r0 : BitVec 32 := v2726_r0;
      Own c R V f9 f10 f11 ⊢ Q ⟨k0_mxu41, v2727_r0⟩) :
    Own c R V f9 f10 f11 ⊢ wp frame (wpE (defs₀ (F := F)) 𝒱 (c : Thread nD τ) bd) Set.univ (k0_part30 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu37 v2678_r0 v2684_r0 c0_i32_1182_r0) Q := by
  rw [k0_part30_eq_skeleton]; unfold k0_part30_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h24 ?_)
  refine run_pure ?_
  exact h

theorem run_part31 (k0_t1 : Fin k0_t1_loop.trips) (v1560_r0 : BitVec 32) (v1588_r0 : BitVec 32) (v2727_r0 : BitVec 32)
    (h25 : (M6.access (Rect.unit (s := S3x4x1792x384) (k0_off25 k0_t1) S1x1x256x128.size (k0_off25_inb k0_t1))).set ⊆ V.S6)
    {Q : (Σ' (v2763_r0 : FVec F S256x128 .bf16) (v2768_r0 : FVec F S256x128 .bf16), IVec S64x128 32) → sProp 𝕄}
    (h : let v2748_r0 : Vec F S1x1x256x128 .i32 := (M6.access (Rect.unit (s := S3x4x1792x384) (k0_off25 k0_t1) S1x1x256x128.size (k0_off25_inb k0_t1))).read (Elt F) V.f6;
      Own c R V f9 f10 f11 ⊢ Q ⟨k0_pay109 v2748_r0, k0_pay110 v2748_r0, k0_pay111 v2748_r0⟩) :
    Own c R V f9 f10 f11 ⊢ wp frame (wpE (defs₀ (F := F)) 𝒱 (c : Thread nD τ) bd) Set.univ (k0_part31 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 v2727_r0) Q := by
  rw [k0_part31_eq_skeleton]; unfold k0_part31_skel
  refine run_bind (run_ld6 h25 ?_)
  refine run_pure ?_
  exact h

theorem run_part32 (k0_t1 : Fin k0_t1_loop.trips) (v1560_r0 : BitVec 32) (v1588_r0 : BitVec 32) (k0_mxu41 : Mxu F) (v2763_r0 : FVec F S256x128 .bf16) (v2768_r0 : FVec F S256x128 .bf16) (v2774_r0 : IVec S64x128 32) (hm : AllF k0_mxu41)
    (h26 : (M5.access (Rect.unit (s := S4x96x1792) (k0_off26 k0_t1) S1x96x256.size (k0_off26_inb k0_t1))).set ⊆ V.S5)
    {Q : (Σ' (k0_mxu45 : Mxu F) (v2801_r0 : BitVec 32) (v2802_r0 : BitVec 32) (v2813_r0 : BitVec 1), BitVec 32) → sProp 𝕄}
    (h : let k0_mxu42 : Mxu F := k0_mxu41.pushed 0 0 false (k0_pay112 v2763_r0 v2768_r0);
      let k0_mxu43 : Mxu F := k0_mxu42.pushed 1 0 false (k0_pay113 (F := F) v2774_r0);
      let v2788_r0 : Vec F S1x96x256 .bf16 := (M5.access (Rect.unit (s := S4x96x1792) (k0_off26 k0_t1) S1x96x256.size (k0_off26_inb k0_t1))).read (Elt F) V.f5;
      let k0_mxu44 : Mxu F := k0_mxu43.accLhs 0 0 24 (k0_pay114 v2788_r0) fits_24_96;
      let k0_mxu45 : Mxu F := k0_mxu44.accLhs 1 0 24 (k0_pay114 v2788_r0) fits_24_96;
      let v2790_r0 : BitVec 1 := Scalar.cmpi .eq 3#32 0#32;
      let v2791_r0 : BitVec 32 := Scalar.select v2790_r0 1#32 3#32;
      let v2792_r0 : BitVec 32 := Scalar.remsi v1560_r0 v2791_r0;
      let v2793_r0 : BitVec 1 := Scalar.cmpi .ne v2792_r0 0#32;
      let v2794_r0 : BitVec 1 := Scalar.cmpi .slt v2792_r0 0#32;
      let v2795_r0 : BitVec 1 := Scalar.cmpi .slt v2791_r0 0#32;
      let v2796_r0 : BitVec 1 := Scalar.xori v2794_r0 v2795_r0;
      let v2797_r0 : BitVec 1 := Scalar.andi v2796_r0 v2793_r0;
      let v2798_r0 : BitVec 32 := Scalar.addi v2792_r0 v2791_r0;
      let v2799_r0 : BitVec 32 := Scalar.select v2797_r0 v2798_r0 v2792_r0;
      let v2800_r0 : BitVec 32 := Scalar.muli v2799_r0 128#32;
      let v2801_r0 : BitVec 32 := v2800_r0;
      let v2802_r0 : BitVec 32 := Scalar.divsi v1560_r0 3#32;
      let v2803_r0 : BitVec 1 := Scalar.cmpi .sgt v1560_r0 0#32;
      let v2804_r0 : BitVec 32 := Scalar.extui v2803_r0;
      let v2805_r0 : BitVec 1 := Scalar.cmpi .slt v1560_r0 0#32;
      let v2806_r0 : BitVec 32 := Scalar.extui v2805_r0;
      let v2807_r0 : BitVec 32 := Scalar.subi v2804_r0 v2806_r0;
      let v2808_r0 : BitVec 1 := Scalar.cmpi .sgt 3#32 0#32;
      let v2809_r0 : BitVec 32 := Scalar.extui v2808_r0;
      let v2810_r0 : BitVec 1 := Scalar.cmpi .slt 3#32 0#32;
      let v2811_r0 : BitVec 32 := Scalar.extui v2810_r0;
      let v2812_r0 : BitVec 32 := Scalar.subi v2809_r0 v2811_r0;
      let v2813_r0 : BitVec 1 := Scalar.cmpi .ne v2807_r0 v2812_r0;
      let v2814_r0 : BitVec 32 := Scalar.remsi v1560_r0 3#32;
      Own c R V f9 f10 f11 ⊢ Q ⟨k0_mxu45, v2801_r0, v2802_r0, v2813_r0, v2814_r0⟩) :
    Own c R V f9 f10 f11 ⊢ wp frame (wpE (defs₀ (F := F)) 𝒱 (c : Thread nD τ) bd) Set.univ (k0_part32 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu41 v2763_r0 v2768_r0 v2774_r0) Q := by
  rw [k0_part32_eq_skeleton]; unfold k0_part32_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h26 ?_)
  refine run_pure ?_
  exact h

theorem run_part33 (k0_t1 : Fin k0_t1_loop.trips) (v1588_r0 : BitVec 32) (k0_mxu45 : Mxu F) (v2801_r0 : BitVec 32) (v2802_r0 : BitVec 32) (v2813_r0 : BitVec 1) (v2814_r0 : BitVec 32) (hm : AllF k0_mxu45)
    (h27 : (M6.access (Rect.unit (s := S3x4x1792x384) (k0_off27 k0_t1) S1x1x256x128.size (k0_off27_inb k0_t1))).set ⊆ V.S6)
    {Q : (Mxu F) → sProp 𝕄}
    (h : let v2822_r0 : Vec F S1x1x256x128 .i32 := (M6.access (Rect.unit (s := S3x4x1792x384) (k0_off27 k0_t1) S1x1x256x128.size (k0_off27_inb k0_t1))).read (Elt F) V.f6;
      let k0_mxu46 : Mxu F := k0_mxu45.pushed 0 1 false (k0_pay116 v2822_r0);
      let k0_mxu47 : Mxu F := k0_mxu46.pushed 1 1 false (k0_pay117 v2822_r0);
      let v2861_r0 : Index := Scalar.indexCast v1588_r0;
      let c0_1235_r0 : Index := 0#32;
      Own c R V f9 f10 f11 ⊢ Q k0_mxu47) :
    Own c R V f9 f10 f11 ⊢ wp frame (wpE (defs₀ (F := F)) 𝒱 (c : Thread nD τ) bd) Set.univ (k0_part33 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1588_r0 k0_mxu45 v2801_r0 v2802_r0 v2813_r0 v2814_r0) Q := by
  rw [k0_part33_eq_skeleton]; unfold k0_part33_skel
  refine run_bind (run_ld6 h27 ?_)
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_pure ?_
  exact h

theorem run_part34 (k0_t1 : Fin k0_t1_loop.trips) (v1560_r0 : BitVec 32) (v1588_r0 : BitVec 32) (k0_mxu47 : Mxu F)
    (h28 : (M5.access (Rect.unit (s := S4x96x1792) (k0_off28 k0_t1) S1x96x256.size (k0_off28_inb k0_t1))).set ⊆ V.S5)
    (h29 : (M6.access (Rect.unit (s := S3x4x1792x384) (k0_off29 k0_t1) S1x1x256x128.size (k0_off29_inb k0_t1))).set ⊆ V.S6)
    {Q : (Σ' (k0_mxu49 : Mxu F) (v2900_r0 : IVec S256x128 16) (v2901_r0 : IVec S128x128 32), BitVec 32) → sProp 𝕄}
    (h : let v2862_r0 : Vec F S1x96x256 .bf16 := (M5.access (Rect.unit (s := S4x96x1792) (k0_off28 k0_t1) S1x96x256.size (k0_off28_inb k0_t1))).read (Elt F) V.f5;
      let k0_mxu48 : Mxu F := k0_mxu47.accLhs 0 1 24 (k0_pay118 v2862_r0) fits_24_96;
      let k0_mxu49 : Mxu F := k0_mxu48.accLhs 1 1 24 (k0_pay118 v2862_r0) fits_24_96;
      let v2896_r0 : Vec F S1x1x256x128 .i32 := (M6.access (Rect.unit (s := S3x4x1792x384) (k0_off29 k0_t1) S1x1x256x128.size (k0_off29_inb k0_t1))).read (Elt F) V.f6;
      Own c R V f9 f10 f11 ⊢ Q ⟨k0_mxu49, k0_pay119 v2896_r0, k0_pay120 v2896_r0, 0#32⟩) :
    Own c R V f9 f10 f11 ⊢ wp frame (wpE (defs₀ (F := F)) 𝒱 (c : Thread nD τ) bd) Set.univ (k0_part34 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu47) Q := by
  rw [k0_part34_eq_skeleton]; unfold k0_part34_skel
  refine run_bind (run_ld5 h28 ?_)
  refine run_bind (run_ld6 h29 ?_)
  refine run_pure ?_
  exact h

theorem run_part35 (k0_t1 : Fin k0_t1_loop.trips) (v1560_r0 : BitVec 32) (v1588_r0 : BitVec 32) (k0_mxu49 : Mxu F) (v2900_r0 : IVec S256x128 16) (v2901_r0 : IVec S128x128 32) (c0_i32_1253_r0 : BitVec 32) (hm : AllF k0_mxu49)
    (h32 : (M5.access (Rect.unit (s := S4x96x1792) (k0_off32 k0_t1) S1x96x256.size (k0_off32_inb k0_t1))).set ⊆ V.S5)
    {Q : (Σ' (k0_mxu53 : Mxu F) (v2939_r0 : BitVec 32) (v2940_r0 : BitVec 32) (v2941_r0 : BitVec 1), BitVec 1) → sProp 𝕄}
    (h : let k0_mxu50 : Mxu F := k0_mxu49.pushed 0 0 false (k0_pay121 (F := F) v2901_r0 c0_i32_1253_r0);
      let k0_mxu51 : Mxu F := k0_mxu50.pushed 1 0 false (k0_pay122 (F := F) v2900_r0);
      let v2936_r0 : Vec F S1x96x256 .bf16 := (M5.access (Rect.unit (s := S4x96x1792) (k0_off32 k0_t1) S1x96x256.size (k0_off32_inb k0_t1))).read (Elt F) V.f5;
      let k0_mxu52 : Mxu F := k0_mxu51.accLhs 0 0 24 (k0_pay123 v2936_r0) fits_24_96;
      let k0_mxu53 : Mxu F := k0_mxu52.accLhs 1 0 24 (k0_pay123 v2936_r0) fits_24_96;
      let v2938_r0 : BitVec 1 := Scalar.cmpi .eq 3#32 0#32;
      let v2939_r0 : BitVec 32 := Scalar.select v2938_r0 1#32 3#32;
      let v2940_r0 : BitVec 32 := Scalar.remsi v1560_r0 v2939_r0;
      let v2941_r0 : BitVec 1 := Scalar.cmpi .ne v2940_r0 0#32;
      let v2942_r0 : BitVec 1 := Scalar.cmpi .slt v2940_r0 0#32;
      let v2943_r0 : BitVec 1 := Scalar.cmpi .slt v2939_r0 0#32;
      let v2944_r0 : BitVec 1 := Scalar.xori v2942_r0 v2943_r0;
      Own c R V f9 f10 f11 ⊢ Q ⟨k0_mxu53, v2939_r0, v2940_r0, v2941_r0, v2944_r0⟩) :
    Own c R V f9 f10 f11 ⊢ wp frame (wpE (defs₀ (F := F)) 𝒱 (c : Thread nD τ) bd) Set.univ (k0_part35 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu49 v2900_r0 v2901_r0 c0_i32_1253_r0) Q := by
  rw [k0_part35_eq_skeleton]; unfold k0_part35_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h32 ?_)
  refine run_pure ?_
  exact h

end

end Cert.Kernel.Hand
-- ==== Proof.Kernel.PartsE.lean ====
module

public import proofs.«01_k».proof.Proof.Kernel.Base

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {R : sProp (MT nD τ sig Unit (Elt F) ℕ (Pipeline.UD sig nD τ) ℕ)} {V : Env F c}
  {f9 : Bf F c M9} {f10 : Bf F c M10} {f11 : Bf F c M11}

theorem run_part36 (k0_t1 : Fin k0_t1_loop.trips) (v1560_r0 : BitVec 32) (v1588_r0 : BitVec 32) (v2939_r0 : BitVec 32) (v2940_r0 : BitVec 32) (v2941_r0 : BitVec 1) (v2944_r0 : BitVec 1)
    (h33 : (M6.access (Rect.unit (s := S3x4x1792x384) (k0_off33 k0_t1) S1x1x256x128.size (k0_off33_inb k0_t1))).set ⊆ V.S6)
    {Q : (Σ' (v2985_r0 : FVec F S256x128 .bf16) (v2990_r0 : FVec F S256x128 .bf16), IVec S128x128 32) → sProp 𝕄}
    (h : let v2970_r0 : Vec F S1x1x256x128 .i32 := (M6.access (Rect.unit (s := S3x4x1792x384) (k0_off33 k0_t1) S1x1x256x128.size (k0_off33_inb k0_t1))).read (Elt F) V.f6;
      Own c R V f9 f10 f11 ⊢ Q ⟨k0_pay126 v2970_r0, k0_pay127 v2970_r0, k0_pay128 v2970_r0⟩) :
    Own c R V f9 f10 f11 ⊢ wp frame (wpE (defs₀ (F := F)) 𝒱 (c : Thread nD τ) bd) Set.univ (k0_part36 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 v2939_r0 v2940_r0 v2941_r0 v2944_r0) Q := by
  rw [k0_part36_eq_skeleton]; unfold k0_part36_skel
  refine run_bind (run_ld6 h33 ?_)
  refine run_pure ?_
  exact h

theorem run_part37 (k0_t1 : Fin k0_t1_loop.trips) (v1560_r0 : BitVec 32) (v1588_r0 : BitVec 32) (k0_mxu53 : Mxu F) (v2985_r0 : FVec F S256x128 .bf16) (v2990_r0 : FVec F S256x128 .bf16) (v2991_r0 : IVec S128x128 32) (hm : AllF k0_mxu53)
    (h34 : (M5.access (Rect.unit (s := S4x96x1792) (k0_off34 k0_t1) S1x96x256.size (k0_off34_inb k0_t1))).set ⊆ V.S5)
    {Q : (Σ' (k0_mxu57 : Mxu F) (v3023_r0 : BitVec 32) (c3_i32_1292_r0 : BitVec 32) (v3024_r0 : BitVec 32) (v3029_r0 : BitVec 32), BitVec 32) → sProp 𝕄}
    (h : let k0_mxu54 : Mxu F := k0_mxu53.pushed 0 1 false (k0_pay129 v2985_r0 v2990_r0);
      let k0_mxu55 : Mxu F := k0_mxu54.pushed 1 1 false (k0_pay130 (F := F) v2991_r0);
      let v3010_r0 : Vec F S1x96x256 .bf16 := (M5.access (Rect.unit (s := S4x96x1792) (k0_off34 k0_t1) S1x96x256.size (k0_off34_inb k0_t1))).read (Elt F) V.f5;
      let k0_mxu56 : Mxu F := k0_mxu55.accLhs 0 1 24 (k0_pay131 v3010_r0) fits_24_96;
      let k0_mxu57 : Mxu F := k0_mxu56.accLhs 1 1 24 (k0_pay131 v3010_r0) fits_24_96;
      let v3012_r0 : BitVec 1 := Scalar.cmpi .eq 3#32 0#32;
      let v3013_r0 : BitVec 32 := Scalar.select v3012_r0 1#32 3#32;
      let v3014_r0 : BitVec 32 := Scalar.remsi v1560_r0 v3013_r0;
      let v3015_r0 : BitVec 1 := Scalar.cmpi .ne v3014_r0 0#32;
      let v3016_r0 : BitVec 1 := Scalar.cmpi .slt v3014_r0 0#32;
      let v3017_r0 : BitVec 1 := Scalar.cmpi .slt v3013_r0 0#32;
      let v3018_r0 : BitVec 1 := Scalar.xori v3016_r0 v3017_r0;
      let v3019_r0 : BitVec 1 := Scalar.andi v3018_r0 v3015_r0;
      let v3020_r0 : BitVec 32 := Scalar.addi v3014_r0 v3013_r0;
      let v3021_r0 : BitVec 32 := Scalar.select v3019_r0 v3020_r0 v3014_r0;
      let v3022_r0 : BitVec 32 := Scalar.muli v3021_r0 128#32;
      let v3023_r0 : BitVec 32 := v3022_r0;
      let v3024_r0 : BitVec 32 := Scalar.divsi v1560_r0 3#32;
      let v3025_r0 : BitVec 1 := Scalar.cmpi .sgt v1560_r0 0#32;
      let v3026_r0 : BitVec 32 := Scalar.extui v3025_r0;
      let v3027_r0 : BitVec 1 := Scalar.cmpi .slt v1560_r0 0#32;
      let v3028_r0 : BitVec 32 := Scalar.extui v3027_r0;
      let v3029_r0 : BitVec 32 := Scalar.subi v3026_r0 v3028_r0;
      let v3030_r0 : BitVec 1 := Scalar.cmpi .sgt 3#32 0#32;
      let v3031_r0 : BitVec 32 := Scalar.extui v3030_r0;
      Own c R V f9 f10 f11 ⊢ Q ⟨k0_mxu57, v3023_r0, 3#32, v3024_r0, v3029_r0, v3031_r0⟩) :
    Own c R V f9 f10 f11 ⊢ wp frame (wpE (defs₀ (F := F)) 𝒱 (c : Thread nD τ) bd) Set.univ (k0_part37 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu53 v2985_r0 v2990_r0 v2991_r0) Q := by
  rw [k0_part37_eq_skeleton]; unfold k0_part37_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h34 ?_)
  refine run_pure ?_
  exact h

theorem run_part38 (k0_t1 : Fin k0_t1_loop.trips) (v1560_r0 : BitVec 32) (v1588_r0 : BitVec 32) (v3023_r0 : BitVec 32) (c3_i32_1292_r0 : BitVec 32) (v3024_r0 : BitVec 32) (v3029_r0 : BitVec 32) (v3031_r0 : BitVec 32)
    (h35 : (M6.access (Rect.unit (s := S3x4x1792x384) (k0_off35 k0_t1) S1x1x256x128.size (k0_off35_inb k0_t1))).set ⊆ V.S6)
    {Q : (Σ' (v3059_r0 : FVec F S256x128 .bf16) (v3064_r0 : FVec F S256x128 .bf16) (v3075_r0 : FVec F S256x128 .bf16), FVec F S256x128 .bf16) → sProp 𝕄}
    (h : let v3044_r0 : Vec F S1x1x256x128 .i32 := (M6.access (Rect.unit (s := S3x4x1792x384) (k0_off35 k0_t1) S1x1x256x128.size (k0_off35_inb k0_t1))).read (Elt F) V.f6;
      Own c R V f9 f10 f11 ⊢ Q ⟨k0_pay134 v3044_r0, k0_pay135 v3044_r0, k0_pay137 v3044_r0, k0_pay138 v3044_r0⟩) :
    Own c R V f9 f10 f11 ⊢ wp frame (wpE (defs₀ (F := F)) 𝒱 (c : Thread nD τ) bd) Set.univ (k0_part38 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 v3023_r0 c3_i32_1292_r0 v3024_r0 v3029_r0 v3031_r0) Q := by
  rw [k0_part38_eq_skeleton]; unfold k0_part38_skel
  refine run_bind (run_ld6 h35 ?_)
  refine run_pure ?_
  exact h

theorem run_part39 (k0_t1 : Fin k0_t1_loop.trips) (v1560_r0 : BitVec 32) (v1588_r0 : BitVec 32) (k0_mxu57 : Mxu F) (v3059_r0 : FVec F S256x128 .bf16) (v3064_r0 : FVec F S256x128 .bf16) (v3075_r0 : FVec F S256x128 .bf16) (v3080_r0 : FVec F S256x128 .bf16) (hm : AllF k0_mxu57)
    (h54 : (M5.access (Rect.unit (s := S4x96x1792) (k0_off54 k0_t1) S1x96x256.size (k0_off54_inb k0_t1))).set ⊆ V.S5)
    {Q : (Σ' (k0_mxu63 : Mxu F) (v3110_r0 : BitVec 32) (v3111_r0 : BitVec 32) (v3112_r0 : BitVec 1) (v3113_r0 : BitVec 1), BitVec 32) → sProp 𝕄}
    (h : let k0_mxu58 : Mxu F := k0_mxu57.pushed 0 0 false (k0_pay139 v3059_r0 v3064_r0);
      let k0_mxu59 : Mxu F := k0_mxu58.pushed 1 0 false (k0_pay140 v3075_r0 v3080_r0);
      let v3085_r0 : Vec F S1x96x256 .f32 := (M10.access (Rect.unit (s := S9x96x1024) (k0_off58 k0_t1) S1x96x256.size (k0_off58_inb k0_t1))).read (Elt F) f10;
      let v3089_r0 : FVec F S96x256 .f32 := k0_mxu59.read 0 0 fits_0_96;
      let k0_mxu60 : Mxu F := k0_mxu59.pop 0 0 96 fits_0_96;
      let v3092_r0 : Vec F S1x96x256 .f32 := (M10.access (Rect.unit (s := S9x96x1024) (k0_off58 k0_t1) S1x96x256.size (k0_off58_inb k0_t1))).read (Elt F) f10;
      let g10_1 : Bf F c M10 := (M10.access (Rect.unit (s := S9x96x1024) (k0_off58 k0_t1) S1x96x256.size (k0_off58_inb k0_t1))).write (Elt F) f10 (k0_pay141 v1588_r0 v3085_r0 v3089_r0) Finset.univ;
      let v3096_r0 : Vec F S1x96x256 .f32 := (M10.access (Rect.unit (s := S9x96x1024) (k0_off59 k0_t1) S1x96x256.size (k0_off59_inb k0_t1))).read (Elt F) g10_1;
      let v3100_r0 : FVec F S96x256 .f32 := k0_mxu60.read 1 0 fits_0_96;
      let k0_mxu61 : Mxu F := k0_mxu60.pop 1 0 96 fits_0_96;
      let v3103_r0 : Vec F S1x96x256 .f32 := (M10.access (Rect.unit (s := S9x96x1024) (k0_off59 k0_t1) S1x96x256.size (k0_off59_inb k0_t1))).read (Elt F) g10_1;
      let g10_2 : Bf F c M10 := (M10.access (Rect.unit (s := S9x96x1024) (k0_off59 k0_t1) S1x96x256.size (k0_off59_inb k0_t1))).write (Elt F) g10_1 (k0_pay142 v1588_r0 v3096_r0 v3100_r0) Finset.univ;
      let v3107_r0 : Vec F S1x96x256 .bf16 := (M5.access (Rect.unit (s := S4x96x1792) (k0_off54 k0_t1) S1x96x256.size (k0_off54_inb k0_t1))).read (Elt F) V.f5;
      let k0_mxu62 : Mxu F := k0_mxu61.accLhs 0 0 24 (k0_pay143 v3107_r0) fits_24_96;
      let k0_mxu63 : Mxu F := k0_mxu62.accLhs 1 0 24 (k0_pay143 v3107_r0) fits_24_96;
      let v3109_r0 : BitVec 1 := Scalar.cmpi .eq 3#32 0#32;
      let v3110_r0 : BitVec 32 := Scalar.select v3109_r0 1#32 3#32;
      let v3111_r0 : BitVec 32 := Scalar.remsi v1560_r0 v3110_r0;
      let v3112_r0 : BitVec 1 := Scalar.cmpi .ne v3111_r0 0#32;
      let v3113_r0 : BitVec 1 := Scalar.cmpi .slt v3111_r0 0#32;
      Own c R V f9 g10_2 f11 ⊢ Q ⟨k0_mxu63, v3110_r0, v3111_r0, v3112_r0, v3113_r0, 0#32⟩) :
    Own c R V f9 f10 f11 ⊢ wp frame (wpE (defs₀ (F := F)) 𝒱 (c : Thread nD τ) bd) Set.univ (k0_part39 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 k0_mxu57 v3059_r0 v3064_r0 v3075_r0 v3080_r0) Q := by
  rw [k0_part39_eq_skeleton]; unfold k0_part39_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld10 ?_)
  refine run_bind (run_ld10 ?_)
  refine run_bind (run_st10 ?_)
  refine run_bind (run_ld10 ?_)
  refine run_bind (run_ld10 ?_)
  refine run_bind (run_st10 ?_)
  refine run_bind (run_ld5 h54 ?_)
  refine run_pure ?_
  exact h

theorem run_part40 (k0_t1 : Fin k0_t1_loop.trips) (v1560_r0 : BitVec 32) (v1588_r0 : BitVec 32) (v3110_r0 : BitVec 32) (v3111_r0 : BitVec 32) (v3112_r0 : BitVec 1) (v3113_r0 : BitVec 1) (c0_i32_1325_r0 : BitVec 32)
    (h55 : (M6.access (Rect.unit (s := S3x4x1792x384) (k0_off55 k0_t1) S1x1x256x128.size (k0_off55_inb k0_t1))).set ⊆ V.S6)
    {Q : (Σ' (v3145_r0 : IVec S256x128 16) (v3156_r0 : FVec F S256x128 .bf16), IVec S256x128 4) → sProp 𝕄}
    (h : let v3141_r0 : Vec F S1x1x256x128 .i32 := (M6.access (Rect.unit (s := S3x4x1792x384) (k0_off55 k0_t1) S1x1x256x128.size (k0_off55_inb k0_t1))).read (Elt F) V.f6;
      Own c R V f9 f10 f11 ⊢ Q ⟨k0_pay144 v3141_r0, k0_pay146 v3141_r0, k0_pay147 v3141_r0⟩) :
    Own c R V f9 f10 f11 ⊢ wp frame (wpE (defs₀ (F := F)) 𝒱 (c : Thread nD τ) bd) Set.univ (k0_part40 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1560_r0 v1588_r0 v3110_r0 v3111_r0 v3112_r0 v3113_r0 c0_i32_1325_r0) Q := by
  rw [k0_part40_eq_skeleton]; unfold k0_part40_skel
  refine run_bind (run_ld6 h55 ?_)
  refine run_pure ?_
  exact h

theorem run_part41 (k0_t1 : Fin k0_t1_loop.trips) (v1588_r0 : BitVec 32) (v1678_r0 : BitVec 32) (k0_mxu63 : Mxu F) (v3145_r0 : IVec S256x128 16) (v3156_r0 : FVec F S256x128 .bf16) (v3160_r0 : IVec S256x128 4) (hm : AllF k0_mxu63)
    (h56 : (M5.access (Rect.unit (s := S4x96x1792) (k0_off56 k0_t1) S1x96x256.size (k0_off56_inb k0_t1))).set ⊆ V.S5)
    {Q : (Σ' (k0_mxu67 : Mxu F) (v3194_r0 : BitVec 32) (c3_i32_1351_r0 : BitVec 32) (v3195_r0 : BitVec 32) (v3200_r0 : BitVec 32), BitVec 32) → sProp 𝕄}
    (h : let k0_mxu64 : Mxu F := k0_mxu63.pushed 0 1 false (k0_pay148 v3156_r0 v3160_r0);
      let k0_mxu65 : Mxu F := k0_mxu64.pushed 1 1 false (k0_pay149 (F := F) v3145_r0);
      let v3181_r0 : Vec F S1x96x256 .bf16 := (M5.access (Rect.unit (s := S4x96x1792) (k0_off56 k0_t1) S1x96x256.size (k0_off56_inb k0_t1))).read (Elt F) V.f5;
      let k0_mxu66 : Mxu F := k0_mxu65.accLhs 0 1 24 (k0_pay150 v3181_r0) fits_24_96;
      let k0_mxu67 : Mxu F := k0_mxu66.accLhs 1 1 24 (k0_pay150 v3181_r0) fits_24_96;
      let v3183_r0 : BitVec 1 := Scalar.cmpi .eq 3#32 0#32;
      let v3184_r0 : BitVec 32 := Scalar.select v3183_r0 1#32 3#32;
      let v3185_r0 : BitVec 32 := Scalar.remsi v1678_r0 v3184_r0;
      let v3186_r0 : BitVec 1 := Scalar.cmpi .ne v3185_r0 0#32;
      let v3187_r0 : BitVec 1 := Scalar.cmpi .slt v3185_r0 0#32;
      let v3188_r0 : BitVec 1 := Scalar.cmpi .slt v3184_r0 0#32;
      let v3189_r0 : BitVec 1 := Scalar.xori v3187_r0 v3188_r0;
      let v3190_r0 : BitVec 1 := Scalar.andi v3189_r0 v3186_r0;
      let v3191_r0 : BitVec 32 := Scalar.addi v3185_r0 v3184_r0;
      let v3192_r0 : BitVec 32 := Scalar.select v3190_r0 v3191_r0 v3185_r0;
      let v3193_r0 : BitVec 32 := Scalar.muli v3192_r0 128#32;
      let v3194_r0 : BitVec 32 := v3193_r0;
      let v3195_r0 : BitVec 32 := Scalar.divsi v1678_r0 3#32;
      let v3196_r0 : BitVec 1 := Scalar.cmpi .sgt v1678_r0 0#32;
      let v3197_r0 : BitVec 32 := Scalar.extui v3196_r0;
      let v3198_r0 : BitVec 1 := Scalar.cmpi .slt v1678_r0 0#32;
      let v3199_r0 : BitVec 32 := Scalar.extui v3198_r0;
      let v3200_r0 : BitVec 32 := Scalar.subi v3197_r0 v3199_r0;
      Own c R V f9 f10 f11 ⊢ Q ⟨k0_mxu67, v3194_r0, 3#32, v3195_r0, v3200_r0, 0#32⟩) :
    Own c R V f9 f10 f11 ⊢ wp frame (wpE (defs₀ (F := F)) 𝒱 (c : Thread nD τ) bd) Set.univ (k0_part41 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1588_r0 v1678_r0 k0_mxu63 v3145_r0 v3156_r0 v3160_r0) Q := by
  rw [k0_part41_eq_skeleton]; unfold k0_part41_skel
  refine run_bind (run_push (AllF.ok (by repeat (first | with_reducible exact hm | with_reducible apply AllF.pushed | with_reducible apply AllF.acc | with_reducible apply AllF.pop)) _ _) ?_)
  refine run_bind (run_push (AllF.ok (by repeat (first | with_reducible exact hm | with_reducible apply AllF.pushed | with_reducible apply AllF.acc | with_reducible apply AllF.pop)) _ _) ?_)
  refine run_bind (run_ld5 h56 ?_)
  refine run_pure ?_
  exact h

theorem run_part42 (k0_t1 : Fin k0_t1_loop.trips) (v1678_r0 : BitVec 32) (v1706_r0 : BitVec 32) (v3194_r0 : BitVec 32) (c3_i32_1351_r0 : BitVec 32) (v3195_r0 : BitVec 32) (v3200_r0 : BitVec 32) (c0_i32_1354_r0 : BitVec 32)
    (h60 : (M6.access (Rect.unit (s := S3x4x1792x384) (k0_off60 k0_t1) S1x1x256x128.size (k0_off60_inb k0_t1))).set ⊆ V.S6)
    {Q : (Σ' (v3230_r0 : FVec F S256x128 .bf16) (v3235_r0 : FVec F S256x128 .bf16) (v3246_r0 : FVec F S256x128 .bf16), IVec S256x128 8) → sProp 𝕄}
    (h : let v3215_r0 : Vec F S1x1x256x128 .i32 := (M6.access (Rect.unit (s := S3x4x1792x384) (k0_off60 k0_t1) S1x1x256x128.size (k0_off60_inb k0_t1))).read (Elt F) V.f6;
      Own c R V f9 f10 f11 ⊢ Q ⟨k0_pay153 v3215_r0, k0_pay154 v3215_r0, k0_pay156 v3215_r0, k0_pay157 v3215_r0⟩) :
    Own c R V f9 f10 f11 ⊢ wp frame (wpE (defs₀ (F := F)) 𝒱 (c : Thread nD τ) bd) Set.univ (k0_part42 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_t1 v1678_r0 v1706_r0 v3194_r0 c3_i32_1351_r0 v3195_r0 v3200_r0 c0_i32_1354_r0) Q := by
  rw [k0_part42_eq_skeleton]; unfold k0_part42_skel
  refine run_bind (run_ld6 h60 ?_)
  refine run_pure ?_
  exact h

end

end Cert.Kernel.Hand
-- ==== Proof.Kernel.Trip.lean ====
module

public import proofs.«01_k».proof.Proof.Kernel.PartsA
public import proofs.«01_k».proof.Proof.Kernel.PartsB
public import proofs.«01_k».proof.Proof.Kernel.PartsC
public import proofs.«01_k».proof.Proof.Kernel.PartsD
public import proofs.«01_k».proof.Proof.Kernel.PartsE

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V} {A : Par F c} {Z : sProp (MT nD τ sig Unit (Elt F) ℕ (Pipeline.UD sig nD τ) ℕ)}
  {f9 : Bf F c M9} {f10 : Bf F c M10} {f11 : Bf F c M11}

/-- What a trip hands on: the matrix unit and the three buffers it writes. -/
structure Out (F : FTy → Type) [FloatOps F] (c : Dev nD) where
  mx : Mxu F
  b9 : Bf F c M9
  b10 : Bf F c M10
  b11 : Bf F c M11

set_option maxHeartbeats 8000000 in
/-- One trip of the loop as a function of the contents. -/
def trip (f5 : Bf F c M5) (f6 : Bf F c M6) (f7 : Bf F c M7) (f8 : Bf F c M8) (k0_t1 : Fin k0_t1_loop.trips) (k0_mxu8 : Mxu F)
    (f9 : Bf F c M9) (f10 : Bf F c M10) (f11 : Bf F c M11) : Out F c :=
  let arg16_r0 : BitVec 32 := Scf.iv 0#32 1#32 k0_t1
  let v1532_r0 : BitVec 1 := Scalar.cmpi .slt arg16_r0 12#32
  let v1533_r0 : BitVec 1 := Scalar.cmpi .eq 3#32 0#32
  let v1534_r0 : BitVec 32 := Scalar.select v1533_r0 1#32 3#32
  let v1535_r0 : BitVec 32 := Scalar.remsi arg16_r0 v1534_r0
  let v1536_r0 : BitVec 1 := Scalar.cmpi .ne v1535_r0 0#32
  let v1537_r0 : BitVec 1 := Scalar.cmpi .slt v1535_r0 0#32
  let v1538_r0 : BitVec 1 := Scalar.cmpi .slt v1534_r0 0#32
  let v1539_r0 : BitVec 1 := Scalar.xori v1537_r0 v1538_r0
  let v1540_r0 : BitVec 1 := Scalar.andi v1539_r0 v1536_r0
  let v1541_r0 : BitVec 32 := Scalar.addi v1535_r0 v1534_r0
  let v1542_r0 : BitVec 32 := Scalar.select v1540_r0 v1541_r0 v1535_r0
  let v1543_r0 : BitVec 32 := Scalar.divsi arg16_r0 4#32
  let v1544_r0 : BitVec 1 := Scalar.cmpi .sgt arg16_r0 0#32
  let v1545_r0 : BitVec 32 := Scalar.extui v1544_r0
  let v1546_r0 : BitVec 1 := Scalar.cmpi .slt arg16_r0 0#32
  let v1547_r0 : BitVec 32 := Scalar.extui v1546_r0
  let v1548_r0 : BitVec 32 := Scalar.subi v1545_r0 v1547_r0
  let v1549_r0 : BitVec 1 := Scalar.cmpi .sgt 4#32 0#32
  let v1550_r0 : BitVec 32 := Scalar.extui v1549_r0
  let v1551_r0 : BitVec 1 := Scalar.cmpi .slt 4#32 0#32
  let v1552_r0 : BitVec 32 := Scalar.extui v1551_r0
  let v1553_r0 : BitVec 32 := Scalar.subi v1550_r0 v1552_r0
  let v1554_r0 : BitVec 1 := Scalar.cmpi .ne v1548_r0 v1553_r0
  let v1555_r0 : BitVec 32 := Scalar.remsi arg16_r0 4#32
  let v1556_r0 : BitVec 1 := Scalar.cmpi .ne v1555_r0 0#32
  let v1557_r0 : BitVec 1 := Scalar.andi v1554_r0 v1556_r0
  let v1558_r0 : BitVec 32 := Scalar.subi v1543_r0 1#32
  let v1559_r0 : BitVec 32 := Scalar.select v1557_r0 v1558_r0 v1543_r0
  let v1560_r0 : BitVec 32 := Scalar.select v1532_r0 v1542_r0 v1559_r0
  let v1561_r0 : BitVec 32 := Scalar.divsi arg16_r0 3#32
  let v1562_r0 : BitVec 1 := Scalar.cmpi .sgt arg16_r0 0#32
  let v1563_r0 : BitVec 32 := Scalar.extui v1562_r0
  let v1564_r0 : BitVec 1 := Scalar.cmpi .slt arg16_r0 0#32
  let v1565_r0 : BitVec 32 := Scalar.extui v1564_r0
  let v1566_r0 : BitVec 32 := Scalar.subi v1563_r0 v1565_r0
  let v1567_r0 : BitVec 1 := Scalar.cmpi .sgt 3#32 0#32
  let v1568_r0 : BitVec 32 := Scalar.extui v1567_r0
  let v1569_r0 : BitVec 1 := Scalar.cmpi .slt 3#32 0#32
  let v1570_r0 : BitVec 32 := Scalar.extui v1569_r0
  let v1571_r0 : BitVec 32 := Scalar.subi v1568_r0 v1570_r0
  let c3_i32_777_r0 := 3#32
  let v1572_r0 : BitVec 1 := Scalar.cmpi .ne v1566_r0 v1571_r0
  let v1573_r0 : BitVec 32 := Scalar.remsi arg16_r0 c3_i32_777_r0
  let v1574_r0 : BitVec 1 := Scalar.cmpi .ne v1573_r0 0#32
  let v1575_r0 : BitVec 1 := Scalar.andi v1572_r0 v1574_r0
  let v1576_r0 : BitVec 32 := Scalar.subi v1561_r0 1#32
  let v1577_r0 : BitVec 32 := Scalar.select v1575_r0 v1576_r0 v1561_r0
  let v1578_r0 : BitVec 1 := Scalar.cmpi .eq 4#32 0#32
  let v1579_r0 : BitVec 32 := Scalar.select v1578_r0 1#32 4#32
  let v1580_r0 : BitVec 32 := Scalar.remsi arg16_r0 v1579_r0
  let v1581_r0 : BitVec 1 := Scalar.cmpi .ne v1580_r0 0#32
  let v1582_r0 : BitVec 1 := Scalar.cmpi .slt v1580_r0 0#32
  let v1583_r0 : BitVec 1 := Scalar.cmpi .slt v1579_r0 0#32
  let v1584_r0 : BitVec 1 := Scalar.xori v1582_r0 v1583_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  let v1589_r0 : BitVec 32 := Scalar.subi arg16_r0 1#32
  let v1590_r0 : BitVec 32 := Scalar.maxsi v1589_r0 0#32
  let v1591_r0 : BitVec 1 := Scalar.cmpi .slt v1590_r0 12#32
  let v1592_r0 : BitVec 1 := Scalar.cmpi .eq 3#32 0#32
  let v1593_r0 : BitVec 32 := Scalar.select v1592_r0 1#32 3#32
  let v1594_r0 : BitVec 32 := Scalar.remsi v1590_r0 v1593_r0
  let v1595_r0 : BitVec 1 := Scalar.cmpi .ne v1594_r0 0#32
  let v1596_r0 : BitVec 1 := Scalar.cmpi .slt v1594_r0 0#32
  let v1597_r0 : BitVec 1 := Scalar.cmpi .slt v1593_r0 0#32
  let v1598_r0 : BitVec 1 := Scalar.xori v1596_r0 v1597_r0
  let v1599_r0 : BitVec 1 := Scalar.andi v1598_r0 v1595_r0
  let v1600_r0 : BitVec 32 := Scalar.addi v1594_r0 v1593_r0
  let v1601_r0 : BitVec 32 := Scalar.select v1599_r0 v1600_r0 v1594_r0
  let v1602_r0 : BitVec 32 := Scalar.divsi v1590_r0 4#32
  let v1603_r0 : BitVec 1 := Scalar.cmpi .sgt v1590_r0 0#32
  let v1604_r0 : BitVec 32 := Scalar.extui v1603_r0
  let v1605_r0 : BitVec 1 := Scalar.cmpi .slt v1590_r0 0#32
  let v1606_r0 : BitVec 32 := Scalar.extui v1605_r0
  let v1607_r0 : BitVec 32 := Scalar.subi v1604_r0 v1606_r0
  let v1608_r0 : BitVec 1 := Scalar.cmpi .sgt 4#32 0#32
  let v1609_r0 : BitVec 32 := Scalar.extui v1608_r0
  let c4_i32_799_r0 := 4#32
  let c0_i32_803_r0 := 0#32
  let v1610_r0 : BitVec 1 := Scalar.cmpi .slt c4_i32_799_r0 c0_i32_803_r0
  let v1611_r0 : BitVec 32 := Scalar.extui v1610_r0
  let v1612_r0 : BitVec 32 := Scalar.subi v1609_r0 v1611_r0
  let v1613_r0 : BitVec 1 := Scalar.cmpi .ne v1607_r0 v1612_r0
  let v1614_r0 : BitVec 32 := Scalar.remsi v1590_r0 c4_i32_799_r0
  let v1615_r0 : BitVec 1 := Scalar.cmpi .ne v1614_r0 0#32
  let v1616_r0 : BitVec 1 := Scalar.andi v1613_r0 v1615_r0
  let v1617_r0 : BitVec 32 := Scalar.subi v1602_r0 1#32
  let v1618_r0 : BitVec 32 := Scalar.select v1616_r0 v1617_r0 v1602_r0
  let v1619_r0 : BitVec 32 := Scalar.select v1591_r0 v1601_r0 v1618_r0
  let v1620_r0 : BitVec 32 := Scalar.divsi v1590_r0 3#32
  let v1621_r0 : BitVec 1 := Scalar.cmpi .sgt v1590_r0 0#32
  let v1622_r0 : BitVec 32 := Scalar.extui v1621_r0
  let v1623_r0 : BitVec 1 := Scalar.cmpi .slt v1590_r0 0#32
  let v1624_r0 : BitVec 32 := Scalar.extui v1623_r0
  let v1625_r0 : BitVec 32 := Scalar.subi v1622_r0 v1624_r0
  let v1626_r0 : BitVec 1 := Scalar.cmpi .sgt 3#32 0#32
  let v1627_r0 : BitVec 32 := Scalar.extui v1626_r0
  let v1628_r0 : BitVec 1 := Scalar.cmpi .slt 3#32 0#32
  let v1629_r0 : BitVec 32 := Scalar.extui v1628_r0
  let v1630_r0 : BitVec 32 := Scalar.subi v1627_r0 v1629_r0
  let v1631_r0 : BitVec 1 := Scalar.cmpi .ne v1625_r0 v1630_r0
  let v1632_r0 : BitVec 32 := Scalar.remsi v1590_r0 3#32
  let v1633_r0 : BitVec 1 := Scalar.cmpi .ne v1632_r0 0#32
  let v1634_r0 : BitVec 1 := Scalar.andi v1631_r0 v1633_r0
  let v1635_r0 : BitVec 32 := Scalar.subi v1620_r0 1#32
  let v1636_r0 : BitVec 32 := Scalar.select v1634_r0 v1635_r0 v1620_r0
  let v1637_r0 : BitVec 1 := Scalar.cmpi .eq 4#32 0#32
  let v1638_r0 : BitVec 32 := Scalar.select v1637_r0 1#32 4#32
  let v1639_r0 : BitVec 32 := Scalar.remsi v1590_r0 v1638_r0
  let v1640_r0 : BitVec 1 := Scalar.cmpi .ne v1639_r0 0#32
  let v1641_r0 : BitVec 1 := Scalar.cmpi .slt v1639_r0 0#32
  let v1642_r0 : BitVec 1 := Scalar.cmpi .slt v1638_r0 0#32
  let v1643_r0 : BitVec 1 := Scalar.xori v1641_r0 v1642_r0
  let v1644_r0 : BitVec 1 := Scalar.andi v1643_r0 v1640_r0
  let v1645_r0 : BitVec 32 := Scalar.addi v1639_r0 v1638_r0
  let v1646_r0 : BitVec 32 := Scalar.select v1644_r0 v1645_r0 v1639_r0
  let v1647_r0 : BitVec 32 := Scalar.select v1591_r0 v1636_r0 v1646_r0
  let v1648_r0 : BitVec 32 := Scalar.addi arg16_r0 1#32
  let v1649_r0 : BitVec 32 := Scalar.minsi v1648_r0 35#32
  let v1650_r0 : BitVec 1 := Scalar.cmpi .slt v1649_r0 12#32
  let c3_i32_821_r0 := 3#32
  let v1651_r0 : BitVec 1 := Scalar.cmpi .eq c3_i32_821_r0 0#32
  let v1652_r0 : BitVec 32 := Scalar.select v1651_r0 1#32 c3_i32_821_r0
  let v1653_r0 : BitVec 32 := Scalar.remsi v1649_r0 v1652_r0
  let v1654_r0 : BitVec 1 := Scalar.cmpi .ne v1653_r0 0#32
  let v1655_r0 : BitVec 1 := Scalar.cmpi .slt v1653_r0 0#32
  let v1656_r0 : BitVec 1 := Scalar.cmpi .slt v1652_r0 0#32
  let v1657_r0 : BitVec 1 := Scalar.xori v1655_r0 v1656_r0
  let v1658_r0 : BitVec 1 := Scalar.andi v1657_r0 v1654_r0
  let v1659_r0 : BitVec 32 := Scalar.addi v1653_r0 v1652_r0
  let v1660_r0 : BitVec 32 := Scalar.select v1658_r0 v1659_r0 v1653_r0
  let v1661_r0 : BitVec 32 := Scalar.divsi v1649_r0 4#32
  let v1662_r0 : BitVec 1 := Scalar.cmpi .sgt v1649_r0 0#32
  let v1663_r0 : BitVec 32 := Scalar.extui v1662_r0
  let v1664_r0 : BitVec 1 := Scalar.cmpi .slt v1649_r0 0#32
  let v1665_r0 : BitVec 32 := Scalar.extui v1664_r0
  let v1666_r0 : BitVec 32 := Scalar.subi v1663_r0 v1665_r0
  let v1667_r0 : BitVec 1 := Scalar.cmpi .sgt 4#32 0#32
  let v1668_r0 : BitVec 32 := Scalar.extui v1667_r0
  let v1669_r0 : BitVec 1 := Scalar.cmpi .slt 4#32 0#32
  let v1670_r0 : BitVec 32 := Scalar.extui v1669_r0
  let v1671_r0 : BitVec 32 := Scalar.subi v1668_r0 v1670_r0
  let v1672_r0 : BitVec 1 := Scalar.cmpi .ne v1666_r0 v1671_r0
  let v1673_r0 : BitVec 32 := Scalar.remsi v1649_r0 4#32
  let v1674_r0 : BitVec 1 := Scalar.cmpi .ne v1673_r0 0#32
  let v1675_r0 : BitVec 1 := Scalar.andi v1672_r0 v1674_r0
  let v1676_r0 : BitVec 32 := Scalar.subi v1661_r0 1#32
  let v1677_r0 : BitVec 32 := Scalar.select v1675_r0 v1676_r0 v1661_r0
  let v1678_r0 : BitVec 32 := Scalar.select v1650_r0 v1660_r0 v1677_r0
  let v1679_r0 : BitVec 32 := Scalar.divsi v1649_r0 3#32
  let v1680_r0 : BitVec 1 := Scalar.cmpi .sgt v1649_r0 0#32
  let v1681_r0 : BitVec 32 := Scalar.extui v1680_r0
  let v1682_r0 : BitVec 1 := Scalar.cmpi .slt v1649_r0 0#32
  let v1683_r0 : BitVec 32 := Scalar.extui v1682_r0
  let v1684_r0 : BitVec 32 := Scalar.subi v1681_r0 v1683_r0
  let v1685_r0 : BitVec 1 := Scalar.cmpi .sgt 3#32 0#32
  let v1686_r0 : BitVec 32 := Scalar.extui v1685_r0
  let v1687_r0 : BitVec 1 := Scalar.cmpi .slt 3#32 0#32
  let v1688_r0 : BitVec 32 := Scalar.extui v1687_r0
  let v1689_r0 : BitVec 32 := Scalar.subi v1686_r0 v1688_r0
  let v1690_r0 : BitVec 1 := Scalar.cmpi .ne v1684_r0 v1689_r0
  let v1691_r0 : BitVec 32 := Scalar.remsi v1649_r0 3#32
  let v1692_r0 : BitVec 1 := Scalar.cmpi .ne v1691_r0 0#32
  let v1693_r0 : BitVec 1 := Scalar.andi v1690_r0 v1692_r0
  let v1694_r0 : BitVec 32 := Scalar.subi v1679_r0 1#32
  let v1695_r0 : BitVec 32 := Scalar.select v1693_r0 v1694_r0 v1679_r0
  let v1696_r0 : BitVec 1 := Scalar.cmpi .eq 4#32 0#32
  let v1697_r0 : BitVec 32 := Scalar.select v1696_r0 1#32 4#32
  let v1698_r0 : BitVec 32 := Scalar.remsi v1649_r0 v1697_r0
  let v1699_r0 : BitVec 1 := Scalar.cmpi .ne v1698_r0 0#32
  let v1700_r0 : BitVec 1 := Scalar.cmpi .slt v1698_r0 0#32
  let v1701_r0 : BitVec 1 := Scalar.cmpi .slt v1697_r0 0#32
  let v1702_r0 : BitVec 1 := Scalar.xori v1700_r0 v1701_r0
  let v1703_r0 : BitVec 1 := Scalar.andi v1702_r0 v1699_r0
  let v1704_r0 : BitVec 32 := Scalar.addi v1698_r0 v1697_r0
  let v1705_r0 : BitVec 32 := Scalar.select v1703_r0 v1704_r0 v1698_r0
  let v1706_r0 : BitVec 32 := Scalar.select v1650_r0 v1695_r0 v1705_r0
  let v1707_r0 : BitVec 32 := Scalar.subi arg16_r0 12#32
  let v1708_r0 : BitVec 32 := Scalar.maxsi v1707_r0 0#32
  let v1725_r0 : BitVec 1 := Scalar.cmpi .slt arg16_r0 12#32
  let v1726_r0 : BitVec 1 := Scalar.cmpi .eq 3#32 0#32
  let v1727_r0 : BitVec 32 := Scalar.select v1726_r0 1#32 3#32
  let v1728_r0 : BitVec 32 := Scalar.remsi arg16_r0 v1727_r0
  let v1756_r0 : BitVec 1 := Scalar.cmpi .sgt v1708_r0 0#32
  let v1757_r0 : BitVec 1 := Scalar.cmpi .eq 3#32 0#32
  let v1758_r0 : BitVec 32 := Scalar.select v1757_r0 1#32 3#32
  let v1759_r0 : BitVec 32 := Scalar.remsi v1708_r0 v1758_r0
  let v1760_r0 : BitVec 1 := Scalar.cmpi .ne v1759_r0 0#32
  let v1761_r0 : BitVec 1 := Scalar.cmpi .slt v1759_r0 0#32
  let v1762_r0 : BitVec 1 := Scalar.cmpi .slt v1758_r0 0#32
  let v1763_r0 : BitVec 1 := Scalar.xori v1761_r0 v1762_r0
  let v1764_r0 : BitVec 1 := Scalar.andi v1763_r0 v1760_r0
  let x9_1 : Bf F c M9 := xsF k0_t1 arg16_r0 v1588_r0 f5 f9
  let v1772_r0 : Vec F S1x96x256 .bf16 := (M5.access (Rect.unit (s := S4x96x1792) (k0_off24 k0_t1) S1x96x256.size (k0_off24_inb k0_t1))).read (Elt F) f5
  let k0_mxu10 : Mxu F := k0_mxu8.accLhs 0 0 0 (k0_pay3 v1772_r0) fits_0_96
  let k0_mxu11 : Mxu F := k0_mxu10.accLhs 1 0 0 (k0_pay3 v1772_r0) fits_0_96
  let v1774_r0 : BitVec 1 := Scalar.cmpi .eq 3#32 0#32
  let v1775_r0 : BitVec 32 := Scalar.select v1774_r0 1#32 3#32
  let v1776_r0 : BitVec 32 := Scalar.remsi v1560_r0 v1775_r0
  let v1777_r0 : BitVec 1 := Scalar.cmpi .ne v1776_r0 0#32
  let v1778_r0 : BitVec 1 := Scalar.cmpi .slt v1776_r0 0#32
  let v1779_r0 : BitVec 1 := Scalar.cmpi .slt v1775_r0 0#32
  let v1780_r0 : BitVec 1 := Scalar.xori v1778_r0 v1779_r0
  let v1781_r0 : BitVec 1 := Scalar.andi v1780_r0 v1777_r0
  let v1782_r0 : BitVec 32 := Scalar.addi v1776_r0 v1775_r0
  let v1783_r0 : BitVec 32 := Scalar.select v1781_r0 v1782_r0 v1776_r0
  let v1784_r0 : BitVec 32 := Scalar.muli v1783_r0 128#32
  let v1785_r0 : BitVec 32 := v1784_r0
  let v1806_r0 : Vec F S1x1x256x128 .i32 := (M6.access (Rect.unit (s := S3x4x1792x384) (k0_off25 k0_t1) S1x1x256x128.size (k0_off25_inb k0_t1))).read (Elt F) f6
  let k0_mxu12 : Mxu F := k0_mxu11.pushed 0 1 false (k0_pay5 v1806_r0)
  let k0_mxu13 : Mxu F := k0_mxu12.pushed 1 1 false (k0_pay6 v1806_r0)
  let v1846_r0 : Vec F S1x96x256 .bf16 := (M5.access (Rect.unit (s := S4x96x1792) (k0_off26 k0_t1) S1x96x256.size (k0_off26_inb k0_t1))).read (Elt F) f5
  let k0_mxu14 : Mxu F := k0_mxu13.accLhs 0 1 0 (k0_pay7 v1846_r0) fits_0_96
  let k0_mxu15 : Mxu F := k0_mxu14.accLhs 1 1 0 (k0_pay7 v1846_r0) fits_0_96
  let c3_i32_913_r0 := 3#32
  let c0_i32_914_r0 := 0#32
  let v1880_r0 : Vec F S1x1x256x128 .i32 := (M6.access (Rect.unit (s := S3x4x1792x384) (k0_off27 k0_t1) S1x1x256x128.size (k0_off27_inb k0_t1))).read (Elt F) f6
  let v1884_r0 := k0_pay8 v1880_r0
  let v1890_r0 := k0_pay9 v1880_r0
  let v1891_r0 := k0_pay10
  let k0_mxu16 : Mxu F := k0_mxu15.pushed 0 0 false (k0_pay11 (F := F) v1890_r0 v1891_r0)
  let k0_mxu17 : Mxu F := k0_mxu16.pushed 1 0 false (k0_pay12 (F := F) v1884_r0)
  let v1920_r0 : Vec F S1x96x256 .bf16 := (M5.access (Rect.unit (s := S4x96x1792) (k0_off28 k0_t1) S1x96x256.size (k0_off28_inb k0_t1))).read (Elt F) f5
  let k0_mxu18 : Mxu F := k0_mxu17.accLhs 0 0 0 (k0_pay13 v1920_r0) fits_0_96
  let k0_mxu19 : Mxu F := k0_mxu18.accLhs 1 0 0 (k0_pay13 v1920_r0) fits_0_96
  let v1922_r0 : BitVec 1 := Scalar.cmpi .eq 3#32 0#32
  let v1923_r0 : BitVec 32 := Scalar.select v1922_r0 1#32 3#32
  let v1924_r0 : BitVec 32 := Scalar.remsi v1560_r0 v1923_r0
  let v1925_r0 : BitVec 1 := Scalar.cmpi .ne v1924_r0 0#32
  let v1926_r0 : BitVec 1 := Scalar.cmpi .slt v1924_r0 0#32
  let v1927_r0 : BitVec 1 := Scalar.cmpi .slt v1923_r0 0#32
  let v1928_r0 : BitVec 1 := Scalar.xori v1926_r0 v1927_r0
  let v1929_r0 : BitVec 1 := Scalar.andi v1928_r0 v1925_r0
  let v1930_r0 : BitVec 32 := Scalar.addi v1924_r0 v1923_r0
  let v1931_r0 : BitVec 32 := Scalar.select v1929_r0 v1930_r0 v1924_r0
  let v1932_r0 : BitVec 32 := Scalar.muli v1931_r0 128#32
  let v1933_r0 : BitVec 32 := v1932_r0
  let c3_i32_944_r0 := 3#32
  let v1954_r0 : Vec F S1x1x256x128 .i32 := (M6.access (Rect.unit (s := S3x4x1792x384) (k0_off29 k0_t1) S1x1x256x128.size (k0_off29_inb k0_t1))).read (Elt F) f6
  let v1969_r0 := k0_pay16 v1954_r0
  let v1974_r0 := k0_pay17 v1954_r0
  let v1980_r0 := k0_pay18 v1954_r0
  let c0_i32_957_r0 := 0#32
  let k0_mxu20 : Mxu F := k0_mxu19.pushed 0 1 false (k0_pay19 v1969_r0 v1974_r0)
  let k0_mxu21 : Mxu F := k0_mxu20.pushed 1 1 false (k0_pay20 (F := F) v1980_r0 c0_i32_957_r0)
  let v1995_r0 : Vec F S1x96x256 .f32 := (M10.access (Rect.unit (s := S9x96x1024) (k0_off30 k0_t1) S1x96x256.size (k0_off30_inb k0_t1))).read (Elt F) f10
  let v1999_r0 : FVec F S96x256 .f32 := k0_mxu21.read 0 24 fits_24_96
  let k0_mxu22 : Mxu F := k0_mxu21.pop 0 24 96 fits_24_96
  let v2002_r0 : Vec F S1x96x256 .f32 := (M10.access (Rect.unit (s := S9x96x1024) (k0_off30 k0_t1) S1x96x256.size (k0_off30_inb k0_t1))).read (Elt F) f10
  let y10_1 : Bf F c M10 := (M10.access (Rect.unit (s := S9x96x1024) (k0_off30 k0_t1) S1x96x256.size (k0_off30_inb k0_t1))).write (Elt F) f10 (k0_pay21 v1647_r0 v1995_r0 v1999_r0) Finset.univ
  let v2006_r0 : Vec F S1x96x256 .f32 := (M10.access (Rect.unit (s := S9x96x1024) (k0_off31 k0_t1) S1x96x256.size (k0_off31_inb k0_t1))).read (Elt F) y10_1
  let v2010_r0 : FVec F S96x256 .f32 := k0_mxu22.read 1 24 fits_24_96
  let k0_mxu23 : Mxu F := k0_mxu22.pop 1 24 96 fits_24_96
  let v2013_r0 : Vec F S1x96x256 .f32 := (M10.access (Rect.unit (s := S9x96x1024) (k0_off31 k0_t1) S1x96x256.size (k0_off31_inb k0_t1))).read (Elt F) y10_1
  let y10_2 : Bf F c M10 := (M10.access (Rect.unit (s := S9x96x1024) (k0_off31 k0_t1) S1x96x256.size (k0_off31_inb k0_t1))).write (Elt F) y10_1 (k0_pay22 v1647_r0 v2006_r0 v2010_r0) Finset.univ
  let v2017_r0 : Vec F S1x96x256 .bf16 := (M5.access (Rect.unit (s := S4x96x1792) (k0_off32 k0_t1) S1x96x256.size (k0_off32_inb k0_t1))).read (Elt F) f5
  let k0_mxu24 : Mxu F := k0_mxu23.accLhs 0 1 0 (k0_pay23 v2017_r0) fits_0_96
  let k0_mxu25 : Mxu F := k0_mxu24.accLhs 1 1 0 (k0_pay23 v2017_r0) fits_0_96
  let v2051_r0 : Vec F S1x1x256x128 .i32 := (M6.access (Rect.unit (s := S3x4x1792x384) (k0_off33 k0_t1) S1x1x256x128.size (k0_off33_inb k0_t1))).read (Elt F) f6
  let v2055_r0 := k0_pay24 v2051_r0
  let v2061_r0 := k0_pay25 v2051_r0
  let k0_mxu26 : Mxu F := k0_mxu25.pushed 0 0 false (k0_pay26 (F := F) v2061_r0)
  let k0_mxu27 : Mxu F := k0_mxu26.pushed 1 0 false (k0_pay27 (F := F) v2055_r0)
  let v2091_r0 : Vec F S1x96x256 .bf16 := (M5.access (Rect.unit (s := S4x96x1792) (k0_off34 k0_t1) S1x96x256.size (k0_off34_inb k0_t1))).read (Elt F) f5
  let k0_mxu28 : Mxu F := k0_mxu27.accLhs 0 0 0 (k0_pay28 v2091_r0) fits_0_96
  let k0_mxu29 : Mxu F := k0_mxu28.accLhs 1 0 0 (k0_pay28 v2091_r0) fits_0_96
  let v2093_r0 : BitVec 1 := Scalar.cmpi .eq 3#32 0#32
  let v2094_r0 : BitVec 32 := Scalar.select v2093_r0 1#32 3#32
  let v2095_r0 : BitVec 32 := Scalar.remsi v1560_r0 v2094_r0
  let v2096_r0 : BitVec 1 := Scalar.cmpi .ne v2095_r0 0#32
  let v2097_r0 : BitVec 1 := Scalar.cmpi .slt v2095_r0 0#32
  let v2098_r0 : BitVec 1 := Scalar.cmpi .slt v2094_r0 0#32
  let v2099_r0 : BitVec 1 := Scalar.xori v2097_r0 v2098_r0
  let v2100_r0 : BitVec 1 := Scalar.andi v2099_r0 v2096_r0
  let v2101_r0 : BitVec 32 := Scalar.addi v2095_r0 v2094_r0
  let v2102_r0 : BitVec 32 := Scalar.select v2100_r0 v2101_r0 v2095_r0
  let v2103_r0 : BitVec 32 := Scalar.muli v2102_r0 128#32
  let v2125_r0 : Vec F S1x1x256x128 .i32 := (M6.access (Rect.unit (s := S3x4x1792x384) (k0_off35 k0_t1) S1x1x256x128.size (k0_off35_inb k0_t1))).read (Elt F) f6
  let v2140_r0 := k0_pay31 v2125_r0
  let v2145_r0 := k0_pay32 v2125_r0
  let v2150_r0 := k0_pay33 v2125_r0
  let k0_mxu30 : Mxu F := k0_mxu29.pushed 0 1 false (k0_pay34 v2140_r0 v2145_r0)
  let k0_mxu31 : Mxu F := k0_mxu30.pushed 1 1 false (k0_pay35 (F := F) v2150_r0)
  let v2164_r0 : BitVec 32 := Scalar.divsi v1708_r0 3#32
  let v2165_r0 : BitVec 1 := Scalar.cmpi .sgt v1708_r0 0#32
  let v2166_r0 : BitVec 32 := Scalar.extui v2165_r0
  let v2167_r0 : BitVec 1 := Scalar.cmpi .slt v1708_r0 0#32
  let v2168_r0 : BitVec 32 := Scalar.extui v2167_r0
  let v2169_r0 : BitVec 32 := Scalar.subi v2166_r0 v2168_r0
  let v2170_r0 : BitVec 1 := Scalar.cmpi .sgt 3#32 0#32
  let v2171_r0 : BitVec 32 := Scalar.extui v2170_r0
  let v2172_r0 : BitVec 1 := Scalar.cmpi .slt 3#32 0#32
  let v2173_r0 : BitVec 32 := Scalar.extui v2172_r0
  let v2174_r0 : BitVec 32 := Scalar.subi v2171_r0 v2173_r0
  let v2175_r0 : BitVec 1 := Scalar.cmpi .ne v2169_r0 v2174_r0
  let v2176_r0 : BitVec 32 := Scalar.remsi v1708_r0 3#32
  let v2177_r0 : BitVec 1 := Scalar.cmpi .ne v2176_r0 0#32
  let v2178_r0 : BitVec 1 := Scalar.andi v2175_r0 v2177_r0
  let v2179_r0 : BitVec 32 := Scalar.subi v2164_r0 1#32
  let v2180_r0 : BitVec 32 := Scalar.select v2178_r0 v2179_r0 v2164_r0
  let v2181_r0 : BitVec 1 := Scalar.cmpi .eq 3#32 0#32
  let v2182_r0 : BitVec 32 := Scalar.select v2181_r0 1#32 3#32
  let v2183_r0 : BitVec 32 := Scalar.remsi v1708_r0 v2182_r0
  let v2184_r0 : BitVec 1 := Scalar.cmpi .ne v2183_r0 0#32
  let v2185_r0 : BitVec 1 := Scalar.cmpi .slt v2183_r0 0#32
  let v2186_r0 : BitVec 1 := Scalar.cmpi .slt v2182_r0 0#32
  let v2187_r0 : BitVec 1 := Scalar.xori v2185_r0 v2186_r0
  let v2188_r0 : BitVec 1 := Scalar.andi v2187_r0 v2184_r0
  let v2189_r0 : BitVec 32 := Scalar.addi v2183_r0 v2182_r0
  let v2190_r0 : BitVec 32 := Scalar.select v2188_r0 v2189_r0 v2183_r0
  let v2191_r0 : BitVec 32 := Scalar.muli v2190_r0 32#32
  let v2192_r0 : BitVec 32 := v2191_r0
  let v2194_r0 : Vec F S1x128 .i32 := (M7.access (Rect.unit (s := S9x128) (k0_off36 k0_t1) S1x128.size (k0_off36_inb k0_t1))).read (Elt F) f7
  let v2196_r0 : Vec F S32x128 .f32 := (M9.access (Rect.unit (s := S96x128) (k0_off37 k0_t1) S32x128.size (k0_off37_inb k0_t1))).read (Elt F) x9_1
  let v2204_r0 : Vec F S1x32x128 .f32 := (M10.access (Rect.unit (s := S9x96x1024) (k0_off38 k0_t1) S1x32x128.size (k0_off38_inb k0_t1))).read (Elt F) y10_2
  let v2210_r0 : Vec F S1x1x128 .f32 := (M8.access (Rect.unit (s := S9x8x128) (k0_off39 k0_t1) S1x1x128.size (k0_off39_inb k0_t1))).read (Elt F) f8
  let v2223_r0 : Vec F S1x32x128 .f32 := (M10.access (Rect.unit (s := S9x96x1024) (k0_off40 k0_t1) S1x32x128.size (k0_off40_inb k0_t1))).read (Elt F) y10_2
  let v2229_r0 : Vec F S1x1x128 .f32 := (M8.access (Rect.unit (s := S9x8x128) (k0_off41 k0_t1) S1x1x128.size (k0_off41_inb k0_t1))).read (Elt F) f8
  let v2215_r0 := k0_pay36 v2194_r0 v2196_r0 v2204_r0 v2210_r0
  let v2234_r0 := k0_pay37 v2194_r0 v2196_r0 v2223_r0 v2229_r0
  let v2238_r0 := k0_pay38 v2194_r0
  let v2242_r0 : Vec F S1x32x128 .f32 := (M10.access (Rect.unit (s := S9x96x1024) (k0_off42 k0_t1) S1x32x128.size (k0_off42_inb k0_t1))).read (Elt F) y10_2
  let v2248_r0 : Vec F S1x1x128 .f32 := (M8.access (Rect.unit (s := S9x8x128) (k0_off43 k0_t1) S1x1x128.size (k0_off43_inb k0_t1))).read (Elt F) f8
  let v2261_r0 : Vec F S1x32x128 .f32 := (M10.access (Rect.unit (s := S9x96x1024) (k0_off44 k0_t1) S1x32x128.size (k0_off44_inb k0_t1))).read (Elt F) y10_2
  let v2267_r0 : Vec F S1x1x128 .f32 := (M8.access (Rect.unit (s := S9x8x128) (k0_off45 k0_t1) S1x1x128.size (k0_off45_inb k0_t1))).read (Elt F) f8
  let v2280_r0 : Vec F S1x32x128 .f32 := (M10.access (Rect.unit (s := S9x96x1024) (k0_off46 k0_t1) S1x32x128.size (k0_off46_inb k0_t1))).read (Elt F) y10_2
  let v2253_r0 := k0_pay39 v2196_r0 v2238_r0 v2242_r0 v2248_r0
  let v2272_r0 := k0_pay40 v2194_r0 v2196_r0 v2261_r0 v2267_r0
  let v2284_r0 := k0_pay41 v2194_r0 v2196_r0 v2280_r0
  let v2286_r0 : Vec F S1x1x128 .f32 := (M8.access (Rect.unit (s := S9x8x128) (k0_off47 k0_t1) S1x1x128.size (k0_off47_inb k0_t1))).read (Elt F) f8
  let v2299_r0 : Vec F S1x32x128 .f32 := (M10.access (Rect.unit (s := S9x96x1024) (k0_off48 k0_t1) S1x32x128.size (k0_off48_inb k0_t1))).read (Elt F) y10_2
  let v2305_r0 : Vec F S1x1x128 .f32 := (M8.access (Rect.unit (s := S9x8x128) (k0_off49 k0_t1) S1x1x128.size (k0_off49_inb k0_t1))).read (Elt F) f8
  let v2318_r0 : Vec F S1x32x128 .f32 := (M10.access (Rect.unit (s := S9x96x1024) (k0_off50 k0_t1) S1x32x128.size (k0_off50_inb k0_t1))).read (Elt F) y10_2
  let v2324_r0 : Vec F S1x1x128 .f32 := (M8.access (Rect.unit (s := S9x8x128) (k0_off51 k0_t1) S1x1x128.size (k0_off51_inb k0_t1))).read (Elt F) f8
  let v2291_r0 := k0_pay42 v2284_r0 v2286_r0
  let v2310_r0 := k0_pay43 v2194_r0 v2196_r0 v2299_r0 v2305_r0
  let v2329_r0 := k0_pay44 v2194_r0 v2196_r0 v2318_r0 v2324_r0
  let v2333_r0 := k0_pay45 v2194_r0
  let v2337_r0 : Vec F S1x32x128 .f32 := (M10.access (Rect.unit (s := S9x96x1024) (k0_off52 k0_t1) S1x32x128.size (k0_off52_inb k0_t1))).read (Elt F) y10_2
  let v2343_r0 : Vec F S1x1x128 .f32 := (M8.access (Rect.unit (s := S9x8x128) (k0_off53 k0_t1) S1x1x128.size (k0_off53_inb k0_t1))).read (Elt F) f8
  let v2349_r0 : IVec S32x128 32 := iota .tc S32x128 32 [1] iota_S32x128_d1_w32
  let v2357_r0 := k0_pay49 v2215_r0 v2291_r0
  let v2359_r0 := k0_pay50 v2234_r0 v2310_r0
  let v2361_r0 := k0_pay51 v2234_r0 v2310_r0
  let v2363_r0 := k0_pay52 v2253_r0 v2329_r0
  let v2365_r0 := k0_pay53 v2253_r0 v2329_r0
  let v2367_r0 := k0_pay54 v2196_r0 v2272_r0 v2333_r0 v2337_r0 v2343_r0
  let v2369_r0 := k0_pay55 v2196_r0 v2272_r0 v2333_r0 v2337_r0 v2343_r0
  let v2373_r0 := k0_pay56
  let v2375_r0 := k0_pay57 v2215_r0 v2253_r0 v2291_r0 v2329_r0
  let v2376_r0 := k0_pay58 v2215_r0 v2291_r0
  let v2410_r0 : BitVec 1 := Scalar.cmpi .eq 8#32 0#32
  let v2411_r0 : BitVec 32 := Scalar.select v2410_r0 1#32 8#32
  let v2395_r0 := k0_pay67 v2349_r0 v2359_r0 v2367_r0 v2373_r0 v2375_r0
  let v2397_r0 := k0_pay68 v2349_r0 v2359_r0 v2367_r0 v2373_r0 v2375_r0
  let v2399_r0 := k0_pay69 v2349_r0 v2359_r0 v2363_r0 v2367_r0 v2373_r0 v2376_r0
  let v2401_r0 := k0_pay70 v2349_r0 v2359_r0 v2363_r0 v2367_r0 v2373_r0 v2376_r0
  let v2403_r0 := k0_pay71 v2349_r0 v2357_r0 v2361_r0 v2365_r0 v2369_r0 v2373_r0
  let v2405_r0 := k0_pay72 v2349_r0 v2357_r0 v2361_r0 v2365_r0 v2369_r0 v2373_r0
  let v2407_r0 := k0_pay73 v2349_r0 v2357_r0 v2361_r0 v2365_r0 v2369_r0 v2373_r0
  let v2409_r0 := k0_pay74 v2349_r0 v2357_r0 v2361_r0 v2365_r0 v2369_r0 v2373_r0
  let v2413_r0 := k0_pay75 v2349_r0
  let v2415_r0 := k0_pay76 v2349_r0
  let c0_i32_1106_r0 := 0#32
  let v2452_r0 := k0_pay77 v2349_r0 v2411_r0 v2413_r0 v2415_r0 c0_i32_1106_r0
  let v2460_r0 := k0_pay78 v2349_r0 v2395_r0 v2411_r0 v2413_r0 v2415_r0 c0_i32_1106_r0
  let v2462_r0 := k0_pay79 v2349_r0 v2411_r0 v2413_r0 v2415_r0 c0_i32_1106_r0
  let c128_i32_1119_r0 := 128#32
  let v2468_r0 := k0_pay80 v2397_r0 v2452_r0 v2462_r0 c128_i32_1119_r0
  let v2476_r0 := k0_pay81 v2399_r0 v2452_r0
  let v2484_r0 := k0_pay82 v2401_r0 v2452_r0
  let v2492_r0 := k0_pay83 v2403_r0 v2452_r0
  let v2500_r0 := k0_pay84 v2405_r0 v2452_r0
  let v2508_r0 := k0_pay85 v2407_r0 v2452_r0
  let v2510_r0 := k0_pay86 v2452_r0
  let c128_i32_1131_r0 := 128#32
  let v2520_r0 : Vec F S1x32x128 .bf16 := (M11.access (Rect.unit (s := S9x96x1024) (k0_off38 k0_t1) S1x32x128.size (k0_off38_inb k0_t1))).read (Elt F) f11
  let y11_1 : Bf F c M11 := (M11.access (Rect.unit (s := S9x96x1024) (k0_off38 k0_t1) S1x32x128.size (k0_off38_inb k0_t1))).write (Elt F) f11 (k0_pay88 v2460_r0) Finset.univ
  let v2526_r0 : Vec F S1x32x128 .bf16 := (M11.access (Rect.unit (s := S9x96x1024) (k0_off42 k0_t1) S1x32x128.size (k0_off42_inb k0_t1))).read (Elt F) y11_1
  let y11_2 : Bf F c M11 := (M11.access (Rect.unit (s := S9x96x1024) (k0_off42 k0_t1) S1x32x128.size (k0_off42_inb k0_t1))).write (Elt F) y11_1 (k0_pay89 v2468_r0) Finset.univ
  let v2532_r0 : Vec F S1x32x128 .bf16 := (M11.access (Rect.unit (s := S9x96x1024) (k0_off46 k0_t1) S1x32x128.size (k0_off46_inb k0_t1))).read (Elt F) y11_2
  let y11_3 : Bf F c M11 := (M11.access (Rect.unit (s := S9x96x1024) (k0_off46 k0_t1) S1x32x128.size (k0_off46_inb k0_t1))).write (Elt F) y11_2 (k0_pay90 v2476_r0) Finset.univ
  let v2538_r0 : Vec F S1x32x128 .bf16 := (M11.access (Rect.unit (s := S9x96x1024) (k0_off50 k0_t1) S1x32x128.size (k0_off50_inb k0_t1))).read (Elt F) y11_3
  let y11_4 : Bf F c M11 := (M11.access (Rect.unit (s := S9x96x1024) (k0_off50 k0_t1) S1x32x128.size (k0_off50_inb k0_t1))).write (Elt F) y11_3 (k0_pay91 v2484_r0) Finset.univ
  let v2544_r0 : Vec F S1x32x128 .bf16 := (M11.access (Rect.unit (s := S9x96x1024) (k0_off40 k0_t1) S1x32x128.size (k0_off40_inb k0_t1))).read (Elt F) y11_4
  let y11_5 : Bf F c M11 := (M11.access (Rect.unit (s := S9x96x1024) (k0_off40 k0_t1) S1x32x128.size (k0_off40_inb k0_t1))).write (Elt F) y11_4 (k0_pay92 v2492_r0) Finset.univ
  let v2550_r0 : Vec F S1x32x128 .bf16 := (M11.access (Rect.unit (s := S9x96x1024) (k0_off44 k0_t1) S1x32x128.size (k0_off44_inb k0_t1))).read (Elt F) y11_5
  let y11_6 : Bf F c M11 := (M11.access (Rect.unit (s := S9x96x1024) (k0_off44 k0_t1) S1x32x128.size (k0_off44_inb k0_t1))).write (Elt F) y11_5 (k0_pay93 v2500_r0) Finset.univ
  let v2556_r0 : Vec F S1x32x128 .bf16 := (M11.access (Rect.unit (s := S9x96x1024) (k0_off48 k0_t1) S1x32x128.size (k0_off48_inb k0_t1))).read (Elt F) y11_6
  let v2516_r0 := k0_pay87 v2409_r0 v2452_r0 v2510_r0 c128_i32_1131_r0
  let v2553_r0 := k0_pay94 v2508_r0
  let y11_7 : Bf F c M11 := (M11.access (Rect.unit (s := S9x96x1024) (k0_off48 k0_t1) S1x32x128.size (k0_off48_inb k0_t1))).write (Elt F) y11_6 (k0_pay95 v2553_r0) Finset.univ
  let v2562_r0 : Vec F S1x32x128 .bf16 := (M11.access (Rect.unit (s := S9x96x1024) (k0_off52 k0_t1) S1x32x128.size (k0_off52_inb k0_t1))).read (Elt F) y11_7
  let y11_8 : Bf F c M11 := (M11.access (Rect.unit (s := S9x96x1024) (k0_off52 k0_t1) S1x32x128.size (k0_off52_inb k0_t1))).write (Elt F) y11_7 (k0_pay96 v2516_r0) Finset.univ
  let v2566_r0 : Vec F S1x96x256 .bf16 := (M5.access (Rect.unit (s := S4x96x1792) (k0_off54 k0_t1) S1x96x256.size (k0_off54_inb k0_t1))).read (Elt F) f5
  let k0_mxu32 : Mxu F := k0_mxu31.accLhs 0 1 0 (k0_pay97 v2566_r0) fits_0_96
  let k0_mxu33 : Mxu F := k0_mxu32.accLhs 1 1 0 (k0_pay97 v2566_r0) fits_0_96
  let v2568_r0 : BitVec 1 := Scalar.cmpi .eq 3#32 0#32
  let v2569_r0 : BitVec 32 := Scalar.select v2568_r0 1#32 3#32
  let v2570_r0 : BitVec 32 := Scalar.remsi v1560_r0 v2569_r0
  let v2571_r0 : BitVec 1 := Scalar.cmpi .ne v2570_r0 0#32
  let v2572_r0 : BitVec 1 := Scalar.cmpi .slt v2570_r0 0#32
  let v2573_r0 : BitVec 1 := Scalar.cmpi .slt v2569_r0 0#32
  let v2574_r0 : BitVec 1 := Scalar.xori v2572_r0 v2573_r0
  let v2575_r0 : BitVec 1 := Scalar.andi v2574_r0 v2571_r0
  let v2576_r0 : BitVec 32 := Scalar.addi v2570_r0 v2569_r0
  let v2577_r0 : BitVec 32 := Scalar.select v2575_r0 v2576_r0 v2570_r0
  let v2578_r0 : BitVec 32 := Scalar.muli v2577_r0 128#32
  let v2579_r0 : BitVec 32 := v2578_r0
  let v2580_r0 : BitVec 32 := Scalar.divsi v1560_r0 3#32
  let v2581_r0 : BitVec 1 := Scalar.cmpi .sgt v1560_r0 0#32
  let v2582_r0 : BitVec 32 := Scalar.extui v2581_r0
  let v2583_r0 : BitVec 1 := Scalar.cmpi .slt v1560_r0 0#32
  let v2584_r0 : BitVec 32 := Scalar.extui v2583_r0
  let v2585_r0 : BitVec 32 := Scalar.subi v2582_r0 v2584_r0
  let v2586_r0 : BitVec 1 := Scalar.cmpi .sgt 3#32 0#32
  let v2587_r0 : BitVec 32 := Scalar.extui v2586_r0
  let v2588_r0 : BitVec 1 := Scalar.cmpi .slt 3#32 0#32
  let v2589_r0 : BitVec 32 := Scalar.extui v2588_r0
  let v2590_r0 : BitVec 32 := Scalar.subi v2587_r0 v2589_r0
  let v2591_r0 : BitVec 1 := Scalar.cmpi .ne v2585_r0 v2590_r0
  let v2592_r0 : BitVec 32 := Scalar.remsi v1560_r0 3#32
  let v2593_r0 : BitVec 1 := Scalar.cmpi .ne v2592_r0 0#32
  let v2594_r0 : BitVec 1 := Scalar.andi v2591_r0 v2593_r0
  let v2595_r0 : BitVec 32 := Scalar.subi v2580_r0 1#32
  let v2596_r0 : BitVec 32 := Scalar.select v2594_r0 v2595_r0 v2580_r0
  let v2600_r0 : Vec F S1x1x256x128 .i32 := (M6.access (Rect.unit (s := S3x4x1792x384) (k0_off55 k0_t1) S1x1x256x128.size (k0_off55_inb k0_t1))).read (Elt F) f6
  let k0_mxu34 : Mxu F := k0_mxu33.pushed 0 0 false (k0_pay99 v2600_r0)
  let k0_mxu35 : Mxu F := k0_mxu34.pushed 1 0 false (k0_pay100 v2600_r0)
  let v2640_r0 : Vec F S1x96x256 .bf16 := (M5.access (Rect.unit (s := S4x96x1792) (k0_off56 k0_t1) S1x96x256.size (k0_off56_inb k0_t1))).read (Elt F) f5
  let k0_mxu36 : Mxu F := k0_mxu35.accLhs 0 0 0 (k0_pay101 v2640_r0) fits_0_96
  let k0_mxu37 : Mxu F := k0_mxu36.accLhs 1 0 0 (k0_pay101 v2640_r0) fits_0_96
  let c3_i32_1165_r0 := 3#32
  let v2674_r0 : Vec F S1x1x256x128 .i32 := (M6.access (Rect.unit (s := S3x4x1792x384) (k0_off57 k0_t1) S1x1x256x128.size (k0_off57_inb k0_t1))).read (Elt F) f6
  let v2678_r0 := k0_pay102 v2674_r0
  let v2684_r0 := k0_pay103 v2674_r0
  let c0_i32_1182_r0 := 0#32
  let k0_mxu38 : Mxu F := k0_mxu37.pushed 0 1 false (k0_pay104 (F := F) v2684_r0 c0_i32_1182_r0)
  let k0_mxu39 : Mxu F := k0_mxu38.pushed 1 1 false (k0_pay105 (F := F) v2678_r0)
  let v2714_r0 : Vec F S1x96x256 .bf16 := (M5.access (Rect.unit (s := S4x96x1792) (k0_off24 k0_t1) S1x96x256.size (k0_off24_inb k0_t1))).read (Elt F) f5
  let k0_mxu40 : Mxu F := k0_mxu39.accLhs 0 1 24 (k0_pay106 v2714_r0) fits_24_96
  let k0_mxu41 : Mxu F := k0_mxu40.accLhs 1 1 24 (k0_pay106 v2714_r0) fits_24_96
  let v2716_r0 : BitVec 1 := Scalar.cmpi .eq 3#32 0#32
  let v2717_r0 : BitVec 32 := Scalar.select v2716_r0 1#32 3#32
  let v2718_r0 : BitVec 32 := Scalar.remsi v1560_r0 v2717_r0
  let v2719_r0 : BitVec 1 := Scalar.cmpi .ne v2718_r0 0#32
  let v2720_r0 : BitVec 1 := Scalar.cmpi .slt v2718_r0 0#32
  let v2721_r0 : BitVec 1 := Scalar.cmpi .slt v2717_r0 0#32
  let v2722_r0 : BitVec 1 := Scalar.xori v2720_r0 v2721_r0
  let v2723_r0 : BitVec 1 := Scalar.andi v2722_r0 v2719_r0
  let v2724_r0 : BitVec 32 := Scalar.addi v2718_r0 v2717_r0
  let v2725_r0 : BitVec 32 := Scalar.select v2723_r0 v2724_r0 v2718_r0
  let v2726_r0 : BitVec 32 := Scalar.muli v2725_r0 128#32
  let v2727_r0 : BitVec 32 := v2726_r0
  let v2748_r0 : Vec F S1x1x256x128 .i32 := (M6.access (Rect.unit (s := S3x4x1792x384) (k0_off25 k0_t1) S1x1x256x128.size (k0_off25_inb k0_t1))).read (Elt F) f6
  let v2763_r0 := k0_pay109 v2748_r0
  let v2768_r0 := k0_pay110 v2748_r0
  let v2774_r0 := k0_pay111 v2748_r0
  let k0_mxu42 : Mxu F := k0_mxu41.pushed 0 0 false (k0_pay112 v2763_r0 v2768_r0)
  let k0_mxu43 : Mxu F := k0_mxu42.pushed 1 0 false (k0_pay113 (F := F) v2774_r0)
  let v2788_r0 : Vec F S1x96x256 .bf16 := (M5.access (Rect.unit (s := S4x96x1792) (k0_off26 k0_t1) S1x96x256.size (k0_off26_inb k0_t1))).read (Elt F) f5
  let k0_mxu44 : Mxu F := k0_mxu43.accLhs 0 0 24 (k0_pay114 v2788_r0) fits_24_96
  let k0_mxu45 : Mxu F := k0_mxu44.accLhs 1 0 24 (k0_pay114 v2788_r0) fits_24_96
  let v2790_r0 : BitVec 1 := Scalar.cmpi .eq 3#32 0#32
  let v2791_r0 : BitVec 32 := Scalar.select v2790_r0 1#32 3#32
  let v2792_r0 : BitVec 32 := Scalar.remsi v1560_r0 v2791_r0
  let v2793_r0 : BitVec 1 := Scalar.cmpi .ne v2792_r0 0#32
  let v2794_r0 : BitVec 1 := Scalar.cmpi .slt v2792_r0 0#32
  let v2795_r0 : BitVec 1 := Scalar.cmpi .slt v2791_r0 0#32
  let v2796_r0 : BitVec 1 := Scalar.xori v2794_r0 v2795_r0
  let v2797_r0 : BitVec 1 := Scalar.andi v2796_r0 v2793_r0
  let v2798_r0 : BitVec 32 := Scalar.addi v2792_r0 v2791_r0
  let v2799_r0 : BitVec 32 := Scalar.select v2797_r0 v2798_r0 v2792_r0
  let v2800_r0 : BitVec 32 := Scalar.muli v2799_r0 128#32
  let v2801_r0 : BitVec 32 := v2800_r0
  let v2802_r0 : BitVec 32 := Scalar.divsi v1560_r0 3#32
  let v2803_r0 : BitVec 1 := Scalar.cmpi .sgt v1560_r0 0#32
  let v2804_r0 : BitVec 32 := Scalar.extui v2803_r0
  let v2805_r0 : BitVec 1 := Scalar.cmpi .slt v1560_r0 0#32
  let v2806_r0 : BitVec 32 := Scalar.extui v2805_r0
  let v2807_r0 : BitVec 32 := Scalar.subi v2804_r0 v2806_r0
  let v2808_r0 : BitVec 1 := Scalar.cmpi .sgt 3#32 0#32
  let v2809_r0 : BitVec 32 := Scalar.extui v2808_r0
  let v2810_r0 : BitVec 1 := Scalar.cmpi .slt 3#32 0#32
  let v2811_r0 : BitVec 32 := Scalar.extui v2810_r0
  let v2812_r0 : BitVec 32 := Scalar.subi v2809_r0 v2811_r0
  let v2813_r0 : BitVec 1 := Scalar.cmpi .ne v2807_r0 v2812_r0
  let v2814_r0 : BitVec 32 := Scalar.remsi v1560_r0 3#32
  let v2822_r0 : Vec F S1x1x256x128 .i32 := (M6.access (Rect.unit (s := S3x4x1792x384) (k0_off27 k0_t1) S1x1x256x128.size (k0_off27_inb k0_t1))).read (Elt F) f6
  let k0_mxu46 : Mxu F := k0_mxu45.pushed 0 1 false (k0_pay116 v2822_r0)
  let k0_mxu47 : Mxu F := k0_mxu46.pushed 1 1 false (k0_pay117 v2822_r0)
  let v2861_r0 : Index := Scalar.indexCast v1588_r0
  let c0_1235_r0 : Index := 0#32
  let v2862_r0 : Vec F S1x96x256 .bf16 := (M5.access (Rect.unit (s := S4x96x1792) (k0_off28 k0_t1) S1x96x256.size (k0_off28_inb k0_t1))).read (Elt F) f5
  let k0_mxu48 : Mxu F := k0_mxu47.accLhs 0 1 24 (k0_pay118 v2862_r0) fits_24_96
  let k0_mxu49 : Mxu F := k0_mxu48.accLhs 1 1 24 (k0_pay118 v2862_r0) fits_24_96
  let v2896_r0 : Vec F S1x1x256x128 .i32 := (M6.access (Rect.unit (s := S3x4x1792x384) (k0_off29 k0_t1) S1x1x256x128.size (k0_off29_inb k0_t1))).read (Elt F) f6
  let v2900_r0 := k0_pay119 v2896_r0
  let v2901_r0 := k0_pay120 v2896_r0
  let c0_i32_1253_r0 := 0#32
  let k0_mxu50 : Mxu F := k0_mxu49.pushed 0 0 false (k0_pay121 (F := F) v2901_r0 c0_i32_1253_r0)
  let k0_mxu51 : Mxu F := k0_mxu50.pushed 1 0 false (k0_pay122 (F := F) v2900_r0)
  let v2936_r0 : Vec F S1x96x256 .bf16 := (M5.access (Rect.unit (s := S4x96x1792) (k0_off32 k0_t1) S1x96x256.size (k0_off32_inb k0_t1))).read (Elt F) f5
  let k0_mxu52 : Mxu F := k0_mxu51.accLhs 0 0 24 (k0_pay123 v2936_r0) fits_24_96
  let k0_mxu53 : Mxu F := k0_mxu52.accLhs 1 0 24 (k0_pay123 v2936_r0) fits_24_96
  let v2938_r0 : BitVec 1 := Scalar.cmpi .eq 3#32 0#32
  let v2939_r0 : BitVec 32 := Scalar.select v2938_r0 1#32 3#32
  let v2940_r0 : BitVec 32 := Scalar.remsi v1560_r0 v2939_r0
  let v2941_r0 : BitVec 1 := Scalar.cmpi .ne v2940_r0 0#32
  let v2942_r0 : BitVec 1 := Scalar.cmpi .slt v2940_r0 0#32
  let v2943_r0 : BitVec 1 := Scalar.cmpi .slt v2939_r0 0#32
  let v2944_r0 : BitVec 1 := Scalar.xori v2942_r0 v2943_r0
  let v2970_r0 : Vec F S1x1x256x128 .i32 := (M6.access (Rect.unit (s := S3x4x1792x384) (k0_off33 k0_t1) S1x1x256x128.size (k0_off33_inb k0_t1))).read (Elt F) f6
  let v2985_r0 := k0_pay126 v2970_r0
  let v2990_r0 := k0_pay127 v2970_r0
  let v2991_r0 := k0_pay128 v2970_r0
  let k0_mxu54 : Mxu F := k0_mxu53.pushed 0 1 false (k0_pay129 v2985_r0 v2990_r0)
  let k0_mxu55 : Mxu F := k0_mxu54.pushed 1 1 false (k0_pay130 (F := F) v2991_r0)
  let v3010_r0 : Vec F S1x96x256 .bf16 := (M5.access (Rect.unit (s := S4x96x1792) (k0_off34 k0_t1) S1x96x256.size (k0_off34_inb k0_t1))).read (Elt F) f5
  let k0_mxu56 : Mxu F := k0_mxu55.accLhs 0 1 24 (k0_pay131 v3010_r0) fits_24_96
  let k0_mxu57 : Mxu F := k0_mxu56.accLhs 1 1 24 (k0_pay131 v3010_r0) fits_24_96
  let v3012_r0 : BitVec 1 := Scalar.cmpi .eq 3#32 0#32
  let v3013_r0 : BitVec 32 := Scalar.select v3012_r0 1#32 3#32
  let v3014_r0 : BitVec 32 := Scalar.remsi v1560_r0 v3013_r0
  let v3015_r0 : BitVec 1 := Scalar.cmpi .ne v3014_r0 0#32
  let v3016_r0 : BitVec 1 := Scalar.cmpi .slt v3014_r0 0#32
  let v3017_r0 : BitVec 1 := Scalar.cmpi .slt v3013_r0 0#32
  let v3018_r0 : BitVec 1 := Scalar.xori v3016_r0 v3017_r0
  let v3019_r0 : BitVec 1 := Scalar.andi v3018_r0 v3015_r0
  let v3020_r0 : BitVec 32 := Scalar.addi v3014_r0 v3013_r0
  let v3021_r0 : BitVec 32 := Scalar.select v3019_r0 v3020_r0 v3014_r0
  let v3022_r0 : BitVec 32 := Scalar.muli v3021_r0 128#32
  let v3023_r0 : BitVec 32 := v3022_r0
  let v3024_r0 : BitVec 32 := Scalar.divsi v1560_r0 3#32
  let v3025_r0 : BitVec 1 := Scalar.cmpi .sgt v1560_r0 0#32
  let v3026_r0 : BitVec 32 := Scalar.extui v3025_r0
  let v3027_r0 : BitVec 1 := Scalar.cmpi .slt v1560_r0 0#32
  let v3028_r0 : BitVec 32 := Scalar.extui v3027_r0
  let v3029_r0 : BitVec 32 := Scalar.subi v3026_r0 v3028_r0
  let v3030_r0 : BitVec 1 := Scalar.cmpi .sgt 3#32 0#32
  let v3031_r0 : BitVec 32 := Scalar.extui v3030_r0
  let c3_i32_1292_r0 := 3#32
  let v3044_r0 : Vec F S1x1x256x128 .i32 := (M6.access (Rect.unit (s := S3x4x1792x384) (k0_off35 k0_t1) S1x1x256x128.size (k0_off35_inb k0_t1))).read (Elt F) f6
  let v3059_r0 := k0_pay134 v3044_r0
  let v3064_r0 := k0_pay135 v3044_r0
  let v3075_r0 := k0_pay137 v3044_r0
  let v3080_r0 := k0_pay138 v3044_r0
  let k0_mxu58 : Mxu F := k0_mxu57.pushed 0 0 false (k0_pay139 v3059_r0 v3064_r0)
  let k0_mxu59 : Mxu F := k0_mxu58.pushed 1 0 false (k0_pay140 v3075_r0 v3080_r0)
  let v3085_r0 : Vec F S1x96x256 .f32 := (M10.access (Rect.unit (s := S9x96x1024) (k0_off58 k0_t1) S1x96x256.size (k0_off58_inb k0_t1))).read (Elt F) y10_2
  let v3089_r0 : FVec F S96x256 .f32 := k0_mxu59.read 0 0 fits_0_96
  let k0_mxu60 : Mxu F := k0_mxu59.pop 0 0 96 fits_0_96
  let v3092_r0 : Vec F S1x96x256 .f32 := (M10.access (Rect.unit (s := S9x96x1024) (k0_off58 k0_t1) S1x96x256.size (k0_off58_inb k0_t1))).read (Elt F) y10_2
  let y10_3 : Bf F c M10 := (M10.access (Rect.unit (s := S9x96x1024) (k0_off58 k0_t1) S1x96x256.size (k0_off58_inb k0_t1))).write (Elt F) y10_2 (k0_pay141 v1588_r0 v3085_r0 v3089_r0) Finset.univ
  let v3096_r0 : Vec F S1x96x256 .f32 := (M10.access (Rect.unit (s := S9x96x1024) (k0_off59 k0_t1) S1x96x256.size (k0_off59_inb k0_t1))).read (Elt F) y10_3
  let v3100_r0 : FVec F S96x256 .f32 := k0_mxu60.read 1 0 fits_0_96
  let k0_mxu61 : Mxu F := k0_mxu60.pop 1 0 96 fits_0_96
  let v3103_r0 : Vec F S1x96x256 .f32 := (M10.access (Rect.unit (s := S9x96x1024) (k0_off59 k0_t1) S1x96x256.size (k0_off59_inb k0_t1))).read (Elt F) y10_3
  let y10_4 : Bf F c M10 := (M10.access (Rect.unit (s := S9x96x1024) (k0_off59 k0_t1) S1x96x256.size (k0_off59_inb k0_t1))).write (Elt F) y10_3 (k0_pay142 v1588_r0 v3096_r0 v3100_r0) Finset.univ
  let v3107_r0 : Vec F S1x96x256 .bf16 := (M5.access (Rect.unit (s := S4x96x1792) (k0_off54 k0_t1) S1x96x256.size (k0_off54_inb k0_t1))).read (Elt F) f5
  let k0_mxu62 : Mxu F := k0_mxu61.accLhs 0 0 24 (k0_pay143 v3107_r0) fits_24_96
  let k0_mxu63 : Mxu F := k0_mxu62.accLhs 1 0 24 (k0_pay143 v3107_r0) fits_24_96
  let v3109_r0 : BitVec 1 := Scalar.cmpi .eq 3#32 0#32
  let v3110_r0 : BitVec 32 := Scalar.select v3109_r0 1#32 3#32
  let v3111_r0 : BitVec 32 := Scalar.remsi v1560_r0 v3110_r0
  let v3112_r0 : BitVec 1 := Scalar.cmpi .ne v3111_r0 0#32
  let v3113_r0 : BitVec 1 := Scalar.cmpi .slt v3111_r0 0#32
  let c0_i32_1325_r0 := 0#32
  let v3141_r0 : Vec F S1x1x256x128 .i32 := (M6.access (Rect.unit (s := S3x4x1792x384) (k0_off55 k0_t1) S1x1x256x128.size (k0_off55_inb k0_t1))).read (Elt F) f6
  let v3145_r0 := k0_pay144 v3141_r0
  let v3156_r0 := k0_pay146 v3141_r0
  let v3160_r0 := k0_pay147 v3141_r0
  let k0_mxu64 : Mxu F := k0_mxu63.pushed 0 1 false (k0_pay148 v3156_r0 v3160_r0)
  let k0_mxu65 : Mxu F := k0_mxu64.pushed 1 1 false (k0_pay149 (F := F) v3145_r0)
  let v3181_r0 : Vec F S1x96x256 .bf16 := (M5.access (Rect.unit (s := S4x96x1792) (k0_off56 k0_t1) S1x96x256.size (k0_off56_inb k0_t1))).read (Elt F) f5
  let k0_mxu66 : Mxu F := k0_mxu65.accLhs 0 1 24 (k0_pay150 v3181_r0) fits_24_96
  let k0_mxu67 : Mxu F := k0_mxu66.accLhs 1 1 24 (k0_pay150 v3181_r0) fits_24_96
  let v3183_r0 : BitVec 1 := Scalar.cmpi .eq 3#32 0#32
  let v3184_r0 : BitVec 32 := Scalar.select v3183_r0 1#32 3#32
  let v3185_r0 : BitVec 32 := Scalar.remsi v1678_r0 v3184_r0
  let v3186_r0 : BitVec 1 := Scalar.cmpi .ne v3185_r0 0#32
  let v3187_r0 : BitVec 1 := Scalar.cmpi .slt v3185_r0 0#32
  let v3188_r0 : BitVec 1 := Scalar.cmpi .slt v3184_r0 0#32
  let v3189_r0 : BitVec 1 := Scalar.xori v3187_r0 v3188_r0
  let v3190_r0 : BitVec 1 := Scalar.andi v3189_r0 v3186_r0
  let v3191_r0 : BitVec 32 := Scalar.addi v3185_r0 v3184_r0
  let v3192_r0 : BitVec 32 := Scalar.select v3190_r0 v3191_r0 v3185_r0
  let v3193_r0 : BitVec 32 := Scalar.muli v3192_r0 128#32
  let v3194_r0 : BitVec 32 := v3193_r0
  let v3195_r0 : BitVec 32 := Scalar.divsi v1678_r0 3#32
  let v3196_r0 : BitVec 1 := Scalar.cmpi .sgt v1678_r0 0#32
  let v3197_r0 : BitVec 32 := Scalar.extui v3196_r0
  let v3198_r0 : BitVec 1 := Scalar.cmpi .slt v1678_r0 0#32
  let v3199_r0 : BitVec 32 := Scalar.extui v3198_r0
  let v3200_r0 : BitVec 32 := Scalar.subi v3197_r0 v3199_r0
  let c3_i32_1351_r0 := 3#32
  let c0_i32_1354_r0 := 0#32
  let v3215_r0 : Vec F S1x1x256x128 .i32 := (M6.access (Rect.unit (s := S3x4x1792x384) (k0_off60 k0_t1) S1x1x256x128.size (k0_off60_inb k0_t1))).read (Elt F) f6
  let v3230_r0 := k0_pay153 v3215_r0
  let v3235_r0 := k0_pay154 v3215_r0
  let v3246_r0 := k0_pay156 v3215_r0
  let v3249_r0 := k0_pay157 v3215_r0
  let k0_mxu68 : Mxu F := k0_mxu67.pushed 0 0 false (k0_pay253 v3230_r0 v3235_r0)
  let k0_mxu69 : Mxu F := k0_mxu68.pushed 1 0 false (k0_pay254 v3246_r0 v3249_r0)
  ⟨k0_mxu69, x9_1, y10_4, y11_8⟩

set_option maxHeartbeats 16000000 in
theorem run_trip (k0_t1 : Fin k0_t1_loop.trips) (k0_mxu8 : Mxu F) (hm8 : AllF k0_mxu8) (k0_mxu1 : Mxu F) (u1 u2 : IVec S256x128 16)
    (hgood : 0 < ec k0_t1.val ∧ ec k0_t1.val % 3 = 0 → A.good (ny k0_t1.val) f11)
    {Q : Mxu F → sProp 𝕄}
    (h : OwnT A Z (nx (k0_t1.val + 1)) (nq (k0_t1.val + 1)) (ny (k0_t1.val + 1)) (trip (F5 A.f0) (F6 A.f1) A.f7 A.f8 k0_t1 k0_mxu8 f9 f10 f11).b9
      (trip (F5 A.f0) (F6 A.f1) A.f7 A.f8 k0_t1 k0_mxu8 f9 f10 f11).b10 (trip (F5 A.f0) (F6 A.f1) A.f7 A.f8 k0_t1 k0_mxu8 f9 f10 f11).b11
      ⊢ Q (trip (F5 A.f0) (F6 A.f1) A.f7 A.f8 k0_t1 k0_mxu8 f9 f10 f11).mx) :
    OwnT A Z (nx k0_t1.val) (nq k0_t1.val) (ny k0_t1.val) f9 f10 f11 ⊢ wp frame (wpE (defs₀ (F := F)) 𝒱 (c : Thread nD τ) bd) Set.univ
      (k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_mxu1 u1 u2 k0_t1 k0_mxu8) Q := by
  have hsx := sched_x k0_t1
  have hsq := sched_q k0_t1
  have hsy := sched_y k0_t1
  obtain ⟨hs1, hs2', hs3, hs4⟩ := sched_in k0_t1
  have hs1x : ki k0_t1.val < nx (k0_t1.val + 1) := by
    split_ifs at hsx <;> omega
  have hs2 : bi k0_t1.val / 3 * 4 + ki k0_t1.val < nq (k0_t1.val + 1) := by
    split_ifs at hsq <;> omega
  unfold k0_t1_body
  refine run_bind (run_part3 _ _ _  ?_)
  intro arg16_r0 v1532_r0 v1533_r0 v1534_r0 v1535_r0 v1536_r0 v1537_r0 v1538_r0 v1539_r0 v1540_r0 v1541_r0 v1542_r0 v1543_r0 v1544_r0 v1545_r0 v1546_r0 v1547_r0 v1548_r0 v1549_r0 v1550_r0 v1551_r0 v1552_r0 v1553_r0 v1554_r0 v1555_r0 v1556_r0 v1557_r0 v1558_r0 v1559_r0 v1560_r0 v1561_r0 v1562_r0 v1563_r0 v1564_r0 v1565_r0 v1566_r0 v1567_r0 v1568_r0 v1569_r0 v1570_r0 v1571_r0
  refine run_bind (run_part4 _ _ _ _ _ _  ?_)
  intro v1572_r0 v1573_r0 v1574_r0 v1575_r0 v1576_r0 v1577_r0 v1578_r0 v1579_r0 v1580_r0 v1581_r0 v1582_r0 v1583_r0 v1584_r0 v1585_r0 v1586_r0 v1587_r0 v1588_r0 v1589_r0 v1590_r0 v1591_r0 v1592_r0 v1593_r0 v1594_r0 v1595_r0 v1596_r0 v1597_r0 v1598_r0 v1599_r0 v1600_r0 v1601_r0 v1602_r0 v1603_r0 v1604_r0 v1605_r0 v1606_r0 v1607_r0 v1608_r0 v1609_r0
  refine run_bind (run_part5 _ _ _ _ _ _ _ _ _  ?_)
  intro v1610_r0 v1611_r0 v1612_r0 v1613_r0 v1614_r0 v1615_r0 v1616_r0 v1617_r0 v1618_r0 v1619_r0 v1620_r0 v1621_r0 v1622_r0 v1623_r0 v1624_r0 v1625_r0 v1626_r0 v1627_r0 v1628_r0 v1629_r0 v1630_r0 v1631_r0 v1632_r0 v1633_r0 v1634_r0 v1635_r0 v1636_r0 v1637_r0 v1638_r0 v1639_r0 v1640_r0 v1641_r0 v1642_r0 v1643_r0 v1644_r0 v1645_r0 v1646_r0 v1647_r0 v1648_r0 v1649_r0 v1650_r0
  refine run_bind (run_part6 _ _ _  ?_)
  intro v1651_r0 v1652_r0 v1653_r0 v1654_r0 v1655_r0 v1656_r0 v1657_r0 v1658_r0 v1659_r0 v1660_r0 v1661_r0 v1662_r0 v1663_r0 v1664_r0 v1665_r0 v1666_r0 v1667_r0 v1668_r0 v1669_r0 v1670_r0 v1671_r0 v1672_r0 v1673_r0 v1674_r0 v1675_r0 v1676_r0 v1677_r0 v1678_r0 v1679_r0 v1680_r0 v1681_r0 v1682_r0 v1683_r0 v1684_r0 v1685_r0 v1686_r0 v1687_r0 v1688_r0 v1689_r0 v1690_r0 v1691_r0 v1692_r0
  refine run_bind (run_part7 _ _ _ _ _ _ _ _ hsq ?_)
  intro v1693_r0 v1694_r0 v1695_r0 v1696_r0 v1697_r0 v1698_r0 v1699_r0 v1700_r0 v1701_r0 v1702_r0 v1703_r0 v1704_r0 v1705_r0 v1706_r0 v1707_r0 v1708_r0 v1725_r0 v1726_r0 v1727_r0 v1728_r0
  refine run_bind (run_part8 _ _ _ _ _ _ _ _ hs1 hsx ?_)
  intro v1756_r0 v1757_r0 v1758_r0 v1759_r0 v1760_r0 v1761_r0 v1762_r0 v1763_r0 v1764_r0
  refine run_bind (run_part9 _ _ _ _ _ _ _ _ _ hs1x hsy hgood ?_)
  intro v1772_r0 k0_mxu10 k0_mxu11 v1774_r0 v1775_r0 v1776_r0 v1777_r0 v1778_r0 v1779_r0 v1780_r0 v1781_r0 v1782_r0 v1783_r0 v1784_r0 v1785_r0
  have hm_k0_mxu10 : AllF k0_mxu10 := AllF.acc hm8 _ _ _ _ _
  have hm_k0_mxu11 : AllF k0_mxu11 := AllF.acc hm_k0_mxu10 _ _ _ _ _
  refine run_bind (run_part10 _ _ _ _ hm_k0_mxu11 (in6 (by rw [off25]; rfl) (by rw [off25]; rfl) rfl rfl hs2) (in5 (by rw [off26]; rfl) rfl hs1x) ?_)
  intro v1806_r0 k0_mxu12 k0_mxu13 v1846_r0 k0_mxu14 k0_mxu15
  have hm_k0_mxu12 : AllF k0_mxu12 := AllF.pushed hm_k0_mxu11 _ _ _
  have hm_k0_mxu13 : AllF k0_mxu13 := AllF.pushed hm_k0_mxu12 _ _ _
  have hm_k0_mxu14 : AllF k0_mxu14 := AllF.acc hm_k0_mxu13 _ _ _ _ _
  have hm_k0_mxu15 : AllF k0_mxu15 := AllF.acc hm_k0_mxu14 _ _ _ _ _
  refine run_bind (run_part11 _ _ _ _ _ (in6 (by rw [off27]; rfl) (by rw [off27]; rfl) rfl rfl hs2) ?_)
  intro v1880_r0
  refine run_bind (run_part12 _ _ _ _ _ _ _ hm_k0_mxu15 (in5 (by rw [off28]; rfl) rfl hs1x) ?_)
  intro k0_mxu16 k0_mxu17 v1920_r0 k0_mxu18 k0_mxu19 v1922_r0 v1923_r0 v1924_r0 v1925_r0 v1926_r0 v1927_r0 v1928_r0 v1929_r0 v1930_r0 v1931_r0 v1932_r0 v1933_r0
  have hm_k0_mxu16 : AllF k0_mxu16 := AllF.pushed hm_k0_mxu15 _ _ _
  have hm_k0_mxu17 : AllF k0_mxu17 := AllF.pushed hm_k0_mxu16 _ _ _
  have hm_k0_mxu18 : AllF k0_mxu18 := AllF.acc hm_k0_mxu17 _ _ _ _ _
  have hm_k0_mxu19 : AllF k0_mxu19 := AllF.acc hm_k0_mxu18 _ _ _ _ _
  refine run_bind (run_part13 _ _ _ _ _ (in6 (by rw [off29]; rfl) (by rw [off29]; rfl) rfl rfl hs2) ?_)
  intro v1954_r0
  refine run_bind (run_part14 _ _ _ _ _ _ _ _ _ hm_k0_mxu19 (in5 (by rw [off32]; rfl) rfl hs1x) ?_)
  intro k0_mxu20 k0_mxu21 v1995_r0 v1999_r0 k0_mxu22 v2002_r0 y10_1 v2006_r0 v2010_r0 k0_mxu23 v2013_r0 y10_2 v2017_r0 k0_mxu24 k0_mxu25
  have hm_k0_mxu20 : AllF k0_mxu20 := AllF.pushed hm_k0_mxu19 _ _ _
  have hm_k0_mxu21 : AllF k0_mxu21 := AllF.pushed hm_k0_mxu20 _ _ _
  have hm_k0_mxu22 : AllF k0_mxu22 := AllF.pop hm_k0_mxu21 _ _ _ _
  have hm_k0_mxu23 : AllF k0_mxu23 := AllF.pop hm_k0_mxu22 _ _ _ _
  have hm_k0_mxu24 : AllF k0_mxu24 := AllF.acc hm_k0_mxu23 _ _ _ _ _
  have hm_k0_mxu25 : AllF k0_mxu25 := AllF.acc hm_k0_mxu24 _ _ _ _ _
  refine run_bind (run_part15 _ _ _ (in6 (by rw [off33]; rfl) (by rw [off33]; rfl) rfl rfl hs2) ?_)
  intro v2051_r0
  refine run_bind (run_part16 _ _ _ _ _ _ hm_k0_mxu25 (in5 (by rw [off34]; rfl) rfl hs1x) ?_)
  intro k0_mxu26 k0_mxu27 v2091_r0 k0_mxu28 k0_mxu29 v2093_r0 v2094_r0 v2095_r0 v2096_r0 v2097_r0 v2098_r0 v2099_r0 v2100_r0 v2101_r0 v2102_r0 v2103_r0
  have hm_k0_mxu26 : AllF k0_mxu26 := AllF.pushed hm_k0_mxu25 _ _ _
  have hm_k0_mxu27 : AllF k0_mxu27 := AllF.pushed hm_k0_mxu26 _ _ _
  have hm_k0_mxu28 : AllF k0_mxu28 := AllF.acc hm_k0_mxu27 _ _ _ _ _
  have hm_k0_mxu29 : AllF k0_mxu29 := AllF.acc hm_k0_mxu28 _ _ _ _ _
  refine run_bind (run_part17 _ _ _ _ (in6 (by rw [off35]; rfl) (by rw [off35]; rfl) rfl rfl hs2) ?_)
  intro v2125_r0
  refine run_bind (run_part18 _ _ _ _ _ hm_k0_mxu29  ?_)
  intro k0_mxu30 k0_mxu31 v2164_r0 v2165_r0 v2166_r0 v2167_r0 v2168_r0 v2169_r0 v2170_r0 v2171_r0 v2172_r0 v2173_r0 v2174_r0 v2175_r0 v2176_r0 v2177_r0 v2178_r0 v2179_r0 v2180_r0 v2181_r0 v2182_r0 v2183_r0 v2184_r0 v2185_r0 v2186_r0 v2187_r0 v2188_r0 v2189_r0 v2190_r0 v2191_r0 v2192_r0
  have hm_k0_mxu30 : AllF k0_mxu30 := AllF.pushed hm_k0_mxu29 _ _ _
  have hm_k0_mxu31 : AllF k0_mxu31 := AllF.pushed hm_k0_mxu30 _ _ _
  refine run_bind (run_part19 _ _ _  ?_)
  intro v2194_r0 v2196_r0 v2204_r0 v2210_r0 v2223_r0 v2229_r0
  refine run_bind (run_part20 _ _ _ _ _ _  ?_)
  intro v2242_r0 v2248_r0 v2261_r0 v2267_r0 v2280_r0
  refine run_bind (run_part21 _ _ _ _ _ _  ?_)
  intro v2286_r0 v2299_r0 v2305_r0 v2318_r0 v2324_r0
  refine run_bind (run_part22 _ _ _ _ _ _ _ _ _ _ _ _  ?_)
  intro v2337_r0 v2343_r0 v2349_r0
  refine run_bind (run_part23 _ _ _ _ _ _ _ _ _ _ _  ?_)
  intro v2410_r0 v2411_r0
  refine run_bind (run_part24 _ _ _ _ _ _  ?_)
  refine run_bind (run_part25 _ _ _ _ _ _ _ _ _  ?_)
  refine run_bind (run_part26 _ _ _ _ _ _ _ _ _ _ _ _ _ _ (in11 (by rw [off38]; rfl) hs4) (in11 (by rw [off42]; rfl) hs4) (in11 (by rw [off46]; rfl) hs4) (in11 (by rw [off50]; rfl) hs4) (in11 (by rw [off40]; rfl) hs4) (in11 (by rw [off44]; rfl) hs4) (in11 (by rw [off48]; rfl) hs4) ?_)
  intro v2520_r0 y11_1 v2526_r0 y11_2 v2532_r0 y11_3 v2538_r0 y11_4 v2544_r0 y11_5 v2550_r0 y11_6 v2556_r0
  refine run_bind (run_part27 _ _ _ _ _ _ _ _ (in11 (by rw [off48]; rfl) hs4) (in11 (by rw [off52]; rfl) hs4) (in5 (by rw [off54]; rfl) rfl hs1x) ?_)
  intro y11_7 v2562_r0 y11_8 v2566_r0 k0_mxu32 k0_mxu33 v2568_r0 v2569_r0 v2570_r0 v2571_r0 v2572_r0 v2573_r0 v2574_r0 v2575_r0 v2576_r0 v2577_r0 v2578_r0 v2579_r0 v2580_r0 v2581_r0 v2582_r0 v2583_r0 v2584_r0 v2585_r0 v2586_r0 v2587_r0 v2588_r0 v2589_r0 v2590_r0 v2591_r0 v2592_r0 v2593_r0 v2594_r0 v2595_r0 v2596_r0
  have hm_k0_mxu32 : AllF k0_mxu32 := AllF.acc hm_k0_mxu31 _ _ _ _ _
  have hm_k0_mxu33 : AllF k0_mxu33 := AllF.acc hm_k0_mxu32 _ _ _ _ _
  refine run_bind (run_part28 _ _ _ _ _ hm_k0_mxu33 (in6 (by rw [off55]; rfl) (by rw [off55]; rfl) rfl rfl hs2) (in5 (by rw [off56]; rfl) rfl hs1x) ?_)
  intro v2600_r0 k0_mxu34 k0_mxu35 v2640_r0 k0_mxu36 k0_mxu37
  have hm_k0_mxu34 : AllF k0_mxu34 := AllF.pushed hm_k0_mxu33 _ _ _
  have hm_k0_mxu35 : AllF k0_mxu35 := AllF.pushed hm_k0_mxu34 _ _ _
  have hm_k0_mxu36 : AllF k0_mxu36 := AllF.acc hm_k0_mxu35 _ _ _ _ _
  have hm_k0_mxu37 : AllF k0_mxu37 := AllF.acc hm_k0_mxu36 _ _ _ _ _
  refine run_bind (run_part29 _ _ _ _ (in6 (by rw [off57]; rfl) (by rw [off57]; rfl) rfl rfl hs2) ?_)
  intro v2674_r0
  refine run_bind (run_part30 _ _ _ _ _ _ _ hm_k0_mxu37 (in5 (by rw [off24]; rfl) rfl hs1x) ?_)
  intro k0_mxu38 k0_mxu39 v2714_r0 k0_mxu40 k0_mxu41 v2716_r0 v2717_r0 v2718_r0 v2719_r0 v2720_r0 v2721_r0 v2722_r0 v2723_r0 v2724_r0 v2725_r0 v2726_r0 v2727_r0
  have hm_k0_mxu38 : AllF k0_mxu38 := AllF.pushed hm_k0_mxu37 _ _ _
  have hm_k0_mxu39 : AllF k0_mxu39 := AllF.pushed hm_k0_mxu38 _ _ _
  have hm_k0_mxu40 : AllF k0_mxu40 := AllF.acc hm_k0_mxu39 _ _ _ _ _
  have hm_k0_mxu41 : AllF k0_mxu41 := AllF.acc hm_k0_mxu40 _ _ _ _ _
  refine run_bind (run_part31 _ _ _ _ (in6 (by rw [off25]; rfl) (by rw [off25]; rfl) rfl rfl hs2) ?_)
  intro v2748_r0
  refine run_bind (run_part32 _ _ _ _ _ _ _ hm_k0_mxu41 (in5 (by rw [off26]; rfl) rfl hs1x) ?_)
  intro k0_mxu42 k0_mxu43 v2788_r0 k0_mxu44 k0_mxu45 v2790_r0 v2791_r0 v2792_r0 v2793_r0 v2794_r0 v2795_r0 v2796_r0 v2797_r0 v2798_r0 v2799_r0 v2800_r0 v2801_r0 v2802_r0 v2803_r0 v2804_r0 v2805_r0 v2806_r0 v2807_r0 v2808_r0 v2809_r0 v2810_r0 v2811_r0 v2812_r0 v2813_r0 v2814_r0
  have hm_k0_mxu42 : AllF k0_mxu42 := AllF.pushed hm_k0_mxu41 _ _ _
  have hm_k0_mxu43 : AllF k0_mxu43 := AllF.pushed hm_k0_mxu42 _ _ _
  have hm_k0_mxu44 : AllF k0_mxu44 := AllF.acc hm_k0_mxu43 _ _ _ _ _
  have hm_k0_mxu45 : AllF k0_mxu45 := AllF.acc hm_k0_mxu44 _ _ _ _ _
  refine run_bind (run_part33 _ _ _ _ _ _ _ hm_k0_mxu45 (in6 (by rw [off27]; rfl) (by rw [off27]; rfl) rfl rfl hs2) ?_)
  intro v2822_r0 k0_mxu46 k0_mxu47 v2861_r0 c0_1235_r0
  have hm_k0_mxu46 : AllF k0_mxu46 := AllF.pushed hm_k0_mxu45 _ _ _
  have hm_k0_mxu47 : AllF k0_mxu47 := AllF.pushed hm_k0_mxu46 _ _ _
  refine run_bind (run_part34 _ _ _ _ (in5 (by rw [off28]; rfl) rfl hs1x) (in6 (by rw [off29]; rfl) (by rw [off29]; rfl) rfl rfl hs2) ?_)
  intro v2862_r0 k0_mxu48 k0_mxu49 v2896_r0
  have hm_k0_mxu48 : AllF k0_mxu48 := AllF.acc hm_k0_mxu47 _ _ _ _ _
  have hm_k0_mxu49 : AllF k0_mxu49 := AllF.acc hm_k0_mxu48 _ _ _ _ _
  refine run_bind (run_part35 _ _ _ _ _ _ _ hm_k0_mxu49 (in5 (by rw [off32]; rfl) rfl hs1x) ?_)
  intro k0_mxu50 k0_mxu51 v2936_r0 k0_mxu52 k0_mxu53 v2938_r0 v2939_r0 v2940_r0 v2941_r0 v2942_r0 v2943_r0 v2944_r0
  have hm_k0_mxu50 : AllF k0_mxu50 := AllF.pushed hm_k0_mxu49 _ _ _
  have hm_k0_mxu51 : AllF k0_mxu51 := AllF.pushed hm_k0_mxu50 _ _ _
  have hm_k0_mxu52 : AllF k0_mxu52 := AllF.acc hm_k0_mxu51 _ _ _ _ _
  have hm_k0_mxu53 : AllF k0_mxu53 := AllF.acc hm_k0_mxu52 _ _ _ _ _
  refine run_bind (run_part36 _ _ _ _ _ _ _ (in6 (by rw [off33]; rfl) (by rw [off33]; rfl) rfl rfl hs2) ?_)
  intro v2970_r0
  refine run_bind (run_part37 _ _ _ _ _ _ _ hm_k0_mxu53 (in5 (by rw [off34]; rfl) rfl hs1x) ?_)
  intro k0_mxu54 k0_mxu55 v3010_r0 k0_mxu56 k0_mxu57 v3012_r0 v3013_r0 v3014_r0 v3015_r0 v3016_r0 v3017_r0 v3018_r0 v3019_r0 v3020_r0 v3021_r0 v3022_r0 v3023_r0 v3024_r0 v3025_r0 v3026_r0 v3027_r0 v3028_r0 v3029_r0 v3030_r0 v3031_r0
  have hm_k0_mxu54 : AllF k0_mxu54 := AllF.pushed hm_k0_mxu53 _ _ _
  have hm_k0_mxu55 : AllF k0_mxu55 := AllF.pushed hm_k0_mxu54 _ _ _
  have hm_k0_mxu56 : AllF k0_mxu56 := AllF.acc hm_k0_mxu55 _ _ _ _ _
  have hm_k0_mxu57 : AllF k0_mxu57 := AllF.acc hm_k0_mxu56 _ _ _ _ _
  refine run_bind (run_part38 _ _ _ _ _ _ _ _ (in6 (by rw [off35]; rfl) (by rw [off35]; rfl) rfl rfl hs2) ?_)
  intro v3044_r0
  refine run_bind (run_part39 _ _ _ _ _ _ _ _ hm_k0_mxu57 (in5 (by rw [off54]; rfl) rfl hs1x) ?_)
  intro k0_mxu58 k0_mxu59 v3085_r0 v3089_r0 k0_mxu60 v3092_r0 y10_3 v3096_r0 v3100_r0 k0_mxu61 v3103_r0 y10_4 v3107_r0 k0_mxu62 k0_mxu63 v3109_r0 v3110_r0 v3111_r0 v3112_r0 v3113_r0
  have hm_k0_mxu58 : AllF k0_mxu58 := AllF.pushed hm_k0_mxu57 _ _ _
  have hm_k0_mxu59 : AllF k0_mxu59 := AllF.pushed hm_k0_mxu58 _ _ _
  have hm_k0_mxu60 : AllF k0_mxu60 := AllF.pop hm_k0_mxu59 _ _ _ _
  have hm_k0_mxu61 : AllF k0_mxu61 := AllF.pop hm_k0_mxu60 _ _ _ _
  have hm_k0_mxu62 : AllF k0_mxu62 := AllF.acc hm_k0_mxu61 _ _ _ _ _
  have hm_k0_mxu63 : AllF k0_mxu63 := AllF.acc hm_k0_mxu62 _ _ _ _ _
  refine run_bind (run_part40 _ _ _ _ _ _ _ _ (in6 (by rw [off55]; rfl) (by rw [off55]; rfl) rfl rfl hs2) ?_)
  intro v3141_r0
  refine run_bind (run_part41 _ _ _ _ _ _ _ hm_k0_mxu63 (in5 (by rw [off56]; rfl) rfl hs1x) ?_)
  intro k0_mxu64 k0_mxu65 v3181_r0 k0_mxu66 k0_mxu67 v3183_r0 v3184_r0 v3185_r0 v3186_r0 v3187_r0 v3188_r0 v3189_r0 v3190_r0 v3191_r0 v3192_r0 v3193_r0 v3194_r0 v3195_r0 v3196_r0 v3197_r0 v3198_r0 v3199_r0 v3200_r0
  have hm_k0_mxu64 : AllF k0_mxu64 := AllF.pushed hm_k0_mxu63 _ _ _
  have hm_k0_mxu65 : AllF k0_mxu65 := AllF.pushed hm_k0_mxu64 _ _ _
  have hm_k0_mxu66 : AllF k0_mxu66 := AllF.acc hm_k0_mxu65 _ _ _ _ _
  have hm_k0_mxu67 : AllF k0_mxu67 := AllF.acc hm_k0_mxu66 _ _ _ _ _
  refine run_bind (run_part42 _ _ _ _ _ _ _ _ (in6 (by rw [off60]; rfl) (by rw [off60]; rfl) rfl rfl hs3) ?_)
  intro v3215_r0
  refine run_bind (run_push (AllF.ok hm_k0_mxu67 _ _) ?_)
  refine run_bind (run_push (AllF.ok (AllF.pushed hm_k0_mxu67 _ _ _) _ _) (run_pure ?_))
  exact h

end

end Cert.Kernel.Hand
-- ==== Proof.MxuSpec.lean ====
module

public import Idealize.ShloMosaic.Lib.Mxu.Lemmas

@[expose] public section

noncomputable section

namespace Cert.MxuSpec

open Idealize.ShloMosaic

variable {F : FTy → Type} [FloatOps F]

theorem f0 : Mxu.Fits 0 96 := by decide
theorem f24 : Mxu.Fits 24 96 := by decide

abbrev Acc (F : FTy → Type) := FVec F (Mxu.STile 96) .f32

def up2 {α : Type} (g : Fin 2 → Fin 2 → α) (q r : Fin 2) (x : α) : Fin 2 → Fin 2 → α := fun q' r' => if q' = q ∧ r' = r then x else g q' r'
def up1 {α : Type} (g : Fin 2 → α) (q : Fin 2) (x : α) : Fin 2 → α := fun q' => if q' = q then x else g q'
/-- A pass deposited: alone where nothing is live, added to what is there where it is. -/
def dep (o : Option (Acc F)) (p : Acc F) : Acc F := match o with | none => p | some e => addf e p

/-- The state of the matrix unit: the tiles staged in its registers, and the two accumulators of
    each unit, live or not. -/
structure MS (s : Mxu F) (g : Fin 2 → Fin 2 → Option (Mxu.Staged F)) (a b : Fin 2 → Option (Acc F)) : Prop where
  reg : ∀ q r, s.reg q r = g q r
  aS : ∀ q v, a q = some v → (∀ r : Fin 96, s.live q (Mxu.row f0 r) = true) ∧ s.read q 0 f0 = v
  aN : ∀ q, a q = none → ∀ r : Fin 96, s.live q (Mxu.row f0 r) = false
  bS : ∀ q v, b q = some v → (∀ r : Fin 96, s.live q (Mxu.row f24 r) = true) ∧ s.read q 24 f24 = v
  bN : ∀ q, b q = none → ∀ r : Fin 96, s.live q (Mxu.row f24 r) = false
  out : ∀ q R, s.live q R = true → R.val < 192

variable {s : Mxu F} {g g' : Fin 2 → Fin 2 → Option (Mxu.Staged F)} {a b a' b' : Fin 2 → Option (Acc F)}

theorem MS.conv (h : MS s g a b) (hg : ∀ q r, g q r = g' q r) (ha : ∀ q, a q = a' q) (hb : ∀ q, b q = b' q) : MS s g' a' b' := by
  obtain rfl : g = g' := funext fun q => funext fun r => hg q r
  obtain rfl : a = a' := funext ha
  obtain rfl : b = b' := funext hb
  exact h

theorem MS.init : MS (Mxu.init : Mxu F) (fun _ _ => none) (fun _ => none) (fun _ => none) where
  reg q r := Mxu.reg_init _ _
  aS q v h := by simp at h
  aN q _ r := rfl
  bS q v h := by simp at h
  bN q _ r := rfl
  out q R h := by simp at h

theorem MS.push (h : MS s g a b) (q r : Fin 2) (hn : g q r = none) {φ : FTy} (v : FVec F (Mxu.STile 256) φ) :
    MS (s.pushed q r false v) (up2 g q r (some ⟨φ, false, v⟩)) a b where
  reg q' r' := by
    by_cases hq : q' = q ∧ r' = r
    · obtain ⟨rfl, rfl⟩ := hq
      rw [Mxu.reg_pushed_of_none _ _ _ _ _ ((h.reg _ _).trans hn)]; simp [up2]
    · rw [Mxu.reg_pushed_ne _ _ _ _ _ _ _ hq, h.reg]; simp [up2, hq]
  aS q' v' e := by rw [Mxu.live_pushed, Mxu.read_pushed]; exact h.aS q' v' e
  aN q' e := by rw [Mxu.live_pushed]; exact h.aN q' e
  bS q' v' e := by rw [Mxu.live_pushed, Mxu.read_pushed]; exact h.bS q' v' e
  bN q' e := by rw [Mxu.live_pushed]; exact h.bN q' e
  out q' R e := by rw [Mxu.live_pushed] at e; exact h.out q' R e

theorem staged_of {q r : Fin 2} {t : Mxu.Staged F} (h : s.reg q r = some t) : s.staged q r = t := by
  simp [Mxu.staged, h]

theorem MS.accA (h : MS s g a b) (q r : Fin 2) {t : Mxu.Staged F} (ht : g q r = some t) {φ : FTy} (lhs : FVec F (Mxu.STile 96) φ) (hf : Mxu.Fits 0 96) :
    MS (s.accLhs q r 0 lhs hf) (up2 g q r none) (up1 a q (some (dep (a q) (t.pass lhs)))) b where
  reg q' r' := by
    by_cases hq : q' = q ∧ r' = r
    · obtain ⟨rfl, rfl⟩ := hq
      rw [Mxu.reg_accLhs]; simp [up2]
    · rw [Mxu.reg_accLhs_ne _ _ _ _ _ _ _ _ hq, h.reg]; simp [up2, hq]
  aS q' v e := by
    by_cases hq : q' = q
    · subst hq
      refine ⟨fun r' => Mxu.live_accLhs_row _ _ _ _ _ _ _, ?_⟩
      simp only [up1, if_true, Option.some.injEq] at e
      rw [← e]
      cases ha : a q' with
      | none => rw [Mxu.read_accLhs_of_not_live _ _ _ _ _ _ (h.aN q' ha), staged_of ((h.reg _ _).trans ht)]; rfl
      | some x => rw [Mxu.read_accLhs_of_live _ _ _ _ _ _ (h.aS q' x ha).1, (h.aS q' x ha).2, staged_of ((h.reg _ _).trans ht)]; rfl
    · simp only [up1, if_neg hq] at e
      rw [Mxu.read_accLhs_ne _ _ _ _ _ _ _ _ _ (Or.inl hq)]
      refine ⟨fun r' => ?_, (h.aS q' v e).2⟩
      rw [Mxu.live_accLhs, if_neg (fun x => hq x.1)]; exact (h.aS q' v e).1 r'
  aN q' e r' := by
    by_cases hq : q' = q
    · subst hq; simp [up1] at e
    · simp only [up1, if_neg hq] at e
      rw [Mxu.live_accLhs, if_neg (fun x => hq x.1)]; exact h.aN q' e r'
  bS q' v e := by
    rw [Mxu.read_accLhs_ne _ _ _ _ _ _ _ _ _ (Or.inr (Or.inr (by decide)))]
    refine ⟨fun r' => ?_, (h.bS q' v e).2⟩
    rw [Mxu.live_accLhs]; split
    · rfl
    · exact (h.bS q' v e).1 r'
  bN q' e r' := by
    have hr : r'.val < 96 := r'.isLt
    rw [Mxu.live_accLhs, if_neg (fun x => by have := x.2.2; change 4 * 24 + r'.val < 4 * 0 + 96 at this; omega)]; exact h.bN q' e r'
  out q' R e := by
    rw [Mxu.live_accLhs] at e
    split at e
    · rename_i x; omega
    · exact h.out q' R e

theorem MS.accB (h : MS s g a b) (q r : Fin 2) {t : Mxu.Staged F} (ht : g q r = some t) {φ : FTy} (lhs : FVec F (Mxu.STile 96) φ) (hf : Mxu.Fits 24 96) :
    MS (s.accLhs q r 24 lhs hf) (up2 g q r none) a (up1 b q (some (dep (b q) (t.pass lhs)))) where
  reg q' r' := by
    by_cases hq : q' = q ∧ r' = r
    · obtain ⟨rfl, rfl⟩ := hq
      rw [Mxu.reg_accLhs]; simp [up2]
    · rw [Mxu.reg_accLhs_ne _ _ _ _ _ _ _ _ hq, h.reg]; simp [up2, hq]
  bS q' v e := by
    by_cases hq : q' = q
    · subst hq
      refine ⟨fun r' => Mxu.live_accLhs_row _ _ _ _ _ _ _, ?_⟩
      simp only [up1, if_true, Option.some.injEq] at e
      rw [← e]
      cases ha : b q' with
      | none => rw [Mxu.read_accLhs_of_not_live _ _ _ _ _ _ (h.bN q' ha), staged_of ((h.reg _ _).trans ht)]; rfl
      | some x => rw [Mxu.read_accLhs_of_live _ _ _ _ _ _ (h.bS q' x ha).1, (h.bS q' x ha).2, staged_of ((h.reg _ _).trans ht)]; rfl
    · simp only [up1, if_neg hq] at e
      rw [Mxu.read_accLhs_ne _ _ _ _ _ _ _ _ _ (Or.inl hq)]
      refine ⟨fun r' => ?_, (h.bS q' v e).2⟩
      rw [Mxu.live_accLhs, if_neg (fun x => hq x.1)]; exact (h.bS q' v e).1 r'
  bN q' e r' := by
    by_cases hq : q' = q
    · subst hq; simp [up1] at e
    · simp only [up1, if_neg hq] at e
      rw [Mxu.live_accLhs, if_neg (fun x => hq x.1)]; exact h.bN q' e r'
  aS q' v e := by
    rw [Mxu.read_accLhs_ne _ _ _ _ _ _ _ _ _ (Or.inr (Or.inl (by decide)))]
    refine ⟨fun r' => ?_, (h.aS q' v e).2⟩
    rw [Mxu.live_accLhs]; split
    · rfl
    · exact (h.aS q' v e).1 r'
  aN q' e r' := by
    have hr : r'.val < 96 := r'.isLt
    rw [Mxu.live_accLhs, if_neg (fun x => by have := x.2.1; change 4 * 24 ≤ 4 * 0 + r'.val at this; omega)]; exact h.aN q' e r'
  out q' R e := by
    rw [Mxu.live_accLhs] at e
    split at e
    · rename_i x; omega
    · exact h.out q' R e

theorem MS.popA (h : MS s g a b) (q : Fin 2) (hf : Mxu.Fits 0 96) : MS (s.pop q 0 96 hf) g (up1 a q none) b where
  reg q' r' := by rw [Mxu.reg_pop]; exact h.reg q' r'
  aS q' v e := by
    by_cases hq : q' = q
    · subst hq; simp [up1] at e
    · simp only [up1, if_neg hq] at e
      rw [Mxu.read_pop_ne _ _ _ _ _ _ _ (Or.inl hq)]
      refine ⟨fun r' => ?_, (h.aS q' v e).2⟩
      rw [Mxu.live_pop, if_neg (fun x => hq x.1)]; exact (h.aS q' v e).1 r'
  aN q' e r' := by
    rw [Mxu.live_pop]; split
    · rfl
    · rename_i hx
      have hr : r'.val < 96 := r'.isLt
      by_cases hq : q' = q
      · exact absurd ⟨hq, by change 4 * 0 ≤ 4 * 0 + r'.val; omega, by change 4 * 0 + r'.val < 4 * 0 + 96; omega⟩ hx
      · simp only [up1, if_neg hq] at e
        exact h.aN q' e r'
  bS q' v e := by
    rw [Mxu.read_pop_ne _ _ _ _ _ _ _ (Or.inr (Or.inr (by decide)))]
    refine ⟨fun r' => ?_, (h.bS q' v e).2⟩
    have hr : r'.val < 96 := r'.isLt
    rw [Mxu.live_pop, if_neg (fun x => by have := x.2.2; change 4 * 24 + r'.val < 4 * 0 + 96 at this; omega)]; exact (h.bS q' v e).1 r'
  bN q' e r' := by
    rw [Mxu.live_pop]; split
    · rfl
    · exact h.bN q' e r'
  out q' R e := by
    rw [Mxu.live_pop] at e
    split at e
    · simp at e
    · exact h.out q' R e

theorem MS.popB (h : MS s g a b) (q : Fin 2) (hf : Mxu.Fits 24 96) : MS (s.pop q 24 96 hf) g a (up1 b q none) where
  reg q' r' := by rw [Mxu.reg_pop]; exact h.reg q' r'
  bS q' v e := by
    by_cases hq : q' = q
    · subst hq; simp [up1] at e
    · simp only [up1, if_neg hq] at e
      rw [Mxu.read_pop_ne _ _ _ _ _ _ _ (Or.inl hq)]
      refine ⟨fun r' => ?_, (h.bS q' v e).2⟩
      rw [Mxu.live_pop, if_neg (fun x => hq x.1)]; exact (h.bS q' v e).1 r'
  bN q' e r' := by
    rw [Mxu.live_pop]; split
    · rfl
    · rename_i hx
      have hr : r'.val < 96 := r'.isLt
      by_cases hq : q' = q
      · exact absurd ⟨hq, by change 4 * 24 ≤ 4 * 24 + r'.val; omega, by change 4 * 24 + r'.val < 4 * 24 + 96; omega⟩ hx
      · simp only [up1, if_neg hq] at e
        exact h.bN q' e r'
  aS q' v e := by
    rw [Mxu.read_pop_ne _ _ _ _ _ _ _ (Or.inr (Or.inl (by decide)))]
    refine ⟨fun r' => ?_, (h.aS q' v e).2⟩
    have hr : r'.val < 96 := r'.isLt
    rw [Mxu.live_pop, if_neg (fun x => by have := x.2.1; change 4 * 24 ≤ 4 * 0 + r'.val at this; omega)]; exact (h.aS q' v e).1 r'
  aN q' e r' := by
    rw [Mxu.live_pop]; split
    · rfl
    · exact h.aN q' e r'
  out q' R e := by
    rw [Mxu.live_pop] at e
    split at e
    · simp at e
    · exact h.out q' R e

theorem MS.drained (h : MS s (fun _ _ => none) (fun _ => none) (fun _ => none)) : s.Drained := by
  refine ⟨fun q r => by rw [h.reg]; rfl, fun q R => ?_⟩
  by_contra hl
  have hl' : s.live q R = true := by simpa using hl
  have hR := h.out q R hl'
  by_cases h9 : R.val < 96
  · have := h.aN q rfl ⟨R.val, h9⟩
    rw [show Mxu.row f0 (⟨R.val, h9⟩ : Fin 96) = R from Fin.ext (by change 4 * 0 + R.val = R.val; omega)] at this
    exact hl this
  · have := h.bN q rfl ⟨R.val - 96, by omega⟩
    rw [show Mxu.row f24 (⟨R.val - 96, by omega⟩ : Fin 96) = R from Fin.ext (by change 4 * 24 + (R.val - 96) = R.val; omega)] at this
    exact hl this

/-- A right-hand tile of each unit. -/
abbrev Tl (F : FTy → Type) := Fin 2 → FVec F (Mxu.STile 256) .bf16
/-- The pass of a left-hand value by a tile. -/
def mp {φ : FTy} (w : FVec F (Mxu.STile 256) .bf16) (x : FVec F (Mxu.STile 96) φ) : Acc F := (⟨.bf16, false, w⟩ : Mxu.Staged F).pass x

def rg (r0 r1 : Option (Tl F)) : Fin 2 → Fin 2 → Option (Mxu.Staged F) := fun q r => (if r = 0 then r0 else r1).map fun w => ⟨.bf16, false, w q⟩
def ac (a : Option (Fin 2 → Acc F)) : Fin 2 → Option (Acc F) := fun q => a.map fun e => e q

/-- Both units in step: the tiles staged in the two registers, and the two accumulators. -/
def St (s : Mxu F) (r0 r1 : Option (Tl F)) (a b : Option (Fin 2 → Acc F)) : Prop := MS s (rg r0 r1) (ac a) (ac b)

variable {r0 r1 : Option (Tl F)} {A B : Option (Fin 2 → Acc F)} {w : Tl F} {e : Fin 2 → Acc F}

theorem St.push0 (h : St s none r1 A B) (v v' : FVec F (Mxu.STile 256) .bf16) :
    St ((s.pushed 0 0 false v).pushed 1 0 false v') (some ![v, v']) r1 A B := by
  refine MS.conv (MS.push (MS.push h 0 0 rfl v) 1 0 rfl v') (fun q r => ?_) (fun q => ?_) (fun q => ?_)
  · fin_cases q <;> (try fin_cases r) <;> rfl
  · fin_cases q <;> rfl
  · fin_cases q <;> rfl

theorem St.push1 (h : St s r0 none A B) (v v' : FVec F (Mxu.STile 256) .bf16) :
    St ((s.pushed 0 1 false v).pushed 1 1 false v') r0 (some ![v, v']) A B := by
  refine MS.conv (MS.push (MS.push h 0 1 rfl v) 1 1 rfl v') (fun q r => ?_) (fun q => ?_) (fun q => ?_)
  · fin_cases q <;> (try fin_cases r) <;> rfl
  · fin_cases q <;> rfl
  · fin_cases q <;> rfl

theorem St.accA0n (h : St s (some w) r1 none B) {φ : FTy} (x : FVec F (Mxu.STile 96) φ) (hf : Mxu.Fits 0 96) :
    St ((s.accLhs 0 0 0 x hf).accLhs 1 0 0 x hf) none r1 (some fun q => mp (w q) x) B := by
  refine MS.conv (MS.accA (MS.accA h 0 0 rfl x hf) 1 0 rfl x hf) (fun q r => ?_) (fun q => ?_) (fun q => ?_)
  · fin_cases q <;> (try fin_cases r) <;> rfl
  · fin_cases q <;> rfl
  · fin_cases q <;> rfl

theorem St.accA0s (h : St s (some w) r1 (some e) B) {φ : FTy} (x : FVec F (Mxu.STile 96) φ) (hf : Mxu.Fits 0 96) :
    St ((s.accLhs 0 0 0 x hf).accLhs 1 0 0 x hf) none r1 (some fun q => addf (e q) (mp (w q) x)) B := by
  refine MS.conv (MS.accA (MS.accA h 0 0 rfl x hf) 1 0 rfl x hf) (fun q r => ?_) (fun q => ?_) (fun q => ?_)
  · fin_cases q <;> (try fin_cases r) <;> rfl
  · fin_cases q <;> rfl
  · fin_cases q <;> rfl

theorem St.accB0n (h : St s (some w) r1 A none) {φ : FTy} (x : FVec F (Mxu.STile 96) φ) (hf : Mxu.Fits 24 96) :
    St ((s.accLhs 0 0 24 x hf).accLhs 1 0 24 x hf) none r1 A (some fun q => mp (w q) x) := by
  refine MS.conv (MS.accB (MS.accB h 0 0 rfl x hf) 1 0 rfl x hf) (fun q r => ?_) (fun q => ?_) (fun q => ?_)
  · fin_cases q <;> (try fin_cases r) <;> rfl
  · fin_cases q <;> rfl
  · fin_cases q <;> rfl

theorem St.accB0s (h : St s (some w) r1 A (some e)) {φ : FTy} (x : FVec F (Mxu.STile 96) φ) (hf : Mxu.Fits 24 96) :
    St ((s.accLhs 0 0 24 x hf).accLhs 1 0 24 x hf) none r1 A (some fun q => addf (e q) (mp (w q) x)) := by
  refine MS.conv (MS.accB (MS.accB h 0 0 rfl x hf) 1 0 rfl x hf) (fun q r => ?_) (fun q => ?_) (fun q => ?_)
  · fin_cases q <;> (try fin_cases r) <;> rfl
  · fin_cases q <;> rfl
  · fin_cases q <;> rfl

theorem St.accA1n (h : St s r0 (some w) none B) {φ : FTy} (x : FVec F (Mxu.STile 96) φ) (hf : Mxu.Fits 0 96) :
    St ((s.accLhs 0 1 0 x hf).accLhs 1 1 0 x hf) r0 none (some fun q => mp (w q) x) B := by
  refine MS.conv (MS.accA (MS.accA h 0 1 rfl x hf) 1 1 rfl x hf) (fun q r => ?_) (fun q => ?_) (fun q => ?_)
  · fin_cases q <;> (try fin_cases r) <;> rfl
  · fin_cases q <;> rfl
  · fin_cases q <;> rfl

theorem St.accA1s (h : St s r0 (some w) (some e) B) {φ : FTy} (x : FVec F (Mxu.STile 96) φ) (hf : Mxu.Fits 0 96) :
    St ((s.accLhs 0 1 0 x hf).accLhs 1 1 0 x hf) r0 none (some fun q => addf (e q) (mp (w q) x)) B := by
  refine MS.conv (MS.accA (MS.accA h 0 1 rfl x hf) 1 1 rfl x hf) (fun q r => ?_) (fun q => ?_) (fun q => ?_)
  · fin_cases q <;> (try fin_cases r) <;> rfl
  · fin_cases q <;> rfl
  · fin_cases q <;> rfl

theorem St.accB1n (h : St s r0 (some w) A none) {φ : FTy} (x : FVec F (Mxu.STile 96) φ) (hf : Mxu.Fits 24 96) :
    St ((s.accLhs 0 1 24 x hf).accLhs 1 1 24 x hf) r0 none A (some fun q => mp (w q) x) := by
  refine MS.conv (MS.accB (MS.accB h 0 1 rfl x hf) 1 1 rfl x hf) (fun q r => ?_) (fun q => ?_) (fun q => ?_)
  · fin_cases q <;> (try fin_cases r) <;> rfl
  · fin_cases q <;> rfl
  · fin_cases q <;> rfl

theorem St.accB1s (h : St s r0 (some w) A (some e)) {φ : FTy} (x : FVec F (Mxu.STile 96) φ) (hf : Mxu.Fits 24 96) :
    St ((s.accLhs 0 1 24 x hf).accLhs 1 1 24 x hf) r0 none A (some fun q => addf (e q) (mp (w q) x)) := by
  refine MS.conv (MS.accB (MS.accB h 0 1 rfl x hf) 1 1 rfl x hf) (fun q r => ?_) (fun q => ?_) (fun q => ?_)
  · fin_cases q <;> (try fin_cases r) <;> rfl
  · fin_cases q <;> rfl
  · fin_cases q <;> rfl

theorem St.popA (h : St s r0 r1 (some e) B) (hf : Mxu.Fits 0 96) :
    St ((s.pop 0 0 96 hf).pop 1 0 96 hf) r0 r1 none B := by
  refine MS.conv (MS.popA (MS.popA h 0 hf) 1 hf) (fun q r => ?_) (fun q => ?_) (fun q => ?_)
  · fin_cases q <;> (try fin_cases r) <;> rfl
  · fin_cases q <;> rfl
  · fin_cases q <;> rfl

theorem St.readA (h : St s r0 r1 (some e) B) (hf : Mxu.Fits 0 96) : s.read 0 0 hf = e 0 ∧ (s.pop 0 0 96 hf).read 1 0 hf = e 1 :=
  ⟨(MS.aS h 0 _ rfl).2, (MS.aS (MS.popA h 0 hf) 1 _ rfl).2⟩

theorem St.popB (h : St s r0 r1 A (some e)) (hf : Mxu.Fits 24 96) :
    St ((s.pop 0 24 96 hf).pop 1 24 96 hf) r0 r1 A none := by
  refine MS.conv (MS.popB (MS.popB h 0 hf) 1 hf) (fun q r => ?_) (fun q => ?_) (fun q => ?_)
  · fin_cases q <;> (try fin_cases r) <;> rfl
  · fin_cases q <;> rfl
  · fin_cases q <;> rfl

theorem St.readB (h : St s r0 r1 A (some e)) (hf : Mxu.Fits 24 96) : s.read 0 24 hf = e 0 ∧ (s.pop 0 24 96 hf).read 1 24 hf = e 1 :=
  ⟨(MS.bS h 0 _ rfl).2, (MS.bS (MS.popB h 0 hf) 1 _ rfl).2⟩

theorem St.init : St (Mxu.init : Mxu F) none none none none :=
  MS.init.conv (fun _ r => by fin_cases r <;> rfl) (fun _ => rfl) (fun _ => rfl)

theorem St.drained (h : St s none none none none) : s.Drained :=
  MS.drained (h.conv (fun _ r => by fin_cases r <;> rfl) (fun _ => rfl) (fun _ => rfl))

/-- The state at the head of a trip: the first tile of the trip staged, the second half's sum of the trip before live. -/
def Head (s : Mxu F) (w : Tl F) (v : Fin 2 → Acc F) : Prop := St s (some w) none none (some v)

end Cert.MxuSpec
-- ==== Proof.Kernel.TripShape.lean ====
module

public import proofs.«01_k».proof.Proof.Kernel.Trip
public import proofs.«01_k».proof.Proof.MxuSpec

@[expose] public section

noncomputable section

namespace Cert.Kernel.Hand

open Cert.Kernel Cert.Kernel.Gen Cert.Schedule
open Idealize.ShloMosaic Idealize.ShloMosaic.TcCoe Idealize.ShloMosaic.Tactic
open Cert.MxuSpec
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD}

set_option maxHeartbeats 8000000 in
theorem trip_cases {f5 : Bf F c M5} {f6 : Bf F c M6} {f7 : Bf F c M7} {f8 : Bf F c M8} {k0_t1 : Fin k0_t1_loop.trips} {k0_mxu8 : Mxu F}
    {f9 : Bf F c M9} {f10 : Bf F c M10} {f11 : Bf F c M11} {P : Out F c → Prop} (h :
  let arg16_r0 : BitVec 32 := Scf.iv 0#32 1#32 k0_t1;
  let v1532_r0 : BitVec 1 := Scalar.cmpi .slt arg16_r0 12#32;
  let v1533_r0 : BitVec 1 := Scalar.cmpi .eq 3#32 0#32;
  let v1534_r0 : BitVec 32 := Scalar.select v1533_r0 1#32 3#32;
  let v1535_r0 : BitVec 32 := Scalar.remsi arg16_r0 v1534_r0;
  let v1536_r0 : BitVec 1 := Scalar.cmpi .ne v1535_r0 0#32;
  let v1537_r0 : BitVec 1 := Scalar.cmpi .slt v1535_r0 0#32;
  let v1538_r0 : BitVec 1 := Scalar.cmpi .slt v1534_r0 0#32;
  let v1539_r0 : BitVec 1 := Scalar.xori v1537_r0 v1538_r0;
  let v1540_r0 : BitVec 1 := Scalar.andi v1539_r0 v1536_r0;
  let v1541_r0 : BitVec 32 := Scalar.addi v1535_r0 v1534_r0;
  let v1542_r0 : BitVec 32 := Scalar.select v1540_r0 v1541_r0 v1535_r0;
  let v1543_r0 : BitVec 32 := Scalar.divsi arg16_r0 4#32;
  let v1544_r0 : BitVec 1 := Scalar.cmpi .sgt arg16_r0 0#32;
  let v1545_r0 : BitVec 32 := Scalar.extui v1544_r0;
  let v1546_r0 : BitVec 1 := Scalar.cmpi .slt arg16_r0 0#32;
  let v1547_r0 : BitVec 32 := Scalar.extui v1546_r0;
  let v1548_r0 : BitVec 32 := Scalar.subi v1545_r0 v1547_r0;
  let v1549_r0 : BitVec 1 := Scalar.cmpi .sgt 4#32 0#32;
  let v1550_r0 : BitVec 32 := Scalar.extui v1549_r0;
  let v1551_r0 : BitVec 1 := Scalar.cmpi .slt 4#32 0#32;
  let v1552_r0 : BitVec 32 := Scalar.extui v1551_r0;
  let v1553_r0 : BitVec 32 := Scalar.subi v1550_r0 v1552_r0;
  let v1554_r0 : BitVec 1 := Scalar.cmpi .ne v1548_r0 v1553_r0;
  let v1555_r0 : BitVec 32 := Scalar.remsi arg16_r0 4#32;
  let v1556_r0 : BitVec 1 := Scalar.cmpi .ne v1555_r0 0#32;
  let v1557_r0 : BitVec 1 := Scalar.andi v1554_r0 v1556_r0;
  let v1558_r0 : BitVec 32 := Scalar.subi v1543_r0 1#32;
  let v1559_r0 : BitVec 32 := Scalar.select v1557_r0 v1558_r0 v1543_r0;
  let v1560_r0 : BitVec 32 := Scalar.select v1532_r0 v1542_r0 v1559_r0;
  let v1561_r0 : BitVec 32 := Scalar.divsi arg16_r0 3#32;
  let v1562_r0 : BitVec 1 := Scalar.cmpi .sgt arg16_r0 0#32;
  let v1563_r0 : BitVec 32 := Scalar.extui v1562_r0;
  let v1564_r0 : BitVec 1 := Scalar.cmpi .slt arg16_r0 0#32;
  let v1565_r0 : BitVec 32 := Scalar.extui v1564_r0;
  let v1566_r0 : BitVec 32 := Scalar.subi v1563_r0 v1565_r0;
  let v1567_r0 : BitVec 1 := Scalar.cmpi .sgt 3#32 0#32;
  let v1568_r0 : BitVec 32 := Scalar.extui v1567_r0;
  let v1569_r0 : BitVec 1 := Scalar.cmpi .slt 3#32 0#32;
  let v1570_r0 : BitVec 32 := Scalar.extui v1569_r0;
  let v1571_r0 : BitVec 32 := Scalar.subi v1568_r0 v1570_r0;
  let c3_i32_777_r0 := 3#32;
  let v1572_r0 : BitVec 1 := Scalar.cmpi .ne v1566_r0 v1571_r0;
  let v1573_r0 : BitVec 32 := Scalar.remsi arg16_r0 c3_i32_777_r0;
  let v1574_r0 : BitVec 1 := Scalar.cmpi .ne v1573_r0 0#32;
  let v1575_r0 : BitVec 1 := Scalar.andi v1572_r0 v1574_r0;
  let v1576_r0 : BitVec 32 := Scalar.subi v1561_r0 1#32;
  let v1577_r0 : BitVec 32 := Scalar.select v1575_r0 v1576_r0 v1561_r0;
  let v1578_r0 : BitVec 1 := Scalar.cmpi .eq 4#32 0#32;
  let v1579_r0 : BitVec 32 := Scalar.select v1578_r0 1#32 4#32;
  let v1580_r0 : BitVec 32 := Scalar.remsi arg16_r0 v1579_r0;
  let v1581_r0 : BitVec 1 := Scalar.cmpi .ne v1580_r0 0#32;
  let v1582_r0 : BitVec 1 := Scalar.cmpi .slt v1580_r0 0#32;
  let v1583_r0 : BitVec 1 := Scalar.cmpi .slt v1579_r0 0#32;
  let v1584_r0 : BitVec 1 := Scalar.xori v1582_r0 v1583_r0;
  let v1585_r0 : BitVec 1 := Scalar.andi v1584_r0 v1581_r0;
  let v1586_r0 : BitVec 32 := Scalar.addi v1580_r0 v1579_r0;
  let v1587_r0 : BitVec 32 := Scalar.select v1585_r0 v1586_r0 v1580_r0;
  let v1588_r0 : BitVec 32 := Scalar.select v1532_r0 v1577_r0 v1587_r0;
  let v1589_r0 : BitVec 32 := Scalar.subi arg16_r0 1#32;
  let v1590_r0 : BitVec 32 := Scalar.maxsi v1589_r0 0#32;
  let v1591_r0 : BitVec 1 := Scalar.cmpi .slt v1590_r0 12#32;
  let v1592_r0 : BitVec 1 := Scalar.cmpi .eq 3#32 0#32;
  let v1593_r0 : BitVec 32 := Scalar.select v1592_r0 1#32 3#32;
  let v1594_r0 : BitVec 32 := Scalar.remsi v1590_r0 v1593_r0;
  let v1595_r0 : BitVec 1 := Scalar.cmpi .ne v1594_r0 0#32;
  let v1596_r0 : BitVec 1 := Scalar.cmpi .slt v1594_r0 0#32;
  let v1597_r0 : BitVec 1 := Scalar.cmpi .slt v1593_r0 0#32;
  let v1598_r0 : BitVec 1 := Scalar.xori v1596_r0 v1597_r0;
  let v1599_r0 : BitVec 1 := Scalar.andi v1598_r0 v1595_r0;
  let v1600_r0 : BitVec 32 := Scalar.addi v1594_r0 v1593_r0;
  let v1601_r0 : BitVec 32 := Scalar.select v1599_r0 v1600_r0 v1594_r0;
  let v1602_r0 : BitVec 32 := Scalar.divsi v1590_r0 4#32;
  let v1603_r0 : BitVec 1 := Scalar.cmpi .sgt v1590_r0 0#32;
  let v1604_r0 : BitVec 32 := Scalar.extui v1603_r0;
  let v1605_r0 : BitVec 1 := Scalar.cmpi .slt v1590_r0 0#32;
  let v1606_r0 : BitVec 32 := Scalar.extui v1605_r0;
  let v1607_r0 : BitVec 32 := Scalar.subi v1604_r0 v1606_r0;
  let v1608_r0 : BitVec 1 := Scalar.cmpi .sgt 4#32 0#32;
  let v1609_r0 : BitVec 32 := Scalar.extui v1608_r0;
  let c4_i32_799_r0 := 4#32;
  let c0_i32_803_r0 := 0#32;
  let v1610_r0 : BitVec 1 := Scalar.cmpi .slt c4_i32_799_r0 c0_i32_803_r0;
  let v1611_r0 : BitVec 32 := Scalar.extui v1610_r0;
  let v1612_r0 : BitVec 32 := Scalar.subi v1609_r0 v1611_r0;
  let v1613_r0 : BitVec 1 := Scalar.cmpi .ne v1607_r0 v1612_r0;
  let v1614_r0 : BitVec 32 := Scalar.remsi v1590_r0 c4_i32_799_r0;
  let v1615_r0 : BitVec 1 := Scalar.cmpi .ne v1614_r0 0#32;
  let v1616_r0 : BitVec 1 := Scalar.andi v1613_r0 v1615_r0;
  let v1617_r0 : BitVec 32 := Scalar.subi v1602_r0 1#32;
  let v1618_r0 : BitVec 32 := Scalar.select v1616_r0 v1617_r0 v1602_r0;
  let v1619_r0 : BitVec 32 := Scalar.select v1591_r0 v1601_r0 v1618_r0;
  let v1620_r0 : BitVec 32 := Scalar.divsi v1590_r0 3#32;
  let v1621_r0 : BitVec 1 := Scalar.cmpi .sgt v1590_r0 0#32;
  let v1622_r0 : BitVec 32 := Scalar.extui v1621_r0;
  let v1623_r0 : BitVec 1 := Scalar.cmpi .slt v1590_r0 0#32;
  let v1624_r0 : BitVec 32 := Scalar.extui v1623_r0;
  let v1625_r0 : BitVec 32 := Scalar.subi v1622_r0 v1624_r0;
  let v1626_r0 : BitVec 1 := Scalar.cmpi .sgt 3#32 0#32;
  let v1627_r0 : BitVec 32 := Scalar.extui v1626_r0;
  let v1628_r0 : BitVec 1 := Scalar.cmpi .slt 3#32 0#32;
  let v1629_r0 : BitVec 32 := Scalar.extui v1628_r0;
  let v1630_r0 : BitVec 32 := Scalar.subi v1627_r0 v1629_r0;
  let v1631_r0 : BitVec 1 := Scalar.cmpi .ne v1625_r0 v1630_r0;
  let v1632_r0 : BitVec 32 := Scalar.remsi v1590_r0 3#32;
  let v1633_r0 : BitVec 1 := Scalar.cmpi .ne v1632_r0 0#32;
  let v1634_r0 : BitVec 1 := Scalar.andi v1631_r0 v1633_r0;
  let v1635_r0 : BitVec 32 := Scalar.subi v1620_r0 1#32;
  let v1636_r0 : BitVec 32 := Scalar.select v1634_r0 v1635_r0 v1620_r0;
  let v1637_r0 : BitVec 1 := Scalar.cmpi .eq 4#32 0#32;
  let v1638_r0 : BitVec 32 := Scalar.select v1637_r0 1#32 4#32;
  let v1639_r0 : BitVec 32 := Scalar.remsi v1590_r0 v1638_r0;
  let v1640_r0 : BitVec 1 := Scalar.cmpi .ne v1639_r0 0#32;
  let v1641_r0 : BitVec 1 := Scalar.cmpi .slt v1639_r0 0#32;
  let v1642_r0 : BitVec 1 := Scalar.cmpi .slt v1638_r0 0#32;
  let v1643_r0 : BitVec 1 := Scalar.xori v1641_r0 v1642_r0;
  let v1644_r0 : BitVec 1 := Scalar.andi v1643_r0 v1640_r0;
  let v1645_r0 : BitVec 32 := Scalar.addi v1639_r0 v1638_r0;
  let v1646_r0 : BitVec 32 := Scalar.select v1644_r0 v1645_r0 v1639_r0;
  let v1647_r0 : BitVec 32 := Scalar.select v1591_r0 v1636_r0 v1646_r0;
  let v1648_r0 : BitVec 32 := Scalar.addi arg16_r0 1#32;
  let v1649_r0 : BitVec 32 := Scalar.minsi v1648_r0 35#32;
  let v1650_r0 : BitVec 1 := Scalar.cmpi .slt v1649_r0 12#32;
  let c3_i32_821_r0 := 3#32;
  let v1651_r0 : BitVec 1 := Scalar.cmpi .eq c3_i32_821_r0 0#32;
  let v1652_r0 : BitVec 32 := Scalar.select v1651_r0 1#32 c3_i32_821_r0;
  let v1653_r0 : BitVec 32 := Scalar.remsi v1649_r0 v1652_r0;
  let v1654_r0 : BitVec 1 := Scalar.cmpi .ne v1653_r0 0#32;
  let v1655_r0 : BitVec 1 := Scalar.cmpi .slt v1653_r0 0#32;
  let v1656_r0 : BitVec 1 := Scalar.cmpi .slt v1652_r0 0#32;
  let v1657_r0 : BitVec 1 := Scalar.xori v1655_r0 v1656_r0;
  let v1658_r0 : BitVec 1 := Scalar.andi v1657_r0 v1654_r0;
  let v1659_r0 : BitVec 32 := Scalar.addi v1653_r0 v1652_r0;
  let v1660_r0 : BitVec 32 := Scalar.select v1658_r0 v1659_r0 v1653_r0;
  let v1661_r0 : BitVec 32 := Scalar.divsi v1649_r0 4#32;
  let v1662_r0 : BitVec 1 := Scalar.cmpi .sgt v1649_r0 0#32;
  let v1663_r0 : BitVec 32 := Scalar.extui v1662_r0;
  let v1664_r0 : BitVec 1 := Scalar.cmpi .slt v1649_r0 0#32;
  let v1665_r0 : BitVec 32 := Scalar.extui v1664_r0;
  let v1666_r0 : BitVec 32 := Scalar.subi v1663_r0 v1665_r0;
  let v1667_r0 : BitVec 1 := Scalar.cmpi .sgt 4#32 0#32;
  let v1668_r0 : BitVec 32 := Scalar.extui v1667_r0;
  let v1669_r0 : BitVec 1 := Scalar.cmpi .slt 4#32 0#32;
  let v1670_r0 : BitVec 32 := Scalar.extui v1669_r0;
  let v1671_r0 : BitVec 32 := Scalar.subi v1668_r0 v1670_r0;
  let v1672_r0 : BitVec 1 := Scalar.cmpi .ne v1666_r0 v1671_r0;
  let v1673_r0 : BitVec 32 := Scalar.remsi v1649_r0 4#32;
  let v1674_r0 : BitVec 1 := Scalar.cmpi .ne v1673_r0 0#32;
  let v1675_r0 : BitVec 1 := Scalar.andi v1672_r0 v1674_r0;
  let v1676_r0 : BitVec 32 := Scalar.subi v1661_r0 1#32;
  let v1677_r0 : BitVec 32 := Scalar.select v1675_r0 v1676_r0 v1661_r0;
  let v1678_r0 : BitVec 32 := Scalar.select v1650_r0 v1660_r0 v1677_r0;
  let v1679_r0 : BitVec 32 := Scalar.divsi v1649_r0 3#32;
  let v1680_r0 : BitVec 1 := Scalar.cmpi .sgt v1649_r0 0#32;
  let v1681_r0 : BitVec 32 := Scalar.extui v1680_r0;
  let v1682_r0 : BitVec 1 := Scalar.cmpi .slt v1649_r0 0#32;
  let v1683_r0 : BitVec 32 := Scalar.extui v1682_r0;
  let v1684_r0 : BitVec 32 := Scalar.subi v1681_r0 v1683_r0;
  let v1685_r0 : BitVec 1 := Scalar.cmpi .sgt 3#32 0#32;
  let v1686_r0 : BitVec 32 := Scalar.extui v1685_r0;
  let v1687_r0 : BitVec 1 := Scalar.cmpi .slt 3#32 0#32;
  let v1688_r0 : BitVec 32 := Scalar.extui v1687_r0;
  let v1689_r0 : BitVec 32 := Scalar.subi v1686_r0 v1688_r0;
  let v1690_r0 : BitVec 1 := Scalar.cmpi .ne v1684_r0 v1689_r0;
  let v1691_r0 : BitVec 32 := Scalar.remsi v1649_r0 3#32;
  let v1692_r0 : BitVec 1 := Scalar.cmpi .ne v1691_r0 0#32;
  let v1693_r0 : BitVec 1 := Scalar.andi v1690_r0 v1692_r0;
  let v1694_r0 : BitVec 32 := Scalar.subi v1679_r0 1#32;
  let v1695_r0 : BitVec 32 := Scalar.select v1693_r0 v1694_r0 v1679_r0;
  let v1696_r0 : BitVec 1 := Scalar.cmpi .eq 4#32 0#32;
  let v1697_r0 : BitVec 32 := Scalar.select v1696_r0 1#32 4#32;
  let v1698_r0 : BitVec 32 := Scalar.remsi v1649_r0 v1697_r0;
  let v1699_r0 : BitVec 1 := Scalar.cmpi .ne v1698_r0 0#32;
  let v1700_r0 : BitVec 1 := Scalar.cmpi .slt v1698_r0 0#32;
  let v1701_r0 : BitVec 1 := Scalar.cmpi .slt v1697_r0 0#32;
  let v1702_r0 : BitVec 1 := Scalar.xori v1700_r0 v1701_r0;
  let v1703_r0 : BitVec 1 := Scalar.andi v1702_r0 v1699_r0;
  let v1704_r0 : BitVec 32 := Scalar.addi v1698_r0 v1697_r0;
  let v1705_r0 : BitVec 32 := Scalar.select v1703_r0 v1704_r0 v1698_r0;
  let v1706_r0 : BitVec 32 := Scalar.select v1650_r0 v1695_r0 v1705_r0;
  let v1707_r0 : BitVec 32 := Scalar.subi arg16_r0 12#32;
  let v1708_r0 : BitVec 32 := Scalar.maxsi v1707_r0 0#32;
  let v1725_r0 : BitVec 1 := Scalar.cmpi .slt arg16_r0 12#32;
  let v1726_r0 : BitVec 1 := Scalar.cmpi .eq 3#32 0#32;
  let v1727_r0 : BitVec 32 := Scalar.select v1726_r0 1#32 3#32;
  let v1728_r0 : BitVec 32 := Scalar.remsi arg16_r0 v1727_r0;
  let v1756_r0 : BitVec 1 := Scalar.cmpi .sgt v1708_r0 0#32;
  let v1757_r0 : BitVec 1 := Scalar.cmpi .eq 3#32 0#32;
  let v1758_r0 : BitVec 32 := Scalar.select v1757_r0 1#32 3#32;
  let v1759_r0 : BitVec 32 := Scalar.remsi v1708_r0 v1758_r0;
  let v1760_r0 : BitVec 1 := Scalar.cmpi .ne v1759_r0 0#32;
  let v1761_r0 : BitVec 1 := Scalar.cmpi .slt v1759_r0 0#32;
  let v1762_r0 : BitVec 1 := Scalar.cmpi .slt v1758_r0 0#32;
  let v1763_r0 : BitVec 1 := Scalar.xori v1761_r0 v1762_r0;
  let v1764_r0 : BitVec 1 := Scalar.andi v1763_r0 v1760_r0;
  let x9_1 : Bf F c M9 := xsF k0_t1 arg16_r0 v1588_r0 f5 f9;
  let v1772_r0 : Vec F S1x96x256 .bf16 := (M5.access (Rect.unit (s := S4x96x1792) (k0_off24 k0_t1) S1x96x256.size (k0_off24_inb k0_t1))).read (Elt F) f5;
  let k0_mxu10 : Mxu F := k0_mxu8.accLhs 0 0 0 (k0_pay3 v1772_r0) fits_0_96;
  let k0_mxu11 : Mxu F := k0_mxu10.accLhs 1 0 0 (k0_pay3 v1772_r0) fits_0_96;
  let v1774_r0 : BitVec 1 := Scalar.cmpi .eq 3#32 0#32;
  let v1775_r0 : BitVec 32 := Scalar.select v1774_r0 1#32 3#32;
  let v1776_r0 : BitVec 32 := Scalar.remsi v1560_r0 v1775_r0;
  let v1777_r0 : BitVec 1 := Scalar.cmpi .ne v1776_r0 0#32;
  let v1778_r0 : BitVec 1 := Scalar.cmpi .slt v1776_r0 0#32;
  let v1779_r0 : BitVec 1 := Scalar.cmpi .slt v1775_r0 0#32;
  let v1780_r0 : BitVec 1 := Scalar.xori v1778_r0 v1779_r0;
  let v1781_r0 : BitVec 1 := Scalar.andi v1780_r0 v1777_r0;
  let v1782_r0 : BitVec 32 := Scalar.addi v1776_r0 v1775_r0;
  let v1783_r0 : BitVec 32 := Scalar.select v1781_r0 v1782_r0 v1776_r0;
  let v1784_r0 : BitVec 32 := Scalar.muli v1783_r0 128#32;
  let v1785_r0 : BitVec 32 := v1784_r0;
  let v1806_r0 : Vec F S1x1x256x128 .i32 := (M6.access (Rect.unit (s := S3x4x1792x384) (k0_off25 k0_t1) S1x1x256x128.size (k0_off25_inb k0_t1))).read (Elt F) f6;
  let k0_mxu12 : Mxu F := k0_mxu11.pushed 0 1 false (k0_pay5 v1806_r0);
  let k0_mxu13 : Mxu F := k0_mxu12.pushed 1 1 false (k0_pay6 v1806_r0);
  let v1846_r0 : Vec F S1x96x256 .bf16 := (M5.access (Rect.unit (s := S4x96x1792) (k0_off26 k0_t1) S1x96x256.size (k0_off26_inb k0_t1))).read (Elt F) f5;
  let k0_mxu14 : Mxu F := k0_mxu13.accLhs 0 1 0 (k0_pay7 v1846_r0) fits_0_96;
  let k0_mxu15 : Mxu F := k0_mxu14.accLhs 1 1 0 (k0_pay7 v1846_r0) fits_0_96;
  let c3_i32_913_r0 := 3#32;
  let c0_i32_914_r0 := 0#32;
  let v1880_r0 : Vec F S1x1x256x128 .i32 := (M6.access (Rect.unit (s := S3x4x1792x384) (k0_off27 k0_t1) S1x1x256x128.size (k0_off27_inb k0_t1))).read (Elt F) f6;
  let v1884_r0 := k0_pay8 v1880_r0;
  let v1890_r0 := k0_pay9 v1880_r0;
  let v1891_r0 := k0_pay10;
  let k0_mxu16 : Mxu F := k0_mxu15.pushed 0 0 false (k0_pay11 (F := F) v1890_r0 v1891_r0);
  let k0_mxu17 : Mxu F := k0_mxu16.pushed 1 0 false (k0_pay12 (F := F) v1884_r0);
  let v1920_r0 : Vec F S1x96x256 .bf16 := (M5.access (Rect.unit (s := S4x96x1792) (k0_off28 k0_t1) S1x96x256.size (k0_off28_inb k0_t1))).read (Elt F) f5;
  let k0_mxu18 : Mxu F := k0_mxu17.accLhs 0 0 0 (k0_pay13 v1920_r0) fits_0_96;
  let k0_mxu19 : Mxu F := k0_mxu18.accLhs 1 0 0 (k0_pay13 v1920_r0) fits_0_96;
  let v1922_r0 : BitVec 1 := Scalar.cmpi .eq 3#32 0#32;
  let v1923_r0 : BitVec 32 := Scalar.select v1922_r0 1#32 3#32;
  let v1924_r0 : BitVec 32 := Scalar.remsi v1560_r0 v1923_r0;
  let v1925_r0 : BitVec 1 := Scalar.cmpi .ne v1924_r0 0#32;
  let v1926_r0 : BitVec 1 := Scalar.cmpi .slt v1924_r0 0#32;
  let v1927_r0 : BitVec 1 := Scalar.cmpi .slt v1923_r0 0#32;
  let v1928_r0 : BitVec 1 := Scalar.xori v1926_r0 v1927_r0;
  let v1929_r0 : BitVec 1 := Scalar.andi v1928_r0 v1925_r0;
  let v1930_r0 : BitVec 32 := Scalar.addi v1924_r0 v1923_r0;
  let v1931_r0 : BitVec 32 := Scalar.select v1929_r0 v1930_r0 v1924_r0;
  let v1932_r0 : BitVec 32 := Scalar.muli v1931_r0 128#32;
  let v1933_r0 : BitVec 32 := v1932_r0;
  let c3_i32_944_r0 := 3#32;
  let v1954_r0 : Vec F S1x1x256x128 .i32 := (M6.access (Rect.unit (s := S3x4x1792x384) (k0_off29 k0_t1) S1x1x256x128.size (k0_off29_inb k0_t1))).read (Elt F) f6;
  let v1969_r0 := k0_pay16 v1954_r0;
  let v1974_r0 := k0_pay17 v1954_r0;
  let v1980_r0 := k0_pay18 v1954_r0;
  let c0_i32_957_r0 := 0#32;
  let k0_mxu20 : Mxu F := k0_mxu19.pushed 0 1 false (k0_pay19 v1969_r0 v1974_r0);
  let k0_mxu21 : Mxu F := k0_mxu20.pushed 1 1 false (k0_pay20 (F := F) v1980_r0 c0_i32_957_r0);
  let v1995_r0 : Vec F S1x96x256 .f32 := (M10.access (Rect.unit (s := S9x96x1024) (k0_off30 k0_t1) S1x96x256.size (k0_off30_inb k0_t1))).read (Elt F) f10;
  let v1999_r0 : FVec F S96x256 .f32 := k0_mxu21.read 0 24 fits_24_96;
  let k0_mxu22 : Mxu F := k0_mxu21.pop 0 24 96 fits_24_96;
  let v2002_r0 : Vec F S1x96x256 .f32 := (M10.access (Rect.unit (s := S9x96x1024) (k0_off30 k0_t1) S1x96x256.size (k0_off30_inb k0_t1))).read (Elt F) f10;
  let y10_1 : Bf F c M10 := (M10.access (Rect.unit (s := S9x96x1024) (k0_off30 k0_t1) S1x96x256.size (k0_off30_inb k0_t1))).write (Elt F) f10 (k0_pay21 v1647_r0 v1995_r0 v1999_r0) Finset.univ;
  let v2006_r0 : Vec F S1x96x256 .f32 := (M10.access (Rect.unit (s := S9x96x1024) (k0_off31 k0_t1) S1x96x256.size (k0_off31_inb k0_t1))).read (Elt F) y10_1;
  let v2010_r0 : FVec F S96x256 .f32 := k0_mxu22.read 1 24 fits_24_96;
  let k0_mxu23 : Mxu F := k0_mxu22.pop 1 24 96 fits_24_96;
  let v2013_r0 : Vec F S1x96x256 .f32 := (M10.access (Rect.unit (s := S9x96x1024) (k0_off31 k0_t1) S1x96x256.size (k0_off31_inb k0_t1))).read (Elt F) y10_1;
  let y10_2 : Bf F c M10 := (M10.access (Rect.unit (s := S9x96x1024) (k0_off31 k0_t1) S1x96x256.size (k0_off31_inb k0_t1))).write (Elt F) y10_1 (k0_pay22 v1647_r0 v2006_r0 v2010_r0) Finset.univ;
  let v2017_r0 : Vec F S1x96x256 .bf16 := (M5.access (Rect.unit (s := S4x96x1792) (k0_off32 k0_t1) S1x96x256.size (k0_off32_inb k0_t1))).read (Elt F) f5;
  let k0_mxu24 : Mxu F := k0_mxu23.accLhs 0 1 0 (k0_pay23 v2017_r0) fits_0_96;
  let k0_mxu25 : Mxu F := k0_mxu24.accLhs 1 1 0 (k0_pay23 v2017_r0) fits_0_96;
  let v2051_r0 : Vec F S1x1x256x128 .i32 := (M6.access (Rect.unit (s := S3x4x1792x384) (k0_off33 k0_t1) S1x1x256x128.size (k0_off33_inb k0_t1))).read (Elt F) f6;
  let v2055_r0 := k0_pay24 v2051_r0;
  let v2061_r0 := k0_pay25 v2051_r0;
  let k0_mxu26 : Mxu F := k0_mxu25.pushed 0 0 false (k0_pay26 (F := F) v2061_r0);
  let k0_mxu27 : Mxu F := k0_mxu26.pushed 1 0 false (k0_pay27 (F := F) v2055_r0);
  let v2091_r0 : Vec F S1x96x256 .bf16 := (M5.access (Rect.unit (s := S4x96x1792) (k0_off34 k0_t1) S1x96x256.size (k0_off34_inb k0_t1))).read (Elt F) f5;
  let k0_mxu28 : Mxu F := k0_mxu27.accLhs 0 0 0 (k0_pay28 v2091_r0) fits_0_96;
  let k0_mxu29 : Mxu F := k0_mxu28.accLhs 1 0 0 (k0_pay28 v2091_r0) fits_0_96;
  let v2093_r0 : BitVec 1 := Scalar.cmpi .eq 3#32 0#32;
  let v2094_r0 : BitVec 32 := Scalar.select v2093_r0 1#32 3#32;
  let v2095_r0 : BitVec 32 := Scalar.remsi v1560_r0 v2094_r0;
  let v2096_r0 : BitVec 1 := Scalar.cmpi .ne v2095_r0 0#32;
  let v2097_r0 : BitVec 1 := Scalar.cmpi .slt v2095_r0 0#32;
  let v2098_r0 : BitVec 1 := Scalar.cmpi .slt v2094_r0 0#32;
  let v2099_r0 : BitVec 1 := Scalar.xori v2097_r0 v2098_r0;
  let v2100_r0 : BitVec 1 := Scalar.andi v2099_r0 v2096_r0;
  let v2101_r0 : BitVec 32 := Scalar.addi v2095_r0 v2094_r0;
  let v2102_r0 : BitVec 32 := Scalar.select v2100_r0 v2101_r0 v2095_r0;
  let v2103_r0 : BitVec 32 := Scalar.muli v2102_r0 128#32;
  let v2125_r0 : Vec F S1x1x256x128 .i32 := (M6.access (Rect.unit (s := S3x4x1792x384) (k0_off35 k0_t1) S1x1x256x128.size (k0_off35_inb k0_t1))).read (Elt F) f6;
  let v2140_r0 := k0_pay31 v2125_r0;
  let v2145_r0 := k0_pay32 v2125_r0;
  let v2150_r0 := k0_pay33 v2125_r0;
  let k0_mxu30 : Mxu F := k0_mxu29.pushed 0 1 false (k0_pay34 v2140_r0 v2145_r0);
  let k0_mxu31 : Mxu F := k0_mxu30.pushed 1 1 false (k0_pay35 (F := F) v2150_r0);
  let v2164_r0 : BitVec 32 := Scalar.divsi v1708_r0 3#32;
  let v2165_r0 : BitVec 1 := Scalar.cmpi .sgt v1708_r0 0#32;
  let v2166_r0 : BitVec 32 := Scalar.extui v2165_r0;
  let v2167_r0 : BitVec 1 := Scalar.cmpi .slt v1708_r0 0#32;
  let v2168_r0 : BitVec 32 := Scalar.extui v2167_r0;
  let v2169_r0 : BitVec 32 := Scalar.subi v2166_r0 v2168_r0;
  let v2170_r0 : BitVec 1 := Scalar.cmpi .sgt 3#32 0#32;
  let v2171_r0 : BitVec 32 := Scalar.extui v2170_r0;
  let v2172_r0 : BitVec 1 := Scalar.cmpi .slt 3#32 0#32;
  let v2173_r0 : BitVec 32 := Scalar.extui v2172_r0;
  let v2174_r0 : BitVec 32 := Scalar.subi v2171_r0 v2173_r0;
  let v2175_r0 : BitVec 1 := Scalar.cmpi .ne v2169_r0 v2174_r0;
  let v2176_r0 : BitVec 32 := Scalar.remsi v1708_r0 3#32;
  let v2177_r0 : BitVec 1 := Scalar.cmpi .ne v2176_r0 0#32;
  let v2178_r0 : BitVec 1 := Scalar.andi v2175_r0 v2177_r0;
  let v2179_r0 : BitVec 32 := Scalar.subi v2164_r0 1#32;
  let v2180_r0 : BitVec 32 := Scalar.select v2178_r0 v2179_r0 v2164_r0;
  let v2181_r0 : BitVec 1 := Scalar.cmpi .eq 3#32 0#32;
  let v2182_r0 : BitVec 32 := Scalar.select v2181_r0 1#32 3#32;
  let v2183_r0 : BitVec 32 := Scalar.remsi v1708_r0 v2182_r0;
  let v2184_r0 : BitVec 1 := Scalar.cmpi .ne v2183_r0 0#32;
  let v2185_r0 : BitVec 1 := Scalar.cmpi .slt v2183_r0 0#32;
  let v2186_r0 : BitVec 1 := Scalar.cmpi .slt v2182_r0 0#32;
  let v2187_r0 : BitVec 1 := Scalar.xori v2185_r0 v2186_r0;
  let v2188_r0 : BitVec 1 := Scalar.andi v2187_r0 v2184_r0;
  let v2189_r0 : BitVec 32 := Scalar.addi v2183_r0 v2182_r0;
  let v2190_r0 : BitVec 32 := Scalar.select v2188_r0 v2189_r0 v2183_r0;
  let v2191_r0 : BitVec 32 := Scalar.muli v2190_r0 32#32;
  let v2192_r0 : BitVec 32 := v2191_r0;
  let v2194_r0 : Vec F S1x128 .i32 := (M7.access (Rect.unit (s := S9x128) (k0_off36 k0_t1) S1x128.size (k0_off36_inb k0_t1))).read (Elt F) f7;
  let v2196_r0 : Vec F S32x128 .f32 := (M9.access (Rect.unit (s := S96x128) (k0_off37 k0_t1) S32x128.size (k0_off37_inb k0_t1))).read (Elt F) x9_1;
  let v2204_r0 : Vec F S1x32x128 .f32 := (M10.access (Rect.unit (s := S9x96x1024) (k0_off38 k0_t1) S1x32x128.size (k0_off38_inb k0_t1))).read (Elt F) y10_2;
  let v2210_r0 : Vec F S1x1x128 .f32 := (M8.access (Rect.unit (s := S9x8x128) (k0_off39 k0_t1) S1x1x128.size (k0_off39_inb k0_t1))).read (Elt F) f8;
  let v2223_r0 : Vec F S1x32x128 .f32 := (M10.access (Rect.unit (s := S9x96x1024) (k0_off40 k0_t1) S1x32x128.size (k0_off40_inb k0_t1))).read (Elt F) y10_2;
  let v2229_r0 : Vec F S1x1x128 .f32 := (M8.access (Rect.unit (s := S9x8x128) (k0_off41 k0_t1) S1x1x128.size (k0_off41_inb k0_t1))).read (Elt F) f8;
  let v2215_r0 := k0_pay36 v2194_r0 v2196_r0 v2204_r0 v2210_r0;
  let v2234_r0 := k0_pay37 v2194_r0 v2196_r0 v2223_r0 v2229_r0;
  let v2238_r0 := k0_pay38 v2194_r0;
  let v2242_r0 : Vec F S1x32x128 .f32 := (M10.access (Rect.unit (s := S9x96x1024) (k0_off42 k0_t1) S1x32x128.size (k0_off42_inb k0_t1))).read (Elt F) y10_2;
  let v2248_r0 : Vec F S1x1x128 .f32 := (M8.access (Rect.unit (s := S9x8x128) (k0_off43 k0_t1) S1x1x128.size (k0_off43_inb k0_t1))).read (Elt F) f8;
  let v2261_r0 : Vec F S1x32x128 .f32 := (M10.access (Rect.unit (s := S9x96x1024) (k0_off44 k0_t1) S1x32x128.size (k0_off44_inb k0_t1))).read (Elt F) y10_2;
  let v2267_r0 : Vec F S1x1x128 .f32 := (M8.access (Rect.unit (s := S9x8x128) (k0_off45 k0_t1) S1x1x128.size (k0_off45_inb k0_t1))).read (Elt F) f8;
  let v2280_r0 : Vec F S1x32x128 .f32 := (M10.access (Rect.unit (s := S9x96x1024) (k0_off46 k0_t1) S1x32x128.size (k0_off46_inb k0_t1))).read (Elt F) y10_2;
  let v2253_r0 := k0_pay39 v2196_r0 v2238_r0 v2242_r0 v2248_r0;
  let v2272_r0 := k0_pay40 v2194_r0 v2196_r0 v2261_r0 v2267_r0;
  let v2284_r0 := k0_pay41 v2194_r0 v2196_r0 v2280_r0;
  let v2286_r0 : Vec F S1x1x128 .f32 := (M8.access (Rect.unit (s := S9x8x128) (k0_off47 k0_t1) S1x1x128.size (k0_off47_inb k0_t1))).read (Elt F) f8;
  let v2299_r0 : Vec F S1x32x128 .f32 := (M10.access (Rect.unit (s := S9x96x1024) (k0_off48 k0_t1) S1x32x128.size (k0_off48_inb k0_t1))).read (Elt F) y10_2;
  let v2305_r0 : Vec F S1x1x128 .f32 := (M8.access (Rect.unit (s := S9x8x128) (k0_off49 k0_t1) S1x1x128.size (k0_off49_inb k0_t1))).read (Elt F) f8;
  let v2318_r0 : Vec F S1x32x128 .f32 := (M10.access (Rect.unit (s := S9x96x1024) (k0_off50 k0_t1) S1x32x128.size (k0_off50_inb k0_t1))).read (Elt F) y10_2;
  let v2324_r0 : Vec F S1x1x128 .f32 := (M8.access (Rect.unit (s := S9x8x128) (k0_off51 k0_t1) S1x1x128.size (k0_off51_inb k0_t1))).read (Elt F) f8;
  let v2291_r0 := k0_pay42 v2284_r0 v2286_r0;
  let v2310_r0 := k0_pay43 v2194_r0 v2196_r0 v2299_r0 v2305_r0;
  let v2329_r0 := k0_pay44 v2194_r0 v2196_r0 v2318_r0 v2324_r0;
  let v2333_r0 := k0_pay45 v2194_r0;
  let v2337_r0 : Vec F S1x32x128 .f32 := (M10.access (Rect.unit (s := S9x96x1024) (k0_off52 k0_t1) S1x32x128.size (k0_off52_inb k0_t1))).read (Elt F) y10_2;
  let v2343_r0 : Vec F S1x1x128 .f32 := (M8.access (Rect.unit (s := S9x8x128) (k0_off53 k0_t1) S1x1x128.size (k0_off53_inb k0_t1))).read (Elt F) f8;
  let v2349_r0 : IVec S32x128 32 := iota .tc S32x128 32 [1] iota_S32x128_d1_w32;
  let v2357_r0 := k0_pay49 v2215_r0 v2291_r0;
  let v2359_r0 := k0_pay50 v2234_r0 v2310_r0;
  let v2361_r0 := k0_pay51 v2234_r0 v2310_r0;
  let v2363_r0 := k0_pay52 v2253_r0 v2329_r0;
  let v2365_r0 := k0_pay53 v2253_r0 v2329_r0;
  let v2367_r0 := k0_pay54 v2196_r0 v2272_r0 v2333_r0 v2337_r0 v2343_r0;
  let v2369_r0 := k0_pay55 v2196_r0 v2272_r0 v2333_r0 v2337_r0 v2343_r0;
  let v2373_r0 := k0_pay56;
  let v2375_r0 := k0_pay57 v2215_r0 v2253_r0 v2291_r0 v2329_r0;
  let v2376_r0 := k0_pay58 v2215_r0 v2291_r0;
  let v2410_r0 : BitVec 1 := Scalar.cmpi .eq 8#32 0#32;
  let v2411_r0 : BitVec 32 := Scalar.select v2410_r0 1#32 8#32;
  let v2395_r0 := k0_pay67 v2349_r0 v2359_r0 v2367_r0 v2373_r0 v2375_r0;
  let v2397_r0 := k0_pay68 v2349_r0 v2359_r0 v2367_r0 v2373_r0 v2375_r0;
  let v2399_r0 := k0_pay69 v2349_r0 v2359_r0 v2363_r0 v2367_r0 v2373_r0 v2376_r0;
  let v2401_r0 := k0_pay70 v2349_r0 v2359_r0 v2363_r0 v2367_r0 v2373_r0 v2376_r0;
  let v2403_r0 := k0_pay71 v2349_r0 v2357_r0 v2361_r0 v2365_r0 v2369_r0 v2373_r0;
  let v2405_r0 := k0_pay72 v2349_r0 v2357_r0 v2361_r0 v2365_r0 v2369_r0 v2373_r0;
  let v2407_r0 := k0_pay73 v2349_r0 v2357_r0 v2361_r0 v2365_r0 v2369_r0 v2373_r0;
  let v2409_r0 := k0_pay74 v2349_r0 v2357_r0 v2361_r0 v2365_r0 v2369_r0 v2373_r0;
  let v2413_r0 := k0_pay75 v2349_r0;
  let v2415_r0 := k0_pay76 v2349_r0;
  let c0_i32_1106_r0 := 0#32;
  let v2452_r0 := k0_pay77 v2349_r0 v2411_r0 v2413_r0 v2415_r0 c0_i32_1106_r0;
  let v2460_r0 := k0_pay78 v2349_r0 v2395_r0 v2411_r0 v2413_r0 v2415_r0 c0_i32_1106_r0;
  let v2462_r0 := k0_pay79 v2349_r0 v2411_r0 v2413_r0 v2415_r0 c0_i32_1106_r0;
  let c128_i32_1119_r0 := 128#32;
  let v2468_r0 := k0_pay80 v2397_r0 v2452_r0 v2462_r0 c128_i32_1119_r0;
  let v2476_r0 := k0_pay81 v2399_r0 v2452_r0;
  let v2484_r0 := k0_pay82 v2401_r0 v2452_r0;
  let v2492_r0 := k0_pay83 v2403_r0 v2452_r0;
  let v2500_r0 := k0_pay84 v2405_r0 v2452_r0;
  let v2508_r0 := k0_pay85 v2407_r0 v2452_r0;
  let v2510_r0 := k0_pay86 v2452_r0;
  let c128_i32_1131_r0 := 128#32;
  let v2520_r0 : Vec F S1x32x128 .bf16 := (M11.access (Rect.unit (s := S9x96x1024) (k0_off38 k0_t1) S1x32x128.size (k0_off38_inb k0_t1))).read (Elt F) f11;
  let y11_1 : Bf F c M11 := (M11.access (Rect.unit (s := S9x96x1024) (k0_off38 k0_t1) S1x32x128.size (k0_off38_inb k0_t1))).write (Elt F) f11 (k0_pay88 v2460_r0) Finset.univ;
  let v2526_r0 : Vec F S1x32x128 .bf16 := (M11.access (Rect.unit (s := S9x96x1024) (k0_off42 k0_t1) S1x32x128.size (k0_off42_inb k0_t1))).read (Elt F) y11_1;
  let y11_2 : Bf F c M11 := (M11.access (Rect.unit (s := S9x96x1024) (k0_off42 k0_t1) S1x32x128.size (k0_off42_inb k0_t1))).write (Elt F) y11_1 (k0_pay89 v2468_r0) Finset.univ;
  let v2532_r0 : Vec F S1x32x128 .bf16 := (M11.access (Rect.unit (s := S9x96x1024) (k0_off46 k0_t1) S1x32x128.size (k0_off46_inb k0_t1))).read (Elt F) y11_2;
  let y11_3 : Bf F c M11 := (M11.access (Rect.unit (s := S9x96x1024) (k0_off46 k0_t1) S1x32x128.size (k0_off46_inb k0_t1))).write (Elt F) y11_2 (k0_pay90 v2476_r0) Finset.univ;
  let v2538_r0 : Vec F S1x32x128 .bf16 := (M11.access (Rect.unit (s := S9x96x1024) (k0_off50 k0_t1) S1x32x128.size (k0_off50_inb k0_t1))).read (Elt F) y11_3;
  let y11_4 : Bf F c M11 := (M11.access (Rect.unit (s := S9x96x1024) (k0_off50 k0_t1) S1x32x128.size (k0_off50_inb k0_t1))).write (Elt F) y11_3 (k0_pay91 v2484_r0) Finset.univ;
  let v2544_r0 : Vec F S1x32x128 .bf16 := (M11.access (Rect.unit (s := S9x96x1024) (k0_off40 k0_t1) S1x32x128.size (k0_off40_inb k0_t1))).read (Elt F) y11_4;
  let y11_5 : Bf F c M11 := (M11.access (Rect.unit (s := S9x96x1024) (k0_off40 k0_t1) S1x32x128.size (k0_off40_inb k0_t1))).write (Elt F) y11_4 (k0_pay92 v2492_r0) Finset.univ;
  let v2550_r0 : Vec F S1x32x128 .bf16 := (M11.access (Rect.unit (s := S9x96x1024) (k0_off44 k0_t1) S1x32x128.size (k0_off44_inb k0_t1))).read (Elt F) y11_5;
  let y11_6 : Bf F c M11 := (M11.access (Rect.unit (s := S9x96x1024) (k0_off44 k0_t1) S1x32x128.size (k0_off44_inb k0_t1))).write (Elt F) y11_5 (k0_pay93 v2500_r0) Finset.univ;
  let v2556_r0 : Vec F S1x32x128 .bf16 := (M11.access (Rect.unit (s := S9x96x1024) (k0_off48 k0_t1) S1x32x128.size (k0_off48_inb k0_t1))).read (Elt F) y11_6;
  let v2516_r0 := k0_pay87 v2409_r0 v2452_r0 v2510_r0 c128_i32_1131_r0;
  let v2553_r0 := k0_pay94 v2508_r0;
  let y11_7 : Bf F c M11 := (M11.access (Rect.unit (s := S9x96x1024) (k0_off48 k0_t1) S1x32x128.size (k0_off48_inb k0_t1))).write (Elt F) y11_6 (k0_pay95 v2553_r0) Finset.univ;
  let v2562_r0 : Vec F S1x32x128 .bf16 := (M11.access (Rect.unit (s := S9x96x1024) (k0_off52 k0_t1) S1x32x128.size (k0_off52_inb k0_t1))).read (Elt F) y11_7;
  let y11_8 : Bf F c M11 := (M11.access (Rect.unit (s := S9x96x1024) (k0_off52 k0_t1) S1x32x128.size (k0_off52_inb k0_t1))).write (Elt F) y11_7 (k0_pay96 v2516_r0) Finset.univ;
  let v2566_r0 : Vec F S1x96x256 .bf16 := (M5.access (Rect.unit (s := S4x96x1792) (k0_off54 k0_t1) S1x96x256.size (k0_off54_inb k0_t1))).read (Elt F) f5;
  let k0_mxu32 : Mxu F := k0_mxu31.accLhs 0 1 0 (k0_pay97 v2566_r0) fits_0_96;
  let k0_mxu33 : Mxu F := k0_mxu32.accLhs 1 1 0 (k0_pay97 v2566_r0) fits_0_96;
  let v2568_r0 : BitVec 1 := Scalar.cmpi .eq 3#32 0#32;
  let v2569_r0 : BitVec 32 := Scalar.select v2568_r0 1#32 3#32;
  let v2570_r0 : BitVec 32 := Scalar.remsi v1560_r0 v2569_r0;
  let v2571_r0 : BitVec 1 := Scalar.cmpi .ne v2570_r0 0#32;
  let v2572_r0 : BitVec 1 := Scalar.cmpi .slt v2570_r0 0#32;
  let v2573_r0 : BitVec 1 := Scalar.cmpi .slt v2569_r0 0#32;
  let v2574_r0 : BitVec 1 := Scalar.xori v2572_r0 v2573_r0;
  let v2575_r0 : BitVec 1 := Scalar.andi v2574_r0 v2571_r0;
  let v2576_r0 : BitVec 32 := Scalar.addi v2570_r0 v2569_r0;
  let v2577_r0 : BitVec 32 := Scalar.select v2575_r0 v2576_r0 v2570_r0;
  let v2578_r0 : BitVec 32 := Scalar.muli v2577_r0 128#32;
  let v2579_r0 : BitVec 32 := v2578_r0;
  let v2580_r0 : BitVec 32 := Scalar.divsi v1560_r0 3#32;
  let v2581_r0 : BitVec 1 := Scalar.cmpi .sgt v1560_r0 0#32;
  let v2582_r0 : BitVec 32 := Scalar.extui v2581_r0;
  let v2583_r0 : BitVec 1 := Scalar.cmpi .slt v1560_r0 0#32;
  let v2584_r0 : BitVec 32 := Scalar.extui v2583_r0;
  let v2585_r0 : BitVec 32 := Scalar.subi v2582_r0 v2584_r0;
  let v2586_r0 : BitVec 1 := Scalar.cmpi .sgt 3#32 0#32;
  let v2587_r0 : BitVec 32 := Scalar.extui v2586_r0;
  let v2588_r0 : BitVec 1 := Scalar.cmpi .slt 3#32 0#32;
  let v2589_r0 : BitVec 32 := Scalar.extui v2588_r0;
  let v2590_r0 : BitVec 32 := Scalar.subi v2587_r0 v2589_r0;
  let v2591_r0 : BitVec 1 := Scalar.cmpi .ne v2585_r0 v2590_r0;
  let v2592_r0 : BitVec 32 := Scalar.remsi v1560_r0 3#32;
  let v2593_r0 : BitVec 1 := Scalar.cmpi .ne v2592_r0 0#32;
  let v2594_r0 : BitVec 1 := Scalar.andi v2591_r0 v2593_r0;
  let v2595_r0 : BitVec 32 := Scalar.subi v2580_r0 1#32;
  let v2596_r0 : BitVec 32 := Scalar.select v2594_r0 v2595_r0 v2580_r0;
  let v2600_r0 : Vec F S1x1x256x128 .i32 := (M6.access (Rect.unit (s := S3x4x1792x384) (k0_off55 k0_t1) S1x1x256x128.size (k0_off55_inb k0_t1))).read (Elt F) f6;
  let k0_mxu34 : Mxu F := k0_mxu33.pushed 0 0 false (k0_pay99 v2600_r0);
  let k0_mxu35 : Mxu F := k0_mxu34.pushed 1 0 false (k0_pay100 v2600_r0);
  let v2640_r0 : Vec F S1x96x256 .bf16 := (M5.access (Rect.unit (s := S4x96x1792) (k0_off56 k0_t1) S1x96x256.size (k0_off56_inb k0_t1))).read (Elt F) f5;
  let k0_mxu36 : Mxu F := k0_mxu35.accLhs 0 0 0 (k0_pay101 v2640_r0) fits_0_96;
  let k0_mxu37 : Mxu F := k0_mxu36.accLhs 1 0 0 (k0_pay101 v2640_r0) fits_0_96;
  let c3_i32_1165_r0 := 3#32;
  let v2674_r0 : Vec F S1x1x256x128 .i32 := (M6.access (Rect.unit (s := S3x4x1792x384) (k0_off57 k0_t1) S1x1x256x128.size (k0_off57_inb k0_t1))).read (Elt F) f6;
  let v2678_r0 := k0_pay102 v2674_r0;
  let v2684_r0 := k0_pay103 v2674_r0;
  let c0_i32_1182_r0 := 0#32;
  let k0_mxu38 : Mxu F := k0_mxu37.pushed 0 1 false (k0_pay104 (F := F) v2684_r0 c0_i32_1182_r0);
  let k0_mxu39 : Mxu F := k0_mxu38.pushed 1 1 false (k0_pay105 (F := F) v2678_r0);
  let v2714_r0 : Vec F S1x96x256 .bf16 := (M5.access (Rect.unit (s := S4x96x1792) (k0_off24 k0_t1) S1x96x256.size (k0_off24_inb k0_t1))).read (Elt F) f5;
  let k0_mxu40 : Mxu F := k0_mxu39.accLhs 0 1 24 (k0_pay106 v2714_r0) fits_24_96;
  let k0_mxu41 : Mxu F := k0_mxu40.accLhs 1 1 24 (k0_pay106 v2714_r0) fits_24_96;
  let v2716_r0 : BitVec 1 := Scalar.cmpi .eq 3#32 0#32;
  let v2717_r0 : BitVec 32 := Scalar.select v2716_r0 1#32 3#32;
  let v2718_r0 : BitVec 32 := Scalar.remsi v1560_r0 v2717_r0;
  let v2719_r0 : BitVec 1 := Scalar.cmpi .ne v2718_r0 0#32;
  let v2720_r0 : BitVec 1 := Scalar.cmpi .slt v2718_r0 0#32;
  let v2721_r0 : BitVec 1 := Scalar.cmpi .slt v2717_r0 0#32;
  let v2722_r0 : BitVec 1 := Scalar.xori v2720_r0 v2721_r0;
  let v2723_r0 : BitVec 1 := Scalar.andi v2722_r0 v2719_r0;
  let v2724_r0 : BitVec 32 := Scalar.addi v2718_r0 v2717_r0;
  let v2725_r0 : BitVec 32 := Scalar.select v2723_r0 v2724_r0 v2718_r0;
  let v2726_r0 : BitVec 32 := Scalar.muli v2725_r0 128#32;
  let v2727_r0 : BitVec 32 := v2726_r0;
  let v2748_r0 : Vec F S1x1x256x128 .i32 := (M6.access (Rect.unit (s := S3x4x1792x384) (k0_off25 k0_t1) S1x1x256x128.size (k0_off25_inb k0_t1))).read (Elt F) f6;
  let v2763_r0 := k0_pay109 v2748_r0;
  let v2768_r0 := k0_pay110 v2748_r0;
  let v2774_r0 := k0_pay111 v2748_r0;
  let k0_mxu42 : Mxu F := k0_mxu41.pushed 0 0 false (k0_pay112 v2763_r0 v2768_r0);
  let k0_mxu43 : Mxu F := k0_mxu42.pushed 1 0 false (k0_pay113 (F := F) v2774_r0);
  let v2788_r0 : Vec F S1x96x256 .bf16 := (M5.access (Rect.unit (s := S4x96x1792) (k0_off26 k0_t1) S1x96x256.size (k0_off26_inb k0_t1))).read (Elt F) f5;
  let k0_mxu44 : Mxu F := k0_mxu43.accLhs 0 0 24 (k0_pay114 v2788_r0) fits_24_96;
  let k0_mxu45 : Mxu F := k0_mxu44.accLhs 1 0 24 (k0_pay114 v2788_r0) fits_24_96;
  let v2790_r0 : BitVec 1 := Scalar.cmpi .eq 3#32 0#32;
  let v2791_r0 : BitVec 32 := Scalar.select v2790_r0 1#32 3#32;
  let v2792_r0 : BitVec 32 := Scalar.remsi v1560_r0 v2791_r0;
  let v2793_r0 : BitVec 1 := Scalar.cmpi .ne v2792_r0 0#32;
  let v2794_r0 : BitVec 1 := Scalar.cmpi .slt v2792_r0 0#32;
  let v2795_r0 : BitVec 1 := Scalar.cmpi .slt v2791_r0 0#32;
  let v2796_r0 : BitVec 1 := Scalar.xori v2794_r0 v2795_r0;
  let v2797_r0 : BitVec 1 := Scalar.andi v2796_r0 v2793_r0;
  let v2798_r0 : BitVec 32 := Scalar.addi v2792_r0 v2791_r0;
  let v2799_r0 : BitVec 32 := Scalar.select v2797_r0 v2798_r0 v2792_r0;
  let v2800_r0 : BitVec 32 := Scalar.muli v2799_r0 128#32;
  let v2801_r0 : BitVec 32 := v2800_r0;
  let v2802_r0 : BitVec 32 := Scalar.divsi v1560_r0 3#32;
  let v2803_r0 : BitVec 1 := Scalar.cmpi .sgt v1560_r0 0#32;
  let v2804_r0 : BitVec 32 := Scalar.extui v2803_r0;
  let v2805_r0 : BitVec 1 := Scalar.cmpi .slt v1560_r0 0#32;
  let v2806_r0 : BitVec 32 := Scalar.extui v2805_r0;
  let v2807_r0 : BitVec 32 := Scalar.subi v2804_r0 v2806_r0;
  let v2808_r0 : BitVec 1 := Scalar.cmpi .sgt 3#32 0#32;
  let v2809_r0 : BitVec 32 := Scalar.extui v2808_r0;
  let v2810_r0 : BitVec 1 := Scalar.cmpi .slt 3#32 0#32;
  let v2811_r0 : BitVec 32 := Scalar.extui v2810_r0;
  let v2812_r0 : BitVec 32 := Scalar.subi v2809_r0 v2811_r0;
  let v2813_r0 : BitVec 1 := Scalar.cmpi .ne v2807_r0 v2812_r0;
  let v2814_r0 : BitVec 32 := Scalar.remsi v1560_r0 3#32;
  let v2822_r0 : Vec F S1x1x256x128 .i32 := (M6.access (Rect.unit (s := S3x4x1792x384) (k0_off27 k0_t1) S1x1x256x128.size (k0_off27_inb k0_t1))).read (Elt F) f6;
  let k0_mxu46 : Mxu F := k0_mxu45.pushed 0 1 false (k0_pay116 v2822_r0);
  let k0_mxu47 : Mxu F := k0_mxu46.pushed 1 1 false (k0_pay117 v2822_r0);
  let v2861_r0 : Index := Scalar.indexCast v1588_r0;
  let c0_1235_r0 : Index := 0#32;
  let v2862_r0 : Vec F S1x96x256 .bf16 := (M5.access (Rect.unit (s := S4x96x1792) (k0_off28 k0_t1) S1x96x256.size (k0_off28_inb k0_t1))).read (Elt F) f5;
  let k0_mxu48 : Mxu F := k0_mxu47.accLhs 0 1 24 (k0_pay118 v2862_r0) fits_24_96;
  let k0_mxu49 : Mxu F := k0_mxu48.accLhs 1 1 24 (k0_pay118 v2862_r0) fits_24_96;
  let v2896_r0 : Vec F S1x1x256x128 .i32 := (M6.access (Rect.unit (s := S3x4x1792x384) (k0_off29 k0_t1) S1x1x256x128.size (k0_off29_inb k0_t1))).read (Elt F) f6;
  let v2900_r0 := k0_pay119 v2896_r0;
  let v2901_r0 := k0_pay120 v2896_r0;
  let c0_i32_1253_r0 := 0#32;
  let k0_mxu50 : Mxu F := k0_mxu49.pushed 0 0 false (k0_pay121 (F := F) v2901_r0 c0_i32_1253_r0);
  let k0_mxu51 : Mxu F := k0_mxu50.pushed 1 0 false (k0_pay122 (F := F) v2900_r0);
  let v2936_r0 : Vec F S1x96x256 .bf16 := (M5.access (Rect.unit (s := S4x96x1792) (k0_off32 k0_t1) S1x96x256.size (k0_off32_inb k0_t1))).read (Elt F) f5;
  let k0_mxu52 : Mxu F := k0_mxu51.accLhs 0 0 24 (k0_pay123 v2936_r0) fits_24_96;
  let k0_mxu53 : Mxu F := k0_mxu52.accLhs 1 0 24 (k0_pay123 v2936_r0) fits_24_96;
  let v2938_r0 : BitVec 1 := Scalar.cmpi .eq 3#32 0#32;
  let v2939_r0 : BitVec 32 := Scalar.select v2938_r0 1#32 3#32;
  let v2940_r0 : BitVec 32 := Scalar.remsi v1560_r0 v2939_r0;
  let v2941_r0 : BitVec 1 := Scalar.cmpi .ne v2940_r0 0#32;
  let v2942_r0 : BitVec 1 := Scalar.cmpi .slt v2940_r0 0#32;
  let v2943_r0 : BitVec 1 := Scalar.cmpi .slt v2939_r0 0#32;
  let v2944_r0 : BitVec 1 := Scalar.xori v2942_r0 v2943_r0;
  let v2970_r0 : Vec F S1x1x256x128 .i32 := (M6.access (Rect.unit (s := S3x4x1792x384) (k0_off33 k0_t1) S1x1x256x128.size (k0_off33_inb k0_t1))).read (Elt F) f6;
  let v2985_r0 := k0_pay126 v2970_r0;
  let v2990_r0 := k0_pay127 v2970_r0;
  let v2991_r0 := k0_pay128 v2970_r0;
  let k0_mxu54 : Mxu F := k0_mxu53.pushed 0 1 false (k0_pay129 v2985_r0 v2990_r0);
  let k0_mxu55 : Mxu F := k0_mxu54.pushed 1 1 false (k0_pay130 (F := F) v2991_r0);
  let v3010_r0 : Vec F S1x96x256 .bf16 := (M5.access (Rect.unit (s := S4x96x1792) (k0_off34 k0_t1) S1x96x256.size (k0_off34_inb k0_t1))).read (Elt F) f5;
  let k0_mxu56 : Mxu F := k0_mxu55.accLhs 0 1 24 (k0_pay131 v3010_r0) fits_24_96;
  let k0_mxu57 : Mxu F := k0_mxu56.accLhs 1 1 24 (k0_pay131 v3010_r0) fits_24_96;
  let v3012_r0 : BitVec 1 := Scalar.cmpi .eq 3#32 0#32;
  let v3013_r0 : BitVec 32 := Scalar.select v3012_r0 1#32 3#32;
  let v3014_r0 : BitVec 32 := Scalar.remsi v1560_r0 v3013_r0;
  let v3015_r0 : BitVec 1 := Scalar.cmpi .ne v3014_r0 0#32;
  let v3016_r0 : BitVec 1 := Scalar.cmpi .slt v3014_r0 0#32;
  let v3017_r0 : BitVec 1 := Scalar.cmpi .slt v3013_r0 0#32;
  let v3018_r0 : BitVec 1 := Scalar.xori v3016_r0 v3017_r0;
  let v3019_r0 : BitVec 1 := Scalar.andi v3018_r0 v3015_r0;
  let v3020_r0 : BitVec 32 := Scalar.addi v3014_r0 v3013_r0;
  let v3021_r0 : BitVec 32 := Scalar.select v3019_r0 v3020_r0 v3014_r0;
  let v3022_r0 : BitVec 32 := Scalar.muli v3021_r0 128#32;
  let v3023_r0 : BitVec 32 := v3022_r0;
  let v3024_r0 : BitVec 32 := Scalar.divsi v1560_r0 3#32;
  let v3025_r0 : BitVec 1 := Scalar.cmpi .sgt v1560_r0 0#32;
  let v3026_r0 : BitVec 32 := Scalar.extui v3025_r0;
  let v3027_r0 : BitVec 1 := Scalar.cmpi .slt v1560_r0 0#32;
  let v3028_r0 : BitVec 32 := Scalar.extui v3027_r0;
  let v3029_r0 : BitVec 32 := Scalar.subi v3026_r0 v3028_r0;
  let v3030_r0 : BitVec 1 := Scalar.cmpi .sgt 3#32 0#32;
  let v3031_r0 : BitVec 32 := Scalar.extui v3030_r0;
  let c3_i32_1292_r0 := 3#32;
  let v3044_r0 : Vec F S1x1x256x128 .i32 := (M6.access (Rect.unit (s := S3x4x1792x384) (k0_off35 k0_t1) S1x1x256x128.size (k0_off35_inb k0_t1))).read (Elt F) f6;
  let v3059_r0 := k0_pay134 v3044_r0;
  let v3064_r0 := k0_pay135 v3044_r0;
  let v3075_r0 := k0_pay137 v3044_r0;
  let v3080_r0 := k0_pay138 v3044_r0;
  let k0_mxu58 : Mxu F := k0_mxu57.pushed 0 0 false (k0_pay139 v3059_r0 v3064_r0);
  let k0_mxu59 : Mxu F := k0_mxu58.pushed 1 0 false (k0_pay140 v3075_r0 v3080_r0);
  let v3085_r0 : Vec F S1x96x256 .f32 := (M10.access (Rect.unit (s := S9x96x1024) (k0_off58 k0_t1) S1x96x256.size (k0_off58_inb k0_t1))).read (Elt F) y10_2;
  let v3089_r0 : FVec F S96x256 .f32 := k0_mxu59.read 0 0 fits_0_96;
  let k0_mxu60 : Mxu F := k0_mxu59.pop 0 0 96 fits_0_96;
  let v3092_r0 : Vec F S1x96x256 .f32 := (M10.access (Rect.unit (s := S9x96x1024) (k0_off58 k0_t1) S1x96x256.size (k0_off58_inb k0_t1))).read (Elt F) y10_2;
  let y10_3 : Bf F c M10 := (M10.access (Rect.unit (s := S9x96x1024) (k0_off58 k0_t1) S1x96x256.size (k0_off58_inb k0_t1))).write (Elt F) y10_2 (k0_pay141 v1588_r0 v3085_r0 v3089_r0) Finset.univ;
  let v3096_r0 : Vec F S1x96x256 .f32 := (M10.access (Rect.unit (s := S9x96x1024) (k0_off59 k0_t1) S1x96x256.size (k0_off59_inb k0_t1))).read (Elt F) y10_3;
  let v3100_r0 : FVec F S96x256 .f32 := k0_mxu60.read 1 0 fits_0_96;
  let k0_mxu61 : Mxu F := k0_mxu60.pop 1 0 96 fits_0_96;
  let v3103_r0 : Vec F S1x96x256 .f32 := (M10.access (Rect.unit (s := S9x96x1024) (k0_off59 k0_t1) S1x96x256.size (k0_off59_inb k0_t1))).read (Elt F) y10_3;
  let y10_4 : Bf F c M10 := (M10.access (Rect.unit (s := S9x96x1024) (k0_off59 k0_t1) S1x96x256.size (k0_off59_inb k0_t1))).write (Elt F) y10_3 (k0_pay142 v1588_r0 v3096_r0 v3100_r0) Finset.univ;
  let v3107_r0 : Vec F S1x96x256 .bf16 := (M5.access (Rect.unit (s := S4x96x1792) (k0_off54 k0_t1) S1x96x256.size (k0_off54_inb k0_t1))).read (Elt F) f5;
  let k0_mxu62 : Mxu F := k0_mxu61.accLhs 0 0 24 (k0_pay143 v3107_r0) fits_24_96;
  let k0_mxu63 : Mxu F := k0_mxu62.accLhs 1 0 24 (k0_pay143 v3107_r0) fits_24_96;
  let v3109_r0 : BitVec 1 := Scalar.cmpi .eq 3#32 0#32;
  let v3110_r0 : BitVec 32 := Scalar.select v3109_r0 1#32 3#32;
  let v3111_r0 : BitVec 32 := Scalar.remsi v1560_r0 v3110_r0;
  let v3112_r0 : BitVec 1 := Scalar.cmpi .ne v3111_r0 0#32;
  let v3113_r0 : BitVec 1 := Scalar.cmpi .slt v3111_r0 0#32;
  let c0_i32_1325_r0 := 0#32;
  let v3141_r0 : Vec F S1x1x256x128 .i32 := (M6.access (Rect.unit (s := S3x4x1792x384) (k0_off55 k0_t1) S1x1x256x128.size (k0_off55_inb k0_t1))).read (Elt F) f6;
  let v3145_r0 := k0_pay144 v3141_r0;
  let v3156_r0 := k0_pay146 v3141_r0;
  let v3160_r0 := k0_pay147 v3141_r0;
  let k0_mxu64 : Mxu F := k0_mxu63.pushed 0 1 false (k0_pay148 v3156_r0 v3160_r0);
  let k0_mxu65 : Mxu F := k0_mxu64.pushed 1 1 false (k0_pay149 (F := F) v3145_r0);
  let v3181_r0 : Vec F S1x96x256 .bf16 := (M5.access (Rect.unit (s := S4x96x1792) (k0_off56 k0_t1) S1x96x256.size (k0_off56_inb k0_t1))).read (Elt F) f5;
  let k0_mxu66 : Mxu F := k0_mxu65.accLhs 0 1 24 (k0_pay150 v3181_r0) fits_24_96;
  let k0_mxu67 : Mxu F := k0_mxu66.accLhs 1 1 24 (k0_pay150 v3181_r0) fits_24_96;
  let v3183_r0 : BitVec 1 := Scalar.cmpi .eq 3#32 0#32;
  let v3184_r0 : BitVec 32 := Scalar.select v3183_r0 1#32 3#32;
  let v3185_r0 : BitVec 32 := Scalar.remsi v1678_r0 v3184_r0;
  let v3186_r0 : BitVec 1 := Scalar.cmpi .ne v3185_r0 0#32;
  let v3187_r0 : BitVec 1 := Scalar.cmpi .slt v3185_r0 0#32;
  let v3188_r0 : BitVec 1 := Scalar.cmpi .slt v3184_r0 0#32;
  let v3189_r0 : BitVec 1 := Scalar.xori v3187_r0 v3188_r0;
  let v3190_r0 : BitVec 1 := Scalar.andi v3189_r0 v3186_r0;
  let v3191_r0 : BitVec 32 := Scalar.addi v3185_r0 v3184_r0;
  let v3192_r0 : BitVec 32 := Scalar.select v3190_r0 v3191_r0 v3185_r0;
  let v3193_r0 : BitVec 32 := Scalar.muli v3192_r0 128#32;
  let v3194_r0 : BitVec 32 := v3193_r0;
  let v3195_r0 : BitVec 32 := Scalar.divsi v1678_r0 3#32;
  let v3196_r0 : BitVec 1 := Scalar.cmpi .sgt v1678_r0 0#32;
  let v3197_r0 : BitVec 32 := Scalar.extui v3196_r0;
  let v3198_r0 : BitVec 1 := Scalar.cmpi .slt v1678_r0 0#32;
  let v3199_r0 : BitVec 32 := Scalar.extui v3198_r0;
  let v3200_r0 : BitVec 32 := Scalar.subi v3197_r0 v3199_r0;
  let c3_i32_1351_r0 := 3#32;
  let c0_i32_1354_r0 := 0#32;
  let v3215_r0 : Vec F S1x1x256x128 .i32 := (M6.access (Rect.unit (s := S3x4x1792x384) (k0_off60 k0_t1) S1x1x256x128.size (k0_off60_inb k0_t1))).read (Elt F) f6;
  let v3230_r0 := k0_pay153 v3215_r0;
  let v3235_r0 := k0_pay154 v3215_r0;
  let v3246_r0 := k0_pay156 v3215_r0;
  let v3249_r0 := k0_pay157 v3215_r0;
  let k0_mxu68 : Mxu F := k0_mxu67.pushed 0 0 false (k0_pay253 v3230_r0 v3235_r0);
  let k0_mxu69 : Mxu F := k0_mxu68.pushed 1 0 false (k0_pay254 v3246_r0 v3249_r0);
  P ⟨k0_mxu69, x9_1, y10_4, y11_8⟩) : P (trip f5 f6 f7 f8 k0_t1 k0_mxu8 f9 f10 f11) := h

set_option maxHeartbeats 8000000 in
theorem trip_shape {f5 : Bf F c M5} {f6 : Bf F c M6} {f7 : Bf F c M7} {f8 : Bf F c M8} {k0_t1 : Fin k0_t1_loop.trips} {k0_mxu8 : Mxu F}
    {f9 : Bf F c M9} {f10 : Bf F c M10} {f11 : Bf F c M11} (hm8 : AllF k0_mxu8) {w v} (ms8 : Head k0_mxu8 w v) :
    AllF (trip f5 f6 f7 f8 k0_t1 k0_mxu8 f9 f10 f11).mx ∧ ∃ w' v', Head (trip f5 f6 f7 f8 k0_t1 k0_mxu8 f9 f10 f11).mx w' v' := by
  refine trip_cases (P := fun o => AllF o.mx ∧ ∃ w' v', Head o.mx w' v') ?_
  intro arg16_r0 v1532_r0 v1533_r0 v1534_r0 v1535_r0 v1536_r0 v1537_r0 v1538_r0 v1539_r0 v1540_r0 v1541_r0 v1542_r0 v1543_r0 v1544_r0 v1545_r0 v1546_r0 v1547_r0 v1548_r0 v1549_r0 v1550_r0 v1551_r0 v1552_r0 v1553_r0 v1554_r0 v1555_r0 v1556_r0 v1557_r0 v1558_r0 v1559_r0 v1560_r0 v1561_r0 v1562_r0 v1563_r0 v1564_r0 v1565_r0 v1566_r0 v1567_r0 v1568_r0 v1569_r0 v1570_r0 v1571_r0 c3_i32_777_r0 v1572_r0 v1573_r0 v1574_r0 v1575_r0 v1576_r0 v1577_r0 v1578_r0 v1579_r0 v1580_r0 v1581_r0 v1582_r0 v1583_r0 v1584_r0 v1585_r0 v1586_r0 v1587_r0 v1588_r0 v1589_r0 v1590_r0 v1591_r0 v1592_r0 v1593_r0 v1594_r0 v1595_r0 v1596_r0 v1597_r0 v1598_r0 v1599_r0 v1600_r0 v1601_r0 v1602_r0 v1603_r0 v1604_r0 v1605_r0 v1606_r0 v1607_r0 v1608_r0 v1609_r0 c4_i32_799_r0 c0_i32_803_r0 v1610_r0 v1611_r0 v1612_r0 v1613_r0 v1614_r0 v1615_r0 v1616_r0 v1617_r0 v1618_r0 v1619_r0 v1620_r0 v1621_r0 v1622_r0 v1623_r0 v1624_r0 v1625_r0 v1626_r0 v1627_r0 v1628_r0 v1629_r0 v1630_r0 v1631_r0 v1632_r0 v1633_r0 v1634_r0 v1635_r0 v1636_r0 v1637_r0 v1638_r0 v1639_r0 v1640_r0 v1641_r0 v1642_r0 v1643_r0 v1644_r0 v1645_r0 v1646_r0 v1647_r0 v1648_r0 v1649_r0 v1650_r0 c3_i32_821_r0 v1651_r0 v1652_r0 v1653_r0 v1654_r0 v1655_r0 v1656_r0 v1657_r0 v1658_r0 v1659_r0 v1660_r0 v1661_r0 v1662_r0 v1663_r0 v1664_r0 v1665_r0 v1666_r0 v1667_r0 v1668_r0 v1669_r0 v1670_r0 v1671_r0 v1672_r0 v1673_r0 v1674_r0 v1675_r0 v1676_r0 v1677_r0 v1678_r0 v1679_r0 v1680_r0 v1681_r0 v1682_r0 v1683_r0 v1684_r0 v1685_r0 v1686_r0 v1687_r0 v1688_r0 v1689_r0 v1690_r0 v1691_r0 v1692_r0 v1693_r0 v1694_r0 v1695_r0 v1696_r0 v1697_r0 v1698_r0 v1699_r0 v1700_r0 v1701_r0 v1702_r0 v1703_r0 v1704_r0 v1705_r0 v1706_r0 v1707_r0 v1708_r0 v1725_r0 v1726_r0 v1727_r0 v1728_r0 v1756_r0 v1757_r0 v1758_r0 v1759_r0 v1760_r0 v1761_r0 v1762_r0 v1763_r0 v1764_r0 x9_1 v1772_r0 k0_mxu10 k0_mxu11 v1774_r0 v1775_r0 v1776_r0 v1777_r0 v1778_r0 v1779_r0 v1780_r0 v1781_r0 v1782_r0 v1783_r0 v1784_r0 v1785_r0 v1806_r0 k0_mxu12 k0_mxu13 v1846_r0 k0_mxu14 k0_mxu15 c3_i32_913_r0 c0_i32_914_r0 v1880_r0 v1884_r0 v1890_r0 v1891_r0 k0_mxu16 k0_mxu17 v1920_r0 k0_mxu18 k0_mxu19 v1922_r0 v1923_r0 v1924_r0 v1925_r0 v1926_r0 v1927_r0 v1928_r0 v1929_r0 v1930_r0 v1931_r0 v1932_r0 v1933_r0 c3_i32_944_r0 v1954_r0 v1969_r0 v1974_r0 v1980_r0 c0_i32_957_r0 k0_mxu20 k0_mxu21 v1995_r0 v1999_r0 k0_mxu22 v2002_r0 y10_1 v2006_r0 v2010_r0 k0_mxu23 v2013_r0 y10_2 v2017_r0 k0_mxu24 k0_mxu25 v2051_r0 v2055_r0 v2061_r0 k0_mxu26 k0_mxu27 v2091_r0 k0_mxu28 k0_mxu29 v2093_r0 v2094_r0 v2095_r0 v2096_r0 v2097_r0 v2098_r0 v2099_r0 v2100_r0 v2101_r0 v2102_r0 v2103_r0 v2125_r0 v2140_r0 v2145_r0 v2150_r0 k0_mxu30 k0_mxu31 v2164_r0 v2165_r0 v2166_r0 v2167_r0 v2168_r0 v2169_r0 v2170_r0 v2171_r0 v2172_r0 v2173_r0 v2174_r0 v2175_r0 v2176_r0 v2177_r0 v2178_r0 v2179_r0 v2180_r0 v2181_r0 v2182_r0 v2183_r0 v2184_r0 v2185_r0 v2186_r0 v2187_r0 v2188_r0 v2189_r0 v2190_r0 v2191_r0 v2192_r0 v2194_r0 v2196_r0 v2204_r0 v2210_r0 v2223_r0 v2229_r0 v2215_r0 v2234_r0 v2238_r0 v2242_r0 v2248_r0 v2261_r0 v2267_r0 v2280_r0 v2253_r0 v2272_r0 v2284_r0 v2286_r0 v2299_r0 v2305_r0 v2318_r0 v2324_r0 v2291_r0 v2310_r0 v2329_r0 v2333_r0 v2337_r0 v2343_r0 v2349_r0 v2357_r0 v2359_r0 v2361_r0 v2363_r0 v2365_r0 v2367_r0 v2369_r0 v2373_r0 v2375_r0 v2376_r0 v2410_r0 v2411_r0 v2395_r0 v2397_r0 v2399_r0 v2401_r0 v2403_r0 v2405_r0 v2407_r0 v2409_r0 v2413_r0 v2415_r0 c0_i32_1106_r0 v2452_r0 v2460_r0 v2462_r0 c128_i32_1119_r0 v2468_r0 v2476_r0 v2484_r0 v2492_r0 v2500_r0 v2508_r0 v2510_r0 c128_i32_1131_r0 v2520_r0 y11_1 v2526_r0 y11_2 v2532_r0 y11_3 v2538_r0 y11_4 v2544_r0 y11_5 v2550_r0 y11_6 v2556_r0 v2516_r0 v2553_r0 y11_7 v2562_r0 y11_8 v2566_r0 k0_mxu32 k0_mxu33 v2568_r0 v2569_r0 v2570_r0 v2571_r0 v2572_r0 v2573_r0 v2574_r0 v2575_r0 v2576_r0 v2577_r0 v2578_r0 v2579_r0 v2580_r0 v2581_r0 v2582_r0 v2583_r0 v2584_r0 v2585_r0 v2586_r0 v2587_r0 v2588_r0 v2589_r0 v2590_r0 v2591_r0 v2592_r0 v2593_r0 v2594_r0 v2595_r0 v2596_r0 v2600_r0 k0_mxu34 k0_mxu35 v2640_r0 k0_mxu36 k0_mxu37 c3_i32_1165_r0 v2674_r0 v2678_r0 v2684_r0 c0_i32_1182_r0 k0_mxu38 k0_mxu39 v2714_r0 k0_mxu40 k0_mxu41 v2716_r0 v2717_r0 v2718_r0 v2719_r0 v2720_r0 v2721_r0 v2722_r0 v2723_r0 v2724_r0 v2725_r0 v2726_r0 v2727_r0 v2748_r0 v2763_r0 v2768_r0 v2774_r0 k0_mxu42 k0_mxu43 v2788_r0 k0_mxu44 k0_mxu45 v2790_r0 v2791_r0 v2792_r0 v2793_r0 v2794_r0 v2795_r0 v2796_r0 v2797_r0 v2798_r0 v2799_r0 v2800_r0 v2801_r0 v2802_r0 v2803_r0 v2804_r0 v2805_r0 v2806_r0 v2807_r0 v2808_r0 v2809_r0 v2810_r0 v2811_r0 v2812_r0 v2813_r0 v2814_r0 v2822_r0 k0_mxu46 k0_mxu47 v2861_r0 c0_1235_r0 v2862_r0 k0_mxu48 k0_mxu49 v2896_r0 v2900_r0 v2901_r0 c0_i32_1253_r0 k0_mxu50 k0_mxu51 v2936_r0 k0_mxu52 k0_mxu53 v2938_r0 v2939_r0 v2940_r0 v2941_r0 v2942_r0 v2943_r0 v2944_r0 v2970_r0 v2985_r0 v2990_r0 v2991_r0 k0_mxu54 k0_mxu55 v3010_r0 k0_mxu56 k0_mxu57 v3012_r0 v3013_r0 v3014_r0 v3015_r0 v3016_r0 v3017_r0 v3018_r0 v3019_r0 v3020_r0 v3021_r0 v3022_r0 v3023_r0 v3024_r0 v3025_r0 v3026_r0 v3027_r0 v3028_r0 v3029_r0 v3030_r0 v3031_r0 c3_i32_1292_r0 v3044_r0 v3059_r0 v3064_r0 v3075_r0 v3080_r0 k0_mxu58 k0_mxu59 v3085_r0 v3089_r0 k0_mxu60 v3092_r0 y10_3 v3096_r0 v3100_r0 k0_mxu61 v3103_r0 y10_4 v3107_r0 k0_mxu62 k0_mxu63 v3109_r0 v3110_r0 v3111_r0 v3112_r0 v3113_r0 c0_i32_1325_r0 v3141_r0 v3145_r0 v3156_r0 v3160_r0 k0_mxu64 k0_mxu65 v3181_r0 k0_mxu66 k0_mxu67 v3183_r0 v3184_r0 v3185_r0 v3186_r0 v3187_r0 v3188_r0 v3189_r0 v3190_r0 v3191_r0 v3192_r0 v3193_r0 v3194_r0 v3195_r0 v3196_r0 v3197_r0 v3198_r0 v3199_r0 v3200_r0 c3_i32_1351_r0 c0_i32_1354_r0 v3215_r0 v3230_r0 v3235_r0 v3246_r0 v3249_r0 k0_mxu68 k0_mxu69
  have hm_k0_mxu10 : AllF k0_mxu10 := AllF.acc hm8 _ _ _ _ _
  have hm_k0_mxu11 : AllF k0_mxu11 := AllF.acc hm_k0_mxu10 _ _ _ _ _
  have hm_k0_mxu12 : AllF k0_mxu12 := AllF.pushed hm_k0_mxu11 _ _ _
  have hm_k0_mxu13 : AllF k0_mxu13 := AllF.pushed hm_k0_mxu12 _ _ _
  have hm_k0_mxu14 : AllF k0_mxu14 := AllF.acc hm_k0_mxu13 _ _ _ _ _
  have hm_k0_mxu15 : AllF k0_mxu15 := AllF.acc hm_k0_mxu14 _ _ _ _ _
  have hm_k0_mxu16 : AllF k0_mxu16 := AllF.pushed hm_k0_mxu15 _ _ _
  have hm_k0_mxu17 : AllF k0_mxu17 := AllF.pushed hm_k0_mxu16 _ _ _
  have hm_k0_mxu18 : AllF k0_mxu18 := AllF.acc hm_k0_mxu17 _ _ _ _ _
  have hm_k0_mxu19 : AllF k0_mxu19 := AllF.acc hm_k0_mxu18 _ _ _ _ _
  have hm_k0_mxu20 : AllF k0_mxu20 := AllF.pushed hm_k0_mxu19 _ _ _
  have hm_k0_mxu21 : AllF k0_mxu21 := AllF.pushed hm_k0_mxu20 _ _ _
  have hm_k0_mxu22 : AllF k0_mxu22 := AllF.pop hm_k0_mxu21 _ _ _ _
  have hm_k0_mxu23 : AllF k0_mxu23 := AllF.pop hm_k0_mxu22 _ _ _ _
  have hm_k0_mxu24 : AllF k0_mxu24 := AllF.acc hm_k0_mxu23 _ _ _ _ _
  have hm_k0_mxu25 : AllF k0_mxu25 := AllF.acc hm_k0_mxu24 _ _ _ _ _
  have hm_k0_mxu26 : AllF k0_mxu26 := AllF.pushed hm_k0_mxu25 _ _ _
  have hm_k0_mxu27 : AllF k0_mxu27 := AllF.pushed hm_k0_mxu26 _ _ _
  have hm_k0_mxu28 : AllF k0_mxu28 := AllF.acc hm_k0_mxu27 _ _ _ _ _
  have hm_k0_mxu29 : AllF k0_mxu29 := AllF.acc hm_k0_mxu28 _ _ _ _ _
  have hm_k0_mxu30 : AllF k0_mxu30 := AllF.pushed hm_k0_mxu29 _ _ _
  have hm_k0_mxu31 : AllF k0_mxu31 := AllF.pushed hm_k0_mxu30 _ _ _
  have hm_k0_mxu32 : AllF k0_mxu32 := AllF.acc hm_k0_mxu31 _ _ _ _ _
  have hm_k0_mxu33 : AllF k0_mxu33 := AllF.acc hm_k0_mxu32 _ _ _ _ _
  have hm_k0_mxu34 : AllF k0_mxu34 := AllF.pushed hm_k0_mxu33 _ _ _
  have hm_k0_mxu35 : AllF k0_mxu35 := AllF.pushed hm_k0_mxu34 _ _ _
  have hm_k0_mxu36 : AllF k0_mxu36 := AllF.acc hm_k0_mxu35 _ _ _ _ _
  have hm_k0_mxu37 : AllF k0_mxu37 := AllF.acc hm_k0_mxu36 _ _ _ _ _
  have hm_k0_mxu38 : AllF k0_mxu38 := AllF.pushed hm_k0_mxu37 _ _ _
  have hm_k0_mxu39 : AllF k0_mxu39 := AllF.pushed hm_k0_mxu38 _ _ _
  have hm_k0_mxu40 : AllF k0_mxu40 := AllF.acc hm_k0_mxu39 _ _ _ _ _
  have hm_k0_mxu41 : AllF k0_mxu41 := AllF.acc hm_k0_mxu40 _ _ _ _ _
  have hm_k0_mxu42 : AllF k0_mxu42 := AllF.pushed hm_k0_mxu41 _ _ _
  have hm_k0_mxu43 : AllF k0_mxu43 := AllF.pushed hm_k0_mxu42 _ _ _
  have hm_k0_mxu44 : AllF k0_mxu44 := AllF.acc hm_k0_mxu43 _ _ _ _ _
  have hm_k0_mxu45 : AllF k0_mxu45 := AllF.acc hm_k0_mxu44 _ _ _ _ _
  have hm_k0_mxu46 : AllF k0_mxu46 := AllF.pushed hm_k0_mxu45 _ _ _
  have hm_k0_mxu47 : AllF k0_mxu47 := AllF.pushed hm_k0_mxu46 _ _ _
  have hm_k0_mxu48 : AllF k0_mxu48 := AllF.acc hm_k0_mxu47 _ _ _ _ _
  have hm_k0_mxu49 : AllF k0_mxu49 := AllF.acc hm_k0_mxu48 _ _ _ _ _
  have hm_k0_mxu50 : AllF k0_mxu50 := AllF.pushed hm_k0_mxu49 _ _ _
  have hm_k0_mxu51 : AllF k0_mxu51 := AllF.pushed hm_k0_mxu50 _ _ _
  have hm_k0_mxu52 : AllF k0_mxu52 := AllF.acc hm_k0_mxu51 _ _ _ _ _
  have hm_k0_mxu53 : AllF k0_mxu53 := AllF.acc hm_k0_mxu52 _ _ _ _ _
  have hm_k0_mxu54 : AllF k0_mxu54 := AllF.pushed hm_k0_mxu53 _ _ _
  have hm_k0_mxu55 : AllF k0_mxu55 := AllF.pushed hm_k0_mxu54 _ _ _
  have hm_k0_mxu56 : AllF k0_mxu56 := AllF.acc hm_k0_mxu55 _ _ _ _ _
  have hm_k0_mxu57 : AllF k0_mxu57 := AllF.acc hm_k0_mxu56 _ _ _ _ _
  have hm_k0_mxu58 : AllF k0_mxu58 := AllF.pushed hm_k0_mxu57 _ _ _
  have hm_k0_mxu59 : AllF k0_mxu59 := AllF.pushed hm_k0_mxu58 _ _ _
  have hm_k0_mxu60 : AllF k0_mxu60 := AllF.pop hm_k0_mxu59 _ _ _ _
  have hm_k0_mxu61 : AllF k0_mxu61 := AllF.pop hm_k0_mxu60 _ _ _ _
  have hm_k0_mxu62 : AllF k0_mxu62 := AllF.acc hm_k0_mxu61 _ _ _ _ _
  have hm_k0_mxu63 : AllF k0_mxu63 := AllF.acc hm_k0_mxu62 _ _ _ _ _
  have hm_k0_mxu64 : AllF k0_mxu64 := AllF.pushed hm_k0_mxu63 _ _ _
  have hm_k0_mxu65 : AllF k0_mxu65 := AllF.pushed hm_k0_mxu64 _ _ _
  have hm_k0_mxu66 : AllF k0_mxu66 := AllF.acc hm_k0_mxu65 _ _ _ _ _
  have hm_k0_mxu67 : AllF k0_mxu67 := AllF.acc hm_k0_mxu66 _ _ _ _ _
  have hm_k0_mxu68 : AllF k0_mxu68 := AllF.pushed hm_k0_mxu67 _ _ _
  have hm_k0_mxu69 : AllF k0_mxu69 := AllF.pushed hm_k0_mxu68 _ _ _
  have ms_k0_mxu11 : St k0_mxu11 _ _ _ _ := St.accA0n ms8 _ _
  have ms_k0_mxu13 : St k0_mxu13 _ _ _ _ := St.push1 ms_k0_mxu11 _ _
  have ms_k0_mxu15 : St k0_mxu15 _ _ _ _ := St.accA1s ms_k0_mxu13 _ _
  have ms_k0_mxu17 : St k0_mxu17 _ _ _ _ := St.push0 ms_k0_mxu15 _ _
  have ms_k0_mxu19 : St k0_mxu19 _ _ _ _ := St.accA0s ms_k0_mxu17 _ _
  have ms_k0_mxu21 : St k0_mxu21 _ _ _ _ := St.push1 ms_k0_mxu19 _ _
  have ms_k0_mxu23 : St k0_mxu23 _ _ _ _ := St.popB ms_k0_mxu21 _
  have ms_k0_mxu25 : St k0_mxu25 _ _ _ _ := St.accA1s ms_k0_mxu23 _ _
  have ms_k0_mxu27 : St k0_mxu27 _ _ _ _ := St.push0 ms_k0_mxu25 _ _
  have ms_k0_mxu29 : St k0_mxu29 _ _ _ _ := St.accA0s ms_k0_mxu27 _ _
  have ms_k0_mxu31 : St k0_mxu31 _ _ _ _ := St.push1 ms_k0_mxu29 _ _
  have ms_k0_mxu33 : St k0_mxu33 _ _ _ _ := St.accA1s ms_k0_mxu31 _ _
  have ms_k0_mxu35 : St k0_mxu35 _ _ _ _ := St.push0 ms_k0_mxu33 _ _
  have ms_k0_mxu37 : St k0_mxu37 _ _ _ _ := St.accA0s ms_k0_mxu35 _ _
  have ms_k0_mxu39 : St k0_mxu39 _ _ _ _ := St.push1 ms_k0_mxu37 _ _
  have ms_k0_mxu41 : St k0_mxu41 _ _ _ _ := St.accB1n ms_k0_mxu39 _ _
  have ms_k0_mxu43 : St k0_mxu43 _ _ _ _ := St.push0 ms_k0_mxu41 _ _
  have ms_k0_mxu45 : St k0_mxu45 _ _ _ _ := St.accB0s ms_k0_mxu43 _ _
  have ms_k0_mxu47 : St k0_mxu47 _ _ _ _ := St.push1 ms_k0_mxu45 _ _
  have ms_k0_mxu49 : St k0_mxu49 _ _ _ _ := St.accB1s ms_k0_mxu47 _ _
  have ms_k0_mxu51 : St k0_mxu51 _ _ _ _ := St.push0 ms_k0_mxu49 _ _
  have ms_k0_mxu53 : St k0_mxu53 _ _ _ _ := St.accB0s ms_k0_mxu51 _ _
  have ms_k0_mxu55 : St k0_mxu55 _ _ _ _ := St.push1 ms_k0_mxu53 _ _
  have ms_k0_mxu57 : St k0_mxu57 _ _ _ _ := St.accB1s ms_k0_mxu55 _ _
  have ms_k0_mxu59 : St k0_mxu59 _ _ _ _ := St.push0 ms_k0_mxu57 _ _
  have ms_k0_mxu61 : St k0_mxu61 _ _ _ _ := St.popA ms_k0_mxu59 _
  have ms_k0_mxu63 : St k0_mxu63 _ _ _ _ := St.accB0s ms_k0_mxu61 _ _
  have ms_k0_mxu65 : St k0_mxu65 _ _ _ _ := St.push1 ms_k0_mxu63 _ _
  have ms_k0_mxu67 : St k0_mxu67 _ _ _ _ := St.accB1s ms_k0_mxu65 _ _
  have ms_k0_mxu69 : St k0_mxu69 _ _ _ _ := St.push0 ms_k0_mxu67 _ _
  exact ⟨hm_k0_mxu69, _, _, ms_k0_mxu69⟩

end

end Cert.Kernel.Hand
-- ==== Proof.Kernel.Loop.lean ====
module

public import proofs.«01_k».proof.Proof.Kernel.PrologueA
public import proofs.«01_k».proof.Proof.Kernel.TripShape

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Cert.MxuSpec

section
variable {𝒱 : Variants} {c : Dev nD} {bd : Option 𝒱.V} {A : Par F c} {Z : sProp (MT nD τ sig Unit (Elt F) ℕ (Pipeline.UD sig nD τ) ℕ)}
  {f9 : Bf F c M9} {f10 : Bf F c M10} {f11 : Bf F c M11}

/-- The first weight words of the first block. -/
def w00 (f6 : Bf F c M6) : Vec F S1x1x256x128 .i32 := (M6.access (Rect.unit (s := S3x4x1792x384) ![0, 0, 0, 0] S1x1x256x128.size inb_S3x4x1792x384_S1x1x256x128_0_0_0_0)).read (Elt F) f6

theorem run_part70 (v1022 : FVec F S8x128 .f32) (v1026 : IVec S8x128 1) (v1030 : IVec S8x128 1) (v1031 : FVec F S8x128 .f32) (c16_i32_529 : BitVec 32) {Q : (Σ' (v1058_r0 : IVec S256x128 16), IVec S256x128 16) → sProp 𝕄}
    (h : OwnT {A with f8 := (M8.access (Rect.unit (s := S9x8x128) ![8, 0, 0] S1x8x128.size inb_S9x8x128_S1x8x128_8_0_0)).write (Elt F) A.f8 (k0_pay239 v1022 v1026 v1030 v1031 c16_i32_529) Finset.univ} Z 1 1 0 f9 f10 f11
      ⊢ Q ⟨k0_pay240 (w00 (F6 A.f1)), k0_pay241 (w00 (F6 A.f1))⟩) :
    OwnT A Z 0 0 0 f9 f10 f11 ⊢ wp frame (wpE (defs₀ (F := F)) 𝒱 (c : Thread nD τ) bd) Set.univ (k0_part70 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 v1022 v1026 v1030 v1031 c16_i32_529) Q := by
  rw [k0_part70_eq_skeleton]; unfold k0_part70_skel
  try dsimp only
  refine run_bind (run_ld8 ?_)
  refine run_bind (run_st8 ?_)
  refine run_bind (runT_waitx (A := {A with f8 := (M8.access (Rect.unit (s := S9x8x128) ![8, 0, 0] S1x8x128.size inb_S9x8x128_S1x8x128_8_0_0)).write (Elt F) A.f8 (k0_pay239 v1022 v1026 v1030 v1031 c16_i32_529) Finset.univ}) (Z := Z) (lx := 0) (by decide) (os := ![0]) rfl ?_)
  refine run_bind (runT_waitq (lq := 0) (by decide) (os := ![0, 0]) rfl ?_)
  refine run_bind (run_ld6 (in6 (p := 0) (q := 0) (K := 1) rfl rfl rfl rfl (by decide)) ?_)
  exact run_pure h

/-! ## The loop -/

/-- What holds before trip `t`: the copies where they stand, and the carried state as `I` says. -/
def LI (A : Par F c) (Z : sProp (MT nD τ sig Unit (Elt F) ℕ (Pipeline.UD sig nD τ) ℕ)) (I : ℕ → Mxu F → Bf F c M9 → Bf F c M10 → Bf F c M11 → Prop) (t : ℕ) (mx : Mxu F) : sProp (MT nD τ sig Unit (Elt F) ℕ (Pipeline.UD sig nD τ) ℕ) :=
  iprop(∃ (f9 : Bf F c M9) (f10 : Bf F c M10) (f11 : Bf F c M11), OwnT A Z (nx t) (nq t) (ny t) f9 f10 f11 ∗ ⌜I t mx f9 f10 f11⌝)

/-- The conditions on `I`: it gives what the trip needs, and the trip keeps it. -/
structure Keeps (A : Par F c) (I : ℕ → Mxu F → Bf F c M9 → Bf F c M10 → Bf F c M11 → Prop) : Prop where
  allF : ∀ {t mx f9 f10 f11}, I t mx f9 f10 f11 → AllF mx
  good : ∀ {t mx f9 f10 f11}, I t mx f9 f10 f11 → 0 < ec t ∧ ec t % 3 = 0 → A.good (ny t) f11
  step : ∀ {mx f9 f10 f11} (k : Fin k0_t1_loop.trips), I k.val mx f9 f10 f11 →
    I (k.val + 1) (trip (F5 A.f0) (F6 A.f1) A.f7 A.f8 k mx f9 f10 f11).mx (trip (F5 A.f0) (F6 A.f1) A.f7 A.f8 k mx f9 f10 f11).b9
      (trip (F5 A.f0) (F6 A.f1) A.f7 A.f8 k mx f9 f10 f11).b10 (trip (F5 A.f0) (F6 A.f1) A.f7 A.f8 k mx f9 f10 f11).b11

variable {I : ℕ → Mxu F → Bf F c M9 → Bf F c M10 → Bf F c M11 → Prop}

/-- The loop of the kernel, by its invariant. -/
@[instance_reducible] def loopInv (hI : Keeps A I) (Z : sProp (MT nD τ sig Unit (Elt F) ℕ (Pipeline.UD sig nD τ) ℕ)) (k0_mxu1 : Mxu F) (u1 u2 : IVec S256x128 16) (init : Mxu F) :
    Gen.LoopInvTy_k0_t1 (F := F) Unit ℕ (Pipeline.UD sig nD τ) ℕ 𝒱 c bd Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_mxu1 u1 u2 init where
  inv t mx := LI A Z I t mx
  step k mx := by
    unfold LI
    iintro ⟨%f9, %f10, %f11, H, %h⟩
    iapply (run_trip (A := A) (Z := Z) k mx (hI.allF h) k0_mxu1 u1 u2 (hI.good h) ?_) $$ H
    iintro H
    iexists _, _, _
    isplitl [H]
    · iexact H
    ipureintro
    exact hI.step k h

theorem run_part71 (hI : Keeps A I) (k0_mxu1 : Mxu F) (v1058_r0 : IVec S256x128 16) (v1062_r0 : IVec S256x128 16) (hm : AllF k0_mxu1)
    (h0 : I 0 ((((((k0_mxu1.pushed 0 1 false (k0_pay248 (F := F) v1062_r0)).pushed 1 1 false (k0_pay249 (F := F) v1058_r0)).pushed 0 0 false (k0_pay250 (F := F) v1062_r0)).pushed 1 0 false
      (k0_pay251 (F := F) v1058_r0)).accLhs 0 1 24 (k0_pay252 (F := F)) fits_24_96).accLhs 1 1 24 (k0_pay252 (F := F)) fits_24_96) f9 f10 f11)
    {Q : Mxu F → sProp 𝕄}
    (h : ∀ mx g9 g10 g11, I 36 mx g9 g10 g11 → OwnT A Z 4 12 7 g9 g10 g11 ⊢ Q mx) :
    OwnT A Z 1 1 0 f9 f10 f11 ⊢ wp frame (wpE (defs₀ (F := F)) 𝒱 (c : Thread nD τ) bd) Set.univ (k0_part71 M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10 k0_mxu1 v1058_r0 v1062_r0) Q := by
  rw [k0_part71_eq_skeleton]; unfold k0_part71_skel
  refine run_bind (run_push (AllF.ok hm _ _) ?_)
  refine run_bind (run_push (AllF.ok (AllF.pushed hm _ _ _) _ _) ?_)
  refine run_bind (run_push (AllF.ok (AllF.pushed (AllF.pushed hm _ _ _) _ _ _) _ _) ?_)
  refine run_bind (run_push (AllF.ok (AllF.pushed (AllF.pushed (AllF.pushed hm _ _ _) _ _ _) _ _ _) _ _) ?_)
  refine run_bind ?_
  have hx : ∀ mx : Mxu F, LI A Z I 36 mx ⊢ Q mx := by
    intro mx
    unfold LI
    iintro ⟨%g9, %g10, %g11, H, %hi⟩
    have e := h mx g9 g10 g11 hi
    rw [show (4 : ℕ) = nx 36 from rfl, show (12 : ℕ) = nq 36 from rfl, show (7 : ℕ) = ny 36 from rfl] at e
    iapply e $$ H
  iintro H
  iapply (exec_loop_last frame (wpE (defs₀ (F := F)) 𝒱 (c : Thread nD τ) bd) Set.univ k0_t1_loop.lb k0_t1_loop.ub k0_t1_loop.st k0_t1_ok _ _ (loopInv (𝒱 := 𝒱) (bd := bd) hI Z k0_mxu1 v1058_r0 v1062_r0 _)) $$ [H]
  · change OwnT A Z 1 1 0 f9 f10 f11 ⊢ LI A Z I 0 _
    unfold LI
    iintro H
    iexists _, _, _
    isplitl [H]
    · iexact H
    ipureintro
    exact h0
  · iintro %mx
    istop
    exact Idealize.SL.BI.Laws.entails_wand_emp (run_pure (hx mx))

end

end Cert.Kernel.Hand
-- ==== Proof.Kernel.Body.lean ====
module

public import proofs.«01_k».proof.Proof.Kernel.PrologueB
public import proofs.«01_k».proof.Proof.Kernel.PrologueC
public import proofs.«01_k».proof.Proof.Kernel.EpilogueA
public import proofs.«01_k».proof.Proof.Kernel.EpilogueB
public import proofs.«01_k».proof.Proof.Kernel.Loop

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Cert.MxuSpec

section
variable {𝒱 : Variants} {c : Dev nD} {bd : Option 𝒱.V}
  {f0 : Bf F c M0} {g5 : Bf F c M5} {f1 : Bf F c M1} {g6 : Bf F c M6} {f2 : Bf F c M2} {g7 : Bf F c M7} {f3 : Bf F c M3} {g8 : Bf F c M8}
  {f4 : Bf F c M4} {f9 : Bf F c M9} {f10 : Bf F c M10} {f11 : Bf F c M11}

/-- The arrays of the call, nothing asked of the staged result. -/
def A0 (f0 : Bf F c M0) (f1 : Bf F c M1) (f2 : Bf F c M2) (f4 : Bf F c M4) (f8 : Bf F c M8) : Par F c := ⟨f0, f1, f4, L7 f2, f8, fun _ _ => True⟩

/-- The state of the matrix unit between trips. -/
def I0 (_ : ℕ) (mx : Mxu F) (_ : Bf F c M9) (_ : Bf F c M10) (_ : Bf F c M11) : Prop := AllF mx ∧ ∃ w v, Head mx w v

theorem keeps0 (A : Par F c) (hg : ∀ p f, A.good p f) : Keeps A I0 where
  allF h := h.1
  good _ _ := hg _ _
  step k h := by
    obtain ⟨hm, w, v, hh⟩ := h
    exact trip_shape hm hh

theorem AllF_init : AllF (Mxu.init : Mxu F) := by
  intro q r t ht
  rw [Mxu.reg_init] at ht
  exact absurd ht (by simp)

theorem drained_end {mx : Mxu F} {w v} (h : Head mx w v) (x : FVec F (Mxu.STile 96) .bf16) :
    (((((((mx.pop 0 24 96 fits_24_96).pop 1 24 96 fits_24_96).accLhs 0 0 0 x fits_0_96).accLhs 1 0 0 x fits_0_96).pop 0 0 96 fits_0_96).pop 1 0 96 fits_0_96)).Drained :=
  St.drained (St.popA (St.accA0n (St.popB h fits_24_96) x fits_0_96) fits_0_96)

/-- The whole kernel: from the operands in their arrays to the copies of the result all landed. -/
theorem run_kernel {Q : PUnit → sProp 𝕄}
    (h : ∀ f8 f9 f10 f11, PE (A0 f0 f1 f2 f4 f8) 9 (Yend (A0 f0 f1 f2 f4 f8) (Zs c f2 f3) f9 f10 f11) ⊢ Q ⟨⟩) :
    PQ c f0 g5 f1 g6 0 0 iprop(S7a c f2 g7 ∗ S8a c f3 g8 ∗ wts c ∗ QP 9 (iniy c f4) (gly (A0 f0 f1 f2 f4 (L8 f3))) 0
      ∗ (M9.view.loc (c : Thread nD τ) ↦{fullShare} f9) ∗ (M10.view.loc (c : Thread nD τ) ↦{fullShare} f10) ∗ (M11.view.loc (c : Thread nD τ) ↦{fullShare} f11))
      ⊢ wp frame (wpE (defs₀ (F := F)) 𝒱 (c : Thread nD τ) bd) Set.univ (cc0_awq_int4_linear M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [cc0_awq_int4_linear_eq_skeleton]; unfold cc0_awq_int4_linear_skel
  refine run_bind (run_part43 ?_)
  refine run_bind (run_part44 ?_)
  refine run_bind (run_part45 ?_)
  refine run_bind (run_part46 (A := A0 f0 f1 f2 f4 (L8 f3)) rfl rfl rfl rfl ?_)
  refine run_bind (run_part47 _ ?_)
  refine run_bind (run_part48 _ _ _ _ _ ?_)
  refine run_bind (run_part49 _ _ _ ?_)
  intro v191 g8_49_1 v194 v196 v197
  refine run_bind (run_part50 _ _ _ _ _ ?_)
  refine run_bind (run_part51 _ _ _ _ _ _ _ ?_)
  refine run_bind (run_part52 _ ?_)
  intro v297 g8_52_1 v300 v302 v303
  refine run_bind (run_part53 _ _ _ _ _ _ _ ?_)
  refine run_bind (run_part54 _ _ _ _ _ _ ?_)
  intro v403 g8_54_1 v406 v408 v409 v410 v411
  refine run_bind (run_part55 _ _ _ _ _ _ ?_)
  refine run_bind (run_part56 _ _ _ _ _ ?_)
  refine run_bind (run_part57 _ _ _ _ _ ?_)
  intro v509 g8_57_1 v512 v514 v515
  refine run_bind (run_part58 _ _ _ _ _ _ _ _ ?_)
  refine run_bind (run_part59 _ _ _ _ _ ?_)
  intro v615 g8_59_1 v618 v620 v621
  refine run_bind (run_part60 _ ?_)
  refine run_bind (run_part61 _ _ _ _ _ ?_)
  refine run_bind (run_part62 _ _ _ ?_)
  intro v721 g8_62_1 v724 v726 v727
  refine run_bind (run_part63 _ _ _ _ _ ?_)
  refine run_bind (run_part64 _ _ _ _ _ _ _ ?_)
  refine run_bind (run_part65 _ ?_)
  intro v827 g8_65_1 v830 v832 v833
  refine run_bind (run_part66 _ _ _ _ _ _ _ ?_)
  refine run_bind (run_part67 _ _ _ _ _ _ ?_)
  intro v933 g8_67_1 v936 v938 v939 v940 v941
  refine run_bind (run_part68 _ _ _ _ _ _ ?_)
  refine run_bind (run_part69 _ _ _ _ _ ?_)
  refine run_bind (run_part70 (A := A0 f0 f1 f2 f4 _) _ _ _ _ _ ?_)
  refine run_bind (run_part71 (keeps0 _ fun _ _ => trivial) _ _ _ AllF_init ?_ ?_)
  · refine ⟨?_, _, _, St.accB1n (St.push0 (St.push1 St.init _ _) _ _) _ _⟩
    exact AllF.acc (AllF.acc (AllF.pushed (AllF.pushed (AllF.pushed (AllF.pushed AllF_init _ _ _) _ _ _) _ _ _) _ _ _) _ _ _ _ _) _ _ _ _ _
  intro mx h9 h10 h11 hI
  refine run_bind (run_part72 _ trivial ?_)
  intro v1103_r0 v1107_r0 k0_mxu70 v1109_r0 g10_72_1 v1112_r0 v1116_r0 k0_mxu71 v1118_r0 g10_72_2 k0_mxu72 k0_mxu73 v1122_r0 k0_mxu74 v1123_r0 k0_mxu75 v1125_r0 v1127_r0
  refine run_bind (run_part73 _ _ _ _ ?_)
  intro v1134_r0 v1139_r0 v1151_r0 v1156_r0 v1168_r0
  refine run_bind (run_part74 _ _ _ _ _ ?_)
  intro v1173_r0 v1185_r0 v1190_r0 v1202_r0 v1207_r0
  refine run_bind (run_part75 _ _ _ _ ?_)
  intro v1219_r0 v1224_r0 v1236_r0 v1241_r0 v1253_r0
  refine run_bind (run_part76 _ _ _ _ _ _ _ _ _ _ ?_)
  intro v1258_r0 v1264_r0
  refine run_bind (run_part77 _ _ _ _ _ _ _ _ _ _ ?_)
  intro v1325_r0 v1326_r0
  refine run_bind (run_part78 _ _ _ _ _ _ _ ?_)
  refine run_bind (run_part79 _ _ _ _ _ _ _ _ _ ?_)
  refine run_bind (run_part80 _ _ _ _ _ _ _ _ _ (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) ?_)
  intro v1434_r0 g11_80_1 v1439_r0 g11_80_2 v1444_r0 g11_80_3 v1449_r0 g11_80_4 v1454_r0 g11_80_5 v1459_r0 g11_80_6 v1464_r0 g11_80_7 v1469_r0
  refine run_bind (run_part81 _ _ trivial ?_)
  refine run_bind (run_part82 ?_)
  refine run_bind (pe_y 8 (by decide) (os := ![8]) rfl ?_)
  obtain ⟨-, w, v, hh⟩ := hI
  refine run_bind (run_exit (drained_end hh _) ?_)
  exact run_pure (h _ _ _ _)

end

end Cert.Kernel.Hand
-- ==== Proof.Kernel.Split.lean ====
module

public import proofs.«01_k».proof.Proof.Kernel.Body

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {𝒱 : Variants} {c : Dev nD} {bd : Option 𝒱.V}

theorem cov_0 : (Finset.range 4).biUnion (pc0 c) = Finset.univ := by
  ext i
  simp only [pc0, Finset.mem_biUnion, Finset.mem_range, Finset.mem_filter, Finset.mem_univ, true_and, iff_true]
  have hb : ∀ j : S96x7168.Idx, (j 0).val < 96 ∧ (j 1).val < 7168 := fun j => ⟨(j 0).isLt, (j 1).isLt⟩
  have hc := hb i
  exact ⟨_, by omega, rfl⟩
theorem dis_0 : ∀ t ∈ Finset.range 4, ∀ t' ∈ Finset.range 4, t ≠ t' → Disjoint (pc0 c t) (pc0 c t') := by
  intro t _ t' _ hne
  rw [Finset.disjoint_left]; intro i; simp only [pc0, Finset.mem_filter, Finset.mem_univ, true_and]
  intro h h'; exact hne (h.symm.trans h')
theorem pts_0 (f : Bf F c M0) : ((M0.view.loc (c : Thread nD τ) ↦{fullShare} f : sProp 𝕄)) = bigSep (Finset.range 4) fun p => (M0.view.loc (c : Thread nD τ) ↦[pc0 c p]{fullShare} f) := by
  rw [← pointsTo_biUnion _ _ dis_0, cov_0]

theorem cov_5 : (Finset.range 4).biUnion (pc5 c) = Finset.univ := by
  ext i
  simp only [pc5, Finset.mem_biUnion, Finset.mem_range, Finset.mem_filter, Finset.mem_univ, true_and, iff_true]
  have hb : ∀ j : S4x96x1792.Idx, (j 0).val < 4 ∧ (j 1).val < 96 := fun j => ⟨(j 0).isLt, (j 1).isLt⟩
  have hc := hb i
  exact ⟨_, by omega, rfl⟩
theorem dis_5 : ∀ t ∈ Finset.range 4, ∀ t' ∈ Finset.range 4, t ≠ t' → Disjoint (pc5 c t) (pc5 c t') := by
  intro t _ t' _ hne
  rw [Finset.disjoint_left]; intro i; simp only [pc5, Finset.mem_filter, Finset.mem_univ, true_and]
  intro h h'; exact hne (h.symm.trans h')
theorem pts_5 (f : Bf F c M5) : ((M5.view.loc (c : Thread nD τ) ↦{fullShare} f : sProp 𝕄)) = bigSep (Finset.range 4) fun p => (M5.view.loc (c : Thread nD τ) ↦[pc5 c p]{fullShare} f) := by
  rw [← pointsTo_biUnion _ _ dis_5, cov_5]

theorem cov_1 : (Finset.range 12).biUnion (pc1 c) = Finset.univ := by
  ext i
  simp only [pc1, Finset.mem_biUnion, Finset.mem_range, Finset.mem_filter, Finset.mem_univ, true_and, iff_true]
  have hb : ∀ j : S7168x1152.Idx, (j 0).val < 7168 ∧ (j 1).val < 1152 := fun j => ⟨(j 0).isLt, (j 1).isLt⟩
  have hc := hb i
  exact ⟨_, by omega, rfl⟩
theorem dis_1 : ∀ t ∈ Finset.range 12, ∀ t' ∈ Finset.range 12, t ≠ t' → Disjoint (pc1 c t) (pc1 c t') := by
  intro t _ t' _ hne
  rw [Finset.disjoint_left]; intro i; simp only [pc1, Finset.mem_filter, Finset.mem_univ, true_and]
  intro h h'; exact hne (h.symm.trans h')
theorem pts_1 (f : Bf F c M1) : ((M1.view.loc (c : Thread nD τ) ↦{fullShare} f : sProp 𝕄)) = bigSep (Finset.range 12) fun p => (M1.view.loc (c : Thread nD τ) ↦[pc1 c p]{fullShare} f) := by
  rw [← pointsTo_biUnion _ _ dis_1, cov_1]

theorem cov_6 : (Finset.range 12).biUnion (pc6 c) = Finset.univ := by
  ext i
  simp only [pc6, Finset.mem_biUnion, Finset.mem_range, Finset.mem_filter, Finset.mem_univ, true_and, iff_true]
  have hb : ∀ j : S3x4x1792x384.Idx, (j 0).val < 3 ∧ (j 1).val < 4 := fun j => ⟨(j 0).isLt, (j 1).isLt⟩
  have hc := hb i
  exact ⟨_, by omega, rfl⟩
theorem dis_6 : ∀ t ∈ Finset.range 12, ∀ t' ∈ Finset.range 12, t ≠ t' → Disjoint (pc6 c t) (pc6 c t') := by
  intro t _ t' _ hne
  rw [Finset.disjoint_left]; intro i; simp only [pc6, Finset.mem_filter, Finset.mem_univ, true_and]
  intro h h'; exact hne (h.symm.trans h')
theorem pts_6 (f : Bf F c M6) : ((M6.view.loc (c : Thread nD τ) ↦{fullShare} f : sProp 𝕄)) = bigSep (Finset.range 12) fun p => (M6.view.loc (c : Thread nD τ) ↦[pc6 c p]{fullShare} f) := by
  rw [← pointsTo_biUnion _ _ dis_6, cov_6]

theorem cov_4 : (Finset.range 9).biUnion (pc4 c) = Finset.univ := by
  ext i
  simp only [pc4, Finset.mem_biUnion, Finset.mem_range, Finset.mem_filter, Finset.mem_univ, true_and, iff_true]
  have hb : ∀ j : S96x9216.Idx, (j 0).val < 96 ∧ (j 1).val < 9216 := fun j => ⟨(j 0).isLt, (j 1).isLt⟩
  have hc := hb i
  exact ⟨_, by omega, rfl⟩
theorem dis_4 : ∀ t ∈ Finset.range 9, ∀ t' ∈ Finset.range 9, t ≠ t' → Disjoint (pc4 c t) (pc4 c t') := by
  intro t _ t' _ hne
  rw [Finset.disjoint_left]; intro i; simp only [pc4, Finset.mem_filter, Finset.mem_univ, true_and]
  intro h h'; exact hne (h.symm.trans h')
theorem pts_4 (f : Bf F c M4) : ((M4.view.loc (c : Thread nD τ) ↦{fullShare} f : sProp 𝕄)) = bigSep (Finset.range 9) fun p => (M4.view.loc (c : Thread nD τ) ↦[pc4 c p]{fullShare} f) := by
  rw [← pointsTo_biUnion _ _ dis_4, cov_4]

theorem cov_11 : (Finset.range 9).biUnion (pc11 c) = Finset.univ := by
  ext i
  simp only [pc11, Finset.mem_biUnion, Finset.mem_range, Finset.mem_filter, Finset.mem_univ, true_and, iff_true]
  have hb : ∀ j : S9x96x1024.Idx, (j 0).val < 9 ∧ (j 1).val < 96 := fun j => ⟨(j 0).isLt, (j 1).isLt⟩
  have hc := hb i
  exact ⟨_, by omega, rfl⟩
theorem dis_11 : ∀ t ∈ Finset.range 9, ∀ t' ∈ Finset.range 9, t ≠ t' → Disjoint (pc11 c t) (pc11 c t') := by
  intro t _ t' _ hne
  rw [Finset.disjoint_left]; intro i; simp only [pc11, Finset.mem_filter, Finset.mem_univ, true_and]
  intro h h'; exact hne (h.symm.trans h')
theorem pts_11 (f : Bf F c M11) : ((M11.view.loc (c : Thread nD τ) ↦{fullShare} f : sProp 𝕄)) = bigSep (Finset.range 9) fun p => (M11.view.loc (c : Thread nD τ) ↦[pc11 c p]{fullShare} f) := by
  rw [← pointsTo_biUnion _ _ dis_11, cov_11]

variable (c) in
def smx : sProp (MT nD τ sig Unit (Elt F) ℕ (Pipeline.UD sig nD τ) ℕ) := bigSep (Finset.range 4) fun p => semVal ((c : Thread nD τ), SemLoc.dma (xsem p)) 0
variable (c) in
def smq : sProp (MT nD τ sig Unit (Elt F) ℕ (Pipeline.UD sig nD τ) ℕ) := bigSep (Finset.range 12) fun p => semVal ((c : Thread nD τ), SemLoc.dma (qsem p)) 0
variable (c) in
def smy : sProp (MT nD τ sig Unit (Elt F) ℕ (Pipeline.UD sig nD τ) ℕ) := bigSep (Finset.range 9) fun p => semVal ((c : Thread nD τ), SemLoc.dma (ysem p)) 0

theorem in_x {f0 : Bf F c M0} {g5 : Bf F c M5} {b : ℕ → sProp 𝕄} :
    QP 4 (inix c f0 g5) b 0 = iprop((M0.view.loc (c : Thread nD τ) ↦{fullShare} f0) ∗ (M5.view.loc (c : Thread nD τ) ↦{fullShare} g5) ∗ smx c) := by
  rw [qp_none, pts_0, pts_5]; unfold smx inix
  rw [BI.bigSep_sep', BI.bigSep_sep']
theorem in_q {f1 : Bf F c M1} {g6 : Bf F c M6} {b : ℕ → sProp 𝕄} :
    QP 12 (iniq c f1 g6) b 0 = iprop((M1.view.loc (c : Thread nD τ) ↦{fullShare} f1) ∗ (M6.view.loc (c : Thread nD τ) ↦{fullShare} g6) ∗ smq c) := by
  rw [qp_none, pts_1, pts_6]; unfold smq iniq
  rw [BI.bigSep_sep', BI.bigSep_sep']
theorem in_y {f4 : Bf F c M4} {b : ℕ → sProp 𝕄} :
    QP 9 (iniy c f4) b 0 = iprop((M4.view.loc (c : Thread nD τ) ↦{fullShare} f4) ∗ smy c) := by
  rw [qp_none, pts_4]; unfold smy iniy
  rw [BI.bigSep_sep']
theorem out_x {f0 : Bf F c M0} {a : ℕ → sProp 𝕄} :
    QP 4 a (dnx c f0) 4 = iprop((M0.view.loc (c : Thread nD τ) ↦{fullShare} f0) ∗ smx c) := by
  rw [qp_all, pts_0]; unfold smx dnx
  rw [BI.bigSep_sep']
theorem out_q {f1 : Bf F c M1} {a : ℕ → sProp 𝕄} :
    QP 12 a (dnq c f1) 12 = iprop((M1.view.loc (c : Thread nD τ) ↦{fullShare} f1) ∗ smq c) := by
  rw [qp_all, pts_1]; unfold smq dnq
  rw [BI.bigSep_sep']

theorem D5_four : D5 c 4 = Finset.univ := by
  ext i; simp only [D5, Finset.mem_filter, Finset.mem_univ, true_and, iff_true]; exact ((show S4x96x1792.Idx from i) 0).isLt
theorem D6_twelve : D6 c 12 = Finset.univ := by
  ext i; simp only [D6, Finset.mem_filter, Finset.mem_univ, true_and, iff_true]
  have hb : ∀ j : S3x4x1792x384.Idx, (j 0).val < 3 ∧ (j 1).val < 4 := fun j => ⟨(j 0).isLt, (j 1).isLt⟩
  have hc := hb i
  omega
theorem D11_nine : D11 c 9 = ∅ := by
  ext i; simp only [D11, Finset.mem_filter, Finset.mem_univ, true_and, Finset.notMem_empty, iff_false, not_le]; exact ((show S9x96x1024.Idx from i) 0).isLt

/-- The landed blocks of the result make the result array and the staging buffer, whole again. -/
theorem out_y {A : Par F c} {a : ℕ → sProp 𝕄} : QP 9 a (gny A) 9 ⊢
    iprop(∃ (G : ℕ → Bf F c M11) (y : Bf F c M4) (g : Bf F c M11), ⌜(∀ p < 9, A.good p (G p)) ∧ ∀ p < 9, ∀ i ∈ pc4 c p, y i = F4 (G p) i⌝
      ∗ (M4.view.loc (c : Thread nD τ) ↦{fullShare} y) ∗ (M11.view.loc (c : Thread nD τ) ↦{fullShare} g) ∗ smy c) := by
  rw [qp_all]
  unfold gny
  refine (BI.bigSep_exists_pi (Finset.range 9) (fun p (g : Bf F c M11) => iprop(dny c g p ∗ ⌜A.good p g⌝))).trans ?_
  iintro ⟨%G, H⟩
  have e : bigSep (Finset.range 9) (fun p => iprop(dny c (G p) p ∗ ⌜A.good p (G p)⌝))
      ⊢ iprop(⌜∀ p ∈ Finset.range 9, A.good p (G p)⌝ ∗ bigSep (Finset.range 9) fun p => dny c (G p) p) :=
    (BI.bigSep_mono fun p _ => BI.sep_comm).trans (BI.bigSep_pure_sep (Finset.range 9) (fun p => A.good p (G p)) fun p => dny c (G p) p)
  ihave H' := e $$ H
  unfold dny
  rw [BI.bigSep_sep', BI.bigSep_sep']
  icases H' with ⟨%hgd, H4, H11, Hs⟩
  ihave H4' := pointsTo_biUnion_join (Finset.range 9) (pc4 c) (fun p => F4 (G p)) (F4 (G 0)) dis_4 $$ H4
  ihave H11' := pointsTo_biUnion_join (Finset.range 9) (pc11 c) G (G 0) dis_11 $$ H11
  icases H4' with ⟨%y, %hy, H4⟩
  icases H11' with ⟨%g, %hg, H11⟩
  rw [cov_4, cov_11]
  iexists G, y, g
  isplitr
  · ipureintro
    exact ⟨fun p hp => hgd p (Finset.mem_range.mpr hp), fun p hp => hy p (Finset.mem_range.mpr hp)⟩
  unfold smy
  iframe

end

end Cert.Kernel.Hand
-- ==== Proof.Kernel.Frame.lean ====
module

public import proofs.«01_k».proof.Proof.Kernel.Split
public import proofs.«01_k».proof.Proof.Gen.Kernel.Launch
public import proofs.«01_k».proof.Proof.Gen.Kernel.Frame
public import proofs.«01_k».proof.Proof.Gen.Kernel.Points
public import Idealize.ShloMosaic.Lib.Pipeline.FrameBody
public import Idealize.ShloMosaic.Lib.Tactic

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
open Idealize.ShloMosaic.Pipeline (Dat Cfg Window BodyObligation cellOf)

variable (m : (ℓ : Loc nD τ sig) → Buf (Elt F) ℓ) (ρ : Dev nD → PrngReg)

/-- The DMA cells of the kernel. -/
abbrev osem0 : Fin 27 → SemLoc sig := fun j => SemLoc.dma j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl

theorem smx_eq (c : Dev nD) : (smx c : sProp 𝕄) = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0) := by
  unfold smx; rw [BI.bigSep_eq_bigSepL_of_eq [0, 1, 2, 3] (by decide) (by decide)]; rfl
theorem smq_eq (c : Dev nD) : (smq c : sProp 𝕄) = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  unfold smq; rw [BI.bigSep_eq_bigSepL_of_eq [0, 1, 2, 3, 4, 5, 6, 7, 8, 9, 10, 11] (by decide) (by decide)]; rfl
theorem smy_eq (c : Dev nD) : (smy c : sProp 𝕄) = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  unfold smy; rw [BI.bigSep_eq_bigSepL_of_eq [0, 1, 2, 3, 4, 5, 6, 7, 8] (by decide) (by decide)]; rfl

/-- The arrays the kernel's copies read, and the one they write. -/
def H0 : Finset (Ref sig .tc) := {main_v0, main_arg1, main_v1, main_v2}
def R0 : Finset (Ref sig .tc) := {main_v3}
def T0 : Finset (Ref sig .tc) := {main_v4}
theorem H0_sub : H0 ⊆ Pipeline.restRefs sig (cfg0.spec) := by decide
theorem R0_sub : R0 ⊆ Pipeline.restRefs sig (cfg0.spec) \ H0 := by decide
theorem hbmPts0_eq (c : Dev nD) :
    (bigSep H0 (fun b => ((c : Thread nD τ).loc b) ↦{fullShare} V m c b) : sProp 𝕄)
      = iprop((M0.view.loc (c : Thread nD τ) ↦{fullShare} V m c main_v0) ∗ (M1.view.loc (c : Thread nD τ) ↦{fullShare} V m c main_arg1) ∗ (M2.view.loc (c : Thread nD τ) ↦{fullShare} V m c main_v1) ∗ (M3.view.loc (c : Thread nD τ) ↦{fullShare} V m c main_v2)) := by
  rw [BI.bigSep_eq_bigSepL_of_eq [main_v0, main_arg1, main_v1, main_v2] (by decide) (by decide)]; rfl
theorem ownedPts0_eq (c : Dev nD) :
    (Pipeline.owned R0 c : sProp 𝕄) = iprop(∃ f, (M4.view.loc (c : Thread nD τ) ↦{fullShare} f)) := by
  unfold Pipeline.owned; rw [BI.bigSep_eq_bigSepL_of_eq [main_v3] (by decide) (by decide)]; rfl

theorem PhiDR0_eq (c : Dev nD) :
    (Pipeline.ΦDR osem0 (cfg0.spec) H0 R0 (V m) c : sProp 𝕄)
      = iprop(iprop((∃ f, (M5.view.loc (c : Thread nD τ) ↦{fullShare} f)) ∗ (∃ f, (M6.view.loc (c : Thread nD τ) ↦{fullShare} f)) ∗ (∃ f, (M7.view.loc (c : Thread nD τ) ↦{fullShare} f)) ∗ (∃ f, (M8.view.loc (c : Thread nD τ) ↦{fullShare} f)) ∗ (∃ f, (M9.view.loc (c : Thread nD τ) ↦{fullShare} f)) ∗ (∃ f, (M10.view.loc (c : Thread nD τ) ↦{fullShare} f)) ∗ (∃ f, (M11.view.loc (c : Thread nD τ) ↦{fullShare} f)))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0)
          ∗ iprop((M0.view.loc (c : Thread nD τ) ↦{fullShare} V m c main_v0) ∗ (M1.view.loc (c : Thread nD τ) ↦{fullShare} V m c main_arg1) ∗ (M2.view.loc (c : Thread nD τ) ↦{fullShare} V m c main_v1) ∗ (M3.view.loc (c : Thread nD τ) ↦{fullShare} V m c main_v2))
          ∗ (∃ f, (M4.view.loc (c : Thread nD τ) ↦{fullShare} f))) := by
  rw [Pipeline.ΦDR_eq, scopedRest0_eq, ownSems00_eq, hbmPts0_eq, ownedPts0_eq]

/-- The proof's data for the call. -/
def dats (_ : Fin 1) (c : Dev nD) : Dat τ (Elt F) Unit ℕ (Pipeline.UD sig nD τ) ℕ cfg0 c where
  A w := V m c (Pipeline.arrRef (cfg0.spec) w)
  after w t := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := by
  dsimp only [dats]

theorem bigSep_W0 (Φ : Fin cfg0.W → sProp 𝕄) : bigSep Finset.univ Φ = iprop(emp) := by
  rw [show (Finset.univ : Finset (Fin cfg0.W)) = ∅ from rfl, bigSep_empty]; rfl

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem ent_eq {P Q : sProp 𝕄} (h : P = Q) : P ⊢ Q := by rw [h]

/-- What the body ends with. -/
def END (c : Dev nD) : sProp (MT nD τ sig Unit (Elt F) ℕ (Pipeline.UD sig nD τ) ℕ) :=
  iprop(∃ f4 f8 f9 f10 f11, PE (A0 (V m c main_v0) (V m c main_arg1) (V m c main_v1) f4 f8) 9
    (Yend (A0 (V m c main_v0) (V m c main_arg1) (V m c main_v1) f4 f8) (Zs c (V m c main_v1) (V m c main_v2)) f9 f10 f11))

theorem pre_run (c : Dev nD) (t : Fin cfg0.N) :
    bodyPre m c t ⊢ iprop(wp frame (wpE (defs₀ (F := F)) Variants.none c none) Set.univ (bodyAt0 t) (fun _ => END m c) ∗ (∃ r, prngReg c r)) := by
  unfold bodyPre bodyAt0
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl]
  iintro ⟨⟨⟨⟨%f5, H5⟩, ⟨%f6, H6⟩, ⟨%f7, H7⟩, ⟨%f8, H8⟩, ⟨%f9, H9⟩, ⟨%f10, H10⟩, ⟨%f11, H11⟩⟩, Hg, Hs, ⟨H0, H1, H2, H3⟩, ⟨%f4, H4⟩⟩, ⟨%W, -, HW⟩, -⟩
  icases Hs with ⟨s0, s1, s2, s3, s4, s5, s6, s7, s8, s9, s10, s11, s12, s13, s14, s15, s16, s17, s18, s19, s20, s21, s22, s23, s24, s25, s26⟩
  isplitr [Hg]
  · iapply (run_kernel (𝒱 := Variants.none) (bd := none) (f0 := V m c main_v0) (g5 := f5) (f1 := V m c main_arg1) (g6 := f6) (f2 := V m c main_v1) (g7 := f7) (f3 := V m c main_v2) (g8 := f8) (f4 := f4) (f9 := f9) (f10 := f10) (f11 := f11)
      (Q := fun _ => END m c) ?_)
    · intro f8 f9 f10 f11
      unfold END
      iintro H
      iexists f4, f8, f9, f10, f11
      iexact H
    · unfold PQ S7a S8a wts
      rw [in_x, in_q, in_y, smx_eq, smq_eq, smy_eq, show ssem 0 = (16 : DmaSem sig) from rfl, show ssem 1 = (17 : DmaSem sig) from rfl]
      iframe
      iexists W
      iexact HW
  · iexact Hg

theorem end_post (c : Dev nD) (t : Fin cfg0.N) : iprop(END m c ∗ (∃ r, prngReg c r)) ⊢ bodyPost m c t := by
  unfold bodyPost
  rw [show (dats m 0 c).Φ t.succ = Pipeline.ΦDR osem0 (cfg0.spec) H0 R0 (V m) c from rfl, PhiDR0_eq]
  unfold Dat.owesAt Pipeline.owesWithin
  rw [show (dats m 0 c).owed t.succ = 0 from rfl]
  unfold END PE Yend Zs wts
  dsimp only [A0]
  rw [show ssem 0 = (16 : DmaSem sig) from rfl, show ssem 1 = (17 : DmaSem sig) from rfl]
  iintro ⟨⟨%f4, %f8, %f9, %f10, %f11, Hy, ⟨%W, HW⟩, H5, H6, H7, H8, H9, H10, H11, Hx, Hq, H2, s16, H3, s17⟩, Hg⟩
  ihave Hy' := out_y $$ Hy
  icases Hy' with ⟨%G, %y, %g, -, H4, H11', Hsy⟩
  ihave Hx' := (ent_eq (out_x (c := c))) $$ Hx
  ihave Hq' := (ent_eq (out_q (c := c))) $$ Hq
  icases Hx' with ⟨H0, Hsx⟩
  icases Hq' with ⟨H1, Hsq⟩
  ihave Hsx := (ent_eq (smx_eq c)) $$ Hsx
  ihave Hsq := (ent_eq (smq_eq c)) $$ Hsq
  ihave Hsy := (ent_eq (smy_eq c)) $$ Hsy
  ihave H5 := (ent_eq (congrArg (fun S => (M5.view.loc (c : Thread nD τ) ↦[S]{fullShare} F5 (V m c main_v0) : sProp 𝕄)) (D5_four (c := c)))) $$ H5
  ihave H6 := (ent_eq (congrArg (fun S => (M6.view.loc (c : Thread nD τ) ↦[S]{fullShare} F6 (V m c main_arg1) : sProp 𝕄)) (D6_twelve (c := c)))) $$ H6
  icases Hsx with ⟨s0, s1, s2, s3⟩
  icases Hsq with ⟨s4, s5, s6, s7, s8, s9, s10, s11, s12, s13, s14, s15⟩
  icases Hsy with ⟨s18, s19, s20, s21, s22, s23, s24, s25, s26⟩
  isplitr [HW]
  · isplitl [H5 H6 H7 H8 H9 H10 H11']
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11'
    isplitl [Hg]; · iexact Hg
    isplitl [s0 s1 s2 s3 s4 s5 s6 s7 s8 s9 s10 s11 s12 s13 s14 s15 s16 s17 s18 s19 s20 s21 s22 s23 s24 s25 s26]
    · iframe
    isplitl [H0 H1 H2 H3]
    · iframe
    iexists _; iexact H4
  · isplitl [HW]
    · iexists W; isplitr; · ipureintro; exact fun _ _ => Or.inl trivial
      iexact HW
    iempintro

theorem sound_body (c : Dev nD) (t : Fin cfg0.N) :
    bodyPre m c t ⊢ wp frame (wpE (defs₀ (F := F)) Variants.none c none) Set.univ (bodyAt0 t) (fun _ => bodyPost m c t) :=
  (pre_run m c t).trans ((wp_frame_r frame _ _).trans (wp_mono frame _ _ fun _ => end_post m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hmainU (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops, ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl
  intro b hb
  rw [StableHlo.reshape_writes, Finset.mem_singleton] at hb
  rw [Proc.devRef_injective _ hb]
  decide

set_option backward.isDefEq.respectTransparency.types false in
theorem run_main : θ_run defs (onTc (τ := τ) (main (F := F))) (s₀ m ρ)
    (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainU m Variants.none) (hA := A_eq m)
    (hin := fun _ => .rfl) (hout := fun _ => .rfl)

/-- The frame: the program terminates, nothing faults, its four argument arrays end unchanged, every counter ends at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c)⟩, h.2⟩) (run_main m ρ)

end Cert.Kernel.Hand
-- ==== Proof.Kernel.TripVals.lean ====
module

public import proofs.«01_k».proof.Proof.Kernel.TripShape
public import proofs.«01_k».proof.Proof.MxuSpec

@[expose] public section

noncomputable section

namespace Cert.Kernel.Hand

open Cert.Kernel Cert.Kernel.Gen Cert.Schedule
open Idealize.ShloMosaic Idealize.ShloMosaic.TcCoe Idealize.ShloMosaic.Tactic
open Cert.MxuSpec
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable {c : Dev nD}

/-- The weight tiles of a step: the first half of the columns' nibbles, and the second. -/
def fA (u : Vec F S1x1x256x128 .i32) : Tl F := ![k0_pay5 u, k0_pay6 u]
def fB (u : Vec F S1x1x256x128 .i32) : Tl F := ![k0_pay116 u, k0_pay117 u]
def sum7 (w0 w1 w2 w3 w4 w5 w6 : Tl F) (x0 x1 x2 x3 x4 x5 x6 : FVec F S96x256 .bf16) : Fin 2 → Acc F := fun q =>
  addf (addf (addf (addf (addf (addf (mp (w0 q) x0) (mp (w1 q) x1)) (mp (w2 q) x2)) (mp (w3 q) x3)) (mp (w4 q) x4)) (mp (w5 q) x5)) (mp (w6 q) x6)
abbrev rx (f5 : Bf F c M5) (off : Fin 3 → Nat) (h : ∀ a, off a + S1x96x256.size a ≤ S4x96x1792.size a) : FVec F S96x256 .bf16 := k0_pay3 ((M5.access (Rect.unit (s := S4x96x1792) off S1x96x256.size h)).read (Elt F) f5)
abbrev rw6 (f6 : Bf F c M6) (off : Fin 4 → Nat) (h : ∀ a, off a + S1x1x256x128.size a ≤ S3x4x1792x384.size a) : Vec F S1x1x256x128 .i32 := (M6.access (Rect.unit (s := S3x4x1792x384) off S1x1x256x128.size h)).read (Elt F) f6
/-- A step's sums added to two column ranges of the f32 buffer. -/
def dr (f10 : Bf F c M10) (off0 off1 : Fin 3 → Nat) (h0 : ∀ a, off0 a + S1x96x256.size a ≤ S9x96x1024.size a) (h1 : ∀ a, off1 a + S1x96x256.size a ≤ S9x96x1024.size a) (cc : BitVec 32) (e : Fin 2 → Acc F) : Bf F c M10 :=
  let y : Bf F c M10 := (M10.access (Rect.unit (s := S9x96x1024) off0 S1x96x256.size h0)).write (Elt F) f10 (k0_pay21 cc ((M10.access (Rect.unit (s := S9x96x1024) off0 S1x96x256.size h0)).read (Elt F) f10) (e 0)) Finset.univ
  (M10.access (Rect.unit (s := S9x96x1024) off1 S1x96x256.size h1)).write (Elt F) y (k0_pay21 cc ((M10.access (Rect.unit (s := S9x96x1024) off1 S1x96x256.size h1)).read (Elt F) y) (e 1)) Finset.univ
def kcur (k0_t1 : Fin k0_t1_loop.trips) : BitVec 32 :=
  let arg16_r0 : BitVec 32 := Scf.iv 0#32 1#32 k0_t1
  let v1532_r0 : BitVec 1 := Scalar.cmpi .slt arg16_r0 12#32
  let v1561_r0 : BitVec 32 := Scalar.divsi arg16_r0 3#32
  let v1562_r0 : BitVec 1 := Scalar.cmpi .sgt arg16_r0 0#32
  let v1563_r0 : BitVec 32 := Scalar.extui v1562_r0
  let v1564_r0 : BitVec 1 := Scalar.cmpi .slt arg16_r0 0#32
  let v1565_r0 : BitVec 32 := Scalar.extui v1564_r0
  let v1566_r0 : BitVec 32 := Scalar.subi v1563_r0 v1565_r0
  let v1567_r0 : BitVec 1 := Scalar.cmpi .sgt 3#32 0#32
  let v1568_r0 : BitVec 32 := Scalar.extui v1567_r0
  let v1569_r0 : BitVec 1 := Scalar.cmpi .slt 3#32 0#32
  let v1570_r0 : BitVec 32 := Scalar.extui v1569_r0
  let v1571_r0 : BitVec 32 := Scalar.subi v1568_r0 v1570_r0
  let c3_i32_777_r0 := 3#32
  let v1572_r0 : BitVec 1 := Scalar.cmpi .ne v1566_r0 v1571_r0
  let v1573_r0 : BitVec 32 := Scalar.remsi arg16_r0 c3_i32_777_r0
  let v1574_r0 : BitVec 1 := Scalar.cmpi .ne v1573_r0 0#32
  let v1575_r0 : BitVec 1 := Scalar.andi v1572_r0 v1574_r0
  let v1576_r0 : BitVec 32 := Scalar.subi v1561_r0 1#32
  let v1577_r0 : BitVec 32 := Scalar.select v1575_r0 v1576_r0 v1561_r0
  let v1578_r0 : BitVec 1 := Scalar.cmpi .eq 4#32 0#32
  let v1579_r0 : BitVec 32 := Scalar.select v1578_r0 1#32 4#32
  let v1580_r0 : BitVec 32 := Scalar.remsi arg16_r0 v1579_r0
  let v1581_r0 : BitVec 1 := Scalar.cmpi .ne v1580_r0 0#32
  let v1582_r0 : BitVec 1 := Scalar.cmpi .slt v1580_r0 0#32
  let v1583_r0 : BitVec 1 := Scalar.cmpi .slt v1579_r0 0#32
  let v1584_r0 : BitVec 1 := Scalar.xori v1582_r0 v1583_r0
  let v1585_r0 : BitVec 1 := Scalar.andi v1584_r0 v1581_r0
  let v1586_r0 : BitVec 32 := Scalar.addi v1580_r0 v1579_r0
  let v1587_r0 : BitVec 32 := Scalar.select v1585_r0 v1586_r0 v1580_r0
  let v1588_r0 : BitVec 32 := Scalar.select v1532_r0 v1577_r0 v1587_r0
  v1588_r0
def kprev (k0_t1 : Fin k0_t1_loop.trips) : BitVec 32 :=
  let arg16_r0 : BitVec 32 := Scf.iv 0#32 1#32 k0_t1
  let v1589_r0 : BitVec 32 := Scalar.subi arg16_r0 1#32
  let v1590_r0 : BitVec 32 := Scalar.maxsi v1589_r0 0#32
  let v1591_r0 : BitVec 1 := Scalar.cmpi .slt v1590_r0 12#32
  let v1620_r0 : BitVec 32 := Scalar.divsi v1590_r0 3#32
  let v1621_r0 : BitVec 1 := Scalar.cmpi .sgt v1590_r0 0#32
  let v1622_r0 : BitVec 32 := Scalar.extui v1621_r0
  let v1623_r0 : BitVec 1 := Scalar.cmpi .slt v1590_r0 0#32
  let v1624_r0 : BitVec 32 := Scalar.extui v1623_r0
  let v1625_r0 : BitVec 32 := Scalar.subi v1622_r0 v1624_r0
  let v1626_r0 : BitVec 1 := Scalar.cmpi .sgt 3#32 0#32
  let v1627_r0 : BitVec 32 := Scalar.extui v1626_r0
  let v1628_r0 : BitVec 1 := Scalar.cmpi .slt 3#32 0#32
  let v1629_r0 : BitVec 32 := Scalar.extui v1628_r0
  let v1630_r0 : BitVec 32 := Scalar.subi v1627_r0 v1629_r0
  let v1631_r0 : BitVec 1 := Scalar.cmpi .ne v1625_r0 v1630_r0
  let v1632_r0 : BitVec 32 := Scalar.remsi v1590_r0 3#32
  let v1633_r0 : BitVec 1 := Scalar.cmpi .ne v1632_r0 0#32
  let v1634_r0 : BitVec 1 := Scalar.andi v1631_r0 v1633_r0
  let v1635_r0 : BitVec 32 := Scalar.subi v1620_r0 1#32
  let v1636_r0 : BitVec 32 := Scalar.select v1634_r0 v1635_r0 v1620_r0
  let v1637_r0 : BitVec 1 := Scalar.cmpi .eq 4#32 0#32
  let v1638_r0 : BitVec 32 := Scalar.select v1637_r0 1#32 4#32
  let v1639_r0 : BitVec 32 := Scalar.remsi v1590_r0 v1638_r0
  let v1640_r0 : BitVec 1 := Scalar.cmpi .ne v1639_r0 0#32
  let v1641_r0 : BitVec 1 := Scalar.cmpi .slt v1639_r0 0#32
  let v1642_r0 : BitVec 1 := Scalar.cmpi .slt v1638_r0 0#32
  let v1643_r0 : BitVec 1 := Scalar.xori v1641_r0 v1642_r0
  let v1644_r0 : BitVec 1 := Scalar.andi v1643_r0 v1640_r0
  let v1645_r0 : BitVec 32 := Scalar.addi v1639_r0 v1638_r0
  let v1646_r0 : BitVec 32 := Scalar.select v1644_r0 v1645_r0 v1639_r0
  let v1647_r0 : BitVec 32 := Scalar.select v1591_r0 v1636_r0 v1646_r0
  v1647_r0
theorem kcur_eq (t : Fin k0_t1_loop.trips) : kcur t = BitVec.ofNat 32 (ki t.val) := by revert t; decide +kernel
theorem kprev_eq (t : Fin k0_t1_loop.trips) : kprev t = BitVec.ofNat 32 (ki (t.val - 1)) := by revert t; decide +kernel
/-- The eight pieces of a finished slice of rows. -/
def epi (v2194_r0 : Vec F S1x128 .i32) (v2196_r0 : Vec F S32x128 .f32) (v2204_r0 : Vec F S1x32x128 .f32) (v2210_r0 : Vec F S1x1x128 .f32) (v2223_r0 : Vec F S1x32x128 .f32) (v2229_r0 : Vec F S1x1x128 .f32) (v2242_r0 : Vec F S1x32x128 .f32) (v2248_r0 : Vec F S1x1x128 .f32) (v2261_r0 : Vec F S1x32x128 .f32) (v2267_r0 : Vec F S1x1x128 .f32) (v2280_r0 : Vec F S1x32x128 .f32) (v2286_r0 : Vec F S1x1x128 .f32) (v2299_r0 : Vec F S1x32x128 .f32) (v2305_r0 : Vec F S1x1x128 .f32) (v2318_r0 : Vec F S1x32x128 .f32) (v2324_r0 : Vec F S1x1x128 .f32) (v2337_r0 : Vec F S1x32x128 .f32) (v2343_r0 : Vec F S1x1x128 .f32) : Fin 8 → FVec F S1x32x128 .bf16 :=
  let v2215_r0 := k0_pay36 v2194_r0 v2196_r0 v2204_r0 v2210_r0
  let v2234_r0 := k0_pay37 v2194_r0 v2196_r0 v2223_r0 v2229_r0
  let v2238_r0 := k0_pay38 v2194_r0
  let v2253_r0 := k0_pay39 v2196_r0 v2238_r0 v2242_r0 v2248_r0
  let v2272_r0 := k0_pay40 v2194_r0 v2196_r0 v2261_r0 v2267_r0
  let v2284_r0 := k0_pay41 v2194_r0 v2196_r0 v2280_r0
  let v2291_r0 := k0_pay42 v2284_r0 v2286_r0
  let v2310_r0 := k0_pay43 v2194_r0 v2196_r0 v2299_r0 v2305_r0
  let v2329_r0 := k0_pay44 v2194_r0 v2196_r0 v2318_r0 v2324_r0
  let v2333_r0 := k0_pay45 v2194_r0
  let v2349_r0 : IVec S32x128 32 := iota .tc S32x128 32 [1] iota_S32x128_d1_w32
  let v2357_r0 := k0_pay49 v2215_r0 v2291_r0
  let v2359_r0 := k0_pay50 v2234_r0 v2310_r0
  let v2361_r0 := k0_pay51 v2234_r0 v2310_r0
  let v2363_r0 := k0_pay52 v2253_r0 v2329_r0
  let v2365_r0 := k0_pay53 v2253_r0 v2329_r0
  let v2367_r0 := k0_pay54 v2196_r0 v2272_r0 v2333_r0 v2337_r0 v2343_r0
  let v2369_r0 := k0_pay55 v2196_r0 v2272_r0 v2333_r0 v2337_r0 v2343_r0
  let v2373_r0 := k0_pay56
  let v2375_r0 := k0_pay57 v2215_r0 v2253_r0 v2291_r0 v2329_r0
  let v2376_r0 := k0_pay58 v2215_r0 v2291_r0
  let v2410_r0 : BitVec 1 := Scalar.cmpi .eq 8#32 0#32
  let v2411_r0 : BitVec 32 := Scalar.select v2410_r0 1#32 8#32
  let v2395_r0 := k0_pay67 v2349_r0 v2359_r0 v2367_r0 v2373_r0 v2375_r0
  let v2397_r0 := k0_pay68 v2349_r0 v2359_r0 v2367_r0 v2373_r0 v2375_r0
  let v2399_r0 := k0_pay69 v2349_r0 v2359_r0 v2363_r0 v2367_r0 v2373_r0 v2376_r0
  let v2401_r0 := k0_pay70 v2349_r0 v2359_r0 v2363_r0 v2367_r0 v2373_r0 v2376_r0
  let v2403_r0 := k0_pay71 v2349_r0 v2357_r0 v2361_r0 v2365_r0 v2369_r0 v2373_r0
  let v2405_r0 := k0_pay72 v2349_r0 v2357_r0 v2361_r0 v2365_r0 v2369_r0 v2373_r0
  let v2407_r0 := k0_pay73 v2349_r0 v2357_r0 v2361_r0 v2365_r0 v2369_r0 v2373_r0
  let v2409_r0 := k0_pay74 v2349_r0 v2357_r0 v2361_r0 v2365_r0 v2369_r0 v2373_r0
  let v2413_r0 := k0_pay75 v2349_r0
  let v2415_r0 := k0_pay76 v2349_r0
  let c0_i32_1106_r0 := 0#32
  let v2452_r0 := k0_pay77 v2349_r0 v2411_r0 v2413_r0 v2415_r0 c0_i32_1106_r0
  let v2460_r0 := k0_pay78 v2349_r0 v2395_r0 v2411_r0 v2413_r0 v2415_r0 c0_i32_1106_r0
  let v2462_r0 := k0_pay79 v2349_r0 v2411_r0 v2413_r0 v2415_r0 c0_i32_1106_r0
  let c128_i32_1119_r0 := 128#32
  let v2468_r0 := k0_pay80 v2397_r0 v2452_r0 v2462_r0 c128_i32_1119_r0
  let v2476_r0 := k0_pay81 v2399_r0 v2452_r0
  let v2484_r0 := k0_pay82 v2401_r0 v2452_r0
  let v2492_r0 := k0_pay83 v2403_r0 v2452_r0
  let v2500_r0 := k0_pay84 v2405_r0 v2452_r0
  let v2508_r0 := k0_pay85 v2407_r0 v2452_r0
  let v2510_r0 := k0_pay86 v2452_r0
  let c128_i32_1131_r0 := 128#32
  let v2516_r0 := k0_pay87 v2409_r0 v2452_r0 v2510_r0 c128_i32_1131_r0
  let v2553_r0 := k0_pay94 v2508_r0
  ![(k0_pay88 v2460_r0), (k0_pay89 v2468_r0), (k0_pay90 v2476_r0), (k0_pay91 v2484_r0), (k0_pay92 v2492_r0), (k0_pay93 v2500_r0), (k0_pay95 v2553_r0), (k0_pay96 v2516_r0)]
def ep (f7 : Bf F c M7) (f8 : Bf F c M8) (k0_t1 : Fin k0_t1_loop.trips) (x9_1 : Bf F c M9) (y10_2 : Bf F c M10) (f11 : Bf F c M11) : Bf F c M11 :=
  let e := epi ((M7.access (Rect.unit (s := S9x128) (k0_off36 k0_t1) S1x128.size (k0_off36_inb k0_t1))).read (Elt F) f7) ((M9.access (Rect.unit (s := S96x128) (k0_off37 k0_t1) S32x128.size (k0_off37_inb k0_t1))).read (Elt F) x9_1) ((M10.access (Rect.unit (s := S9x96x1024) (k0_off38 k0_t1) S1x32x128.size (k0_off38_inb k0_t1))).read (Elt F) y10_2) ((M8.access (Rect.unit (s := S9x8x128) (k0_off39 k0_t1) S1x1x128.size (k0_off39_inb k0_t1))).read (Elt F) f8) ((M10.access (Rect.unit (s := S9x96x1024) (k0_off40 k0_t1) S1x32x128.size (k0_off40_inb k0_t1))).read (Elt F) y10_2) ((M8.access (Rect.unit (s := S9x8x128) (k0_off41 k0_t1) S1x1x128.size (k0_off41_inb k0_t1))).read (Elt F) f8) ((M10.access (Rect.unit (s := S9x96x1024) (k0_off42 k0_t1) S1x32x128.size (k0_off42_inb k0_t1))).read (Elt F) y10_2) ((M8.access (Rect.unit (s := S9x8x128) (k0_off43 k0_t1) S1x1x128.size (k0_off43_inb k0_t1))).read (Elt F) f8) ((M10.access (Rect.unit (s := S9x96x1024) (k0_off44 k0_t1) S1x32x128.size (k0_off44_inb k0_t1))).read (Elt F) y10_2) ((M8.access (Rect.unit (s := S9x8x128) (k0_off45 k0_t1) S1x1x128.size (k0_off45_inb k0_t1))).read (Elt F) f8) ((M10.access (Rect.unit (s := S9x96x1024) (k0_off46 k0_t1) S1x32x128.size (k0_off46_inb k0_t1))).read (Elt F) y10_2) ((M8.access (Rect.unit (s := S9x8x128) (k0_off47 k0_t1) S1x1x128.size (k0_off47_inb k0_t1))).read (Elt F) f8) ((M10.access (Rect.unit (s := S9x96x1024) (k0_off48 k0_t1) S1x32x128.size (k0_off48_inb k0_t1))).read (Elt F) y10_2) ((M8.access (Rect.unit (s := S9x8x128) (k0_off49 k0_t1) S1x1x128.size (k0_off49_inb k0_t1))).read (Elt F) f8) ((M10.access (Rect.unit (s := S9x96x1024) (k0_off50 k0_t1) S1x32x128.size (k0_off50_inb k0_t1))).read (Elt F) y10_2) ((M8.access (Rect.unit (s := S9x8x128) (k0_off51 k0_t1) S1x1x128.size (k0_off51_inb k0_t1))).read (Elt F) f8) ((M10.access (Rect.unit (s := S9x96x1024) (k0_off52 k0_t1) S1x32x128.size (k0_off52_inb k0_t1))).read (Elt F) y10_2) ((M8.access (Rect.unit (s := S9x8x128) (k0_off53 k0_t1) S1x1x128.size (k0_off53_inb k0_t1))).read (Elt F) f8)
  let y1 : Bf F c M11 := (M11.access (Rect.unit (s := S9x96x1024) (k0_off38 k0_t1) S1x32x128.size (k0_off38_inb k0_t1))).write (Elt F) f11 (e 0) Finset.univ
  let y2 : Bf F c M11 := (M11.access (Rect.unit (s := S9x96x1024) (k0_off42 k0_t1) S1x32x128.size (k0_off42_inb k0_t1))).write (Elt F) y1 (e 1) Finset.univ
  let y3 : Bf F c M11 := (M11.access (Rect.unit (s := S9x96x1024) (k0_off46 k0_t1) S1x32x128.size (k0_off46_inb k0_t1))).write (Elt F) y2 (e 2) Finset.univ
  let y4 : Bf F c M11 := (M11.access (Rect.unit (s := S9x96x1024) (k0_off50 k0_t1) S1x32x128.size (k0_off50_inb k0_t1))).write (Elt F) y3 (e 3) Finset.univ
  let y5 : Bf F c M11 := (M11.access (Rect.unit (s := S9x96x1024) (k0_off40 k0_t1) S1x32x128.size (k0_off40_inb k0_t1))).write (Elt F) y4 (e 4) Finset.univ
  let y6 : Bf F c M11 := (M11.access (Rect.unit (s := S9x96x1024) (k0_off44 k0_t1) S1x32x128.size (k0_off44_inb k0_t1))).write (Elt F) y5 (e 5) Finset.univ
  let y7 : Bf F c M11 := (M11.access (Rect.unit (s := S9x96x1024) (k0_off48 k0_t1) S1x32x128.size (k0_off48_inb k0_t1))).write (Elt F) y6 (e 6) Finset.univ
  let y8 : Bf F c M11 := (M11.access (Rect.unit (s := S9x96x1024) (k0_off52 k0_t1) S1x32x128.size (k0_off52_inb k0_t1))).write (Elt F) y7 (e 7) Finset.univ
  y8

def vA (f5 : Bf F c M5) (f6 : Bf F c M6) (k0_t1 : Fin k0_t1_loop.trips) (w : Tl F) : Fin 2 → Acc F := sum7 w (fA (rw6 f6 (k0_off25 k0_t1) (k0_off25_inb k0_t1))) (fA (rw6 f6 (k0_off27 k0_t1) (k0_off27_inb k0_t1))) (fA (rw6 f6 (k0_off29 k0_t1) (k0_off29_inb k0_t1))) (fA (rw6 f6 (k0_off33 k0_t1) (k0_off33_inb k0_t1))) (fA (rw6 f6 (k0_off35 k0_t1) (k0_off35_inb k0_t1))) (fA (rw6 f6 (k0_off55 k0_t1) (k0_off55_inb k0_t1))) (rx f5 (k0_off24 k0_t1) (k0_off24_inb k0_t1)) (rx f5 (k0_off26 k0_t1) (k0_off26_inb k0_t1)) (rx f5 (k0_off28 k0_t1) (k0_off28_inb k0_t1)) (rx f5 (k0_off32 k0_t1) (k0_off32_inb k0_t1)) (rx f5 (k0_off34 k0_t1) (k0_off34_inb k0_t1)) (rx f5 (k0_off54 k0_t1) (k0_off54_inb k0_t1)) (rx f5 (k0_off56 k0_t1) (k0_off56_inb k0_t1))
def vB (f5 : Bf F c M5) (f6 : Bf F c M6) (k0_t1 : Fin k0_t1_loop.trips) : Fin 2 → Acc F := sum7 (fB (rw6 f6 (k0_off57 k0_t1) (k0_off57_inb k0_t1))) (fB (rw6 f6 (k0_off25 k0_t1) (k0_off25_inb k0_t1))) (fB (rw6 f6 (k0_off27 k0_t1) (k0_off27_inb k0_t1))) (fB (rw6 f6 (k0_off29 k0_t1) (k0_off29_inb k0_t1))) (fB (rw6 f6 (k0_off33 k0_t1) (k0_off33_inb k0_t1))) (fB (rw6 f6 (k0_off35 k0_t1) (k0_off35_inb k0_t1))) (fB (rw6 f6 (k0_off55 k0_t1) (k0_off55_inb k0_t1))) (rx f5 (k0_off24 k0_t1) (k0_off24_inb k0_t1)) (rx f5 (k0_off26 k0_t1) (k0_off26_inb k0_t1)) (rx f5 (k0_off28 k0_t1) (k0_off28_inb k0_t1)) (rx f5 (k0_off32 k0_t1) (k0_off32_inb k0_t1)) (rx f5 (k0_off34 k0_t1) (k0_off34_inb k0_t1)) (rx f5 (k0_off54 k0_t1) (k0_off54_inb k0_t1)) (rx f5 (k0_off56 k0_t1) (k0_off56_inb k0_t1))

/-- What one trip leaves, given the tile staged and the sums live at its head. -/
structure TV (f5 : Bf F c M5) (f6 : Bf F c M6) (f7 : Bf F c M7) (f8 : Bf F c M8) (k0_t1 : Fin k0_t1_loop.trips)
    (f9 : Bf F c M9) (f10 : Bf F c M10) (f11 : Bf F c M11) (w : Tl F) (v : Fin 2 → Acc F) (o : Out F c) : Prop where
  allF : AllF o.mx
  mx : Head o.mx (fA (rw6 f6 (k0_off60 k0_t1) (k0_off60_inb k0_t1))) (vB f5 f6 k0_t1)
  b9 : o.b9 = xsF k0_t1 (Scf.iv 0#32 1#32 k0_t1) (kcur k0_t1) f5 f9
  b10 : o.b10 = dr (dr f10 (k0_off30 k0_t1) (k0_off31 k0_t1) (k0_off30_inb k0_t1) (k0_off31_inb k0_t1) (kprev k0_t1) v) (k0_off58 k0_t1) (k0_off59 k0_t1) (k0_off58_inb k0_t1) (k0_off59_inb k0_t1) (kcur k0_t1) (vA f5 f6 k0_t1 w)
  b11 : o.b11 = ep f7 f8 k0_t1 o.b9 (dr f10 (k0_off30 k0_t1) (k0_off31 k0_t1) (k0_off30_inb k0_t1) (k0_off31_inb k0_t1) (kprev k0_t1) v) f11

set_option maxHeartbeats 8000000 in
theorem trip_vals {f5 : Bf F c M5} {f6 : Bf F c M6} {f7 : Bf F c M7} {f8 : Bf F c M8} {k0_t1 : Fin k0_t1_loop.trips} {k0_mxu8 : Mxu F}
    {f9 : Bf F c M9} {f10 : Bf F c M10} {f11 : Bf F c M11} (hm8 : AllF k0_mxu8) {w v} (ms8 : Head k0_mxu8 w v) :
    TV f5 f6 f7 f8 k0_t1 f9 f10 f11 w v (trip f5 f6 f7 f8 k0_t1 k0_mxu8 f9 f10 f11) := by
  have ha := (trip_shape (f5 := f5) (f6 := f6) (f7 := f7) (f8 := f8) (k0_t1 := k0_t1) (f9 := f9) (f10 := f10) (f11 := f11) hm8 ms8).1
  revert ha
  refine trip_cases (P := fun o => AllF o.mx → TV f5 f6 f7 f8 k0_t1 f9 f10 f11 w v o) ?_
  intro arg16_r0 v1532_r0 v1533_r0 v1534_r0 v1535_r0 v1536_r0 v1537_r0 v1538_r0 v1539_r0 v1540_r0 v1541_r0 v1542_r0 v1543_r0 v1544_r0 v1545_r0 v1546_r0 v1547_r0 v1548_r0 v1549_r0 v1550_r0 v1551_r0 v1552_r0 v1553_r0 v1554_r0 v1555_r0 v1556_r0 v1557_r0 v1558_r0 v1559_r0 v1560_r0 v1561_r0 v1562_r0 v1563_r0 v1564_r0 v1565_r0 v1566_r0 v1567_r0 v1568_r0 v1569_r0 v1570_r0 v1571_r0 c3_i32_777_r0 v1572_r0 v1573_r0 v1574_r0 v1575_r0 v1576_r0 v1577_r0 v1578_r0 v1579_r0 v1580_r0 v1581_r0 v1582_r0 v1583_r0 v1584_r0 v1585_r0 v1586_r0 v1587_r0 v1588_r0 v1589_r0 v1590_r0 v1591_r0 v1592_r0 v1593_r0 v1594_r0 v1595_r0 v1596_r0 v1597_r0 v1598_r0 v1599_r0 v1600_r0 v1601_r0 v1602_r0 v1603_r0 v1604_r0 v1605_r0 v1606_r0 v1607_r0 v1608_r0 v1609_r0 c4_i32_799_r0 c0_i32_803_r0 v1610_r0 v1611_r0 v1612_r0 v1613_r0 v1614_r0 v1615_r0 v1616_r0 v1617_r0 v1618_r0 v1619_r0 v1620_r0 v1621_r0 v1622_r0 v1623_r0 v1624_r0 v1625_r0 v1626_r0 v1627_r0 v1628_r0 v1629_r0 v1630_r0 v1631_r0 v1632_r0 v1633_r0 v1634_r0 v1635_r0 v1636_r0 v1637_r0 v1638_r0 v1639_r0 v1640_r0 v1641_r0 v1642_r0 v1643_r0 v1644_r0 v1645_r0 v1646_r0 v1647_r0 v1648_r0 v1649_r0 v1650_r0 c3_i32_821_r0 v1651_r0 v1652_r0 v1653_r0 v1654_r0 v1655_r0 v1656_r0 v1657_r0 v1658_r0 v1659_r0 v1660_r0 v1661_r0 v1662_r0 v1663_r0 v1664_r0 v1665_r0 v1666_r0 v1667_r0 v1668_r0 v1669_r0 v1670_r0 v1671_r0 v1672_r0 v1673_r0 v1674_r0 v1675_r0 v1676_r0 v1677_r0 v1678_r0 v1679_r0 v1680_r0 v1681_r0 v1682_r0 v1683_r0 v1684_r0 v1685_r0 v1686_r0 v1687_r0 v1688_r0 v1689_r0 v1690_r0 v1691_r0 v1692_r0 v1693_r0 v1694_r0 v1695_r0 v1696_r0 v1697_r0 v1698_r0 v1699_r0 v1700_r0 v1701_r0 v1702_r0 v1703_r0 v1704_r0 v1705_r0 v1706_r0 v1707_r0 v1708_r0 v1725_r0 v1726_r0 v1727_r0 v1728_r0 v1756_r0 v1757_r0 v1758_r0 v1759_r0 v1760_r0 v1761_r0 v1762_r0 v1763_r0 v1764_r0 x9_1 v1772_r0 k0_mxu10 k0_mxu11 v1774_r0 v1775_r0 v1776_r0 v1777_r0 v1778_r0 v1779_r0 v1780_r0 v1781_r0 v1782_r0 v1783_r0 v1784_r0 v1785_r0 v1806_r0 k0_mxu12 k0_mxu13 v1846_r0 k0_mxu14 k0_mxu15 c3_i32_913_r0 c0_i32_914_r0 v1880_r0 v1884_r0 v1890_r0 v1891_r0 k0_mxu16 k0_mxu17 v1920_r0 k0_mxu18 k0_mxu19 v1922_r0 v1923_r0 v1924_r0 v1925_r0 v1926_r0 v1927_r0 v1928_r0 v1929_r0 v1930_r0 v1931_r0 v1932_r0 v1933_r0 c3_i32_944_r0 v1954_r0 v1969_r0 v1974_r0 v1980_r0 c0_i32_957_r0 k0_mxu20 k0_mxu21 v1995_r0 v1999_r0 k0_mxu22 v2002_r0 y10_1 v2006_r0 v2010_r0 k0_mxu23 v2013_r0 y10_2 v2017_r0 k0_mxu24 k0_mxu25 v2051_r0 v2055_r0 v2061_r0 k0_mxu26 k0_mxu27 v2091_r0 k0_mxu28 k0_mxu29 v2093_r0 v2094_r0 v2095_r0 v2096_r0 v2097_r0 v2098_r0 v2099_r0 v2100_r0 v2101_r0 v2102_r0 v2103_r0 v2125_r0 v2140_r0 v2145_r0 v2150_r0 k0_mxu30 k0_mxu31 v2164_r0 v2165_r0 v2166_r0 v2167_r0 v2168_r0 v2169_r0 v2170_r0 v2171_r0 v2172_r0 v2173_r0 v2174_r0 v2175_r0 v2176_r0 v2177_r0 v2178_r0 v2179_r0 v2180_r0 v2181_r0 v2182_r0 v2183_r0 v2184_r0 v2185_r0 v2186_r0 v2187_r0 v2188_r0 v2189_r0 v2190_r0 v2191_r0 v2192_r0 v2194_r0 v2196_r0 v2204_r0 v2210_r0 v2223_r0 v2229_r0 v2215_r0 v2234_r0 v2238_r0 v2242_r0 v2248_r0 v2261_r0 v2267_r0 v2280_r0 v2253_r0 v2272_r0 v2284_r0 v2286_r0 v2299_r0 v2305_r0 v2318_r0 v2324_r0 v2291_r0 v2310_r0 v2329_r0 v2333_r0 v2337_r0 v2343_r0 v2349_r0 v2357_r0 v2359_r0 v2361_r0 v2363_r0 v2365_r0 v2367_r0 v2369_r0 v2373_r0 v2375_r0 v2376_r0 v2410_r0 v2411_r0 v2395_r0 v2397_r0 v2399_r0 v2401_r0 v2403_r0 v2405_r0 v2407_r0 v2409_r0 v2413_r0 v2415_r0 c0_i32_1106_r0 v2452_r0 v2460_r0 v2462_r0 c128_i32_1119_r0 v2468_r0 v2476_r0 v2484_r0 v2492_r0 v2500_r0 v2508_r0 v2510_r0 c128_i32_1131_r0 v2520_r0 y11_1 v2526_r0 y11_2 v2532_r0 y11_3 v2538_r0 y11_4 v2544_r0 y11_5 v2550_r0 y11_6 v2556_r0 v2516_r0 v2553_r0 y11_7 v2562_r0 y11_8 v2566_r0 k0_mxu32 k0_mxu33 v2568_r0 v2569_r0 v2570_r0 v2571_r0 v2572_r0 v2573_r0 v2574_r0 v2575_r0 v2576_r0 v2577_r0 v2578_r0 v2579_r0 v2580_r0 v2581_r0 v2582_r0 v2583_r0 v2584_r0 v2585_r0 v2586_r0 v2587_r0 v2588_r0 v2589_r0 v2590_r0 v2591_r0 v2592_r0 v2593_r0 v2594_r0 v2595_r0 v2596_r0 v2600_r0 k0_mxu34 k0_mxu35 v2640_r0 k0_mxu36 k0_mxu37 c3_i32_1165_r0 v2674_r0 v2678_r0 v2684_r0 c0_i32_1182_r0 k0_mxu38 k0_mxu39 v2714_r0 k0_mxu40 k0_mxu41 v2716_r0 v2717_r0 v2718_r0 v2719_r0 v2720_r0 v2721_r0 v2722_r0 v2723_r0 v2724_r0 v2725_r0 v2726_r0 v2727_r0 v2748_r0 v2763_r0 v2768_r0 v2774_r0 k0_mxu42 k0_mxu43 v2788_r0 k0_mxu44 k0_mxu45 v2790_r0 v2791_r0 v2792_r0 v2793_r0 v2794_r0 v2795_r0 v2796_r0 v2797_r0 v2798_r0 v2799_r0 v2800_r0 v2801_r0 v2802_r0 v2803_r0 v2804_r0 v2805_r0 v2806_r0 v2807_r0 v2808_r0 v2809_r0 v2810_r0 v2811_r0 v2812_r0 v2813_r0 v2814_r0 v2822_r0 k0_mxu46 k0_mxu47 v2861_r0 c0_1235_r0 v2862_r0 k0_mxu48 k0_mxu49 v2896_r0 v2900_r0 v2901_r0 c0_i32_1253_r0 k0_mxu50 k0_mxu51 v2936_r0 k0_mxu52 k0_mxu53 v2938_r0 v2939_r0 v2940_r0 v2941_r0 v2942_r0 v2943_r0 v2944_r0 v2970_r0 v2985_r0 v2990_r0 v2991_r0 k0_mxu54 k0_mxu55 v3010_r0 k0_mxu56 k0_mxu57 v3012_r0 v3013_r0 v3014_r0 v3015_r0 v3016_r0 v3017_r0 v3018_r0 v3019_r0 v3020_r0 v3021_r0 v3022_r0 v3023_r0 v3024_r0 v3025_r0 v3026_r0 v3027_r0 v3028_r0 v3029_r0 v3030_r0 v3031_r0 c3_i32_1292_r0 v3044_r0 v3059_r0 v3064_r0 v3075_r0 v3080_r0 k0_mxu58 k0_mxu59 v3085_r0 v3089_r0 k0_mxu60 v3092_r0 y10_3 v3096_r0 v3100_r0 k0_mxu61 v3103_r0 y10_4 v3107_r0 k0_mxu62 k0_mxu63 v3109_r0 v3110_r0 v3111_r0 v3112_r0 v3113_r0 c0_i32_1325_r0 v3141_r0 v3145_r0 v3156_r0 v3160_r0 k0_mxu64 k0_mxu65 v3181_r0 k0_mxu66 k0_mxu67 v3183_r0 v3184_r0 v3185_r0 v3186_r0 v3187_r0 v3188_r0 v3189_r0 v3190_r0 v3191_r0 v3192_r0 v3193_r0 v3194_r0 v3195_r0 v3196_r0 v3197_r0 v3198_r0 v3199_r0 v3200_r0 c3_i32_1351_r0 c0_i32_1354_r0 v3215_r0 v3230_r0 v3235_r0 v3246_r0 v3249_r0 k0_mxu68 k0_mxu69
  intro ha
  have ms_k0_mxu11 : St k0_mxu11 _ _ _ _ := St.accA0n ms8 _ _
  have ms_k0_mxu13 : St k0_mxu13 _ (some (fA (rw6 f6 (k0_off25 k0_t1) (k0_off25_inb k0_t1)))) _ _ := St.push1 ms_k0_mxu11 _ _
  have ms_k0_mxu15 : St k0_mxu15 _ _ _ _ := St.accA1s ms_k0_mxu13 _ _
  have ms_k0_mxu17 : St k0_mxu17 (some (fA (rw6 f6 (k0_off27 k0_t1) (k0_off27_inb k0_t1)))) _ _ _ := St.push0 ms_k0_mxu15 _ _
  have ms_k0_mxu19 : St k0_mxu19 _ _ _ _ := St.accA0s ms_k0_mxu17 _ _
  have ms_k0_mxu21 : St k0_mxu21 _ (some (fA (rw6 f6 (k0_off29 k0_t1) (k0_off29_inb k0_t1)))) _ _ := St.push1 ms_k0_mxu19 _ _
  have ms_k0_mxu23 : St k0_mxu23 _ _ _ _ := St.popB ms_k0_mxu21 _
  have ms_k0_mxu25 : St k0_mxu25 _ _ _ _ := St.accA1s ms_k0_mxu23 _ _
  have ms_k0_mxu27 : St k0_mxu27 (some (fA (rw6 f6 (k0_off33 k0_t1) (k0_off33_inb k0_t1)))) _ _ _ := St.push0 ms_k0_mxu25 _ _
  have ms_k0_mxu29 : St k0_mxu29 _ _ _ _ := St.accA0s ms_k0_mxu27 _ _
  have ms_k0_mxu31 : St k0_mxu31 _ (some (fA (rw6 f6 (k0_off35 k0_t1) (k0_off35_inb k0_t1)))) _ _ := St.push1 ms_k0_mxu29 _ _
  have ms_k0_mxu33 : St k0_mxu33 _ _ _ _ := St.accA1s ms_k0_mxu31 _ _
  have ms_k0_mxu35 : St k0_mxu35 (some (fA (rw6 f6 (k0_off55 k0_t1) (k0_off55_inb k0_t1)))) _ _ _ := St.push0 ms_k0_mxu33 _ _
  have ms_k0_mxu37 : St k0_mxu37 _ _ _ _ := St.accA0s ms_k0_mxu35 _ _
  have ms_k0_mxu39 : St k0_mxu39 _ (some (fB (rw6 f6 (k0_off57 k0_t1) (k0_off57_inb k0_t1)))) _ _ := St.push1 ms_k0_mxu37 _ _
  have ms_k0_mxu41 : St k0_mxu41 _ _ _ _ := St.accB1n ms_k0_mxu39 _ _
  have ms_k0_mxu43 : St k0_mxu43 (some (fB (rw6 f6 (k0_off25 k0_t1) (k0_off25_inb k0_t1)))) _ _ _ := St.push0 ms_k0_mxu41 _ _
  have ms_k0_mxu45 : St k0_mxu45 _ _ _ _ := St.accB0s ms_k0_mxu43 _ _
  have ms_k0_mxu47 : St k0_mxu47 _ (some (fB (rw6 f6 (k0_off27 k0_t1) (k0_off27_inb k0_t1)))) _ _ := St.push1 ms_k0_mxu45 _ _
  have ms_k0_mxu49 : St k0_mxu49 _ _ _ _ := St.accB1s ms_k0_mxu47 _ _
  have ms_k0_mxu51 : St k0_mxu51 (some (fB (rw6 f6 (k0_off29 k0_t1) (k0_off29_inb k0_t1)))) _ _ _ := St.push0 ms_k0_mxu49 _ _
  have ms_k0_mxu53 : St k0_mxu53 _ _ _ _ := St.accB0s ms_k0_mxu51 _ _
  have ms_k0_mxu55 : St k0_mxu55 _ (some (fB (rw6 f6 (k0_off33 k0_t1) (k0_off33_inb k0_t1)))) _ _ := St.push1 ms_k0_mxu53 _ _
  have ms_k0_mxu57 : St k0_mxu57 _ _ _ _ := St.accB1s ms_k0_mxu55 _ _
  have ms_k0_mxu59 : St k0_mxu59 (some (fB (rw6 f6 (k0_off35 k0_t1) (k0_off35_inb k0_t1)))) _ _ _ := St.push0 ms_k0_mxu57 _ _
  have ms_k0_mxu61 : St k0_mxu61 _ _ _ _ := St.popA ms_k0_mxu59 _
  have ms_k0_mxu63 : St k0_mxu63 _ _ _ _ := St.accB0s ms_k0_mxu61 _ _
  have ms_k0_mxu65 : St k0_mxu65 _ (some (fB (rw6 f6 (k0_off55 k0_t1) (k0_off55_inb k0_t1)))) _ _ := St.push1 ms_k0_mxu63 _ _
  have ms_k0_mxu67 : St k0_mxu67 _ _ _ _ := St.accB1s ms_k0_mxu65 _ _
  have ms_k0_mxu69 : St k0_mxu69 (some (fA (rw6 f6 (k0_off60 k0_t1) (k0_off60_inb k0_t1)))) _ _ _ := St.push0 ms_k0_mxu67 _ _
  have rb := St.readB ms_k0_mxu21 fits_24_96
  have ra := St.readA ms_k0_mxu59 fits_0_96
  have hb0 : v1999_r0 = v 0 := rb.1
  have hb1 : v2010_r0 = v 1 := rb.2
  have ha0 : v3089_r0 = vA f5 f6 k0_t1 w 0 := ra.1
  have ha1 : v3100_r0 = vA f5 f6 k0_t1 w 1 := ra.2
  have e2 : y10_2 = dr f10 (k0_off30 k0_t1) (k0_off31 k0_t1) (k0_off30_inb k0_t1) (k0_off31_inb k0_t1) (kprev k0_t1) v := by
    unfold dr; rw [← hb0, ← hb1]; rfl
  have e4 : y10_4 = dr y10_2 (k0_off58 k0_t1) (k0_off59 k0_t1) (k0_off58_inb k0_t1) (k0_off59_inb k0_t1) (kcur k0_t1) (vA f5 f6 k0_t1 w) := by
    unfold dr; rw [← ha0, ← ha1]; rfl
  refine ⟨ha, ms_k0_mxu69, rfl, ?_, ?_⟩
  · rw [← e2]; exact e4
  · rw [← e2]; rfl

end

end Cert.Kernel.Hand
-- ==== Proof.Kernel.ValMem.lean ====
/- What the loads and stores of a trip read and leave, element by element. -/
module

public import proofs.«01_k».proof.Proof.Kernel.TripVals
public import Idealize.ShloMosaic.Lib.Pipeline.Value
public import Idealize.ShloMosaic.Lib.ValueIdx

@[expose] public section

noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

variable {F : FTy → Type} [FloatOps F]

/-- The place of `x` in the rectangle at `off`. -/
def sh {s t : Shape} (hr : t.rank = s.rank) (off : Fin s.rank → ℕ) (x : t.Idx) (h : ∀ a : Fin s.rank, off a + (x (a.cast hr.symm)).val < s.size a) : s.Idx :=
  fun a => ⟨off a + (x (a.cast hr.symm)).val, h a⟩

theorem rd_unit {κ : Kind} {Val : EltTy → Type} (b : Ref sig κ) {off size : Fin b.ty.shape.rank → ℕ} (h : ∀ a, off a + size a ≤ b.ty.shape.size a)
    (f : b.ty.Contents Val) (x : (Rect.unit off size h).shape.Idx) (i : b.ty.shape.Idx) (hi : ∀ a, (i a).val = off a + (x a).val) :
    ((Memref.whole b).access (Rect.unit off size h)).read Val f x = f i := by
  have e : ((Memref.whole b).access (Rect.unit off size h)).emb x = i := by
    funext a
    apply Fin.ext
    rw [hi a]
    show off a + 1 * (x a).val = _
    rw [Nat.one_mul]
  rw [View.read_apply, e]
  rfl

theorem wr_unit_in {κ : Kind} {Val : EltTy → Type} (b : Ref sig κ) {off size : Fin b.ty.shape.rank → ℕ} (h : ∀ a, off a + size a ≤ b.ty.shape.size a)
    (f : b.ty.Contents Val) (w : (Rect.unit off size h).shape.Idx → Val b.ty.elt) (x : (Rect.unit off size h).shape.Idx) (i : b.ty.shape.Idx) (hi : ∀ a, (i a).val = off a + (x a).val) :
    ((Memref.whole b).access (Rect.unit off size h)).write Val f w Finset.univ i = w x := by
  have e : i = ((Memref.whole b).access (Rect.unit off size h)).emb x := by
    funext a
    apply Fin.ext
    rw [hi a]
    show _ = off a + 1 * (x a).val
    rw [Nat.one_mul]
  rw [e, View.write_emb_of_mem _ _ (Finset.mem_univ x)]
  rfl

theorem wr_unit_out {κ : Kind} {Val : EltTy → Type} (b : Ref sig κ) {off size : Fin b.ty.shape.rank → ℕ} (h : ∀ a, off a + size a ≤ b.ty.shape.size a)
    (f : b.ty.Contents Val) (w : (Rect.unit off size h).shape.Idx → Val b.ty.elt) (i : b.ty.shape.Idx) (a : Fin b.ty.shape.rank) (hi : ¬ (off a ≤ (i a).val ∧ (i a).val < off a + size a)) :
    ((Memref.whole b).access (Rect.unit off size h)).write Val f w Finset.univ i = f i := by
  refine View.write_of_not_mem _ _ _ ?_
  intro hm
  obtain ⟨x, -, hx⟩ := Finset.mem_map.mp hm
  apply hi
  have e : (i a).val = off a + (x a).val := by
    rw [← hx]
    show off a + 1 * (x a).val = _
    rw [Nat.one_mul]
  have := (x a).isLt
  have hs : (Rect.unit off size h).shape.size a = size a := rfl
  omega

section
variable {c : Dev nD}

theorem rd5 {off : Fin 3 → ℕ} {m : ℕ} (h : ∀ a, off a + (⟨3, ![1, 96, m]⟩ : Shape).size a ≤ S4x96x1792.size a) (f : Bf F c M5) (x0 : Fin 1) (x1 : Fin 96) (x2 : Fin m)
    (i : S4x96x1792.Idx) (h0 : (i 0).val = off 0) (h1 : (i 1).val = off 1 + x1.val) (h2 : (i 2).val = off 2 + x2.val) :
    (M5.access (Rect.unit (s := S4x96x1792) off (⟨3, ![1, 96, m]⟩ : Shape).size h)).read (Elt F) f (ix3 x0 x1 x2) = f i := by
  refine rd_unit cc0_scratch0 h f _ i ?_
  intro a
  match a with
  | ⟨0, _⟩ => have := x0.isLt; show (i 0).val = off 0 + x0.val; omega
  | ⟨1, _⟩ => exact h1
  | ⟨2, _⟩ => exact h2

theorem rd6 {off : Fin 4 → ℕ} (h : ∀ a, off a + S1x1x256x128.size a ≤ S3x4x1792x384.size a) (f : Bf F c M6) (x0 x1 : Fin 1) (x2 : Fin 256) (x3 : Fin 128)
    (i : S3x4x1792x384.Idx) (h0 : (i 0).val = off 0) (h1 : (i 1).val = off 1) (h2 : (i 2).val = off 2 + x2.val) (h3 : (i 3).val = off 3 + x3.val) :
    (M6.access (Rect.unit (s := S3x4x1792x384) off S1x1x256x128.size h)).read (Elt F) f (ix4 x0 x1 x2 x3) = f i := by
  refine rd_unit cc0_scratch1 h f _ i ?_
  intro a
  match a with
  | ⟨0, _⟩ => have := x0.isLt; show (i 0).val = off 0 + x0.val; omega
  | ⟨1, _⟩ => have := x1.isLt; show (i 1).val = off 1 + x1.val; omega
  | ⟨2, _⟩ => exact h2
  | ⟨3, _⟩ => exact h3

theorem rd7 {off : Fin 2 → ℕ} (h : ∀ a, off a + S1x128.size a ≤ S9x128.size a) (f : Bf F c M7) (x0 : Fin 1) (x1 : Fin 128)
    (i : S9x128.Idx) (h0 : (i 0).val = off 0) (h1 : (i 1).val = off 1 + x1.val) :
    (M7.access (Rect.unit (s := S9x128) off S1x128.size h)).read (Elt F) f (ix2 x0 x1) = f i := by
  refine rd_unit cc0_scratch2 h f _ i ?_
  intro a
  match a with
  | ⟨0, _⟩ => have := x0.isLt; show (i 0).val = off 0 + x0.val; omega
  | ⟨1, _⟩ => exact h1

theorem rd8 {off : Fin 3 → ℕ} {n : ℕ} (h : ∀ a, off a + (⟨3, ![1, n, 128]⟩ : Shape).size a ≤ S9x8x128.size a) (f : Bf F c M8) (x0 : Fin 1) (x1 : Fin n) (x2 : Fin 128)
    (i : S9x8x128.Idx) (h0 : (i 0).val = off 0) (h1 : (i 1).val = off 1 + x1.val) (h2 : (i 2).val = off 2 + x2.val) :
    (M8.access (Rect.unit (s := S9x8x128) off (⟨3, ![1, n, 128]⟩ : Shape).size h)).read (Elt F) f (ix3 x0 x1 x2) = f i := by
  refine rd_unit cc0_scratch3 h f _ i ?_
  intro a
  match a with
  | ⟨0, _⟩ => have := x0.isLt; show (i 0).val = off 0 + x0.val; omega
  | ⟨1, _⟩ => exact h1
  | ⟨2, _⟩ => exact h2

theorem rd9 {off : Fin 2 → ℕ} {n : ℕ} (h : ∀ a, off a + (⟨2, ![n, 128]⟩ : Shape).size a ≤ S96x128.size a) (f : Bf F c M9) (x0 : Fin n) (x1 : Fin 128)
    (i : S96x128.Idx) (h0 : (i 0).val = off 0 + x0.val) (h1 : (i 1).val = off 1 + x1.val) :
    (M9.access (Rect.unit (s := S96x128) off (⟨2, ![n, 128]⟩ : Shape).size h)).read (Elt F) f (ix2 x0 x1) = f i := by
  refine rd_unit cc0_scratch4 h f _ i ?_
  intro a
  match a with
  | ⟨0, _⟩ => exact h0
  | ⟨1, _⟩ => exact h1

theorem rd10 {off : Fin 3 → ℕ} {n m : ℕ} (h : ∀ a, off a + (⟨3, ![1, n, m]⟩ : Shape).size a ≤ S9x96x1024.size a) (f : Bf F c M10) (x0 : Fin 1) (x1 : Fin n) (x2 : Fin m)
    (i : S9x96x1024.Idx) (h0 : (i 0).val = off 0) (h1 : (i 1).val = off 1 + x1.val) (h2 : (i 2).val = off 2 + x2.val) :
    (M10.access (Rect.unit (s := S9x96x1024) off (⟨3, ![1, n, m]⟩ : Shape).size h)).read (Elt F) f (ix3 x0 x1 x2) = f i := by
  refine rd_unit cc0_scratch5 h f _ i ?_
  intro a
  match a with
  | ⟨0, _⟩ => have := x0.isLt; show (i 0).val = off 0 + x0.val; omega
  | ⟨1, _⟩ => exact h1
  | ⟨2, _⟩ => exact h2

theorem wr10_in {off : Fin 3 → ℕ} {n m : ℕ} (h : ∀ a, off a + (⟨3, ![1, n, m]⟩ : Shape).size a ≤ S9x96x1024.size a) (f : Bf F c M10) (w : FVec F ⟨3, ![1, n, m]⟩ .f32)
    (x1 : Fin n) (x2 : Fin m) (i : S9x96x1024.Idx) (h0 : (i 0).val = off 0) (h1 : (i 1).val = off 1 + x1.val) (h2 : (i 2).val = off 2 + x2.val) :
    (M10.access (Rect.unit (s := S9x96x1024) off (⟨3, ![1, n, m]⟩ : Shape).size h)).write (Elt F) f w Finset.univ i = w (ix3 0 x1 x2) := by
  refine wr_unit_in cc0_scratch5 h f _ (ix3 0 x1 x2) i ?_
  intro a
  match a with
  | ⟨0, _⟩ => exact h0
  | ⟨1, _⟩ => exact h1
  | ⟨2, _⟩ => exact h2

theorem wr10_out {off : Fin 3 → ℕ} {n m : ℕ} (h : ∀ a, off a + (⟨3, ![1, n, m]⟩ : Shape).size a ≤ S9x96x1024.size a) (f : Bf F c M10) (w : FVec F ⟨3, ![1, n, m]⟩ .f32)
    (i : S9x96x1024.Idx) (hi : ¬ ((i 0).val = off 0 ∧ off 1 ≤ (i 1).val ∧ (i 1).val < off 1 + n ∧ off 2 ≤ (i 2).val ∧ (i 2).val < off 2 + m)) :
    (M10.access (Rect.unit (s := S9x96x1024) off (⟨3, ![1, n, m]⟩ : Shape).size h)).write (Elt F) f w Finset.univ i = f i := by
  by_cases e0 : (i 0).val = off 0
  · by_cases e1 : off 1 ≤ (i 1).val ∧ (i 1).val < off 1 + n
    · exact wr_unit_out cc0_scratch5 h f _ i (2 : Fin 3) (fun e2 => hi ⟨e0, e1.1, e1.2, e2⟩)
    · exact wr_unit_out cc0_scratch5 h f _ i (1 : Fin 3) e1
  · refine wr_unit_out cc0_scratch5 h f _ i (0 : Fin 3) (fun e => e0 ?_)
    have e2 : (i 0).val < off 0 + 1 := e.2
    have e1 : off 0 ≤ (i 0).val := e.1
    omega

theorem wr11_in {off : Fin 3 → ℕ} {n m : ℕ} (h : ∀ a, off a + (⟨3, ![1, n, m]⟩ : Shape).size a ≤ S9x96x1024.size a) (f : Bf F c M11) (w : FVec F ⟨3, ![1, n, m]⟩ .bf16)
    (x1 : Fin n) (x2 : Fin m) (i : S9x96x1024.Idx) (h0 : (i 0).val = off 0) (h1 : (i 1).val = off 1 + x1.val) (h2 : (i 2).val = off 2 + x2.val) :
    (M11.access (Rect.unit (s := S9x96x1024) off (⟨3, ![1, n, m]⟩ : Shape).size h)).write (Elt F) f w Finset.univ i = w (ix3 0 x1 x2) := by
  refine wr_unit_in cc0_scratch6 h f _ (ix3 0 x1 x2) i ?_
  intro a
  match a with
  | ⟨0, _⟩ => exact h0
  | ⟨1, _⟩ => exact h1
  | ⟨2, _⟩ => exact h2

theorem wr11_out {off : Fin 3 → ℕ} {n m : ℕ} (h : ∀ a, off a + (⟨3, ![1, n, m]⟩ : Shape).size a ≤ S9x96x1024.size a) (f : Bf F c M11) (w : FVec F ⟨3, ![1, n, m]⟩ .bf16)
    (i : S9x96x1024.Idx) (hi : ¬ ((i 0).val = off 0 ∧ off 1 ≤ (i 1).val ∧ (i 1).val < off 1 + n ∧ off 2 ≤ (i 2).val ∧ (i 2).val < off 2 + m)) :
    (M11.access (Rect.unit (s := S9x96x1024) off (⟨3, ![1, n, m]⟩ : Shape).size h)).write (Elt F) f w Finset.univ i = f i := by
  by_cases e0 : (i 0).val = off 0
  · by_cases e1 : off 1 ≤ (i 1).val ∧ (i 1).val < off 1 + n
    · exact wr_unit_out cc0_scratch6 h f _ i (2 : Fin 3) (fun e2 => hi ⟨e0, e1.1, e1.2, e2⟩)
    · exact wr_unit_out cc0_scratch6 h f _ i (1 : Fin 3) e1
  · refine wr_unit_out cc0_scratch6 h f _ i (0 : Fin 3) (fun e => e0 ?_)
    have e2 : (i 0).val < off 0 + 1 := e.2
    have e1 : off 0 ≤ (i 0).val := e.1
    omega

theorem wr8_in {off : Fin 3 → ℕ} (h : ∀ a, off a + (⟨3, ![1, 8, 128]⟩ : Shape).size a ≤ S9x8x128.size a) (f : Bf F c M8) (w : FVec F ⟨3, ![1, 8, 128]⟩ .f32)
    (i : S9x8x128.Idx) (h0 : (i 0).val = off 0) (h1 : off 1 = 0) (h2 : off 2 = 0) :
    (M8.access (Rect.unit (s := S9x8x128) off (⟨3, ![1, 8, 128]⟩ : Shape).size h)).write (Elt F) f w Finset.univ i = w (ix3 0 (i 1) (i 2)) := by
  refine wr_unit_in cc0_scratch3 h f _ (ix3 0 (i 1) (i 2)) i ?_
  intro a
  match a with
  | ⟨0, _⟩ => exact h0
  | ⟨1, _⟩ => show (i 1).val = off 1 + (i 1).val; omega
  | ⟨2, _⟩ => show (i 2).val = off 2 + (i 2).val; omega

theorem wr8_out {off : Fin 3 → ℕ} (h : ∀ a, off a + (⟨3, ![1, 8, 128]⟩ : Shape).size a ≤ S9x8x128.size a) (f : Bf F c M8) (w : FVec F ⟨3, ![1, 8, 128]⟩ .f32)
    (i : S9x8x128.Idx) (hi : (i 0).val ≠ off 0) :
    (M8.access (Rect.unit (s := S9x8x128) off (⟨3, ![1, 8, 128]⟩ : Shape).size h)).write (Elt F) f w Finset.univ i = f i := by
  refine wr_unit_out cc0_scratch3 h f _ i (0 : Fin 3) (fun e => hi ?_)
  have e2 : (i 0).val < off 0 + 1 := e.2
  have e1 : off 0 ≤ (i 0).val := e.1
  omega

theorem wr9 {off : Fin 2 → ℕ} (ho : ∀ a, off a = 0) (h : ∀ a, off a + S96x128.size a ≤ S96x128.size a) (f : Bf F c M9) (w : FVec F S96x128 .f32) (i : S96x128.Idx) :
    (M9.access (Rect.unit (s := S96x128) off S96x128.size h)).write (Elt F) f w Finset.univ i = w i := by
  refine wr_unit_in cc0_scratch4 h f _ i i ?_
  intro a
  have := ho a
  show (i a).val = off a + (i a).val
  omega

end

end Cert.Kernel.Hand
-- ==== Proof.Kernel.Net.lean ====
/- The lane network of a slice's epilogue: eight pieces in, the eight groups of output columns out. -/
module

public import proofs.«01_k».proof.Proof.Kernel.TripVals
public import Idealize.ShloMosaic.Lib.Pipeline.Value
public import Idealize.ShloMosaic.Lib.ValueIdx

@[expose] public section

noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

section Lanes
variable {α β : Type}

/-- One row of a block of 128 lanes. -/
def rowf {n : ℕ} (A : (⟨2, ![n, 128]⟩ : Shape).Idx → α) (r : Fin n) : Fin 128 → α := fun l => A (ix2 r l)

def lo (b s : ℕ) (A B : Fin 128 → α) : Fin 128 → α := fun l => if l.val / b % 2 = 1 then B ⟨(l.val + s) % 128, Nat.mod_lt _ (by decide)⟩ else A l
def hi (b s : ℕ) (A B : Fin 128 → α) : Fin 128 → α := fun l => if l.val / b % 2 = 1 then B l else A ⟨(l.val + s) % 128, Nat.mod_lt _ (by decide)⟩

theorem lo_comp (g : β → α) (b s : ℕ) (A B : Fin 128 → β) : lo b s (g ∘ A) (g ∘ B) = g ∘ lo b s A B := by
  funext l; simp only [lo, Function.comp]; split <;> rfl
theorem hi_comp (g : β → α) (b s : ℕ) (A B : Fin 128 → β) : hi b s (g ∘ A) (g ∘ B) = g ∘ hi b s A B := by
  funext l; simp only [hi, Function.comp]; split <;> rfl

def net (p : Fin 8 → Fin 128 → α) : Fin 8 → Fin 128 → α :=
  ![lo 16 112 (lo 32 96 (lo 64 64 (p 0) (p 4)) (lo 64 64 (p 2) (p 6))) (lo 32 96 (lo 64 64 (p 1) (p 5)) (lo 64 64 (p 3) (p 7))),
    hi 16 16 (lo 32 96 (lo 64 64 (p 0) (p 4)) (lo 64 64 (p 2) (p 6))) (lo 32 96 (lo 64 64 (p 1) (p 5)) (lo 64 64 (p 3) (p 7))),
    lo 16 112 (hi 32 32 (lo 64 64 (p 0) (p 4)) (lo 64 64 (p 2) (p 6))) (hi 32 32 (lo 64 64 (p 1) (p 5)) (lo 64 64 (p 3) (p 7))),
    hi 16 16 (hi 32 32 (lo 64 64 (p 0) (p 4)) (lo 64 64 (p 2) (p 6))) (hi 32 32 (lo 64 64 (p 1) (p 5)) (lo 64 64 (p 3) (p 7))),
    lo 16 112 (lo 32 96 (hi 64 64 (p 0) (p 4)) (hi 64 64 (p 2) (p 6))) (lo 32 96 (hi 64 64 (p 1) (p 5)) (hi 64 64 (p 3) (p 7))),
    hi 16 16 (lo 32 96 (hi 64 64 (p 0) (p 4)) (hi 64 64 (p 2) (p 6))) (lo 32 96 (hi 64 64 (p 1) (p 5)) (hi 64 64 (p 3) (p 7))),
    lo 16 112 (hi 32 32 (hi 64 64 (p 0) (p 4)) (hi 64 64 (p 2) (p 6))) (hi 32 32 (hi 64 64 (p 1) (p 5)) (hi 64 64 (p 3) (p 7))),
    hi 16 16 (hi 32 32 (hi 64 64 (p 0) (p 4)) (hi 64 64 (p 2) (p 6))) (hi 32 32 (hi 64 64 (p 1) (p 5)) (hi 64 64 (p 3) (p 7)))]

theorem net_nat (g : β → α) (e : Fin 8 → Fin 128 → β) (j : Fin 8) : net (fun a => g ∘ e a) j = g ∘ net e j := by
  match j with
  | 0 | 1 | 2 | 3 | 4 | 5 | 6 | 7 =>
    unfold net
    simp only [lo_comp, hi_comp]
    rfl

theorem net_code : ∀ (j : Fin 8) (l : Fin 128), (net (fun a l => (a, l)) j l : Fin 8 × Fin 128)
    = (⟨l.val / 16, by omega⟩, ⟨16 * j.val + l.val % 16, by omega⟩) := by decide +kernel

/-- What the three exchange stages leave: group `j` gathers, of each piece, the lanes `16 j … 16 j + 15`. -/
theorem net_apply (p : Fin 8 → Fin 128 → α) (j : Fin 8) (l : Fin 128) :
    net p j l = p ⟨l.val / 16, by omega⟩ ⟨16 * j.val + l.val % 16, by omega⟩ := by
  have h := congrFun (net_nat (fun q : Fin 8 × Fin 128 => p q.1 q.2) (fun a l => (a, l)) j) l
  refine h.trans ?_
  show p (net (fun a l => (a, l)) j l).1 (net (fun a l => (a, l)) j l).2 = _
  rw [net_code]

/-- The lane the gather reads. -/
def gl (l : Fin 128) : Fin 128 := ⟨l.val % 8 * 16 + l.val / 8, by omega⟩

theorem net_gl (p : Fin 8 → Fin 128 → α) (j : Fin 8) (l : Fin 128) :
    net p j (gl l) = p ⟨l.val % 8, by omega⟩ ⟨16 * j.val + l.val / 8, by omega⟩ := by
  rw [net_apply]
  congr 1
  · apply Fin.ext; show (l.val % 8 * 16 + l.val / 8) / 16 = l.val % 8; omega
  · apply Fin.ext; show 16 * j.val + (l.val % 8 * 16 + l.val / 8) % 16 = 16 * j.val + l.val / 8; omega

theorem rot_row {n : ℕ} (A : (⟨2, ![n, 128]⟩ : Shape).Idx → α) (s : BitVec 32) (h : (⟨2, ![n, 128]⟩ : Shape).Rotates 1 none) (r : Fin n) (l : Fin 128) (k : ℕ) (hk : s.toNat < 128 ∧ k = 128 - s.toNat) :
    dynamicRotate 1 s none A h (ix2 r l) = rowf A r ⟨(l.val + k) % 128, Nat.mod_lt _ (by decide)⟩ := by
  unfold dynamicRotate rowf
  refine congrArg A ?_
  funext b
  match b with
  | ⟨0, _⟩ => rfl
  | ⟨1, _⟩ =>
    apply Fin.ext
    show (l.val + 128 - (s.toNat + 0) % 128) % 128 = (l.val + k) % 128
    congr 1; omega

theorem row_lo {n : ℕ} (M : IVec (⟨2, ![n, 128]⟩ : Shape) 1) (b : ℕ) (hM : ∀ r l, M (ix2 r l) = if l.val / b % 2 = 1 then 1#1 else 0#1)
    (A B : (⟨2, ![n, 128]⟩ : Shape).Idx → α) (s : BitVec 32) (h : (⟨2, ![n, 128]⟩ : Shape).Rotates 1 none) (k : ℕ) (hk : s.toNat < 128 ∧ k = 128 - s.toNat) (r : Fin n) :
    rowf (select M (dynamicRotate 1 s none B h) A) r = lo b k (rowf A r) (rowf B r) := by
  funext l
  show Scalar.select (M (ix2 r l)) (dynamicRotate 1 s none B h (ix2 r l)) (A (ix2 r l)) = _
  rw [hM, rot_row B s h r l k hk]
  unfold lo
  split <;> rfl

theorem row_hi {n : ℕ} (M : IVec (⟨2, ![n, 128]⟩ : Shape) 1) (b : ℕ) (hM : ∀ r l, M (ix2 r l) = if l.val / b % 2 = 1 then 1#1 else 0#1)
    (A B : (⟨2, ![n, 128]⟩ : Shape).Idx → α) (s : BitVec 32) (h : (⟨2, ![n, 128]⟩ : Shape).Rotates 1 none) (k : ℕ) (hk : s.toNat < 128 ∧ k = 128 - s.toNat) (r : Fin n) :
    rowf (select M B (dynamicRotate 1 s none A h)) r = hi b k (rowf A r) (rowf B r) := by
  funext l
  show Scalar.select (M (ix2 r l)) (B (ix2 r l)) (dynamicRotate 1 s none A h (ix2 r l)) = _
  rw [hM, rot_row A s h r l k hk]
  unfold hi
  split <;> rfl

theorem row_gather {n : ℕ} (A : (⟨2, ![n, 128]⟩ : Shape).Idx → α) (X : IVec (⟨2, ![n, 128]⟩ : Shape) 32) (h : (⟨2, ![n, 128]⟩ : Shape).ShapeCasts ⟨3, ![n, 128, 1]⟩)
    (h' : (⟨3, ![n, 128, 1]⟩ : Shape).ShapeCasts ⟨2, ![n, 128]⟩) (hX : ∀ r l, (X (ix2 r l)).toNat = l.val % 8 * 16 + l.val / 8) (r : Fin n) :
    rowf (dynamicGather 1 A (shapeCast (⟨2, ![n, 128]⟩ : Shape) (shapeCast (⟨3, ![n, 128, 1]⟩ : Shape) X h) h')) r = rowf A r ∘ gl := by
  rw [shapeCast_shapeCast]
  funext l
  unfold dynamicGather rowf gl
  refine congrArg A ?_
  funext b
  match b with
  | ⟨0, _⟩ => rfl
  | ⟨1, _⟩ =>
    apply Fin.ext
    show (X (ix2 r l)).toNat % 128 = _
    rw [hX]
    show _ = l.val % 8 * 16 + l.val / 8
    omega

theorem cast_drop {n m : ℕ} (v : (⟨3, ![1, n, m]⟩ : Shape).Idx → α) (h : (⟨3, ![1, n, m]⟩ : Shape).ShapeCasts ⟨2, ![n, m]⟩) (r : Fin n) (l : Fin m) :
    shapeCast (⟨2, ![n, m]⟩ : Shape) v h (ix2 r l) = v (ix3 0 r l) := by
  refine (shapeCast_dropUnit_apply ![n, m] v h (ix2 r l)).trans (congrArg v ?_)
  funext a
  match a with
  | ⟨0, _⟩ => rfl
  | ⟨1, _⟩ => rfl
  | ⟨2, _⟩ => rfl

theorem cast_add {n m : ℕ} (v : (⟨2, ![n, m]⟩ : Shape).Idx → α) (h : (⟨2, ![n, m]⟩ : Shape).ShapeCasts ⟨3, ![1, n, m]⟩) (z : Fin 1) (r : Fin n) (l : Fin m) :
    shapeCast (⟨3, ![1, n, m]⟩ : Shape) v h (ix3 z r l) = v (ix2 r l) := by
  refine (shapeCast_addUnit_apply ![n, m] v h (ix3 z r l)).trans (congrArg v ?_)
  funext a
  match a with
  | ⟨0, _⟩ => rfl
  | ⟨1, _⟩ => rfl

theorem bc_row {n : ℕ} (hn : n ≠ 1) (v : (⟨2, ![1, 128]⟩ : Shape).Idx → α) (h : (⟨2, ![1, 128]⟩ : Shape).Broadcasts ⟨2, ![n, 128]⟩) (r : Fin n) (l : Fin 128) :
    broadcastTo (⟨2, ![n, 128]⟩ : Shape) v h (ix2 r l) = v (ix2 0 l) := by
  refine broadcastTo_apply v h (ix2 r l) (ix2 0 l) ?_
  intro a
  match a with
  | ⟨0, _⟩ => rfl
  | ⟨1, _⟩ => rfl

end Lanes

/-- Field `f` (four bits) of a word, as an extended real. -/
def nib (w : BitVec 32) (f : ℕ) : EReal := (((w.toNat / 2 ^ (4 * f) % 16 : ℕ) : ℝ) : EReal)

theorem zfield (z s : BitVec 32) (f : ℕ) (hf : f < 8) (hs : s.toNat = 4 * f) : (FloatOps.sitofp (F := Ideal) .f32 (IntOp.andi (IntOp.shrsi .vector z s) 15#32) : EReal) = nib z f := by
  have e : (IntOp.andi (IntOp.shrsi .vector z s) 15#32) = (z >>> (4 * f)) &&& 15#32 := by
    have h1 : IntOp.shrsi .vector z s = z.sshiftRight (4 * f) := by
      unfold IntOp.shrsi
      rw [if_pos (by omega)]
      show z.sshiftRight s.toNat = _
      rw [hs]
    rw [h1]
    apply BitVec.eq_of_getLsbD_eq
    intro i hi
    show ((z.sshiftRight (4 * f)) &&& 15#32).getLsbD i = _
    rw [BitVec.getLsbD_and, BitVec.getLsbD_and, BitVec.getLsbD_sshiftRight, BitVec.getLsbD_ushiftRight]
    by_cases h4 : i < 4
    · have a1 : ¬ (32 ≤ i) := by omega
      have a2 : 4 * f + i < 32 := by omega
      simp [a1, a2]
    · have : (15#32 : BitVec 32).getLsbD i = false := by
        revert h4; revert hi; revert i; decide
      rw [this, Bool.and_false, Bool.and_false]
  have e2 : ((z >>> (4 * f)) &&& 15#32).toNat = z.toNat / 2 ^ (4 * f) % 16 := by
    rw [BitVec.toNat_and, BitVec.toNat_ushiftRight, Nat.shiftRight_eq_div_pow]
    exact Nat.and_two_pow_sub_one_eq_mod _ 4
  have e3 : ((z >>> (4 * f)) &&& 15#32).toInt = ((z.toNat / 2 ^ (4 * f) % 16 : ℕ) : ℤ) := by
    rw [BitVec.toInt_eq_toNat_of_lt (by rw [e2]; omega), e2]
  show (((IntOp.andi (IntOp.shrsi .vector z s) 15#32).toInt : ℝ) : EReal) = _
  rw [e, e3]
  unfold nib
  norm_cast

/-- A finished element before the lane network. -/
def pv (z : BitVec 32) (f : ℕ) (xs acc s : EReal) : EReal := (acc - nib z f * xs) * s

theorem piece_row {n : ℕ} (hn : n ≠ 1) (z : Vec Ideal S1x128 .i32) (xs : FVec Ideal ⟨2, ![n, 128]⟩ .f32) (acc : FVec Ideal ⟨3, ![1, n, 128]⟩ .f32) (s : FVec Ideal S1x1x128 .f32)
    (k m : BitVec 32) (f : ℕ) (hf : f < 8) (hk : k.toNat = 4 * f) (hm : m = 15#32)
    (h1 : (⟨3, ![1, n, 128]⟩ : Shape).ShapeCasts ⟨2, ![n, 128]⟩) (h2 : S1x128.Broadcasts ⟨2, ![n, 128]⟩) (h3 : S1x1x128.ShapeCasts S1x128) (r : Fin n) :
    rowf (mulf (subf (shapeCast (⟨2, ![n, 128]⟩ : Shape) acc h1) (mulf (broadcastTo (⟨2, ![n, 128]⟩ : Shape) (sitofp .f32 (andi (shrsi z (broadcast S1x128 k)) (broadcast S1x128 m)) : FVec Ideal S1x128 .f32) h2) xs))
      (broadcastTo (⟨2, ![n, 128]⟩ : Shape) (shapeCast S1x128 s h3) h2)) r
      = fun l => pv (z (ix2 0 l)) f (xs (ix2 r l)) (acc (ix3 0 r l)) (s (ix3 0 0 l)) := by
  funext l
  show (shapeCast (⟨2, ![n, 128]⟩ : Shape) acc h1 (ix2 r l) - broadcastTo (⟨2, ![n, 128]⟩ : Shape) (sitofp .f32 (andi (shrsi z (broadcast S1x128 k)) (broadcast S1x128 m)) : FVec Ideal S1x128 .f32) h2 (ix2 r l) * xs (ix2 r l))
    * broadcastTo (⟨2, ![n, 128]⟩ : Shape) (shapeCast S1x128 s h3) h2 (ix2 r l) = _
  subst hm
  rw [cast_drop, bc_row hn, bc_row hn, cast_drop]
  show (_ - FloatOps.sitofp (F := Ideal) .f32 (IntOp.andi (IntOp.shrsi .vector (z (ix2 0 l)) k) 15#32) * _) * _ = _
  rw [zfield _ _ f hf hk]
  rfl

theorem mask32_64 : ∀ (r : Fin 32) (l : Fin 128), k0_pay47 (ix2 r l) = if l.val / 64 % 2 = 1 then 1#1 else 0#1 := by
  have h : ∀ l : Fin 128, k0_pay47 (ix2 (0 : Fin 32) l) = if l.val / 64 % 2 = 1 then 1#1 else 0#1 := by decide +kernel
  intro r l
  rw [← h l]
  rfl

theorem mask32_32 : ∀ (r : Fin 32) (l : Fin 128), k0_pay56 (ix2 r l) = if l.val / 32 % 2 = 1 then 1#1 else 0#1 := by
  have h : ∀ l : Fin 128, k0_pay56 (ix2 (0 : Fin 32) l) = if l.val / 32 % 2 = 1 then 1#1 else 0#1 := by decide +kernel
  intro r l
  rw [← h l]
  rfl

theorem mask32_16 : ∀ (r : Fin 32) (l : Fin 128), k0_pay66 (iota .tc S32x128 32 [1] iota_S32x128_d1_w32) (ix2 r l) = if l.val / 16 % 2 = 1 then 1#1 else 0#1 := by
  have h : ∀ l : Fin 128, k0_pay66 (iota .tc S32x128 32 [1] iota_S32x128_d1_w32) (ix2 (0 : Fin 32) l) = if l.val / 16 % 2 = 1 then 1#1 else 0#1 := by decide +kernel
  intro r l
  rw [← h l]
  rfl

theorem lo32_64 (A B : FVec Ideal S32x128 .f32) (r : Fin 32) : rowf (select k0_pay47 (dynamicRotate 1 64#32 none B rotates_S32x128_d1) A) r = lo 64 64 (rowf A r) (rowf B r) :=
  row_lo (n := 32) _ 64 mask32_64 A B _ _ 64 (by decide) r
theorem hi32_64 (A B : FVec Ideal S32x128 .f32) (r : Fin 32) : rowf (select k0_pay47 B (dynamicRotate 1 64#32 none A rotates_S32x128_d1)) r = hi 64 64 (rowf A r) (rowf B r) :=
  row_hi (n := 32) _ 64 mask32_64 A B _ _ 64 (by decide) r

theorem lo32_32 (A B : FVec Ideal S32x128 .f32) (r : Fin 32) : rowf (select k0_pay56 (dynamicRotate 1 32#32 none B rotates_S32x128_d1) A) r = lo 32 96 (rowf A r) (rowf B r) :=
  row_lo (n := 32) _ 32 mask32_32 A B _ _ 96 (by decide) r
theorem hi32_32 (A B : FVec Ideal S32x128 .f32) (r : Fin 32) : rowf (select k0_pay56 B (dynamicRotate 1 96#32 none A rotates_S32x128_d1)) r = hi 32 32 (rowf A r) (rowf B r) :=
  row_hi (n := 32) _ 32 mask32_32 A B _ _ 32 (by decide) r

theorem lo32_16 (A B : FVec Ideal S32x128 .f32) (r : Fin 32) : rowf (select (k0_pay66 (iota .tc S32x128 32 [1] iota_S32x128_d1_w32)) (dynamicRotate 1 16#32 none B rotates_S32x128_d1) A) r = lo 16 112 (rowf A r) (rowf B r) :=
  row_lo (n := 32) _ 16 mask32_16 A B _ _ 112 (by decide) r
theorem hi32_16 (A B : FVec Ideal S32x128 .f32) (r : Fin 32) : rowf (select (k0_pay66 (iota .tc S32x128 32 [1] iota_S32x128_d1_w32)) B (dynamicRotate 1 112#32 none A rotates_S32x128_d1)) r = hi 16 16 (rowf A r) (rowf B r) :=
  row_hi (n := 32) _ 16 mask32_16 A B _ _ 16 (by decide) r

/-- The gather's lanes. -/
def gi32 : IVec S32x128 32 := k0_pay77 (iota .tc S32x128 32 [1] iota_S32x128_d1_w32) 8#32 (k0_pay75 (iota .tc S32x128 32 [1] iota_S32x128_d1_w32)) (k0_pay76 (iota .tc S32x128 32 [1] iota_S32x128_d1_w32)) 0#32
def gx32 : IVec S32x128 32 := select (cmpi .slt gi32 (broadcast S32x128 0#32)) (addi gi32 (broadcast S32x128 128#32)) gi32
theorem gx32_apply : ∀ (r : Fin 32) (l : Fin 128), (gx32 (ix2 r l)).toNat = l.val % 8 * 16 + l.val / 8 := by
  have h : ∀ l : Fin 128, (gx32 (ix2 (0 : Fin 32) l)).toNat = l.val % 8 * 16 + l.val / 8 := by decide +kernel
  intro r l
  rw [← h l]
  rfl
theorem gather32 (A : FVec Ideal S32x128 .f32) (r : Fin 32) :
    rowf (dynamicGather 1 A (shapeCast S32x128 (shapeCast S32x128x1 gx32 shapeCasts_S32x128_S32x128x1) shapeCasts_S32x128x1_S32x128)) r = rowf A r ∘ gl :=
  row_gather (n := 32) A gx32 _ _ gx32_apply r

section
variable (z : Vec Ideal S1x128 .i32) (xs : Vec Ideal S32x128 .f32) (a0 : Vec Ideal S1x32x128 .f32) (s0 : Vec Ideal S1x1x128 .f32) (a1 : Vec Ideal S1x32x128 .f32) (s1 : Vec Ideal S1x1x128 .f32) (a2 : Vec Ideal S1x32x128 .f32) (s2 : Vec Ideal S1x1x128 .f32) (a3 : Vec Ideal S1x32x128 .f32) (s3 : Vec Ideal S1x1x128 .f32) (a4 : Vec Ideal S1x32x128 .f32) (s4 : Vec Ideal S1x1x128 .f32) (a5 : Vec Ideal S1x32x128 .f32) (s5 : Vec Ideal S1x1x128 .f32) (a6 : Vec Ideal S1x32x128 .f32) (s6 : Vec Ideal S1x1x128 .f32) (a7 : Vec Ideal S1x32x128 .f32) (s7 : Vec Ideal S1x1x128 .f32)

def ps32 (r : Fin 32) : Fin 8 → Fin 128 → EReal := ![fun l => pv (z (ix2 0 l)) 0 (xs (ix2 r l)) (a0 (ix3 0 r l)) (s0 (ix3 0 0 l)), fun l => pv (z (ix2 0 l)) 4 (xs (ix2 r l)) (a1 (ix3 0 r l)) (s1 (ix3 0 0 l)), fun l => pv (z (ix2 0 l)) 1 (xs (ix2 r l)) (a2 (ix3 0 r l)) (s2 (ix3 0 0 l)), fun l => pv (z (ix2 0 l)) 5 (xs (ix2 r l)) (a3 (ix3 0 r l)) (s3 (ix3 0 0 l)), fun l => pv (z (ix2 0 l)) 2 (xs (ix2 r l)) (a4 (ix3 0 r l)) (s4 (ix3 0 0 l)), fun l => pv (z (ix2 0 l)) 6 (xs (ix2 r l)) (a5 (ix3 0 r l)) (s5 (ix3 0 0 l)), fun l => pv (z (ix2 0 l)) 3 (xs (ix2 r l)) (a6 (ix3 0 r l)) (s6 (ix3 0 0 l)), fun l => pv (z (ix2 0 l)) 7 (xs (ix2 r l)) (a7 (ix3 0 r l)) (s7 (ix3 0 0 l))]

theorem pc32_0 (r : Fin 32) : rowf (k0_pay36 z xs a0 s0) r = fun l => pv (z (ix2 0 l)) 0 (xs (ix2 r l)) (a0 (ix3 0 r l)) (s0 (ix3 0 0 l)) :=
  piece_row (n := 32) (by decide) z xs a0 s0 0#32 15#32 0 (by decide) (by decide) rfl _ _ _ r
theorem pc32_1 (r : Fin 32) : rowf (k0_pay37 z xs a1 s1) r = fun l => pv (z (ix2 0 l)) 4 (xs (ix2 r l)) (a1 (ix3 0 r l)) (s1 (ix3 0 0 l)) :=
  piece_row (n := 32) (by decide) z xs a1 s1 16#32 15#32 4 (by decide) (by decide) rfl _ _ _ r
theorem pc32_2 (r : Fin 32) : rowf (k0_pay39 xs (k0_pay38 z) a2 s2) r = fun l => pv (z (ix2 0 l)) 1 (xs (ix2 r l)) (a2 (ix3 0 r l)) (s2 (ix3 0 0 l)) :=
  piece_row (n := 32) (by decide) z xs a2 s2 4#32 15#32 1 (by decide) (by decide) rfl _ _ _ r
theorem pc32_3 (r : Fin 32) : rowf (k0_pay40 z xs a3 s3) r = fun l => pv (z (ix2 0 l)) 5 (xs (ix2 r l)) (a3 (ix3 0 r l)) (s3 (ix3 0 0 l)) :=
  piece_row (n := 32) (by decide) z xs a3 s3 20#32 15#32 5 (by decide) (by decide) rfl _ _ _ r
theorem pc32_4 (r : Fin 32) : rowf (k0_pay42 (k0_pay41 z xs a4) s4) r = fun l => pv (z (ix2 0 l)) 2 (xs (ix2 r l)) (a4 (ix3 0 r l)) (s4 (ix3 0 0 l)) :=
  piece_row (n := 32) (by decide) z xs a4 s4 8#32 15#32 2 (by decide) (by decide) rfl _ _ _ r
theorem pc32_5 (r : Fin 32) : rowf (k0_pay43 z xs a5 s5) r = fun l => pv (z (ix2 0 l)) 6 (xs (ix2 r l)) (a5 (ix3 0 r l)) (s5 (ix3 0 0 l)) :=
  piece_row (n := 32) (by decide) z xs a5 s5 24#32 15#32 6 (by decide) (by decide) rfl _ _ _ r
theorem pc32_6 (r : Fin 32) : rowf (k0_pay44 z xs a6 s6) r = fun l => pv (z (ix2 0 l)) 3 (xs (ix2 r l)) (a6 (ix3 0 r l)) (s6 (ix3 0 0 l)) :=
  piece_row (n := 32) (by decide) z xs a6 s6 12#32 15#32 3 (by decide) (by decide) rfl _ _ _ r
theorem pc32_7 (r : Fin 32) : rowf (k0_pay46 xs (k0_pay45 z) a7 s7) r = fun l => pv (z (ix2 0 l)) 7 (xs (ix2 r l)) (a7 (ix3 0 r l)) (s7 (ix3 0 0 l)) :=
  piece_row (n := 32) (by decide) z xs a7 s7 28#32 15#32 7 (by decide) (by decide) rfl _ _ _ r

theorem epi_row (j : Fin 8) (r : Fin 32) (l : Fin 128) :
    (epi z xs a0 s0 a1 s1 a2 s2 a3 s3 a4 s4 a5 s5 a6 s6 a7 s7) j (ix3 0 r l) = ps32 z xs a0 s0 a1 s1 a2 s2 a3 s3 a4 s4 a5 s5 a6 s6 a7 s7 r ⟨l.val % 8, by omega⟩ ⟨16 * j.val + l.val / 8, by omega⟩ := by
  refine Eq.trans ?_ (net_gl (ps32 z xs a0 s0 a1 s1 a2 s2 a3 s3 a4 s4 a5 s5 a6 s6 a7 s7 r) j l)
  have key : ∀ (o : FVec Ideal S1x32x128 .bf16) (g : FVec Ideal S32x128 .f32), o = shapeCast S1x32x128 (truncf .bf16 g bitsLt_bf16_f32 : FVec Ideal S32x128 .bf16) shapeCasts_S32x128_S1x32x128 → ∀ q : Fin 128 → EReal,
      rowf g r = q ∘ gl → o (ix3 0 r l) = q (gl l) := by
    intro o g ho q hq
    rw [ho, cast_add]
    exact congrFun hq l
  match j with
  | 0 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (lo32_16 _ _ r).trans (congrArg₂ (lo 16 112) ((lo32_32 _ _ r).trans (congrArg₂ (lo 32 96) ((lo32_64 _ _ r).trans (congrArg₂ (lo 64 64) (pc32_0 z xs a0 s0 r) (pc32_4 z xs a4 s4 r))) ((lo32_64 _ _ r).trans (congrArg₂ (lo 64 64) (pc32_2 z xs a2 s2 r) (pc32_6 z xs a6 s6 r))))) ((lo32_32 _ _ r).trans (congrArg₂ (lo 32 96) ((lo32_64 _ _ r).trans (congrArg₂ (lo 64 64) (pc32_1 z xs a1 s1 r) (pc32_5 z xs a5 s5 r))) ((lo32_64 _ _ r).trans (congrArg₂ (lo 64 64) (pc32_3 z xs a3 s3 r) (pc32_7 z xs a7 s7 r))))))
  | 1 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (hi32_16 _ _ r).trans (congrArg₂ (hi 16 16) ((lo32_32 _ _ r).trans (congrArg₂ (lo 32 96) ((lo32_64 _ _ r).trans (congrArg₂ (lo 64 64) (pc32_0 z xs a0 s0 r) (pc32_4 z xs a4 s4 r))) ((lo32_64 _ _ r).trans (congrArg₂ (lo 64 64) (pc32_2 z xs a2 s2 r) (pc32_6 z xs a6 s6 r))))) ((lo32_32 _ _ r).trans (congrArg₂ (lo 32 96) ((lo32_64 _ _ r).trans (congrArg₂ (lo 64 64) (pc32_1 z xs a1 s1 r) (pc32_5 z xs a5 s5 r))) ((lo32_64 _ _ r).trans (congrArg₂ (lo 64 64) (pc32_3 z xs a3 s3 r) (pc32_7 z xs a7 s7 r))))))
  | 2 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (lo32_16 _ _ r).trans (congrArg₂ (lo 16 112) ((hi32_32 _ _ r).trans (congrArg₂ (hi 32 32) ((lo32_64 _ _ r).trans (congrArg₂ (lo 64 64) (pc32_0 z xs a0 s0 r) (pc32_4 z xs a4 s4 r))) ((lo32_64 _ _ r).trans (congrArg₂ (lo 64 64) (pc32_2 z xs a2 s2 r) (pc32_6 z xs a6 s6 r))))) ((hi32_32 _ _ r).trans (congrArg₂ (hi 32 32) ((lo32_64 _ _ r).trans (congrArg₂ (lo 64 64) (pc32_1 z xs a1 s1 r) (pc32_5 z xs a5 s5 r))) ((lo32_64 _ _ r).trans (congrArg₂ (lo 64 64) (pc32_3 z xs a3 s3 r) (pc32_7 z xs a7 s7 r))))))
  | 3 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (hi32_16 _ _ r).trans (congrArg₂ (hi 16 16) ((hi32_32 _ _ r).trans (congrArg₂ (hi 32 32) ((lo32_64 _ _ r).trans (congrArg₂ (lo 64 64) (pc32_0 z xs a0 s0 r) (pc32_4 z xs a4 s4 r))) ((lo32_64 _ _ r).trans (congrArg₂ (lo 64 64) (pc32_2 z xs a2 s2 r) (pc32_6 z xs a6 s6 r))))) ((hi32_32 _ _ r).trans (congrArg₂ (hi 32 32) ((lo32_64 _ _ r).trans (congrArg₂ (lo 64 64) (pc32_1 z xs a1 s1 r) (pc32_5 z xs a5 s5 r))) ((lo32_64 _ _ r).trans (congrArg₂ (lo 64 64) (pc32_3 z xs a3 s3 r) (pc32_7 z xs a7 s7 r))))))
  | 4 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (lo32_16 _ _ r).trans (congrArg₂ (lo 16 112) ((lo32_32 _ _ r).trans (congrArg₂ (lo 32 96) ((hi32_64 _ _ r).trans (congrArg₂ (hi 64 64) (pc32_0 z xs a0 s0 r) (pc32_4 z xs a4 s4 r))) ((hi32_64 _ _ r).trans (congrArg₂ (hi 64 64) (pc32_2 z xs a2 s2 r) (pc32_6 z xs a6 s6 r))))) ((lo32_32 _ _ r).trans (congrArg₂ (lo 32 96) ((hi32_64 _ _ r).trans (congrArg₂ (hi 64 64) (pc32_1 z xs a1 s1 r) (pc32_5 z xs a5 s5 r))) ((hi32_64 _ _ r).trans (congrArg₂ (hi 64 64) (pc32_3 z xs a3 s3 r) (pc32_7 z xs a7 s7 r))))))
  | 5 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (hi32_16 _ _ r).trans (congrArg₂ (hi 16 16) ((lo32_32 _ _ r).trans (congrArg₂ (lo 32 96) ((hi32_64 _ _ r).trans (congrArg₂ (hi 64 64) (pc32_0 z xs a0 s0 r) (pc32_4 z xs a4 s4 r))) ((hi32_64 _ _ r).trans (congrArg₂ (hi 64 64) (pc32_2 z xs a2 s2 r) (pc32_6 z xs a6 s6 r))))) ((lo32_32 _ _ r).trans (congrArg₂ (lo 32 96) ((hi32_64 _ _ r).trans (congrArg₂ (hi 64 64) (pc32_1 z xs a1 s1 r) (pc32_5 z xs a5 s5 r))) ((hi32_64 _ _ r).trans (congrArg₂ (hi 64 64) (pc32_3 z xs a3 s3 r) (pc32_7 z xs a7 s7 r))))))
  | 6 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (lo32_16 _ _ r).trans (congrArg₂ (lo 16 112) ((hi32_32 _ _ r).trans (congrArg₂ (hi 32 32) ((hi32_64 _ _ r).trans (congrArg₂ (hi 64 64) (pc32_0 z xs a0 s0 r) (pc32_4 z xs a4 s4 r))) ((hi32_64 _ _ r).trans (congrArg₂ (hi 64 64) (pc32_2 z xs a2 s2 r) (pc32_6 z xs a6 s6 r))))) ((hi32_32 _ _ r).trans (congrArg₂ (hi 32 32) ((hi32_64 _ _ r).trans (congrArg₂ (hi 64 64) (pc32_1 z xs a1 s1 r) (pc32_5 z xs a5 s5 r))) ((hi32_64 _ _ r).trans (congrArg₂ (hi 64 64) (pc32_3 z xs a3 s3 r) (pc32_7 z xs a7 s7 r))))))
  | 7 =>
    refine key _ _ rfl _ ((gather32 _ r).trans (congrArg (· ∘ gl) ?_))
    simp only [k0_pay48, k0_pay49, k0_pay50, k0_pay51, k0_pay52, k0_pay53, k0_pay54, k0_pay55, k0_pay57, k0_pay58, k0_pay59, k0_pay60, k0_pay61, k0_pay62, k0_pay63, k0_pay64, k0_pay65, k0_pay67, k0_pay68, k0_pay69, k0_pay70, k0_pay71, k0_pay72, k0_pay73, k0_pay74]
    exact (hi32_16 _ _ r).trans (congrArg₂ (hi 16 16) ((hi32_32 _ _ r).trans (congrArg₂ (hi 32 32) ((hi32_64 _ _ r).trans (congrArg₂ (hi 64 64) (pc32_0 z xs a0 s0 r) (pc32_4 z xs a4 s4 r))) ((hi32_64 _ _ r).trans (congrArg₂ (hi 64 64) (pc32_2 z xs a2 s2 r) (pc32_6 z xs a6 s6 r))))) ((hi32_32 _ _ r).trans (congrArg₂ (hi 32 32) ((hi32_64 _ _ r).trans (congrArg₂ (hi 64 64) (pc32_1 z xs a1 s1 r) (pc32_5 z xs a5 s5 r))) ((hi32_64 _ _ r).trans (congrArg₂ (hi 64 64) (pc32_3 z xs a3 s3 r) (pc32_7 z xs a7 s7 r))))))

end

theorem mask96_64 : ∀ (r : Fin 96) (l : Fin 128), k0_pay270 (ix2 r l) = if l.val / 64 % 2 = 1 then 1#1 else 0#1 := by
  have h : ∀ l : Fin 128, k0_pay270 (ix2 (0 : Fin 96) l) = if l.val / 64 % 2 = 1 then 1#1 else 0#1 := by decide +kernel
  intro r l
  rw [← h l]
  rfl

theorem mask96_32 : ∀ (r : Fin 96) (l : Fin 128), k0_pay279 (ix2 r l) = if l.val / 32 % 2 = 1 then 1#1 else 0#1 := by
  have h : ∀ l : Fin 128, k0_pay279 (ix2 (0 : Fin 96) l) = if l.val / 32 % 2 = 1 then 1#1 else 0#1 := by decide +kernel
  intro r l
  rw [← h l]
  rfl

theorem mask96_16 : ∀ (r : Fin 96) (l : Fin 128), k0_pay288 (iota .tc S96x128 32 [1] iota_S96x128_d1_w32) (ix2 r l) = if l.val / 16 % 2 = 1 then 1#1 else 0#1 := by
  have h : ∀ l : Fin 128, k0_pay288 (iota .tc S96x128 32 [1] iota_S96x128_d1_w32) (ix2 (0 : Fin 96) l) = if l.val / 16 % 2 = 1 then 1#1 else 0#1 := by decide +kernel
  intro r l
  rw [← h l]
  rfl

theorem lo96_64 (A B : FVec Ideal S96x128 .f32) (r : Fin 96) : rowf (select k0_pay270 (dynamicRotate 1 64#32 none B rotates_S96x128_d1) A) r = lo 64 64 (rowf A r) (rowf B r) :=
  row_lo (n := 96) _ 64 mask96_64 A B _ _ 64 (by decide) r
theorem hi96_64 (A B : FVec Ideal S96x128 .f32) (r : Fin 96) : rowf (select k0_pay270 B (dynamicRotate 1 64#32 none A rotates_S96x128_d1)) r = hi 64 64 (rowf A r) (rowf B r) :=
  row_hi (n := 96) _ 64 mask96_64 A B _ _ 64 (by decide) r

theorem lo96_32 (A B : FVec Ideal S96x128 .f32) (r : Fin 96) : rowf (select k0_pay279 (dynamicRotate 1 32#32 none B rotates_S96x128_d1) A) r = lo 32 96 (rowf A r) (rowf B r) :=
  row_lo (n := 96) _ 32 mask96_32 A B _ _ 96 (by decide) r
theorem hi96_32 (A B : FVec Ideal S96x128 .f32) (r : Fin 96) : rowf (select k0_pay279 B (dynamicRotate 1 96#32 none A rotates_S96x128_d1)) r = hi 32 32 (rowf A r) (rowf B r) :=
  row_hi (n := 96) _ 32 mask96_32 A B _ _ 32 (by decide) r

theorem lo96_16 (A B : FVec Ideal S96x128 .f32) (r : Fin 96) : rowf (select (k0_pay288 (iota .tc S96x128 32 [1] iota_S96x128_d1_w32)) (dynamicRotate 1 16#32 none B rotates_S96x128_d1) A) r = lo 16 112 (rowf A r) (rowf B r) :=
  row_lo (n := 96) _ 16 mask96_16 A B _ _ 112 (by decide) r
theorem hi96_16 (A B : FVec Ideal S96x128 .f32) (r : Fin 96) : rowf (select (k0_pay288 (iota .tc S96x128 32 [1] iota_S96x128_d1_w32)) B (dynamicRotate 1 112#32 none A rotates_S96x128_d1)) r = hi 16 16 (rowf A r) (rowf B r) :=
  row_hi (n := 96) _ 16 mask96_16 A B _ _ 16 (by decide) r

/-- The gather's lanes. -/
def gi96 : IVec S96x128 32 := k0_pay300 (iota .tc S96x128 32 [1] iota_S96x128_d1_w32) 8#32 (k0_pay297 (iota .tc S96x128 32 [1] iota_S96x128_d1_w32)) (k0_pay298 (iota .tc S96x128 32 [1] iota_S96x128_d1_w32)) (k0_pay299 (iota .tc S96x128 32 [1] iota_S96x128_d1_w32))
def gx96 : IVec S96x128 32 := select (cmpi .slt gi96 (broadcast S96x128 0#32)) (addi gi96 (broadcast S96x128 128#32)) gi96
theorem gx96_apply : ∀ (r : Fin 96) (l : Fin 128), (gx96 (ix2 r l)).toNat = l.val % 8 * 16 + l.val / 8 := by
  have h : ∀ l : Fin 128, (gx96 (ix2 (0 : Fin 96) l)).toNat = l.val % 8 * 16 + l.val / 8 := by decide +kernel
  intro r l
  rw [← h l]
  rfl
theorem gather96 (A : FVec Ideal S96x128 .f32) (r : Fin 96) :
    rowf (dynamicGather 1 A (shapeCast S96x128 (shapeCast S96x128x1 gx96 shapeCasts_S96x128_S96x128x1) shapeCasts_S96x128x1_S96x128)) r = rowf A r ∘ gl :=
  row_gather (n := 96) A gx96 _ _ gx96_apply r

section
variable (z : Vec Ideal S1x128 .i32) (xs : Vec Ideal S96x128 .f32) (a0 : Vec Ideal S1x96x128 .f32) (s0 : Vec Ideal S1x1x128 .f32) (a1 : Vec Ideal S1x96x128 .f32) (s1 : Vec Ideal S1x1x128 .f32) (a2 : Vec Ideal S1x96x128 .f32) (s2 : Vec Ideal S1x1x128 .f32) (a3 : Vec Ideal S1x96x128 .f32) (s3 : Vec Ideal S1x1x128 .f32) (a4 : Vec Ideal S1x96x128 .f32) (s4 : Vec Ideal S1x1x128 .f32) (a5 : Vec Ideal S1x96x128 .f32) (s5 : Vec Ideal S1x1x128 .f32) (a6 : Vec Ideal S1x96x128 .f32) (s6 : Vec Ideal S1x1x128 .f32) (a7 : Vec Ideal S1x96x128 .f32) (s7 : Vec Ideal S1x1x128 .f32)

def ps96 (r : Fin 96) : Fin 8 → Fin 128 → EReal := ![fun l => pv (z (ix2 0 l)) 0 (xs (ix2 r l)) (a0 (ix3 0 r l)) (s0 (ix3 0 0 l)), fun l => pv (z (ix2 0 l)) 4 (xs (ix2 r l)) (a1 (ix3 0 r l)) (s1 (ix3 0 0 l)), fun l => pv (z (ix2 0 l)) 1 (xs (ix2 r l)) (a2 (ix3 0 r l)) (s2 (ix3 0 0 l)), fun l => pv (z (ix2 0 l)) 5 (xs (ix2 r l)) (a3 (ix3 0 r l)) (s3 (ix3 0 0 l)), fun l => pv (z (ix2 0 l)) 2 (xs (ix2 r l)) (a4 (ix3 0 r l)) (s4 (ix3 0 0 l)), fun l => pv (z (ix2 0 l)) 6 (xs (ix2 r l)) (a5 (ix3 0 r l)) (s5 (ix3 0 0 l)), fun l => pv (z (ix2 0 l)) 3 (xs (ix2 r l)) (a6 (ix3 0 r l)) (s6 (ix3 0 0 l)), fun l => pv (z (ix2 0 l)) 7 (xs (ix2 r l)) (a7 (ix3 0 r l)) (s7 (ix3 0 0 l))]

/-- The eight pieces of the last block of columns. -/
def fin96 : Fin 8 → FVec Ideal S1x96x128 .bf16 :=
  let v1125 := z
  let v1127 := xs
  let v1144 := k0_pay258 z xs 0#32 a0 s0
  let v1161 := k0_pay259 z xs a1 s1
  let v1178 := k0_pay262 xs (k0_pay260 a2) (k0_pay261 z) s2
  let v1195 := k0_pay263 z xs a3 s3
  let v1212 := k0_pay264 z xs a4 s4
  let v1229 := k0_pay265 z xs 24#32 a5 s5
  let v1246 := k0_pay266 z xs a6 s6
  let v1254 := k0_pay267 a7
  let v1255 := k0_pay268 z
  let v1258 := s7
  let v1264 : IVec S96x128 32 := iota .tc S96x128 32 [1] iota_S96x128_d1_w32
  let v1272 := k0_pay272 v1144 v1212
  let v1276 := k0_pay274 v1161 v1229
  let v1280 := k0_pay276 v1178 v1246
  let v1284 := k0_pay278 v1127 v1195 v1254 v1255 v1258
  let v1288 := k0_pay279
  let v1290 := k0_pay280 v1144 v1178 v1212 v1246
  let v1292 := k0_pay281 v1144 v1178 v1212 v1246
  let v1294 := k0_pay282 v1127 v1161 v1195 v1229 v1254 v1255 v1258
  let v1296 := k0_pay283 v1127 v1161 v1195 v1229 v1254 v1255 v1258
  let v1310 := k0_pay289 v1264 v1290 v1294
  let v1312 := k0_pay290 v1264 v1290 v1294
  let v1314 := k0_pay291 v1264 v1292 v1296
  let v1316 := k0_pay292 v1264 v1292 v1296
  let v1318 := k0_pay293 v1264 v1272 v1276 v1280 v1284 v1288
  let v1320 := k0_pay294 v1264 v1272 v1276 v1280 v1284 v1288
  let v1322 := k0_pay295 v1264 v1272 v1276 v1280 v1284 v1288
  let v1324 := k0_pay296 v1264 v1272 v1276 v1280 v1284 v1288
  let v1325 : BitVec 1 := Scalar.cmpi .eq 8#32 0#32
  let v1326 : BitVec 32 := Scalar.select v1325 1#32 8#32
  let v1328 := k0_pay297 v1264
  let v1330 := k0_pay298 v1264
  let v1336 := k0_pay299 v1264
  let v1367 := k0_pay300 v1264 v1326 v1328 v1330 v1336
  ![k0_pay310 (k0_pay309 (k0_pay301 v1264 v1310 v1326 v1328 v1330 v1336)), k0_pay311 (k0_pay302 v1264 v1312 v1326 v1328 v1330 v1336), k0_pay312 (k0_pay303 v1314 v1367 0#32),
    k0_pay313 (k0_pay304 v1316 v1367), k0_pay314 (k0_pay305 v1318 v1367), k0_pay315 (k0_pay306 v1320 v1367), k0_pay316 (k0_pay307 v1322 v1367), k0_pay318 (k0_pay317 (k0_pay308 v1324 v1367))]

theorem pc96_0 (r : Fin 96) : rowf (k0_pay258 z xs 0#32 a0 s0) r = fun l => pv (z (ix2 0 l)) 0 (xs (ix2 r l)) (a0 (ix3 0 r l)) (s0 (ix3 0 0 l)) :=
  piece_row (n := 96) (by decide) z xs a0 s0 0#32 15#32 0 (by decide) (by decide) rfl _ _ _ r
theorem pc96_1 (r : Fin 96) : rowf (k0_pay259 z xs a1 s1) r = fun l => pv (z (ix2 0 l)) 4 (xs (ix2 r l)) (a1 (ix3 0 r l)) (s1 (ix3 0 0 l)) :=
  piece_row (n := 96) (by decide) z xs a1 s1 16#32 15#32 4 (by decide) (by decide) rfl _ _ _ r
theorem pc96_2 (r : Fin 96) : rowf (k0_pay262 xs (k0_pay260 a2) (k0_pay261 z) s2) r = fun l => pv (z (ix2 0 l)) 1 (xs (ix2 r l)) (a2 (ix3 0 r l)) (s2 (ix3 0 0 l)) :=
  piece_row (n := 96) (by decide) z xs a2 s2 4#32 15#32 1 (by decide) (by decide) rfl _ _ _ r
theorem pc96_3 (r : Fin 96) : rowf (k0_pay263 z xs a3 s3) r = fun l => pv (z (ix2 0 l)) 5 (xs (ix2 r l)) (a3 (ix3 0 r l)) (s3 (ix3 0 0 l)) :=
  piece_row (n := 96) (by decide) z xs a3 s3 20#32 15#32 5 (by decide) (by decide) rfl _ _ _ r
theorem pc96_4 (r : Fin 96) : rowf (k0_pay264 z xs a4 s4) r = fun l => pv (z (ix2 0 l)) 2 (xs (ix2 r l)) (a4 (ix3 0 r l)) (s4 (ix3 0 0 l)) :=
  piece_row (n := 96) (by decide) z xs a4 s4 8#32 15#32 2 (by decide) (by decide) rfl _ _ _ r
theorem pc96_5 (r : Fin 96) : rowf (k0_pay265 z xs 24#32 a5 s5) r = fun l => pv (z (ix2 0 l)) 6 (xs (ix2 r l)) (a5 (ix3 0 r l)) (s5 (ix3 0 0 l)) :=
  piece_row (n := 96) (by decide) z xs a5 s5 24#32 15#32 6 (by decide) (by decide) rfl _ _ _ r
theorem pc96_6 (r : Fin 96) : rowf (k0_pay266 z xs a6 s6) r = fun l => pv (z (ix2 0 l)) 3 (xs (ix2 r l)) (a6 (ix3 0 r l)) (s6 (ix3 0 0 l)) :=
  piece_row (n := 96) (by decide) z xs a6 s6 12#32 15#32 3 (by decide) (by decide) rfl _ _ _ r
theorem pc96_7 (r : Fin 96) : rowf (k0_pay269 xs (k0_pay267 a7) (k0_pay268 z) s7) r = fun l => pv (z (ix2 0 l)) 7 (xs (ix2 r l)) (a7 (ix3 0 r l)) (s7 (ix3 0 0 l)) :=
  piece_row (n := 96) (by decide) z xs a7 s7 28#32 15#32 7 (by decide) (by decide) rfl _ _ _ r

theorem fin_row (j : Fin 8) (r : Fin 96) (l : Fin 128) :
    (fin96 z xs a0 s0 a1 s1 a2 s2 a3 s3 a4 s4 a5 s5 a6 s6 a7 s7) j (ix3 0 r l) = ps96 z xs a0 s0 a1 s1 a2 s2 a3 s3 a4 s4 a5 s5 a6 s6 a7 s7 r ⟨l.val % 8, by omega⟩ ⟨16 * j.val + l.val / 8, by omega⟩ := by
  refine Eq.trans ?_ (net_gl (ps96 z xs a0 s0 a1 s1 a2 s2 a3 s3 a4 s4 a5 s5 a6 s6 a7 s7 r) j l)
  have key : ∀ (o : FVec Ideal S1x96x128 .bf16) (g : FVec Ideal S96x128 .f32), o = shapeCast S1x96x128 (truncf .bf16 g bitsLt_bf16_f32 : FVec Ideal S96x128 .bf16) shapeCasts_S96x128_S1x96x128 → ∀ q : Fin 128 → EReal,
      rowf g r = q ∘ gl → o (ix3 0 r l) = q (gl l) := by
    intro o g ho q hq
    rw [ho, cast_add]
    exact congrFun hq l
  match j with
  | 0 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (lo96_16 _ _ r).trans (congrArg₂ (lo 16 112) ((lo96_32 _ _ r).trans (congrArg₂ (lo 32 96) ((lo96_64 _ _ r).trans (congrArg₂ (lo 64 64) (pc96_0 z xs a0 s0 r) (pc96_4 z xs a4 s4 r))) ((lo96_64 _ _ r).trans (congrArg₂ (lo 64 64) (pc96_2 z xs a2 s2 r) (pc96_6 z xs a6 s6 r))))) ((lo96_32 _ _ r).trans (congrArg₂ (lo 32 96) ((lo96_64 _ _ r).trans (congrArg₂ (lo 64 64) (pc96_1 z xs a1 s1 r) (pc96_5 z xs a5 s5 r))) ((lo96_64 _ _ r).trans (congrArg₂ (lo 64 64) (pc96_3 z xs a3 s3 r) (pc96_7 z xs a7 s7 r))))))
  | 1 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (hi96_16 _ _ r).trans (congrArg₂ (hi 16 16) ((lo96_32 _ _ r).trans (congrArg₂ (lo 32 96) ((lo96_64 _ _ r).trans (congrArg₂ (lo 64 64) (pc96_0 z xs a0 s0 r) (pc96_4 z xs a4 s4 r))) ((lo96_64 _ _ r).trans (congrArg₂ (lo 64 64) (pc96_2 z xs a2 s2 r) (pc96_6 z xs a6 s6 r))))) ((lo96_32 _ _ r).trans (congrArg₂ (lo 32 96) ((lo96_64 _ _ r).trans (congrArg₂ (lo 64 64) (pc96_1 z xs a1 s1 r) (pc96_5 z xs a5 s5 r))) ((lo96_64 _ _ r).trans (congrArg₂ (lo 64 64) (pc96_3 z xs a3 s3 r) (pc96_7 z xs a7 s7 r))))))
  | 2 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (lo96_16 _ _ r).trans (congrArg₂ (lo 16 112) ((hi96_32 _ _ r).trans (congrArg₂ (hi 32 32) ((lo96_64 _ _ r).trans (congrArg₂ (lo 64 64) (pc96_0 z xs a0 s0 r) (pc96_4 z xs a4 s4 r))) ((lo96_64 _ _ r).trans (congrArg₂ (lo 64 64) (pc96_2 z xs a2 s2 r) (pc96_6 z xs a6 s6 r))))) ((hi96_32 _ _ r).trans (congrArg₂ (hi 32 32) ((lo96_64 _ _ r).trans (congrArg₂ (lo 64 64) (pc96_1 z xs a1 s1 r) (pc96_5 z xs a5 s5 r))) ((lo96_64 _ _ r).trans (congrArg₂ (lo 64 64) (pc96_3 z xs a3 s3 r) (pc96_7 z xs a7 s7 r))))))
  | 3 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (hi96_16 _ _ r).trans (congrArg₂ (hi 16 16) ((hi96_32 _ _ r).trans (congrArg₂ (hi 32 32) ((lo96_64 _ _ r).trans (congrArg₂ (lo 64 64) (pc96_0 z xs a0 s0 r) (pc96_4 z xs a4 s4 r))) ((lo96_64 _ _ r).trans (congrArg₂ (lo 64 64) (pc96_2 z xs a2 s2 r) (pc96_6 z xs a6 s6 r))))) ((hi96_32 _ _ r).trans (congrArg₂ (hi 32 32) ((lo96_64 _ _ r).trans (congrArg₂ (lo 64 64) (pc96_1 z xs a1 s1 r) (pc96_5 z xs a5 s5 r))) ((lo96_64 _ _ r).trans (congrArg₂ (lo 64 64) (pc96_3 z xs a3 s3 r) (pc96_7 z xs a7 s7 r))))))
  | 4 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (lo96_16 _ _ r).trans (congrArg₂ (lo 16 112) ((lo96_32 _ _ r).trans (congrArg₂ (lo 32 96) ((hi96_64 _ _ r).trans (congrArg₂ (hi 64 64) (pc96_0 z xs a0 s0 r) (pc96_4 z xs a4 s4 r))) ((hi96_64 _ _ r).trans (congrArg₂ (hi 64 64) (pc96_2 z xs a2 s2 r) (pc96_6 z xs a6 s6 r))))) ((lo96_32 _ _ r).trans (congrArg₂ (lo 32 96) ((hi96_64 _ _ r).trans (congrArg₂ (hi 64 64) (pc96_1 z xs a1 s1 r) (pc96_5 z xs a5 s5 r))) ((hi96_64 _ _ r).trans (congrArg₂ (hi 64 64) (pc96_3 z xs a3 s3 r) (pc96_7 z xs a7 s7 r))))))
  | 5 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (hi96_16 _ _ r).trans (congrArg₂ (hi 16 16) ((lo96_32 _ _ r).trans (congrArg₂ (lo 32 96) ((hi96_64 _ _ r).trans (congrArg₂ (hi 64 64) (pc96_0 z xs a0 s0 r) (pc96_4 z xs a4 s4 r))) ((hi96_64 _ _ r).trans (congrArg₂ (hi 64 64) (pc96_2 z xs a2 s2 r) (pc96_6 z xs a6 s6 r))))) ((lo96_32 _ _ r).trans (congrArg₂ (lo 32 96) ((hi96_64 _ _ r).trans (congrArg₂ (hi 64 64) (pc96_1 z xs a1 s1 r) (pc96_5 z xs a5 s5 r))) ((hi96_64 _ _ r).trans (congrArg₂ (hi 64 64) (pc96_3 z xs a3 s3 r) (pc96_7 z xs a7 s7 r))))))
  | 6 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (lo96_16 _ _ r).trans (congrArg₂ (lo 16 112) ((hi96_32 _ _ r).trans (congrArg₂ (hi 32 32) ((hi96_64 _ _ r).trans (congrArg₂ (hi 64 64) (pc96_0 z xs a0 s0 r) (pc96_4 z xs a4 s4 r))) ((hi96_64 _ _ r).trans (congrArg₂ (hi 64 64) (pc96_2 z xs a2 s2 r) (pc96_6 z xs a6 s6 r))))) ((hi96_32 _ _ r).trans (congrArg₂ (hi 32 32) ((hi96_64 _ _ r).trans (congrArg₂ (hi 64 64) (pc96_1 z xs a1 s1 r) (pc96_5 z xs a5 s5 r))) ((hi96_64 _ _ r).trans (congrArg₂ (hi 64 64) (pc96_3 z xs a3 s3 r) (pc96_7 z xs a7 s7 r))))))
  | 7 =>
    refine key _ _ rfl _ ((gather96 _ r).trans (congrArg (· ∘ gl) ?_))
    simp only [k0_pay271, k0_pay272, k0_pay273, k0_pay274, k0_pay275, k0_pay276, k0_pay277, k0_pay278, k0_pay280, k0_pay281, k0_pay282, k0_pay283, k0_pay284, k0_pay285, k0_pay286, k0_pay287, k0_pay289, k0_pay290, k0_pay291, k0_pay292, k0_pay293, k0_pay294, k0_pay295, k0_pay296]
    exact (hi96_16 _ _ r).trans (congrArg₂ (hi 16 16) ((hi96_32 _ _ r).trans (congrArg₂ (hi 32 32) ((hi96_64 _ _ r).trans (congrArg₂ (hi 64 64) (pc96_0 z xs a0 s0 r) (pc96_4 z xs a4 s4 r))) ((hi96_64 _ _ r).trans (congrArg₂ (hi 64 64) (pc96_2 z xs a2 s2 r) (pc96_6 z xs a6 s6 r))))) ((hi96_32 _ _ r).trans (congrArg₂ (hi 32 32) ((hi96_64 _ _ r).trans (congrArg₂ (hi 64 64) (pc96_1 z xs a1 s1 r) (pc96_5 z xs a5 s5 r))) ((hi96_64 _ _ r).trans (congrArg₂ (hi 64 64) (pc96_3 z xs a3 s3 r) (pc96_7 z xs a7 s7 r))))))

end

end Cert.Kernel.Hand
-- ==== Proof.Kernel.Deint.lean ====
/- The scales' layout. -/
module

public import proofs.«01_k».proof.Proof.Kernel.ValMem
public import proofs.«01_k».proof.Proof.Kernel.Net
public import Idealize.ShloMosaic.Lib.KernelVsHost

@[expose] public section

set_option maxHeartbeats 4000000
noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

def lanes8 : IVec S8x128 32 := iota .tc S8x128 32 [1] iota_S8x128_d1_w32
def rows8 : IVec S8x128 32 := iota .tc S8x128 32 [0] iota_S8x128_d0_w32
def mlane (L : BitVec 32) : IVec S8x128 1 := cmpi .ne (andi lanes8 (broadcast S8x128 L)) (broadcast S8x128 0#32)
def mrow (L : BitVec 32) : IVec S8x128 1 := cmpi .ne (andi rows8 (broadcast S8x128 L)) (broadcast S8x128 0#32)
def gix8 : IVec S8x128 32 := select (cmpi .slt (k0_pay159 lanes8) (broadcast S8x128 0#32)) (addi (k0_pay159 lanes8) (broadcast S8x128 128#32)) (k0_pay159 lanes8)

/-- One exchange of a row bit with a lane bit. -/
def stg (L R s0 s1 t0 t1 : BitVec 32) (v : FVec Ideal S8x128 .f32) : FVec Ideal S8x128 .f32 :=
  select (xori (xori (mlane L) (mrow R)) (constantI S8x128 1 1#1)) v
    (select (mlane L) (dynamicRotate 1 s1 none (dynamicRotate 0 s0 none v rotates_S8x128_d0) rotates_S8x128_d1)
      (dynamicRotate 1 t1 none (dynamicRotate 0 t0 none v rotates_S8x128_d0) rotates_S8x128_d1))

/-- A block's scales as the kernel lays them out. -/
def deint (v : FVec Ideal S1x8x128 .f32) : FVec Ideal S1x8x128 .f32 :=
  shapeCast S1x8x128 (stg 16#32 1#32 7#32 16#32 1#32 112#32 (stg 32#32 2#32 6#32 32#32 2#32 96#32 (stg 64#32 4#32 4#32 64#32 4#32 64#32
    (dynamicGather 1 (shapeCast S8x128 v shapeCasts_S1x8x128_S8x128)
      (shapeCast S8x128 (shapeCast S8x128x1 gix8 shapeCasts_S8x128_S8x128x1) shapeCasts_S8x128x1_S8x128))))) shapeCasts_S8x128_S1x8x128

abbrev P8 := Fin 8 × Fin 128
def swp (L R s0 s1 t0 t1 : ℕ) (p : P8) : P8 :=
  if p.2.val / L % 2 = 1 then
    if p.1.val / R % 2 = 1 then p else (⟨(p.1.val + 8 - s0 % 8) % 8, Nat.mod_lt _ (by decide)⟩, ⟨(p.2.val + 128 - s1 % 128) % 128, Nat.mod_lt _ (by decide)⟩)
  else
    if p.1.val / R % 2 = 1 then (⟨(p.1.val + 8 - t0 % 8) % 8, Nat.mod_lt _ (by decide)⟩, ⟨(p.2.val + 128 - t1 % 128) % 128, Nat.mod_lt _ (by decide)⟩) else p
def at8 (v : FVec Ideal S8x128 .f32) (p : P8) : EReal := v (ix2 p.1 p.2)

theorem rot2 (s0 s1 : BitVec 32) (v : FVec Ideal S8x128 .f32) (r : Fin 8) (l : Fin 128) :
    (dynamicRotate 1 s1 none (dynamicRotate 0 s0 none v rotates_S8x128_d0) rotates_S8x128_d1) (ix2 r l)
      = v (ix2 ⟨(r.val + 8 - s0.toNat % 8) % 8, Nat.mod_lt _ (by decide)⟩ ⟨(l.val + 128 - s1.toNat % 128) % 128, Nat.mod_lt _ (by decide)⟩) := by
  refine (dynamicRotate_apply (1 : Fin 2) s1 _ rotates_S8x128_d1 (ix2 r l) (ix2 r ⟨(l.val + 128 - s1.toNat % 128) % 128, Nat.mod_lt _ (by decide)⟩) ?_).trans
    (dynamicRotate_apply (0 : Fin 2) s0 _ rotates_S8x128_d0 _ (ix2 ⟨(r.val + 8 - s0.toNat % 8) % 8, Nat.mod_lt _ (by decide)⟩ ⟨(l.val + 128 - s1.toNat % 128) % 128, Nat.mod_lt _ (by decide)⟩) ?_)
  · intro b
    match b with
    | ⟨0, _⟩ => rfl
    | ⟨1, _⟩ => rfl
  · intro b
    match b with
    | ⟨0, _⟩ => rfl
    | ⟨1, _⟩ => rfl

theorem at_stg (L R s0 s1 t0 t1 : BitVec 32) (nL nR : ℕ) (hL : ∀ (r : Fin 8) (l : Fin 128), mlane L (ix2 r l) = if l.val / nL % 2 = 1 then 1#1 else 0#1)
    (hR : ∀ (r : Fin 8) (l : Fin 128), mrow R (ix2 r l) = if r.val / nR % 2 = 1 then 1#1 else 0#1) (v : FVec Ideal S8x128 .f32) (p : P8) :
    at8 (stg L R s0 s1 t0 t1 v) p = at8 v (swp nL nR s0.toNat s1.toNat t0.toNat t1.toNat p) := by
  obtain ⟨r, l⟩ := p
  show Scalar.select (IntOp.xori (IntOp.xori (mlane L (ix2 r l)) (mrow R (ix2 r l))) 1#1) (v (ix2 r l))
    (Scalar.select (mlane L (ix2 r l)) ((dynamicRotate 1 s1 none (dynamicRotate 0 s0 none v rotates_S8x128_d0) rotates_S8x128_d1) (ix2 r l))
      ((dynamicRotate 1 t1 none (dynamicRotate 0 t0 none v rotates_S8x128_d0) rotates_S8x128_d1) (ix2 r l))) = _
  rw [hL, hR, rot2, rot2]
  unfold swp at8
  by_cases h1 : l.val / nL % 2 = 1 <;> by_cases h2 : r.val / nR % 2 = 1
  · rw [if_pos h1, if_pos h2, if_pos h1, if_pos h2]; rfl
  · rw [if_pos h1, if_neg h2, if_pos h1, if_neg h2]; rfl
  · rw [if_neg h1, if_pos h2, if_neg h1, if_pos h2]; rfl
  · rw [if_neg h1, if_neg h2, if_neg h1, if_neg h2]; rfl

theorem gix8_apply : ∀ (r : Fin 8) (l : Fin 128), (gix8 (ix2 r l)).toNat = l.val % 16 * 8 + l.val / 16 := by decide +kernel
theorem ml64 : ∀ (r : Fin 8) (l : Fin 128), mlane 64#32 (ix2 r l) = if l.val / 64 % 2 = 1 then 1#1 else 0#1 := by decide +kernel
theorem ml32 : ∀ (r : Fin 8) (l : Fin 128), mlane 32#32 (ix2 r l) = if l.val / 32 % 2 = 1 then 1#1 else 0#1 := by decide +kernel
theorem ml16 : ∀ (r : Fin 8) (l : Fin 128), mlane 16#32 (ix2 r l) = if l.val / 16 % 2 = 1 then 1#1 else 0#1 := by decide +kernel
theorem mr4 : ∀ (r : Fin 8) (l : Fin 128), mrow 4#32 (ix2 r l) = if r.val / 4 % 2 = 1 then 1#1 else 0#1 := by decide +kernel
theorem mr2 : ∀ (r : Fin 8) (l : Fin 128), mrow 2#32 (ix2 r l) = if r.val / 2 % 2 = 1 then 1#1 else 0#1 := by decide +kernel
theorem mr1 : ∀ (r : Fin 8) (l : Fin 128), mrow 1#32 (ix2 r l) = if r.val / 1 % 2 = 1 then 1#1 else 0#1 := by decide +kernel

def gp8 (p : P8) : P8 := (p.1, ⟨p.2.val % 16 * 8 + p.2.val / 16, by omega⟩)
theorem at_gather (v : FVec Ideal S8x128 .f32) (p : P8) :
    at8 (dynamicGather 1 v (shapeCast S8x128 (shapeCast S8x128x1 gix8 shapeCasts_S8x128_S8x128x1) shapeCasts_S8x128x1_S8x128)) p = at8 v (gp8 p) := by
  obtain ⟨r, l⟩ := p
  rw [show shapeCast S8x128 (shapeCast S8x128x1 gix8 shapeCasts_S8x128_S8x128x1) shapeCasts_S8x128x1_S8x128 = gix8 from shapeCast_shapeCast _ _ _]
  unfold at8 gp8 dynamicGather
  refine congrArg v ?_
  funext b
  match b with
  | ⟨0, _⟩ => rfl
  | ⟨1, _⟩ =>
    apply Fin.ext
    show (gix8 (ix2 r l)).toNat % 128 = _
    rw [gix8_apply]
    show _ = l.val % 16 * 8 + l.val / 16
    omega

theorem code8 : ∀ (r : Fin 8) (l : Fin 128), gp8 (swp 64 4 4 64 4 64 (swp 32 2 6 32 2 96 (swp 16 1 7 16 1 112 (r, l))))
    = (⟨l.val / 16, by omega⟩, ⟨l.val % 16 * 8 + r.val, by omega⟩) := by decide +kernel

theorem deint_apply (v : FVec Ideal S1x8x128 .f32) (z : Fin 1) (r : Fin 8) (l : Fin 128) :
    (deint v (ix3 z r l) : EReal) = v (ix3 0 ⟨l.val / 16, by omega⟩ ⟨l.val % 16 * 8 + r.val, by omega⟩) := by
  unfold deint
  refine (cast_add _ shapeCasts_S8x128_S1x8x128 z r l).trans ?_
  refine (at_stg _ _ _ _ _ _ 16 1 ml16 mr1 _ (r, l)).trans ?_
  refine (at_stg _ _ _ _ _ _ 32 2 ml32 mr2 _ _).trans ?_
  refine (at_stg _ _ _ _ _ _ 64 4 ml64 mr4 _ _).trans ?_
  refine (at_gather _ _).trans ?_
  refine (congrArg (at8 (shapeCast S8x128 v shapeCasts_S1x8x128_S8x128)) (code8 r l)).trans ?_
  exact cast_drop v shapeCasts_S1x8x128_S8x128 _ _

section
variable {c : Dev nD} {S : ℕ → EReal}

variable (S) in
/-- The scales with the first `n` blocks laid out. -/
def Dt (n : ℕ) (f : Bf Ideal c M8) : Prop := ∀ i : S9x8x128.Idx,
  (f i : EReal) = if (i 0).val < n then S (1024 * (i 0).val + 8 * (i 2).val + (i 1).val) else S (1024 * (i 0).val + 128 * (i 1).val + (i 2).val)

theorem dt_step {n : ℕ} (hn : n < 9) {f : Bf Ideal c M8} (h : Dt (c := c) S n f) (hb : ∀ a, (![n, 0, 0] : Fin 3 → ℕ) a + S1x8x128.size a ≤ S9x8x128.size a) :
    Dt (c := c) S (n + 1) ((M8.access (Rect.unit (s := S9x8x128) ![n, 0, 0] S1x8x128.size hb)).write (Elt Ideal) f
      (deint ((M8.access (Rect.unit (s := S9x8x128) ![n, 0, 0] S1x8x128.size hb)).read (Elt Ideal) f)) Finset.univ) := by
  intro i
  have l1 : (i 1).val < 8 := (i 1).isLt
  have l2 : (i 2).val < 128 := (i 2).isLt
  by_cases e : (i 0).val = n
  · refine (wr8_in (c := c) (F := Ideal) hb f _ i e rfl rfl).trans ?_
    refine (deint_apply _ 0 (i 1) (i 2)).trans ?_
    refine (rd8 (c := c) (F := Ideal) (n := 8) hb f 0 _ _ (ix3 (i 0) ⟨(i 2).val / 16, by omega⟩ ⟨(i 2).val % 16 * 8 + (i 1).val, by omega⟩) e (Nat.zero_add _).symm (Nat.zero_add _).symm).trans ?_
    refine (h _).trans ?_
    show (if (i 0).val < n then _ else S (1024 * (i 0).val + 128 * ((i 2).val / 16) + ((i 2).val % 16 * 8 + (i 1).val))) = _
    rw [if_neg (by omega), if_pos (by omega)]
    congr 1; omega
  · refine (wr8_out (c := c) (F := Ideal) hb f _ i e).trans ((h i).trans ?_)
    by_cases e' : (i 0).val < n
    · rw [if_pos e', if_pos (by omega)]
    · rw [if_neg e', if_neg (by omega)]

theorem dt_done {f : Bf Ideal c M8} (h : Dt (c := c) S 9 f) (i : S9x8x128.Idx) : (f i : EReal) = S (1024 * (i 0).val + 8 * (i 2).val + (i 1).val) :=
  (h i).trans (if_pos (i 0).isLt)

end

end Cert.Kernel.Hand
-- ==== Proof.Kernel.Nib.lean ====
/- The staged tiles of the weights, element by element: eight four-bit fields of a word. -/
module

public import proofs.«01_k».proof.Proof.Kernel.Net
public import Idealize.ShloMosaic.Lib.BitcastPair

@[expose] public section

noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

theorem bcbit {n m v w : ℕ} (x : IVec (⟨2, ![n, 128]⟩ : Shape) v) (h : (⟨2, ![n, 128]⟩ : Shape).Bitcasts v ⟨2, ![m, 128]⟩ w) (p : Fin m) (l : Fin 128) (q : ℕ) (hq : q < w) (hv : 0 < v)
    (P : Fin n) (b : ℕ) (hP : (p.val * w + q) / v = P.val) (hb : (p.val * w + q) % v = b) :
    (bitcast (⟨2, ![m, 128]⟩ : Shape) w x h (ix2 p l)).getLsbD q = (x (ix2 P l)).getLsbD b := by
  rw [bitcast_getLsbD x h (ix2 p l) q hq hv]
  have hr : (⟨2, ![m, 128]⟩ : Shape).row (ix2 p l) = p.val := rfl
  subst hb
  have hi : ∀ (P' : ℕ) (hp : ∀ a : Fin 2, a.val + 2 = 2 → P' < (⟨2, ![n, 128]⟩ : Shape).size a), P' = P.val → h.srcIdx (ix2 p l) P' hp = ix2 P l := by
    intro P' hp e
    subst e
    funext a
    match a with
    | ⟨0, _⟩ => exact Fin.ext (h.srcIdx_row (ix2 p l) P.val hp 0 rfl)
    | ⟨1, _⟩ => exact Fin.ext (h.srcIdx_other (ix2 p l) P.val hp 1 (by show ¬ (1 + 2 = 2); omega))
  rw [hi _ _ (by rw [hr]; exact hP), hr]

theorem shbit {s : Shape} {w : ℕ} (x : IVec s w) (k : BitVec w) (i : s.Idx) (q : ℕ) (h : q + k.toNat < w) :
    (shrsi x (broadcast s k) i).getLsbD q = (x i).getLsbD (k.toNat + q) := by
  show (IntOp.shrsi .vector (x i) k).getLsbD q = _
  unfold IntOp.shrsi
  rw [if_pos (by omega)]
  show ((x i).sshiftRight k.toNat).getLsbD q = _
  rw [BitVec.getLsbD_sshiftRight]
  have a1 : ¬ (w ≤ q) := by omega
  have a2 : k.toNat + q < w := by omega
  simp [a1, a2]

theorem trbit {s : Shape} {w v : ℕ} (x : IVec s w) (h : v < w) (i : s.Idx) (q : ℕ) (hq : q < v) : (trunci v x h i).getLsbD q = (x i).getLsbD q := by
  show ((x i).setWidth v).getLsbD q = _
  rw [BitVec.getLsbD_setWidth]
  simp [hq]

/-- One field of each word, through the narrowing the kernel does. -/
def nv (u : IVec S256x128 32) (s0 s1 s2 : BitVec 32) : IVec S256x128 4 :=
  trunci 4 (bitcast S256x128 8 (shrsi (bitcast S64x128 32 (trunci 8 (bitcast S256x128 16 (shrsi (bitcast S128x128 32 (trunci 16 (shrsi u (broadcast S256x128 s0)) natLt_16_32)
    bitcasts_S256x128_w16_S128x128_w32) (broadcast S128x128 s1)) bitcasts_S128x128_w32_S256x128_w16) natLt_8_16) bitcasts_S256x128_w8_S64x128_w32) (broadcast S64x128 s2)) bitcasts_S64x128_w32_S256x128_w8) natLt_4_8

theorem nv_bit (u : IVec S256x128 32) (s0 s1 s2 : BitVec 32) (h0 : s0.toNat ≤ 16) (h1 : s1.toNat ≤ 8) (h2 : s2.toNat ≤ 4) (p : Fin 256) (l : Fin 128) (q : ℕ) (hq : q < 4) :
    (nv u s0 s1 s2 (ix2 p l)).getLsbD q = (u (ix2 p l)).getLsbD (s0.toNat + (s1.toNat + (s2.toNat + q))) := by
  unfold nv
  rw [trbit _ _ _ _ hq]
  rw [bcbit (n := 64) (m := 256) _ _ p l q (by omega) (by omega) ⟨p.val / 4, by omega⟩ (8 * (p.val % 4) + q) (by show _ = p.val / 4; omega) (by omega)]
  rw [shbit _ _ _ _ (by omega)]
  rw [bcbit (n := 256) (m := 64) _ _ ⟨p.val / 4, by omega⟩ l _ (by omega) (by omega) p (s2.toNat + q) (by show (p.val / 4 * 32 + _) / 8 = p.val; omega) (by show (p.val / 4 * 32 + _) % 8 = _; omega)]
  rw [trbit _ _ _ _ (by omega)]
  rw [bcbit (n := 128) (m := 256) _ _ p l _ (by omega) (by omega) ⟨p.val / 2, by omega⟩ (16 * (p.val % 2) + (s2.toNat + q)) (by show _ = p.val / 2; omega) (by omega)]
  rw [shbit _ _ _ _ (by omega)]
  rw [bcbit (n := 256) (m := 128) _ _ ⟨p.val / 2, by omega⟩ l _ (by omega) (by omega) p (s1.toNat + (s2.toNat + q)) (by show (p.val / 2 * 32 + _) / 16 = p.val; omega) (by show (p.val / 2 * 32 + _) % 16 = _; omega)]
  rw [trbit _ _ _ _ (by omega)]
  rw [shbit _ _ _ _ (by omega)]

theorem nv_val (u : IVec S256x128 32) (s0 s1 s2 : BitVec 32) (h0 : s0.toNat ≤ 16) (h1 : s1.toNat ≤ 8) (h2 : s2.toNat ≤ 4) (f : ℕ) (hf : s0.toNat + s1.toNat + s2.toNat = 4 * f) (p : Fin 256) (l : Fin 128) :
    ((uitofp .bf16 (nv u s0 s1 s2) : FVec Ideal S256x128 .bf16) (ix2 p l) : EReal) = nib (u (ix2 p l)) f := by
  have e : nv u s0 s1 s2 (ix2 p l) = (u (ix2 p l) >>> (4 * f)).setWidth 4 := by
    apply BitVec.eq_of_getLsbD_eq
    intro q hq
    rw [nv_bit u s0 s1 s2 h0 h1 h2 p l q hq, BitVec.getLsbD_setWidth, BitVec.getLsbD_ushiftRight]
    have : s0.toNat + (s1.toNat + (s2.toNat + q)) = 4 * f + q := by omega
    rw [this]
    simp [hq]
  show (((nv u s0 s1 s2 (ix2 p l)).toNat : ℝ) : EReal) = _
  rw [e]
  unfold nib
  rw [BitVec.toNat_setWidth, BitVec.toNat_ushiftRight, Nat.shiftRight_eq_div_pow]

theorem cat2 (x1 x2 : FVec Ideal S256x128 .bf16) (h) (p : Fin 256) (c : Fin 256) :
    concatenate S256x256 1 [⟨S256x128, x1⟩, ⟨S256x128, x2⟩] h (ix2 p c) = if c.val / 128 = 0 then x1 (ix2 p ⟨c.val % 128, by omega⟩) else x2 (ix2 p ⟨c.val % 128, by omega⟩) := by
  split
  · rename_i hc
    refine concatenate_pair_apply_left 1 x1 x2 h (ix2 p c) rfl (ix2 p ⟨c.val % 128, by omega⟩) ?_
    intro b
    match b with
    | ⟨0, _⟩ => rfl
    | ⟨1, _⟩ => show c.val % 128 = c.val; omega
  · rename_i hc
    refine concatenate_pair_apply_right 1 x1 x2 h (ix2 p c) rfl rfl (ix2 p ⟨c.val % 128, by omega⟩) ?_ ?_
    · intro b hb
      match b with
      | ⟨0, _⟩ => rfl
      | ⟨1, _⟩ => exact absurd rfl hb
    · show c.val % 128 + 128 = c.val; omega

theorem cast4 (u : Vec Ideal S1x1x256x128 .i32) (p : Fin 256) (l : Fin 128) : shapeCast S256x128 u shapeCasts_S1x1x256x128_S256x128 (ix2 p l) = u (ix4 0 0 p l) := by
  refine shapeCast_apply u _ (ix2 p l) (ix4 0 0 p l) ?_
  rw [Shape.rowMajor_val_four, Shape.rowMajor_val_two]
  simp

theorem tile_val (u : Vec Ideal S1x1x256x128 .i32) (s0 s1 : BitVec 32) (h0 : s0.toNat ≤ 16) (h1 : s1.toNat ≤ 8) (f : ℕ) (hf : s0.toNat + s1.toNat = 4 * f) (h) (p c : Fin 256) :
    (concatenate S256x256 1 [⟨S256x128, (uitofp .bf16 (nv (shapeCast S256x128 u shapeCasts_S1x1x256x128_S256x128) s0 s1 0#32) : FVec Ideal S256x128 .bf16)⟩,
      ⟨S256x128, (uitofp .bf16 (nv (shapeCast S256x128 u shapeCasts_S1x1x256x128_S256x128) s0 s1 4#32) : FVec Ideal S256x128 .bf16)⟩] h (ix2 p c) : EReal)
      = nib (u (ix4 0 0 p ⟨c.val % 128, by omega⟩)) (f + c.val / 128) := by
  refine (cat2 _ _ h p c).trans ?_
  have a4 : (4#32 : BitVec 32).toNat = 4 := rfl
  have a0 : (0#32 : BitVec 32).toNat = 0 := rfl
  split
  · rename_i hc
    rw [nv_val _ s0 s1 0#32 h0 h1 (by omega) f (by omega), cast4, hc, Nat.add_zero]
  · rename_i hc
    have : c.val / 128 = 1 := by omega
    rw [nv_val _ s0 s1 4#32 h0 h1 (by omega) (f + 1) (by omega), cast4, this]

theorem fA_val (u : Vec Ideal S1x1x256x128 .i32) (q : Fin 2) (p c : Fin 256) : (fA (F := Ideal) u q (ix2 p c) : EReal) = nib (u (ix4 0 0 p ⟨c.val % 128, by omega⟩)) (2 * q.val + c.val / 128) := by
  match q with
  | 0 => exact tile_val u 0#32 0#32 (by decide) (by decide) 0 rfl concatenates_S256x128_S256x128_S256x256_d1 p c
  | 1 => exact tile_val u 0#32 8#32 (by decide) (by decide) 2 rfl concatenates_S256x128_S256x128_S256x256_d1 p c

theorem fB_val (u : Vec Ideal S1x1x256x128 .i32) (q : Fin 2) (p c : Fin 256) : (fB (F := Ideal) u q (ix2 p c) : EReal) = nib (u (ix4 0 0 p ⟨c.val % 128, by omega⟩)) (4 + 2 * q.val + c.val / 128) := by
  match q with
  | 0 => exact tile_val u 16#32 0#32 (by decide) (by decide) 4 rfl concatenates_S256x128_S256x128_S256x256_d1 p c
  | 1 => exact tile_val u 16#32 8#32 (by decide) (by decide) 6 rfl concatenates_S256x128_S256x128_S256x256_d1 p c

/-- A pass is the sum over its 256 contracted positions. -/
theorem mp_val (w : FVec Ideal (Mxu.STile 256) .bf16) (x : FVec Ideal S96x256 .bf16) (r : Fin 96) (c : Fin 256) :
    (mp (F := Ideal) (φ := .bf16) w x (ix2 r c) : EReal) = ∑ k : Fin 256, (x (ix2 r k) : EReal) * w (ix2 k c) := by
  show Ideal.mxuPass (DotDims.plain 96 256 256) x w (ix2 r c) = _
  unfold Ideal.mxuPass
  rw [← Equiv.sum_comp (contrEquiv1 (DotDims.plain 96 256 256) 256 rfl rfl).symm]
  refine Finset.sum_congr rfl fun k _ => ?_
  congr 1
  · refine congrArg x ?_
    funext a
    match a with
    | ⟨0, _⟩ => rfl
    | ⟨1, _⟩ => rfl
  · refine congrArg w ?_
    funext a
    match a with
    | ⟨0, _⟩ => rfl
    | ⟨1, _⟩ => rfl

end Cert.Kernel.Hand
-- ==== Proof.Kernel.Sums.lean ====
/- A trip's sums, element by element, over the operands named on the naturals. -/
module

public import proofs.«01_k».proof.Proof.Kernel.Nib
public import proofs.«01_k».proof.Proof.Kernel.ValMem
public import proofs.«01_k».proof.Proof.Kernel.Offsets
public import Idealize.ShloMosaic.Lib.IdealHost

@[expose] public section

noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

/-- One slice of the contraction: row `r` against field `f` of word column `n`. -/
def T (X : ℕ → ℕ → EReal) (W : ℕ → ℕ → BitVec 32) (r k n f : ℕ) : EReal := ∑ c ∈ Finset.range 1792, X r (1792 * k + c) * nib (W (1792 * k + c) n) f
/-- One slice of a row's sum. -/
def XC (X : ℕ → ℕ → EReal) (r k : ℕ) : EReal := ∑ c ∈ Finset.range 1792, X r (1792 * k + c)

theorem sum7_split (g : ℕ → EReal) : ∑ c ∈ Finset.range 1792, g c
    = (((((∑ c ∈ Finset.range 256, g c + ∑ c ∈ Finset.range 256, g (256 + c)) + ∑ c ∈ Finset.range 256, g (512 + c)) + ∑ c ∈ Finset.range 256, g (768 + c)) + ∑ c ∈ Finset.range 256, g (1024 + c))
      + ∑ c ∈ Finset.range 256, g (1280 + c)) + ∑ c ∈ Finset.range 256, g (1536 + c) := by
  rw [show 1792 = 1536 + 256 from rfl, Finset.sum_range_add, show 1536 = 1280 + 256 from rfl, Finset.sum_range_add, show 1280 = 1024 + 256 from rfl, Finset.sum_range_add,
    show 1024 = 768 + 256 from rfl, Finset.sum_range_add, show 768 = 512 + 256 from rfl, Finset.sum_range_add, show 512 = 256 + 256 from rfl, Finset.sum_range_add]

theorem sum14_split (g : ℕ → EReal) : ∑ c ∈ Finset.range 1792, g c = (((((((((((((∑ c ∈ Finset.range 128, g c) + ∑ c ∈ Finset.range 128, g (128 + c)) + ∑ c ∈ Finset.range 128, g (256 + c)) + ∑ c ∈ Finset.range 128, g (384 + c)) + ∑ c ∈ Finset.range 128, g (512 + c)) + ∑ c ∈ Finset.range 128, g (640 + c)) + ∑ c ∈ Finset.range 128, g (768 + c)) + ∑ c ∈ Finset.range 128, g (896 + c)) + ∑ c ∈ Finset.range 128, g (1024 + c)) + ∑ c ∈ Finset.range 128, g (1152 + c)) + ∑ c ∈ Finset.range 128, g (1280 + c)) + ∑ c ∈ Finset.range 128, g (1408 + c)) + ∑ c ∈ Finset.range 128, g (1536 + c)) + ∑ c ∈ Finset.range 128, g (1664 + c) := by
  rw [show 1792 = 1664 + 128 from rfl, Finset.sum_range_add, show 1664 = 1536 + 128 from rfl, Finset.sum_range_add, show 1536 = 1408 + 128 from rfl, Finset.sum_range_add, show 1408 = 1280 + 128 from rfl, Finset.sum_range_add, show 1280 = 1152 + 128 from rfl, Finset.sum_range_add, show 1152 = 1024 + 128 from rfl, Finset.sum_range_add, show 1024 = 896 + 128 from rfl, Finset.sum_range_add, show 896 = 768 + 128 from rfl, Finset.sum_range_add, show 768 = 640 + 128 from rfl, Finset.sum_range_add, show 640 = 512 + 128 from rfl, Finset.sum_range_add, show 512 = 384 + 128 from rfl, Finset.sum_range_add, show 384 = 256 + 128 from rfl, Finset.sum_range_add, show 256 = 128 + 128 from rfl, Finset.sum_range_add]

section
variable {c : Dev nD} {X : ℕ → ℕ → EReal} {W : ℕ → ℕ → BitVec 32} {f5 : Bf Ideal c M5} {f6 : Bf Ideal c M6}

abbrev v9 (f : Bf Ideal c M9) (i : S96x128.Idx) : EReal := f i
abbrev v10 (f : Bf Ideal c M10) (i : S9x96x1024.Idx) : EReal := f i
abbrev v11 (f : Bf Ideal c M11) (i : S9x96x1024.Idx) : EReal := f i

theorem tile_sum (h5 : ∀ i : S4x96x1792.Idx, (f5 i : EReal) = X (i 1).val (1792 * (i 0).val + (i 2).val))
    (h6 : ∀ i : S3x4x1792x384.Idx, f6 i = W (1792 * (i 1).val + (i 2).val) (384 * (i 0).val + (i 3).val))
    {o5 : Fin 3 → ℕ} {o6 : Fin 4 → ℕ} (i5 : ∀ a, o5 a + S1x96x256.size a ≤ S4x96x1792.size a) (i6 : ∀ a, o6 a + S1x1x256x128.size a ≤ S3x4x1792x384.size a)
    {k b τ : ℕ} (e5 : o5 = ![k, 0, τ]) (e6 : o6 = ![b / 3, k, τ, b % 3 * 128])
    (w : FVec Ideal (Mxu.STile 256) .bf16) (f : ℕ) (r : Fin 96) (y : Fin 256)
    (hw : ∀ p : Fin 256, (w (ix2 p y) : EReal) = nib (rw6 f6 o6 i6 (ix4 0 0 p ⟨y.val % 128, by omega⟩)) f) :
    (mp (F := Ideal) (φ := .bf16) w (rx f5 o5 i5) (ix2 r y) : EReal) = ∑ s ∈ Finset.range 256, X r.val (1792 * k + (τ + s)) * nib (W (1792 * k + (τ + s)) (128 * b + y.val % 128)) f := by
  subst e5 e6
  have a0 : k + 1 ≤ 4 := i5 0
  have a2 : τ + 256 ≤ 1792 := i5 2
  have b0 : b / 3 + 1 ≤ 3 := i6 0
  have b3 : b % 3 * 128 + 128 ≤ 384 := i6 3
  rw [mp_val, ← Fin.sum_univ_eq_sum_range (fun s => X r.val (1792 * k + (τ + s)) * nib (W (1792 * k + (τ + s)) (128 * b + y.val % 128)) f) 256]
  refine Finset.sum_congr rfl fun p _ => ?_
  rw [hw p]
  have e1 : (rx f5 ![k, 0, τ] i5 (ix2 r p) : EReal) = X r.val (1792 * k + (τ + p.val)) := by
    show (shapeCast S96x256 ((M5.access (Rect.unit (s := S4x96x1792) ![k, 0, τ] S1x96x256.size i5)).read (Elt Ideal) f5) shapeCasts_S1x96x256_S96x256 (ix2 r p) : EReal) = _
    refine (cast_drop (n := 96) (m := 256) _ _ r p).trans ?_
    refine (rd5 (m := 256) i5 f5 0 r p (ix3 ⟨k, by omega⟩ r ⟨τ + p.val, by omega⟩) rfl (Nat.zero_add _).symm rfl).trans ?_
    exact h5 _
  have e2 : rw6 f6 ![b / 3, k, τ, b % 3 * 128] i6 (ix4 0 0 p ⟨y.val % 128, by omega⟩) = W (1792 * k + (τ + p.val)) (128 * b + y.val % 128) := by
    refine (rd6 i6 f6 0 0 p ⟨y.val % 128, by omega⟩ (ix4 ⟨b / 3, by omega⟩ ⟨k, by omega⟩ ⟨τ + p.val, by omega⟩ ⟨b % 3 * 128 + y.val % 128, by omega⟩) rfl rfl rfl rfl).trans ?_
    refine (h6 _).trans ?_
    show W _ (384 * (b / 3) + (b % 3 * 128 + y.val % 128)) = _
    congr 1; omega
  rw [e1, e2]

theorem vA_val (h5 : ∀ i : S4x96x1792.Idx, (f5 i : EReal) = X (i 1).val (1792 * (i 0).val + (i 2).val))
    (h6 : ∀ i : S3x4x1792x384.Idx, f6 i = W (1792 * (i 1).val + (i 2).val) (384 * (i 0).val + (i 3).val)) (t : Fin k0_t1_loop.trips)
    (w : Tl Ideal) (hw : w = fA (rw6 f6 (k0_off57 t) (k0_off57_inb t))) (q : Fin 2) (r : Fin 96) (y : Fin 256) :
    (vA f5 f6 t w q (ix2 r y) : EReal) = T X W r.val (ki t.val) (128 * bi t.val + y.val % 128) (2 * q.val + y.val / 128) := by
  unfold T
  rw [sum7_split]
  subst hw
  show ((((((_ + _) + _) + _) + _) + _) + _ : EReal) = _
  congr 1; congr 1; congr 1; congr 1; congr 1; congr 1
  · refine (tile_sum h5 h6 (k0_off24_inb t) (k0_off57_inb t) (off24 t) (off57 t) _ (2 * q.val + y.val / 128) r y fun p => fA_val _ q p y).trans ?_
    refine Finset.sum_congr rfl fun s _ => ?_
    simp only [Nat.zero_add]
  · refine (tile_sum h5 h6 (k0_off26_inb t) (k0_off25_inb t) (off26 t) (off25 t) _ (2 * q.val + y.val / 128) r y fun p => fA_val _ q p y).trans ?_
    refine Finset.sum_congr rfl fun s _ => ?_
    simp only [Nat.zero_add]
  · refine (tile_sum h5 h6 (k0_off28_inb t) (k0_off27_inb t) (off28 t) (off27 t) _ (2 * q.val + y.val / 128) r y fun p => fA_val _ q p y).trans ?_
    refine Finset.sum_congr rfl fun s _ => ?_
    simp only [Nat.zero_add]
  · refine (tile_sum h5 h6 (k0_off32_inb t) (k0_off29_inb t) (off32 t) (off29 t) _ (2 * q.val + y.val / 128) r y fun p => fA_val _ q p y).trans ?_
    refine Finset.sum_congr rfl fun s _ => ?_
    simp only [Nat.zero_add]
  · refine (tile_sum h5 h6 (k0_off34_inb t) (k0_off33_inb t) (off34 t) (off33 t) _ (2 * q.val + y.val / 128) r y fun p => fA_val _ q p y).trans ?_
    refine Finset.sum_congr rfl fun s _ => ?_
    simp only [Nat.zero_add]
  · refine (tile_sum h5 h6 (k0_off54_inb t) (k0_off35_inb t) (off54 t) (off35 t) _ (2 * q.val + y.val / 128) r y fun p => fA_val _ q p y).trans ?_
    refine Finset.sum_congr rfl fun s _ => ?_
    simp only [Nat.zero_add]
  · refine (tile_sum h5 h6 (k0_off56_inb t) (k0_off55_inb t) (off56 t) (off55 t) _ (2 * q.val + y.val / 128) r y fun p => fA_val _ q p y).trans ?_
    refine Finset.sum_congr rfl fun s _ => ?_
    simp only [Nat.zero_add]

theorem vB_val (h5 : ∀ i : S4x96x1792.Idx, (f5 i : EReal) = X (i 1).val (1792 * (i 0).val + (i 2).val))
    (h6 : ∀ i : S3x4x1792x384.Idx, f6 i = W (1792 * (i 1).val + (i 2).val) (384 * (i 0).val + (i 3).val)) (t : Fin k0_t1_loop.trips)
    (q : Fin 2) (r : Fin 96) (y : Fin 256) :
    (vB f5 f6 t q (ix2 r y) : EReal) = T X W r.val (ki t.val) (128 * bi t.val + y.val % 128) (4 + 2 * q.val + y.val / 128) := by
  unfold T
  rw [sum7_split]
  show ((((((_ + _) + _) + _) + _) + _) + _ : EReal) = _
  congr 1; congr 1; congr 1; congr 1; congr 1; congr 1
  · refine (tile_sum h5 h6 (k0_off24_inb t) (k0_off57_inb t) (off24 t) (off57 t) _ (4 + 2 * q.val + y.val / 128) r y fun p => fB_val _ q p y).trans ?_
    refine Finset.sum_congr rfl fun s _ => ?_
    simp only [Nat.zero_add]
  · refine (tile_sum h5 h6 (k0_off26_inb t) (k0_off25_inb t) (off26 t) (off25 t) _ (4 + 2 * q.val + y.val / 128) r y fun p => fB_val _ q p y).trans ?_
    refine Finset.sum_congr rfl fun s _ => ?_
    simp only [Nat.zero_add]
  · refine (tile_sum h5 h6 (k0_off28_inb t) (k0_off27_inb t) (off28 t) (off27 t) _ (4 + 2 * q.val + y.val / 128) r y fun p => fB_val _ q p y).trans ?_
    refine Finset.sum_congr rfl fun s _ => ?_
    simp only [Nat.zero_add]
  · refine (tile_sum h5 h6 (k0_off32_inb t) (k0_off29_inb t) (off32 t) (off29 t) _ (4 + 2 * q.val + y.val / 128) r y fun p => fB_val _ q p y).trans ?_
    refine Finset.sum_congr rfl fun s _ => ?_
    simp only [Nat.zero_add]
  · refine (tile_sum h5 h6 (k0_off34_inb t) (k0_off33_inb t) (off34 t) (off33 t) _ (4 + 2 * q.val + y.val / 128) r y fun p => fB_val _ q p y).trans ?_
    refine Finset.sum_congr rfl fun s _ => ?_
    simp only [Nat.zero_add]
  · refine (tile_sum h5 h6 (k0_off54_inb t) (k0_off35_inb t) (off54 t) (off35 t) _ (4 + 2 * q.val + y.val / 128) r y fun p => fB_val _ q p y).trans ?_
    refine Finset.sum_congr rfl fun s _ => ?_
    simp only [Nat.zero_add]
  · refine (tile_sum h5 h6 (k0_off56_inb t) (k0_off55_inb t) (off56 t) (off55 t) _ (4 + 2 * q.val + y.val / 128) r y fun p => fB_val _ q p y).trans ?_
    refine Finset.sum_congr rfl fun s _ => ?_
    simp only [Nat.zero_add]

theorem zero_f32 : (Scalar.ofBits (F := Ideal) .f32 0x00000000#32 : EReal) = 0 := Ideal.ofBits_zero_f32

theorem pay2_val (g : BitVec 32) (x0 : Vec Ideal S1x96x128 .bf16) (x1 : Vec Ideal S1x96x128 .bf16) (x2 : Vec Ideal S1x96x128 .bf16) (x3 : Vec Ideal S1x96x128 .bf16) (x4 : Vec Ideal S1x96x128 .bf16) (x5 : Vec Ideal S1x96x128 .bf16) (x6 : Vec Ideal S1x96x128 .bf16) (x7 : Vec Ideal S1x96x128 .bf16) (x8 : Vec Ideal S1x96x128 .bf16) (x9 : Vec Ideal S1x96x128 .bf16) (x10 : Vec Ideal S1x96x128 .bf16) (x11 : Vec Ideal S1x96x128 .bf16) (x12 : Vec Ideal S1x96x128 .bf16) (x13 : Vec Ideal S1x96x128 .bf16) (old : Vec Ideal S96x128 .f32) (r : Fin 96) (l : Fin 128) :
    (k0_pay2 (F := Ideal) g (k0_pay1 x0 x1 x2 x3 x4 x5 x6 x7) x8 x9 x10 x11 x12 x13 old (ix2 r l) : EReal) = (if g = 0#32 then 0 else old (ix2 r l)) + ∑ p : Fin 128, (((((((((((((((0 + x0 (ix3 0 r p)) + x1 (ix3 0 r p)) + x2 (ix3 0 r p)) + x3 (ix3 0 r p)) + x4 (ix3 0 r p)) + x5 (ix3 0 r p)) + x6 (ix3 0 r p)) + x7 (ix3 0 r p)) + x8 (ix3 0 r p)) + x9 (ix3 0 r p)) + x10 (ix3 0 r p)) + x11 (ix3 0 r p)) + x12 (ix3 0 r p)) + x13 (ix3 0 r p)) : EReal) := by
  unfold k0_pay2
  dsimp only
  rw [shapeCast_self]
  rw [addf_apply]
  congr 1
  · by_cases hg : g = 0#32
    · subst hg
      rw [if_pos rfl]
      exact zero_f32
    · rw [if_neg hg]
      have : Scalar.cmpi .eq g 0#32 = 0#1 := by
        show BitVec.ofBool (g == 0#32) = 0#1
        rw [beq_eq_false_iff_ne.mpr hg]; rfl
      rw [this, select_zero]
  · refine (broadcastTo_apply (s := S96x1) (t := S96x128) _ _ (ix2 r l) (ix2 r 0) ?_).trans ?_
    · intro a
      match a with
      | ⟨0, _⟩ => rfl
      | ⟨1, _⟩ => rfl
    rw [shapeCast_self]
    refine (shapeCast_apply _ _ (ix2 r 0) (ix1 r) ?_).trans ?_
    · rw [Shape.rowMajor_val_one, Shape.rowMajor_val_two]; simp
    refine (Ideal.multiReduction_add_single _ _ _ _ _ (ix1 r)).trans ?_
    refine Finset.sum_congr rfl fun p _ => ?_
    have e : (reduces_S96x128_S96).lift (ix1 r) p = ix2 r p := by
      funext a
      match a with
      | ⟨0, _⟩ => rfl
      | ⟨1, _⟩ => rfl
    rw [e]
    unfold k0_pay1
    dsimp only
    exact (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) (congrArg₂ (HAdd.hAdd : EReal → EReal → EReal) zero_f32 (cast_drop (n := 96) (m := 128) x0 shapeCasts_S1x96x128_S96x128 r p)) (cast_drop (n := 96) (m := 128) x1 shapeCasts_S1x96x128_S96x128 r p)) (cast_drop (n := 96) (m := 128) x2 shapeCasts_S1x96x128_S96x128 r p)) (cast_drop (n := 96) (m := 128) x3 shapeCasts_S1x96x128_S96x128 r p)) (cast_drop (n := 96) (m := 128) x4 shapeCasts_S1x96x128_S96x128 r p)) (cast_drop (n := 96) (m := 128) x5 shapeCasts_S1x96x128_S96x128 r p)) (cast_drop (n := 96) (m := 128) x6 shapeCasts_S1x96x128_S96x128 r p)) (cast_drop (n := 96) (m := 128) x7 shapeCasts_S1x96x128_S96x128 r p)) (cast_drop (n := 96) (m := 128) x8 shapeCasts_S1x96x128_S96x128 r p)) (cast_drop (n := 96) (m := 128) x9 shapeCasts_S1x96x128_S96x128 r p)) (cast_drop (n := 96) (m := 128) x10 shapeCasts_S1x96x128_S96x128 r p)) (cast_drop (n := 96) (m := 128) x11 shapeCasts_S1x96x128_S96x128 r p)) (cast_drop (n := 96) (m := 128) x12 shapeCasts_S1x96x128_S96x128 r p)) (cast_drop (n := 96) (m := 128) x13 shapeCasts_S1x96x128_S96x128 r p))

theorem xs_val (h5 : ∀ i : S4x96x1792.Idx, (f5 i : EReal) = X (i 1).val (1792 * (i 0).val + (i 2).val)) (t : Fin k0_t1_loop.trips) (f9 : Bf Ideal c M9) (r : Fin 96) (l : Fin 128) :
    (xsF t (Scf.iv 0#32 1#32 t) (kcur t) f5 f9 (ix2 r l) : EReal)
      = if t.val < 12 ∧ t.val % 3 = 0 then (if t.val = 0 then 0 else v9 f9 (ix2 r l)) + XC X r.val (ki t.val) else v9 f9 (ix2 r l) := by
  unfold xsF
  by_cases hc : k0_cond2 t = 1#1
  · have hc' := (cond2 t).mp hc
    rw [dif_pos hc, if_pos hc']
    dsimp only
    refine (wr9 (F := Ideal) (c := c) (by decide) _ f9 _ (ix2 r l)).trans ?_
    refine (pay2_val _ _ _ _ _ _ _ _ _ _ _ _ _ _ _ _ r l).trans ?_
    have e9 : (M9.access (Rect.unit (s := S96x128) ![0, 0] S96x128.size inb_S96x128_S96x128_0_0)).read (Elt Ideal) f9 (ix2 r l) = f9 (ix2 r l) :=
      rd9 (F := Ideal) (n := 96) inb_S96x128_S96x128_0_0 f9 r l (ix2 r l) (Nat.zero_add _).symm (Nat.zero_add _).symm
    have hz : (Scf.iv 0#32 1#32 t = 0#32) ↔ t.val = 0 := by clear e9 hc hc' h5; revert t; decide +kernel
    rw [e9]
    congr 1
    · by_cases h0 : t.val = 0
      · rw [if_pos h0, if_pos (hz.mpr h0)]
      · rw [if_neg h0, if_neg (fun h => h0 (hz.mp h))]
    · unfold XC
      rw [sum14_split]
      simp only [Finset.sum_add_distrib]
      have hk : ki t.val + 1 ≤ 4 := by clear e9 hz hc hc' h5; revert t; decide +kernel
      have hx : ∀ (o : Fin 3 → ℕ) (i : ∀ a, o a + S1x96x128.size a ≤ S4x96x1792.size a) (τ : ℕ), o = ![ki t.val, 0, τ] →
          (∑ p : Fin 128, ((M5.access (Rect.unit (s := S4x96x1792) o S1x96x128.size i)).read (Elt Ideal) f5 (ix3 0 r p) : EReal)) = ∑ s ∈ Finset.range 128, X r.val (1792 * ki t.val + (τ + s)) := by
        intro o i τ e
        subst e
        have a2 : τ + 128 ≤ 1792 := i 2
        rw [← Fin.sum_univ_eq_sum_range (fun s => X r.val (1792 * ki t.val + (τ + s))) 128]
        refine Finset.sum_congr rfl fun p _ => ?_
        refine (rd5 (m := 128) i f5 0 r p (ix3 ⟨ki t.val, by omega⟩ r ⟨τ + p.val, by omega⟩) rfl (Nat.zero_add _).symm rfl).trans ?_
        exact h5 _
      rw [hx _ _ 0 (off4 t), hx _ _ 128 (off5 t), hx _ _ 256 (off6 t), hx _ _ 384 (off7 t), hx _ _ 512 (off8 t), hx _ _ 640 (off9 t), hx _ _ 768 (off10 t), hx _ _ 896 (off11 t), hx _ _ 1024 (off12 t), hx _ _ 1152 (off13 t), hx _ _ 1280 (off14 t), hx _ _ 1408 (off15 t), hx _ _ 1536 (off16 t), hx _ _ 1664 (off17 t)]
      simp
  · rw [dif_neg hc, if_neg (fun h => hc ((cond2 t).mpr h))]

theorem pay21_val (cc : BitVec 32) (v : FVec Ideal S1x96x256 .f32) (e : Acc Ideal) (r : Fin 96) (y : Fin 256) :
    (k0_pay21 (F := Ideal) cc v e (ix3 0 r y) : EReal) = (if cc = 0#32 then 0 else v (ix3 0 r y)) + e (ix2 r y) := by
  unfold k0_pay21
  try dsimp only
  refine (cast_add (n := 96) (m := 256) _ _ 0 r y).trans ?_
  rw [addf_apply]
  congr 1
  by_cases hg : cc = 0#32
  · subst hg
    rw [if_pos rfl]
    exact zero_f32
  · rw [if_neg hg]
    have : Scalar.cmpi .eq cc 0#32 = 0#1 := by
      show BitVec.ofBool (cc == 0#32) = 0#1
      rw [beq_eq_false_iff_ne.mpr hg]; rfl
    rw [this, select_zero]
    exact cast_drop (n := 96) (m := 256) _ _ r y

theorem dr_in (f10 : Bf Ideal c M10) {o0 o1 : Fin 3 → ℕ} (h0 : ∀ a, o0 a + S1x96x256.size a ≤ S9x96x1024.size a) (h1 : ∀ a, o1 a + S1x96x256.size a ≤ S9x96x1024.size a) (cc : BitVec 32) (e : Fin 2 → Acc Ideal)
    {b p : ℕ} (e0 : o0 = ![b, 0, p]) (e1 : o1 = ![b, 0, p + 256]) (q : Fin 2) (i : S9x96x1024.Idx) (r : Fin 96) (y : Fin 256) (hi0 : (i 0).val = b) (hi1 : (i 1).val = r.val) (hi2 : (i 2).val = p + 256 * q.val + y.val) :
    (dr f10 o0 o1 h0 h1 cc e i : EReal) = (if cc = 0#32 then 0 else v10 f10 i) + e q (ix2 r y) := by
  subst e0 e1
  unfold dr
  dsimp only
  match q with
  | 0 =>
    have z2 : (i 2).val = p + y.val := by have : (i 2).val = p + 256 * 0 + y.val := hi2; omega
    rw [wr10_out (c := c) (n := 96) (m := 256) h1 _ _ i (by rintro ⟨-, -, -, h, -⟩; have h' : p + 256 ≤ (i 2).val := h; omega)]
    refine (wr10_in (c := c) (n := 96) (m := 256) h0 _ _ r y i hi0 (hi1.trans (Nat.zero_add _).symm) z2).trans ?_
    refine (pay21_val _ _ _ r y).trans ?_
    rw [rd10 (c := c) (n := 96) (m := 256) h0 f10 0 r y i hi0 (hi1.trans (Nat.zero_add _).symm) z2]
  | 1 =>
    have z2 : (i 2).val = p + 256 + y.val := by have : (i 2).val = p + 256 * 1 + y.val := hi2; omega
    refine (wr10_in (c := c) (n := 96) (m := 256) h1 _ _ r y i hi0 (hi1.trans (Nat.zero_add _).symm) z2).trans ?_
    refine (pay21_val _ _ _ r y).trans ?_
    rw [rd10 (c := c) (n := 96) (m := 256) h1 _ 0 r y i hi0 (hi1.trans (Nat.zero_add _).symm) z2]
    rw [wr10_out (c := c) (n := 96) (m := 256) h0 _ _ i (by rintro ⟨-, -, -, -, h⟩; have h' : (i 2).val < p + 256 := h; omega)]

theorem dr_out (f10 : Bf Ideal c M10) {o0 o1 : Fin 3 → ℕ} (h0 : ∀ a, o0 a + S1x96x256.size a ≤ S9x96x1024.size a) (h1 : ∀ a, o1 a + S1x96x256.size a ≤ S9x96x1024.size a) (cc : BitVec 32) (e : Fin 2 → Acc Ideal)
    {b p : ℕ} (e0 : o0 = ![b, 0, p]) (e1 : o1 = ![b, 0, p + 256]) (i : S9x96x1024.Idx) (hi : ¬ ((i 0).val = b ∧ p ≤ (i 2).val ∧ (i 2).val < p + 512)) :
    (dr f10 o0 o1 h0 h1 cc e i : EReal) = f10 i := by
  subst e0 e1
  unfold dr
  dsimp only
  rw [wr10_out (c := c) (n := 96) (m := 256) h1 _ _ i (by rintro ⟨h, -, -, h2, h3⟩; have a : (i 0).val = b := h; have a2 : p + 256 ≤ (i 2).val := h2; have a3 : (i 2).val < p + 256 + 256 := h3; exact hi ⟨a, by omega, by omega⟩)]
  rw [wr10_out (c := c) (n := 96) (m := 256) h0 _ _ i (by rintro ⟨h, -, -, h2, h3⟩; have a : (i 0).val = b := h; have a2 : p ≤ (i 2).val := h2; have a3 : (i 2).val < p + 256 := h3; exact hi ⟨a, by omega, by omega⟩)]

end

end Cert.Kernel.Hand
-- ==== Proof.Kernel.Ep.lean ====
/- The finished rows of a trip, element by element. -/
module

public import proofs.«01_k».proof.Proof.Kernel.Sums

@[expose] public section

set_option maxHeartbeats 8000000
noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

section
variable {c : Dev nD}

/-- The field a column's nibble lies in. -/
def fld : ℕ → ℕ
  | 0 => 0 | 1 => 4 | 2 => 1 | 3 => 5 | 4 => 2 | 5 => 6 | 6 => 3 | _ => 7

theorem fld_lt : ∀ a, fld a < 8
  | 0 => by decide | 1 => by decide | 2 => by decide | 3 => by decide | 4 => by decide | 5 => by decide | 6 => by decide | (n + 7) => by simp [fld]

/-- The finished element of block `b`, row `r`, column `q`, out of the buffers. -/
def yv (f7 : Bf Ideal c M7) (f8 : Bf Ideal c M8) (g9 : Bf Ideal c M9) (g10 : Bf Ideal c M10) (b : Fin 9) (r : Fin 96) (q : Fin 1024) : EReal :=
  pv (f7 (ix2 b ⟨q.val / 8, by omega⟩)) (fld (q.val % 8)) (v9 g9 (ix2 r ⟨q.val / 8, by omega⟩))
    (v10 g10 (ix3 b r ⟨128 * fld (q.val % 8) + q.val / 8, by have := fld_lt (q.val % 8); omega⟩))
    (f8 (ix3 b ⟨q.val % 8, by omega⟩ ⟨q.val / 8, by omega⟩))

theorem ec_lt (t : Fin k0_t1_loop.trips) : ec t.val / 3 < 9 := by revert t; decide +kernel

theorem ps_read (f7 : Bf Ideal c M7) (f8 : Bf Ideal c M8) (g9 : Bf Ideal c M9) (g10 : Bf Ideal c M10) (t : Fin k0_t1_loop.trips) (r' : Fin 32) (r : Fin 96) (hr : r.val = ec t.val % 3 * 32 + r'.val)
    (a : Fin 8) (m : Fin 128) (q : Fin 1024) (hq : q.val = 8 * m.val + a.val) :
    ps32 ((M7.access (Rect.unit (s := S9x128) (k0_off36 t) S1x128.size (k0_off36_inb t))).read (Elt Ideal) f7) ((M9.access (Rect.unit (s := S96x128) (k0_off37 t) S32x128.size (k0_off37_inb t))).read (Elt Ideal) g9) ((M10.access (Rect.unit (s := S9x96x1024) (k0_off38 t) S1x32x128.size (k0_off38_inb t))).read (Elt Ideal) g10) ((M8.access (Rect.unit (s := S9x8x128) (k0_off39 t) S1x1x128.size (k0_off39_inb t))).read (Elt Ideal) f8) ((M10.access (Rect.unit (s := S9x96x1024) (k0_off40 t) S1x32x128.size (k0_off40_inb t))).read (Elt Ideal) g10) ((M8.access (Rect.unit (s := S9x8x128) (k0_off41 t) S1x1x128.size (k0_off41_inb t))).read (Elt Ideal) f8) ((M10.access (Rect.unit (s := S9x96x1024) (k0_off42 t) S1x32x128.size (k0_off42_inb t))).read (Elt Ideal) g10) ((M8.access (Rect.unit (s := S9x8x128) (k0_off43 t) S1x1x128.size (k0_off43_inb t))).read (Elt Ideal) f8) ((M10.access (Rect.unit (s := S9x96x1024) (k0_off44 t) S1x32x128.size (k0_off44_inb t))).read (Elt Ideal) g10) ((M8.access (Rect.unit (s := S9x8x128) (k0_off45 t) S1x1x128.size (k0_off45_inb t))).read (Elt Ideal) f8) ((M10.access (Rect.unit (s := S9x96x1024) (k0_off46 t) S1x32x128.size (k0_off46_inb t))).read (Elt Ideal) g10) ((M8.access (Rect.unit (s := S9x8x128) (k0_off47 t) S1x1x128.size (k0_off47_inb t))).read (Elt Ideal) f8) ((M10.access (Rect.unit (s := S9x96x1024) (k0_off48 t) S1x32x128.size (k0_off48_inb t))).read (Elt Ideal) g10) ((M8.access (Rect.unit (s := S9x8x128) (k0_off49 t) S1x1x128.size (k0_off49_inb t))).read (Elt Ideal) f8) ((M10.access (Rect.unit (s := S9x96x1024) (k0_off50 t) S1x32x128.size (k0_off50_inb t))).read (Elt Ideal) g10) ((M8.access (Rect.unit (s := S9x8x128) (k0_off51 t) S1x1x128.size (k0_off51_inb t))).read (Elt Ideal) f8) ((M10.access (Rect.unit (s := S9x96x1024) (k0_off52 t) S1x32x128.size (k0_off52_inb t))).read (Elt Ideal) g10) ((M8.access (Rect.unit (s := S9x8x128) (k0_off53 t) S1x1x128.size (k0_off53_inb t))).read (Elt Ideal) f8) r' a m = yv f7 f8 g9 g10 ⟨ec t.val / 3, ec_lt t⟩ r q := by
  have hd : q.val / 8 = m.val := by omega
  have hm : (⟨q.val / 8, by omega⟩ : Fin 128) = m := Fin.ext hd
  have hz : ((M7.access (Rect.unit (s := S9x128) (k0_off36 t) S1x128.size (k0_off36_inb t))).read (Elt Ideal) f7) (ix2 0 m) = f7 (ix2 ⟨ec t.val / 3, ec_lt t⟩ m) :=
    rd7 (c := c) (F := Ideal) (k0_off36_inb t) f7 0 m _ (congrFun (off36 t) 0).symm (by rw [off36 t]; exact (Nat.zero_add _).symm)
  have hx : ((M9.access (Rect.unit (s := S96x128) (k0_off37 t) S32x128.size (k0_off37_inb t))).read (Elt Ideal) g9) (ix2 r' m) = g9 (ix2 r m) :=
    rd9 (c := c) (F := Ideal) (n := 32) (k0_off37_inb t) g9 r' m _ (by rw [off37 t]; exact hr) (by rw [off37 t]; exact (Nat.zero_add _).symm)
  match a, hq with
  | 0, hq =>
    have ha : q.val % 8 = 0 := by have : q.val = 8 * m.val + 0 := hq; omega
    have h1 : ((M10.access (Rect.unit (s := S9x96x1024) (k0_off38 t) S1x32x128.size (k0_off38_inb t))).read (Elt Ideal) g10) (ix3 0 r' m) = g10 (ix3 ⟨ec t.val / 3, ec_lt t⟩ r ⟨0 + m.val, by omega⟩) :=
      rd10 (c := c) (F := Ideal) (n := 32) (m := 128) (k0_off38_inb t) g10 0 r' m _ (by rw [off38 t]; rfl) (by rw [off38 t]; exact hr) (by rw [off38 t]; rfl)
    have h2 : ((M8.access (Rect.unit (s := S9x8x128) (k0_off39 t) S1x1x128.size (k0_off39_inb t))).read (Elt Ideal) f8) (ix3 0 0 m) = f8 (ix3 ⟨ec t.val / 3, ec_lt t⟩ 0 m) :=
      rd8 (c := c) (F := Ideal) (n := 1) (k0_off39_inb t) f8 0 0 m _ (by rw [off39 t]; rfl) (by rw [off39 t]; rfl) (by rw [off39 t]; exact (Nat.zero_add _).symm)
    show pv (((M7.access (Rect.unit (s := S9x128) (k0_off36 t) S1x128.size (k0_off36_inb t))).read (Elt Ideal) f7) (ix2 0 m)) 0 (((M9.access (Rect.unit (s := S96x128) (k0_off37 t) S32x128.size (k0_off37_inb t))).read (Elt Ideal) g9) (ix2 r' m)) (((M10.access (Rect.unit (s := S9x96x1024) (k0_off38 t) S1x32x128.size (k0_off38_inb t))).read (Elt Ideal) g10) (ix3 0 r' m)) (((M8.access (Rect.unit (s := S9x8x128) (k0_off39 t) S1x1x128.size (k0_off39_inb t))).read (Elt Ideal) f8) (ix3 0 0 m)) = _
    rw [hz, hx, h1, h2]
    unfold yv
    have e1 : (⟨128 * fld (q.val % 8) + q.val / 8, by have := fld_lt (q.val % 8); omega⟩ : Fin 1024) = ⟨0 + m.val, by omega⟩ := by
      apply Fin.ext; show 128 * fld (q.val % 8) + q.val / 8 = 0 + m.val; rw [ha, hd]; rfl
    have e2 : (⟨q.val % 8, by omega⟩ : Fin 8) = 0 := Fin.ext ha
    rw [hm, e1, e2, ha]
    rfl
  | 1, hq =>
    have ha : q.val % 8 = 1 := by have : q.val = 8 * m.val + 1 := hq; omega
    have h1 : ((M10.access (Rect.unit (s := S9x96x1024) (k0_off40 t) S1x32x128.size (k0_off40_inb t))).read (Elt Ideal) g10) (ix3 0 r' m) = g10 (ix3 ⟨ec t.val / 3, ec_lt t⟩ r ⟨512 + m.val, by omega⟩) :=
      rd10 (c := c) (F := Ideal) (n := 32) (m := 128) (k0_off40_inb t) g10 0 r' m _ (by rw [off40 t]; rfl) (by rw [off40 t]; exact hr) (by rw [off40 t]; rfl)
    have h2 : ((M8.access (Rect.unit (s := S9x8x128) (k0_off41 t) S1x1x128.size (k0_off41_inb t))).read (Elt Ideal) f8) (ix3 0 0 m) = f8 (ix3 ⟨ec t.val / 3, ec_lt t⟩ 1 m) :=
      rd8 (c := c) (F := Ideal) (n := 1) (k0_off41_inb t) f8 0 0 m _ (by rw [off41 t]; rfl) (by rw [off41 t]; rfl) (by rw [off41 t]; exact (Nat.zero_add _).symm)
    show pv (((M7.access (Rect.unit (s := S9x128) (k0_off36 t) S1x128.size (k0_off36_inb t))).read (Elt Ideal) f7) (ix2 0 m)) 4 (((M9.access (Rect.unit (s := S96x128) (k0_off37 t) S32x128.size (k0_off37_inb t))).read (Elt Ideal) g9) (ix2 r' m)) (((M10.access (Rect.unit (s := S9x96x1024) (k0_off40 t) S1x32x128.size (k0_off40_inb t))).read (Elt Ideal) g10) (ix3 0 r' m)) (((M8.access (Rect.unit (s := S9x8x128) (k0_off41 t) S1x1x128.size (k0_off41_inb t))).read (Elt Ideal) f8) (ix3 0 0 m)) = _
    rw [hz, hx, h1, h2]
    unfold yv
    have e1 : (⟨128 * fld (q.val % 8) + q.val / 8, by have := fld_lt (q.val % 8); omega⟩ : Fin 1024) = ⟨512 + m.val, by omega⟩ := by
      apply Fin.ext; show 128 * fld (q.val % 8) + q.val / 8 = 512 + m.val; rw [ha, hd]; rfl
    have e2 : (⟨q.val % 8, by omega⟩ : Fin 8) = 1 := Fin.ext ha
    rw [hm, e1, e2, ha]
    rfl
  | 2, hq =>
    have ha : q.val % 8 = 2 := by have : q.val = 8 * m.val + 2 := hq; omega
    have h1 : ((M10.access (Rect.unit (s := S9x96x1024) (k0_off42 t) S1x32x128.size (k0_off42_inb t))).read (Elt Ideal) g10) (ix3 0 r' m) = g10 (ix3 ⟨ec t.val / 3, ec_lt t⟩ r ⟨128 + m.val, by omega⟩) :=
      rd10 (c := c) (F := Ideal) (n := 32) (m := 128) (k0_off42_inb t) g10 0 r' m _ (by rw [off42 t]; rfl) (by rw [off42 t]; exact hr) (by rw [off42 t]; rfl)
    have h2 : ((M8.access (Rect.unit (s := S9x8x128) (k0_off43 t) S1x1x128.size (k0_off43_inb t))).read (Elt Ideal) f8) (ix3 0 0 m) = f8 (ix3 ⟨ec t.val / 3, ec_lt t⟩ 2 m) :=
      rd8 (c := c) (F := Ideal) (n := 1) (k0_off43_inb t) f8 0 0 m _ (by rw [off43 t]; rfl) (by rw [off43 t]; rfl) (by rw [off43 t]; exact (Nat.zero_add _).symm)
    show pv (((M7.access (Rect.unit (s := S9x128) (k0_off36 t) S1x128.size (k0_off36_inb t))).read (Elt Ideal) f7) (ix2 0 m)) 1 (((M9.access (Rect.unit (s := S96x128) (k0_off37 t) S32x128.size (k0_off37_inb t))).read (Elt Ideal) g9) (ix2 r' m)) (((M10.access (Rect.unit (s := S9x96x1024) (k0_off42 t) S1x32x128.size (k0_off42_inb t))).read (Elt Ideal) g10) (ix3 0 r' m)) (((M8.access (Rect.unit (s := S9x8x128) (k0_off43 t) S1x1x128.size (k0_off43_inb t))).read (Elt Ideal) f8) (ix3 0 0 m)) = _
    rw [hz, hx, h1, h2]
    unfold yv
    have e1 : (⟨128 * fld (q.val % 8) + q.val / 8, by have := fld_lt (q.val % 8); omega⟩ : Fin 1024) = ⟨128 + m.val, by omega⟩ := by
      apply Fin.ext; show 128 * fld (q.val % 8) + q.val / 8 = 128 + m.val; rw [ha, hd]; rfl
    have e2 : (⟨q.val % 8, by omega⟩ : Fin 8) = 2 := Fin.ext ha
    rw [hm, e1, e2, ha]
    rfl
  | 3, hq =>
    have ha : q.val % 8 = 3 := by have : q.val = 8 * m.val + 3 := hq; omega
    have h1 : ((M10.access (Rect.unit (s := S9x96x1024) (k0_off44 t) S1x32x128.size (k0_off44_inb t))).read (Elt Ideal) g10) (ix3 0 r' m) = g10 (ix3 ⟨ec t.val / 3, ec_lt t⟩ r ⟨640 + m.val, by omega⟩) :=
      rd10 (c := c) (F := Ideal) (n := 32) (m := 128) (k0_off44_inb t) g10 0 r' m _ (by rw [off44 t]; rfl) (by rw [off44 t]; exact hr) (by rw [off44 t]; rfl)
    have h2 : ((M8.access (Rect.unit (s := S9x8x128) (k0_off45 t) S1x1x128.size (k0_off45_inb t))).read (Elt Ideal) f8) (ix3 0 0 m) = f8 (ix3 ⟨ec t.val / 3, ec_lt t⟩ 3 m) :=
      rd8 (c := c) (F := Ideal) (n := 1) (k0_off45_inb t) f8 0 0 m _ (by rw [off45 t]; rfl) (by rw [off45 t]; rfl) (by rw [off45 t]; exact (Nat.zero_add _).symm)
    show pv (((M7.access (Rect.unit (s := S9x128) (k0_off36 t) S1x128.size (k0_off36_inb t))).read (Elt Ideal) f7) (ix2 0 m)) 5 (((M9.access (Rect.unit (s := S96x128) (k0_off37 t) S32x128.size (k0_off37_inb t))).read (Elt Ideal) g9) (ix2 r' m)) (((M10.access (Rect.unit (s := S9x96x1024) (k0_off44 t) S1x32x128.size (k0_off44_inb t))).read (Elt Ideal) g10) (ix3 0 r' m)) (((M8.access (Rect.unit (s := S9x8x128) (k0_off45 t) S1x1x128.size (k0_off45_inb t))).read (Elt Ideal) f8) (ix3 0 0 m)) = _
    rw [hz, hx, h1, h2]
    unfold yv
    have e1 : (⟨128 * fld (q.val % 8) + q.val / 8, by have := fld_lt (q.val % 8); omega⟩ : Fin 1024) = ⟨640 + m.val, by omega⟩ := by
      apply Fin.ext; show 128 * fld (q.val % 8) + q.val / 8 = 640 + m.val; rw [ha, hd]; rfl
    have e2 : (⟨q.val % 8, by omega⟩ : Fin 8) = 3 := Fin.ext ha
    rw [hm, e1, e2, ha]
    rfl
  | 4, hq =>
    have ha : q.val % 8 = 4 := by have : q.val = 8 * m.val + 4 := hq; omega
    have h1 : ((M10.access (Rect.unit (s := S9x96x1024) (k0_off46 t) S1x32x128.size (k0_off46_inb t))).read (Elt Ideal) g10) (ix3 0 r' m) = g10 (ix3 ⟨ec t.val / 3, ec_lt t⟩ r ⟨256 + m.val, by omega⟩) :=
      rd10 (c := c) (F := Ideal) (n := 32) (m := 128) (k0_off46_inb t) g10 0 r' m _ (by rw [off46 t]; rfl) (by rw [off46 t]; exact hr) (by rw [off46 t]; rfl)
    have h2 : ((M8.access (Rect.unit (s := S9x8x128) (k0_off47 t) S1x1x128.size (k0_off47_inb t))).read (Elt Ideal) f8) (ix3 0 0 m) = f8 (ix3 ⟨ec t.val / 3, ec_lt t⟩ 4 m) :=
      rd8 (c := c) (F := Ideal) (n := 1) (k0_off47_inb t) f8 0 0 m _ (by rw [off47 t]; rfl) (by rw [off47 t]; rfl) (by rw [off47 t]; exact (Nat.zero_add _).symm)
    show pv (((M7.access (Rect.unit (s := S9x128) (k0_off36 t) S1x128.size (k0_off36_inb t))).read (Elt Ideal) f7) (ix2 0 m)) 2 (((M9.access (Rect.unit (s := S96x128) (k0_off37 t) S32x128.size (k0_off37_inb t))).read (Elt Ideal) g9) (ix2 r' m)) (((M10.access (Rect.unit (s := S9x96x1024) (k0_off46 t) S1x32x128.size (k0_off46_inb t))).read (Elt Ideal) g10) (ix3 0 r' m)) (((M8.access (Rect.unit (s := S9x8x128) (k0_off47 t) S1x1x128.size (k0_off47_inb t))).read (Elt Ideal) f8) (ix3 0 0 m)) = _
    rw [hz, hx, h1, h2]
    unfold yv
    have e1 : (⟨128 * fld (q.val % 8) + q.val / 8, by have := fld_lt (q.val % 8); omega⟩ : Fin 1024) = ⟨256 + m.val, by omega⟩ := by
      apply Fin.ext; show 128 * fld (q.val % 8) + q.val / 8 = 256 + m.val; rw [ha, hd]; rfl
    have e2 : (⟨q.val % 8, by omega⟩ : Fin 8) = 4 := Fin.ext ha
    rw [hm, e1, e2, ha]
    rfl
  | 5, hq =>
    have ha : q.val % 8 = 5 := by have : q.val = 8 * m.val + 5 := hq; omega
    have h1 : ((M10.access (Rect.unit (s := S9x96x1024) (k0_off48 t) S1x32x128.size (k0_off48_inb t))).read (Elt Ideal) g10) (ix3 0 r' m) = g10 (ix3 ⟨ec t.val / 3, ec_lt t⟩ r ⟨768 + m.val, by omega⟩) :=
      rd10 (c := c) (F := Ideal) (n := 32) (m := 128) (k0_off48_inb t) g10 0 r' m _ (by rw [off48 t]; rfl) (by rw [off48 t]; exact hr) (by rw [off48 t]; rfl)
    have h2 : ((M8.access (Rect.unit (s := S9x8x128) (k0_off49 t) S1x1x128.size (k0_off49_inb t))).read (Elt Ideal) f8) (ix3 0 0 m) = f8 (ix3 ⟨ec t.val / 3, ec_lt t⟩ 5 m) :=
      rd8 (c := c) (F := Ideal) (n := 1) (k0_off49_inb t) f8 0 0 m _ (by rw [off49 t]; rfl) (by rw [off49 t]; rfl) (by rw [off49 t]; exact (Nat.zero_add _).symm)
    show pv (((M7.access (Rect.unit (s := S9x128) (k0_off36 t) S1x128.size (k0_off36_inb t))).read (Elt Ideal) f7) (ix2 0 m)) 6 (((M9.access (Rect.unit (s := S96x128) (k0_off37 t) S32x128.size (k0_off37_inb t))).read (Elt Ideal) g9) (ix2 r' m)) (((M10.access (Rect.unit (s := S9x96x1024) (k0_off48 t) S1x32x128.size (k0_off48_inb t))).read (Elt Ideal) g10) (ix3 0 r' m)) (((M8.access (Rect.unit (s := S9x8x128) (k0_off49 t) S1x1x128.size (k0_off49_inb t))).read (Elt Ideal) f8) (ix3 0 0 m)) = _
    rw [hz, hx, h1, h2]
    unfold yv
    have e1 : (⟨128 * fld (q.val % 8) + q.val / 8, by have := fld_lt (q.val % 8); omega⟩ : Fin 1024) = ⟨768 + m.val, by omega⟩ := by
      apply Fin.ext; show 128 * fld (q.val % 8) + q.val / 8 = 768 + m.val; rw [ha, hd]; rfl
    have e2 : (⟨q.val % 8, by omega⟩ : Fin 8) = 5 := Fin.ext ha
    rw [hm, e1, e2, ha]
    rfl
  | 6, hq =>
    have ha : q.val % 8 = 6 := by have : q.val = 8 * m.val + 6 := hq; omega
    have h1 : ((M10.access (Rect.unit (s := S9x96x1024) (k0_off50 t) S1x32x128.size (k0_off50_inb t))).read (Elt Ideal) g10) (ix3 0 r' m) = g10 (ix3 ⟨ec t.val / 3, ec_lt t⟩ r ⟨384 + m.val, by omega⟩) :=
      rd10 (c := c) (F := Ideal) (n := 32) (m := 128) (k0_off50_inb t) g10 0 r' m _ (by rw [off50 t]; rfl) (by rw [off50 t]; exact hr) (by rw [off50 t]; rfl)
    have h2 : ((M8.access (Rect.unit (s := S9x8x128) (k0_off51 t) S1x1x128.size (k0_off51_inb t))).read (Elt Ideal) f8) (ix3 0 0 m) = f8 (ix3 ⟨ec t.val / 3, ec_lt t⟩ 6 m) :=
      rd8 (c := c) (F := Ideal) (n := 1) (k0_off51_inb t) f8 0 0 m _ (by rw [off51 t]; rfl) (by rw [off51 t]; rfl) (by rw [off51 t]; exact (Nat.zero_add _).symm)
    show pv (((M7.access (Rect.unit (s := S9x128) (k0_off36 t) S1x128.size (k0_off36_inb t))).read (Elt Ideal) f7) (ix2 0 m)) 3 (((M9.access (Rect.unit (s := S96x128) (k0_off37 t) S32x128.size (k0_off37_inb t))).read (Elt Ideal) g9) (ix2 r' m)) (((M10.access (Rect.unit (s := S9x96x1024) (k0_off50 t) S1x32x128.size (k0_off50_inb t))).read (Elt Ideal) g10) (ix3 0 r' m)) (((M8.access (Rect.unit (s := S9x8x128) (k0_off51 t) S1x1x128.size (k0_off51_inb t))).read (Elt Ideal) f8) (ix3 0 0 m)) = _
    rw [hz, hx, h1, h2]
    unfold yv
    have e1 : (⟨128 * fld (q.val % 8) + q.val / 8, by have := fld_lt (q.val % 8); omega⟩ : Fin 1024) = ⟨384 + m.val, by omega⟩ := by
      apply Fin.ext; show 128 * fld (q.val % 8) + q.val / 8 = 384 + m.val; rw [ha, hd]; rfl
    have e2 : (⟨q.val % 8, by omega⟩ : Fin 8) = 6 := Fin.ext ha
    rw [hm, e1, e2, ha]
    rfl
  | 7, hq =>
    have ha : q.val % 8 = 7 := by have : q.val = 8 * m.val + 7 := hq; omega
    have h1 : ((M10.access (Rect.unit (s := S9x96x1024) (k0_off52 t) S1x32x128.size (k0_off52_inb t))).read (Elt Ideal) g10) (ix3 0 r' m) = g10 (ix3 ⟨ec t.val / 3, ec_lt t⟩ r ⟨896 + m.val, by omega⟩) :=
      rd10 (c := c) (F := Ideal) (n := 32) (m := 128) (k0_off52_inb t) g10 0 r' m _ (by rw [off52 t]; rfl) (by rw [off52 t]; exact hr) (by rw [off52 t]; rfl)
    have h2 : ((M8.access (Rect.unit (s := S9x8x128) (k0_off53 t) S1x1x128.size (k0_off53_inb t))).read (Elt Ideal) f8) (ix3 0 0 m) = f8 (ix3 ⟨ec t.val / 3, ec_lt t⟩ 7 m) :=
      rd8 (c := c) (F := Ideal) (n := 1) (k0_off53_inb t) f8 0 0 m _ (by rw [off53 t]; rfl) (by rw [off53 t]; rfl) (by rw [off53 t]; exact (Nat.zero_add _).symm)
    show pv (((M7.access (Rect.unit (s := S9x128) (k0_off36 t) S1x128.size (k0_off36_inb t))).read (Elt Ideal) f7) (ix2 0 m)) 7 (((M9.access (Rect.unit (s := S96x128) (k0_off37 t) S32x128.size (k0_off37_inb t))).read (Elt Ideal) g9) (ix2 r' m)) (((M10.access (Rect.unit (s := S9x96x1024) (k0_off52 t) S1x32x128.size (k0_off52_inb t))).read (Elt Ideal) g10) (ix3 0 r' m)) (((M8.access (Rect.unit (s := S9x8x128) (k0_off53 t) S1x1x128.size (k0_off53_inb t))).read (Elt Ideal) f8) (ix3 0 0 m)) = _
    rw [hz, hx, h1, h2]
    unfold yv
    have e1 : (⟨128 * fld (q.val % 8) + q.val / 8, by have := fld_lt (q.val % 8); omega⟩ : Fin 1024) = ⟨896 + m.val, by omega⟩ := by
      apply Fin.ext; show 128 * fld (q.val % 8) + q.val / 8 = 896 + m.val; rw [ha, hd]; rfl
    have e2 : (⟨q.val % 8, by omega⟩ : Fin 8) = 7 := Fin.ext ha
    rw [hm, e1, e2, ha]
    rfl

/-- Eight pieces laid side by side. -/
def wrs (t : Fin k0_t1_loop.trips) (e : Fin 8 → FVec Ideal S1x32x128 .bf16) (f11 : Bf Ideal c M11) : Bf Ideal c M11 :=
  let y1 : Bf Ideal c M11 := (M11.access (Rect.unit (s := S9x96x1024) (k0_off38 t) S1x32x128.size (k0_off38_inb t))).write (Elt Ideal) f11 (e 0) Finset.univ
  let y2 : Bf Ideal c M11 := (M11.access (Rect.unit (s := S9x96x1024) (k0_off42 t) S1x32x128.size (k0_off42_inb t))).write (Elt Ideal) y1 (e 1) Finset.univ
  let y3 : Bf Ideal c M11 := (M11.access (Rect.unit (s := S9x96x1024) (k0_off46 t) S1x32x128.size (k0_off46_inb t))).write (Elt Ideal) y2 (e 2) Finset.univ
  let y4 : Bf Ideal c M11 := (M11.access (Rect.unit (s := S9x96x1024) (k0_off50 t) S1x32x128.size (k0_off50_inb t))).write (Elt Ideal) y3 (e 3) Finset.univ
  let y5 : Bf Ideal c M11 := (M11.access (Rect.unit (s := S9x96x1024) (k0_off40 t) S1x32x128.size (k0_off40_inb t))).write (Elt Ideal) y4 (e 4) Finset.univ
  let y6 : Bf Ideal c M11 := (M11.access (Rect.unit (s := S9x96x1024) (k0_off44 t) S1x32x128.size (k0_off44_inb t))).write (Elt Ideal) y5 (e 5) Finset.univ
  let y7 : Bf Ideal c M11 := (M11.access (Rect.unit (s := S9x96x1024) (k0_off48 t) S1x32x128.size (k0_off48_inb t))).write (Elt Ideal) y6 (e 6) Finset.univ
  let y8 : Bf Ideal c M11 := (M11.access (Rect.unit (s := S9x96x1024) (k0_off52 t) S1x32x128.size (k0_off52_inb t))).write (Elt Ideal) y7 (e 7) Finset.univ
  y8

theorem wrs_in (t : Fin k0_t1_loop.trips) (e : Fin 8 → FVec Ideal S1x32x128 .bf16) (f11 : Bf Ideal c M11) (i : S9x96x1024.Idx) (r : Fin 32) (j : Fin 8) (l : Fin 128)
    (h0 : (i 0).val = ec t.val / 3) (hr : (i 1).val = ec t.val % 3 * 32 + r.val) (hjl : (i 2).val = 128 * j.val + l.val) : wrs t e f11 i = e j (ix3 0 r l) := by
  unfold wrs
  dsimp only
  match j, hjl with
  | 0, hjl =>
    have hj : (i 2).val = 0 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    rw [wr11_out (c := c) (n := 32) (m := 128) (k0_off48_inb t) _ _ i (by rw [off48 t]; rintro ⟨-, -, -, h, h'⟩; have a : 768 ≤ (i 2).val := h; have a' : (i 2).val < 768 + 128 := h'; omega)]
    rw [wr11_out (c := c) (n := 32) (m := 128) (k0_off44_inb t) _ _ i (by rw [off44 t]; rintro ⟨-, -, -, h, h'⟩; have a : 640 ≤ (i 2).val := h; have a' : (i 2).val < 640 + 128 := h'; omega)]
    rw [wr11_out (c := c) (n := 32) (m := 128) (k0_off40_inb t) _ _ i (by rw [off40 t]; rintro ⟨-, -, -, h, h'⟩; have a : 512 ≤ (i 2).val := h; have a' : (i 2).val < 512 + 128 := h'; omega)]
    rw [wr11_out (c := c) (n := 32) (m := 128) (k0_off50_inb t) _ _ i (by rw [off50 t]; rintro ⟨-, -, -, h, h'⟩; have a : 384 ≤ (i 2).val := h; have a' : (i 2).val < 384 + 128 := h'; omega)]
    rw [wr11_out (c := c) (n := 32) (m := 128) (k0_off46_inb t) _ _ i (by rw [off46 t]; rintro ⟨-, -, -, h, h'⟩; have a : 256 ≤ (i 2).val := h; have a' : (i 2).val < 256 + 128 := h'; omega)]
    rw [wr11_out (c := c) (n := 32) (m := 128) (k0_off42_inb t) _ _ i (by rw [off42 t]; rintro ⟨-, -, -, h, h'⟩; have a : 128 ≤ (i 2).val := h; have a' : (i 2).val < 128 + 128 := h'; omega)]
    exact wr11_in (c := c) (n := 32) (m := 128) (k0_off38_inb t) _ _ r l i (by rw [off38 t]; exact h0) (by rw [off38 t]; exact hr) (by rw [off38 t]; exact hj)
  | 1, hjl =>
    have hj : (i 2).val = 128 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    rw [wr11_out (c := c) (n := 32) (m := 128) (k0_off48_inb t) _ _ i (by rw [off48 t]; rintro ⟨-, -, -, h, h'⟩; have a : 768 ≤ (i 2).val := h; have a' : (i 2).val < 768 + 128 := h'; omega)]
    rw [wr11_out (c := c) (n := 32) (m := 128) (k0_off44_inb t) _ _ i (by rw [off44 t]; rintro ⟨-, -, -, h, h'⟩; have a : 640 ≤ (i 2).val := h; have a' : (i 2).val < 640 + 128 := h'; omega)]
    rw [wr11_out (c := c) (n := 32) (m := 128) (k0_off40_inb t) _ _ i (by rw [off40 t]; rintro ⟨-, -, -, h, h'⟩; have a : 512 ≤ (i 2).val := h; have a' : (i 2).val < 512 + 128 := h'; omega)]
    rw [wr11_out (c := c) (n := 32) (m := 128) (k0_off50_inb t) _ _ i (by rw [off50 t]; rintro ⟨-, -, -, h, h'⟩; have a : 384 ≤ (i 2).val := h; have a' : (i 2).val < 384 + 128 := h'; omega)]
    rw [wr11_out (c := c) (n := 32) (m := 128) (k0_off46_inb t) _ _ i (by rw [off46 t]; rintro ⟨-, -, -, h, h'⟩; have a : 256 ≤ (i 2).val := h; have a' : (i 2).val < 256 + 128 := h'; omega)]
    exact wr11_in (c := c) (n := 32) (m := 128) (k0_off42_inb t) _ _ r l i (by rw [off42 t]; exact h0) (by rw [off42 t]; exact hr) (by rw [off42 t]; exact hj)
  | 2, hjl =>
    have hj : (i 2).val = 256 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    rw [wr11_out (c := c) (n := 32) (m := 128) (k0_off48_inb t) _ _ i (by rw [off48 t]; rintro ⟨-, -, -, h, h'⟩; have a : 768 ≤ (i 2).val := h; have a' : (i 2).val < 768 + 128 := h'; omega)]
    rw [wr11_out (c := c) (n := 32) (m := 128) (k0_off44_inb t) _ _ i (by rw [off44 t]; rintro ⟨-, -, -, h, h'⟩; have a : 640 ≤ (i 2).val := h; have a' : (i 2).val < 640 + 128 := h'; omega)]
    rw [wr11_out (c := c) (n := 32) (m := 128) (k0_off40_inb t) _ _ i (by rw [off40 t]; rintro ⟨-, -, -, h, h'⟩; have a : 512 ≤ (i 2).val := h; have a' : (i 2).val < 512 + 128 := h'; omega)]
    rw [wr11_out (c := c) (n := 32) (m := 128) (k0_off50_inb t) _ _ i (by rw [off50 t]; rintro ⟨-, -, -, h, h'⟩; have a : 384 ≤ (i 2).val := h; have a' : (i 2).val < 384 + 128 := h'; omega)]
    exact wr11_in (c := c) (n := 32) (m := 128) (k0_off46_inb t) _ _ r l i (by rw [off46 t]; exact h0) (by rw [off46 t]; exact hr) (by rw [off46 t]; exact hj)
  | 3, hjl =>
    have hj : (i 2).val = 384 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    rw [wr11_out (c := c) (n := 32) (m := 128) (k0_off48_inb t) _ _ i (by rw [off48 t]; rintro ⟨-, -, -, h, h'⟩; have a : 768 ≤ (i 2).val := h; have a' : (i 2).val < 768 + 128 := h'; omega)]
    rw [wr11_out (c := c) (n := 32) (m := 128) (k0_off44_inb t) _ _ i (by rw [off44 t]; rintro ⟨-, -, -, h, h'⟩; have a : 640 ≤ (i 2).val := h; have a' : (i 2).val < 640 + 128 := h'; omega)]
    rw [wr11_out (c := c) (n := 32) (m := 128) (k0_off40_inb t) _ _ i (by rw [off40 t]; rintro ⟨-, -, -, h, h'⟩; have a : 512 ≤ (i 2).val := h; have a' : (i 2).val < 512 + 128 := h'; omega)]
    exact wr11_in (c := c) (n := 32) (m := 128) (k0_off50_inb t) _ _ r l i (by rw [off50 t]; exact h0) (by rw [off50 t]; exact hr) (by rw [off50 t]; exact hj)
  | 4, hjl =>
    have hj : (i 2).val = 512 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    rw [wr11_out (c := c) (n := 32) (m := 128) (k0_off48_inb t) _ _ i (by rw [off48 t]; rintro ⟨-, -, -, h, h'⟩; have a : 768 ≤ (i 2).val := h; have a' : (i 2).val < 768 + 128 := h'; omega)]
    rw [wr11_out (c := c) (n := 32) (m := 128) (k0_off44_inb t) _ _ i (by rw [off44 t]; rintro ⟨-, -, -, h, h'⟩; have a : 640 ≤ (i 2).val := h; have a' : (i 2).val < 640 + 128 := h'; omega)]
    exact wr11_in (c := c) (n := 32) (m := 128) (k0_off40_inb t) _ _ r l i (by rw [off40 t]; exact h0) (by rw [off40 t]; exact hr) (by rw [off40 t]; exact hj)
  | 5, hjl =>
    have hj : (i 2).val = 640 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    rw [wr11_out (c := c) (n := 32) (m := 128) (k0_off48_inb t) _ _ i (by rw [off48 t]; rintro ⟨-, -, -, h, h'⟩; have a : 768 ≤ (i 2).val := h; have a' : (i 2).val < 768 + 128 := h'; omega)]
    exact wr11_in (c := c) (n := 32) (m := 128) (k0_off44_inb t) _ _ r l i (by rw [off44 t]; exact h0) (by rw [off44 t]; exact hr) (by rw [off44 t]; exact hj)
  | 6, hjl =>
    have hj : (i 2).val = 768 + l.val := hjl
    rw [wr11_out (c := c) (n := 32) (m := 128) (k0_off52_inb t) _ _ i (by rw [off52 t]; rintro ⟨-, -, -, h, h'⟩; have a : 896 ≤ (i 2).val := h; have a' : (i 2).val < 896 + 128 := h'; omega)]
    exact wr11_in (c := c) (n := 32) (m := 128) (k0_off48_inb t) _ _ r l i (by rw [off48 t]; exact h0) (by rw [off48 t]; exact hr) (by rw [off48 t]; exact hj)
  | 7, hjl =>
    have hj : (i 2).val = 896 + l.val := hjl
    exact wr11_in (c := c) (n := 32) (m := 128) (k0_off52_inb t) _ _ r l i (by rw [off52 t]; exact h0) (by rw [off52 t]; exact hr) (by rw [off52 t]; exact hj)

theorem wrs_out (t : Fin k0_t1_loop.trips) (e : Fin 8 → FVec Ideal S1x32x128 .bf16) (f11 : Bf Ideal c M11) (i : S9x96x1024.Idx)
    (h : ¬ ((i 0).val = ec t.val / 3 ∧ (i 1).val / 32 = ec t.val % 3)) : wrs t e f11 i = f11 i := by
  unfold wrs
  dsimp only
  rw [wr11_out (c := c) (n := 32) (m := 128) (k0_off52_inb t) _ _ i (by rw [off52 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off48_inb t) _ _ i (by rw [off48 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off44_inb t) _ _ i (by rw [off44 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off40_inb t) _ _ i (by rw [off40 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off50_inb t) _ _ i (by rw [off50 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off46_inb t) _ _ i (by rw [off46 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off42_inb t) _ _ i (by rw [off42 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]
  rw [wr11_out (c := c) (n := 32) (m := 128) (k0_off38_inb t) _ _ i (by rw [off38 t]; rintro ⟨a0, a1, a2, -, -⟩; have b0 : (i 0).val = ec t.val / 3 := a0; have b1 : ec t.val % 3 * 32 ≤ (i 1).val := a1; have b2 : (i 1).val < ec t.val % 3 * 32 + 32 := a2; exact h ⟨b0, by omega⟩)]

theorem ep_wrs (f7 : Bf Ideal c M7) (f8 : Bf Ideal c M8) (g9 : Bf Ideal c M9) (g10 : Bf Ideal c M10) (f11 : Bf Ideal c M11) (t : Fin k0_t1_loop.trips) :
    ep f7 f8 t g9 g10 f11 = wrs t (epi ((M7.access (Rect.unit (s := S9x128) (k0_off36 t) S1x128.size (k0_off36_inb t))).read (Elt Ideal) f7) ((M9.access (Rect.unit (s := S96x128) (k0_off37 t) S32x128.size (k0_off37_inb t))).read (Elt Ideal) g9) ((M10.access (Rect.unit (s := S9x96x1024) (k0_off38 t) S1x32x128.size (k0_off38_inb t))).read (Elt Ideal) g10) ((M8.access (Rect.unit (s := S9x8x128) (k0_off39 t) S1x1x128.size (k0_off39_inb t))).read (Elt Ideal) f8) ((M10.access (Rect.unit (s := S9x96x1024) (k0_off40 t) S1x32x128.size (k0_off40_inb t))).read (Elt Ideal) g10) ((M8.access (Rect.unit (s := S9x8x128) (k0_off41 t) S1x1x128.size (k0_off41_inb t))).read (Elt Ideal) f8) ((M10.access (Rect.unit (s := S9x96x1024) (k0_off42 t) S1x32x128.size (k0_off42_inb t))).read (Elt Ideal) g10) ((M8.access (Rect.unit (s := S9x8x128) (k0_off43 t) S1x1x128.size (k0_off43_inb t))).read (Elt Ideal) f8) ((M10.access (Rect.unit (s := S9x96x1024) (k0_off44 t) S1x32x128.size (k0_off44_inb t))).read (Elt Ideal) g10) ((M8.access (Rect.unit (s := S9x8x128) (k0_off45 t) S1x1x128.size (k0_off45_inb t))).read (Elt Ideal) f8) ((M10.access (Rect.unit (s := S9x96x1024) (k0_off46 t) S1x32x128.size (k0_off46_inb t))).read (Elt Ideal) g10) ((M8.access (Rect.unit (s := S9x8x128) (k0_off47 t) S1x1x128.size (k0_off47_inb t))).read (Elt Ideal) f8) ((M10.access (Rect.unit (s := S9x96x1024) (k0_off48 t) S1x32x128.size (k0_off48_inb t))).read (Elt Ideal) g10) ((M8.access (Rect.unit (s := S9x8x128) (k0_off49 t) S1x1x128.size (k0_off49_inb t))).read (Elt Ideal) f8) ((M10.access (Rect.unit (s := S9x96x1024) (k0_off50 t) S1x32x128.size (k0_off50_inb t))).read (Elt Ideal) g10) ((M8.access (Rect.unit (s := S9x8x128) (k0_off51 t) S1x1x128.size (k0_off51_inb t))).read (Elt Ideal) f8) ((M10.access (Rect.unit (s := S9x96x1024) (k0_off52 t) S1x32x128.size (k0_off52_inb t))).read (Elt Ideal) g10) ((M8.access (Rect.unit (s := S9x8x128) (k0_off53 t) S1x1x128.size (k0_off53_inb t))).read (Elt Ideal) f8)) f11 := rfl

theorem ep_in (f7 : Bf Ideal c M7) (f8 : Bf Ideal c M8) (g9 : Bf Ideal c M9) (g10 : Bf Ideal c M10) (f11 : Bf Ideal c M11) (t : Fin k0_t1_loop.trips) (i : S9x96x1024.Idx)
    (h0 : (i 0).val = ec t.val / 3) (h1 : (i 1).val / 32 = ec t.val % 3) :
    (v11 (ep f7 f8 t g9 g10 f11) i : EReal) = yv f7 f8 g9 g10 (i 0) (i 1) (i 2) := by
  have l1 : (i 1).val < 96 := (i 1).isLt
  have l2 : (i 2).val < 1024 := (i 2).isLt
  have hb : (⟨ec t.val / 3, ec_lt t⟩ : Fin 9) = i 0 := Fin.ext h0.symm
  obtain ⟨j, l, hjl⟩ : ∃ (j : Fin 8) (l : Fin 128), (i 2).val = 128 * j.val + l.val :=
    ⟨⟨(i 2).val / 128, by omega⟩, ⟨(i 2).val % 128, by omega⟩, by show _ = 128 * ((i 2).val / 128) + (i 2).val % 128; omega⟩
  have hr : (i 1).val = ec t.val % 3 * 32 + (i 1).val % 32 := by omega
  have key := ps_read f7 f8 g9 g10 t ⟨(i 1).val % 32, by omega⟩ (i 1) hr ⟨l.val % 8, by omega⟩ ⟨16 * j.val + l.val / 8, by omega⟩ (i 2) (by show (i 2).val = 8 * (16 * j.val + l.val / 8) + l.val % 8; omega)
  rw [hb] at key
  refine Eq.trans ?_ ((epi_row _ _ _ _ _ _ _ _ _ _ _ _ _ _ _ _ _ _ j ⟨(i 1).val % 32, by omega⟩ l).trans key)
  unfold v11
  rw [ep_wrs]
  exact wrs_in t _ f11 i ⟨(i 1).val % 32, by omega⟩ j l h0 hr hjl

theorem ep_out (f7 : Bf Ideal c M7) (f8 : Bf Ideal c M8) (g9 : Bf Ideal c M9) (g10 : Bf Ideal c M10) (f11 : Bf Ideal c M11) (t : Fin k0_t1_loop.trips) (i : S9x96x1024.Idx)
    (h : ¬ ((i 0).val = ec t.val / 3 ∧ (i 1).val / 32 = ec t.val % 3)) :
    v11 (ep f7 f8 t g9 g10 f11) i = v11 f11 i := by
  unfold v11
  rw [ep_wrs]
  exact wrs_out t _ f11 i h

end

end Cert.Kernel.Hand
-- ==== Proof.Kernel.Inv.lean ====
/- What holds between trips. -/
module

public import proofs.«01_k».proof.Proof.Kernel.Ep
public import proofs.«01_k».proof.Proof.Kernel.Loop

@[expose] public section

set_option maxHeartbeats 8000000
noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

section
variable {c : Dev nD}

/-- How many slices of the contraction block `b` has been given by the first `t` trips. -/
def na (b t : ℕ) : ℕ := if b < 3 then min ((t + 2 - b) / 3) 4 else min (t - 4 * b) 4
/-- The first `k` slices of a product, and of a row's sum. -/
def PT (X : ℕ → ℕ → EReal) (W : ℕ → ℕ → BitVec 32) (r n f k : ℕ) : EReal := ∑ κ ∈ Finset.range k, T X W r κ n f
def PX (X : ℕ → ℕ → EReal) (r k : ℕ) : EReal := ∑ κ ∈ Finset.range k, XC X r κ
/-- The result: block `b`, row `r`, column `q` of the block. -/
def Yv (X : ℕ → ℕ → EReal) (W : ℕ → ℕ → BitVec 32) (Z : ℕ → BitVec 32) (S : ℕ → EReal) (b r q : ℕ) : EReal :=
  pv (Z (128 * b + q / 8)) (fld (q % 8)) (PX X r 4) (PT X W r (128 * b + q / 8) (fld (q % 8)) 4) (S (1024 * b + q))

theorem na_succ : ∀ t < 36, ∀ b < 9, na b (t + 1) = if b = bi t then na b t + 1 else na b t := by decide +kernel
theorem na_bi : ∀ t < 36, na (bi t) t = ki t := by decide +kernel
theorem na_zero : ∀ b < 9, na b 0 = 0 := by decide +kernel
theorem na_done : ∀ t < 36, 12 ≤ t → na (ec t / 3) t = 4 := by decide +kernel
theorem ki_lt : ∀ t < 36, ki t < 4 := by decide +kernel
theorem bi_lt : ∀ t < 36, bi t < 9 := by decide +kernel
theorem trips36 (t : Fin k0_t1_loop.trips) : t.val < 36 := by
  have h : k0_t1_loop.trips = 36 := by decide +kernel
  have := t.isLt
  omega

theorem ofNat_zero {k : ℕ} (h : k < 4) : (BitVec.ofNat 32 k = 0#32) ↔ k = 0 := by
  have : ∀ k < 4, (BitVec.ofNat 32 k = 0#32) ↔ k = 0 := by decide +kernel
  exact this k h

variable {X : ℕ → ℕ → EReal} {W : ℕ → ℕ → BitVec 32} {Z : ℕ → BitVec 32} {S : ℕ → EReal}

theorem commit {r n f k : ℕ} (hk : k < 4) (old x : EReal) (ho : 0 < k → old = PT X W r n f k) (hx : x = T X W r k n f) :
    (if BitVec.ofNat 32 k = 0#32 then 0 else old) + x = PT X W r n f (k + 1) := by
  unfold PT
  rw [Finset.sum_range_succ, hx]
  congr 1
  by_cases h : k = 0
  · subst h; simp
  · rw [if_neg (fun e => h ((ofNat_zero hk).mp e)), ho (by omega)]; rfl

theorem rw6_congr (f6 : Bf Ideal c M6) {o o' : Fin 4 → ℕ} {h : ∀ a, o a + S1x1x256x128.size a ≤ S3x4x1792x384.size a} {h' : ∀ a, o' a + S1x1x256x128.size a ≤ S3x4x1792x384.size a} (e : o = o') :
    rw6 f6 o h = rw6 f6 o' h' := by subst e; rfl

variable (X W Z S) in
/-- The carried state before trip `t`. -/
structure Inv (f6 : Bf Ideal c M6) (t : ℕ) (mx : Mxu Ideal) (f9 : Bf Ideal c M9) (f10 : Bf Ideal c M10) (f11 : Bf Ideal c M11) : Prop where
  allF : AllF mx
  head : ∃ w v, Head mx w v ∧ (∀ k : Fin k0_t1_loop.trips, k.val = t → w = fA (rw6 f6 (k0_off57 k) (k0_off57_inb k)))
    ∧ (0 < t → ∀ (q : Fin 2) (r : Fin 96) (y : Fin 256), (v q (ix2 r y) : EReal) = T X W r.val (ki (t - 1)) (128 * bi (t - 1) + y.val % 128) (4 + 2 * q.val + y.val / 128))
  b9 : 0 < t → ∀ (r : Fin 96) (l : Fin 128), v9 f9 (ix2 r l) = PX X r.val (min ((t + 2) / 3) 4)
  b10 : ∀ i : S9x96x1024.Idx, 0 < na (i 0).val (if (i 2).val < 512 then t else t - 1) →
    v10 f10 i = PT X W (i 1).val (128 * (i 0).val + (i 2).val % 128) ((i 2).val / 128) (na (i 0).val (if (i 2).val < 512 then t else t - 1))
  b11 : ∀ i : S9x96x1024.Idx, 3 * (i 0).val + (i 1).val / 32 < ec t → v11 f11 i = Yv X W Z S (i 0).val (i 1).val (i 2).val

theorem eta3 (i : S9x96x1024.Idx) : ix3 (i 0) (i 1) (i 2) = i := by
  funext a
  match a with
  | ⟨0, _⟩ => rfl
  | ⟨1, _⟩ => rfl
  | ⟨2, _⟩ => rfl

/-- A finished element is the result's, once its sums are complete. -/
theorem yv_done (f7 : Bf Ideal c M7) (f8 : Bf Ideal c M8) (g9 : Bf Ideal c M9) (g10 : Bf Ideal c M10)
    (h7 : ∀ i : S9x128.Idx, f7 i = Z (128 * (i 0).val + (i 1).val)) (h8 : ∀ i : S9x8x128.Idx, (f8 i : EReal) = S (1024 * (i 0).val + 8 * (i 2).val + (i 1).val))
    (b : Fin 9) (r : Fin 96) (q : Fin 1024) (h9 : ∀ l : Fin 128, v9 g9 (ix2 r l) = PX X r.val 4)
    (h10 : ∀ m : Fin 1024, v10 g10 (ix3 b r m) = PT X W r.val (128 * b.val + m.val % 128) (m.val / 128) 4) :
    yv f7 f8 g9 g10 b r q = Yv X W Z S b.val r.val q.val := by
  unfold yv Yv
  rw [h7, h9, h10, h8]
  have hf := fld_lt (q.val % 8)
  have hq := q.isLt
  have e1 : (128 * fld (q.val % 8) + q.val / 8) % 128 = q.val / 8 := by omega
  have e2 : (128 * fld (q.val % 8) + q.val / 8) / 128 = fld (q.val % 8) := by omega
  show pv (Z (128 * b.val + q.val / 8)) _ _ (PT X W r.val (128 * b.val + (128 * fld (q.val % 8) + q.val / 8) % 128) ((128 * fld (q.val % 8) + q.val / 8) / 128) 4) (S (1024 * b.val + 8 * (q.val / 8) + q.val % 8)) = _
  rw [e1, e2, show 1024 * b.val + 8 * (q.val / 8) + q.val % 8 = 1024 * b.val + q.val by omega]

/-- The half of the sums that a trip adds first. -/
theorem half_b {f6 : Bf Ideal c M6} {k : Fin k0_t1_loop.trips} {mx f9 f10 f11} (hI : Inv X W Z S f6 k.val mx f9 f10 f11) (v : Fin 2 → Acc Ideal)
    (hv : 0 < k.val → ∀ (q : Fin 2) (r : Fin 96) (y : Fin 256), (v q (ix2 r y) : EReal) = T X W r.val (ki (k.val - 1)) (128 * bi (k.val - 1) + y.val % 128) (4 + 2 * q.val + y.val / 128))
    (i : S9x96x1024.Idx) (hn : 0 < na (i 0).val k.val) :
    v10 (dr f10 (k0_off30 k) (k0_off31 k) (k0_off30_inb k) (k0_off31_inb k) (kprev k) v) i
      = PT X W (i 1).val (128 * (i 0).val + (i 2).val % 128) ((i 2).val / 128) (na (i 0).val k.val) := by
  have k36 := trips36 k
  have l0 : (i 0).val < 9 := (i 0).isLt
  have l2 : (i 2).val < 1024 := (i 2).isLt
  have hk0 : 0 < k.val := by
    rcases Nat.eq_zero_or_pos k.val with h | h
    · rw [h, na_zero _ l0] at hn; omega
    · exact h
  have hs := na_succ (k.val - 1) (by omega) _ l0
  rw [Nat.sub_add_cancel hk0] at hs
  have hb := hI.b10 i
  by_cases hh : (i 2).val < 512
  · rw [if_pos hh] at hb
    refine (dr_out (c := c) f10 (k0_off30_inb k) (k0_off31_inb k) _ v (off30 k) (off31 k) i (by omega)).trans (hb hn)
  · rw [if_neg hh] at hb
    by_cases hi : (i 0).val = bi (k.val - 1)
    · rw [if_pos hi] at hs
      have hq : (i 2).val = 512 + 256 * ((i 2).val / 256 - 2) + (i 2).val % 256 := by omega
      refine (dr_in (c := c) f10 (k0_off30_inb k) (k0_off31_inb k) _ v (off30 k) (off31 k) ⟨(i 2).val / 256 - 2, by omega⟩ i (i 1) ⟨(i 2).val % 256, by omega⟩ hi rfl hq).trans ?_
      rw [hs, kprev_eq]
      have e := na_bi (k.val - 1) (by omega)
      rw [← hi] at e
      rw [e] at hb ⊢
      refine commit (ki_lt _ (by omega)) _ _ hb ?_
      refine (hv hk0 _ _ _).trans ?_
      show T X W _ _ (128 * bi (k.val - 1) + (i 2).val % 256 % 128) (4 + 2 * ((i 2).val / 256 - 2) + (i 2).val % 256 / 128) = _
      rw [← hi]
      congr 1 <;> omega
    · rw [if_neg hi] at hs
      rw [hs] at hn ⊢
      exact (dr_out (c := c) f10 (k0_off30_inb k) (k0_off31_inb k) _ v (off30 k) (off31 k) i (by omega)).trans (hb hn)

theorem step {f5 : Bf Ideal c M5} {f6 : Bf Ideal c M6} {f7 : Bf Ideal c M7} {f8 : Bf Ideal c M8}
    (h5 : ∀ i : S4x96x1792.Idx, (f5 i : EReal) = X (i 1).val (1792 * (i 0).val + (i 2).val))
    (h6 : ∀ i : S3x4x1792x384.Idx, f6 i = W (1792 * (i 1).val + (i 2).val) (384 * (i 0).val + (i 3).val))
    (h7 : ∀ i : S9x128.Idx, f7 i = Z (128 * (i 0).val + (i 1).val)) (h8 : ∀ i : S9x8x128.Idx, (f8 i : EReal) = S (1024 * (i 0).val + 8 * (i 2).val + (i 1).val))
    (k : Fin k0_t1_loop.trips) {mx : Mxu Ideal} {f9 : Bf Ideal c M9} {f10 : Bf Ideal c M10} {f11 : Bf Ideal c M11} (hI : Inv X W Z S f6 k.val mx f9 f10 f11) :
    Inv X W Z S f6 (k.val + 1) (trip f5 f6 f7 f8 k mx f9 f10 f11).mx (trip f5 f6 f7 f8 k mx f9 f10 f11).b9 (trip f5 f6 f7 f8 k mx f9 f10 f11).b10 (trip f5 f6 f7 f8 k mx f9 f10 f11).b11 := by
  obtain ⟨w, v, hh, hw, hv⟩ := hI.head
  have tv := trip_vals (f5 := f5) (f6 := f6) (f7 := f7) (f8 := f8) (k0_t1 := k) (f9 := f9) (f10 := f10) (f11 := f11) hI.allF hh
  generalize trip f5 f6 f7 f8 k mx f9 f10 f11 = o at tv ⊢
  have k36 := trips36 k
  have H9 : ∀ (r : Fin 96) (l : Fin 128), v9 o.b9 (ix2 r l) = PX X r.val (min ((k.val + 1 + 2) / 3) 4) := by
    intro r l
    rw [tv.b9]
    refine (xs_val h5 k f9 r l).trans ?_
    have hb := hI.b9
    by_cases hc : k.val < 12 ∧ k.val % 3 = 0
    · rw [if_pos hc]
      have e1 : ki k.val = k.val / 3 := by unfold ki; rw [if_pos hc.1]
      have e2 : min ((k.val + 1 + 2) / 3) 4 = k.val / 3 + 1 := by omega
      rw [e1, e2]
      unfold PX
      rw [Finset.sum_range_succ]
      congr 1
      by_cases h0 : k.val = 0
      · rw [if_pos h0, h0]; simp
      · rw [if_neg h0, hb (by omega) r l, show min ((k.val + 2) / 3) 4 = k.val / 3 by omega]; rfl
    · rw [if_neg hc, hb (by omega) r l]
      congr 1; omega
  refine ⟨tv.allF, ⟨_, _, tv.mx, ?_, ?_⟩, fun _ => H9, ?_, ?_⟩
  · intro k' hk'
    refine congrArg fA (rw6_congr f6 ?_)
    rw [off60, off57]
    have := trips36 k'
    have e : cn k.val = k'.val := by unfold cn; omega
    rw [e]
  · intro _ q r y
    exact vB_val h5 h6 k q r y
  · intro i
    have l0 : (i 0).val < 9 := (i 0).isLt
    have l2 : (i 2).val < 1024 := (i 2).isLt
    intro hn
    rw [tv.b10]
    have hs := na_succ k.val k36 _ l0
    by_cases hlt : (i 2).val < 512
    · rw [if_pos hlt] at hn ⊢
      by_cases hi : (i 0).val = bi k.val
      · rw [if_pos hi] at hs
        have hq : (i 2).val = 0 + 256 * ((i 2).val / 256) + (i 2).val % 256 := by omega
        refine (dr_in (c := c) _ (k0_off58_inb k) (k0_off59_inb k) _ _ (off58 k) (off59 k) ⟨(i 2).val / 256, by omega⟩ i (i 1) ⟨(i 2).val % 256, by omega⟩ hi rfl hq).trans ?_
        rw [hs, kcur_eq]
        have e := na_bi k.val k36
        rw [← hi] at e
        have hb := half_b hI v hv i
        rw [e] at hb ⊢
        refine commit (ki_lt _ k36) _ _ hb ?_
        refine (vA_val h5 h6 k w (hw k rfl) _ _ _).trans ?_
        show T X W _ _ (128 * bi k.val + (i 2).val % 256 % 128) (2 * ((i 2).val / 256) + (i 2).val % 256 / 128) = _
        rw [← hi]
        congr 1 <;> omega
      · rw [if_neg hi] at hs
        rw [hs] at hn ⊢
        exact (dr_out (c := c) _ (k0_off58_inb k) (k0_off59_inb k) _ _ (off58 k) (off59 k) i (fun h => hi h.1)).trans (half_b hI v hv i hn)
    · rw [if_neg hlt, Nat.add_sub_cancel] at hn ⊢
      exact (dr_out (c := c) _ (k0_off58_inb k) (k0_off59_inb k) _ _ (off58 k) (off59 k) i (by omega)).trans (half_b hI v hv i hn)
  · intro i hi
    have l0 : (i 0).val < 9 := (i 0).isLt
    have l1 : (i 1).val < 96 := (i 1).isLt
    have ht : 12 ≤ k.val := by unfold ec at hi; omega
    rw [tv.b11]
    by_cases hin : (i 0).val = ec k.val / 3 ∧ (i 1).val / 32 = ec k.val % 3
    · refine (ep_in f7 f8 _ _ f11 k i hin.1 hin.2).trans ?_
      refine yv_done f7 f8 _ _ h7 h8 (i 0) (i 1) (i 2) ?_ ?_
      · intro l
        refine (H9 _ _).trans ?_
        congr 1; omega
      · intro m
        have e := na_done k.val k36 ht
        rw [← hin.1] at e
        have := half_b hI v hv (ix3 (i 0) (i 1) m) (by show 0 < na (i 0).val k.val; omega)
        refine this.trans ?_
        show PT X W (i 1).val (128 * (i 0).val + m.val % 128) (m.val / 128) (na (i 0).val k.val) = _
        rw [e]
    · refine (ep_out f7 f8 _ _ f11 k i hin).trans (hI.b11 i ?_)
      unfold ec at hi hin ⊢
      omega

/-- The arrays of the call, the staged result asked to be the result. -/
def AV (X : ℕ → ℕ → EReal) (W : ℕ → ℕ → BitVec 32) (Z : ℕ → BitVec 32) (S : ℕ → EReal) (f0 : Bf Ideal c M0) (f1 : Bf Ideal c M1) (f2 : Bf Ideal c M2) (f4 : Bf Ideal c M4) (f8 : Bf Ideal c M8) : Par Ideal c :=
  ⟨f0, f1, f4, L7 f2, f8, fun p g => ∀ i : S9x96x1024.Idx, (i 0).val = p → v11 g i = Yv X W Z S (i 0).val (i 1).val (i 2).val⟩

theorem keepsV {f0 : Bf Ideal c M0} {f1 : Bf Ideal c M1} {f2 : Bf Ideal c M2} {f4 : Bf Ideal c M4} {f8 : Bf Ideal c M8}
    (h5 : ∀ i : S4x96x1792.Idx, (F5 f0 i : EReal) = X (i 1).val (1792 * (i 0).val + (i 2).val))
    (h6 : ∀ i : S3x4x1792x384.Idx, F6 f1 i = W (1792 * (i 1).val + (i 2).val) (384 * (i 0).val + (i 3).val))
    (h7 : ∀ i : S9x128.Idx, L7 f2 i = Z (128 * (i 0).val + (i 1).val)) (h8 : ∀ i : S9x8x128.Idx, (f8 i : EReal) = S (1024 * (i 0).val + 8 * (i 2).val + (i 1).val)) :
    Keeps (AV X W Z S f0 f1 f2 f4 f8) (Inv X W Z S (F6 f1)) where
  allF h := h.allF
  good h he i hi := h.b11 i (by
    have l1 : (i 1).val < 96 := (i 1).isLt
    obtain ⟨e1, e2⟩ := he
    unfold ny at hi
    unfold ec at e1 e2 ⊢
    omega)
  step k h := step h5 h6 h7 h8 k h

theorem inv0 {f1 : Bf Ideal c M1} {f9 : Bf Ideal c M9} {f10 : Bf Ideal c M10} {f11 : Bf Ideal c M11} {mx : Mxu Ideal} (hm : AllF mx) (w : Tl Ideal) (v : Fin 2 → Acc Ideal) (hh : Head mx w v) (hw : w = fA (w00 (F6 f1))) :
    Inv X W Z S (F6 f1) 0 mx f9 f10 f11 := by
  refine ⟨hm, ⟨w, v, hh, ?_, fun h => absurd h (lt_irrefl 0)⟩, fun h => absurd h (lt_irrefl 0), ?_, ?_⟩
  · intro k hk
    rw [hw]
    refine congrArg fA (rw6_congr (F6 f1) ?_)
    rw [off57, hk]
    decide
  · intro i hn
    have l0 : (i 0).val < 9 := (i 0).isLt
    have e : na (i 0).val (if (i 2).val < 512 then 0 else 0 - 1) = 0 := by
      have : (if (i 2).val < 512 then 0 else 0 - 1) = 0 := by split <;> rfl
      rw [this]; exact na_zero _ l0
    omega
  · intro i h
    unfold ec at h
    omega

end

end Cert.Kernel.Hand
-- ==== Proof.Kernel.Last.lean ====
/- The last block's finished rows, element by element. -/
module

public import proofs.«01_k».proof.Proof.Kernel.Inv

@[expose] public section

set_option maxHeartbeats 8000000
noncomputable section

namespace Cert.Kernel.Hand

open Cert.Kernel Cert.Kernel.Gen Cert.Schedule
open Idealize.ShloMosaic Idealize.ShloMosaic.TcCoe Idealize.ShloMosaic.Tactic
open Cert.MxuSpec Idealize.ShloMosaic.ValueIdx

section
variable {c : Dev nD}

/-- The last block's pieces out of the buffers. -/
def fin8 (f7 : Bf Ideal c M7) (f8 : Bf Ideal c M8) (g9 : Bf Ideal c M9) (g10 : Bf Ideal c M10) : Fin 8 → FVec Ideal S1x96x128 .bf16 := fin96 ((M7.access (Rect.unit (s := S9x128) ![8, 0] S1x128.size inb_S9x128_S1x128_8_0)).read (Elt Ideal) f7) ((M9.access (Rect.unit (s := S96x128) ![0, 0] S96x128.size inb_S96x128_S96x128_0_0)).read (Elt Ideal) g9) ((M10.access (Rect.unit (s := S9x96x1024) ![8, 0, 0] S1x96x128.size inb_S9x96x1024_S1x96x128_8_0_0)).read (Elt Ideal) g10) ((M8.access (Rect.unit (s := S9x8x128) ![8, 0, 0] S1x1x128.size inb_S9x8x128_S1x1x128_8_0_0)).read (Elt Ideal) f8) ((M10.access (Rect.unit (s := S9x96x1024) ![8, 0, 512] S1x96x128.size inb_S9x96x1024_S1x96x128_8_0_512)).read (Elt Ideal) g10) ((M8.access (Rect.unit (s := S9x8x128) ![8, 1, 0] S1x1x128.size inb_S9x8x128_S1x1x128_8_1_0)).read (Elt Ideal) f8) ((M10.access (Rect.unit (s := S9x96x1024) ![8, 0, 128] S1x96x128.size inb_S9x96x1024_S1x96x128_8_0_128)).read (Elt Ideal) g10) ((M8.access (Rect.unit (s := S9x8x128) ![8, 2, 0] S1x1x128.size inb_S9x8x128_S1x1x128_8_2_0)).read (Elt Ideal) f8) ((M10.access (Rect.unit (s := S9x96x1024) ![8, 0, 640] S1x96x128.size inb_S9x96x1024_S1x96x128_8_0_640)).read (Elt Ideal) g10) ((M8.access (Rect.unit (s := S9x8x128) ![8, 3, 0] S1x1x128.size inb_S9x8x128_S1x1x128_8_3_0)).read (Elt Ideal) f8) ((M10.access (Rect.unit (s := S9x96x1024) ![8, 0, 256] S1x96x128.size inb_S9x96x1024_S1x96x128_8_0_256)).read (Elt Ideal) g10) ((M8.access (Rect.unit (s := S9x8x128) ![8, 4, 0] S1x1x128.size inb_S9x8x128_S1x1x128_8_4_0)).read (Elt Ideal) f8) ((M10.access (Rect.unit (s := S9x96x1024) ![8, 0, 768] S1x96x128.size inb_S9x96x1024_S1x96x128_8_0_768)).read (Elt Ideal) g10) ((M8.access (Rect.unit (s := S9x8x128) ![8, 5, 0] S1x1x128.size inb_S9x8x128_S1x1x128_8_5_0)).read (Elt Ideal) f8) ((M10.access (Rect.unit (s := S9x96x1024) ![8, 0, 384] S1x96x128.size inb_S9x96x1024_S1x96x128_8_0_384)).read (Elt Ideal) g10) ((M8.access (Rect.unit (s := S9x8x128) ![8, 6, 0] S1x1x128.size inb_S9x8x128_S1x1x128_8_6_0)).read (Elt Ideal) f8) ((M10.access (Rect.unit (s := S9x96x1024) ![8, 0, 896] S1x96x128.size inb_S9x96x1024_S1x96x128_8_0_896)).read (Elt Ideal) g10) ((M8.access (Rect.unit (s := S9x8x128) ![8, 7, 0] S1x1x128.size inb_S9x8x128_S1x1x128_8_7_0)).read (Elt Ideal) f8)

theorem ps_read8 (f7 : Bf Ideal c M7) (f8 : Bf Ideal c M8) (g9 : Bf Ideal c M9) (g10 : Bf Ideal c M10) (r : Fin 96) (a : Fin 8) (m : Fin 128) (q : Fin 1024) (hq : q.val = 8 * m.val + a.val) :
    ps96 ((M7.access (Rect.unit (s := S9x128) ![8, 0] S1x128.size inb_S9x128_S1x128_8_0)).read (Elt Ideal) f7) ((M9.access (Rect.unit (s := S96x128) ![0, 0] S96x128.size inb_S96x128_S96x128_0_0)).read (Elt Ideal) g9) ((M10.access (Rect.unit (s := S9x96x1024) ![8, 0, 0] S1x96x128.size inb_S9x96x1024_S1x96x128_8_0_0)).read (Elt Ideal) g10) ((M8.access (Rect.unit (s := S9x8x128) ![8, 0, 0] S1x1x128.size inb_S9x8x128_S1x1x128_8_0_0)).read (Elt Ideal) f8) ((M10.access (Rect.unit (s := S9x96x1024) ![8, 0, 512] S1x96x128.size inb_S9x96x1024_S1x96x128_8_0_512)).read (Elt Ideal) g10) ((M8.access (Rect.unit (s := S9x8x128) ![8, 1, 0] S1x1x128.size inb_S9x8x128_S1x1x128_8_1_0)).read (Elt Ideal) f8) ((M10.access (Rect.unit (s := S9x96x1024) ![8, 0, 128] S1x96x128.size inb_S9x96x1024_S1x96x128_8_0_128)).read (Elt Ideal) g10) ((M8.access (Rect.unit (s := S9x8x128) ![8, 2, 0] S1x1x128.size inb_S9x8x128_S1x1x128_8_2_0)).read (Elt Ideal) f8) ((M10.access (Rect.unit (s := S9x96x1024) ![8, 0, 640] S1x96x128.size inb_S9x96x1024_S1x96x128_8_0_640)).read (Elt Ideal) g10) ((M8.access (Rect.unit (s := S9x8x128) ![8, 3, 0] S1x1x128.size inb_S9x8x128_S1x1x128_8_3_0)).read (Elt Ideal) f8) ((M10.access (Rect.unit (s := S9x96x1024) ![8, 0, 256] S1x96x128.size inb_S9x96x1024_S1x96x128_8_0_256)).read (Elt Ideal) g10) ((M8.access (Rect.unit (s := S9x8x128) ![8, 4, 0] S1x1x128.size inb_S9x8x128_S1x1x128_8_4_0)).read (Elt Ideal) f8) ((M10.access (Rect.unit (s := S9x96x1024) ![8, 0, 768] S1x96x128.size inb_S9x96x1024_S1x96x128_8_0_768)).read (Elt Ideal) g10) ((M8.access (Rect.unit (s := S9x8x128) ![8, 5, 0] S1x1x128.size inb_S9x8x128_S1x1x128_8_5_0)).read (Elt Ideal) f8) ((M10.access (Rect.unit (s := S9x96x1024) ![8, 0, 384] S1x96x128.size inb_S9x96x1024_S1x96x128_8_0_384)).read (Elt Ideal) g10) ((M8.access (Rect.unit (s := S9x8x128) ![8, 6, 0] S1x1x128.size inb_S9x8x128_S1x1x128_8_6_0)).read (Elt Ideal) f8) ((M10.access (Rect.unit (s := S9x96x1024) ![8, 0, 896] S1x96x128.size inb_S9x96x1024_S1x96x128_8_0_896)).read (Elt Ideal) g10) ((M8.access (Rect.unit (s := S9x8x128) ![8, 7, 0] S1x1x128.size inb_S9x8x128_S1x1x128_8_7_0)).read (Elt Ideal) f8) r a m = yv f7 f8 g9 g10 8 r q := by
  have hd : q.val / 8 = m.val := by omega
  have hm : (⟨q.val / 8, by omega⟩ : Fin 128) = m := Fin.ext hd
  have hz : ((M7.access (Rect.unit (s := S9x128) ![8, 0] S1x128.size inb_S9x128_S1x128_8_0)).read (Elt Ideal) f7) (ix2 0 m) = f7 (ix2 8 m) :=
    rd7 (c := c) (F := Ideal) inb_S9x128_S1x128_8_0 f7 0 m _ rfl (Nat.zero_add _).symm
  have hx : ((M9.access (Rect.unit (s := S96x128) ![0, 0] S96x128.size inb_S96x128_S96x128_0_0)).read (Elt Ideal) g9) (ix2 r m) = g9 (ix2 r m) :=
    rd9 (c := c) (F := Ideal) (n := 96) inb_S96x128_S96x128_0_0 g9 r m _ (Nat.zero_add _).symm (Nat.zero_add _).symm
  match a, hq with
  | 0, hq =>
    have ha : q.val % 8 = 0 := by have : q.val = 8 * m.val + 0 := hq; omega
    have h1 : ((M10.access (Rect.unit (s := S9x96x1024) ![8, 0, 0] S1x96x128.size inb_S9x96x1024_S1x96x128_8_0_0)).read (Elt Ideal) g10) (ix3 0 r m) = g10 (ix3 8 r ⟨0 + m.val, by omega⟩) :=
      rd10 (c := c) (F := Ideal) (n := 96) (m := 128) inb_S9x96x1024_S1x96x128_8_0_0 g10 0 r m _ rfl (Nat.zero_add _).symm rfl
    have h2 : ((M8.access (Rect.unit (s := S9x8x128) ![8, 0, 0] S1x1x128.size inb_S9x8x128_S1x1x128_8_0_0)).read (Elt Ideal) f8) (ix3 0 0 m) = f8 (ix3 8 0 m) :=
      rd8 (c := c) (F := Ideal) (n := 1) inb_S9x8x128_S1x1x128_8_0_0 f8 0 0 m _ rfl rfl (Nat.zero_add _).symm
    show pv (((M7.access (Rect.unit (s := S9x128) ![8, 0] S1x128.size inb_S9x128_S1x128_8_0)).read (Elt Ideal) f7) (ix2 0 m)) 0 (((M9.access (Rect.unit (s := S96x128) ![0, 0] S96x128.size inb_S96x128_S96x128_0_0)).read (Elt Ideal) g9) (ix2 r m)) (((M10.access (Rect.unit (s := S9x96x1024) ![8, 0, 0] S1x96x128.size inb_S9x96x1024_S1x96x128_8_0_0)).read (Elt Ideal) g10) (ix3 0 r m)) (((M8.access (Rect.unit (s := S9x8x128) ![8, 0, 0] S1x1x128.size inb_S9x8x128_S1x1x128_8_0_0)).read (Elt Ideal) f8) (ix3 0 0 m)) = _
    rw [hz, hx, h1, h2]
    unfold yv
    have e1 : (⟨128 * fld (q.val % 8) + q.val / 8, by have := fld_lt (q.val % 8); omega⟩ : Fin 1024) = ⟨0 + m.val, by omega⟩ := by
      apply Fin.ext; show 128 * fld (q.val % 8) + q.val / 8 = 0 + m.val; rw [ha, hd]; rfl
    have e2 : (⟨q.val % 8, by omega⟩ : Fin 8) = 0 := Fin.ext ha
    rw [hm, e1, e2, ha]
    rfl
  | 1, hq =>
    have ha : q.val % 8 = 1 := by have : q.val = 8 * m.val + 1 := hq; omega
    have h1 : ((M10.access (Rect.unit (s := S9x96x1024) ![8, 0, 512] S1x96x128.size inb_S9x96x1024_S1x96x128_8_0_512)).read (Elt Ideal) g10) (ix3 0 r m) = g10 (ix3 8 r ⟨512 + m.val, by omega⟩) :=
      rd10 (c := c) (F := Ideal) (n := 96) (m := 128) inb_S9x96x1024_S1x96x128_8_0_512 g10 0 r m _ rfl (Nat.zero_add _).symm rfl
    have h2 : ((M8.access (Rect.unit (s := S9x8x128) ![8, 1, 0] S1x1x128.size inb_S9x8x128_S1x1x128_8_1_0)).read (Elt Ideal) f8) (ix3 0 0 m) = f8 (ix3 8 1 m) :=
      rd8 (c := c) (F := Ideal) (n := 1) inb_S9x8x128_S1x1x128_8_1_0 f8 0 0 m _ rfl rfl (Nat.zero_add _).symm
    show pv (((M7.access (Rect.unit (s := S9x128) ![8, 0] S1x128.size inb_S9x128_S1x128_8_0)).read (Elt Ideal) f7) (ix2 0 m)) 4 (((M9.access (Rect.unit (s := S96x128) ![0, 0] S96x128.size inb_S96x128_S96x128_0_0)).read (Elt Ideal) g9) (ix2 r m)) (((M10.access (Rect.unit (s := S9x96x1024) ![8, 0, 512] S1x96x128.size inb_S9x96x1024_S1x96x128_8_0_512)).read (Elt Ideal) g10) (ix3 0 r m)) (((M8.access (Rect.unit (s := S9x8x128) ![8, 1, 0] S1x1x128.size inb_S9x8x128_S1x1x128_8_1_0)).read (Elt Ideal) f8) (ix3 0 0 m)) = _
    rw [hz, hx, h1, h2]
    unfold yv
    have e1 : (⟨128 * fld (q.val % 8) + q.val / 8, by have := fld_lt (q.val % 8); omega⟩ : Fin 1024) = ⟨512 + m.val, by omega⟩ := by
      apply Fin.ext; show 128 * fld (q.val % 8) + q.val / 8 = 512 + m.val; rw [ha, hd]; rfl
    have e2 : (⟨q.val % 8, by omega⟩ : Fin 8) = 1 := Fin.ext ha
    rw [hm, e1, e2, ha]
    rfl
  | 2, hq =>
    have ha : q.val % 8 = 2 := by have : q.val = 8 * m.val + 2 := hq; omega
    have h1 : ((M10.access (Rect.unit (s := S9x96x1024) ![8, 0, 128] S1x96x128.size inb_S9x96x1024_S1x96x128_8_0_128)).read (Elt Ideal) g10) (ix3 0 r m) = g10 (ix3 8 r ⟨128 + m.val, by omega⟩) :=
      rd10 (c := c) (F := Ideal) (n := 96) (m := 128) inb_S9x96x1024_S1x96x128_8_0_128 g10 0 r m _ rfl (Nat.zero_add _).symm rfl
    have h2 : ((M8.access (Rect.unit (s := S9x8x128) ![8, 2, 0] S1x1x128.size inb_S9x8x128_S1x1x128_8_2_0)).read (Elt Ideal) f8) (ix3 0 0 m) = f8 (ix3 8 2 m) :=
      rd8 (c := c) (F := Ideal) (n := 1) inb_S9x8x128_S1x1x128_8_2_0 f8 0 0 m _ rfl rfl (Nat.zero_add _).symm
    show pv (((M7.access (Rect.unit (s := S9x128) ![8, 0] S1x128.size inb_S9x128_S1x128_8_0)).read (Elt Ideal) f7) (ix2 0 m)) 1 (((M9.access (Rect.unit (s := S96x128) ![0, 0] S96x128.size inb_S96x128_S96x128_0_0)).read (Elt Ideal) g9) (ix2 r m)) (((M10.access (Rect.unit (s := S9x96x1024) ![8, 0, 128] S1x96x128.size inb_S9x96x1024_S1x96x128_8_0_128)).read (Elt Ideal) g10) (ix3 0 r m)) (((M8.access (Rect.unit (s := S9x8x128) ![8, 2, 0] S1x1x128.size inb_S9x8x128_S1x1x128_8_2_0)).read (Elt Ideal) f8) (ix3 0 0 m)) = _
    rw [hz, hx, h1, h2]
    unfold yv
    have e1 : (⟨128 * fld (q.val % 8) + q.val / 8, by have := fld_lt (q.val % 8); omega⟩ : Fin 1024) = ⟨128 + m.val, by omega⟩ := by
      apply Fin.ext; show 128 * fld (q.val % 8) + q.val / 8 = 128 + m.val; rw [ha, hd]; rfl
    have e2 : (⟨q.val % 8, by omega⟩ : Fin 8) = 2 := Fin.ext ha
    rw [hm, e1, e2, ha]
    rfl
  | 3, hq =>
    have ha : q.val % 8 = 3 := by have : q.val = 8 * m.val + 3 := hq; omega
    have h1 : ((M10.access (Rect.unit (s := S9x96x1024) ![8, 0, 640] S1x96x128.size inb_S9x96x1024_S1x96x128_8_0_640)).read (Elt Ideal) g10) (ix3 0 r m) = g10 (ix3 8 r ⟨640 + m.val, by omega⟩) :=
      rd10 (c := c) (F := Ideal) (n := 96) (m := 128) inb_S9x96x1024_S1x96x128_8_0_640 g10 0 r m _ rfl (Nat.zero_add _).symm rfl
    have h2 : ((M8.access (Rect.unit (s := S9x8x128) ![8, 3, 0] S1x1x128.size inb_S9x8x128_S1x1x128_8_3_0)).read (Elt Ideal) f8) (ix3 0 0 m) = f8 (ix3 8 3 m) :=
      rd8 (c := c) (F := Ideal) (n := 1) inb_S9x8x128_S1x1x128_8_3_0 f8 0 0 m _ rfl rfl (Nat.zero_add _).symm
    show pv (((M7.access (Rect.unit (s := S9x128) ![8, 0] S1x128.size inb_S9x128_S1x128_8_0)).read (Elt Ideal) f7) (ix2 0 m)) 5 (((M9.access (Rect.unit (s := S96x128) ![0, 0] S96x128.size inb_S96x128_S96x128_0_0)).read (Elt Ideal) g9) (ix2 r m)) (((M10.access (Rect.unit (s := S9x96x1024) ![8, 0, 640] S1x96x128.size inb_S9x96x1024_S1x96x128_8_0_640)).read (Elt Ideal) g10) (ix3 0 r m)) (((M8.access (Rect.unit (s := S9x8x128) ![8, 3, 0] S1x1x128.size inb_S9x8x128_S1x1x128_8_3_0)).read (Elt Ideal) f8) (ix3 0 0 m)) = _
    rw [hz, hx, h1, h2]
    unfold yv
    have e1 : (⟨128 * fld (q.val % 8) + q.val / 8, by have := fld_lt (q.val % 8); omega⟩ : Fin 1024) = ⟨640 + m.val, by omega⟩ := by
      apply Fin.ext; show 128 * fld (q.val % 8) + q.val / 8 = 640 + m.val; rw [ha, hd]; rfl
    have e2 : (⟨q.val % 8, by omega⟩ : Fin 8) = 3 := Fin.ext ha
    rw [hm, e1, e2, ha]
    rfl
  | 4, hq =>
    have ha : q.val % 8 = 4 := by have : q.val = 8 * m.val + 4 := hq; omega
    have h1 : ((M10.access (Rect.unit (s := S9x96x1024) ![8, 0, 256] S1x96x128.size inb_S9x96x1024_S1x96x128_8_0_256)).read (Elt Ideal) g10) (ix3 0 r m) = g10 (ix3 8 r ⟨256 + m.val, by omega⟩) :=
      rd10 (c := c) (F := Ideal) (n := 96) (m := 128) inb_S9x96x1024_S1x96x128_8_0_256 g10 0 r m _ rfl (Nat.zero_add _).symm rfl
    have h2 : ((M8.access (Rect.unit (s := S9x8x128) ![8, 4, 0] S1x1x128.size inb_S9x8x128_S1x1x128_8_4_0)).read (Elt Ideal) f8) (ix3 0 0 m) = f8 (ix3 8 4 m) :=
      rd8 (c := c) (F := Ideal) (n := 1) inb_S9x8x128_S1x1x128_8_4_0 f8 0 0 m _ rfl rfl (Nat.zero_add _).symm
    show pv (((M7.access (Rect.unit (s := S9x128) ![8, 0] S1x128.size inb_S9x128_S1x128_8_0)).read (Elt Ideal) f7) (ix2 0 m)) 2 (((M9.access (Rect.unit (s := S96x128) ![0, 0] S96x128.size inb_S96x128_S96x128_0_0)).read (Elt Ideal) g9) (ix2 r m)) (((M10.access (Rect.unit (s := S9x96x1024) ![8, 0, 256] S1x96x128.size inb_S9x96x1024_S1x96x128_8_0_256)).read (Elt Ideal) g10) (ix3 0 r m)) (((M8.access (Rect.unit (s := S9x8x128) ![8, 4, 0] S1x1x128.size inb_S9x8x128_S1x1x128_8_4_0)).read (Elt Ideal) f8) (ix3 0 0 m)) = _
    rw [hz, hx, h1, h2]
    unfold yv
    have e1 : (⟨128 * fld (q.val % 8) + q.val / 8, by have := fld_lt (q.val % 8); omega⟩ : Fin 1024) = ⟨256 + m.val, by omega⟩ := by
      apply Fin.ext; show 128 * fld (q.val % 8) + q.val / 8 = 256 + m.val; rw [ha, hd]; rfl
    have e2 : (⟨q.val % 8, by omega⟩ : Fin 8) = 4 := Fin.ext ha
    rw [hm, e1, e2, ha]
    rfl
  | 5, hq =>
    have ha : q.val % 8 = 5 := by have : q.val = 8 * m.val + 5 := hq; omega
    have h1 : ((M10.access (Rect.unit (s := S9x96x1024) ![8, 0, 768] S1x96x128.size inb_S9x96x1024_S1x96x128_8_0_768)).read (Elt Ideal) g10) (ix3 0 r m) = g10 (ix3 8 r ⟨768 + m.val, by omega⟩) :=
      rd10 (c := c) (F := Ideal) (n := 96) (m := 128) inb_S9x96x1024_S1x96x128_8_0_768 g10 0 r m _ rfl (Nat.zero_add _).symm rfl
    have h2 : ((M8.access (Rect.unit (s := S9x8x128) ![8, 5, 0] S1x1x128.size inb_S9x8x128_S1x1x128_8_5_0)).read (Elt Ideal) f8) (ix3 0 0 m) = f8 (ix3 8 5 m) :=
      rd8 (c := c) (F := Ideal) (n := 1) inb_S9x8x128_S1x1x128_8_5_0 f8 0 0 m _ rfl rfl (Nat.zero_add _).symm
    show pv (((M7.access (Rect.unit (s := S9x128) ![8, 0] S1x128.size inb_S9x128_S1x128_8_0)).read (Elt Ideal) f7) (ix2 0 m)) 6 (((M9.access (Rect.unit (s := S96x128) ![0, 0] S96x128.size inb_S96x128_S96x128_0_0)).read (Elt Ideal) g9) (ix2 r m)) (((M10.access (Rect.unit (s := S9x96x1024) ![8, 0, 768] S1x96x128.size inb_S9x96x1024_S1x96x128_8_0_768)).read (Elt Ideal) g10) (ix3 0 r m)) (((M8.access (Rect.unit (s := S9x8x128) ![8, 5, 0] S1x1x128.size inb_S9x8x128_S1x1x128_8_5_0)).read (Elt Ideal) f8) (ix3 0 0 m)) = _
    rw [hz, hx, h1, h2]
    unfold yv
    have e1 : (⟨128 * fld (q.val % 8) + q.val / 8, by have := fld_lt (q.val % 8); omega⟩ : Fin 1024) = ⟨768 + m.val, by omega⟩ := by
      apply Fin.ext; show 128 * fld (q.val % 8) + q.val / 8 = 768 + m.val; rw [ha, hd]; rfl
    have e2 : (⟨q.val % 8, by omega⟩ : Fin 8) = 5 := Fin.ext ha
    rw [hm, e1, e2, ha]
    rfl
  | 6, hq =>
    have ha : q.val % 8 = 6 := by have : q.val = 8 * m.val + 6 := hq; omega
    have h1 : ((M10.access (Rect.unit (s := S9x96x1024) ![8, 0, 384] S1x96x128.size inb_S9x96x1024_S1x96x128_8_0_384)).read (Elt Ideal) g10) (ix3 0 r m) = g10 (ix3 8 r ⟨384 + m.val, by omega⟩) :=
      rd10 (c := c) (F := Ideal) (n := 96) (m := 128) inb_S9x96x1024_S1x96x128_8_0_384 g10 0 r m _ rfl (Nat.zero_add _).symm rfl
    have h2 : ((M8.access (Rect.unit (s := S9x8x128) ![8, 6, 0] S1x1x128.size inb_S9x8x128_S1x1x128_8_6_0)).read (Elt Ideal) f8) (ix3 0 0 m) = f8 (ix3 8 6 m) :=
      rd8 (c := c) (F := Ideal) (n := 1) inb_S9x8x128_S1x1x128_8_6_0 f8 0 0 m _ rfl rfl (Nat.zero_add _).symm
    show pv (((M7.access (Rect.unit (s := S9x128) ![8, 0] S1x128.size inb_S9x128_S1x128_8_0)).read (Elt Ideal) f7) (ix2 0 m)) 3 (((M9.access (Rect.unit (s := S96x128) ![0, 0] S96x128.size inb_S96x128_S96x128_0_0)).read (Elt Ideal) g9) (ix2 r m)) (((M10.access (Rect.unit (s := S9x96x1024) ![8, 0, 384] S1x96x128.size inb_S9x96x1024_S1x96x128_8_0_384)).read (Elt Ideal) g10) (ix3 0 r m)) (((M8.access (Rect.unit (s := S9x8x128) ![8, 6, 0] S1x1x128.size inb_S9x8x128_S1x1x128_8_6_0)).read (Elt Ideal) f8) (ix3 0 0 m)) = _
    rw [hz, hx, h1, h2]
    unfold yv
    have e1 : (⟨128 * fld (q.val % 8) + q.val / 8, by have := fld_lt (q.val % 8); omega⟩ : Fin 1024) = ⟨384 + m.val, by omega⟩ := by
      apply Fin.ext; show 128 * fld (q.val % 8) + q.val / 8 = 384 + m.val; rw [ha, hd]; rfl
    have e2 : (⟨q.val % 8, by omega⟩ : Fin 8) = 6 := Fin.ext ha
    rw [hm, e1, e2, ha]
    rfl
  | 7, hq =>
    have ha : q.val % 8 = 7 := by have : q.val = 8 * m.val + 7 := hq; omega
    have h1 : ((M10.access (Rect.unit (s := S9x96x1024) ![8, 0, 896] S1x96x128.size inb_S9x96x1024_S1x96x128_8_0_896)).read (Elt Ideal) g10) (ix3 0 r m) = g10 (ix3 8 r ⟨896 + m.val, by omega⟩) :=
      rd10 (c := c) (F := Ideal) (n := 96) (m := 128) inb_S9x96x1024_S1x96x128_8_0_896 g10 0 r m _ rfl (Nat.zero_add _).symm rfl
    have h2 : ((M8.access (Rect.unit (s := S9x8x128) ![8, 7, 0] S1x1x128.size inb_S9x8x128_S1x1x128_8_7_0)).read (Elt Ideal) f8) (ix3 0 0 m) = f8 (ix3 8 7 m) :=
      rd8 (c := c) (F := Ideal) (n := 1) inb_S9x8x128_S1x1x128_8_7_0 f8 0 0 m _ rfl rfl (Nat.zero_add _).symm
    show pv (((M7.access (Rect.unit (s := S9x128) ![8, 0] S1x128.size inb_S9x128_S1x128_8_0)).read (Elt Ideal) f7) (ix2 0 m)) 7 (((M9.access (Rect.unit (s := S96x128) ![0, 0] S96x128.size inb_S96x128_S96x128_0_0)).read (Elt Ideal) g9) (ix2 r m)) (((M10.access (Rect.unit (s := S9x96x1024) ![8, 0, 896] S1x96x128.size inb_S9x96x1024_S1x96x128_8_0_896)).read (Elt Ideal) g10) (ix3 0 r m)) (((M8.access (Rect.unit (s := S9x8x128) ![8, 7, 0] S1x1x128.size inb_S9x8x128_S1x1x128_8_7_0)).read (Elt Ideal) f8) (ix3 0 0 m)) = _
    rw [hz, hx, h1, h2]
    unfold yv
    have e1 : (⟨128 * fld (q.val % 8) + q.val / 8, by have := fld_lt (q.val % 8); omega⟩ : Fin 1024) = ⟨896 + m.val, by omega⟩ := by
      apply Fin.ext; show 128 * fld (q.val % 8) + q.val / 8 = 896 + m.val; rw [ha, hd]; rfl
    have e2 : (⟨q.val % 8, by omega⟩ : Fin 8) = 7 := Fin.ext ha
    rw [hm, e1, e2, ha]
    rfl

/-- Eight pieces of the last block laid side by side. -/
def wrs8 (e : Fin 8 → FVec Ideal S1x96x128 .bf16) (f11 : Bf Ideal c M11) : Bf Ideal c M11 :=
  let y1 : Bf Ideal c M11 := (M11.access (Rect.unit (s := S9x96x1024) ![8, 0, 0] S1x96x128.size inb_S9x96x1024_S1x96x128_8_0_0)).write (Elt Ideal) f11 (e 0) Finset.univ
  let y2 : Bf Ideal c M11 := (M11.access (Rect.unit (s := S9x96x1024) ![8, 0, 128] S1x96x128.size inb_S9x96x1024_S1x96x128_8_0_128)).write (Elt Ideal) y1 (e 1) Finset.univ
  let y3 : Bf Ideal c M11 := (M11.access (Rect.unit (s := S9x96x1024) ![8, 0, 256] S1x96x128.size inb_S9x96x1024_S1x96x128_8_0_256)).write (Elt Ideal) y2 (e 2) Finset.univ
  let y4 : Bf Ideal c M11 := (M11.access (Rect.unit (s := S9x96x1024) ![8, 0, 384] S1x96x128.size inb_S9x96x1024_S1x96x128_8_0_384)).write (Elt Ideal) y3 (e 3) Finset.univ
  let y5 : Bf Ideal c M11 := (M11.access (Rect.unit (s := S9x96x1024) ![8, 0, 512] S1x96x128.size inb_S9x96x1024_S1x96x128_8_0_512)).write (Elt Ideal) y4 (e 4) Finset.univ
  let y6 : Bf Ideal c M11 := (M11.access (Rect.unit (s := S9x96x1024) ![8, 0, 640] S1x96x128.size inb_S9x96x1024_S1x96x128_8_0_640)).write (Elt Ideal) y5 (e 5) Finset.univ
  let y7 : Bf Ideal c M11 := (M11.access (Rect.unit (s := S9x96x1024) ![8, 0, 768] S1x96x128.size inb_S9x96x1024_S1x96x128_8_0_768)).write (Elt Ideal) y6 (e 6) Finset.univ
  let y8 : Bf Ideal c M11 := (M11.access (Rect.unit (s := S9x96x1024) ![8, 0, 896] S1x96x128.size inb_S9x96x1024_S1x96x128_8_0_896)).write (Elt Ideal) y7 (e 7) Finset.univ
  y8

theorem wrs8_in (e : Fin 8 → FVec Ideal S1x96x128 .bf16) (f11 : Bf Ideal c M11) (i : S9x96x1024.Idx) (r : Fin 96) (j : Fin 8) (l : Fin 128)
    (h0 : (i 0).val = 8) (hr : (i 1).val = r.val) (hjl : (i 2).val = 128 * j.val + l.val) : wrs8 e f11 i = e j (ix3 0 r l) := by
  unfold wrs8
  dsimp only
  match j, hjl with
  | 0, hjl =>
    have hj : (i 2).val = 0 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    rw [wr11_out (c := c) (n := 96) (m := 128) inb_S9x96x1024_S1x96x128_8_0_768 _ _ i (by rintro ⟨-, -, -, h, h'⟩; have a : 768 ≤ (i 2).val := h; have a' : (i 2).val < 768 + 128 := h'; omega)]
    rw [wr11_out (c := c) (n := 96) (m := 128) inb_S9x96x1024_S1x96x128_8_0_640 _ _ i (by rintro ⟨-, -, -, h, h'⟩; have a : 640 ≤ (i 2).val := h; have a' : (i 2).val < 640 + 128 := h'; omega)]
    rw [wr11_out (c := c) (n := 96) (m := 128) inb_S9x96x1024_S1x96x128_8_0_512 _ _ i (by rintro ⟨-, -, -, h, h'⟩; have a : 512 ≤ (i 2).val := h; have a' : (i 2).val < 512 + 128 := h'; omega)]
    rw [wr11_out (c := c) (n := 96) (m := 128) inb_S9x96x1024_S1x96x128_8_0_384 _ _ i (by rintro ⟨-, -, -, h, h'⟩; have a : 384 ≤ (i 2).val := h; have a' : (i 2).val < 384 + 128 := h'; omega)]
    rw [wr11_out (c := c) (n := 96) (m := 128) inb_S9x96x1024_S1x96x128_8_0_256 _ _ i (by rintro ⟨-, -, -, h, h'⟩; have a : 256 ≤ (i 2).val := h; have a' : (i 2).val < 256 + 128 := h'; omega)]
    rw [wr11_out (c := c) (n := 96) (m := 128) inb_S9x96x1024_S1x96x128_8_0_128 _ _ i (by rintro ⟨-, -, -, h, h'⟩; have a : 128 ≤ (i 2).val := h; have a' : (i 2).val < 128 + 128 := h'; omega)]
    exact wr11_in (c := c) (n := 96) (m := 128) inb_S9x96x1024_S1x96x128_8_0_0 _ _ r l i h0 (hr.trans (Nat.zero_add _).symm) hj
  | 1, hjl =>
    have hj : (i 2).val = 128 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    rw [wr11_out (c := c) (n := 96) (m := 128) inb_S9x96x1024_S1x96x128_8_0_768 _ _ i (by rintro ⟨-, -, -, h, h'⟩; have a : 768 ≤ (i 2).val := h; have a' : (i 2).val < 768 + 128 := h'; omega)]
    rw [wr11_out (c := c) (n := 96) (m := 128) inb_S9x96x1024_S1x96x128_8_0_640 _ _ i (by rintro ⟨-, -, -, h, h'⟩; have a : 640 ≤ (i 2).val := h; have a' : (i 2).val < 640 + 128 := h'; omega)]
    rw [wr11_out (c := c) (n := 96) (m := 128) inb_S9x96x1024_S1x96x128_8_0_512 _ _ i (by rintro ⟨-, -, -, h, h'⟩; have a : 512 ≤ (i 2).val := h; have a' : (i 2).val < 512 + 128 := h'; omega)]
    rw [wr11_out (c := c) (n := 96) (m := 128) inb_S9x96x1024_S1x96x128_8_0_384 _ _ i (by rintro ⟨-, -, -, h, h'⟩; have a : 384 ≤ (i 2).val := h; have a' : (i 2).val < 384 + 128 := h'; omega)]
    rw [wr11_out (c := c) (n := 96) (m := 128) inb_S9x96x1024_S1x96x128_8_0_256 _ _ i (by rintro ⟨-, -, -, h, h'⟩; have a : 256 ≤ (i 2).val := h; have a' : (i 2).val < 256 + 128 := h'; omega)]
    exact wr11_in (c := c) (n := 96) (m := 128) inb_S9x96x1024_S1x96x128_8_0_128 _ _ r l i h0 (hr.trans (Nat.zero_add _).symm) hj
  | 2, hjl =>
    have hj : (i 2).val = 256 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    rw [wr11_out (c := c) (n := 96) (m := 128) inb_S9x96x1024_S1x96x128_8_0_768 _ _ i (by rintro ⟨-, -, -, h, h'⟩; have a : 768 ≤ (i 2).val := h; have a' : (i 2).val < 768 + 128 := h'; omega)]
    rw [wr11_out (c := c) (n := 96) (m := 128) inb_S9x96x1024_S1x96x128_8_0_640 _ _ i (by rintro ⟨-, -, -, h, h'⟩; have a : 640 ≤ (i 2).val := h; have a' : (i 2).val < 640 + 128 := h'; omega)]
    rw [wr11_out (c := c) (n := 96) (m := 128) inb_S9x96x1024_S1x96x128_8_0_512 _ _ i (by rintro ⟨-, -, -, h, h'⟩; have a : 512 ≤ (i 2).val := h; have a' : (i 2).val < 512 + 128 := h'; omega)]
    rw [wr11_out (c := c) (n := 96) (m := 128) inb_S9x96x1024_S1x96x128_8_0_384 _ _ i (by rintro ⟨-, -, -, h, h'⟩; have a : 384 ≤ (i 2).val := h; have a' : (i 2).val < 384 + 128 := h'; omega)]
    exact wr11_in (c := c) (n := 96) (m := 128) inb_S9x96x1024_S1x96x128_8_0_256 _ _ r l i h0 (hr.trans (Nat.zero_add _).symm) hj
  | 3, hjl =>
    have hj : (i 2).val = 384 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    rw [wr11_out (c := c) (n := 96) (m := 128) inb_S9x96x1024_S1x96x128_8_0_768 _ _ i (by rintro ⟨-, -, -, h, h'⟩; have a : 768 ≤ (i 2).val := h; have a' : (i 2).val < 768 + 128 := h'; omega)]
    rw [wr11_out (c := c) (n := 96) (m := 128) inb_S9x96x1024_S1x96x128_8_0_640 _ _ i (by rintro ⟨-, -, -, h, h'⟩; have a : 640 ≤ (i 2).val := h; have a' : (i 2).val < 640 + 128 := h'; omega)]
    rw [wr11_out (c := c) (n := 96) (m := 128) inb_S9x96x1024_S1x96x128_8_0_512 _ _ i (by rintro ⟨-, -, -, h, h'⟩; have a : 512 ≤ (i 2).val := h; have a' : (i 2).val < 512 + 128 := h'; omega)]
    exact wr11_in (c := c) (n := 96) (m := 128) inb_S9x96x1024_S1x96x128_8_0_384 _ _ r l i h0 (hr.trans (Nat.zero_add _).symm) hj
  | 4, hjl =>
    have hj : (i 2).val = 512 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    rw [wr11_out (c := c) (n := 96) (m := 128) inb_S9x96x1024_S1x96x128_8_0_768 _ _ i (by rintro ⟨-, -, -, h, h'⟩; have a : 768 ≤ (i 2).val := h; have a' : (i 2).val < 768 + 128 := h'; omega)]
    rw [wr11_out (c := c) (n := 96) (m := 128) inb_S9x96x1024_S1x96x128_8_0_640 _ _ i (by rintro ⟨-, -, -, h, h'⟩; have a : 640 ≤ (i 2).val := h; have a' : (i 2).val < 640 + 128 := h'; omega)]
    exact wr11_in (c := c) (n := 96) (m := 128) inb_S9x96x1024_S1x96x128_8_0_512 _ _ r l i h0 (hr.trans (Nat.zero_add _).symm) hj
  | 5, hjl =>
    have hj : (i 2).val = 640 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    rw [wr11_out (c := c) (n := 96) (m := 128) inb_S9x96x1024_S1x96x128_8_0_768 _ _ i (by rintro ⟨-, -, -, h, h'⟩; have a : 768 ≤ (i 2).val := h; have a' : (i 2).val < 768 + 128 := h'; omega)]
    exact wr11_in (c := c) (n := 96) (m := 128) inb_S9x96x1024_S1x96x128_8_0_640 _ _ r l i h0 (hr.trans (Nat.zero_add _).symm) hj
  | 6, hjl =>
    have hj : (i 2).val = 768 + l.val := hjl
    rw [wr11_out (c := c) (n := 96) (m := 128) inb_S9x96x1024_S1x96x128_8_0_896 _ _ i (by rintro ⟨-, -, -, h, h'⟩; have a : 896 ≤ (i 2).val := h; have a' : (i 2).val < 896 + 128 := h'; omega)]
    exact wr11_in (c := c) (n := 96) (m := 128) inb_S9x96x1024_S1x96x128_8_0_768 _ _ r l i h0 (hr.trans (Nat.zero_add _).symm) hj
  | 7, hjl =>
    have hj : (i 2).val = 896 + l.val := hjl
    exact wr11_in (c := c) (n := 96) (m := 128) inb_S9x96x1024_S1x96x128_8_0_896 _ _ r l i h0 (hr.trans (Nat.zero_add _).symm) hj

theorem fin8_in (f7 : Bf Ideal c M7) (f8 : Bf Ideal c M8) (g9 : Bf Ideal c M9) (g10 : Bf Ideal c M10) (f11 : Bf Ideal c M11) (i : S9x96x1024.Idx) (h0 : (i 0).val = 8) :
    (v11 (wrs8 (fin8 f7 f8 g9 g10) f11) i : EReal) = yv f7 f8 g9 g10 8 (i 1) (i 2) := by
  have l2 : (i 2).val < 1024 := (i 2).isLt
  obtain ⟨j, l, hjl⟩ : ∃ (j : Fin 8) (l : Fin 128), (i 2).val = 128 * j.val + l.val :=
    ⟨⟨(i 2).val / 128, by omega⟩, ⟨(i 2).val % 128, by omega⟩, by show _ = 128 * ((i 2).val / 128) + (i 2).val % 128; omega⟩
  have key := ps_read8 f7 f8 g9 g10 (i 1) ⟨l.val % 8, by omega⟩ ⟨16 * j.val + l.val / 8, by omega⟩ (i 2) (by show (i 2).val = 8 * (16 * j.val + l.val / 8) + l.val % 8; omega)
  refine Eq.trans ?_ ((fin_row _ _ _ _ _ _ _ _ _ _ _ _ _ _ _ _ _ _ j (i 1) l).trans key)
  unfold v11
  exact wrs8_in (fin8 f7 f8 g9 g10) f11 i (i 1) j l h0 rfl hjl

variable {X : ℕ → ℕ → EReal} {W : ℕ → ℕ → BitVec 32} {Z : ℕ → BitVec 32} {S : ℕ → EReal}

/-- The sums as the last drain leaves them. -/
def dr8 (f10 : Bf Ideal c M10) (v : Fin 2 → Acc Ideal) : Bf Ideal c M10 :=
  dr f10 ![8, 0, 512] ![8, 0, 768] inb_S9x96x1024_S1x96x256_8_0_512 inb_S9x96x1024_S1x96x256_8_0_768 3#32 v

theorem half8 {f6 : Bf Ideal c M6} {mx f9 f10 f11} (hI : Inv X W Z S f6 36 mx f9 f10 f11) (v : Fin 2 → Acc Ideal)
    (hv : ∀ (q : Fin 2) (r : Fin 96) (y : Fin 256), (v q (ix2 r y) : EReal) = T X W r.val (ki 35) (128 * bi 35 + y.val % 128) (4 + 2 * q.val + y.val / 128))
    (i : S9x96x1024.Idx) (h0 : (i 0).val = 8) :
    v10 (dr8 f10 v) i = PT X W (i 1).val (128 * (i 0).val + (i 2).val % 128) ((i 2).val / 128) 4 := by
  have l2 : (i 2).val < 1024 := (i 2).isLt
  have hb := hI.b10 i
  unfold dr8
  by_cases hh : (i 2).val < 512
  · rw [if_pos hh, h0] at hb
    refine (dr_out (c := c) (b := 8) (p := 512) f10 _ _ _ v rfl rfl i (by omega)).trans ((hb (by decide)).trans ?_)
    rw [h0]; rfl
  · rw [if_neg hh, h0] at hb
    have hq : (i 2).val = 512 + 256 * ((i 2).val / 256 - 2) + (i 2).val % 256 := by omega
    refine (dr_in (c := c) (b := 8) (p := 512) f10 _ _ _ v rfl rfl ⟨(i 2).val / 256 - 2, by omega⟩ i (i 1) ⟨(i 2).val % 256, by omega⟩ h0 rfl hq).trans ?_
    rw [h0]
    refine commit (k := 3) (by decide) _ _ (fun _ => hb (by decide)) ?_
    refine (hv _ _ _).trans ?_
    show T X W _ 3 (128 * 8 + (i 2).val % 256 % 128) (4 + 2 * ((i 2).val / 256 - 2) + (i 2).val % 256 / 128) = _
    congr 1 <;> omega

theorem good8 {f6 : Bf Ideal c M6} {f7 : Bf Ideal c M7} {f8 : Bf Ideal c M8} {mx f9 f10 f11} (hI : Inv X W Z S f6 36 mx f9 f10 f11) (v : Fin 2 → Acc Ideal)
    (h7 : ∀ i : S9x128.Idx, f7 i = Z (128 * (i 0).val + (i 1).val)) (h8 : ∀ i : S9x8x128.Idx, (f8 i : EReal) = S (1024 * (i 0).val + 8 * (i 2).val + (i 1).val))
    (hv : ∀ (q : Fin 2) (r : Fin 96) (y : Fin 256), (v q (ix2 r y) : EReal) = T X W r.val (ki 35) (128 * bi 35 + y.val % 128) (4 + 2 * q.val + y.val / 128))
    (i : S9x96x1024.Idx) (h0 : (i 0).val = 8) :
    v11 (wrs8 (fin8 f7 f8 f9 (dr8 f10 v)) f11) i = Yv X W Z S (i 0).val (i 1).val (i 2).val := by
  refine (fin8_in f7 f8 f9 (dr8 f10 v) f11 i h0).trans ?_
  rw [h0]
  refine yv_done f7 f8 _ _ h7 h8 8 (i 1) (i 2) (fun l => hI.b9 (by decide) _ _) (fun m => ?_)
  exact half8 hI v hv (ix3 8 (i 1) m) rfl

theorem good7 {f6 : Bf Ideal c M6} {mx f9 f10 f11} (hI : Inv X W Z S f6 36 mx f9 f10 f11) (i : S9x96x1024.Idx) (h0 : (i 0).val = 7) :
    v11 f11 i = Yv X W Z S (i 0).val (i 1).val (i 2).val :=
  hI.b11 i (by have l1 : (i 1).val < 96 := (i 1).isLt; unfold ec; omega)

end

end Cert.Kernel.Hand
-- ==== Proof.Kernel.BodyV.lean ====
/- The kernel, with what it computes. -/
module

public import proofs.«01_k».proof.Proof.Kernel.Body
public import proofs.«01_k».proof.Proof.Kernel.Deint
public import proofs.«01_k».proof.Proof.Kernel.Last

@[expose] public section

set_option maxHeartbeats 8000000
noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ
open Cert.MxuSpec Idealize.ShloMosaic.ValueIdx

section
variable {𝒱 : Variants} {c : Dev nD} {bd : Option 𝒱.V}
  {f0 : Bf Ideal c M0} {g5 : Bf Ideal c M5} {f1 : Bf Ideal c M1} {g6 : Bf Ideal c M6} {f2 : Bf Ideal c M2} {g7 : Bf Ideal c M7} {f3 : Bf Ideal c M3} {g8 : Bf Ideal c M8}
  {f4 : Bf Ideal c M4} {f9 : Bf Ideal c M9} {f10 : Bf Ideal c M10} {f11 : Bf Ideal c M11}
variable {X : ℕ → ℕ → EReal} {W : ℕ → ℕ → BitVec 32} {Z : ℕ → BitVec 32} {S : ℕ → EReal}

theorem pay255_eq (a : Vec Ideal S1x96x256 .f32) (b : FVec Ideal S96x256 .f32) : k0_pay255 a b = k0_pay21 3#32 a b := rfl
theorem pay256_eq (a : Vec Ideal S1x96x256 .f32) (b : FVec Ideal S96x256 .f32) : k0_pay256 a b = k0_pay21 3#32 a b := rfl

/-- The sums as the last drain leaves them. -/
def dl8 (f10 : Bf Ideal c M10) (a b : FVec Ideal S96x256 .f32) : Bf Ideal c M10 :=
  let g : Bf Ideal c M10 := (M10.access (Rect.unit (s := S9x96x1024) ![8, 0, 512] S1x96x256.size inb_S9x96x1024_S1x96x256_8_0_512)).write (Elt Ideal) f10 (k0_pay255 ((M10.access (Rect.unit (s := S9x96x1024) ![8, 0, 512] S1x96x256.size inb_S9x96x1024_S1x96x256_8_0_512)).read (Elt Ideal) f10) a) Finset.univ
  (M10.access (Rect.unit (s := S9x96x1024) ![8, 0, 768] S1x96x256.size inb_S9x96x1024_S1x96x256_8_0_768)).write (Elt Ideal) g (k0_pay256 ((M10.access (Rect.unit (s := S9x96x1024) ![8, 0, 768] S1x96x256.size inb_S9x96x1024_S1x96x256_8_0_768)).read (Elt Ideal) g) b) Finset.univ

theorem dl8_eq (f10 : Bf Ideal c M10) (v : Fin 2 → Acc Ideal) : dl8 f10 (v 0) (v 1) = dr8 f10 v := by
  unfold dl8
  dsimp only
  rw [pay255_eq, pay256_eq]
  rfl

/-- The whole kernel, the result staged being the result. -/
theorem run_kernelV {Q : PUnit → sProp 𝕄}
    (h5 : ∀ i : S4x96x1792.Idx, (F5 f0 i : EReal) = X (i 1).val (1792 * (i 0).val + (i 2).val))
    (h6 : ∀ i : S3x4x1792x384.Idx, F6 f1 i = W (1792 * (i 1).val + (i 2).val) (384 * (i 0).val + (i 3).val))
    (h7 : ∀ i : S9x128.Idx, L7 f2 i = Z (128 * (i 0).val + (i 1).val)) (h8 : Dt (c := c) S 0 (L8 f3))
    (h : ∀ f8 f9 f10 f11, PE (AV X W Z S f0 f1 f2 f4 f8) 9 (Yend (AV X W Z S f0 f1 f2 f4 f8) (Zs c f2 f3) f9 f10 f11) ⊢ Q ⟨⟩) :
    PQ c f0 g5 f1 g6 0 0 iprop(S7a c f2 g7 ∗ S8a c f3 g8 ∗ wts c ∗ QP 9 (iniy c f4) (gly (AV X W Z S f0 f1 f2 f4 (L8 f3))) 0
      ∗ (M9.view.loc (c : Thread nD τ) ↦{fullShare} f9) ∗ (M10.view.loc (c : Thread nD τ) ↦{fullShare} f10) ∗ (M11.view.loc (c : Thread nD τ) ↦{fullShare} f11))
      ⊢ wp frame (wpE (defs₀ (F := Ideal)) 𝒱 (c : Thread nD τ) bd) Set.univ (cc0_awq_int4_linear M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch7 cc0_scratch8 cc0_scratch9 cc0_scratch10) Q := by
  rw [cc0_awq_int4_linear_eq_skeleton]; unfold cc0_awq_int4_linear_skel
  refine run_bind (run_part43 ?_)
  refine run_bind (run_part44 ?_)
  refine run_bind (run_part45 ?_)
  refine run_bind (run_part46 (A := AV X W Z S f0 f1 f2 f4 (L8 f3)) rfl rfl rfl rfl ?_)
  refine run_bind (run_part47 _ ?_)
  refine run_bind (run_part48 _ _ _ _ _ ?_)
  refine run_bind (run_part49 _ _ _ ?_)
  intro v191 g8_49_1 v194 v196 v197
  refine run_bind (run_part50 _ _ _ _ _ ?_)
  refine run_bind (run_part51 _ _ _ _ _ _ _ ?_)
  refine run_bind (run_part52 _ ?_)
  intro v297 g8_52_1 v300 v302 v303
  refine run_bind (run_part53 _ _ _ _ _ _ _ ?_)
  refine run_bind (run_part54 _ _ _ _ _ _ ?_)
  intro v403 g8_54_1 v406 v408 v409 v410 v411
  refine run_bind (run_part55 _ _ _ _ _ _ ?_)
  refine run_bind (run_part56 _ _ _ _ _ ?_)
  refine run_bind (run_part57 _ _ _ _ _ ?_)
  intro v509 g8_57_1 v512 v514 v515
  refine run_bind (run_part58 _ _ _ _ _ _ _ _ ?_)
  refine run_bind (run_part59 _ _ _ _ _ ?_)
  intro v615 g8_59_1 v618 v620 v621
  refine run_bind (run_part60 _ ?_)
  refine run_bind (run_part61 _ _ _ _ _ ?_)
  refine run_bind (run_part62 _ _ _ ?_)
  intro v721 g8_62_1 v724 v726 v727
  refine run_bind (run_part63 _ _ _ _ _ ?_)
  refine run_bind (run_part64 _ _ _ _ _ _ _ ?_)
  refine run_bind (run_part65 _ ?_)
  intro v827 g8_65_1 v830 v832 v833
  refine run_bind (run_part66 _ _ _ _ _ _ _ ?_)
  refine run_bind (run_part67 _ _ _ _ _ _ ?_)
  intro v933 g8_67_1 v936 v938 v939 v940 v941
  refine run_bind (run_part68 _ _ _ _ _ _ ?_)
  refine run_bind (run_part69 _ _ _ _ _ ?_)
  refine run_bind (run_part70 (A := AV X W Z S f0 f1 f2 f4 _) _ _ _ _ _ ?_)
  have d1 : Dt (c := c) S 1 g8_49_1 := dt_step (c := c) (n := 0) (by decide) h8 inb_S9x8x128_S1x8x128_0_0_0
  have d2 : Dt (c := c) S 2 g8_52_1 := dt_step (c := c) (n := 1) (by decide) d1 inb_S9x8x128_S1x8x128_1_0_0
  have d3 : Dt (c := c) S 3 g8_54_1 := dt_step (c := c) (n := 2) (by decide) d2 inb_S9x8x128_S1x8x128_2_0_0
  have d4 : Dt (c := c) S 4 g8_57_1 := dt_step (c := c) (n := 3) (by decide) d3 inb_S9x8x128_S1x8x128_3_0_0
  have d5 : Dt (c := c) S 5 g8_59_1 := dt_step (c := c) (n := 4) (by decide) d4 inb_S9x8x128_S1x8x128_4_0_0
  have d6 : Dt (c := c) S 6 g8_62_1 := dt_step (c := c) (n := 5) (by decide) d5 inb_S9x8x128_S1x8x128_5_0_0
  have d7 : Dt (c := c) S 7 g8_65_1 := dt_step (c := c) (n := 6) (by decide) d6 inb_S9x8x128_S1x8x128_6_0_0
  have d8 : Dt (c := c) S 8 g8_67_1 := dt_step (c := c) (n := 7) (by decide) d7 inb_S9x8x128_S1x8x128_7_0_0
  refine run_bind (run_part71 (keepsV h5 h6 h7 (dt_done ?_)) _ _ _ AllF_init ?_ ?_)
  · exact dt_step (c := c) (n := 8) (by decide) d8 inb_S9x8x128_S1x8x128_8_0_0
  · refine inv0 ?_ _ _ (St.accB1n (St.push0 (St.push1 St.init _ _) _ _) _ _) ?_
    · exact AllF.acc (AllF.acc (AllF.pushed (AllF.pushed (AllF.pushed (AllF.pushed AllF_init _ _ _) _ _ _) _ _ _) _ _ _) _ _ _ _ _) _ _ _ _ _
    · rfl
  intro mx h9 h10 h11 hI
  have h8' := fun i => dt_done (dt_step (c := c) (n := 8) (by decide) d8 inb_S9x8x128_S1x8x128_8_0_0) i
  obtain ⟨w, v, hh, -, hv⟩ := hI.head
  have hr := St.readB hh fits_24_96
  have g8l := good8 hI ![mx.read 0 24 fits_24_96, (mx.pop 0 24 96 fits_24_96).read 1 24 fits_24_96] h7 h8' (fun q r y => by
    match q with
    | 0 => exact (congrFun hr.1 (ix2 r y)).trans (hv (by decide) 0 r y)
    | 1 => exact (congrFun hr.2 (ix2 r y)).trans (hv (by decide) 1 r y))
  refine run_bind (run_part72 _ (good7 hI) ?_)
  intro v1103_r0 v1107_r0 k0_mxu70 v1109_r0 g10_72_1 v1112_r0 v1116_r0 k0_mxu71 v1118_r0 g10_72_2 k0_mxu72 k0_mxu73 v1122_r0 k0_mxu74 v1123_r0 k0_mxu75 v1125_r0 v1127_r0
  refine run_bind (run_part73 _ _ _ _ ?_)
  intro v1134_r0 v1139_r0 v1151_r0 v1156_r0 v1168_r0
  refine run_bind (run_part74 _ _ _ _ _ ?_)
  intro v1173_r0 v1185_r0 v1190_r0 v1202_r0 v1207_r0
  refine run_bind (run_part75 _ _ _ _ ?_)
  intro v1219_r0 v1224_r0 v1236_r0 v1241_r0 v1253_r0
  refine run_bind (run_part76 _ _ _ _ _ _ _ _ _ _ ?_)
  intro v1258_r0 v1264_r0
  refine run_bind (run_part77 _ _ _ _ _ _ _ _ _ _ ?_)
  intro v1325_r0 v1326_r0
  refine run_bind (run_part78 _ _ _ _ _ _ _ ?_)
  refine run_bind (run_part79 _ _ _ _ _ _ _ _ _ ?_)
  refine run_bind (run_part80 _ _ _ _ _ _ _ _ _ (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) (in11 (p := 8) (K := 8) rfl (le_refl _)) ?_)
  intro v1434_r0 g11_80_1 v1439_r0 g11_80_2 v1444_r0 g11_80_3 v1449_r0 g11_80_4 v1454_r0 g11_80_5 v1459_r0 g11_80_6 v1464_r0 g11_80_7 v1469_r0
  refine run_bind (run_part81 _ _ ?_ ?_)
  · rw [← dl8_eq] at g8l; exact g8l
  refine run_bind (run_part82 ?_)
  refine run_bind (pe_y 8 (by decide) (os := ![8]) rfl ?_)
  refine run_bind (run_exit (drained_end hh _) ?_)
  exact run_pure (h _ _ _ _)

end

end Cert.Kernel.Hand
-- ==== Proof.RefVal.lean ====
/- The reference, element by element. -/
module

public import proofs.«01_k».proof.Proof.Gen.ReferenceIdeal
public import proofs.«01_k».proof.Proof.Kernel.Inv
public import Idealize.ShloMosaic.Lib.Pointwise
public import Idealize.ShloMosaic.Lib.StackMember

@[expose] public section

noncomputable section

namespace Cert.Ref

open Cert.ReferenceIdeal Cert.ReferenceIdeal.Gen Idealize.ShloMosaic Idealize.ShloMosaic.TcCoe
open Cert.Kernel.Hand (nib fld pv Yv PX PT XC)

variable (x : FVec Ideal S96x1x7168 .bf16) (w : IVec S7168x1152 32) (z : IVec S1152 32) (s : FVec Ideal S9216 .f32)

/-- Before the columns are put in order. -/
def inner : FVec Ideal S96x1x8x1152 .f32 := mulf (subf (Host.dotGeneral dot_S96x1x7168_S7168x8x1152_S96x1x8x1152_2_0_01_12_n_n none x (sitofp .bf16 (andi (Host.shrsi (broadcastInDim S7168x8x1152 ![0, 1, 2] bcast_S7168x1x1152_S7168x8x1152_0_1_2 (broadcastInDim S7168x1x1152 ![0, 2] bcast_S7168x1152_S7168x1x1152_0_2 w)) (broadcastInDim S7168x8x1152 ![0, 1, 2] bcast_S1x8x1_S7168x8x1152_0_1_2 (broadcastInDim S1x8x1 ![1] bcast_S8_S1x8x1_1 ((fun i => lit0 (S8.rowMajor i)))))) (broadcastInDim S7168x8x1152 ![] bcast_S_S7168x8x1152 (constantI S_ 32 15#32))))) (mulf (broadcastInDim S96x1x8x1152 ![0, 1, 2, 3] bcast_S1x1x8x1152_S96x1x8x1152_0_1_2_3 (broadcastInDim S1x1x8x1152 ![2, 3] bcast_S8x1152_S1x1x8x1152_2_3 (sitofp .f32 (andi (Host.shrsi (broadcastInDim S8x1152 ![0, 1] bcast_S1x1152_S8x1152_0_1 (broadcastInDim S1x1152 ![1] bcast_S1152_S1x1152_1 z)) (broadcastInDim S8x1152 ![0, 1] bcast_S8x1_S8x1152_0_1 (broadcastInDim S8x1 ![0] bcast_S8_S8x1_0 ((fun i => lit0 (S8.rowMajor i)))))) (broadcastInDim S8x1152 ![] bcast_S_S8x1152 (constantI S_ 32 15#32)))))) (broadcastInDim S96x1x8x1152 ![0, 1, 2, 3] bcast_S96x1x1x1_S96x1x8x1152_0_1_2_3 (broadcastInDim S96x1x1x1 ![0, 1, 2] bcast_S96x1x1_S96x1x1x1_0_1_2 (broadcastInDim S96x1x1 ![0, 1] bcast_S96x1_S96x1x1_0_1 (Host.reduceAdd (extf .f32 x bitsLt_bf16_f32) (constant S_ .f32 0x00000000#32) reducesTo_S96x1x7168_S96x1_d2 h_S_)))))) (broadcastInDim S96x1x8x1152 ![0, 1, 2, 3] bcast_S1x1x8x1152_S96x1x8x1152_0_1_2_3 (broadcastInDim S1x1x8x1152 ![2, 3] bcast_S8x1152_S1x1x8x1152_2_3 (transpose S8x1152 [1, 0] (shapeCast _ s shapeCasts_S9216_S1152x8) transposes_S1152x8_S8x1152_1_0)))
/-- The reference's result. -/
def refVal : FVec Ideal S96x1x9216 .bf16 := truncf .bf16 (shapeCast _ (transpose S96x1x1152x8 [0, 1, 3, 2] (inner x w z s) transposes_S96x1x8x1152_S96x1x1152x8_0_1_3_2) shapeCasts_S96x1x1152x8_S96x1x9216) bitsLt_bf16_f32

theorem lit0_val (j : Fin 8) : (lit0 (S8.rowMajor (ix1 j))).toNat = 4 * fld j.val := by
  match j with
  | 0 => rfl
  | 1 => rfl
  | 2 => rfl
  | 3 => rfl
  | 4 => rfl
  | 5 => rfl
  | 6 => rfl
  | 7 => rfl

theorem hfield (a b : BitVec 32) (f : ℕ) (hf : f < 8) (hb : b.toNat = 4 * f) : (FloatOps.sitofp (F := Ideal) .f32 (IntOp.andi (IntOp.shrsi .host a b) 15#32) : EReal) = nib a f := by
  have e : IntOp.shrsi .host a b = IntOp.shrsi .vector a b := by
    unfold IntOp.shrsi
    rw [if_pos (by omega), if_pos (by omega)]
  rw [e]
  exact Cert.Kernel.Hand.zfield a b f hf hb
theorem hfield' (a b : BitVec 32) (f : ℕ) (hf : f < 8) (hb : b.toNat = 4 * f) : (FloatOps.sitofp (F := Ideal) .bf16 (IntOp.andi (IntOp.shrsi .host a b) 15#32) : EReal) = nib a f :=
  hfield a b f hf hb

/-- The operands named on the naturals. -/
def Xn (r k : ℕ) : EReal := x (ix3 ⟨r % 96, Nat.mod_lt _ (by decide)⟩ 0 ⟨k % 7168, Nat.mod_lt _ (by decide)⟩)
def Wn (k n : ℕ) : BitVec 32 := w (ix2 ⟨k % 7168, Nat.mod_lt _ (by decide)⟩ ⟨n % 1152, Nat.mod_lt _ (by decide)⟩)
def Zn (n : ℕ) : BitVec 32 := z (ix1 ⟨n % 1152, Nat.mod_lt _ (by decide)⟩)
def Sn (n : ℕ) : EReal := s (ix1 ⟨n % 9216, Nat.mod_lt _ (by decide)⟩)

theorem Xn_eq (a : Fin 96) (k : Fin 7168) : Xn x a.val k.val = x (ix3 a 0 k) := by
  unfold Xn; congr 2 <;> exact Fin.ext (Nat.mod_eq_of_lt (Fin.isLt _))
theorem Wn_eq (k : Fin 7168) (n : Fin 1152) : Wn w k.val n.val = w (ix2 k n) := by
  unfold Wn; congr 2 <;> exact Fin.ext (Nat.mod_eq_of_lt (Fin.isLt _))
theorem Zn_eq (n : Fin 1152) : Zn z n.val = z (ix1 n) := by
  unfold Zn; congr 2; exact Fin.ext (Nat.mod_eq_of_lt (Fin.isLt _))
theorem Sn_eq (n : Fin 9216) : Sn s n.val = s (ix1 n) := by
  unfold Sn; congr 2; exact Fin.ext (Nat.mod_eq_of_lt (Fin.isLt _))

theorem four (n N : ℕ) (hN : N = n + n + n + n) (g : ℕ → EReal) : ∑ κ ∈ Finset.range 4, ∑ c ∈ Finset.range n, g (n * κ + c) = ∑ k : Fin N, g k.val := by
  subst hN
  rw [Fin.sum_univ_eq_sum_range g (n + n + n + n), Finset.sum_range_succ, Finset.sum_range_succ, Finset.sum_range_succ, Finset.sum_range_one, Finset.sum_range_add, Finset.sum_range_add, Finset.sum_range_add,
    Nat.mul_zero, Nat.mul_one, show n * 2 = n + n by omega, show n * 3 = n + n + n by omega]
  simp only [Nat.zero_add]

theorem inner_apply (r : Fin 96) (j : Fin 8) (n : Fin 1152) : (inner x w z s (ix4 r 0 j n) : EReal) = pv (z (ix1 n)) (fld j.val) (∑ k : Fin 7168, Xn x r.val k.val) (∑ k : Fin 7168, Xn x r.val k.val * nib (Wn w k.val n.val) (fld j.val)) (s (ix1 ⟨n.val * 8 + j.val, by omega⟩)) := by
  have hA : (∑ k : Fin 7168, Xn x r.val k.val * nib (Wn w k.val n.val) (fld j.val)) = ∑ k : Fin 7168, (x (ix3 r 0 k) : EReal) * nib (w (ix2 k n)) (fld j.val) :=
    Finset.sum_congr rfl fun k _ => by rw [Xn_eq, Wn_eq]
  have hB : (∑ k : Fin 7168, Xn x r.val k.val) = ∑ k : Fin 7168, (x (ix3 r 0 k) : EReal) := Finset.sum_congr rfl fun k _ => Xn_eq x r k
  have f1 (a : BitVec 32) := hfield a _ _ (Cert.Kernel.Hand.fld_lt _) (lit0_val j)
  have f2 (a : BitVec 32) := hfield' a _ _ (Cert.Kernel.Hand.fld_lt _) (lit0_val j)
  rw [hA, hB]
  unfold pv
  pointwise [inner]
  simp only [f1, f2]

theorem ref_apply (i : S96x1x9216.Idx) : (refVal x w z s i : EReal) = inner x w z s (ix4 (i 0) 0 ⟨(i 2).val % 8, Nat.mod_lt _ (by decide)⟩ ⟨(i 2).val / 8, by have h : (i 2).val < 9216 := (i 2).isLt; omega⟩) := by
  pointwise [refVal]

theorem yv_eq (r : Fin 96) (m : Fin 9216) : Yv (Xn x) (Wn w) (Zn z) (Sn s) (m.val / 1024) r.val (m.val % 1024)
    = pv (z (ix1 ⟨m.val / 8, by omega⟩)) (fld (m.val % 8)) (∑ k : Fin 7168, Xn x r.val k.val) (∑ k : Fin 7168, Xn x r.val k.val * nib (Wn w k.val (m.val / 8)) (fld (m.val % 8))) (s (ix1 ⟨m.val / 8 * 8 + m.val % 8, by omega⟩)) := by
  unfold Yv PX PT XC Cert.Kernel.Hand.T
  rw [four 1792 7168 (by norm_num) (fun k => Xn x r.val k), four 1792 7168 (by norm_num) (fun k => Xn x r.val k * nib (Wn w k (128 * (m.val / 1024) + m.val % 1024 / 8)) (fld (m.val % 1024 % 8))), ← Zn_eq z, ← Sn_eq s]
  have e1 : 128 * (m.val / 1024) + m.val % 1024 / 8 = m.val / 8 := by omega
  have e2 : m.val % 1024 % 8 = m.val % 8 := by omega
  have e3 : 1024 * (m.val / 1024) + m.val % 1024 = m.val / 8 * 8 + m.val % 8 := by omega
  rw [e1, e2, e3]

/-- The reference's result is the kernel's. -/
theorem ref_val (i : S96x1x9216.Idx) : (refVal x w z s i : EReal) = Yv (Xn x) (Wn w) (Zn z) (Sn s) ((i 2).val / 1024) (i 0).val ((i 2).val % 1024) :=
  ((ref_apply x w z s i).trans (inner_apply x w z s _ _ _)).trans (yv_eq x w z s (i 0) (i 2)).symm

end Cert.Ref

end
-- ==== Proof.Kernel.FrameV.lean ====
/- The run of the kernel, with what its result array ends at. -/
module

public import proofs.«01_k».proof.Proof.Kernel.Frame
public import proofs.«01_k».proof.Proof.Kernel.BodyV
public import proofs.«01_k».proof.Proof.RefVal
public import Idealize.ShloMosaic.Lib.Pipeline.FrameSuffixV
public import Idealize.ShloMosaic.Lib.StableHlo.Run

@[expose] public section

noncomputable section

namespace Cert.Kernel.Hand

open Cert.Kernel Cert.Kernel.Gen Cert.Schedule
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ
open Idealize.ShloMosaic.Pipeline (Dat Cfg Window BodyObligation cellOf)

variable (m : (ℓ : Loc nD τ sig) → Buf (Elt Ideal) ℓ) (ρ : Dev nD → PrngReg)

open Cert.Ref (Xn Wn Zn Sn Xn_eq Wn_eq Zn_eq Sn_eq)

abbrev Xm (c : Dev nD) : ℕ → ℕ → EReal := Xn (m ((c.tc : Thread nD τ).loc main_arg0))
abbrev Wm (c : Dev nD) : ℕ → ℕ → BitVec 32 := Wn (m ((c.tc : Thread nD τ).loc main_arg1))
abbrev Zm (c : Dev nD) : ℕ → BitVec 32 := Zn (m ((c.tc : Thread nD τ).loc main_arg2))
abbrev Sm (c : Dev nD) : ℕ → EReal := Sn (m ((c.tc : Thread nD τ).loc main_arg3))

theorem V_v0 (c : Dev nD) : V m c main_v0 = shapeCast S96x7168 (m ((c.tc : Thread nD τ).loc main_arg0) : FVec Ideal S96x1x7168 .bf16) shapeCasts_S96x1x7168_S96x7168 := by
  show StableHlo.after (hostOps0 (F := Ideal)) (fun b => m (c, b)) (Proc.devRef .tc main_v0) = _
  after_results_simp <;> rfl
theorem V_v1 (c : Dev nD) : V m c main_v1 = shapeCast S9x128 (m ((c.tc : Thread nD τ).loc main_arg2) : IVec S1152 32) shapeCasts_S1152_S9x128 := by
  show StableHlo.after (hostOps0 (F := Ideal)) (fun b => m (c, b)) (Proc.devRef .tc main_v1) = _
  after_results_simp <;> rfl
theorem V_v2 (c : Dev nD) : V m c main_v2 = shapeCast S9x8x128 (m ((c.tc : Thread nD τ).loc main_arg3) : FVec Ideal S9216 .f32) shapeCasts_S9216_S9x8x128 := by
  show StableHlo.after (hostOps0 (F := Ideal)) (fun b => m (c, b)) (Proc.devRef .tc main_v2) = _
  after_results_simp <;> rfl
theorem h1_v4 (W : Valuation τ sig (Elt Ideal)) : StableHlo.after (hostOps1 (F := Ideal)) W (Proc.devRef .tc main_v4)
    = shapeCast S96x1x9216 (W (Proc.devRef .tc main_v3) : FVec Ideal S96x9216 .bf16) shapeCasts_S96x9216_S96x1x9216 := by
  after_results_simp <;> rfl

theorem hx5 (c : Dev nD) (i : S4x96x1792.Idx) : (F5 (c := c) (V m c main_v0) i : EReal) = Xm m c (i 1).val (1792 * (i 0).val + (i 2).val) := by
  have h0 : (i 0).val < 4 := (i 0).isLt
  have h1 : (i 1).val < 96 := (i 1).isLt
  have h2 : (i 2).val < 1792 := (i 2).isLt
  rw [V_v0]
  show (shapeCast S96x7168 (m ((c.tc : Thread nD τ).loc main_arg0) : FVec Ideal S96x1x7168 .bf16) shapeCasts_S96x1x7168_S96x7168 (q5 i) : EReal) = _
  refine (shapeCast_apply _ _ _ (ix3 ⟨(i 1).val, h1⟩ 0 ⟨1792 * (i 0).val + (i 2).val, by omega⟩) ?_).trans (Xn_eq _ ⟨(i 1).val, h1⟩ ⟨1792 * (i 0).val + (i 2).val, by omega⟩).symm
  rw [Shape.rowMajor_val_three, Shape.rowMajor_val_two]
  show ((i 1).val * 1 + 0) * 7168 + (1792 * (i 0).val + (i 2).val) = (i 1).val * 7168 + ((i 0).val * 1792 + (i 2).val)
  omega

theorem hx6 (c : Dev nD) (i : S3x4x1792x384.Idx) : F6 (c := c) (V m c main_arg1) i = Wm m c (1792 * (i 1).val + (i 2).val) (384 * (i 0).val + (i 3).val) := by
  have h0 : (i 0).val < 3 := (i 0).isLt
  have h1 : (i 1).val < 4 := (i 1).isLt
  have h2 : (i 2).val < 1792 := (i 2).isLt
  have h3 : (i 3).val < 384 := (i 3).isLt
  rw [V_main_arg1]
  refine Eq.trans ?_ (Wn_eq _ ⟨1792 * (i 1).val + (i 2).val, by omega⟩ ⟨384 * (i 0).val + (i 3).val, by omega⟩).symm
  show (m ((c.tc : Thread nD τ).loc main_arg1) : IVec S7168x1152 32) (q6 i) = _
  congr 1
  funext a
  match a with
  | ⟨0, _⟩ => exact Fin.ext (show (i 1).val * 1792 + (i 2).val = 1792 * (i 1).val + (i 2).val by omega)
  | ⟨1, _⟩ => exact Fin.ext (show (i 0).val * 384 + (i 3).val = 384 * (i 0).val + (i 3).val by omega)

theorem hx7 (c : Dev nD) (i : S9x128.Idx) : L7 (c := c) (V m c main_v1) i = Zm m c (128 * (i 0).val + (i 1).val) := by
  have h0 : (i 0).val < 9 := (i 0).isLt
  have h1 : (i 1).val < 128 := (i 1).isLt
  rw [V_v1]
  show shapeCast S9x128 (m ((c.tc : Thread nD τ).loc main_arg2) : IVec S1152 32) shapeCasts_S1152_S9x128 i = _
  refine (shapeCast_apply _ _ _ (ix1 ⟨128 * (i 0).val + (i 1).val, by omega⟩) ?_).trans (Zn_eq _ ⟨128 * (i 0).val + (i 1).val, by omega⟩).symm
  rw [Shape.rowMajor_val_one, Shape.rowMajor_val_two]
  show 128 * (i 0).val + (i 1).val = (i 0).val * 128 + (i 1).val
  omega

theorem hx8 (c : Dev nD) : Dt (c := c) (Sm m c) 0 (L8 (c := c) (V m c main_v2)) := by
  intro (i : S9x8x128.Idx)
  have h0 : (i 0).val < 9 := (i 0).isLt
  have h1 : (i 1).val < 8 := (i 1).isLt
  have h2 : (i 2).val < 128 := (i 2).isLt
  refine Eq.trans ?_ (if_neg (Nat.not_lt_zero _)).symm
  rw [V_v2]
  show (shapeCast S9x8x128 (m ((c.tc : Thread nD τ).loc main_arg3) : FVec Ideal S9216 .f32) shapeCasts_S9216_S9x8x128 i : EReal) = Sm m c (1024 * (i 0).val + 128 * (i 1).val + (i 2).val)
  refine (shapeCast_apply _ _ _ (ix1 ⟨1024 * (i 0).val + 128 * (i 1).val + (i 2).val, by omega⟩) ?_).trans (Sn_eq _ ⟨1024 * (i 0).val + 128 * (i 1).val + (i 2).val, by omega⟩).symm
  rw [Shape.rowMajor_val_one, Shape.rowMajor_val_three]
  show 1024 * (i 0).val + 128 * (i 1).val + (i 2).val = ((i 0).val * 8 + (i 1).val) * 128 + (i 2).val
  omega

/-- What the kernel leaves in its result array. -/
def yres (c : Dev nD) : Bf Ideal c M4 := fun (i : S96x9216.Idx) => (Yv (Xm m c) (Wm m c) (Zm m c) (Sm m c) ((i 1).val / 1024) (i 0).val ((i 1).val % 1024) : EReal)
def Gf (c : Dev nD) : (b : Ref sig .tc) → Buf (Elt Ideal) ((c.tc : Thread nD τ).loc b) := Function.update (V m c) main_v3 (yres m c)
theorem Gf_v3 (c : Dev nD) : Gf m c main_v3 = yres m c := Function.update_self ..

theorem PhiDRV0_eq (c : Dev nD) (G : (c : Dev nD) → (b : Ref sig .tc) → Buf (Elt Ideal) ((c.tc : Thread nD τ).loc b)) :
    (Pipeline.ΦDRV osem0 (cfg0.spec) H0 R0 (V m) G c : sProp 𝕄)
      = iprop(iprop((∃ f, (M5.view.loc (c : Thread nD τ) ↦{fullShare} f)) ∗ (∃ f, (M6.view.loc (c : Thread nD τ) ↦{fullShare} f)) ∗ (∃ f, (M7.view.loc (c : Thread nD τ) ↦{fullShare} f)) ∗ (∃ f, (M8.view.loc (c : Thread nD τ) ↦{fullShare} f)) ∗ (∃ f, (M9.view.loc (c : Thread nD τ) ↦{fullShare} f)) ∗ (∃ f, (M10.view.loc (c : Thread nD τ) ↦{fullShare} f)) ∗ (∃ f, (M11.view.loc (c : Thread nD τ) ↦{fullShare} f)))
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0)
          ∗ iprop((M0.view.loc (c : Thread nD τ) ↦{fullShare} V m c main_v0) ∗ (M1.view.loc (c : Thread nD τ) ↦{fullShare} V m c main_arg1) ∗ (M2.view.loc (c : Thread nD τ) ↦{fullShare} V m c main_v1) ∗ (M3.view.loc (c : Thread nD τ) ↦{fullShare} V m c main_v2))
          ∗ (M4.view.loc (c : Thread nD τ) ↦{fullShare} G c main_v3)) := by
  have e : (bigSep R0 (fun b => ((c.tc : Thread nD τ).loc b) ↦{fullShare} G c b) : sProp 𝕄) = (M4.view.loc (c : Thread nD τ) ↦{fullShare} G c main_v3) := by
    rw [BI.bigSep_eq_bigSepL_of_eq [main_v3] (by decide) (by decide)]; rfl
  rw [Pipeline.ΦDRV, scopedRest0_eq, ownSems00_eq, hbmPts0_eq, e]

/-- The proof's data for the call. -/
def datsV (_ : Fin 1) (c : Dev nD) : Dat τ (Elt Ideal) Unit ℕ (Pipeline.UD sig nD τ) ℕ cfg0 c where
  A w := V m c (Pipeline.arrRef (cfg0.spec) w)
  after w t := w.elim0
  Φ s := Pipeline.ΦDRV osem0 (cfg0.spec) H0 R0 (V m) (if s.val = 0 then V m else Gf m) c
  q _ := fullShare
  owed _ := 0

theorem A_eqV (c : Dev nD) (w : Fin cfg0.W) : (datsV m 0 c).A w = V m c (Pipeline.arrRef (cfg0.spec) w) := by
  dsimp only [datsV]
theorem phi0 (c : Dev nD) (t : Fin cfg0.N) : (datsV m 0 c).Φ t.castSucc = Pipeline.ΦDRV osem0 (cfg0.spec) H0 R0 (V m) (V m) c := by
  have h : t.castSucc.val = 0 := by
    have : t.val < 1 := t.isLt
    show t.val = 0
    omega
  dsimp only [datsV]
  rw [if_pos h]
theorem phi1 (c : Dev nD) (t : Fin cfg0.N) : (datsV m 0 c).Φ t.succ = Pipeline.ΦDRV osem0 (cfg0.spec) H0 R0 (V m) (Gf m) c := by
  have h : ¬ t.succ.val = 0 := Nat.succ_ne_zero _
  dsimp only [datsV]
  rw [if_neg h]

def bodyPreV (c : Dev nD) (t : Fin cfg0.N) : sProp 𝕄 :=
  iprop((datsV m 0 c).Φ t.castSucc ∗ (datsV m 0 c).owesAt () t.castSucc ∗ emp)
def bodyPostV (c : Dev nD) (t : Fin cfg0.N) : sProp 𝕄 :=
  iprop((datsV m 0 c).Φ t.succ ∗ (datsV m 0 c).owesAt () t.succ ∗ emp)

/-- What the body ends with. -/
def ENDV (c : Dev nD) : sProp 𝕄 :=
  iprop(∃ f4 f8 f9 f10 f11, PE (AV (Xm m c) (Wm m c) (Zm m c) (Sm m c) (V m c main_v0) (V m c main_arg1) (V m c main_v1) f4 f8) 9
    (Yend (AV (Xm m c) (Wm m c) (Zm m c) (Sm m c) (V m c main_v0) (V m c main_arg1) (V m c main_v1) f4 f8) (Zs c (V m c main_v1) (V m c main_v2)) f9 f10 f11))

theorem pre_runV (c : Dev nD) (t : Fin cfg0.N) :
    bodyPreV m c t ⊢ wp frame (wpE (defs₀ (F := Ideal)) Variants.none c none) Set.univ (bodyAt0 t) (fun _ => ENDV m c) := by
  unfold bodyPreV bodyAt0
  rw [phi0, PhiDRV0_eq]
  unfold Dat.owesAt Pipeline.owesWithin
  rw [show (datsV m 0 c).owed t.castSucc = 0 from rfl]
  iintro ⟨⟨⟨⟨%f5, H5⟩, ⟨%f6, H6⟩, ⟨%f7, H7⟩, ⟨%f8, H8⟩, ⟨%f9, H9⟩, ⟨%f10, H10⟩, ⟨%f11, H11⟩⟩, Hs, ⟨H0, H1, H2, H3⟩, H4⟩, ⟨%W, -, HW⟩, -⟩
  icases Hs with ⟨s0, s1, s2, s3, s4, s5, s6, s7, s8, s9, s10, s11, s12, s13, s14, s15, s16, s17, s18, s19, s20, s21, s22, s23, s24, s25, s26⟩
  iapply (run_kernelV (𝒱 := Variants.none) (bd := none) (f0 := V m c main_v0) (g5 := f5) (f1 := V m c main_arg1) (g6 := f6) (f2 := V m c main_v1) (g7 := f7) (f3 := V m c main_v2) (g8 := f8) (f4 := V m c main_v3) (f9 := f9) (f10 := f10) (f11 := f11)
      (Q := fun _ => ENDV m c) (hx5 m c) (hx6 m c) (hx7 m c) (hx8 m c) ?_)
  · intro f8 f9 f10 f11
    unfold ENDV
    iintro H
    iexists (V m c main_v3), f8, f9, f10, f11
    iexact H
  · unfold PQ S7a S8a wts
    rw [in_x, in_q, in_y, smx_eq, smq_eq, smy_eq, show ssem 0 = (16 : DmaSem sig) from rfl, show ssem 1 = (17 : DmaSem sig) from rfl]
    iframe
    iexists W
    iexact HW

theorem y_eq {c : Dev nD} {f0 f1 f2 f4 f8} {G : ℕ → Bf Ideal c M11} {y : Bf Ideal c M4}
    (h : (∀ p < 9, (AV (Xm m c) (Wm m c) (Zm m c) (Sm m c) f0 f1 f2 f4 f8).good p (G p)) ∧ ∀ p < 9, ∀ i ∈ pc4 c p, y i = F4 (G p) i) : y = Gf m c main_v3 := by
  rw [Gf_v3]
  funext (i : S96x9216.Idx)
  have h1 : (i 1).val < 9216 := (i 1).isLt
  have hp : (i 1).val / 1024 < 9 := by omega
  refine (h.2 _ hp i (Finset.mem_filter.mpr ⟨Finset.mem_univ _, rfl⟩)).trans ?_
  exact h.1 _ hp (q11 i) rfl

theorem end_postV (c : Dev nD) (t : Fin cfg0.N) : ENDV m c ⊢ bodyPostV m c t := by
  unfold bodyPostV
  rw [phi1, PhiDRV0_eq]
  unfold Dat.owesAt Pipeline.owesWithin
  rw [show (datsV m 0 c).owed t.succ = 0 from rfl]
  unfold ENDV PE Yend Zs wts
  dsimp only [AV]
  rw [show ssem 0 = (16 : DmaSem sig) from rfl, show ssem 1 = (17 : DmaSem sig) from rfl]
  iintro ⟨%f4, %f8, %f9, %f10, %f11, Hy, ⟨%W, HW⟩, H5, H6, H7, H8, H9, H10, H11, Hx, Hq, H2, s16, H3, s17⟩
  ihave Hy' := out_y $$ Hy
  icases Hy' with ⟨%G, %y, %g, %hy, H4, H11', Hsy⟩
  ihave Hx' := (ent_eq (out_x (c := c))) $$ Hx
  ihave Hq' := (ent_eq (out_q (c := c))) $$ Hq
  icases Hx' with ⟨H0, Hsx⟩
  icases Hq' with ⟨H1, Hsq⟩
  ihave Hsx := (ent_eq (smx_eq c)) $$ Hsx
  ihave Hsq := (ent_eq (smq_eq c)) $$ Hsq
  ihave Hsy := (ent_eq (smy_eq c)) $$ Hsy
  ihave H5 := (ent_eq (congrArg (fun S => (M5.view.loc (c : Thread nD τ) ↦[S]{fullShare} F5 (V m c main_v0) : sProp 𝕄)) (D5_four (c := c)))) $$ H5
  ihave H6 := (ent_eq (congrArg (fun S => (M6.view.loc (c : Thread nD τ) ↦[S]{fullShare} F6 (V m c main_arg1) : sProp 𝕄)) (D6_twelve (c := c)))) $$ H6
  icases Hsx with ⟨s0, s1, s2, s3⟩
  icases Hsq with ⟨s4, s5, s6, s7, s8, s9, s10, s11, s12, s13, s14, s15⟩
  icases Hsy with ⟨s18, s19, s20, s21, s22, s23, s24, s25, s26⟩
  isplitr [HW]
  · isplitl [H5 H6 H7 H8 H9 H10 H11']
    · isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11'
    isplitl [s0 s1 s2 s3 s4 s5 s6 s7 s8 s9 s10 s11 s12 s13 s14 s15 s16 s17 s18 s19 s20 s21 s22 s23 s24 s25 s26]
    · iframe
    isplitl [H0 H1 H2 H3]
    · iframe
    rw [← y_eq (f0 := V m c main_v0) (f1 := V m c main_arg1) (f2 := V m c main_v1) (f4 := f4) (f8 := f8) m hy]
    iexact H4
  · isplitl [HW]
    · iexists W; isplitr; · ipureintro; exact fun _ _ => Or.inl trivial
      iexact HW
    iempintro

theorem sound_bodyV (c : Dev nD) (t : Fin cfg0.N) :
    bodyPreV m c t ⊢ wp frame (wpE (defs₀ (F := Ideal)) Variants.none c none) Set.univ (bodyAt0 t) (fun _ => bodyPostV m c t) :=
  (pre_runV m c t).trans (wp_mono frame _ _ fun _ => end_postV m c t)

theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

set_option backward.isDefEq.respectTransparency.types false in
theorem run_mainV : θ_run defs (onTc (τ := τ) (main (F := Ideal))) (s₀ m ρ)
    (fun r => ∀ c : Dev nD, ∀ b ∈ Pipeline.restRefs sig (cfg0.spec), r.2.mem ((c.tc : Thread nD τ).loc b)
        = StableHlo.after ([hostOps1 (F := Ideal)].flatten) (Pipeline.withArrays (cfg0.spec) c (Pipeline.withR (V0 m c) R0 c (Gf m c)) fun w => (datsV m 0 c).arrAt w cfg0.N) (Proc.devRef .tc b)) :=
  Pipeline.θ_run_frame_dmaR_aroundV (Q' := _) (hQ' := fun _ h c => (h.1 c).2) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := Gf m)
    (hmain := hmainU m Variants.none) (hA := A_eqV m)
    (hin := fun _ => .rfl) (hout := fun _ => .rfl)

theorem keep_arg (c : Dev nD) (b : Ref sig .tc) (A) (h4 : b ≠ main_v4) (h3 : b ∉ R0) :
    StableHlo.after ([hostOps1 (F := Ideal)].flatten) (Pipeline.withArrays (cfg0.spec) c (Pipeline.withR (V0 m c) R0 c (Gf m c)) A) (Proc.devRef .tc b) = V m c b := by
  refine (StableHlo.reshape_result_ne _ _ _ _ _ _ _ h4).trans ?_
  rw [Pipeline.withArrays_of_ne _ _ _ _ b (fun w => w.elim0), Pipeline.withR_of_not_mem _ _ _ _ b h3]

theorem res_eq (c : Dev nD) (A) :
    StableHlo.after ([hostOps1 (F := Ideal)].flatten) (Pipeline.withArrays (cfg0.spec) c (Pipeline.withR (V0 m c) R0 c (Gf m c)) A) (Proc.devRef .tc main_v4)
      = shapeCast S96x1x9216 (yres m c : FVec Ideal S96x9216 .bf16) shapeCasts_S96x9216_S96x1x9216 := by
  refine (h1_v4 _).trans ?_
  rw [Pipeline.withArrays_of_ne _ _ _ _ main_v3 (fun w => w.elim0), Pipeline.withR_of_mem _ _ _ _ main_v3 (by decide), Gf_v3]

/-- The run: the result is the product formula, the argument arrays end unchanged. -/
theorem value_claim : θ_run defs (onTc (τ := τ) (main (F := Ideal))) ⟨m, fun _ => 0, ρ⟩ (fun r => ∀ c : Dev nD,
      r.2.mem ((c.tc : Thread nD τ).loc main_v4) = shapeCast S96x1x9216 (yres m c : FVec Ideal S96x9216 .bf16) shapeCasts_S96x9216_S96x1x9216
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v4 (Pipeline.mem_restRefs_of main_v4 (by decide) (by decide))).trans (res_eq m c _),
    ((h c main_arg0 (Pipeline.mem_restRefs_of main_arg0 (by decide) (by decide))).trans (keep_arg m c main_arg0 _ (by decide) (by decide))).trans (V_main_arg0 m c),
    ((h c main_arg1 (Pipeline.mem_restRefs_of main_arg1 (by decide) (by decide))).trans (keep_arg m c main_arg1 _ (by decide) (by decide))).trans (V_main_arg1 m c),
    ((h c main_arg2 (Pipeline.mem_restRefs_of main_arg2 (by decide) (by decide))).trans (keep_arg m c main_arg2 _ (by decide) (by decide))).trans (V_main_arg2 m c),
    ((h c main_arg3 (Pipeline.mem_restRefs_of main_arg3 (by decide) (by decide))).trans (keep_arg m c main_arg3 _ (by decide) (by decide))).trans (V_main_arg3 m c)⟩) (run_mainV m ρ)

/-- The same, as the reference's result. -/
theorem res_ref (c : Dev nD) : shapeCast S96x1x9216 (yres m c : FVec Ideal S96x9216 .bf16) shapeCasts_S96x9216_S96x1x9216
    = Cert.Ref.refVal (m ((c.tc : Thread nD τ).loc main_arg0)) (m ((c.tc : Thread nD τ).loc main_arg1)) (m ((c.tc : Thread nD τ).loc main_arg2)) (m ((c.tc : Thread nD τ).loc main_arg3)) := by
  funext (i : S96x1x9216.Idx)
  have h1 : (i 1).val < 1 := (i 1).isLt
  refine Eq.trans ?_ (Cert.Ref.ref_val _ _ _ _ i).symm
  refine (shapeCast_apply _ _ _ (ix2 (i 0) (i 2)) ?_).trans rfl
  rw [Shape.rowMajor_val_three, Shape.rowMajor_val_two]
  show (i 0).val * 9216 + (i 2).val = ((i 0).val * 1 + (i 1).val) * 9216 + (i 2).val
  omega

end Cert.Kernel.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.Kernel.FrameV
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, by
  refine ⟨fun m g _ => Cert.Kernel.Hand.frame_claim m g, fun m g _ => Cert.Kernel.Hand.frame_claim (F := Ideal) m g, fun m g _ => ?_, trivial, fun m g m' g' _ hm => ?_⟩
  · exact (θ_run Cert.ReferenceIdeal.defs _ _).mono (fun r h => ⟨fun c => (h c).2, sem_eq_zero_of_no_sems (by decide) r.2⟩)
      (Cert.ReferenceIdeal.Value.run (F := Ideal) m g)
  · refine ⟨_, Cert.Kernel.Hand.value_claim m g, ?_⟩
    refine (θ_run Cert.ReferenceIdeal.defs _ _).mono (fun r h c => ⟨(h c).1.trans ?_, (h c).2⟩) (Cert.ReferenceIdeal.Value.run (F := Ideal) m' g')
    obtain ⟨h0, h1, h2, h3⟩ := hm c
    rw [h0, h1, h2, h3]
    exact (Cert.Kernel.Hand.res_ref m c).symm⟩

end Cert.Proof

end
